-- ==== Defs.lean ====
def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Reference1Ideal (m : (ℓ : Loc Cert.Reference1Ideal.nD Cert.Reference1Ideal.τ Cert.Reference1Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_sb [hPre_finite_sb : Cert.Pre_finite_sb.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_sb.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_sb [hPre_finite_sb : Cert.Pre_finite_sb.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_sb.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_ffn [hPre_finite_ffn : Cert.Pre_finite_ffn.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_ffn.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_ffn [hPre_finite_ffn : Cert.Pre_finite_ffn.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_ffn.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_xa [hPre_finite_xa : Cert.Pre_finite_xa.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_xa.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_xa [hPre_finite_xa : Cert.Pre_finite_xa.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_xa.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_sgu [hPre_finite_sgu : Cert.Pre_finite_sgu.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_sgu.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_sgu [hPre_finite_sgu : Cert.Pre_finite_sgu.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_sgu.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_qk [hPre_finite_qk : Cert.Pre_finite_qk.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_qk.fn (F := Ideal) (m ((c.tc : Thread Cert.Kernel12Ideal.nD Cert.Kernel12Ideal.τ).loc Cert.Kernel12Ideal.main_arg0))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_qk [hPre_finite_qk : Cert.Pre_finite_qk.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_qk.fn (F := Ideal) (m ((c.tc : Thread Cert.Reference12Ideal.nD Cert.Reference12Ideal.τ).loc Cert.Reference12Ideal.main_arg0))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_finite_sb [hKernel2Ideal : Cert.Kernel2Ideal.Facts] [hPre_finite_sb : Cert.Pre_finite_sb.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_sb m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_finite_sb [hReference2Ideal : Cert.Reference2Ideal.Facts] [hPre_finite_sb : Cert.Pre_finite_sb.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_sb m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite_ffn [hKernel7Ideal : Cert.Kernel7Ideal.Facts] [hPre_finite_ffn : Cert.Pre_finite_ffn.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_ffn m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite_ffn [hReference7Ideal : Cert.Reference7Ideal.Facts] [hPre_finite_ffn : Cert.Pre_finite_ffn.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_ffn m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite_xa [hKernel6Ideal : Cert.Kernel6Ideal.Facts] [hPre_finite_xa : Cert.Pre_finite_xa.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_xa m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite_xa [hReference6Ideal : Cert.Reference6Ideal.Facts] [hPre_finite_xa : Cert.Pre_finite_xa.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_xa m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite_sgu [hKernel3Ideal : Cert.Kernel3Ideal.Facts] [hPre_finite_sgu : Cert.Pre_finite_sgu.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_sgu m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite_sgu [hReference3Ideal : Cert.Reference3Ideal.Facts] [hPre_finite_sgu : Cert.Pre_finite_sgu.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_sgu m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ r.2.sem = fun _ => 0)

def quiescent_Kernel12Ideal_pre_finite_qk [hKernel12Ideal : Cert.Kernel12Ideal.Facts] [hPre_finite_qk : Cert.Pre_finite_qk.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_qk m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0))
      ∧ r.2.sem = fun _ => 0)

def quiescent_Reference12Ideal_pre_finite_qk [hReference12Ideal : Cert.Reference12Ideal.Facts] [hPre_finite_qk : Cert.Pre_finite_qk.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_qk m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7)
      ∧ r.2.mem ((c.tc : Thread Cert.Kernel22.nD Cert.Kernel22.τ).loc Cert.Kernel22.main_arg8) = m ((c.tc : Thread Cert.Kernel22.nD Cert.Kernel22.τ).loc Cert.Kernel22.main_arg8))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
      ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7)
      ∧ r.2.mem ((c.tc : Thread Cert.Reference22Ideal.nD Cert.Reference22Ideal.τ).loc Cert.Reference22Ideal.main_arg8) = m ((c.tc : Thread Cert.Reference22Ideal.nD Cert.Reference22Ideal.τ).loc Cert.Reference22Ideal.main_arg8))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6)
      ∧ r.2.mem ((c.tc : Thread Cert.Kernel23.nD Cert.Kernel23.τ).loc Cert.Kernel23.main_arg7) = m ((c.tc : Thread Cert.Kernel23.nD Cert.Kernel23.τ).loc Cert.Kernel23.main_arg7)
      ∧ r.2.mem ((c.tc : Thread Cert.Kernel23.nD Cert.Kernel23.τ).loc Cert.Kernel23.main_arg8) = m ((c.tc : Thread Cert.Kernel23.nD Cert.Kernel23.τ).loc Cert.Kernel23.main_arg8))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
      ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7)
      ∧ r.2.mem ((c.tc : Thread Cert.Reference23Ideal.nD Cert.Reference23Ideal.τ).loc Cert.Reference23Ideal.main_arg8) = m ((c.tc : Thread Cert.Reference23Ideal.nD Cert.Reference23Ideal.τ).loc Cert.Reference23Ideal.main_arg8))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6)
      ∧ r.2.mem ((c.tc : Thread Cert.Kernel24.nD Cert.Kernel24.τ).loc Cert.Kernel24.main_arg7) = m ((c.tc : Thread Cert.Kernel24.nD Cert.Kernel24.τ).loc Cert.Kernel24.main_arg7)
      ∧ r.2.mem ((c.tc : Thread Cert.Kernel24.nD Cert.Kernel24.τ).loc Cert.Kernel24.main_arg8) = m ((c.tc : Thread Cert.Kernel24.nD Cert.Kernel24.τ).loc Cert.Kernel24.main_arg8)
      ∧ r.2.mem ((c.tc : Thread Cert.Kernel24.nD Cert.Kernel24.τ).loc Cert.Kernel24.main_arg9) = m ((c.tc : Thread Cert.Kernel24.nD Cert.Kernel24.τ).loc Cert.Kernel24.main_arg9))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
      ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
      ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
      ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7)
      ∧ r.2.mem ((c.tc : Thread Cert.Reference24Ideal.nD Cert.Reference24Ideal.τ).loc Cert.Reference24Ideal.main_arg8) = m ((c.tc : Thread Cert.Reference24Ideal.nD Cert.Reference24Ideal.τ).loc Cert.Reference24Ideal.main_arg8)
      ∧ r.2.mem ((c.tc : Thread Cert.Reference24Ideal.nD Cert.Reference24Ideal.τ).loc Cert.Reference24Ideal.main_arg9) = m ((c.tc : Thread Cert.Reference24Ideal.nD Cert.Reference24Ideal.τ).loc Cert.Reference24Ideal.main_arg9))
      ∧ r.2.sem = fun _ => 0)

def preserves_Kernel1_Kernel1Ideal : Prop :=
  True

def algebraic_Kernel1Ideal_Reference1Ideal [hKernel1Ideal : Cert.Kernel1Ideal.Facts] [hReference1Ideal : Cert.Reference1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)) →
    ∃ (v0 : (c : Dev Cert.Kernel1Ideal.nD) → Buf (Elt Ideal) ((c.tc : Thread Cert.Kernel1Ideal.nD Cert.Kernel1Ideal.τ).loc Cert.Kernel1Ideal.main_v2_0)) (v1 : (c : Dev Cert.Kernel1Ideal.nD) → Buf (Elt Ideal) ((c.tc : Thread Cert.Kernel1Ideal.nD Cert.Kernel1Ideal.τ).loc Cert.Kernel1Ideal.main_v2_1)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v2_0) = v0 c
          ∧ r.2.mem ((c.tc : Thread Cert.Kernel1Ideal.nD Cert.Kernel1Ideal.τ).loc Cert.Kernel1Ideal.main_v2_1) = v1 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v35) = v0 c
          ∧ r.2.mem ((c.tc : Thread Cert.Reference1Ideal.nD Cert.Reference1Ideal.τ).loc Cert.Reference1Ideal.main_v36) = v1 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2))

def preserves_Kernel2_Kernel2Ideal : Prop :=
  True

def algebraic_Kernel2Ideal_Reference2Ideal_pre_finite_sb [hKernel2Ideal : Cert.Kernel2Ideal.Facts] [hReference2Ideal : Cert.Reference2Ideal.Facts] [hPre_finite_sb : Cert.Pre_finite_sb.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_sb m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v38_0)) (v1 : (c : Dev Cert.Kernel2Ideal.nD) → Buf (Elt Ideal) ((c.tc : Thread Cert.Kernel2Ideal.nD Cert.Kernel2Ideal.τ).loc Cert.Kernel2Ideal.main_v38_1)) (v2 : (c : Dev Cert.Kernel2Ideal.nD) → Buf (Elt Ideal) ((c.tc : Thread Cert.Kernel2Ideal.nD Cert.Kernel2Ideal.τ).loc Cert.Kernel2Ideal.main_v38_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v38_0) = v0 c
          ∧ r.2.mem ((c.tc : Thread Cert.Kernel2Ideal.nD Cert.Kernel2Ideal.τ).loc Cert.Kernel2Ideal.main_v38_1) = v1 c
          ∧ r.2.mem ((c.tc : Thread Cert.Kernel2Ideal.nD Cert.Kernel2Ideal.τ).loc Cert.Kernel2Ideal.main_v38_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_v58) = v1 c
          ∧ r.2.mem ((c.tc : Thread Cert.Reference2Ideal.nD Cert.Reference2Ideal.τ).loc Cert.Reference2Ideal.main_v59) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v50) = v0 c
          ∧ r.2.mem ((c.tc : Thread Cert.Reference8Ideal.nD Cert.Reference8Ideal.τ).loc Cert.Reference8Ideal.main_v51) = v1 c
          ∧ r.2.mem ((c.tc : Thread Cert.Reference8Ideal.nD Cert.Reference8Ideal.τ).loc Cert.Reference8Ideal.main_v52) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v40) = v0 c
          ∧ r.2.mem ((c.tc : Thread Cert.Reference9Ideal.nD Cert.Reference9Ideal.τ).loc Cert.Reference9Ideal.main_v41) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v41) = v0 c
          ∧ r.2.mem ((c.tc : Thread Cert.Reference10Ideal.nD Cert.Reference10Ideal.τ).loc Cert.Reference10Ideal.main_v42) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v40) = v0 c
          ∧ r.2.mem ((c.tc : Thread Cert.Reference11Ideal.nD Cert.Reference11Ideal.τ).loc Cert.Reference11Ideal.main_v41) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel7_Kernel7Ideal : Prop :=
  True

def algebraic_Kernel7Ideal_Reference7Ideal_pre_finite_ffn [hKernel7Ideal : Cert.Kernel7Ideal.Facts] [hReference7Ideal : Cert.Reference7Ideal.Facts] [hPre_finite_ffn : Cert.Pre_finite_ffn.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_ffn m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v7_0)) (v1 : (c : Dev Cert.Kernel7Ideal.nD) → Buf (Elt Ideal) ((c.tc : Thread Cert.Kernel7Ideal.nD Cert.Kernel7Ideal.τ).loc Cert.Kernel7Ideal.main_v7_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7_0) = v0 c
          ∧ r.2.mem ((c.tc : Thread Cert.Kernel7Ideal.nD Cert.Kernel7Ideal.τ).loc Cert.Kernel7Ideal.main_v7_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_v14) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)) (v4 : (c : Dev Cert.Kernel5Ideal.nD) → Buf (Elt Ideal) ((c.tc : Thread Cert.Kernel5Ideal.nD Cert.Kernel5Ideal.τ).loc Cert.Kernel5Ideal.main_v0_4)) (v5 : (c : Dev Cert.Kernel5Ideal.nD) → Buf (Elt Ideal) ((c.tc : Thread Cert.Kernel5Ideal.nD Cert.Kernel5Ideal.τ).loc Cert.Kernel5Ideal.main_v0_5)) (v6 : (c : Dev Cert.Kernel5Ideal.nD) → Buf (Elt Ideal) ((c.tc : Thread Cert.Kernel5Ideal.nD Cert.Kernel5Ideal.τ).loc Cert.Kernel5Ideal.main_v0_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_v0_4) = v4 c
          ∧ r.2.mem ((c.tc : Thread Cert.Kernel5Ideal.nD Cert.Kernel5Ideal.τ).loc Cert.Kernel5Ideal.main_v0_5) = v5 c
          ∧ r.2.mem ((c.tc : Thread Cert.Kernel5Ideal.nD Cert.Kernel5Ideal.τ).loc Cert.Kernel5Ideal.main_v0_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_v34) = v1 c
          ∧ r.2.mem ((c.tc : Thread Cert.Reference5Ideal.nD Cert.Reference5Ideal.τ).loc Cert.Reference5Ideal.main_v36) = v2 c
          ∧ r.2.mem ((c.tc : Thread Cert.Reference5Ideal.nD Cert.Reference5Ideal.τ).loc Cert.Reference5Ideal.main_v38) = v3 c
          ∧ r.2.mem ((c.tc : Thread Cert.Reference5Ideal.nD Cert.Reference5Ideal.τ).loc Cert.Reference5Ideal.main_v41) = v4 c
          ∧ r.2.mem ((c.tc : Thread Cert.Reference5Ideal.nD Cert.Reference5Ideal.τ).loc Cert.Reference5Ideal.main_v44) = v5 c
          ∧ r.2.mem ((c.tc : Thread Cert.Reference5Ideal.nD Cert.Reference5Ideal.τ).loc Cert.Reference5Ideal.main_v47) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v65) = v0 c
          ∧ r.2.mem ((c.tc : Thread Cert.Reference4Ideal.nD Cert.Reference4Ideal.τ).loc Cert.Reference4Ideal.main_v66) = v1 c
          ∧ r.2.mem ((c.tc : Thread Cert.Reference4Ideal.nD Cert.Reference4Ideal.τ).loc Cert.Reference4Ideal.main_v67) = v2 c
          ∧ r.2.mem ((c.tc : Thread Cert.Reference4Ideal.nD Cert.Reference4Ideal.τ).loc Cert.Reference4Ideal.main_v60) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel6_Kernel6Ideal : Prop :=
  True

def algebraic_Kernel6Ideal_Reference6Ideal_pre_finite_xa [hKernel6Ideal : Cert.Kernel6Ideal.Facts] [hReference6Ideal : Cert.Reference6Ideal.Facts] [hPre_finite_xa : Cert.Pre_finite_xa.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_xa m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v67) = v0 c
          ∧ r.2.mem ((c.tc : Thread Cert.Reference6Ideal.nD Cert.Reference6Ideal.τ).loc Cert.Reference6Ideal.main_v65) = v1 c
          ∧ r.2.mem ((c.tc : Thread Cert.Reference6Ideal.nD Cert.Reference6Ideal.τ).loc Cert.Reference6Ideal.main_v64) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel3_Kernel3Ideal : Prop :=
  IdealRules.named_const.Statement Cert.Kernel3Ideal.κ "inv_sqrt2" .f32 0x3F3504F3#32 (((Real.sqrt 2)⁻¹ : ℝ) : EReal)
  ∧ IdealRules.named_const.Statement Cert.Kernel3Ideal.κ "inv_sqrt2pi" .f32 0x3ECC422A#32 (((9465531 / 16777216) * (Real.sqrt 2)⁻¹ : ℝ) : EReal)

def algebraic_Kernel3Ideal_Reference3Ideal_pre_finite_sgu [hKernel3Ideal : Cert.Kernel3Ideal.Facts] [hReference3Ideal : Cert.Reference3Ideal.Facts] [hPre_finite_sgu : Cert.Pre_finite_sgu.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_sgu m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)) (v3 : (c : Dev Cert.Kernel3Ideal.nD) → Buf (Elt Ideal) ((c.tc : Thread Cert.Kernel3Ideal.nD Cert.Kernel3Ideal.τ).loc Cert.Kernel3Ideal.main_v4_3)) (v4 : (c : Dev Cert.Kernel3Ideal.nD) → Buf (Elt Ideal) ((c.tc : Thread Cert.Kernel3Ideal.nD Cert.Kernel3Ideal.τ).loc Cert.Kernel3Ideal.main_v4_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_v4_3) = v3 c
          ∧ r.2.mem ((c.tc : Thread Cert.Kernel3Ideal.nD Cert.Kernel3Ideal.τ).loc Cert.Kernel3Ideal.main_v4_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v116) = v0 c
          ∧ r.2.mem ((c.tc : Thread Cert.Reference3Ideal.nD Cert.Reference3Ideal.τ).loc Cert.Reference3Ideal.main_v117) = v1 c
          ∧ r.2.mem ((c.tc : Thread Cert.Reference3Ideal.nD Cert.Reference3Ideal.τ).loc Cert.Reference3Ideal.main_v118) = v2 c
          ∧ r.2.mem ((c.tc : Thread Cert.Reference3Ideal.nD Cert.Reference3Ideal.τ).loc Cert.Reference3Ideal.main_v69) = v3 c
          ∧ r.2.mem ((c.tc : Thread Cert.Reference3Ideal.nD Cert.Reference3Ideal.τ).loc Cert.Reference3Ideal.main_v119) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel12_Kernel12Ideal : Prop :=
  True

def algebraic_Kernel12Ideal_Reference12Ideal_pre_finite_qk [hKernel12Ideal : Cert.Kernel12Ideal.Facts] [hReference12Ideal : Cert.Reference12Ideal.Facts] [hPre_finite_qk : Cert.Pre_finite_qk.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_qk m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v62) = v0 c
          ∧ r.2.mem ((c.tc : Thread Cert.Reference12Ideal.nD Cert.Reference12Ideal.τ).loc Cert.Reference12Ideal.main_v64) = v1 c
          ∧ r.2.mem ((c.tc : Thread Cert.Reference12Ideal.nD Cert.Reference12Ideal.τ).loc Cert.Reference12Ideal.main_v66) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel16_Kernel16Ideal : Prop :=
  IdealRules.named_const.Statement Cert.Kernel16Ideal.κ "inv_sqrt2" .f32 0x3F3504F3#32 (((Real.sqrt 2)⁻¹ : ℝ) : EReal)

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v52) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v27) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v20) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2_0)) (v1 : (c : Dev Cert.Kernel13Ideal.nD) → Buf (Elt Ideal) ((c.tc : Thread Cert.Kernel13Ideal.nD Cert.Kernel13Ideal.τ).loc Cert.Kernel13Ideal.main_v2_1)) (v2 : (c : Dev Cert.Kernel13Ideal.nD) → Buf (Elt Ideal) ((c.tc : Thread Cert.Kernel13Ideal.nD Cert.Kernel13Ideal.τ).loc Cert.Kernel13Ideal.main_v2_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_0) = v0 c
          ∧ r.2.mem ((c.tc : Thread Cert.Kernel13Ideal.nD Cert.Kernel13Ideal.τ).loc Cert.Kernel13Ideal.main_v2_1) = v1 c
          ∧ r.2.mem ((c.tc : Thread Cert.Kernel13Ideal.nD Cert.Kernel13Ideal.τ).loc Cert.Kernel13Ideal.main_v2_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_v6) = v1 c
          ∧ r.2.mem ((c.tc : Thread Cert.Reference13Ideal.nD Cert.Reference13Ideal.τ).loc Cert.Reference13Ideal.main_v9) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v13) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v7) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v4_0)) (v1 : (c : Dev Cert.Kernel21Ideal.nD) → Buf (Elt Ideal) ((c.tc : Thread Cert.Kernel21Ideal.nD Cert.Kernel21Ideal.τ).loc Cert.Kernel21Ideal.main_v4_1)) (v2 : (c : Dev Cert.Kernel21Ideal.nD) → Buf (Elt Ideal) ((c.tc : Thread Cert.Kernel21Ideal.nD Cert.Kernel21Ideal.τ).loc Cert.Kernel21Ideal.main_v4_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4_0) = v0 c
          ∧ r.2.mem ((c.tc : Thread Cert.Kernel21Ideal.nD Cert.Kernel21Ideal.τ).loc Cert.Kernel21Ideal.main_v4_1) = v1 c
          ∧ r.2.mem ((c.tc : Thread Cert.Kernel21Ideal.nD Cert.Kernel21Ideal.τ).loc Cert.Kernel21Ideal.main_v4_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v24) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v26) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)
      ∧ m' ((c.tc : Thread Cert.Reference22Ideal.nD Cert.Reference22Ideal.τ).loc Cert.Reference22Ideal.main_arg8) = m ((c.tc : Thread Cert.Kernel22Ideal.nD Cert.Kernel22Ideal.τ).loc Cert.Kernel22Ideal.main_arg8)) →
    ∃ (v0 : (c : Dev Cert.Kernel22Ideal.nD) → Buf (Elt Ideal) ((c.tc : Thread Cert.Kernel22Ideal.nD Cert.Kernel22Ideal.τ).loc Cert.Kernel22Ideal.main_v28)) (v1 : (c : Dev Cert.Kernel22Ideal.nD) → Buf (Elt Ideal) ((c.tc : Thread Cert.Kernel22Ideal.nD Cert.Kernel22Ideal.τ).loc Cert.Kernel22Ideal.main_v30)) (v2 : (c : Dev Cert.Kernel22Ideal.nD) → Buf (Elt Ideal) ((c.tc : Thread Cert.Kernel22Ideal.nD Cert.Kernel22Ideal.τ).loc Cert.Kernel22Ideal.main_v32)) (v3 : (c : Dev Cert.Kernel22Ideal.nD) → Buf (Elt Ideal) ((c.tc : Thread Cert.Kernel22Ideal.nD Cert.Kernel22Ideal.τ).loc Cert.Kernel22Ideal.main_v34)) (v4 : (c : Dev Cert.Kernel22Ideal.nD) → Buf (Elt Ideal) ((c.tc : Thread Cert.Kernel22Ideal.nD Cert.Kernel22Ideal.τ).loc Cert.Kernel22Ideal.main_v36)) (v5 : (c : Dev Cert.Kernel22Ideal.nD) → Buf (Elt Ideal) ((c.tc : Thread Cert.Kernel22Ideal.nD Cert.Kernel22Ideal.τ).loc Cert.Kernel22Ideal.main_v38)) (v6 : (c : Dev Cert.Kernel22Ideal.nD) → Buf (Elt Ideal) ((c.tc : Thread Cert.Kernel22Ideal.nD Cert.Kernel22Ideal.τ).loc Cert.Kernel22Ideal.main_v40)) (v7 : (c : Dev Cert.Kernel22Ideal.nD) → Buf (Elt Ideal) ((c.tc : Thread Cert.Kernel22Ideal.nD Cert.Kernel22Ideal.τ).loc Cert.Kernel22Ideal.main_v42)) (v8 : (c : Dev Cert.Kernel22Ideal.nD) → Buf (Elt Ideal) ((c.tc : Thread Cert.Kernel22Ideal.nD Cert.Kernel22Ideal.τ).loc Cert.Kernel22Ideal.main_v44)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v28) = v0 c
          ∧ r.2.mem ((c.tc : Thread Cert.Kernel22Ideal.nD Cert.Kernel22Ideal.τ).loc Cert.Kernel22Ideal.main_v30) = v1 c
          ∧ r.2.mem ((c.tc : Thread Cert.Kernel22Ideal.nD Cert.Kernel22Ideal.τ).loc Cert.Kernel22Ideal.main_v32) = v2 c
          ∧ r.2.mem ((c.tc : Thread Cert.Kernel22Ideal.nD Cert.Kernel22Ideal.τ).loc Cert.Kernel22Ideal.main_v34) = v3 c
          ∧ r.2.mem ((c.tc : Thread Cert.Kernel22Ideal.nD Cert.Kernel22Ideal.τ).loc Cert.Kernel22Ideal.main_v36) = v4 c
          ∧ r.2.mem ((c.tc : Thread Cert.Kernel22Ideal.nD Cert.Kernel22Ideal.τ).loc Cert.Kernel22Ideal.main_v38) = v5 c
          ∧ r.2.mem ((c.tc : Thread Cert.Kernel22Ideal.nD Cert.Kernel22Ideal.τ).loc Cert.Kernel22Ideal.main_v40) = v6 c
          ∧ r.2.mem ((c.tc : Thread Cert.Kernel22Ideal.nD Cert.Kernel22Ideal.τ).loc Cert.Kernel22Ideal.main_v42) = v7 c
          ∧ r.2.mem ((c.tc : Thread Cert.Kernel22Ideal.nD Cert.Kernel22Ideal.τ).loc Cert.Kernel22Ideal.main_v44) = v8 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
          ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_v3) = v1 c
          ∧ r.2.mem ((c.tc : Thread Cert.Reference22Ideal.nD Cert.Reference22Ideal.τ).loc Cert.Reference22Ideal.main_v4) = v2 c
          ∧ r.2.mem ((c.tc : Thread Cert.Reference22Ideal.nD Cert.Reference22Ideal.τ).loc Cert.Reference22Ideal.main_v5) = v3 c
          ∧ r.2.mem ((c.tc : Thread Cert.Reference22Ideal.nD Cert.Reference22Ideal.τ).loc Cert.Reference22Ideal.main_v6) = v4 c
          ∧ r.2.mem ((c.tc : Thread Cert.Reference22Ideal.nD Cert.Reference22Ideal.τ).loc Cert.Reference22Ideal.main_v7) = v5 c
          ∧ r.2.mem ((c.tc : Thread Cert.Reference22Ideal.nD Cert.Reference22Ideal.τ).loc Cert.Reference22Ideal.main_v8) = v6 c
          ∧ r.2.mem ((c.tc : Thread Cert.Reference22Ideal.nD Cert.Reference22Ideal.τ).loc Cert.Reference22Ideal.main_v9) = v7 c
          ∧ r.2.mem ((c.tc : Thread Cert.Reference22Ideal.nD Cert.Reference22Ideal.τ).loc Cert.Reference22Ideal.main_v10) = v8 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7)
          ∧ r.2.mem ((c.tc : Thread Cert.Reference22Ideal.nD Cert.Reference22Ideal.τ).loc Cert.Reference22Ideal.main_arg8) = m' ((c.tc : Thread Cert.Reference22Ideal.nD Cert.Reference22Ideal.τ).loc Cert.Reference22Ideal.main_arg8))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)
      ∧ m' ((c.tc : Thread Cert.Reference23Ideal.nD Cert.Reference23Ideal.τ).loc Cert.Reference23Ideal.main_arg7) = m ((c.tc : Thread Cert.Kernel23Ideal.nD Cert.Kernel23Ideal.τ).loc Cert.Kernel23Ideal.main_arg7)
      ∧ m' ((c.tc : Thread Cert.Reference23Ideal.nD Cert.Reference23Ideal.τ).loc Cert.Reference23Ideal.main_arg8) = m ((c.tc : Thread Cert.Kernel23Ideal.nD Cert.Kernel23Ideal.τ).loc Cert.Kernel23Ideal.main_arg8)) →
    ∃ (v0 : (c : Dev Cert.Kernel23Ideal.nD) → Buf (Elt Ideal) ((c.tc : Thread Cert.Kernel23Ideal.nD Cert.Kernel23Ideal.τ).loc Cert.Kernel23Ideal.main_v14)) (v1 : (c : Dev Cert.Kernel23Ideal.nD) → Buf (Elt Ideal) ((c.tc : Thread Cert.Kernel23Ideal.nD Cert.Kernel23Ideal.τ).loc Cert.Kernel23Ideal.main_v15)) (v2 : (c : Dev Cert.Kernel23Ideal.nD) → Buf (Elt Ideal) ((c.tc : Thread Cert.Kernel23Ideal.nD Cert.Kernel23Ideal.τ).loc Cert.Kernel23Ideal.main_v16)) (v3 : (c : Dev Cert.Kernel23Ideal.nD) → Buf (Elt Ideal) ((c.tc : Thread Cert.Kernel23Ideal.nD Cert.Kernel23Ideal.τ).loc Cert.Kernel23Ideal.main_v17)) (v4 : (c : Dev Cert.Kernel23Ideal.nD) → Buf (Elt Ideal) ((c.tc : Thread Cert.Kernel23Ideal.nD Cert.Kernel23Ideal.τ).loc Cert.Kernel23Ideal.main_v18)) (v5 : (c : Dev Cert.Kernel23Ideal.nD) → Buf (Elt Ideal) ((c.tc : Thread Cert.Kernel23Ideal.nD Cert.Kernel23Ideal.τ).loc Cert.Kernel23Ideal.main_v19)) (v6 : (c : Dev Cert.Kernel23Ideal.nD) → Buf (Elt Ideal) ((c.tc : Thread Cert.Kernel23Ideal.nD Cert.Kernel23Ideal.τ).loc Cert.Kernel23Ideal.main_v23)) (v7 : (c : Dev Cert.Kernel23Ideal.nD) → Buf (Elt Ideal) ((c.tc : Thread Cert.Kernel23Ideal.nD Cert.Kernel23Ideal.τ).loc Cert.Kernel23Ideal.main_v24)) (v8 : (c : Dev Cert.Kernel23Ideal.nD) → Buf (Elt Ideal) ((c.tc : Thread Cert.Kernel23Ideal.nD Cert.Kernel23Ideal.τ).loc Cert.Kernel23Ideal.main_v22)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v14) = v0 c
          ∧ r.2.mem ((c.tc : Thread Cert.Kernel23Ideal.nD Cert.Kernel23Ideal.τ).loc Cert.Kernel23Ideal.main_v15) = v1 c
          ∧ r.2.mem ((c.tc : Thread Cert.Kernel23Ideal.nD Cert.Kernel23Ideal.τ).loc Cert.Kernel23Ideal.main_v16) = v2 c
          ∧ r.2.mem ((c.tc : Thread Cert.Kernel23Ideal.nD Cert.Kernel23Ideal.τ).loc Cert.Kernel23Ideal.main_v17) = v3 c
          ∧ r.2.mem ((c.tc : Thread Cert.Kernel23Ideal.nD Cert.Kernel23Ideal.τ).loc Cert.Kernel23Ideal.main_v18) = v4 c
          ∧ r.2.mem ((c.tc : Thread Cert.Kernel23Ideal.nD Cert.Kernel23Ideal.τ).loc Cert.Kernel23Ideal.main_v19) = v5 c
          ∧ r.2.mem ((c.tc : Thread Cert.Kernel23Ideal.nD Cert.Kernel23Ideal.τ).loc Cert.Kernel23Ideal.main_v23) = v6 c
          ∧ r.2.mem ((c.tc : Thread Cert.Kernel23Ideal.nD Cert.Kernel23Ideal.τ).loc Cert.Kernel23Ideal.main_v24) = v7 c
          ∧ r.2.mem ((c.tc : Thread Cert.Kernel23Ideal.nD Cert.Kernel23Ideal.τ).loc Cert.Kernel23Ideal.main_v22) = v8 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
          ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
          ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v5) = v2 c
          ∧ r.2.mem ((c.tc : Thread Cert.Reference23Ideal.nD Cert.Reference23Ideal.τ).loc Cert.Reference23Ideal.main_v6) = v3 c
          ∧ r.2.mem ((c.tc : Thread Cert.Reference23Ideal.nD Cert.Reference23Ideal.τ).loc Cert.Reference23Ideal.main_v7) = v4 c
          ∧ r.2.mem ((c.tc : Thread Cert.Reference23Ideal.nD Cert.Reference23Ideal.τ).loc Cert.Reference23Ideal.main_v8) = v5 c
          ∧ r.2.mem ((c.tc : Thread Cert.Reference23Ideal.nD Cert.Reference23Ideal.τ).loc Cert.Reference23Ideal.main_v10) = v6 c
          ∧ r.2.mem ((c.tc : Thread Cert.Reference23Ideal.nD Cert.Reference23Ideal.τ).loc Cert.Reference23Ideal.main_v12) = v7 c
          ∧ r.2.mem ((c.tc : Thread Cert.Reference23Ideal.nD Cert.Reference23Ideal.τ).loc Cert.Reference23Ideal.main_v13) = v8 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6)
          ∧ r.2.mem ((c.tc : Thread Cert.Reference23Ideal.nD Cert.Reference23Ideal.τ).loc Cert.Reference23Ideal.main_arg7) = m' ((c.tc : Thread Cert.Reference23Ideal.nD Cert.Reference23Ideal.τ).loc Cert.Reference23Ideal.main_arg7)
          ∧ r.2.mem ((c.tc : Thread Cert.Reference23Ideal.nD Cert.Reference23Ideal.τ).loc Cert.Reference23Ideal.main_arg8) = m' ((c.tc : Thread Cert.Reference23Ideal.nD Cert.Reference23Ideal.τ).loc Cert.Reference23Ideal.main_arg8))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)
      ∧ m' ((c.tc : Thread Cert.Reference24Ideal.nD Cert.Reference24Ideal.τ).loc Cert.Reference24Ideal.main_arg7) = m ((c.tc : Thread Cert.Kernel24Ideal.nD Cert.Kernel24Ideal.τ).loc Cert.Kernel24Ideal.main_arg7)
      ∧ m' ((c.tc : Thread Cert.Reference24Ideal.nD Cert.Reference24Ideal.τ).loc Cert.Reference24Ideal.main_arg8) = m ((c.tc : Thread Cert.Kernel24Ideal.nD Cert.Kernel24Ideal.τ).loc Cert.Kernel24Ideal.main_arg8)
      ∧ m' ((c.tc : Thread Cert.Reference24Ideal.nD Cert.Reference24Ideal.τ).loc Cert.Reference24Ideal.main_arg9) = m ((c.tc : Thread Cert.Kernel24Ideal.nD Cert.Kernel24Ideal.τ).loc Cert.Kernel24Ideal.main_arg9)) →
    ∃ (v0 : (c : Dev Cert.Kernel24Ideal.nD) → Buf (Elt Ideal) ((c.tc : Thread Cert.Kernel24Ideal.nD Cert.Kernel24Ideal.τ).loc Cert.Kernel24Ideal.main_v15)) (v1 : (c : Dev Cert.Kernel24Ideal.nD) → Buf (Elt Ideal) ((c.tc : Thread Cert.Kernel24Ideal.nD Cert.Kernel24Ideal.τ).loc Cert.Kernel24Ideal.main_v17)) (v2 : (c : Dev Cert.Kernel24Ideal.nD) → Buf (Elt Ideal) ((c.tc : Thread Cert.Kernel24Ideal.nD Cert.Kernel24Ideal.τ).loc Cert.Kernel24Ideal.main_v19)) (v3 : (c : Dev Cert.Kernel24Ideal.nD) → Buf (Elt Ideal) ((c.tc : Thread Cert.Kernel24Ideal.nD Cert.Kernel24Ideal.τ).loc Cert.Kernel24Ideal.main_v21)) (v4 : (c : Dev Cert.Kernel24Ideal.nD) → Buf (Elt Ideal) ((c.tc : Thread Cert.Kernel24Ideal.nD Cert.Kernel24Ideal.τ).loc Cert.Kernel24Ideal.main_v23)) (v5 : (c : Dev Cert.Kernel24Ideal.nD) → Buf (Elt Ideal) ((c.tc : Thread Cert.Kernel24Ideal.nD Cert.Kernel24Ideal.τ).loc Cert.Kernel24Ideal.main_v25)) (v6 : (c : Dev Cert.Kernel24Ideal.nD) → Buf (Elt Ideal) ((c.tc : Thread Cert.Kernel24Ideal.nD Cert.Kernel24Ideal.τ).loc Cert.Kernel24Ideal.main_v27)) (v7 : (c : Dev Cert.Kernel24Ideal.nD) → Buf (Elt Ideal) ((c.tc : Thread Cert.Kernel24Ideal.nD Cert.Kernel24Ideal.τ).loc Cert.Kernel24Ideal.main_v29)) (v8 : (c : Dev Cert.Kernel24Ideal.nD) → Buf (Elt Ideal) ((c.tc : Thread Cert.Kernel24Ideal.nD Cert.Kernel24Ideal.τ).loc Cert.Kernel24Ideal.main_v31)) (v9 : (c : Dev Cert.Kernel24Ideal.nD) → Buf (Elt Ideal) ((c.tc : Thread Cert.Kernel24Ideal.nD Cert.Kernel24Ideal.τ).loc Cert.Kernel24Ideal.main_v32)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v15) = v0 c
          ∧ r.2.mem ((c.tc : Thread Cert.Kernel24Ideal.nD Cert.Kernel24Ideal.τ).loc Cert.Kernel24Ideal.main_v17) = v1 c
          ∧ r.2.mem ((c.tc : Thread Cert.Kernel24Ideal.nD Cert.Kernel24Ideal.τ).loc Cert.Kernel24Ideal.main_v19) = v2 c
          ∧ r.2.mem ((c.tc : Thread Cert.Kernel24Ideal.nD Cert.Kernel24Ideal.τ).loc Cert.Kernel24Ideal.main_v21) = v3 c
          ∧ r.2.mem ((c.tc : Thread Cert.Kernel24Ideal.nD Cert.Kernel24Ideal.τ).loc Cert.Kernel24Ideal.main_v23) = v4 c
          ∧ r.2.mem ((c.tc : Thread Cert.Kernel24Ideal.nD Cert.Kernel24Ideal.τ).loc Cert.Kernel24Ideal.main_v25) = v5 c
          ∧ r.2.mem ((c.tc : Thread Cert.Kernel24Ideal.nD Cert.Kernel24Ideal.τ).loc Cert.Kernel24Ideal.main_v27) = v6 c
          ∧ r.2.mem ((c.tc : Thread Cert.Kernel24Ideal.nD Cert.Kernel24Ideal.τ).loc Cert.Kernel24Ideal.main_v29) = v7 c
          ∧ r.2.mem ((c.tc : Thread Cert.Kernel24Ideal.nD Cert.Kernel24Ideal.τ).loc Cert.Kernel24Ideal.main_v31) = v8 c
          ∧ r.2.mem ((c.tc : Thread Cert.Kernel24Ideal.nD Cert.Kernel24Ideal.τ).loc Cert.Kernel24Ideal.main_v32) = v9 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
          ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
          ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
          ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_v1) = v1 c
          ∧ r.2.mem ((c.tc : Thread Cert.Reference24Ideal.nD Cert.Reference24Ideal.τ).loc Cert.Reference24Ideal.main_v2) = v2 c
          ∧ r.2.mem ((c.tc : Thread Cert.Reference24Ideal.nD Cert.Reference24Ideal.τ).loc Cert.Reference24Ideal.main_v3) = v3 c
          ∧ r.2.mem ((c.tc : Thread Cert.Reference24Ideal.nD Cert.Reference24Ideal.τ).loc Cert.Reference24Ideal.main_v4) = v4 c
          ∧ r.2.mem ((c.tc : Thread Cert.Reference24Ideal.nD Cert.Reference24Ideal.τ).loc Cert.Reference24Ideal.main_v5) = v5 c
          ∧ r.2.mem ((c.tc : Thread Cert.Reference24Ideal.nD Cert.Reference24Ideal.τ).loc Cert.Reference24Ideal.main_v6) = v6 c
          ∧ r.2.mem ((c.tc : Thread Cert.Reference24Ideal.nD Cert.Reference24Ideal.τ).loc Cert.Reference24Ideal.main_v7) = v7 c
          ∧ r.2.mem ((c.tc : Thread Cert.Reference24Ideal.nD Cert.Reference24Ideal.τ).loc Cert.Reference24Ideal.main_v8) = v8 c
          ∧ r.2.mem ((c.tc : Thread Cert.Reference24Ideal.nD Cert.Reference24Ideal.τ).loc Cert.Reference24Ideal.main_v9) = v9 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6)
          ∧ r.2.mem ((c.tc : Thread Cert.Reference24Ideal.nD Cert.Reference24Ideal.τ).loc Cert.Reference24Ideal.main_arg7) = m' ((c.tc : Thread Cert.Reference24Ideal.nD Cert.Reference24Ideal.τ).loc Cert.Reference24Ideal.main_arg7)
          ∧ r.2.mem ((c.tc : Thread Cert.Reference24Ideal.nD Cert.Reference24Ideal.τ).loc Cert.Reference24Ideal.main_arg8) = m' ((c.tc : Thread Cert.Reference24Ideal.nD Cert.Reference24Ideal.τ).loc Cert.Reference24Ideal.main_arg8)
          ∧ r.2.mem ((c.tc : Thread Cert.Reference24Ideal.nD Cert.Reference24Ideal.τ).loc Cert.Reference24Ideal.main_arg9) = m' ((c.tc : Thread Cert.Reference24Ideal.nD Cert.Reference24Ideal.τ).loc Cert.Reference24Ideal.main_arg9))

def Claim : Prop :=
  ∃ (hKernel1 : Cert.Kernel1.Facts) (hKernel1Ideal : Cert.Kernel1Ideal.Facts) (hReference1Ideal : Cert.Reference1Ideal.Facts) (hKernel2 : Cert.Kernel2.Facts) (hKernel2Ideal : Cert.Kernel2Ideal.Facts) (hReference2Ideal : Cert.Reference2Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel7 : Cert.Kernel7.Facts) (hKernel7Ideal : Cert.Kernel7Ideal.Facts) (hReference7Ideal : Cert.Reference7Ideal.Facts) (hKernel5 : Cert.Kernel5.Facts) (hKernel5Ideal : Cert.Kernel5Ideal.Facts) (hReference5Ideal : Cert.Reference5Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel3 : Cert.Kernel3.Facts) (hKernel3Ideal : Cert.Kernel3Ideal.Facts) (hReference3Ideal : Cert.Reference3Ideal.Facts) (hKernel12 : Cert.Kernel12.Facts) (hKernel12Ideal : Cert.Kernel12Ideal.Facts) (hReference12Ideal : Cert.Reference12Ideal.Facts) (hKernel14 : Cert.Kernel14.Facts) (hKernel14Ideal : Cert.Kernel14Ideal.Facts) (hReference14Ideal : Cert.Reference14Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel15 : Cert.Kernel15.Facts) (hKernel15Ideal : Cert.Kernel15Ideal.Facts) (hReference15Ideal : Cert.Reference15Ideal.Facts) (hKernel13 : Cert.Kernel13.Facts) (hKernel13Ideal : Cert.Kernel13Ideal.Facts) (hReference13Ideal : Cert.Reference13Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite_sb : Cert.Pre_finite_sb.Facts) (hPre_finite_ffn : Cert.Pre_finite_ffn.Facts) (hPre_finite_xa : Cert.Pre_finite_xa.Facts) (hPre_finite_sgu : Cert.Pre_finite_sgu.Facts) (hPre_finite_qk : Cert.Pre_finite_qk.Facts),
    quiescent_Kernel1 (hKernel1 := hKernel1)
    ∧ quiescent_Kernel1Ideal (hKernel1Ideal := hKernel1Ideal)
    ∧ quiescent_Reference1Ideal (hReference1Ideal := hReference1Ideal)
    ∧ quiescent_Kernel2 (hKernel2 := hKernel2)
    ∧ quiescent_Kernel2Ideal (hKernel2Ideal := hKernel2Ideal)
    ∧ quiescent_Kernel2Ideal_pre_finite_sb (hKernel2Ideal := hKernel2Ideal) (hPre_finite_sb := hPre_finite_sb)
    ∧ quiescent_Reference2Ideal (hReference2Ideal := hReference2Ideal)
    ∧ quiescent_Reference2Ideal_pre_finite_sb (hReference2Ideal := hReference2Ideal) (hPre_finite_sb := hPre_finite_sb)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel7 (hKernel7 := hKernel7)
    ∧ quiescent_Kernel7Ideal (hKernel7Ideal := hKernel7Ideal)
    ∧ quiescent_Kernel7Ideal_pre_finite_ffn (hKernel7Ideal := hKernel7Ideal) (hPre_finite_ffn := hPre_finite_ffn)
    ∧ quiescent_Reference7Ideal (hReference7Ideal := hReference7Ideal)
    ∧ quiescent_Reference7Ideal_pre_finite_ffn (hReference7Ideal := hReference7Ideal) (hPre_finite_ffn := hPre_finite_ffn)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel6 (hKernel6 := hKernel6)
    ∧ quiescent_Kernel6Ideal (hKernel6Ideal := hKernel6Ideal)
    ∧ quiescent_Kernel6Ideal_pre_finite_xa (hKernel6Ideal := hKernel6Ideal) (hPre_finite_xa := hPre_finite_xa)
    ∧ quiescent_Reference6Ideal (hReference6Ideal := hReference6Ideal)
    ∧ quiescent_Reference6Ideal_pre_finite_xa (hReference6Ideal := hReference6Ideal) (hPre_finite_xa := hPre_finite_xa)
    ∧ quiescent_Kernel3 (hKernel3 := hKernel3)
    ∧ quiescent_Kernel3Ideal (hKernel3Ideal := hKernel3Ideal)
    ∧ quiescent_Kernel3Ideal_pre_finite_sgu (hKernel3Ideal := hKernel3Ideal) (hPre_finite_sgu := hPre_finite_sgu)
    ∧ quiescent_Reference3Ideal (hReference3Ideal := hReference3Ideal)
    ∧ quiescent_Reference3Ideal_pre_finite_sgu (hReference3Ideal := hReference3Ideal) (hPre_finite_sgu := hPre_finite_sgu)
    ∧ quiescent_Kernel12 (hKernel12 := hKernel12)
    ∧ quiescent_Kernel12Ideal (hKernel12Ideal := hKernel12Ideal)
    ∧ quiescent_Kernel12Ideal_pre_finite_qk (hKernel12Ideal := hKernel12Ideal) (hPre_finite_qk := hPre_finite_qk)
    ∧ quiescent_Reference12Ideal (hReference12Ideal := hReference12Ideal)
    ∧ quiescent_Reference12Ideal_pre_finite_qk (hReference12Ideal := hReference12Ideal) (hPre_finite_qk := hPre_finite_qk)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel1_Kernel1Ideal
    ∧ algebraic_Kernel1Ideal_Reference1Ideal (hKernel1Ideal := hKernel1Ideal) (hReference1Ideal := hReference1Ideal)
    ∧ preserves_Kernel2_Kernel2Ideal
    ∧ algebraic_Kernel2Ideal_Reference2Ideal_pre_finite_sb (hKernel2Ideal := hKernel2Ideal) (hReference2Ideal := hReference2Ideal) (hPre_finite_sb := hPre_finite_sb)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel7_Kernel7Ideal
    ∧ algebraic_Kernel7Ideal_Reference7Ideal_pre_finite_ffn (hKernel7Ideal := hKernel7Ideal) (hReference7Ideal := hReference7Ideal) (hPre_finite_ffn := hPre_finite_ffn)
    ∧ preserves_Kernel5_Kernel5Ideal
    ∧ algebraic_Kernel5Ideal_Reference5Ideal (hKernel5Ideal := hKernel5Ideal) (hReference5Ideal := hReference5Ideal)
    ∧ preserves_Kernel4_Kernel4Ideal
    ∧ algebraic_Kernel4Ideal_Reference4Ideal (hKernel4Ideal := hKernel4Ideal) (hReference4Ideal := hReference4Ideal)
    ∧ preserves_Kernel6_Kernel6Ideal
    ∧ algebraic_Kernel6Ideal_Reference6Ideal_pre_finite_xa (hKernel6Ideal := hKernel6Ideal) (hReference6Ideal := hReference6Ideal) (hPre_finite_xa := hPre_finite_xa)
    ∧ preserves_Kernel3_Kernel3Ideal
    ∧ algebraic_Kernel3Ideal_Reference3Ideal_pre_finite_sgu (hKernel3Ideal := hKernel3Ideal) (hReference3Ideal := hReference3Ideal) (hPre_finite_sgu := hPre_finite_sgu)
    ∧ preserves_Kernel12_Kernel12Ideal
    ∧ algebraic_Kernel12Ideal_Reference12Ideal_pre_finite_qk (hKernel12Ideal := hKernel12Ideal) (hReference12Ideal := hReference12Ideal) (hPre_finite_qk := hPre_finite_qk)
    ∧ preserves_Kernel14_Kernel14Ideal
    ∧ algebraic_Kernel14Ideal_Reference14Ideal (hKernel14Ideal := hKernel14Ideal) (hReference14Ideal := hReference14Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel15_Kernel15Ideal
    ∧ algebraic_Kernel15Ideal_Reference15Ideal (hKernel15Ideal := hKernel15Ideal) (hReference15Ideal := hReference15Ideal)
    ∧ preserves_Kernel13_Kernel13Ideal
    ∧ algebraic_Kernel13Ideal_Reference13Ideal (hKernel13Ideal := hKernel13Ideal) (hReference13Ideal := hReference13Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Pre_finite_ffn.lean ====
abbrev S4096x1024 : Shape := ⟨2, ![4096, 1024]⟩
abbrev S1024x2816 : Shape := ⟨2, ![1024, 2816]⟩
abbrev S2816x1024 : Shape := ⟨2, ![2816, 1024]⟩
abbrev S13824x1024 : Shape := ⟨2, ![13824, 1024]⟩
abbrev S_ : Shape := ⟨0, ![]⟩

class Facts : Prop where
  bitsLt_bf16_f32 : FTy.bits .bf16 < FTy.bits .f32
  transposes_S1024x2816_S2816x1024_1_0 : S1024x2816.Transposes [1, 0] S2816x1024
  concatenates_S4096x1024_S4096x1024_S2816x1024_S2816x1024_S13824x1024_d0 : Shape.Concatenates [S4096x1024, S4096x1024, S2816x1024, S2816x1024] S13824x1024 0
  bcast_S_S13824x1024 : S_.BroadcastsInDim S13824x1024 (![] : Fin 0 → Fin S13824x1024.rank)

variable [Facts]

def fn {F : FTy → Type} [FloatOps F] (main_arg0 : FVec F S4096x1024 .f32) (main_arg1 : FVec F S4096x1024 .bf16) (main_arg2 : FVec F S1024x2816 .bf16) (main_arg3 : FVec F S1024x2816 .bf16) (main_arg4 : FVec F S2816x1024 .bf16) : IVec S13824x1024 1 :=
  let main_v0 : FVec F S4096x1024 .f32 := (extf .f32 · bitsLt_bf16_f32) main_arg1
  let main_v1 : FVec F S1024x2816 .f32 := (extf .f32 · bitsLt_bf16_f32) main_arg3
  let main_v2 : FVec F S2816x1024 .f32 := (transpose S2816x1024 [1, 0] · transposes_S1024x2816_S2816x1024_1_0) main_v1
  let main_v3 : FVec F S2816x1024 .f32 := (extf .f32 · bitsLt_bf16_f32) main_arg4
  let main_v4 : FVec F S13824x1024 .f32 := concatenate S13824x1024 0 [⟨S4096x1024, main_arg0⟩, ⟨S4096x1024, main_v0⟩, ⟨S2816x1024, main_v2⟩, ⟨S2816x1024, main_v3⟩] concatenates_S4096x1024_S4096x1024_S2816x1024_S2816x1024_S13824x1024_d0
  let main_v5 : FVec F S13824x1024 .f32 := Host.absf main_v4
  let main_cst : FVec F S_ .f32 := constant S_ .f32 0x7F800000#32
  let main_v6 : FVec F S13824x1024 .f32 := broadcastInDim S13824x1024 ![] bcast_S_S13824x1024 main_cst
  let main_v7 : IVec S13824x1024 1 := cmpf .olt main_v5 main_v6
  main_v7
-- ==== Pre_finite_qk.lean ====
abbrev S4096x7168 : Shape := ⟨2, ![4096, 7168]⟩
abbrev S4096x512 : Shape := ⟨2, ![4096, 512]⟩
abbrev S_ : Shape := ⟨0, ![]⟩

class Facts : Prop where
  slices_S4096x7168_S4096x512_0_0 : S4096x7168.Slices ![0, 0] S4096x512
  bcast_S_S4096x512 : S_.BroadcastsInDim S4096x512 (![] : Fin 0 → Fin S4096x512.rank)
  slices_S4096x7168_S4096x512_0_512 : S4096x7168.Slices ![0, 512] S4096x512

variable [Facts]

def fn {F : FTy → Type} [FloatOps F] (main_arg0 : FVec F S4096x7168 .f32) : IVec S4096x512 1 :=
  let main_v0 : FVec F S4096x512 .f32 := (extractStridedSlice S4096x512 ![0, 0] · slices_S4096x7168_S4096x512_0_0) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S4096x512 .f32 := (extractStridedSlice S4096x512 ![0, 512] · slices_S4096x7168_S4096x512_0_512) main_arg0
  let main_v5 : FVec F S4096x512 .f32 := Host.absf main_v4
  let main_cst_0 : FVec F S_ .f32 := constant S_ .f32 0x7F800000#32
  let main_v6 : FVec F S4096x512 .f32 := broadcastInDim S4096x512 ![] bcast_S_S4096x512 main_cst_0
  let main_v7 : IVec S4096x512 1 := cmpf .olt main_v5 main_v6
  let main_v8 : IVec S4096x512 1 := andi main_v3 main_v7
  main_v8
-- ==== Pre_finite_sb.lean ====
abbrev S4096x7168 : Shape := ⟨2, ![4096, 7168]⟩
abbrev S4096x512 : Shape := ⟨2, ![4096, 512]⟩
abbrev S_ : Shape := ⟨0, ![]⟩

class Facts : Prop where
  slices_S4096x7168_S4096x512_0_0 : S4096x7168.Slices ![0, 0] S4096x512
  bcast_S_S4096x512 : S_.BroadcastsInDim S4096x512 (![] : Fin 0 → Fin S4096x512.rank)
  slices_S4096x7168_S4096x512_0_512 : S4096x7168.Slices ![0, 512] S4096x512
  slices_S4096x7168_S4096x512_0_1024 : S4096x7168.Slices ![0, 1024] S4096x512
  bitsLt_bf16_f32 : FTy.bits .bf16 < FTy.bits .f32

variable [Facts]

def fn {F : FTy → Type} [FloatOps F] (main_arg0 : FVec F S4096x7168 .f32) (main_arg1 : FVec F S4096x512 .bf16) : IVec S4096x512 1 :=
  let main_v0 : FVec F S4096x512 .f32 := (extractStridedSlice S4096x512 ![0, 0] · slices_S4096x7168_S4096x512_0_0) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S4096x512 .f32 := (extractStridedSlice S4096x512 ![0, 512] · slices_S4096x7168_S4096x512_0_512) main_arg0
  let main_v5 : FVec F S4096x512 .f32 := Host.absf main_v4
  let main_cst_0 : FVec F S_ .f32 := constant S_ .f32 0x7F800000#32
  let main_v6 : FVec F S4096x512 .f32 := broadcastInDim S4096x512 ![] bcast_S_S4096x512 main_cst_0
  let main_v7 : IVec S4096x512 1 := cmpf .olt main_v5 main_v6
  let main_v8 : IVec S4096x512 1 := andi main_v3 main_v7
  let main_v9 : FVec F S4096x512 .f32 := (extractStridedSlice S4096x512 ![0, 1024] · slices_S4096x7168_S4096x512_0_1024) main_arg0
  let main_v10 : FVec F S4096x512 .f32 := Host.absf main_v9
  let main_cst_1 : FVec F S_ .f32 := constant S_ .f32 0x7F800000#32
  let main_v11 : FVec F S4096x512 .f32 := broadcastInDim S4096x512 ![] bcast_S_S4096x512 main_cst_1
  let main_v12 : IVec S4096x512 1 := cmpf .olt main_v10 main_v11
  let main_v13 : IVec S4096x512 1 := andi main_v8 main_v12
  let main_v14 : FVec F S4096x512 .f32 := (extf .f32 · bitsLt_bf16_f32) main_arg1
  let main_v15 : FVec F S4096x512 .f32 := Host.absf main_v14
  let main_cst_2 : FVec F S_ .f32 := constant S_ .f32 0x7F800000#32
  let main_v16 : FVec F S4096x512 .f32 := broadcastInDim S4096x512 ![] bcast_S_S4096x512 main_cst_2
  let main_v17 : IVec S4096x512 1 := cmpf .olt main_v15 main_v16
  let main_v18 : IVec S4096x512 1 := andi main_v13 main_v17
  main_v18
-- ==== Pre_finite_sgu.lean ====
abbrev S4096x7168 : Shape := ⟨2, ![4096, 7168]⟩
abbrev S4096x512 : Shape := ⟨2, ![4096, 512]⟩
abbrev S512 : Shape := ⟨1, ![512]⟩
abbrev S4x128x128 : Shape := ⟨3, ![4, 128, 128]⟩
abbrev S4x128 : Shape := ⟨2, ![4, 128]⟩
abbrev S4096x1024 : Shape := ⟨2, ![4096, 1024]⟩
abbrev S1x512 : Shape := ⟨2, ![1, 512]⟩
abbrev S128x512 : Shape := ⟨2, ![128, 512]⟩
abbrev S12419x512 : Shape := ⟨2, ![12419, 512]⟩
abbrev S_ : Shape := ⟨0, ![]⟩

class Facts : Prop where
  slices_S4096x7168_S4096x1024_0_1536 : S4096x7168.Slices ![0, 1536] S4096x1024
  slices_S4096x1024_S4096x512_0_0 : S4096x1024.Slices ![0, 0] S4096x512
  slices_S4096x1024_S4096x512_0_512 : S4096x1024.Slices ![0, 512] S4096x512
  bcast_S512_S1x512_1 : S512.BroadcastsInDim S1x512 (![1] : Fin 1 → Fin S1x512.rank)
  shapeCasts_S4x128x128_S128x512 : S4x128x128.ShapeCasts S128x512
  shapeCasts_S4x128_S1x512 : S4x128.ShapeCasts S1x512
  concatenates_S4096x512_S4096x512_S4096x512_S1x512_S1x512_S128x512_S1x512_S12419x512_d0 : Shape.Concatenates [S4096x512, S4096x512, S4096x512, S1x512, S1x512, S128x512, S1x512] S12419x512 0
  bcast_S_S12419x512 : S_.BroadcastsInDim S12419x512 (![] : Fin 0 → Fin S12419x512.rank)

variable [Facts]

def fn {F : FTy → Type} [FloatOps F] (main_arg0 : FVec F S4096x7168 .f32) (main_arg1 : FVec F S4096x512 .f32) (main_arg2 : FVec F S512 .f32) (main_arg3 : FVec F S512 .f32) (main_arg4 : FVec F S4x128x128 .f32) (main_arg5 : FVec F S4x128 .f32) : IVec S12419x512 1 :=
  let main_v0 : FVec F S4096x1024 .f32 := (extractStridedSlice S4096x1024 ![0, 1536] · slices_S4096x7168_S4096x1024_0_1536) main_arg0
  let main_v1 : FVec F S4096x512 .f32 := (extractStridedSlice S4096x512 ![0, 0] · slices_S4096x1024_S4096x512_0_0) main_v0
  let main_v2 : FVec F S4096x512 .f32 := (extractStridedSlice S4096x512 ![0, 512] · slices_S4096x1024_S4096x512_0_512) main_v0
  let main_v3 : FVec F S1x512 .f32 := broadcastInDim S1x512 ![1] bcast_S512_S1x512_1 main_arg2
  let main_v4 : FVec F S1x512 .f32 := broadcastInDim S1x512 ![1] bcast_S512_S1x512_1 main_arg3
  let main_v5 : FVec F S128x512 .f32 := shapeCast S128x512 main_arg4 shapeCasts_S4x128x128_S128x512
  let main_v6 : FVec F S1x512 .f32 := shapeCast S1x512 main_arg5 shapeCasts_S4x128_S1x512
  let main_v7 : FVec F S12419x512 .f32 := concatenate S12419x512 0 [⟨S4096x512, main_v1⟩, ⟨S4096x512, main_v2⟩, ⟨S4096x512, main_arg1⟩, ⟨S1x512, main_v3⟩, ⟨S1x512, main_v4⟩, ⟨S128x512, main_v5⟩, ⟨S1x512, main_v6⟩] concatenates_S4096x512_S4096x512_S4096x512_S1x512_S1x512_S128x512_S1x512_S12419x512_d0
  let main_v8 : FVec F S12419x512 .f32 := Host.absf main_v7
  let main_cst : FVec F S_ .f32 := constant S_ .f32 0x7F800000#32
  let main_v9 : FVec F S12419x512 .f32 := broadcastInDim S12419x512 ![] bcast_S_S12419x512 main_cst
  let main_v10 : IVec S12419x512 1 := cmpf .olt main_v8 main_v9
  main_v10
-- ==== Pre_finite_xa.lean ====
abbrev S4096x1024 : Shape := ⟨2, ![4096, 1024]⟩
abbrev S256x1024 : Shape := ⟨2, ![256, 1024]⟩
abbrev S4352x1024 : Shape := ⟨2, ![4352, 1024]⟩
abbrev S_ : Shape := ⟨0, ![]⟩

class Facts : Prop where
  bitsLt_bf16_f32 : FTy.bits .bf16 < FTy.bits .f32
  concatenates_S4096x1024_S256x1024_S4352x1024_d0 : Shape.Concatenates [S4096x1024, S256x1024] S4352x1024 0
  bcast_S_S4352x1024 : S_.BroadcastsInDim S4352x1024 (![] : Fin 0 → Fin S4352x1024.rank)

variable [Facts]

def fn {F : FTy → Type} [FloatOps F] (main_arg0 : FVec F S4096x1024 .bf16) (main_arg1 : FVec F S256x1024 .bf16) (main_arg2 : FVec F S256x1024 .bf16) (main_arg3 : FVec F S4096x1024 .bf16) : IVec S4352x1024 1 :=
  let main_v0 : FVec F S4096x1024 .f32 := (extf .f32 · bitsLt_bf16_f32) main_arg0
  let main_v1 : FVec F S256x1024 .f32 := (extf .f32 · bitsLt_bf16_f32) main_arg1
  let main_v2 : FVec F S4352x1024 .f32 := (fun a b => concatenate S4352x1024 0 [⟨S4096x1024, a⟩, ⟨S256x1024, b⟩] concatenates_S4096x1024_S256x1024_S4352x1024_d0) main_v0 main_v1
  let main_v3 : FVec F S4352x1024 .f32 := Host.absf main_v2
  let main_cst : FVec F S_ .f32 := constant S_ .f32 0x7F800000#32
  let main_v4 : FVec F S4352x1024 .f32 := broadcastInDim S4352x1024 ![] bcast_S_S4352x1024 main_cst
  let main_v5 : IVec S4352x1024 1 := cmpf .olt main_v3 main_v4
  main_v5
-- ==== Kernel1.lean ====
abbrev S256x1024 : Shape := ⟨2, ![256, 1024]⟩
abbrev S1024 : Shape := ⟨1, ![1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 8
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S1x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference1Ideal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S1x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S1024, .f32⟩
  | .hbm, ⟨31, _⟩ => ⟨S256x1024, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S256x1024, .f32⟩
  | .hbm, ⟨36, _⟩ => ⟨S256x1024, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel2.lean ====
abbrev S4096x7168 : Shape := ⟨2, ![4096, 7168]⟩
abbrev S4096x512 : Shape := ⟨2, ![4096, 512]⟩
abbrev S4096x8x64 : Shape := ⟨3, ![4096, 8, 64]⟩
abbrev S8x4096x64 : Shape := ⟨3, ![8, 4096, 64]⟩
abbrev S_ : Shape := ⟨0, ![]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096x32x128 : Shape := ⟨4, ![8, 4096, 32, 128]⟩
abbrev S8x4096x32 : Shape := ⟨3, ![8, 4096, 32]⟩
abbrev S8x4096x31 : Shape := ⟨3, ![8, 4096, 31]⟩
abbrev S8x4096x97 : Shape := ⟨3, ![8, 4096, 97]⟩
abbrev S8x4096x128 : Shape := ⟨3, ![8, 4096, 128]⟩
abbrev S4x2x4096x128 : Shape := ⟨4, ![4, 2, 4096, 128]⟩
abbrev S4x1x4096x128 : Shape := ⟨4, ![4, 1, 4096, 128]⟩
abbrev S4x4096x128 : Shape := ⟨3, ![4, 4096, 128]⟩
abbrev S512x128 : Shape := ⟨2, ![512, 128]⟩
abbrev S4096x128 : Shape := ⟨2, ![4096, 128]⟩
abbrev S1x512x128 : Shape := ⟨3, ![1, 512, 128]⟩
abbrev S512x1024 : Shape := ⟨2, ![512, 1024]⟩
abbrev S128x128 : Shape := ⟨2, ![128, 128]⟩
abbrev S128x256 : Shape := ⟨2, ![128, 256]⟩
abbrev S1x128 : Shape := ⟨2, ![1, 128]⟩
abbrev S1024x128 : Shape := ⟨2, ![1024, 128]⟩
abbrev S512 : Shape := ⟨1, ![512]⟩
abbrev S512x1 : Shape := ⟨2, ![512, 1]⟩
abbrev S512x256 : Shape := ⟨2, ![512, 256]⟩

abbrev nBuf : Space → Nat
  | .hbm => 54
  | .vmem => 20
  | .smem => 0
  | _ => 0

abbrev bufTy : (tb : Table) → Fin (tcTables nBuf tb) → BufTy
  | .hbm, ⟨0, _⟩ => ⟨S4096x7168, .f32⟩
  | .hbm, ⟨1, _⟩ => ⟨S4096x512, .bf16⟩
  | .hbm, ⟨2, _⟩ => ⟨S4096x512, .f32⟩
  | .hbm, ⟨3, _⟩ => ⟨S4096x8x64, .f32⟩
  | .hbm, ⟨4, _⟩ => ⟨S8x4096x64, .f32⟩
  | .hbm, ⟨5, _⟩ => ⟨S_, .f32⟩
  | .hbm, ⟨6, _⟩ => ⟨S8x4096x64, .f32⟩
  | .hbm, ⟨7, _⟩ => ⟨S8x4096x64, .f32⟩
  | .hbm, ⟨8, _⟩ => ⟨S4096x512, .f32⟩
  | .hbm, ⟨9, _⟩ => ⟨S4096x8x64, .f32⟩
  | .hbm, ⟨10, _⟩ => ⟨S8x4096x64, .f32⟩
  | .hbm, ⟨11, _⟩ => ⟨S8x4096x4096, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S8x4096x4096, .f32⟩
  | .hbm, ⟨23, _⟩ => ⟨S4096, .i32⟩
  | .hbm, ⟨24, _⟩ => ⟨S1x4096, .i32⟩
  | .hbm, ⟨25, _⟩ => ⟨S4096, .i32⟩
  | .hbm, ⟨26, _⟩ => ⟨S4096x1, .i32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S8x4096x4096, .f32⟩
  | .hbm, ⟨31, _⟩ => ⟨S_, .f32⟩
  | .hbm, ⟨32, _⟩ => ⟨S_, .f32⟩
  | .hbm, ⟨33, _⟩ => ⟨S8x4096x4096, .i1⟩
  | .hbm, ⟨34, _⟩ => ⟨S8x4096x4096, .f32⟩
  | .hbm, ⟨35, _⟩ => ⟨S8x4096x4096, .f32⟩
  | .hbm, ⟨36, _⟩ => ⟨S8x4096x32x128, .f32⟩
  | .hbm, ⟨37, _⟩ => ⟨S_, .f32⟩
  | .hbm, ⟨38, _⟩ => ⟨S8x4096x32, .f32⟩
  | .hbm, ⟨39, _⟩ => ⟨S8x4096x31, .f32⟩
  | .hbm, ⟨40, _⟩ => ⟨S_, .f32⟩
  | .hbm, ⟨41, _⟩ => ⟨S8x4096x97, .f32⟩
  | .hbm, ⟨42, _⟩ => ⟨S8x4096x128, .f32⟩
  | .hbm, ⟨43, _⟩ => ⟨S_, .f32⟩
  | .hbm, ⟨44, _⟩ => ⟨S_, .f32⟩
  | .hbm, ⟨45, _⟩ => ⟨S8x4096x128, .f32⟩
  | .hbm, ⟨46, _⟩ => ⟨S4x2x4096x128, .f32⟩
  | .hbm, ⟨47, _⟩ => ⟨S4x1x4096x128, .f32⟩
  | .hbm, ⟨48, _⟩ => ⟨S4x4096x128, .f32⟩
  | .hbm, ⟨49, _⟩ => ⟨S4x1x4096x128, .f32⟩
  | .hbm, ⟨50, _⟩ => ⟨S4x4096x128, .f32⟩
  | .hbm, ⟨51, _⟩ => ⟨S4096x512, .bf16⟩
  | .hbm, ⟨52, _⟩ => ⟨S4096x512, .bf16⟩
  | .hbm, ⟨53, _⟩ => ⟨S4096x512, .bf16⟩
  | .local _ .vmem, ⟨0, _⟩ => ⟨S512x128, .f32⟩
  | .local _ .vmem, ⟨1, _⟩ => ⟨S512x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S512x128, .bf16⟩
  | .local _ .vmem, ⟨7, _⟩ => ⟨S512x128, .bf16⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S512x128, .bf16⟩
  | .local _ .vmem, ⟨13, _⟩ => ⟨S512x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S4096x128, .f32⟩
  | .local _ .vmem, ⟨19, _⟩ => ⟨S4096x128, .f32⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_call1_cst : Ref sig .tc := ⟨.hbm, 43, rfl⟩
abbrev main_call1_v0 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38_0 : Ref sig .tc := ⟨.hbm, 51, rfl⟩
abbrev main_v38_1 : Ref sig .tc := ⟨.hbm, 52, rfl⟩
abbrev main_v38_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_32 : BitVec 32 := 0#32
  let arg1 : BitVec 32 := BitVec.ofNat 32 (i 1).val
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c1024_i32 : BitVec 32 := 1024#32
  let c0_i32_4 : BitVec 32 := 0#32
  let v12 : BitVec 1 := Scalar.cmpi .sgt c1024_i32 c0_i32_4
  let v13 : BitVec 32 := Scalar.extui v12
  let c0_i32_5 : BitVec 32 := 0#32
  let v14 : BitVec 1 := Scalar.cmpi .slt c1024_i32 c0_i32_5
  let v15 : BitVec 32 := Scalar.extui v14
  let v16 : BitVec 32 := Scalar.subi v13 v15
  let v17 : BitVec 1 := Scalar.cmpi .ne v11 v16
  let v18 : BitVec 32 := Scalar.remsi v5 c1024_i32
  let c0_i32_6 : BitVec 32 := 0#32
  let v19 : BitVec 1 := Scalar.cmpi .ne v18 c0_i32_6
  let v20 : BitVec 1 := Scalar.andi v17 v19
  let v6 : BitVec 32 := Scalar.divsi v5 c1024_i32
  let c1_i32_7 : BitVec 32 := 1#32
  let v21 : BitVec 32 := Scalar.subi v6 c1_i32_7
  let v22 : BitVec 32 := Scalar.select v20 v21 v6
  let v82 : BitVec 32 := Scalar.subi v22 c0_i32_32
  let c1_i32_33 : BitVec 32 := 1#32
  let v84 : BitVec 32 := Scalar.divsi v82 c1_i32_33
  let v85 : BitVec 32 := Scalar.muli v84 c1_i32_33
  let v86 : BitVec 32 := Scalar.addi c0_i32_32 v85
  let c1_i32_34 : BitVec 32 := 1#32
  ⟨c0_i32_32, v86, c1_i32_34⟩
def k0_mult1 (i : grid0.Coords) (k0_t1 : Fin (k0_t1_loop i).trips) : BitVec 32 :=
  let c0_i32_32 : BitVec 32 := 0#32
  let c1_i32_34 : BitVec 32 := 1#32
  let arg13 : BitVec 32 := Scf.iv c0_i32_32 c1_i32_34 k0_t1
  let c1024_i32_162 : BitVec 32 := 1024#32
  let v515 : BitVec 32 := Scalar.muli arg13 c1024_i32_162
  v515
def k0_off1 (i : grid0.Coords) (k0_t1 : Fin (k0_t1_loop i).trips) : Fin 2 → Nat :=
  let c0_i32_32 : BitVec 32 := 0#32
  let c1_i32_34 : BitVec 32 := 1#32
  let arg13 : BitVec 32 := Scf.iv c0_i32_32 c1_i32_34 k0_t1
  let c1024_i32_162 : BitVec 32 := 1024#32
  let v515 : BitVec 32 := Scalar.muli arg13 c1024_i32_162
  let v516 : BitVec 32 := v515
  let v517 : Index := Scalar.indexCast v516
  let c0_163 : Index := 0#32
  ![v517.toNat, 0]
@[reducible] def k0_t2_loop (i : grid0.Coords) : Scf.Loop 32 :=
  let c0_i32_32 : BitVec 32 := 0#32
  let arg1 : BitVec 32 := BitVec.ofNat 32 (i 1).val
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c1024_i32 : BitVec 32 := 1024#32
  let c0_i32_4 : BitVec 32 := 0#32
  let v12 : BitVec 1 := Scalar.cmpi .sgt c1024_i32 c0_i32_4
  let v13 : BitVec 32 := Scalar.extui v12
  let c0_i32_5 : BitVec 32 := 0#32
  let v14 : BitVec 1 := Scalar.cmpi .slt c1024_i32 c0_i32_5
  let v15 : BitVec 32 := Scalar.extui v14
  let v16 : BitVec 32 := Scalar.subi v13 v15
  let v17 : BitVec 1 := Scalar.cmpi .ne v11 v16
  let v18 : BitVec 32 := Scalar.remsi v5 c1024_i32
  let c0_i32_6 : BitVec 32 := 0#32
  let v19 : BitVec 1 := Scalar.cmpi .ne v18 c0_i32_6
  let v20 : BitVec 1 := Scalar.andi v17 v19
  let v6 : BitVec 32 := Scalar.divsi v5 c1024_i32
  let c1_i32_7 : BitVec 32 := 1#32
  let v21 : BitVec 32 := Scalar.subi v6 c1_i32_7
  let v22 : BitVec 32 := Scalar.select v20 v21 v6
  let v82 : BitVec 32 := Scalar.subi v22 c0_i32_32
  let c1_i32_33 : BitVec 32 := 1#32
  let v84 : BitVec 32 := Scalar.divsi v82 c1_i32_33
  let v85 : BitVec 32 := Scalar.muli v84 c1_i32_33
  let v86 : BitVec 32 := Scalar.addi c0_i32_32 v85
  let v83 : BitVec 32 := Scalar.addi c0_i32_32 v82
  let c1_i32_35 : BitVec 32 := 1#32
  ⟨v86, v83, c1_i32_35⟩
def k0_mult2 (i : grid0.Coords) (k0_t2 : Fin (k0_t2_loop i).trips) : BitVec 32 :=
  let c0_i32_32 : BitVec 32 := 0#32
  let arg1 : BitVec 32 := BitVec.ofNat 32 (i 1).val
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c1024_i32 : BitVec 32 := 1024#32
  let c0_i32_4 : BitVec 32 := 0#32
  let v12 : BitVec 1 := Scalar.cmpi .sgt c1024_i32 c0_i32_4
  let v13 : BitVec 32 := Scalar.extui v12
  let c0_i32_5 : BitVec 32 := 0#32
  let v14 : BitVec 1 := Scalar.cmpi .slt c1024_i32 c0_i32_5
  let v15 : BitVec 32 := Scalar.extui v14
  let v16 : BitVec 32 := Scalar.subi v13 v15
  let v17 : BitVec 1 := Scalar.cmpi .ne v11 v16
  let v18 : BitVec 32 := Scalar.remsi v5 c1024_i32
  let c0_i32_6 : BitVec 32 := 0#32
  let v19 : BitVec 1 := Scalar.cmpi .ne v18 c0_i32_6
  let v20 : BitVec 1 := Scalar.andi v17 v19
  let v6 : BitVec 32 := Scalar.divsi v5 c1024_i32
  let c1_i32_7 : BitVec 32 := 1#32
  let v21 : BitVec 32 := Scalar.subi v6 c1_i32_7
  let v22 : BitVec 32 := Scalar.select v20 v21 v6
  let v82 : BitVec 32 := Scalar.subi v22 c0_i32_32
  let c1_i32_33 : BitVec 32 := 1#32
  let v84 : BitVec 32 := Scalar.divsi v82 c1_i32_33
  let v85 : BitVec 32 := Scalar.muli v84 c1_i32_33
  let v86 : BitVec 32 := Scalar.addi c0_i32_32 v85
  let c1_i32_35 : BitVec 32 := 1#32
  let arg13 : BitVec 32 := Scf.iv v86 c1_i32_35 k0_t2
  let c1024_i32_162 : BitVec 32 := 1024#32
  let v515 : BitVec 32 := Scalar.muli arg13 c1024_i32_162
  v515
def k0_off2 (i : grid0.Coords) (k0_t2 : Fin (k0_t2_loop i).trips) : Fin 2 → Nat :=
  let c0_i32_32 : BitVec 32 := 0#32
  let arg1 : BitVec 32 := BitVec.ofNat 32 (i 1).val
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c1024_i32 : BitVec 32 := 1024#32
  let c0_i32_4 : BitVec 32 := 0#32
  let v12 : BitVec 1 := Scalar.cmpi .sgt c1024_i32 c0_i32_4
  let v13 : BitVec 32 := Scalar.extui v12
  let c0_i32_5 : BitVec 32 := 0#32
  let v14 : BitVec 1 := Scalar.cmpi .slt c1024_i32 c0_i32_5
  let v15 : BitVec 32 := Scalar.extui v14
  let v16 : BitVec 32 := Scalar.subi v13 v15
  let v17 : BitVec 1 := Scalar.cmpi .ne v11 v16
  let v18 : BitVec 32 := Scalar.remsi v5 c1024_i32
  let c0_i32_6 : BitVec 32 := 0#32
  let v19 : BitVec 1 := Scalar.cmpi .ne v18 c0_i32_6
  let v20 : BitVec 1 := Scalar.andi v17 v19
  let v6 : BitVec 32 := Scalar.divsi v5 c1024_i32
  let c1_i32_7 : BitVec 32 := 1#32
  let v21 : BitVec 32 := Scalar.subi v6 c1_i32_7
  let v22 : BitVec 32 := Scalar.select v20 v21 v6
  let v82 : BitVec 32 := Scalar.subi v22 c0_i32_32
  let c1_i32_33 : BitVec 32 := 1#32
  let v84 : BitVec 32 := Scalar.divsi v82 c1_i32_33
  let v85 : BitVec 32 := Scalar.muli v84 c1_i32_33
  let v86 : BitVec 32 := Scalar.addi c0_i32_32 v85
  let c1_i32_35 : BitVec 32 := 1#32
  let arg13 : BitVec 32 := Scf.iv v86 c1_i32_35 k0_t2
  let c1024_i32_162 : BitVec 32 := 1024#32
  let v515 : BitVec 32 := Scalar.muli arg13 c1024_i32_162
  let v516 : BitVec 32 := v515
  let v517 : Index := Scalar.indexCast v516
  let c0_163 : Index := 0#32
  ![v517.toNat, 0]
def k0_mult3 (i : grid0.Coords) : BitVec 32 :=
  let arg1 : BitVec 32 := BitVec.ofNat 32 (i 1).val
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c1024_i32 : BitVec 32 := 1024#32
  let c0_i32_4 : BitVec 32 := 0#32
  let v12 : BitVec 1 := Scalar.cmpi .sgt c1024_i32 c0_i32_4
  let v13 : BitVec 32 := Scalar.extui v12
  let c0_i32_5 : BitVec 32 := 0#32
  let v14 : BitVec 1 := Scalar.cmpi .slt c1024_i32 c0_i32_5
  let v15 : BitVec 32 := Scalar.extui v14
  let v16 : BitVec 32 := Scalar.subi v13 v15
  let v17 : BitVec 1 := Scalar.cmpi .ne v11 v16
  let v18 : BitVec 32 := Scalar.remsi v5 c1024_i32
  let c0_i32_6 : BitVec 32 := 0#32
  let v19 : BitVec 1 := Scalar.cmpi .ne v18 c0_i32_6
  let v20 : BitVec 1 := Scalar.andi v17 v19
  let v6 : BitVec 32 := Scalar.divsi v5 c1024_i32
  let c1_i32_7 : BitVec 32 := 1#32
  let v21 : BitVec 32 := Scalar.subi v6 c1_i32_7
  let v22 : BitVec 32 := Scalar.select v20 v21 v6
  let c1024_i32_36 : BitVec 32 := 1024#32
  let v89 : BitVec 32 := Scalar.muli v22 c1024_i32_36
  v89
def k0_off3 (i : grid0.Coords) : Fin 2 → Nat :=
  let arg1 : BitVec 32 := BitVec.ofNat 32 (i 1).val
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c1024_i32 : BitVec 32 := 1024#32
  let c0_i32_4 : BitVec 32 := 0#32
  let v12 : BitVec 1 := Scalar.cmpi .sgt c1024_i32 c0_i32_4
  let v13 : BitVec 32 := Scalar.extui v12
  let c0_i32_5 : BitVec 32 := 0#32
  let v14 : BitVec 1 := Scalar.cmpi .slt c1024_i32 c0_i32_5
  let v15 : BitVec 32 := Scalar.extui v14
  let v16 : BitVec 32 := Scalar.subi v13 v15
  let v17 : BitVec 1 := Scalar.cmpi .ne v11 v16
  let v18 : BitVec 32 := Scalar.remsi v5 c1024_i32
  let c0_i32_6 : BitVec 32 := 0#32
  let v19 : BitVec 1 := Scalar.cmpi .ne v18 c0_i32_6
  let v20 : BitVec 1 := Scalar.andi v17 v19
  let v6 : BitVec 32 := Scalar.divsi v5 c1024_i32
  let c1_i32_7 : BitVec 32 := 1#32
  let v21 : BitVec 32 := Scalar.subi v6 c1_i32_7
  let v22 : BitVec 32 := Scalar.select v20 v21 v6
  let c1024_i32_36 : BitVec 32 := 1024#32
  let v89 : BitVec 32 := Scalar.muli v22 c1024_i32_36
  let v90 : BitVec 32 := v89
  let v91 : Index := Scalar.indexCast v90
  let c0_37 : Index := 0#32
  ![v91.toNat, 0]
def k0_cond2 (i : grid0.Coords) : BitVec 1 :=
  let arg1 : BitVec 32 := BitVec.ofNat 32 (i 1).val
  let c7_i32_160 : BitVec 32 := 7#32
  let v512 : BitVec 1 := Scalar.cmpi .eq arg1 c7_i32_160
  let v513 : BitVec 32 := Scalar.extui v512
  let c0_i32_161 : BitVec 32 := 0#32
  let v514 : BitVec 1 := Scalar.cmpi .ne v513 c0_i32_161
  v514

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S4096x7168 : Shape := ⟨2, ![4096, 7168]⟩
abbrev S4096x512 : Shape := ⟨2, ![4096, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩

abbrev nBuf : Space → Nat
  | .hbm => 182
  | .vmem => 0
  | .smem => 0
  | _ => 0

abbrev hbmTy0_0 (i : Nat) : BufTy := match i % 128 with
  | 0 => ⟨S4096x7168, .f32⟩
  | 1 => ⟨S4096x512, .bf16⟩
  | 2 => ⟨S4096x512, .f32⟩
  | 3 => ⟨S4096x512, .f32⟩
  | 4 => ⟨S4096x512, .f32⟩
  | 5 => ⟨S4096x8x64, .f32⟩
  | 6 => ⟨S8x4096x64, .f32⟩
  | 7 => ⟨S4096x8x64, .f32⟩
  | 8 => ⟨S8x4096x64, .f32⟩
  | 9 => ⟨S4096x8x64, .f32⟩
  | 10 => ⟨S8x4096x64, .f32⟩
  | 11 => ⟨S8x4096x4096, .f32⟩
  | 12 => ⟨S_, .f32⟩
  | 13 => ⟨S8x4096x4096, .f32⟩
  | 14 => ⟨S8x4096x4096, .f32⟩
  | 15 => ⟨S4096, .i32⟩
  | 16 => ⟨S1x4096, .i32⟩
  | 17 => ⟨S4096, .i32⟩
  | 18 => ⟨S4096x1, .i32⟩
  | 19 => ⟨S4096x4096, .i32⟩
  | 20 => ⟨S4096x4096, .i32⟩
  | 21 => ⟨S4096x4096, .i1⟩
  | 22 => ⟨S8x4096x4096, .f32⟩
  | 23 => ⟨S8x4096x4096, .f32⟩
  | 24 => ⟨S_, .f32⟩
  | 25 => ⟨S8x4096x4096, .f32⟩
  | 26 => ⟨S8x4096x4096, .f32⟩
  | 27 => ⟨S8x4096x4096, .f32⟩
  | 28 => ⟨S8x4096x4096, .f32⟩
  | 29 => ⟨S8x4096x4096, .i1⟩
  | 30 => ⟨S8x4096x4096, .f32⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S_, .f32⟩
  | 39 => ⟨S8x4096x4096, .f32⟩
  | 40 => ⟨S8x4096x4096, .i1⟩
  | 41 => ⟨S_, .f32⟩
  | 42 => ⟨S8x4096x4096, .f32⟩
  | 43 => ⟨S8x4096x4096, .f32⟩
  | 44 => ⟨S_, .f32⟩
  | 45 => ⟨S8x4096x4096, .f32⟩
  | 46 => ⟨S8x4096x4096, .i1⟩
  | 47 => ⟨S_, .f32⟩
  | 48 => ⟨S8x4096x4096, .f32⟩
  | 49 => ⟨S8x4096x4096, .f32⟩
  | 50 => ⟨S8x4096x4096, .f32⟩
  | 51 => ⟨S8x4096x4096, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S8x4096x4096, .f32⟩
  | 60 => ⟨S8x4096x4096, .i1⟩
  | 61 => ⟨S_, .f32⟩
  | 62 => ⟨S8x4096x4096, .f32⟩
  | 63 => ⟨S8x4096x4096, .f32⟩
  | 64 => ⟨S8x4096x4096, .f32⟩
  | 65 => ⟨S8x4096x4096, .f32⟩
  | 66 => ⟨S8x4096x4096, .f32⟩
  | 67 => ⟨S_, .f32⟩
  | 68 => ⟨S8x4096x4096, .f32⟩
  | 69 => ⟨S8x4096x4096, .f32⟩
  | 70 => ⟨S8x4096x4096, .f32⟩
  | 71 => ⟨S_, .f32⟩
  | 72 => ⟨S_, .f32⟩
  | 73 => ⟨S8x4096x4096, .i1⟩
  | 74 => ⟨S8x4096x4096, .f32⟩
  | 75 => ⟨S8x4096x4096, .f32⟩
  | 76 => ⟨S_, .f32⟩
  | 77 => ⟨S8x4096x4096, .f32⟩
  | 78 => ⟨S8x4096x4096, .f32⟩
  | 79 => ⟨S_, .f32⟩
  | 80 => ⟨S8x4096x4096, .f32⟩
  | 81 => ⟨S8x4096x4096, .f32⟩
  | 82 => ⟨S8x4096x4096, .f32⟩
  | 83 => ⟨S8x4096x4096, .f32⟩
  | 84 => ⟨S8x4096x4096, .i1⟩
  | 85 => ⟨S8x4096x4096, .f32⟩
  | 86 => ⟨S8x4096x4096, .f32⟩
  | 87 => ⟨S8x4096x4096, .f32⟩
  | 88 => ⟨S8x4096x4096, .f32⟩
  | 89 => ⟨S8x4096x4096, .f32⟩
  | 90 => ⟨S8x4096x4096, .f32⟩
  | 91 => ⟨S8x4096x4096, .f32⟩
  | 92 => ⟨S8x4096x4096, .f32⟩
  | 93 => ⟨S_, .f32⟩
  | 94 => ⟨S8x4096x4096, .f32⟩
  | 95 => ⟨S8x4096x4096, .i1⟩
  | 96 => ⟨S_, .f32⟩
  | 97 => ⟨S8x4096x4096, .f32⟩
  | 98 => ⟨S8x4096x4096, .f32⟩
  | 99 => ⟨S_, .f32⟩
  | 100 => ⟨S8x4096x4096, .f32⟩
  | 101 => ⟨S8x4096x4096, .i1⟩
  | 102 => ⟨S_, .f32⟩
  | 103 => ⟨S8x4096x4096, .f32⟩
  | 104 => ⟨S8x4096x4096, .f32⟩
  | 105 => ⟨S8x4096x4096, .f32⟩
  | 106 => ⟨S8x4096x4096, .f32⟩
  | 107 => ⟨S_, .f32⟩
  | 108 => ⟨S_, .f32⟩
  | 109 => ⟨S_, .i1⟩
  | 110 => ⟨S_, .f32⟩
  | 111 => ⟨S_, .f32⟩
  | 112 => ⟨S_, .f32⟩
  | 113 => ⟨S_, .f32⟩
  | 114 => ⟨S8x4096x4096, .f32⟩
  | 115 => ⟨S8x4096x4096, .i1⟩
  | 116 => ⟨S_, .f32⟩
  | 117 => ⟨S8x4096x4096, .f32⟩
  | 118 => ⟨S8x4096x4096, .f32⟩
  | 119 => ⟨S8x4096x4096, .f32⟩
  | 120 => ⟨S8x4096x4096, .f32⟩
  | 121 => ⟨S8x4096x4096, .f32⟩
  | 122 => ⟨S_, .f32⟩
  | 123 => ⟨S8x4096x4096, .f32⟩
  | 124 => ⟨S8x4096x4096, .f32⟩
  | 125 => ⟨S8x4096x4096, .f32⟩
  | 126 => ⟨S_, .f32⟩
  | 127 => ⟨S_, .f32⟩
  | _ => ⟨S4096x7168, .f32⟩

abbrev hbmTy0_1 (i : Nat) : BufTy := match i % 128 with
  | 0 => ⟨S8x4096x4096, .f32⟩
  | 1 => ⟨S8x4096x4096, .f32⟩
  | 2 => ⟨S8x4096x4096, .f32⟩
  | 3 => ⟨S8x4096x4096, .f32⟩
  | 4 => ⟨S_, .f32⟩
  | 5 => ⟨S_, .f32⟩
  | 6 => ⟨S8x4096x4096, .i1⟩
  | 7 => ⟨S8x4096x4096, .f32⟩
  | 8 => ⟨S8x4096x4096, .f32⟩
  | 9 => ⟨S_, .f32⟩
  | 10 => ⟨S8x4096x4096, .f32⟩
  | 11 => ⟨S8x4096x64, .f32⟩
  | 12 => ⟨S4096x8x64, .f32⟩
  | 13 => ⟨S4096x512, .f32⟩
  | 14 => ⟨S4096x512, .f32⟩
  | 15 => ⟨S4096x8x64, .f32⟩
  | 16 => ⟨S8x4096x64, .f32⟩
  | 17 => ⟨S8x64x4096, .f32⟩
  | 18 => ⟨S8x4096x64, .f32⟩
  | 19 => ⟨S8x4096x4096, .f32⟩
  | 20 => ⟨S_, .f32⟩
  | 21 => ⟨S8x4096x4096, .f32⟩
  | 22 => ⟨S8x4096x4096, .f32⟩
  | 23 => ⟨S8x4096x4096, .f32⟩
  | 24 => ⟨S8x4096x4096, .f32⟩
  | 25 => ⟨S_, .f32⟩
  | 26 => ⟨S_, .f32⟩
  | 27 => ⟨S8x4096x4096, .f32⟩
  | 28 => ⟨S8x4096x4096, .f32⟩
  | 29 => ⟨S8x4096x4096, .f32⟩
  | 30 => ⟨S8x4096x4096, .f32⟩
  | 31 => ⟨S8x4096x4096, .f32⟩
  | 32 => ⟨S_, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S8x4096x4096, .f32⟩
  | 39 => ⟨S8x4096x4096, .f32⟩
  | 40 => ⟨S_, .f32⟩
  | 41 => ⟨S8x4096x4096, .f32⟩
  | 42 => ⟨S8x4096x4096, .f32⟩
  | 43 => ⟨S8x4096x64, .f32⟩
  | 44 => ⟨S8x4096x64, .f32⟩
  | 45 => ⟨S4096x8x64, .f32⟩
  | 46 => ⟨S4096x512, .f32⟩
  | 47 => ⟨S4096x8x64, .f32⟩
  | 48 => ⟨S4096x512, .f32⟩
  | 49 => ⟨S4096x8x64, .f32⟩
  | 50 => ⟨S4096x512, .f32⟩
  | 51 => ⟨S4096x512, .bf16⟩
  | 52 => ⟨S4096x512, .bf16⟩
  | 53 => ⟨S4096x512, .bf16⟩
  | _ => ⟨S4096x7168, .f32⟩

abbrev hbmTy (i : Nat) : BufTy := match i / 128 with
  | 0 => hbmTy0_0 i
  | 1 => hbmTy0_1 i
  | _ => ⟨S4096x7168, .f32⟩

abbrev bufTy : (tb : Table) → Fin (tcTables nBuf tb) → BufTy
  | .hbm, ⟨i, _⟩ => hbmTy i
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v20_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v20_2 : Ref sig .tc := ⟨.hbm, 69, rfl⟩
abbrev main_v20_0 : Ref sig .tc := ⟨.hbm, 70, rfl⟩
abbrev main_cst_0 : Ref sig .tc := ⟨.hbm, 71, rfl⟩
abbrev main_call1_v0 : Ref sig .tc := ⟨.hbm, 72, rfl⟩
abbrev main_v21_1 : Ref sig .tc := ⟨.hbm, 73, rfl⟩
abbrev main_call1_v2 : Ref sig .tc := ⟨.hbm, 74, rfl⟩
abbrev main_v21_0 : Ref sig .tc := ⟨.hbm, 75, rfl⟩
abbrev main_call1_cst : Ref sig .tc := ⟨.hbm, 76, rfl⟩
abbrev main_v21_2 : Ref sig .tc := ⟨.hbm, 77, rfl⟩
abbrev main_call2_v0 : Ref sig .tc := ⟨.hbm, 78, rfl⟩
abbrev main_call2_call0_cst : Ref sig .tc := ⟨.hbm, 79, rfl⟩
abbrev main_call2_call0_v0 : Ref sig .tc := ⟨.hbm, 80, rfl⟩
abbrev main_call2_call0_v1 : Ref sig .tc := ⟨.hbm, 81, rfl⟩
abbrev main_call2_call0_v2 : Ref sig .tc := ⟨.hbm, 82, rfl⟩
abbrev main_call2_call0_v3 : Ref sig .tc := ⟨.hbm, 83, rfl⟩
abbrev main_call2_call0_v4 : Ref sig .tc := ⟨.hbm, 84, rfl⟩
abbrev main_call2_call0_v5 : Ref sig .tc := ⟨.hbm, 85, rfl⟩
abbrev main_call2_call0_v6 : Ref sig .tc := ⟨.hbm, 86, rfl⟩
abbrev main_call2_call0_v7 : Ref sig .tc := ⟨.hbm, 87, rfl⟩
abbrev main_call2_call0_v8 : Ref sig .tc := ⟨.hbm, 88, rfl⟩
abbrev main_call2_call0_v9 : Ref sig .tc := ⟨.hbm, 89, rfl⟩
abbrev main_call2_call0_v10 : Ref sig .tc := ⟨.hbm, 90, rfl⟩
abbrev main_call2_call0_v11 : Ref sig .tc := ⟨.hbm, 91, rfl⟩
abbrev main_call2_v1_0 : Ref sig .tc := ⟨.hbm, 92, rfl⟩
abbrev main_call2_call0_cst_0 : Ref sig .tc := ⟨.hbm, 93, rfl⟩
abbrev main_call2_call0_v13 : Ref sig .tc := ⟨.hbm, 94, rfl⟩
abbrev main_call2_call0_v14 : Ref sig .tc := ⟨.hbm, 95, rfl⟩
abbrev main_call2_call0_cst_1 : Ref sig .tc := ⟨.hbm, 96, rfl⟩
abbrev main_call2_call0_v15 : Ref sig .tc := ⟨.hbm, 97, rfl⟩
abbrev main_call2_call0_v16 : Ref sig .tc := ⟨.hbm, 98, rfl⟩
abbrev main_call2_call0_cst_2 : Ref sig .tc := ⟨.hbm, 99, rfl⟩
abbrev main_call2_call0_v17 : Ref sig .tc := ⟨.hbm, 100, rfl⟩
abbrev main_call2_call0_v18 : Ref sig .tc := ⟨.hbm, 101, rfl⟩
abbrev main_call2_call0_cst_3 : Ref sig .tc := ⟨.hbm, 102, rfl⟩
abbrev main_call2_call0_v19 : Ref sig .tc := ⟨.hbm, 103, rfl⟩
abbrev main_call2_call0_v20 : Ref sig .tc := ⟨.hbm, 104, rfl⟩
abbrev main_call2_call0_v21 : Ref sig .tc := ⟨.hbm, 105, rfl⟩
abbrev main_v22_1 : Ref sig .tc := ⟨.hbm, 106, rfl⟩
abbrev main_call2_call0_cst_4 : Ref sig .tc := ⟨.hbm, 107, rfl⟩
abbrev main_call2_call0_cst_5 : Ref sig .tc := ⟨.hbm, 108, rfl⟩
abbrev main_call2_call0_v23 : Ref sig .tc := ⟨.hbm, 109, rfl⟩
abbrev main_call2_call0_cst_6 : Ref sig .tc := ⟨.hbm, 110, rfl⟩
abbrev main_call2_call0_cst_7 : Ref sig .tc := ⟨.hbm, 111, rfl⟩
abbrev main_call2_call0_v24 : Ref sig .tc := ⟨.hbm, 112, rfl⟩
abbrev main_call2_call0_cst_8 : Ref sig .tc := ⟨.hbm, 113, rfl⟩
abbrev main_call2_call0_v25 : Ref sig .tc := ⟨.hbm, 114, rfl⟩
abbrev main_call2_call0_v26 : Ref sig .tc := ⟨.hbm, 115, rfl⟩
abbrev main_call2_call0_cst_9 : Ref sig .tc := ⟨.hbm, 116, rfl⟩
abbrev main_call2_call0_v27 : Ref sig .tc := ⟨.hbm, 117, rfl⟩
abbrev main_call2_call0_v28 : Ref sig .tc := ⟨.hbm, 118, rfl⟩
abbrev main_call2_call0_v29 : Ref sig .tc := ⟨.hbm, 119, rfl⟩
abbrev main_call2_call0_v30 : Ref sig .tc := ⟨.hbm, 120, rfl⟩
abbrev main_call2_call0_v31 : Ref sig .tc := ⟨.hbm, 121, rfl⟩
abbrev main_call2_call0_cst_10 : Ref sig .tc := ⟨.hbm, 122, rfl⟩
abbrev main_call2_call0_v32 : Ref sig .tc := ⟨.hbm, 123, rfl⟩
abbrev main_v22_2 : Ref sig .tc := ⟨.hbm, 124, rfl⟩
abbrev main_v22_0 : Ref sig .tc := ⟨.hbm, 125, rfl⟩
abbrev main_call3_cst : Ref sig .tc := ⟨.hbm, 126, rfl⟩
abbrev main_call3_v0 : Ref sig .tc := ⟨.hbm, 127, rfl⟩
abbrev main_v23 : Ref sig .tc := ⟨.hbm, 128, rfl⟩
abbrev main_v24 : Ref sig .tc := ⟨.hbm, 129, rfl⟩
abbrev main_v25 : Ref sig .tc := ⟨.hbm, 130, rfl⟩
abbrev main_v26 : Ref sig .tc := ⟨.hbm, 131, rfl⟩
abbrev main_cst_1 : Ref sig .tc := ⟨.hbm, 132, rfl⟩
abbrev main_call4_v0 : Ref sig .tc := ⟨.hbm, 133, rfl⟩
abbrev main_v27_1 : Ref sig .tc := ⟨.hbm, 134, rfl⟩
abbrev main_call4_v2 : Ref sig .tc := ⟨.hbm, 135, rfl⟩
abbrev main_v27_0 : Ref sig .tc := ⟨.hbm, 136, rfl⟩
abbrev main_call4_cst : Ref sig .tc := ⟨.hbm, 137, rfl⟩
abbrev main_v27_2 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_call5_cst : Ref sig .tc := ⟨.hbm, 148, rfl⟩
abbrev main_call5_v0 : Ref sig .tc := ⟨.hbm, 149, rfl⟩
abbrev main_v37 : Ref sig .tc := ⟨.hbm, 150, rfl⟩
abbrev main_v38 : Ref sig .tc := ⟨.hbm, 151, rfl⟩
abbrev main_v39 : Ref sig .tc := ⟨.hbm, 152, rfl⟩
abbrev main_call6_cst : Ref sig .tc := ⟨.hbm, 153, rfl⟩
abbrev main_call6_v0 : Ref sig .tc := ⟨.hbm, 154, rfl⟩
abbrev main_v40 : Ref sig .tc := ⟨.hbm, 155, rfl⟩
abbrev main_v41 : Ref sig .tc := ⟨.hbm, 156, rfl⟩
abbrev main_call7_v0 : Ref sig .tc := ⟨.hbm, 157, rfl⟩
abbrev main_call7_v1 : Ref sig .tc := ⟨.hbm, 158, rfl⟩
abbrev main_v42 : Ref sig .tc := ⟨.hbm, 159, rfl⟩
abbrev main_call8_cst : Ref sig .tc := ⟨.hbm, 160, rfl⟩
abbrev main_call8_v0 : Ref sig .tc := ⟨.hbm, 161, rfl⟩
abbrev main_v43 : Ref sig .tc := ⟨.hbm, 162, rfl⟩
abbrev main_call9_v0 : Ref sig .tc := ⟨.hbm, 163, rfl⟩
abbrev main_call9_v1 : Ref sig .tc := ⟨.hbm, 164, rfl⟩
abbrev main_v44 : Ref sig .tc := ⟨.hbm, 165, rfl⟩
abbrev main_v45 : Ref sig .tc := ⟨.hbm, 166, rfl⟩
abbrev main_v46 : Ref sig .tc := ⟨.hbm, 167, rfl⟩
abbrev main_cst_2 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩

abbrev nD : Nat := 1
abbrev τ : Topo := Topo.v7x

variable {F : FTy → Type} [FloatOps F]
-- ==== Kernel8.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x128, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x128, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference8Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x128, .f32⟩
  | .hbm, ⟨72, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference9Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel10.lean ====
abbrev S4096x2816 : Shape := ⟨2, ![4096, 2816]⟩
abbrev S1024x2816 : Shape := ⟨2, ![1024, 2816]⟩
abbrev S4096x1024 : Shape := ⟨2, ![4096, 1024]⟩
abbrev S1024 : Shape := ⟨1, ![1024]⟩
abbrev S2816x1024 : Shape := ⟨2, ![2816, 1024]⟩
abbrev S1x1024 : Shape := ⟨2, ![1, 1024]⟩
abbrev S512x1408 : Shape := ⟨2, ![512, 1408]⟩
abbrev S1408x1024 : Shape := ⟨2, ![1408, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 15
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S2816x1024, .bf16⟩
  | .hbm, ⟨7, _⟩ => ⟨S1x1024, .f32⟩
  | .hbm, ⟨8, _⟩ => ⟨S4096x1024, .f32⟩
  | .hbm, ⟨9, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v19 : BitVec 32 := Scalar.extui v0
  let c0_i32_14 : BitVec 32 := 0#32
  let v20 : BitVec 1 := Scalar.cmpi .ne v19 c0_i32_14
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Reference10Ideal.lean ====
abbrev S4096x2816 : Shape := ⟨2, ![4096, 2816]⟩
abbrev S1024x2816 : Shape := ⟨2, ![1024, 2816]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1024x2816, .bf16⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S4096x2816, .f32⟩
  | .hbm, ⟨7, _⟩ => ⟨S1024x2816, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel11.lean ====
abbrev S4096x7168 : Shape := ⟨2, ![4096, 7168]⟩
abbrev S1024x7168 : Shape := ⟨2, ![1024, 7168]⟩
abbrev S4096x1024 : Shape := ⟨2, ![4096, 1024]⟩
abbrev S1024 : Shape := ⟨1, ![1024]⟩
abbrev S7168x1024 : Shape := ⟨2, ![7168, 1024]⟩
abbrev S1x1024 : Shape := ⟨2, ![1, 1024]⟩
abbrev S1024x1792 : Shape := ⟨2, ![1024, 1792]⟩
abbrev S1792x1024 : Shape := ⟨2, ![1792, 1024]⟩
abbrev S1024x1024 : Shape := ⟨2, ![1024, 1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x7168, .bf16⟩
  | .hbm, ⟨1, _⟩ => ⟨S1024x7168, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S7168x1024, .bf16⟩
  | .hbm, ⟨6, _⟩ => ⟨S1x1024, .f32⟩
  | .hbm, ⟨7, _⟩ => ⟨S4096x1024, .f32⟩
  | .hbm, ⟨8, _⟩ => ⟨S1x1024, .f32⟩
  | .local _ .vmem, ⟨0, _⟩ => ⟨S1024x1792, .bf16⟩
  | .local _ .vmem, ⟨1, _⟩ => ⟨S1024x1792, .bf16⟩
  | .local _ .vmem, ⟨2, _⟩ => ⟨S1792x1024, .bf16⟩
  | .local _ .vmem, ⟨3, _⟩ => ⟨S1792x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v17 : BitVec 32 := Scalar.extui v0
  let c0_i32_12 : BitVec 32 := 0#32
  let v18 : BitVec 1 := Scalar.cmpi .ne v17 c0_i32_12
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1792x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference11Ideal.lean ====
abbrev S4096x7168 : Shape := ⟨2, ![4096, 7168]⟩
abbrev S1024x7168 : Shape := ⟨2, ![1024, 7168]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x7168, .bf16⟩
  | .hbm, ⟨1, _⟩ => ⟨S1024x7168, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x7168, .f32⟩
  | .hbm, ⟨6, _⟩ => ⟨S1024x7168, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x7168, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | _, _ => ⟨S4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel7.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 14
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S4096x1024, .f32⟩
  | .hbm, ⟨6, _⟩ => ⟨S1024x2816, .f32⟩
  | .hbm, ⟨7, _⟩ => ⟨S1024x2816, .f32⟩
  | .hbm, ⟨8, _⟩ => ⟨S4096x2816, .f32⟩
  | .hbm, ⟨9, _⟩ => ⟨S4096x2816, .bf16⟩
  | .hbm, ⟨10, _⟩ => ⟨S4096x2816, .f32⟩
  | .hbm, ⟨11, _⟩ => ⟨S4096x2816, .bf16⟩
  | .hbm, ⟨12, _⟩ => ⟨S4096x2816, .bf16⟩
  | .hbm, ⟨13, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S4096x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .bf16⟩
  | .hbm, ⟨34, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v6_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v6_1 : Ref sig .tc := ⟨.hbm, 22, rfl⟩
abbrev main_v6_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== Kernel5.lean ====
abbrev S4096x1024 : Shape := ⟨2, ![4096, 1024]⟩
abbrev S4096x512 : Shape := ⟨2, ![4096, 512]⟩
abbrev S3x512x1024 : Shape := ⟨3, ![3, 512, 1024]⟩
abbrev S4096x7168 : Shape := ⟨2, ![4096, 7168]⟩
abbrev S4096x3072 : Shape := ⟨2, ![4096, 3072]⟩
abbrev S256x1024 : Shape := ⟨2, ![256, 1024]⟩
abbrev S256x512 : Shape := ⟨2, ![256, 512]⟩
abbrev S256x3072 : Shape := ⟨2, ![256, 3072]⟩
abbrev S1x512x1024 : Shape := ⟨3, ![1, 512, 1024]⟩
abbrev S512x1024 : Shape := ⟨2, ![512, 1024]⟩

abbrev nBuf : Space → Nat
  | .hbm => 13
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S3x512x1024, .bf16⟩
  | .hbm, ⟨5, _⟩ => ⟨S4096x7168, .f32⟩
  | .hbm, ⟨6, _⟩ => ⟨S4096x512, .bf16⟩
  | .hbm, ⟨7, _⟩ => ⟨S4096x512, .f32⟩
  | .hbm, ⟨8, _⟩ => ⟨S4096x512, .f32⟩
  | .hbm, ⟨9, _⟩ => ⟨S4096x3072, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S3x512x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x512, .bf16⟩
  | .local _ .vmem, ⟨16, _⟩ => ⟨S256x512, .bf16⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x3072, .bf16⟩
  | .local _ .vmem, ⟨22, _⟩ => ⟨S256x3072, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S4096x1024 : Shape := ⟨2, ![4096, 1024]⟩
abbrev S4096x512 : Shape := ⟨2, ![4096, 512]⟩
abbrev S3x512x1024 : Shape := ⟨3, ![3, 512, 1024]⟩
abbrev S4096x7168 : Shape := ⟨2, ![4096, 7168]⟩
abbrev S4096x1x512 : Shape := ⟨3, ![4096, 1, 512]⟩
abbrev S4096x3x512 : Shape := ⟨3, ![4096, 3, 512]⟩
abbrev S3x1024x4096 : Shape := ⟨3, ![3, 1024, 4096]⟩
abbrev S4096x3x1024 : Shape := ⟨3, ![4096, 3, 1024]⟩
abbrev S4096x3072 : Shape := ⟨2, ![4096, 3072]⟩
abbrev S_ : Shape := ⟨0, ![]⟩
abbrev S3x4096x512 : Shape := ⟨3, ![3, 4096, 512]⟩
abbrev S4096x1x1024 : Shape := ⟨3, ![4096, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S3x512x1024, .bf16⟩
  | .hbm, ⟨5, _⟩ => ⟨S4096x7168, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S3x512x1024, .f32⟩
  | .hbm, ⟨10, _⟩ => ⟨S4096x1x512, .f32⟩
  | .hbm, ⟨11, _⟩ => ⟨S4096x1x512, .f32⟩
  | .hbm, ⟨12, _⟩ => ⟨S4096x1x512, .f32⟩
  | .hbm, ⟨13, _⟩ => ⟨S4096x3x512, .f32⟩
  | .hbm, ⟨14, _⟩ => ⟨S3x1024x4096, .f32⟩
  | .hbm, ⟨15, _⟩ => ⟨S4096x3x1024, .f32⟩
  | .hbm, ⟨16, _⟩ => ⟨S4096x3072, .f32⟩
  | .hbm, ⟨17, _⟩ => ⟨S4096x3x1024, .f32⟩
  | .hbm, ⟨18, _⟩ => ⟨S4096x3x1024, .f32⟩
  | .hbm, ⟨19, _⟩ => ⟨S4096x3x1024, .f32⟩
  | .hbm, ⟨20, _⟩ => ⟨S_, .f32⟩
  | .hbm, ⟨21, _⟩ => ⟨S4096x3x1024, .f32⟩
  | .hbm, ⟨22, _⟩ => ⟨S4096x3x1024, .f32⟩
  | .hbm, ⟨23, _⟩ => ⟨S_, .f32⟩
  | .hbm, ⟨24, _⟩ => ⟨S4096x3x1024, .f32⟩
  | .hbm, ⟨25, _⟩ => ⟨S4096x3x1024, .f32⟩
  | .hbm, ⟨26, _⟩ => ⟨S_, .f32⟩
  | .hbm, ⟨27, _⟩ => ⟨S4096x3x1024, .f32⟩
  | .hbm, ⟨28, _⟩ => ⟨S4096x3x1024, .f32⟩
  | .hbm, ⟨29, _⟩ => ⟨S4096x3x1024, .f32⟩
  | .hbm, ⟨30, _⟩ => ⟨S4096x3x1024, .f32⟩
  | .hbm, ⟨31, _⟩ => ⟨S_, .f32⟩
  | .hbm, ⟨32, _⟩ => ⟨S4096x1024, .f32⟩
  | .hbm, ⟨33, _⟩ => ⟨S4096x3x1024, .f32⟩
  | .hbm, ⟨34, _⟩ => ⟨S4096x3x1024, .f32⟩
  | .hbm, ⟨35, _⟩ => ⟨S4096x3x1024, .f32⟩
  | .hbm, ⟨36, _⟩ => ⟨S4096x3x1024, .f32⟩
  | .hbm, ⟨37, _⟩ => ⟨S4096x3072, .f32⟩
  | .hbm, ⟨38, _⟩ => ⟨S3x1024x4096, .f32⟩
  | .hbm, ⟨39, _⟩ => ⟨S3x4096x512, .f32⟩
  | .hbm, ⟨40, _⟩ => ⟨S4096x3x512, .f32⟩
  | .hbm, ⟨41, _⟩ => ⟨S4096x1x512, .f32⟩
  | .hbm, ⟨42, _⟩ => ⟨S4096x512, .f32⟩
  | .hbm, ⟨43, _⟩ => ⟨S4096x1x512, .f32⟩
  | .hbm, ⟨44, _⟩ => ⟨S4096x512, .f32⟩
  | .hbm, ⟨45, _⟩ => ⟨S4096x1x512, .f32⟩
  | .hbm, ⟨46, _⟩ => ⟨S4096x512, .f32⟩
  | .hbm, ⟨47, _⟩ => ⟨S4096x512, .bf16⟩
  | .hbm, ⟨48, _⟩ => ⟨S4096x3072, .bf16⟩
  | .hbm, ⟨49, _⟩ => ⟨S4096x1x1024, .f32⟩
  | .hbm, ⟨50, _⟩ => ⟨S4096x1024, .f32⟩
  | .hbm, ⟨51, _⟩ => ⟨S4096x1024, .bf16⟩
  | .hbm, ⟨52, _⟩ => ⟨S4096x1x1024, .f32⟩
  | .hbm, ⟨53, _⟩ => ⟨S4096x1024, .f32⟩
  | .hbm, ⟨54, _⟩ => ⟨S4096x1024, .bf16⟩
  | .hbm, ⟨55, _⟩ => ⟨S4096x1x1024, .f32⟩
  | .hbm, ⟨56, _⟩ => ⟨S4096x1024, .f32⟩
  | .hbm, ⟨57, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩

abbrev nD : Nat := 1
abbrev τ : Topo := Topo.v7x

variable {F : FTy → Type} [FloatOps F]
-- ==== Kernel4.lean ====
abbrev S4096x7168 : Shape := ⟨2, ![4096, 7168]⟩
abbrev S4096x512 : Shape := ⟨2, ![4096, 512]⟩
abbrev S3x512 : Shape := ⟨2, ![3, 512]⟩
abbrev S1024x128 : Shape := ⟨2, ![1024, 128]⟩
abbrev S8x128 : Shape := ⟨2, ![8, 128]⟩
abbrev S3x128 : Shape := ⟨2, ![3, 128]⟩
abbrev S1016x128 : Shape := ⟨2, ![1016, 128]⟩
abbrev S1x128 : Shape := ⟨2, ![1, 128]⟩
abbrev S128 : Shape := ⟨1, ![128]⟩

abbrev nBuf : Space → Nat
  | .hbm => 7
  | .vmem => 26
  | .smem => 0
  | _ => 0

abbrev bufTy : (tb : Table) → Fin (tcTables nBuf tb) → BufTy
  | .hbm, ⟨0, _⟩ => ⟨S4096x7168, .f32⟩
  | .hbm, ⟨1, _⟩ => ⟨S4096x512, .f32⟩
  | .hbm, ⟨2, _⟩ => ⟨S3x512, .f32⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S3x512, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S1024x128, .f32⟩
  | .local _ .vmem, ⟨13, _⟩ => ⟨S1024x128, .f32⟩
  | .local _ .vmem, ⟨14, _⟩ => ⟨S8x128, .f32⟩
  | .local _ .vmem, ⟨15, _⟩ => ⟨S8x128, .f32⟩
  | .local _ .vmem, ⟨16, _⟩ => ⟨S3x128, .f32⟩
  | .local _ .vmem, ⟨17, _⟩ => ⟨S3x128, .f32⟩
  | .local _ .vmem, ⟨18, _⟩ => ⟨S1024x128, .bf16⟩
  | .local _ .vmem, ⟨19, _⟩ => ⟨S1024x128, .bf16⟩
  | .local _ .vmem, ⟨20, _⟩ => ⟨S1024x128, .bf16⟩
  | .local _ .vmem, ⟨21, _⟩ => ⟨S1024x128, .bf16⟩
  | .local _ .vmem, ⟨22, _⟩ => ⟨S1024x128, .bf16⟩
  | .local _ .vmem, ⟨23, _⟩ => ⟨S1024x128, .bf16⟩
  | .local _ .vmem, ⟨24, _⟩ => ⟨S3x128, .f32⟩
  | .local _ .vmem, ⟨25, _⟩ => ⟨S3x128, .f32⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c24_i32 : BitVec 32 := 24#32
  let v3 : BitVec 32 := Scalar.addi c24_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c28_i32 : BitVec 32 := 28#32
  let v3 : BitVec 32 := Scalar.addi c28_i32 arg0
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c20_i32 : BitVec 32 := 20#32
  let v3 : BitVec 32 := Scalar.addi c20_i32 arg0
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  ![v2.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S3x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference4Ideal.lean ====
abbrev S4096x7168 : Shape := ⟨2, ![4096, 7168]⟩
abbrev S4096x512 : Shape := ⟨2, ![4096, 512]⟩
abbrev S3x512 : Shape := ⟨2, ![3, 512]⟩
abbrev S_ : Shape := ⟨0, ![]⟩
abbrev S2x512 : Shape := ⟨2, ![2, 512]⟩
abbrev S4098x512 : Shape := ⟨2, ![4098, 512]⟩
abbrev S1x512 : Shape := ⟨2, ![1, 512]⟩
abbrev S512 : Shape := ⟨1, ![512]⟩

abbrev nBuf : Space → Nat
  | .hbm => 85
  | .vmem => 0
  | .smem => 0
  | _ => 0

abbrev bufTy : (tb : Table) → Fin (tcTables nBuf tb) → BufTy
  | .hbm, ⟨0, _⟩ => ⟨S4096x7168, .f32⟩
  | .hbm, ⟨1, _⟩ => ⟨S4096x512, .f32⟩
  | .hbm, ⟨2, _⟩ => ⟨S3x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S2x512, .f32⟩
  | .hbm, ⟨9, _⟩ => ⟨S4098x512, .f32⟩
  | .hbm, ⟨10, _⟩ => ⟨S_, .f32⟩
  | .hbm, ⟨11, _⟩ => ⟨S2x512, .f32⟩
  | .hbm, ⟨12, _⟩ => ⟨S1x512, .f32⟩
  | .hbm, ⟨13, _⟩ => ⟨S512, .f32⟩
  | .hbm, ⟨14, _⟩ => ⟨S1x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S1x512, .f32⟩
  | .hbm, ⟨19, _⟩ => ⟨S512, .f32⟩
  | .hbm, ⟨20, _⟩ => ⟨S1x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S1x512, .f32⟩
  | .hbm, ⟨26, _⟩ => ⟨S512, .f32⟩
  | .hbm, ⟨27, _⟩ => ⟨S1x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S_, .f32⟩
  | .hbm, ⟨39, _⟩ => ⟨S512, .f32⟩
  | .hbm, ⟨40, _⟩ => ⟨S1x512, .f32⟩
  | .hbm, ⟨41, _⟩ => ⟨S_, .f32⟩
  | .hbm, ⟨42, _⟩ => ⟨S4098x512, .f32⟩
  | .hbm, ⟨43, _⟩ => ⟨S_, .f32⟩
  | .hbm, ⟨44, _⟩ => ⟨S512, .f32⟩
  | .hbm, ⟨45, _⟩ => ⟨S1x512, .f32⟩
  | .hbm, ⟨46, _⟩ => ⟨S_, .f32⟩
  | .hbm, ⟨47, _⟩ => ⟨S3x512, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S_, .f32⟩
  | .hbm, ⟨52, _⟩ => ⟨S512, .f32⟩
  | .hbm, ⟨53, _⟩ => ⟨S1x512, .f32⟩
  | .hbm, ⟨54, _⟩ => ⟨S_, .f32⟩
  | .hbm, ⟨55, _⟩ => ⟨S4098x512, .f32⟩
  | .hbm, ⟨56, _⟩ => ⟨S4098x512, .f32⟩
  | .hbm, ⟨57, _⟩ => ⟨S_, .f32⟩
  | .hbm, ⟨58, _⟩ => ⟨S512, .f32⟩
  | .hbm, ⟨59, _⟩ => ⟨S1x512, .f32⟩
  | .hbm, ⟨60, _⟩ => ⟨S_, .f32⟩
  | .hbm, ⟨61, _⟩ => ⟨S3x512, .f32⟩
  | .hbm, ⟨62, _⟩ => ⟨S3x512, .f32⟩
  | .hbm, ⟨63, _⟩ => ⟨S4096x512, .f32⟩
  | .hbm, ⟨64, _⟩ => ⟨S4096x512, .f32⟩
  | .hbm, ⟨65, _⟩ => ⟨S4096x512, .f32⟩
  | .hbm, ⟨66, _⟩ => ⟨S_, .f32⟩
  | .hbm, ⟨67, _⟩ => ⟨S512, .f32⟩
  | .hbm, ⟨68, _⟩ => ⟨S1x512, .f32⟩
  | .hbm, ⟨69, _⟩ => ⟨S_, .f32⟩
  | .hbm, ⟨70, _⟩ => ⟨S4098x512, .f32⟩
  | .hbm, ⟨71, _⟩ => ⟨S4098x512, .f32⟩
  | .hbm, ⟨72, _⟩ => ⟨S_, .f32⟩
  | .hbm, ⟨73, _⟩ => ⟨S512, .f32⟩
  | .hbm, ⟨74, _⟩ => ⟨S1x512, .f32⟩
  | .hbm, ⟨75, _⟩ => ⟨S_, .f32⟩
  | .hbm, ⟨76, _⟩ => ⟨S3x512, .f32⟩
  | .hbm, ⟨77, _⟩ => ⟨S3x512, .f32⟩
  | .hbm, ⟨78, _⟩ => ⟨S2x512, .f32⟩
  | .hbm, ⟨79, _⟩ => ⟨S4096x512, .f32⟩
  | .hbm, ⟨80, _⟩ => ⟨S4096x512, .f32⟩
  | .hbm, ⟨81, _⟩ => ⟨S4096x512, .f32⟩
  | .hbm, ⟨82, _⟩ => ⟨S4096x512, .bf16⟩
  | .hbm, ⟨83, _⟩ => ⟨S4096x512, .bf16⟩
  | .hbm, ⟨84, _⟩ => ⟨S4096x512, .bf16⟩
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== Kernel6.lean ====
abbrev S4096x1024 : Shape := ⟨2, ![4096, 1024]⟩
abbrev S256x1024 : Shape := ⟨2, ![256, 1024]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S256x1024, .bf16⟩
  | .hbm, ⟨3, _⟩ => ⟨S4096x1024, .bf16⟩
  | .hbm, ⟨4, _⟩ => ⟨S4096x1024, .bf16⟩
  | .hbm, ⟨5, _⟩ => ⟨S256x1024, .f32⟩
  | .hbm, ⟨6, _⟩ => ⟨S256x1024, .f32⟩
  | .local _ .vmem, ⟨0, _⟩ => ⟨S2048x256, .bf16⟩
  | .local _ .vmem, ⟨1, _⟩ => ⟨S2048x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference6Ideal.lean ====
abbrev S4096x1024 : Shape := ⟨2, ![4096, 1024]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S256x1024, .bf16⟩
  | .hbm, ⟨3, _⟩ => ⟨S4096x1024, .bf16⟩
  | .hbm, ⟨4, _⟩ => ⟨S4096x1024, .f32⟩
  | .hbm, ⟨5, _⟩ => ⟨S256x1024, .f32⟩
  | .hbm, ⟨6, _⟩ => ⟨S256x1024, .f32⟩
  | .hbm, ⟨7, _⟩ => ⟨S4096x1024, .f32⟩
  | .hbm, ⟨8, _⟩ => ⟨S4096x4x256, .f32⟩
  | .hbm, ⟨9, _⟩ => ⟨S256x4x256, .f32⟩
  | .hbm, ⟨10, _⟩ => ⟨S256x4x256, .f32⟩
  | .hbm, ⟨11, _⟩ => ⟨S4x4096x256, .f32⟩
  | .hbm, ⟨12, _⟩ => ⟨S_, .f32⟩
  | .hbm, ⟨13, _⟩ => ⟨S4x4096x256, .f32⟩
  | .hbm, ⟨14, _⟩ => ⟨S4x4096x256, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S4x4096x256, .f32⟩
  | .hbm, ⟨19, _⟩ => ⟨S4x4096x256, .i1⟩
  | .hbm, ⟨20, _⟩ => ⟨S4x4096x256, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .f32⟩
  | .hbm, ⟨26, _⟩ => ⟨S_, .f32⟩
  | .hbm, ⟨27, _⟩ => ⟨S4x4096, .f32⟩
  | .hbm, ⟨28, _⟩ => ⟨S4x4096, .i1⟩
  | .hbm, ⟨29, _⟩ => ⟨S_, .f32⟩
  | .hbm, ⟨30, _⟩ => ⟨S4x4096, .f32⟩
  | .hbm, ⟨31, _⟩ => ⟨S4x4096, .i1⟩
  | .hbm, ⟨32, _⟩ => ⟨S_, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S_, .f32⟩
  | .hbm, ⟨37, _⟩ => ⟨S4x4096, .f32⟩
  | .hbm, ⟨38, _⟩ => ⟨S4x4096, .f32⟩
  | .hbm, ⟨39, _⟩ => ⟨S4x4096, .f32⟩
  | .hbm, ⟨40, _⟩ => ⟨S4x4096x1, .f32⟩
  | .hbm, ⟨41, _⟩ => ⟨S4x4096x256, .f32⟩
  | .hbm, ⟨42, _⟩ => ⟨S4x4096x256, .f32⟩
  | .hbm, ⟨43, _⟩ => ⟨S4x4096x256, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S4x4096x256, .f32⟩
  | .hbm, ⟨48, _⟩ => ⟨S4x4096x256, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x256x4096, .f32⟩
  | .hbm, ⟨54, _⟩ => ⟨S4096x4x256, .f32⟩
  | .hbm, ⟨55, _⟩ => ⟨S4096x1024, .f32⟩
  | .hbm, ⟨56, _⟩ => ⟨S4096x4x256, .f32⟩
  | .hbm, ⟨57, _⟩ => ⟨S4x256x4096, .f32⟩
  | .hbm, ⟨58, _⟩ => ⟨S4x4096x256, .f32⟩
  | .hbm, ⟨59, _⟩ => ⟨S4x256x256, .f32⟩
  | .hbm, ⟨60, _⟩ => ⟨S256x4x256, .f32⟩
  | .hbm, ⟨61, _⟩ => ⟨S4x4096x256, .f32⟩
  | .hbm, ⟨62, _⟩ => ⟨S4x4096x256, .f32⟩
  | .hbm, ⟨63, _⟩ => ⟨S4x4096x256, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S4x4096x1, .f32⟩
  | .hbm, ⟨68, _⟩ => ⟨S4x4096x256, .f32⟩
  | .hbm, ⟨69, _⟩ => ⟨S4x4096x256, .f32⟩
  | .hbm, ⟨70, _⟩ => ⟨S_, .f32⟩
  | .hbm, ⟨71, _⟩ => ⟨S4x4096, .f32⟩
  | .hbm, ⟨72, _⟩ => ⟨S4x4096x256, .f32⟩
  | .hbm, ⟨73, _⟩ => ⟨S4x4096x256, .f32⟩
  | .hbm, ⟨74, _⟩ => ⟨S4x4096x256, .f32⟩
  | .hbm, ⟨75, _⟩ => ⟨S_, .f32⟩
  | .hbm, ⟨76, _⟩ => ⟨S4x4096x256, .f32⟩
  | .hbm, ⟨77, _⟩ => ⟨S4x4096x256, .f32⟩
  | .hbm, ⟨78, _⟩ => ⟨S4x256x256, .f32⟩
  | .hbm, ⟨79, _⟩ => ⟨S256x4x256, .f32⟩
  | .hbm, ⟨80, _⟩ => ⟨S4x4096x256, .f32⟩
  | .hbm, ⟨81, _⟩ => ⟨S4096x4x256, .f32⟩
  | .hbm, ⟨82, _⟩ => ⟨S256x1024, .f32⟩
  | .hbm, ⟨83, _⟩ => ⟨S256x1024, .f32⟩
  | .hbm, ⟨84, _⟩ => ⟨S4096x1024, .f32⟩
  | .hbm, ⟨85, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== Kernel3.lean ====
abbrev S4096x7168 : Shape := ⟨2, ![4096, 7168]⟩
abbrev S4096x512 : Shape := ⟨2, ![4096, 512]⟩
abbrev S512 : Shape := ⟨1, ![512]⟩
abbrev S4x128x128 : Shape := ⟨3, ![4, 128, 128]⟩
abbrev S4x128 : Shape := ⟨2, ![4, 128]⟩
abbrev S1x512 : Shape := ⟨2, ![1, 512]⟩
abbrev S4x128x1 : Shape := ⟨3, ![4, 128, 1]⟩
abbrev S4096x1024 : Shape := ⟨2, ![4096, 1024]⟩
abbrev S512x512 : Shape := ⟨2, ![512, 512]⟩
abbrev S512x1024 : Shape := ⟨2, ![512, 1024]⟩
abbrev S128x128 : Shape := ⟨2, ![128, 128]⟩
abbrev S512x1 : Shape := ⟨2, ![512, 1]⟩
abbrev S1x128x128 : Shape := ⟨3, ![1, 128, 128]⟩
abbrev S128x1 : Shape := ⟨2, ![128, 1]⟩
abbrev S1x128x1 : Shape := ⟨3, ![1, 128, 1]⟩
abbrev S128 : Shape := ⟨1, ![128]⟩

abbrev nBuf : Space → Nat
  | .hbm => 15
  | .vmem => 18
  | .smem => 0
  | _ => 0

abbrev bufTy : (tb : Table) → Fin (tcTables nBuf tb) → BufTy
  | .hbm, ⟨0, _⟩ => ⟨S4096x7168, .f32⟩
  | .hbm, ⟨1, _⟩ => ⟨S4096x512, .f32⟩
  | .hbm, ⟨2, _⟩ => ⟨S512, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S1x512, .f32⟩
  | .hbm, ⟨7, _⟩ => ⟨S1x512, .f32⟩
  | .hbm, ⟨8, _⟩ => ⟨S4x128x128, .f32⟩
  | .hbm, ⟨9, _⟩ => ⟨S4x128x1, .f32⟩
  | .hbm, ⟨10, _⟩ => ⟨S4096x1024, .bf16⟩
  | .hbm, ⟨11, _⟩ => ⟨S1x512, .f32⟩
  | .hbm, ⟨12, _⟩ => ⟨S1x512, .f32⟩
  | .hbm, ⟨13, _⟩ => ⟨S4x128x128, .f32⟩
  | .hbm, ⟨14, _⟩ => ⟨S4x128x1, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S4x128x128, .f32⟩
  | .local _ .vmem, ⟨9, _⟩ => ⟨S4x128x128, .f32⟩
  | .local _ .vmem, ⟨10, _⟩ => ⟨S4x128x1, .f32⟩
  | .local _ .vmem, ⟨11, _⟩ => ⟨S512x1024, .bf16⟩
  | .local _ .vmem, ⟨12, _⟩ => ⟨S512x1024, .bf16⟩
  | .local _ .vmem, ⟨13, _⟩ => ⟨S1x512, .f32⟩
  | .local _ .vmem, ⟨14, _⟩ => ⟨S1x512, .f32⟩
  | .local _ .vmem, ⟨15, _⟩ => ⟨S4x128x128, .f32⟩
  | .local _ .vmem, ⟨16, _⟩ => ⟨S4x128x1, .f32⟩
  | .local _ .vmem, ⟨17, _⟩ => ⟨S512x512, .f32⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Kernel3Ideal.lean ====
variable {F : FTy → Type} [FloatOps F] [Named F]
def κ : String → Option EReal := fun
  | "inv_sqrt2" => some (((Real.sqrt 2)⁻¹ : ℝ) : EReal)
  | "inv_sqrt2pi" => some (((9465531 / 16777216) * (Real.sqrt 2)⁻¹ : ℝ) : EReal)
  | _ => none
-- ==== Reference3Ideal.lean ====
abbrev S4096x7168 : Shape := ⟨2, ![4096, 7168]⟩
abbrev S4096x512 : Shape := ⟨2, ![4096, 512]⟩
abbrev S512 : Shape := ⟨1, ![512]⟩
abbrev S4x128x128 : Shape := ⟨3, ![4, 128, 128]⟩
abbrev S4x128 : Shape := ⟨2, ![4, 128]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x512 : Shape := ⟨2, ![1, 512]⟩
abbrev S32x128x4x128 : Shape := ⟨4, ![32, 128, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x32x128x128 : Shape := ⟨4, ![4, 32, 128, 128]⟩
abbrev S128x4 : Shape := ⟨2, ![128, 4]⟩
abbrev S1x128x4x1 : Shape := ⟨4, ![1, 128, 4, 1]⟩
abbrev S4x128x1 : Shape := ⟨3, ![4, 128, 1]⟩

abbrev nBuf : Space → Nat
  | .hbm => 192
  | .vmem => 0
  | .smem => 0
  | _ => 0

abbrev hbmTy0_0 (i : Nat) : BufTy := match i % 128 with
  | 0 => ⟨S4096x7168, .f32⟩
  | 1 => ⟨S4096x512, .f32⟩
  | 2 => ⟨S512, .f32⟩
  | 3 => ⟨S512, .f32⟩
  | 4 => ⟨S4x128x128, .f32⟩
  | 5 => ⟨S4x128, .f32⟩
  | 6 => ⟨S4096x1024, .f32⟩
  | 7 => ⟨S_, .f32⟩
  | 8 => ⟨S4096x1024, .f32⟩
  | 9 => ⟨S4096x1024, .f32⟩
  | 10 => ⟨S4096x1024, .f32⟩
  | 11 => ⟨S_, .f32⟩
  | 12 => ⟨S_, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S4096x1024, .f32⟩
  | 19 => ⟨S4096x1024, .f32⟩
  | 20 => ⟨S4096x512, .f32⟩
  | 21 => ⟨S4096x512, .f32⟩
  | 22 => ⟨S_, .f32⟩
  | 23 => ⟨S4096, .f32⟩
  | 24 => ⟨S4096x1, .f32⟩
  | 25 => ⟨S_, .f32⟩
  | 26 => ⟨S4096x1, .f32⟩
  | 27 => ⟨S4096x1, .f32⟩
  | 28 => ⟨S4096x512, .f32⟩
  | 29 => ⟨S4096x512, .f32⟩
  | 30 => ⟨S4096x512, .f32⟩
  | 31 => ⟨S_, .f32⟩
  | 32 => ⟨S4096, .f32⟩
  | 33 => ⟨S4096x1, .f32⟩
  | 34 => ⟨S_, .f32⟩
  | 35 => ⟨S4096x1, .f32⟩
  | 36 => ⟨S4096x1, .f32⟩
  | 37 => ⟨S_, .f32⟩
  | 38 => ⟨S4096x1, .f32⟩
  | 39 => ⟨S4096x1, .f32⟩
  | 40 => ⟨S4096x1, .f32⟩
  | 41 => ⟨S4096x1, .f32⟩
  | 42 => ⟨S_, .f32⟩
  | 43 => ⟨S4096x1, .f32⟩
  | 44 => ⟨S4096x1, .f32⟩
  | 45 => ⟨S4096x512, .f32⟩
  | 46 => ⟨S4096x512, .f32⟩
  | 47 => ⟨S1x512, .f32⟩
  | 48 => ⟨S4096x512, .f32⟩
  | 49 => ⟨S4096x512, .f32⟩
  | 50 => ⟨S1x512, .f32⟩
  | 51 => ⟨S4096x512, .f32⟩
  | 52 => ⟨S4096x512, .f32⟩
  | 53 => ⟨S32x128x4x128, .f32⟩
  | 54 => ⟨S128, .i32⟩
  | 55 => ⟨S128x1, .i32⟩
  | 56 => ⟨S_, .i32⟩
  | 57 => ⟨S_, .i32⟩
  | 58 => ⟨S128x1, .i32⟩
  | 59 => ⟨S128x1, .i32⟩
  | 60 => ⟨S128x1, .i32⟩
  | 61 => ⟨S_, .i32⟩
  | 62 => ⟨S128x1, .i32⟩
  | 63 => ⟨S128x1, .i1⟩
  | 64 => ⟨S128x1, .i32⟩
  | 65 => ⟨S128x1, .i32⟩
  | 66 => ⟨S_, .i32⟩
  | 67 => ⟨S128x1, .i32⟩
  | 68 => ⟨S128x1, .i1⟩
  | 69 => ⟨S128x1, .i1⟩
  | 70 => ⟨S_, .i32⟩
  | 71 => ⟨S128x1, .i32⟩
  | 72 => ⟨S128x1, .i32⟩
  | 73 => ⟨S128x1, .i32⟩
  | 74 => ⟨S1x128, .i32⟩
  | 75 => ⟨S_, .i32⟩
  | 76 => ⟨S_, .i32⟩
  | 77 => ⟨S1x128, .i32⟩
  | 78 => ⟨S1x128, .i32⟩
  | 79 => ⟨S1x128, .i32⟩
  | 80 => ⟨S_, .i32⟩
  | 81 => ⟨S1x128, .i32⟩
  | 82 => ⟨S1x128, .i1⟩
  | 83 => ⟨S1x128, .i32⟩
  | 84 => ⟨S1x128, .i32⟩
  | 85 => ⟨S_, .i32⟩
  | 86 => ⟨S1x128, .i32⟩
  | 87 => ⟨S1x128, .i1⟩
  | 88 => ⟨S1x128, .i1⟩
  | 89 => ⟨S_, .i32⟩
  | 90 => ⟨S1x128, .i32⟩
  | 91 => ⟨S1x128, .i32⟩
  | 92 => ⟨S1x128, .i32⟩
  | 93 => ⟨S128x128, .i32⟩
  | 94 => ⟨S128x128, .i32⟩
  | 95 => ⟨S128x128, .i1⟩
  | 96 => ⟨S1x128x128, .i1⟩
  | 97 => ⟨S_, .f32⟩
  | 98 => ⟨S_, .f32⟩
  | 99 => ⟨S4x128x128, .i1⟩
  | 100 => ⟨S4x128x128, .f32⟩
  | 101 => ⟨S4x128x128, .f32⟩
  | 102 => ⟨S_, .f32⟩
  | 103 => ⟨S4x128x128, .f32⟩
  | 104 => ⟨S4x32x128x128, .f32⟩
  | 105 => ⟨S32x128x4x128, .f32⟩
  | 106 => ⟨S128x4, .f32⟩
  | 107 => ⟨S1x128x4x1, .f32⟩
  | 108 => ⟨S32x128x4x128, .f32⟩
  | 109 => ⟨S32x128x4x128, .f32⟩
  | 110 => ⟨S4096x512, .f32⟩
  | 111 => ⟨S4096x512, .f32⟩
  | 112 => ⟨S4096x512, .f32⟩
  | 113 => ⟨S4096x512, .f32⟩
  | 114 => ⟨S32x128x4x128, .f32⟩
  | 115 => ⟨S_, .f32⟩
  | 116 => ⟨S128x4, .f32⟩
  | 117 => ⟨S1x128x4x1, .f32⟩
  | 118 => ⟨S_, .f32⟩
  | 119 => ⟨S128x4, .f32⟩
  | 120 => ⟨S4x128, .f32⟩
  | 121 => ⟨S4x32x128x128, .f32⟩
  | 122 => ⟨S4x128x128, .f32⟩
  | 123 => ⟨S4x32x128x128, .f32⟩
  | 124 => ⟨S32x128x4x128, .f32⟩
  | 125 => ⟨S_, .f32⟩
  | 126 => ⟨S4x128x128, .f32⟩
  | 127 => ⟨S4x128x128, .f32⟩
  | _ => ⟨S4096x7168, .f32⟩

abbrev hbmTy0_1 (i : Nat) : BufTy := match i % 128 with
  | 0 => ⟨S4096x512, .f32⟩
  | 1 => ⟨S_, .f32⟩
  | 2 => ⟨S512, .f32⟩
  | 3 => ⟨S1x512, .f32⟩
  | 4 => ⟨S_, .f32⟩
  | 5 => ⟨S512, .f32⟩
  | 6 => ⟨S4096x512, .f32⟩
  | 7 => ⟨S_, .f32⟩
  | 8 => ⟨S512, .f32⟩
  | 9 => ⟨S1x512, .f32⟩
  | 10 => ⟨S4096x512, .f32⟩
  | 11 => ⟨S4096x512, .f32⟩
  | 12 => ⟨S_, .f32⟩
  | 13 => ⟨S512, .f32⟩
  | 14 => ⟨S4096x512, .f32⟩
  | 15 => ⟨S_, .f32⟩
  | 16 => ⟨S4096, .f32⟩
  | 17 => ⟨S4096x1, .f32⟩
  | 18 => ⟨S4096x512, .f32⟩
  | 19 => ⟨S4096x512, .f32⟩
  | 20 => ⟨S4096x1, .f32⟩
  | 21 => ⟨S_, .f32⟩
  | 22 => ⟨S4096x1, .f32⟩
  | 23 => ⟨S4096x1, .f32⟩
  | 24 => ⟨S_, .f32⟩
  | 25 => ⟨S4096, .f32⟩
  | 26 => ⟨S4096x512, .f32⟩
  | 27 => ⟨S4096x512, .f32⟩
  | 28 => ⟨S4096x512, .f32⟩
  | 29 => ⟨S4096x512, .f32⟩
  | 30 => ⟨S4096x512, .f32⟩
  | 31 => ⟨S4096x512, .f32⟩
  | 32 => ⟨S_, .f32⟩
  | 33 => ⟨S4096, .f32⟩
  | 34 => ⟨S4096x1, .f32⟩
  | 35 => ⟨S_, .f32⟩
  | 36 => ⟨S4096x1, .f32⟩
  | 37 => ⟨S4096x1, .f32⟩
  | 38 => ⟨S_, .f32⟩
  | 39 => ⟨S4096, .f32⟩
  | 40 => ⟨S4096x512, .f32⟩
  | 41 => ⟨S4096x512, .f32⟩
  | 42 => ⟨S_, .f32⟩
  | 43 => ⟨S4096x1024, .f32⟩
  | 44 => ⟨S_, .f32⟩
  | 45 => ⟨S4096x1024, .f32⟩
  | 46 => ⟨S4096x1024, .f32⟩
  | 47 => ⟨S4096x1024, .f32⟩
  | 48 => ⟨S4096x1024, .f32⟩
  | 49 => ⟨S_, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S_, .f32⟩
  | 57 => ⟨S4096x1024, .f32⟩
  | 58 => ⟨S4096x1024, .f32⟩
  | 59 => ⟨S4096x1024, .f32⟩
  | 60 => ⟨S4096x1024, .bf16⟩
  | 61 => ⟨S1x512, .f32⟩
  | 62 => ⟨S1x512, .f32⟩
  | 63 => ⟨S4x128x1, .f32⟩
  | _ => ⟨S4096x7168, .f32⟩

abbrev hbmTy (i : Nat) : BufTy := match i / 128 with
  | 0 => hbmTy0_0 i
  | 1 => hbmTy0_1 i
  | _ => ⟨S4096x7168, .f32⟩

abbrev bufTy : (tb : Table) → Fin (tcTables nBuf tb) → BufTy
  | .hbm, ⟨i, _⟩ => hbmTy i
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_v6 : Ref sig .tc := ⟨.hbm, 63, rfl⟩
abbrev main_call0_v7 : Ref sig .tc := ⟨.hbm, 64, rfl⟩
abbrev main_call0_v8 : Ref sig .tc := ⟨.hbm, 65, rfl⟩
abbrev main_call0_c : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_c_0 : Ref sig .tc := ⟨.hbm, 70, rfl⟩
abbrev main_call0_v12 : Ref sig .tc := ⟨.hbm, 71, rfl⟩
abbrev main_call0_v13 : Ref sig .tc := ⟨.hbm, 72, rfl⟩
abbrev main_v42 : Ref sig .tc := ⟨.hbm, 73, rfl⟩
abbrev main_v43 : Ref sig .tc := ⟨.hbm, 74, rfl⟩
abbrev main_c_7 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_v8 : Ref sig .tc := ⟨.hbm, 84, rfl⟩
abbrev main_call1_c : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_c_0 : Ref sig .tc := ⟨.hbm, 89, rfl⟩
abbrev main_call1_v12 : Ref sig .tc := ⟨.hbm, 90, rfl⟩
abbrev main_call1_v13 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_cst_8 : Ref sig .tc := ⟨.hbm, 97, rfl⟩
abbrev main_call2_v0 : Ref sig .tc := ⟨.hbm, 98, rfl⟩
abbrev main_v49_1 : Ref sig .tc := ⟨.hbm, 99, rfl⟩
abbrev main_call2_v2 : Ref sig .tc := ⟨.hbm, 100, rfl⟩
abbrev main_v49_0 : Ref sig .tc := ⟨.hbm, 101, rfl⟩
abbrev main_call2_cst : Ref sig .tc := ⟨.hbm, 102, rfl⟩
abbrev main_v49_2 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_cst_9 : Ref sig .tc := ⟨.hbm, 115, rfl⟩
abbrev main_v61 : Ref sig .tc := ⟨.hbm, 116, rfl⟩
abbrev main_v62 : Ref sig .tc := ⟨.hbm, 117, rfl⟩
abbrev main_cst_10 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_call3_cst : Ref sig .tc := ⟨.hbm, 125, rfl⟩
abbrev main_call3_v0 : Ref sig .tc := ⟨.hbm, 126, rfl⟩
abbrev main_v69 : Ref sig .tc := ⟨.hbm, 127, rfl⟩
abbrev main_v70 : Ref sig .tc := ⟨.hbm, 128, rfl⟩
abbrev main_cst_11 : Ref sig .tc := ⟨.hbm, 129, rfl⟩
abbrev main_v71 : Ref sig .tc := ⟨.hbm, 130, rfl⟩
abbrev main_v72 : Ref sig .tc := ⟨.hbm, 131, rfl⟩
abbrev main_cst_12 : Ref sig .tc := ⟨.hbm, 132, rfl⟩
abbrev main_v73 : Ref sig .tc := ⟨.hbm, 133, rfl⟩
abbrev main_v74 : Ref sig .tc := ⟨.hbm, 134, rfl⟩
abbrev main_cst_13 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_cst_14 : Ref sig .tc := ⟨.hbm, 140, rfl⟩
abbrev main_v79 : Ref sig .tc := ⟨.hbm, 141, rfl⟩
abbrev main_v80 : Ref sig .tc := ⟨.hbm, 142, rfl⟩
abbrev main_cst_15 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_cst_16 : Ref sig .tc := ⟨.hbm, 149, rfl⟩
abbrev main_v86 : Ref sig .tc := ⟨.hbm, 150, rfl⟩
abbrev main_v87 : Ref sig .tc := ⟨.hbm, 151, rfl⟩
abbrev main_cst_17 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_cst_18 : Ref sig .tc := ⟨.hbm, 160, rfl⟩
abbrev main_v95 : Ref sig .tc := ⟨.hbm, 161, rfl⟩
abbrev main_v96 : Ref sig .tc := ⟨.hbm, 162, rfl⟩
abbrev main_cst_19 : Ref sig .tc := ⟨.hbm, 163, rfl⟩
abbrev main_v97 : Ref sig .tc := ⟨.hbm, 164, rfl⟩
abbrev main_v98 : Ref sig .tc := ⟨.hbm, 165, rfl⟩
abbrev main_cst_20 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_cst_21 : Ref sig .tc := ⟨.hbm, 170, rfl⟩
abbrev main_v102 : Ref sig .tc := ⟨.hbm, 171, rfl⟩
abbrev main_cst_22 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_cst_23 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_cst_24 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩

abbrev nD : Nat := 1
abbrev τ : Topo := Topo.v7x

variable {F : FTy → Type} [FloatOps F]
-- ==== Kernel12.lean ====
abbrev S4096x7168 : Shape := ⟨2, ![4096, 7168]⟩
abbrev S4096x512 : Shape := ⟨2, ![4096, 512]⟩
abbrev S4x4096x128 : Shape := ⟨3, ![4, 4096, 128]⟩
abbrev S512x128 : Shape := ⟨2, ![512, 128]⟩
abbrev S4096x128 : Shape := ⟨2, ![4096, 128]⟩
abbrev S1x512x128 : Shape := ⟨3, ![1, 512, 128]⟩
abbrev S512x1024 : Shape := ⟨2, ![512, 1024]⟩
abbrev S128x256 : Shape := ⟨2, ![128, 256]⟩
abbrev S1x128 : Shape := ⟨2, ![1, 128]⟩
abbrev S1024x128 : Shape := ⟨2, ![1024, 128]⟩
abbrev S512x256 : Shape := ⟨2, ![512, 256]⟩

abbrev nBuf : Space → Nat
  | .hbm => 4
  | .vmem => 12
  | .smem => 0
  | _ => 0

abbrev bufTy : (tb : Table) → Fin (tcTables nBuf tb) → BufTy
  | .hbm, ⟨0, _⟩ => ⟨S4096x7168, .f32⟩
  | .hbm, ⟨1, _⟩ => ⟨S4096x512, .bf16⟩
  | .hbm, ⟨2, _⟩ => ⟨S4x4096x128, .f32⟩
  | .hbm, ⟨3, _⟩ => ⟨S4x4096x128, .f32⟩
  | .local _ .vmem, ⟨0, _⟩ => ⟨S512x128, .f32⟩
  | .local _ .vmem, ⟨1, _⟩ => ⟨S512x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S512x128, .bf16⟩
  | .local _ .vmem, ⟨7, _⟩ => ⟨S512x128, .bf16⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let c1024_i32_15 : BitVec 32 := 1024#32
  let v54 : BitVec 32 := Scalar.muli v19 c1024_i32_15
  v54
def k0_off1 (i : grid0.Coords) : Fin 2 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let c1024_i32_15 : BitVec 32 := 1024#32
  let v54 : BitVec 32 := Scalar.muli v19 c1024_i32_15
  let v55 : BitVec 32 := v54
  let v56 : Index := Scalar.indexCast v55
  let c0_16 : Index := 0#32
  ![v56.toNat, 0]
@[reducible] def k0_t1_loop (i : grid0.Coords) : Scf.Loop 32 :=
  let c0_i32_73 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v316 : BitVec 32 := Scalar.subi v19 c0_i32_73
  let c1_i32_74 : BitVec 32 := 1#32
  let v318 : BitVec 32 := Scalar.divsi v316 c1_i32_74
  let v319 : BitVec 32 := Scalar.muli v318 c1_i32_74
  let v320 : BitVec 32 := Scalar.addi c0_i32_73 v319
  let c1_i32_75 : BitVec 32 := 1#32
  ⟨c0_i32_73, v320, c1_i32_75⟩
def k0_mult2 (i : grid0.Coords) (k0_t1 : Fin (k0_t1_loop i).trips) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let c1_i32_86 : BitVec 32 := 1#32
  let v334 : BitVec 32 := Scalar.subi v19 c1_i32_86
  let c0_i32_73 : BitVec 32 := 0#32
  let c1_i32_75 : BitVec 32 := 1#32
  let arg8 : BitVec 32 := Scf.iv c0_i32_73 c1_i32_75 k0_t1
  let v335 : BitVec 32 := Scalar.subi v334 arg8
  let c1024_i32_87 : BitVec 32 := 1024#32
  let v336 : BitVec 32 := Scalar.muli v335 c1024_i32_87
  v336
def k0_off2 (i : grid0.Coords) (k0_t1 : Fin (k0_t1_loop i).trips) : Fin 2 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let c1_i32_86 : BitVec 32 := 1#32
  let v334 : BitVec 32 := Scalar.subi v19 c1_i32_86
  let c0_i32_73 : BitVec 32 := 0#32
  let c1_i32_75 : BitVec 32 := 1#32
  let arg8 : BitVec 32 := Scf.iv c0_i32_73 c1_i32_75 k0_t1
  let v335 : BitVec 32 := Scalar.subi v334 arg8
  let c1024_i32_87 : BitVec 32 := 1024#32
  let v336 : BitVec 32 := Scalar.muli v335 c1024_i32_87
  let v337 : BitVec 32 := v336
  let v338 : Index := Scalar.indexCast v337
  let c0_88 : Index := 0#32
  ![v338.toNat, 0]
@[reducible] def k0_t2_loop (i : grid0.Coords) : Scf.Loop 32 :=
  let c0_i32_73 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v316 : BitVec 32 := Scalar.subi v19 c0_i32_73
  let c1_i32_74 : BitVec 32 := 1#32
  let v318 : BitVec 32 := Scalar.divsi v316 c1_i32_74
  let v319 : BitVec 32 := Scalar.muli v318 c1_i32_74
  let v320 : BitVec 32 := Scalar.addi c0_i32_73 v319
  let v317 : BitVec 32 := Scalar.addi c0_i32_73 v316
  let c1_i32_76 : BitVec 32 := 1#32
  ⟨v320, v317, c1_i32_76⟩
def k0_mult3 (i : grid0.Coords) (k0_t2 : Fin (k0_t2_loop i).trips) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let c1_i32_86 : BitVec 32 := 1#32
  let v334 : BitVec 32 := Scalar.subi v19 c1_i32_86
  let c0_i32_73 : BitVec 32 := 0#32
  let v316 : BitVec 32 := Scalar.subi v19 c0_i32_73
  let c1_i32_74 : BitVec 32 := 1#32
  let v318 : BitVec 32 := Scalar.divsi v316 c1_i32_74
  let v319 : BitVec 32 := Scalar.muli v318 c1_i32_74
  let v320 : BitVec 32 := Scalar.addi c0_i32_73 v319
  let c1_i32_76 : BitVec 32 := 1#32
  let arg8 : BitVec 32 := Scf.iv v320 c1_i32_76 k0_t2
  let v335 : BitVec 32 := Scalar.subi v334 arg8
  let c1024_i32_87 : BitVec 32 := 1024#32
  let v336 : BitVec 32 := Scalar.muli v335 c1024_i32_87
  v336
def k0_off3 (i : grid0.Coords) (k0_t2 : Fin (k0_t2_loop i).trips) : Fin 2 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let c1_i32_86 : BitVec 32 := 1#32
  let v334 : BitVec 32 := Scalar.subi v19 c1_i32_86
  let c0_i32_73 : BitVec 32 := 0#32
  let v316 : BitVec 32 := Scalar.subi v19 c0_i32_73
  let c1_i32_74 : BitVec 32 := 1#32
  let v318 : BitVec 32 := Scalar.divsi v316 c1_i32_74
  let v319 : BitVec 32 := Scalar.muli v318 c1_i32_74
  let v320 : BitVec 32 := Scalar.addi c0_i32_73 v319
  let c1_i32_76 : BitVec 32 := 1#32
  let arg8 : BitVec 32 := Scf.iv v320 c1_i32_76 k0_t2
  let v335 : BitVec 32 := Scalar.subi v334 arg8
  let c1024_i32_87 : BitVec 32 := 1024#32
  let v336 : BitVec 32 := Scalar.muli v335 c1024_i32_87
  let v337 : BitVec 32 := v336
  let v338 : Index := Scalar.indexCast v337
  let c0_88 : Index := 0#32
  ![v338.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference12Ideal.lean ====
abbrev S4096x7168 : Shape := ⟨2, ![4096, 7168]⟩
abbrev S4096x512 : Shape := ⟨2, ![4096, 512]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S128 : Shape := ⟨1, ![128]⟩
abbrev S1x128 : Shape := ⟨2, ![1, 128]⟩
abbrev S4096x128 : Shape := ⟨2, ![4096, 128]⟩
abbrev S8x4096x128 : Shape := ⟨3, ![8, 4096, 128]⟩
abbrev S4x2x4096x128 : Shape := ⟨4, ![4, 2, 4096, 128]⟩
abbrev S4x1x4096x128 : Shape := ⟨4, ![4, 1, 4096, 128]⟩
abbrev S4x4096x128 : Shape := ⟨3, ![4, 4096, 128]⟩

abbrev nBuf : Space → Nat
  | .hbm => 131
  | .vmem => 0
  | .smem => 0
  | _ => 0

abbrev hbmTy0_0 (i : Nat) : BufTy := match i % 128 with
  | 0 => ⟨S4096x7168, .f32⟩
  | 1 => ⟨S4096x512, .f32⟩
  | 2 => ⟨S4096x512, .f32⟩
  | 3 => ⟨S4096x512, .f32⟩
  | 4 => ⟨S4096x8x64, .f32⟩
  | 5 => ⟨S8x4096x64, .f32⟩
  | 6 => ⟨S4096x8x64, .f32⟩
  | 7 => ⟨S8x4096x64, .f32⟩
  | 8 => ⟨S8x4096x4096, .f32⟩
  | 9 => ⟨S_, .f32⟩
  | 10 => ⟨S8x4096x4096, .f32⟩
  | 11 => ⟨S8x4096x4096, .f32⟩
  | 12 => ⟨S4096, .i32⟩
  | 13 => ⟨S1x4096, .i32⟩
  | 14 => ⟨S4096, .i32⟩
  | 15 => ⟨S4096x1, .i32⟩
  | 16 => ⟨S4096x4096, .i32⟩
  | 17 => ⟨S4096x4096, .i32⟩
  | 18 => ⟨S4096x4096, .i1⟩
  | 19 => ⟨S8x4096x4096, .f32⟩
  | 20 => ⟨S8x4096x4096, .f32⟩
  | 21 => ⟨S_, .f32⟩
  | 22 => ⟨S8x4096x4096, .f32⟩
  | 23 => ⟨S8x4096x4096, .f32⟩
  | 24 => ⟨S8x4096x4096, .f32⟩
  | 25 => ⟨S8x4096x4096, .f32⟩
  | 26 => ⟨S8x4096x4096, .i1⟩
  | 27 => ⟨S8x4096x4096, .f32⟩
  | 28 => ⟨S8x4096x4096, .f32⟩
  | 29 => ⟨S8x4096x4096, .f32⟩
  | 30 => ⟨S8x4096x4096, .f32⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S_, .f32⟩
  | 37 => ⟨S_, .f32⟩
  | 38 => ⟨S8x4096x4096, .i1⟩
  | 39 => ⟨S8x4096x4096, .f32⟩
  | 40 => ⟨S8x4096x4096, .f32⟩
  | 41 => ⟨S4096, .i32⟩
  | 42 => ⟨S4096x1, .i32⟩
  | 43 => ⟨S128, .i32⟩
  | 44 => ⟨S1x128, .i32⟩
  | 45 => ⟨S_, .i32⟩
  | 46 => ⟨S1x128, .i32⟩
  | 47 => ⟨S1x128, .i32⟩
  | 48 => ⟨S_, .i32⟩
  | 49 => ⟨S1x128, .i32⟩
  | 50 => ⟨S1x128, .i32⟩
  | 51 => ⟨S4096x128, .i32⟩
  | 52 => ⟨S4096x128, .i32⟩
  | 53 => ⟨S4096x128, .i1⟩
  | 54 => ⟨S4096x128, .f32⟩
  | 55 => ⟨S8x4096x128, .f32⟩
  | 56 => ⟨S4x2x4096x128, .f32⟩
  | 57 => ⟨S4096x8x64, .f32⟩
  | 58 => ⟨S8x4096x64, .f32⟩
  | 59 => ⟨S4096x8x64, .f32⟩
  | 60 => ⟨S8x4096x64, .f32⟩
  | 61 => ⟨S4096x8x64, .f32⟩
  | 62 => ⟨S8x4096x64, .f32⟩
  | 63 => ⟨S8x4096x4096, .f32⟩
  | 64 => ⟨S_, .f32⟩
  | 65 => ⟨S8x4096x4096, .f32⟩
  | 66 => ⟨S8x4096x4096, .f32⟩
  | 67 => ⟨S4096, .i32⟩
  | 68 => ⟨S1x4096, .i32⟩
  | 69 => ⟨S4096, .i32⟩
  | 70 => ⟨S4096x1, .i32⟩
  | 71 => ⟨S4096x4096, .i32⟩
  | 72 => ⟨S4096x4096, .i32⟩
  | 73 => ⟨S4096x4096, .i1⟩
  | 74 => ⟨S8x4096x4096, .f32⟩
  | 75 => ⟨S8x4096x4096, .f32⟩
  | 76 => ⟨S_, .f32⟩
  | 77 => ⟨S8x4096x4096, .f32⟩
  | 78 => ⟨S8x4096x4096, .f32⟩
  | 79 => ⟨S8x4096x4096, .f32⟩
  | 80 => ⟨S8x4096x4096, .f32⟩
  | 81 => ⟨S8x4096x4096, .i1⟩
  | 82 => ⟨S8x4096x4096, .f32⟩
  | 83 => ⟨S8x4096x4096, .f32⟩
  | 84 => ⟨S8x4096x4096, .f32⟩
  | 85 => ⟨S8x4096x4096, .f32⟩
  | 86 => ⟨S8x4096x4096, .f32⟩
  | 87 => ⟨S8x4096x4096, .f32⟩
  | 88 => ⟨S8x4096x4096, .f32⟩
  | 89 => ⟨S8x4096x4096, .f32⟩
  | 90 => ⟨S8x4096x4096, .f32⟩
  | 91 => ⟨S_, .f32⟩
  | 92 => ⟨S_, .f32⟩
  | 93 => ⟨S8x4096x4096, .i1⟩
  | 94 => ⟨S8x4096x4096, .f32⟩
  | 95 => ⟨S8x4096x4096, .f32⟩
  | 96 => ⟨S8x4096x4096, .f32⟩
  | 97 => ⟨S_, .f32⟩
  | 98 => ⟨S8x4096x4096, .f32⟩
  | 99 => ⟨S8x4096x4096, .f32⟩
  | 100 => ⟨S8x4096x4096, .f32⟩
  | 101 => ⟨S8x4096x4096, .f32⟩
  | 102 => ⟨S8x4096x4096, .i1⟩
  | 103 => ⟨S8x4096x4096, .f32⟩
  | 104 => ⟨S8x4096x4096, .f32⟩
  | 105 => ⟨S8x4096x4096, .f32⟩
  | 106 => ⟨S8x4096x4096, .f32⟩
  | 107 => ⟨S8x4096x4096, .f32⟩
  | 108 => ⟨S8x4096x4096, .f32⟩
  | 109 => ⟨S8x4096x4096, .f32⟩
  | 110 => ⟨S8x4096x4096, .f32⟩
  | 111 => ⟨S8x4096x4096, .f32⟩
  | 112 => ⟨S_, .f32⟩
  | 113 => ⟨S_, .f32⟩
  | 114 => ⟨S8x4096x4096, .f32⟩
  | 115 => ⟨S8x4096x4096, .f32⟩
  | 116 => ⟨S8x4096x4096, .f32⟩
  | 117 => ⟨S8x4096x4096, .f32⟩
  | 118 => ⟨S_, .f32⟩
  | 119 => ⟨S_, .f32⟩
  | 120 => ⟨S8x4096x4096, .i1⟩
  | 121 => ⟨S8x4096x4096, .f32⟩
  | 122 => ⟨S8x4096x4096, .f32⟩
  | 123 => ⟨S8x4096x64, .f32⟩
  | 124 => ⟨S4096x8x64, .f32⟩
  | 125 => ⟨S4096x512, .f32⟩
  | 126 => ⟨S4096x512, .bf16⟩
  | 127 => ⟨S4x1x4096x128, .f32⟩
  | _ => ⟨S4096x7168, .f32⟩

abbrev hbmTy0_1 (i : Nat) : BufTy := match i % 128 with
  | 0 => ⟨S4x4096x128, .f32⟩
  | 1 => ⟨S4x1x4096x128, .f32⟩
  | 2 => ⟨S4x4096x128, .f32⟩
  | _ => ⟨S4096x7168, .f32⟩

abbrev hbmTy (i : Nat) : BufTy := match i / 128 with
  | 0 => hbmTy0_0 i
  | 1 => hbmTy0_1 i
  | _ => ⟨S4096x7168, .f32⟩

abbrev bufTy : (tb : Table) → Fin (tcTables nBuf tb) → BufTy
  | .hbm, ⟨i, _⟩ => hbmTy i
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v18 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c : Ref sig .tc := ⟨.hbm, 45, rfl⟩
abbrev main_v24 : Ref sig .tc := ⟨.hbm, 46, rfl⟩
abbrev main_v25 : Ref sig .tc := ⟨.hbm, 47, rfl⟩
abbrev main_c_1 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call2_v0 : Ref sig .tc := ⟨.hbm, 75, rfl⟩
abbrev main_call2_call0_cst : Ref sig .tc := ⟨.hbm, 76, rfl⟩
abbrev main_call2_call0_v0 : Ref sig .tc := ⟨.hbm, 77, rfl⟩
abbrev main_call2_call0_v1 : Ref sig .tc := ⟨.hbm, 78, rfl⟩
abbrev main_call2_call0_v2 : Ref sig .tc := ⟨.hbm, 79, rfl⟩
abbrev main_call2_call0_v3 : Ref sig .tc := ⟨.hbm, 80, rfl⟩
abbrev main_call2_call0_v4 : Ref sig .tc := ⟨.hbm, 81, rfl⟩
abbrev main_call2_call0_v5 : Ref sig .tc := ⟨.hbm, 82, rfl⟩
abbrev main_call2_call0_v6 : Ref sig .tc := ⟨.hbm, 83, rfl⟩
abbrev main_call2_call0_v7 : Ref sig .tc := ⟨.hbm, 84, rfl⟩
abbrev main_call2_call0_v8 : Ref sig .tc := ⟨.hbm, 85, rfl⟩
abbrev main_call2_call0_v9 : Ref sig .tc := ⟨.hbm, 86, rfl⟩
abbrev main_call2_call0_v10 : Ref sig .tc := ⟨.hbm, 87, rfl⟩
abbrev main_call2_call0_v11 : Ref sig .tc := ⟨.hbm, 88, rfl⟩
abbrev main_call2_v1 : Ref sig .tc := ⟨.hbm, 89, rfl⟩
abbrev main_v51 : Ref sig .tc := ⟨.hbm, 90, rfl⟩
abbrev main_cst_3 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v52 : Ref sig .tc := ⟨.hbm, 95, rfl⟩
abbrev main_call4_v0 : Ref sig .tc := ⟨.hbm, 96, rfl⟩
abbrev main_call4_call0_cst : Ref sig .tc := ⟨.hbm, 97, rfl⟩
abbrev main_call4_call0_v0 : Ref sig .tc := ⟨.hbm, 98, rfl⟩
abbrev main_call4_call0_v1 : Ref sig .tc := ⟨.hbm, 99, rfl⟩
abbrev main_call4_call0_v2 : Ref sig .tc := ⟨.hbm, 100, rfl⟩
abbrev main_call4_call0_v3 : Ref sig .tc := ⟨.hbm, 101, rfl⟩
abbrev main_call4_call0_v4 : Ref sig .tc := ⟨.hbm, 102, rfl⟩
abbrev main_call4_call0_v5 : Ref sig .tc := ⟨.hbm, 103, rfl⟩
abbrev main_call4_call0_v6 : Ref sig .tc := ⟨.hbm, 104, rfl⟩
abbrev main_call4_call0_v7 : Ref sig .tc := ⟨.hbm, 105, rfl⟩
abbrev main_call4_call0_v8 : Ref sig .tc := ⟨.hbm, 106, rfl⟩
abbrev main_call4_call0_v9 : Ref sig .tc := ⟨.hbm, 107, rfl⟩
abbrev main_call4_call0_v10 : Ref sig .tc := ⟨.hbm, 108, rfl⟩
abbrev main_call4_call0_v11 : Ref sig .tc := ⟨.hbm, 109, rfl⟩
abbrev main_call4_v1 : Ref sig .tc := ⟨.hbm, 110, rfl⟩
abbrev main_v53 : Ref sig .tc := ⟨.hbm, 111, rfl⟩
abbrev main_call5_cst : Ref sig .tc := ⟨.hbm, 112, rfl⟩
abbrev main_call5_v0 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_cst_4 : Ref sig .tc := ⟨.hbm, 118, rfl⟩
abbrev main_call6_v0 : Ref sig .tc := ⟨.hbm, 119, rfl⟩
abbrev main_call6_v1 : Ref sig .tc := ⟨.hbm, 120, rfl⟩
abbrev main_call6_v2 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩

abbrev nD : Nat := 1
abbrev τ : Topo := Topo.v7x

variable {F : FTy → Type} [FloatOps F]
-- ==== Kernel14.lean ====
abbrev S4096x1024 : Shape := ⟨2, ![4096, 1024]⟩
abbrev S256x1024 : Shape := ⟨2, ![256, 1024]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S256x1024, .bf16⟩
  | .hbm, ⟨3, _⟩ => ⟨S4096x1024, .bf16⟩
  | .local _ .vmem, ⟨0, _⟩ => ⟨S2048x256, .bf16⟩
  | .local _ .vmem, ⟨1, _⟩ => ⟨S2048x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S2048x256, .bf16⟩
  | .local _ .vmem, ⟨7, _⟩ => ⟨S2048x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference14Ideal.lean ====
abbrev S4096x1024 : Shape := ⟨2, ![4096, 1024]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S256x1024, .bf16⟩
  | .hbm, ⟨3, _⟩ => ⟨S4096x1024, .f32⟩
  | .hbm, ⟨4, _⟩ => ⟨S256x1024, .f32⟩
  | .hbm, ⟨5, _⟩ => ⟨S256x1024, .f32⟩
  | .hbm, ⟨6, _⟩ => ⟨S4096x4x256, .f32⟩
  | .hbm, ⟨7, _⟩ => ⟨S256x4x256, .f32⟩
  | .hbm, ⟨8, _⟩ => ⟨S256x4x256, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x256, .f32⟩
  | .hbm, ⟨20, _⟩ => ⟨S4x4096x256, .f32⟩
  | .hbm, ⟨21, _⟩ => ⟨S4x4096x256, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x256, .f32⟩
  | .hbm, ⟨26, _⟩ => ⟨S4x4096x256, .f32⟩
  | .hbm, ⟨27, _⟩ => ⟨S4x256x4096, .f32⟩
  | .hbm, ⟨28, _⟩ => ⟨S4096x4x256, .f32⟩
  | .hbm, ⟨29, _⟩ => ⟨S4096x1024, .f32⟩
  | .hbm, ⟨30, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel16.lean ====
abbrev S4096x7168 : Shape := ⟨2, ![4096, 7168]⟩
abbrev S512 : Shape := ⟨1, ![512]⟩
abbrev S4x128x128 : Shape := ⟨3, ![4, 128, 128]⟩
abbrev S4x128 : Shape := ⟨2, ![4, 128]⟩
abbrev S1x512 : Shape := ⟨2, ![1, 512]⟩
abbrev S4x128x1 : Shape := ⟨3, ![4, 128, 1]⟩
abbrev S4096x512 : Shape := ⟨2, ![4096, 512]⟩
abbrev S512x512 : Shape := ⟨2, ![512, 512]⟩
abbrev S128x128 : Shape := ⟨2, ![128, 128]⟩
abbrev S512x1 : Shape := ⟨2, ![512, 1]⟩
abbrev S1x128x128 : Shape := ⟨3, ![1, 128, 128]⟩
abbrev S1x128x1 : Shape := ⟨3, ![1, 128, 1]⟩
abbrev S128x1 : Shape := ⟨2, ![128, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x7168, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S1x512, .f32⟩
  | .hbm, ⟨6, _⟩ => ⟨S1x512, .f32⟩
  | .hbm, ⟨7, _⟩ => ⟨S4x128x1, .f32⟩
  | .hbm, ⟨8, _⟩ => ⟨S4096x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S4x128x1, .f32⟩
  | .local _ .vmem, ⟨8, _⟩ => ⟨S512x512, .bf16⟩
  | .local _ .vmem, ⟨9, _⟩ => ⟨S512x512, .bf16⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel16Ideal.lean ====
variable {F : FTy → Type} [FloatOps F] [Named F]
def κ : String → Option EReal := fun
  | "inv_sqrt2" => some (((Real.sqrt 2)⁻¹ : ℝ) : EReal)
  | _ => none
-- ==== Reference16Ideal.lean ====
abbrev S4096x7168 : Shape := ⟨2, ![4096, 7168]⟩
abbrev S512 : Shape := ⟨1, ![512]⟩
abbrev S4x128x128 : Shape := ⟨3, ![4, 128, 128]⟩
abbrev S4x128 : Shape := ⟨2, ![4, 128]⟩
abbrev S4096x1024 : Shape := ⟨2, ![4096, 1024]⟩
abbrev S_ : Shape := ⟨0, ![]⟩
abbrev S4096x512 : Shape := ⟨2, ![4096, 512]⟩
abbrev S4096 : Shape := ⟨1, ![4096]⟩
abbrev S4096x1 : Shape := ⟨2, ![4096, 1]⟩
abbrev S1x512 : Shape := ⟨2, ![1, 512]⟩
abbrev S32x128x4x128 : Shape := ⟨4, ![32, 128, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x32x128x128 : Shape := ⟨4, ![4, 32, 128, 128]⟩
abbrev S128x4 : Shape := ⟨2, ![128, 4]⟩
abbrev S1x128x4x1 : Shape := ⟨4, ![1, 128, 4, 1]⟩

abbrev nBuf : Space → Nat
  | .hbm => 103
  | .vmem => 0
  | .smem => 0
  | _ => 0

abbrev bufTy : (tb : Table) → Fin (tcTables nBuf tb) → BufTy
  | .hbm, ⟨0, _⟩ => ⟨S4096x7168, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x512, .f32⟩
  | .hbm, ⟨38, _⟩ => ⟨S4096x512, .f32⟩
  | .hbm, ⟨39, _⟩ => ⟨S1x512, .f32⟩
  | .hbm, ⟨40, _⟩ => ⟨S4096x512, .f32⟩
  | .hbm, ⟨41, _⟩ => ⟨S4096x512, .f32⟩
  | .hbm, ⟨42, _⟩ => ⟨S1x512, .f32⟩
  | .hbm, ⟨43, _⟩ => ⟨S4096x512, .f32⟩
  | .hbm, ⟨44, _⟩ => ⟨S4096x512, .f32⟩
  | .hbm, ⟨45, _⟩ => ⟨S32x128x4x128, .f32⟩
  | .hbm, ⟨46, _⟩ => ⟨S128, .i32⟩
  | .hbm, ⟨47, _⟩ => ⟨S128x1, .i32⟩
  | .hbm, ⟨48, _⟩ => ⟨S_, .i32⟩
  | .hbm, ⟨49, _⟩ => ⟨S_, .i32⟩
  | .hbm, ⟨50, _⟩ => ⟨S128x1, .i32⟩
  | .hbm, ⟨51, _⟩ => ⟨S128x1, .i32⟩
  | .hbm, ⟨52, _⟩ => ⟨S128x1, .i32⟩
  | .hbm, ⟨53, _⟩ => ⟨S_, .i32⟩
  | .hbm, ⟨54, _⟩ => ⟨S128x1, .i32⟩
  | .hbm, ⟨55, _⟩ => ⟨S128x1, .i1⟩
  | .hbm, ⟨56, _⟩ => ⟨S128x1, .i32⟩
  | .hbm, ⟨57, _⟩ => ⟨S128x1, .i32⟩
  | .hbm, ⟨58, _⟩ => ⟨S_, .i32⟩
  | .hbm, ⟨59, _⟩ => ⟨S128x1, .i32⟩
  | .hbm, ⟨60, _⟩ => ⟨S128x1, .i1⟩
  | .hbm, ⟨61, _⟩ => ⟨S128x1, .i1⟩
  | .hbm, ⟨62, _⟩ => ⟨S_, .i32⟩
  | .hbm, ⟨63, _⟩ => ⟨S128x1, .i32⟩
  | .hbm, ⟨64, _⟩ => ⟨S128x1, .i32⟩
  | .hbm, ⟨65, _⟩ => ⟨S128x1, .i32⟩
  | .hbm, ⟨66, _⟩ => ⟨S1x128, .i32⟩
  | .hbm, ⟨67, _⟩ => ⟨S_, .i32⟩
  | .hbm, ⟨68, _⟩ => ⟨S_, .i32⟩
  | .hbm, ⟨69, _⟩ => ⟨S1x128, .i32⟩
  | .hbm, ⟨70, _⟩ => ⟨S1x128, .i32⟩
  | .hbm, ⟨71, _⟩ => ⟨S1x128, .i32⟩
  | .hbm, ⟨72, _⟩ => ⟨S_, .i32⟩
  | .hbm, ⟨73, _⟩ => ⟨S1x128, .i32⟩
  | .hbm, ⟨74, _⟩ => ⟨S1x128, .i1⟩
  | .hbm, ⟨75, _⟩ => ⟨S1x128, .i32⟩
  | .hbm, ⟨76, _⟩ => ⟨S1x128, .i32⟩
  | .hbm, ⟨77, _⟩ => ⟨S_, .i32⟩
  | .hbm, ⟨78, _⟩ => ⟨S1x128, .i32⟩
  | .hbm, ⟨79, _⟩ => ⟨S1x128, .i1⟩
  | .hbm, ⟨80, _⟩ => ⟨S1x128, .i1⟩
  | .hbm, ⟨81, _⟩ => ⟨S_, .i32⟩
  | .hbm, ⟨82, _⟩ => ⟨S1x128, .i32⟩
  | .hbm, ⟨83, _⟩ => ⟨S1x128, .i32⟩
  | .hbm, ⟨84, _⟩ => ⟨S1x128, .i32⟩
  | .hbm, ⟨85, _⟩ => ⟨S128x128, .i32⟩
  | .hbm, ⟨86, _⟩ => ⟨S128x128, .i32⟩
  | .hbm, ⟨87, _⟩ => ⟨S128x128, .i1⟩
  | .hbm, ⟨88, _⟩ => ⟨S1x128x128, .i1⟩
  | .hbm, ⟨89, _⟩ => ⟨S_, .f32⟩
  | .hbm, ⟨90, _⟩ => ⟨S_, .f32⟩
  | .hbm, ⟨91, _⟩ => ⟨S4x128x128, .i1⟩
  | .hbm, ⟨92, _⟩ => ⟨S4x128x128, .f32⟩
  | .hbm, ⟨93, _⟩ => ⟨S4x128x128, .f32⟩
  | .hbm, ⟨94, _⟩ => ⟨S4x32x128x128, .f32⟩
  | .hbm, ⟨95, _⟩ => ⟨S32x128x4x128, .f32⟩
  | .hbm, ⟨96, _⟩ => ⟨S128x4, .f32⟩
  | .hbm, ⟨97, _⟩ => ⟨S1x128x4x1, .f32⟩
  | .hbm, ⟨98, _⟩ => ⟨S32x128x4x128, .f32⟩
  | .hbm, ⟨99, _⟩ => ⟨S32x128x4x128, .f32⟩
  | .hbm, ⟨100, _⟩ => ⟨S4096x512, .f32⟩
  | .hbm, ⟨101, _⟩ => ⟨S4096x512, .f32⟩
  | .hbm, ⟨102, _⟩ => ⟨S4096x512, .bf16⟩
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_c : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_c_0 : Ref sig .tc := ⟨.hbm, 62, rfl⟩
abbrev main_call0_v12 : Ref sig .tc := ⟨.hbm, 63, rfl⟩
abbrev main_call0_v13 : Ref sig .tc := ⟨.hbm, 64, rfl⟩
abbrev main_v36 : Ref sig .tc := ⟨.hbm, 65, rfl⟩
abbrev main_v37 : Ref sig .tc := ⟨.hbm, 66, rfl⟩
abbrev main_c_6 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_c : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_0 : Ref sig .tc := ⟨.hbm, 81, rfl⟩
abbrev main_call1_v12 : Ref sig .tc := ⟨.hbm, 82, rfl⟩
abbrev main_call1_v13 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_cst_7 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩

abbrev nD : Nat := 1
abbrev τ : Topo := Topo.v7x

variable {F : FTy → Type} [FloatOps F]
-- ==== Kernel17.lean ====
abbrev S4096x7168 : Shape := ⟨2, ![4096, 7168]⟩
abbrev S3x512 : Shape := ⟨2, ![3, 512]⟩
abbrev S4096x512 : Shape := ⟨2, ![4096, 512]⟩
abbrev S1024x128 : Shape := ⟨2, ![1024, 128]⟩
abbrev S8x128 : Shape := ⟨2, ![8, 128]⟩
abbrev S3x128 : Shape := ⟨2, ![3, 128]⟩
abbrev S1x128 : Shape := ⟨2, ![1, 128]⟩
abbrev S1016x128 : Shape := ⟨2, ![1016, 128]⟩

abbrev nBuf : Space → Nat
  | .hbm => 3
  | .vmem => 14
  | .smem => 0
  | _ => 0

abbrev bufTy : (tb : Table) → Fin (tcTables nBuf tb) → BufTy
  | .hbm, ⟨0, _⟩ => ⟨S4096x7168, .f32⟩
  | .hbm, ⟨1, _⟩ => ⟨S3x512, .f32⟩
  | .hbm, ⟨2, _⟩ => ⟨S4096x512, .bf16⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S3x128, .f32⟩
  | .local _ .vmem, ⟨11, _⟩ => ⟨S3x128, .f32⟩
  | .local _ .vmem, ⟨12, _⟩ => ⟨S1024x128, .bf16⟩
  | .local _ .vmem, ⟨13, _⟩ => ⟨S1024x128, .bf16⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c24_i32 : BitVec 32 := 24#32
  let v3 : BitVec 32 := Scalar.addi c24_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c28_i32 : BitVec 32 := 28#32
  let v3 : BitVec 32 := Scalar.addi c28_i32 arg0
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference17Ideal.lean ====
abbrev S4096x7168 : Shape := ⟨2, ![4096, 7168]⟩
abbrev S3x512 : Shape := ⟨2, ![3, 512]⟩
abbrev S4096x512 : Shape := ⟨2, ![4096, 512]⟩
abbrev S_ : Shape := ⟨0, ![]⟩
abbrev S2x512 : Shape := ⟨2, ![2, 512]⟩
abbrev S4098x512 : Shape := ⟨2, ![4098, 512]⟩
abbrev S1x512 : Shape := ⟨2, ![1, 512]⟩
abbrev S512 : Shape := ⟨1, ![512]⟩

abbrev nBuf : Space → Nat
  | .hbm => 31
  | .vmem => 0
  | .smem => 0
  | _ => 0

abbrev bufTy : (tb : Table) → Fin (tcTables nBuf tb) → BufTy
  | .hbm, ⟨0, _⟩ => ⟨S4096x7168, .f32⟩
  | .hbm, ⟨1, _⟩ => ⟨S3x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S_, .f32⟩
  | .hbm, ⟨7, _⟩ => ⟨S2x512, .f32⟩
  | .hbm, ⟨8, _⟩ => ⟨S4098x512, .f32⟩
  | .hbm, ⟨9, _⟩ => ⟨S1x512, .f32⟩
  | .hbm, ⟨10, _⟩ => ⟨S512, .f32⟩
  | .hbm, ⟨11, _⟩ => ⟨S1x512, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S1x512, .f32⟩
  | .hbm, ⟨16, _⟩ => ⟨S512, .f32⟩
  | .hbm, ⟨17, _⟩ => ⟨S1x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S1x512, .f32⟩
  | .hbm, ⟨23, _⟩ => ⟨S512, .f32⟩
  | .hbm, ⟨24, _⟩ => ⟨S1x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .bf16⟩
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩

abbrev nD : Nat := 1
abbrev τ : Topo := Topo.v7x

variable {F : FTy → Type} [FloatOps F]
-- ==== Kernel15.lean ====
abbrev S4096x512 : Shape := ⟨2, ![4096, 512]⟩
abbrev S3x512x1024 : Shape := ⟨3, ![3, 512, 1024]⟩
abbrev S4096x7168 : Shape := ⟨2, ![4096, 7168]⟩
abbrev S4096x1024 : Shape := ⟨2, ![4096, 1024]⟩
abbrev S512x512 : Shape := ⟨2, ![512, 512]⟩
abbrev S512x1024 : Shape := ⟨2, ![512, 1024]⟩
abbrev S1x512x1024 : Shape := ⟨3, ![1, 512, 1024]⟩

abbrev nBuf : Space → Nat
  | .hbm => 6
  | .vmem => 15
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S3x512x1024, .bf16⟩
  | .hbm, ⟨4, _⟩ => ⟨S4096x7168, .f32⟩
  | .hbm, ⟨5, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S3x512x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S4096x512 : Shape := ⟨2, ![4096, 512]⟩
abbrev S3x512x1024 : Shape := ⟨3, ![3, 512, 1024]⟩
abbrev S4096x7168 : Shape := ⟨2, ![4096, 7168]⟩
abbrev S4096x1x512 : Shape := ⟨3, ![4096, 1, 512]⟩
abbrev S4096x3x512 : Shape := ⟨3, ![4096, 3, 512]⟩
abbrev S3x1024x4096 : Shape := ⟨3, ![3, 1024, 4096]⟩
abbrev S4096x3x1024 : Shape := ⟨3, ![4096, 3, 1024]⟩
abbrev S4096x3072 : Shape := ⟨2, ![4096, 3072]⟩
abbrev S_ : Shape := ⟨0, ![]⟩
abbrev S4096x1024 : Shape := ⟨2, ![4096, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S3x512x1024, .bf16⟩
  | .hbm, ⟨4, _⟩ => ⟨S4096x7168, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S3x512x1024, .f32⟩
  | .hbm, ⟨9, _⟩ => ⟨S4096x1x512, .f32⟩
  | .hbm, ⟨10, _⟩ => ⟨S4096x1x512, .f32⟩
  | .hbm, ⟨11, _⟩ => ⟨S4096x1x512, .f32⟩
  | .hbm, ⟨12, _⟩ => ⟨S4096x3x512, .f32⟩
  | .hbm, ⟨13, _⟩ => ⟨S3x1024x4096, .f32⟩
  | .hbm, ⟨14, _⟩ => ⟨S4096x3x1024, .f32⟩
  | .hbm, ⟨15, _⟩ => ⟨S4096x3072, .f32⟩
  | .hbm, ⟨16, _⟩ => ⟨S4096x3x1024, .f32⟩
  | .hbm, ⟨17, _⟩ => ⟨S4096x3x1024, .f32⟩
  | .hbm, ⟨18, _⟩ => ⟨S4096x3x1024, .f32⟩
  | .hbm, ⟨19, _⟩ => ⟨S_, .f32⟩
  | .hbm, ⟨20, _⟩ => ⟨S4096x3x1024, .f32⟩
  | .hbm, ⟨21, _⟩ => ⟨S4096x3x1024, .f32⟩
  | .hbm, ⟨22, _⟩ => ⟨S_, .f32⟩
  | .hbm, ⟨23, _⟩ => ⟨S4096x3x1024, .f32⟩
  | .hbm, ⟨24, _⟩ => ⟨S4096x3x1024, .f32⟩
  | .hbm, ⟨25, _⟩ => ⟨S4096x3x1024, .f32⟩
  | .hbm, ⟨26, _⟩ => ⟨S_, .f32⟩
  | .hbm, ⟨27, _⟩ => ⟨S4096x1024, .f32⟩
  | .hbm, ⟨28, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel13.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S2816x1024, .bf16⟩
  | .hbm, ⟨5, _⟩ => ⟨S4096x2816, .bf16⟩
  | .hbm, ⟨6, _⟩ => ⟨S4096x2816, .bf16⟩
  | .hbm, ⟨7, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference13Ideal.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S1024x2816, .bf16⟩
  | .hbm, ⟨3, _⟩ => ⟨S4096x1024, .f32⟩
  | .hbm, ⟨4, _⟩ => ⟨S1024x2816, .f32⟩
  | .hbm, ⟨5, _⟩ => ⟨S1024x2816, .f32⟩
  | .hbm, ⟨6, _⟩ => ⟨S4096x2816, .f32⟩
  | .hbm, ⟨7, _⟩ => ⟨S4096x2816, .f32⟩
  | .hbm, ⟨8, _⟩ => ⟨S4096x2816, .bf16⟩
  | .hbm, ⟨9, _⟩ => ⟨S4096x2816, .bf16⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel18.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel19.lean ====
abbrev S4096x7168 : Shape := ⟨2, ![4096, 7168]⟩
abbrev S4096x1024 : Shape := ⟨2, ![4096, 1024]⟩
abbrev S7168x1024 : Shape := ⟨2, ![7168, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x7168, .bf16⟩
  | .hbm, ⟨1, _⟩ => ⟨S4096x1024, .bf16⟩
  | .hbm, ⟨2, _⟩ => ⟨S7168x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x7168 : Shape := ⟨2, ![4096, 7168]⟩
abbrev S4096x1024 : Shape := ⟨2, ![4096, 1024]⟩
abbrev S_ : Shape := ⟨0, ![]⟩
abbrev S1024x7168 : Shape := ⟨2, ![1024, 7168]⟩
abbrev S7168x1024 : Shape := ⟨2, ![7168, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x7168, .bf16⟩
  | .hbm, ⟨1, _⟩ => ⟨S4096x1024, .bf16⟩
  | .hbm, ⟨2, _⟩ => ⟨S4096x7168, .f32⟩
  | .hbm, ⟨3, _⟩ => ⟨S4096x1024, .f32⟩
  | .hbm, ⟨4, _⟩ => ⟨S_, .f32⟩
  | .hbm, ⟨5, _⟩ => ⟨S1024x7168, .f32⟩
  | .hbm, ⟨6, _⟩ => ⟨S4096x7168, .f32⟩
  | .hbm, ⟨7, _⟩ => ⟨S7168x1024, .f32⟩
  | .hbm, ⟨8, _⟩ => ⟨S1024x7168, .f32⟩
  | .hbm, ⟨9, _⟩ => ⟨S7168x1024, .f32⟩
  | .hbm, ⟨10, _⟩ => ⟨S7168x1024, .bf16⟩
  | _, _ => ⟨S4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel20.lean ====
abbrev S8x2816x1024 : Shape := ⟨3, ![8, 2816, 1024]⟩
abbrev S2816x1024 : Shape := ⟨2, ![2816, 1024]⟩
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x2816x1024, .bf16⟩
  | .hbm, ⟨1, _⟩ => ⟨S2816x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S352x1024, .f32⟩
  | .local _ .vmem, ⟨3, _⟩ => ⟨S352x1024, .f32⟩
  | _, _ => ⟨S8x2816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference20Ideal.lean ====
abbrev S8x2816x1024 : Shape := ⟨3, ![8, 2816, 1024]⟩
abbrev S_ : Shape := ⟨0, ![]⟩
abbrev S2816x1024 : Shape := ⟨2, ![2816, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x2816x1024, .bf16⟩
  | .hbm, ⟨1, _⟩ => ⟨S8x2816x1024, .f32⟩
  | .hbm, ⟨2, _⟩ => ⟨S_, .f32⟩
  | .hbm, ⟨3, _⟩ => ⟨S2816x1024, .f32⟩
  | _, _ => ⟨S8x2816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel21.lean ====
abbrev S2x1024x896 : Shape := ⟨3, ![2, 1024, 896]⟩
abbrev S2048x896 : Shape := ⟨2, ![2048, 896]⟩
abbrev S512x896 : Shape := ⟨2, ![512, 896]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x896, .f32⟩
  | .hbm, ⟨1, _⟩ => ⟨S2x1024x896, .f32⟩
  | .hbm, ⟨2, _⟩ => ⟨S2x1024x896, .f32⟩
  | .hbm, ⟨3, _⟩ => ⟨S2x1024x896, .f32⟩
  | .hbm, ⟨4, _⟩ => ⟨S2048x896, .f32⟩
  | .hbm, ⟨5, _⟩ => ⟨S2048x896, .f32⟩
  | .hbm, ⟨6, _⟩ => ⟨S2048x896, .f32⟩
  | .hbm, ⟨7, _⟩ => ⟨S2048x896, .f32⟩
  | .hbm, ⟨8, _⟩ => ⟨S2048x896, .f32⟩
  | .hbm, ⟨9, _⟩ => ⟨S2048x896, .f32⟩
  | .hbm, ⟨10, _⟩ => ⟨S2048x896, .f32⟩
  | .local _ .vmem, ⟨0, _⟩ => ⟨S512x896, .f32⟩
  | .local _ .vmem, ⟨1, _⟩ => ⟨S512x896, .f32⟩
  | .local _ .vmem, ⟨2, _⟩ => ⟨S512x896, .f32⟩
  | .local _ .vmem, ⟨3, _⟩ => ⟨S512x896, .f32⟩
  | .local _ .vmem, ⟨4, _⟩ => ⟨S512x896, .f32⟩
  | .local _ .vmem, ⟨5, _⟩ => ⟨S512x896, .f32⟩
  | .local _ .vmem, ⟨6, _⟩ => ⟨S512x896, .f32⟩
  | .local _ .vmem, ⟨7, _⟩ => ⟨S512x896, .f32⟩
  | .local _ .vmem, ⟨8, _⟩ => ⟨S512x896, .f32⟩
  | .local _ .vmem, ⟨9, _⟩ => ⟨S512x896, .f32⟩
  | .local _ .vmem, ⟨10, _⟩ => ⟨S512x896, .f32⟩
  | .local _ .vmem, ⟨11, _⟩ => ⟨S512x896, .f32⟩
  | .local _ .vmem, ⟨12, _⟩ => ⟨S512x896, .f32⟩
  | .local _ .vmem, ⟨13, _⟩ => ⟨S512x896, .f32⟩
  | _, _ => ⟨S2x1024x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S2x1024x896 : Shape := ⟨3, ![2, 1024, 896]⟩
abbrev S_ : Shape := ⟨0, ![]⟩
abbrev S2048x896 : Shape := ⟨2, ![2048, 896]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x896, .f32⟩
  | .hbm, ⟨1, _⟩ => ⟨S2x1024x896, .f32⟩
  | .hbm, ⟨2, _⟩ => ⟨S2x1024x896, .f32⟩
  | .hbm, ⟨3, _⟩ => ⟨S2x1024x896, .f32⟩
  | .hbm, ⟨4, _⟩ => ⟨S_, .f32⟩
  | .hbm, ⟨5, _⟩ => ⟨S2x1024x896, .f32⟩
  | .hbm, ⟨6, _⟩ => ⟨S2x1024x896, .f32⟩
  | .hbm, ⟨7, _⟩ => ⟨S_, .f32⟩
  | .hbm, ⟨8, _⟩ => ⟨S2x1024x896, .f32⟩
  | .hbm, ⟨9, _⟩ => ⟨S2x1024x896, .f32⟩
  | .hbm, ⟨10, _⟩ => ⟨S2x1024x896, .f32⟩
  | .hbm, ⟨11, _⟩ => ⟨S_, .f32⟩
  | .hbm, ⟨12, _⟩ => ⟨S2x1024x896, .f32⟩
  | .hbm, ⟨13, _⟩ => ⟨S2x1024x896, .f32⟩
  | .hbm, ⟨14, _⟩ => ⟨S2x1024x896, .f32⟩
  | .hbm, ⟨15, _⟩ => ⟨S_, .f32⟩
  | .hbm, ⟨16, _⟩ => ⟨S2x1024x896, .f32⟩
  | .hbm, ⟨17, _⟩ => ⟨S2x1024x896, .f32⟩
  | .hbm, ⟨18, _⟩ => ⟨S2x1024x896, .f32⟩
  | .hbm, ⟨19, _⟩ => ⟨S_, .f32⟩
  | .hbm, ⟨20, _⟩ => ⟨S2x1024x896, .f32⟩
  | .hbm, ⟨21, _⟩ => ⟨S2x1024x896, .f32⟩
  | .hbm, ⟨22, _⟩ => ⟨S_, .f32⟩
  | .hbm, ⟨23, _⟩ => ⟨S2x1024x896, .f32⟩
  | .hbm, ⟨24, _⟩ => ⟨S2x1024x896, .f32⟩
  | .hbm, ⟨25, _⟩ => ⟨S2x1024x896, .f32⟩
  | .hbm, ⟨26, _⟩ => ⟨S_, .f32⟩
  | .hbm, ⟨27, _⟩ => ⟨S2x1024x896, .f32⟩
  | .hbm, ⟨28, _⟩ => ⟨S2x1024x896, .f32⟩
  | .hbm, ⟨29, _⟩ => ⟨S2x1024x896, .f32⟩
  | .hbm, ⟨30, _⟩ => ⟨S_, .f32⟩
  | .hbm, ⟨31, _⟩ => ⟨S2x1024x896, .f32⟩
  | .hbm, ⟨32, _⟩ => ⟨S2x1024x896, .f32⟩
  | .hbm, ⟨33, _⟩ => ⟨S2x1024x896, .f32⟩
  | .hbm, ⟨34, _⟩ => ⟨S_, .f32⟩
  | .hbm, ⟨35, _⟩ => ⟨S2x1024x896, .f32⟩
  | .hbm, ⟨36, _⟩ => ⟨S2x1024x896, .f32⟩
  | .hbm, ⟨37, _⟩ => ⟨S2048x896, .f32⟩
  | .hbm, ⟨38, _⟩ => ⟨S2048x896, .f32⟩
  | .hbm, ⟨39, _⟩ => ⟨S2048x896, .f32⟩
  | _, _ => ⟨S2x1024x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel22.lean ====
abbrev S3x512x1024 : Shape := ⟨3, ![3, 512, 1024]⟩
abbrev S1024x1024 : Shape := ⟨2, ![1024, 1024]⟩
abbrev S1024x2816 : Shape := ⟨2, ![1024, 2816]⟩
abbrev S2816x1024 : Shape := ⟨2, ![2816, 1024]⟩
abbrev S3x512x8x128 : Shape := ⟨4, ![3, 512, 8, 128]⟩
abbrev S8x3x512x128 : Shape := ⟨4, ![8, 3, 512, 128]⟩
abbrev S8x128x1024 : Shape := ⟨3, ![8, 128, 1024]⟩
abbrev S1024x8x352 : Shape := ⟨3, ![1024, 8, 352]⟩
abbrev S8x1024x352 : Shape := ⟨3, ![8, 1024, 352]⟩
abbrev S8x352x1024 : Shape := ⟨3, ![8, 352, 1024]⟩
abbrev S8x192x1024 : Shape := ⟨3, ![8, 192, 1024]⟩
abbrev S8x1888x1024 : Shape := ⟨3, ![8, 1888, 1024]⟩

abbrev nBuf : Space → Nat
  | .hbm => 54
  | .vmem => 0
  | .smem => 0
  | _ => 0

abbrev bufTy : (tb : Table) → Fin (tcTables nBuf tb) → BufTy
  | .hbm, ⟨0, _⟩ => ⟨S3x512x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S3x512x8x128, .f32⟩
  | .hbm, ⟨10, _⟩ => ⟨S8x3x512x128, .f32⟩
  | .hbm, ⟨11, _⟩ => ⟨S8x128x1024, .f32⟩
  | .hbm, ⟨12, _⟩ => ⟨S8x128x1024, .f32⟩
  | .hbm, ⟨13, _⟩ => ⟨S8x128x1024, .f32⟩
  | .hbm, ⟨14, _⟩ => ⟨S8x128x1024, .f32⟩
  | .hbm, ⟨15, _⟩ => ⟨S8x128x1024, .f32⟩
  | .hbm, ⟨16, _⟩ => ⟨S1024x8x352, .f32⟩
  | .hbm, ⟨17, _⟩ => ⟨S8x1024x352, .f32⟩
  | .hbm, ⟨18, _⟩ => ⟨S1024x8x352, .f32⟩
  | .hbm, ⟨19, _⟩ => ⟨S8x1024x352, .f32⟩
  | .hbm, ⟨20, _⟩ => ⟨S8x352x1024, .f32⟩
  | .hbm, ⟨21, _⟩ => ⟨S8x3x512x128, .bf16⟩
  | .hbm, ⟨22, _⟩ => ⟨S8x128x1024, .bf16⟩
  | .hbm, ⟨23, _⟩ => ⟨S8x128x1024, .bf16⟩
  | .hbm, ⟨24, _⟩ => ⟨S8x128x1024, .bf16⟩
  | .hbm, ⟨25, _⟩ => ⟨S8x128x1024, .bf16⟩
  | .hbm, ⟨26, _⟩ => ⟨S8x128x1024, .bf16⟩
  | .hbm, ⟨27, _⟩ => ⟨S8x1024x352, .bf16⟩
  | .hbm, ⟨28, _⟩ => ⟨S8x352x1024, .bf16⟩
  | .hbm, ⟨29, _⟩ => ⟨S8x1024x352, .bf16⟩
  | .hbm, ⟨30, _⟩ => ⟨S8x352x1024, .bf16⟩
  | .hbm, ⟨31, _⟩ => ⟨S8x352x1024, .bf16⟩
  | .hbm, ⟨32, _⟩ => ⟨S8x192x1024, .bf16⟩
  | .hbm, ⟨33, _⟩ => ⟨S8x1888x1024, .bf16⟩
  | .hbm, ⟨34, _⟩ => ⟨S8x192x1024, .bf16⟩
  | .hbm, ⟨35, _⟩ => ⟨S8x3x512x128, .bf16⟩
  | .hbm, ⟨36, _⟩ => ⟨S3x512x8x128, .bf16⟩
  | .hbm, ⟨37, _⟩ => ⟨S3x512x1024, .bf16⟩
  | .hbm, ⟨38, _⟩ => ⟨S8x128x1024, .bf16⟩
  | .hbm, ⟨39, _⟩ => ⟨S1024x1024, .bf16⟩
  | .hbm, ⟨40, _⟩ => ⟨S8x128x1024, .bf16⟩
  | .hbm, ⟨41, _⟩ => ⟨S1024x1024, .bf16⟩
  | .hbm, ⟨42, _⟩ => ⟨S8x128x1024, .bf16⟩
  | .hbm, ⟨43, _⟩ => ⟨S1024x1024, .bf16⟩
  | .hbm, ⟨44, _⟩ => ⟨S8x128x1024, .bf16⟩
  | .hbm, ⟨45, _⟩ => ⟨S1024x1024, .bf16⟩
  | .hbm, ⟨46, _⟩ => ⟨S8x128x1024, .bf16⟩
  | .hbm, ⟨47, _⟩ => ⟨S1024x1024, .bf16⟩
  | .hbm, ⟨48, _⟩ => ⟨S8x352x1024, .bf16⟩
  | .hbm, ⟨49, _⟩ => ⟨S2816x1024, .bf16⟩
  | .hbm, ⟨50, _⟩ => ⟨S8x352x1024, .bf16⟩
  | .hbm, ⟨51, _⟩ => ⟨S2816x1024, .bf16⟩
  | .hbm, ⟨52, _⟩ => ⟨S8x352x1024, .bf16⟩
  | .hbm, ⟨53, _⟩ => ⟨S2816x1024, .bf16⟩
  | _, _ => ⟨S3x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩

abbrev nD : Nat := 1
abbrev τ : Topo := Topo.v7x

variable {F : FTy → Type} [FloatOps F]
-- ==== Reference22Ideal.lean ====
abbrev S3x512x1024 : Shape := ⟨3, ![3, 512, 1024]⟩
abbrev S1024x1024 : Shape := ⟨2, ![1024, 1024]⟩
abbrev S1024x2816 : Shape := ⟨2, ![1024, 2816]⟩
abbrev S2816x1024 : Shape := ⟨2, ![2816, 1024]⟩

abbrev nBuf : Space → Nat
  | .hbm => 20
  | .vmem => 0
  | .smem => 0
  | _ => 0

abbrev bufTy : (tb : Table) → Fin (tcTables nBuf tb) → BufTy
  | .hbm, ⟨0, _⟩ => ⟨S3x512x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S3x512x1024, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S2816x1024, .bf16⟩
  | .hbm, ⟨18, _⟩ => ⟨S2816x1024, .bf16⟩
  | .hbm, ⟨19, _⟩ => ⟨S2816x1024, .bf16⟩
  | _, _ => ⟨S3x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]
-- ==== Kernel23.lean ====
abbrev S3x512x1024 : Shape := ⟨3, ![3, 512, 1024]⟩
abbrev S1024x1024 : Shape := ⟨2, ![1024, 1024]⟩
abbrev S2816x1024 : Shape := ⟨2, ![2816, 1024]⟩
abbrev S3x512x8x128 : Shape := ⟨4, ![3, 512, 8, 128]⟩
abbrev S8x3x512x128 : Shape := ⟨4, ![8, 3, 512, 128]⟩
abbrev S8x192x1024 : Shape := ⟨3, ![8, 192, 1024]⟩
abbrev S8x128x1024 : Shape := ⟨3, ![8, 128, 1024]⟩
abbrev S8x352x1024 : Shape := ⟨3, ![8, 352, 1024]⟩
abbrev S_ : Shape := ⟨0, ![]⟩
abbrev S8x32x1024 : Shape := ⟨3, ![8, 32, 1024]⟩
abbrev S8x1920x1024 : Shape := ⟨3, ![8, 1920, 1024]⟩
abbrev S8x1024x352 : Shape := ⟨3, ![8, 1024, 352]⟩

abbrev nBuf : Space → Nat
  | .hbm => 35
  | .vmem => 0
  | .smem => 0
  | _ => 0

abbrev bufTy : (tb : Table) → Fin (tcTables nBuf tb) → BufTy
  | .hbm, ⟨0, _⟩ => ⟨S3x512x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S2816x1024, .bf16⟩
  | .hbm, ⟨7, _⟩ => ⟨S2816x1024, .bf16⟩
  | .hbm, ⟨8, _⟩ => ⟨S2816x1024, .bf16⟩
  | .hbm, ⟨9, _⟩ => ⟨S3x512x8x128, .bf16⟩
  | .hbm, ⟨10, _⟩ => ⟨S8x3x512x128, .bf16⟩
  | .hbm, ⟨11, _⟩ => ⟨S8x192x1024, .bf16⟩
  | .hbm, ⟨12, _⟩ => ⟨S8x128x1024, .bf16⟩
  | .hbm, ⟨13, _⟩ => ⟨S8x128x1024, .bf16⟩
  | .hbm, ⟨14, _⟩ => ⟨S8x128x1024, .bf16⟩
  | .hbm, ⟨15, _⟩ => ⟨S8x128x1024, .bf16⟩
  | .hbm, ⟨16, _⟩ => ⟨S8x128x1024, .bf16⟩
  | .hbm, ⟨17, _⟩ => ⟨S8x352x1024, .bf16⟩
  | .hbm, ⟨18, _⟩ => ⟨S8x352x1024, .bf16⟩
  | .hbm, ⟨19, _⟩ => ⟨S8x352x1024, .bf16⟩
  | .hbm, ⟨20, _⟩ => ⟨S_, .bf16⟩
  | .hbm, ⟨21, _⟩ => ⟨S8x32x1024, .bf16⟩
  | .hbm, ⟨22, _⟩ => ⟨S8x1920x1024, .bf16⟩
  | .hbm, ⟨23, _⟩ => ⟨S8x192x1024, .bf16⟩
  | .hbm, ⟨24, _⟩ => ⟨S8x3x512x128, .bf16⟩
  | .hbm, ⟨25, _⟩ => ⟨S8x128x1024, .bf16⟩
  | .hbm, ⟨26, _⟩ => ⟨S8x128x1024, .bf16⟩
  | .hbm, ⟨27, _⟩ => ⟨S8x128x1024, .bf16⟩
  | .hbm, ⟨28, _⟩ => ⟨S8x128x1024, .bf16⟩
  | .hbm, ⟨29, _⟩ => ⟨S8x128x1024, .bf16⟩
  | .hbm, ⟨30, _⟩ => ⟨S8x352x1024, .bf16⟩
  | .hbm, ⟨31, _⟩ => ⟨S8x352x1024, .bf16⟩
  | .hbm, ⟨32, _⟩ => ⟨S8x352x1024, .bf16⟩
  | .hbm, ⟨33, _⟩ => ⟨S8x1024x352, .bf16⟩
  | .hbm, ⟨34, _⟩ => ⟨S8x1024x352, .bf16⟩
  | _, _ => ⟨S3x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Reference23Ideal.lean ====
abbrev S3x512x1024 : Shape := ⟨3, ![3, 512, 1024]⟩
abbrev S1024x1024 : Shape := ⟨2, ![1024, 1024]⟩
abbrev S2816x1024 : Shape := ⟨2, ![2816, 1024]⟩
abbrev S1024x2816 : Shape := ⟨2, ![1024, 2816]⟩
abbrev S3x512x8x128 : Shape := ⟨4, ![3, 512, 8, 128]⟩
abbrev S8x3x512x128 : Shape := ⟨4, ![8, 3, 512, 128]⟩
abbrev S8x128x1024 : Shape := ⟨3, ![8, 128, 1024]⟩
abbrev S1024x8x352 : Shape := ⟨3, ![1024, 8, 352]⟩
abbrev S8x1024x352 : Shape := ⟨3, ![8, 1024, 352]⟩
abbrev S8x352x1024 : Shape := ⟨3, ![8, 352, 1024]⟩

abbrev nBuf : Space → Nat
  | .hbm => 23
  | .vmem => 0
  | .smem => 0
  | _ => 0

abbrev bufTy : (tb : Table) → Fin (tcTables nBuf tb) → BufTy
  | .hbm, ⟨0, _⟩ => ⟨S3x512x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S2816x1024, .bf16⟩
  | .hbm, ⟨7, _⟩ => ⟨S2816x1024, .bf16⟩
  | .hbm, ⟨8, _⟩ => ⟨S2816x1024, .bf16⟩
  | .hbm, ⟨9, _⟩ => ⟨S1024x2816, .bf16⟩
  | .hbm, ⟨10, _⟩ => ⟨S1024x2816, .bf16⟩
  | .hbm, ⟨11, _⟩ => ⟨S3x512x8x128, .bf16⟩
  | .hbm, ⟨12, _⟩ => ⟨S8x3x512x128, .bf16⟩
  | .hbm, ⟨13, _⟩ => ⟨S8x128x1024, .bf16⟩
  | .hbm, ⟨14, _⟩ => ⟨S8x128x1024, .bf16⟩
  | .hbm, ⟨15, _⟩ => ⟨S8x128x1024, .bf16⟩
  | .hbm, ⟨16, _⟩ => ⟨S8x128x1024, .bf16⟩
  | .hbm, ⟨17, _⟩ => ⟨S8x128x1024, .bf16⟩
  | .hbm, ⟨18, _⟩ => ⟨S1024x8x352, .bf16⟩
  | .hbm, ⟨19, _⟩ => ⟨S8x1024x352, .bf16⟩
  | .hbm, ⟨20, _⟩ => ⟨S1024x8x352, .bf16⟩
  | .hbm, ⟨21, _⟩ => ⟨S8x1024x352, .bf16⟩
  | .hbm, ⟨22, _⟩ => ⟨S8x352x1024, .bf16⟩
  | _, _ => ⟨S3x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel24.lean ====
abbrev S8x2x1024 : Shape := ⟨3, ![8, 2, 1024]⟩
abbrev S8x2x512 : Shape := ⟨3, ![8, 2, 512]⟩
abbrev S8x2x4x128x128 : Shape := ⟨5, ![8, 2, 4, 128, 128]⟩
abbrev S8x2x4x128 : Shape := ⟨4, ![8, 2, 4, 128]⟩
abbrev S8x2x3x512 : Shape := ⟨4, ![8, 2, 3, 512]⟩
abbrev S8x1024 : Shape := ⟨2, ![8, 1024]⟩
abbrev S8x2048 : Shape := ⟨2, ![8, 2048]⟩
abbrev S8x131072 : Shape := ⟨2, ![8, 131072]⟩
abbrev S8x3072 : Shape := ⟨2, ![8, 3072]⟩
abbrev S8x146432 : Shape := ⟨2, ![8, 146432]⟩
abbrev S_ : Shape := ⟨0, ![]⟩
abbrev S8x147456 : Shape := ⟨2, ![8, 147456]⟩
abbrev S8x144x1024 : Shape := ⟨3, ![8, 144, 1024]⟩
abbrev S144x1024 : Shape := ⟨2, ![144, 1024]⟩
abbrev S147456 : Shape := ⟨1, ![147456]⟩
abbrev S2048 : Shape := ⟨1, ![2048]⟩
abbrev S2x1024 : Shape := ⟨2, ![2, 1024]⟩
abbrev S1024 : Shape := ⟨1, ![1024]⟩
abbrev S2x512 : Shape := ⟨2, ![2, 512]⟩
abbrev S131072 : Shape := ⟨1, ![131072]⟩
abbrev S2x4x128x128 : Shape := ⟨4, ![2, 4, 128, 128]⟩
abbrev S2x4x128 : Shape := ⟨3, ![2, 4, 128]⟩
abbrev S3072 : Shape := ⟨1, ![3072]⟩
abbrev S2x3x512 : Shape := ⟨3, ![2, 3, 512]⟩

abbrev nBuf : Space → Nat
  | .hbm => 46
  | .vmem => 0
  | .smem => 0
  | _ => 0

abbrev bufTy : (tb : Table) → Fin (tcTables nBuf tb) → BufTy
  | .hbm, ⟨0, _⟩ => ⟨S8x2x1024, .f32⟩
  | .hbm, ⟨1, _⟩ => ⟨S8x2x512, .f32⟩
  | .hbm, ⟨2, _⟩ => ⟨S8x2x512, .f32⟩
  | .hbm, ⟨3, _⟩ => ⟨S8x2x4x128x128, .f32⟩
  | .hbm, ⟨4, _⟩ => ⟨S8x2x4x128, .f32⟩
  | .hbm, ⟨5, _⟩ => ⟨S8x2x3x512, .f32⟩
  | .hbm, ⟨6, _⟩ => ⟨S8x2x1024, .f32⟩
  | .hbm, ⟨7, _⟩ => ⟨S8x2x1024, .f32⟩
  | .hbm, ⟨8, _⟩ => ⟨S8x2x1024, .f32⟩
  | .hbm, ⟨9, _⟩ => ⟨S8x1024, .f32⟩
  | .hbm, ⟨10, _⟩ => ⟨S8x2048, .f32⟩
  | .hbm, ⟨11, _⟩ => ⟨S8x1024, .f32⟩
  | .hbm, ⟨12, _⟩ => ⟨S8x1024, .f32⟩
  | .hbm, ⟨13, _⟩ => ⟨S8x131072, .f32⟩
  | .hbm, ⟨14, _⟩ => ⟨S8x1024, .f32⟩
  | .hbm, ⟨15, _⟩ => ⟨S8x3072, .f32⟩
  | .hbm, ⟨16, _⟩ => ⟨S8x2048, .f32⟩
  | .hbm, ⟨17, _⟩ => ⟨S8x2048, .f32⟩
  | .hbm, ⟨18, _⟩ => ⟨S8x2048, .f32⟩
  | .hbm, ⟨19, _⟩ => ⟨S8x146432, .f32⟩
  | .hbm, ⟨20, _⟩ => ⟨S_, .i32⟩
  | .hbm, ⟨21, _⟩ => ⟨S_, .f32⟩
  | .hbm, ⟨22, _⟩ => ⟨S8x147456, .f32⟩
  | .hbm, ⟨23, _⟩ => ⟨S8x144x1024, .f32⟩
  | .hbm, ⟨24, _⟩ => ⟨S_, .f32⟩
  | .hbm, ⟨25, _⟩ => ⟨S144x1024, .f32⟩
  | .hbm, ⟨26, _⟩ => ⟨S147456, .f32⟩
  | .hbm, ⟨27, _⟩ => ⟨S2048, .f32⟩
  | .hbm, ⟨28, _⟩ => ⟨S2x1024, .f32⟩
  | .hbm, ⟨29, _⟩ => ⟨S1024, .f32⟩
  | .hbm, ⟨30, _⟩ => ⟨S2x512, .f32⟩
  | .hbm, ⟨31, _⟩ => ⟨S1024, .f32⟩
  | .hbm, ⟨32, _⟩ => ⟨S2x512, .f32⟩
  | .hbm, ⟨33, _⟩ => ⟨S131072, .f32⟩
  | .hbm, ⟨34, _⟩ => ⟨S2x4x128x128, .f32⟩
  | .hbm, ⟨35, _⟩ => ⟨S1024, .f32⟩
  | .hbm, ⟨36, _⟩ => ⟨S2x4x128, .f32⟩
  | .hbm, ⟨37, _⟩ => ⟨S3072, .f32⟩
  | .hbm, ⟨38, _⟩ => ⟨S2x3x512, .f32⟩
  | .hbm, ⟨39, _⟩ => ⟨S2048, .f32⟩
  | .hbm, ⟨40, _⟩ => ⟨S2x1024, .f32⟩
  | .hbm, ⟨41, _⟩ => ⟨S2048, .f32⟩
  | .hbm, ⟨42, _⟩ => ⟨S2x1024, .f32⟩
  | .hbm, ⟨43, _⟩ => ⟨S2048, .f32⟩
  | .hbm, ⟨44, _⟩ => ⟨S2x1024, .f32⟩
  | .hbm, ⟨45, _⟩ => ⟨S1024, .f32⟩
  | _, _ => ⟨S8x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Reference24Ideal.lean ====
abbrev S8x2x1024 : Shape := ⟨3, ![8, 2, 1024]⟩
abbrev S8x2x512 : Shape := ⟨3, ![8, 2, 512]⟩
abbrev S8x2x4x128x128 : Shape := ⟨5, ![8, 2, 4, 128, 128]⟩
abbrev S8x2x4x128 : Shape := ⟨4, ![8, 2, 4, 128]⟩
abbrev S8x2x3x512 : Shape := ⟨4, ![8, 2, 3, 512]⟩
abbrev S8x1024 : Shape := ⟨2, ![8, 1024]⟩
abbrev S_ : Shape := ⟨0, ![]⟩
abbrev S2x1024 : Shape := ⟨2, ![2, 1024]⟩
abbrev S2x512 : Shape := ⟨2, ![2, 512]⟩
abbrev S2x4x128x128 : Shape := ⟨4, ![2, 4, 128, 128]⟩
abbrev S2x4x128 : Shape := ⟨3, ![2, 4, 128]⟩
abbrev S2x3x512 : Shape := ⟨3, ![2, 3, 512]⟩
abbrev S1024 : Shape := ⟨1, ![1024]⟩

abbrev nBuf : Space → Nat
  | .hbm => 30
  | .vmem => 0
  | .smem => 0
  | _ => 0

abbrev bufTy : (tb : Table) → Fin (tcTables nBuf tb) → BufTy
  | .hbm, ⟨0, _⟩ => ⟨S8x2x1024, .f32⟩
  | .hbm, ⟨1, _⟩ => ⟨S8x2x512, .f32⟩
  | .hbm, ⟨2, _⟩ => ⟨S8x2x512, .f32⟩
  | .hbm, ⟨3, _⟩ => ⟨S8x2x4x128x128, .f32⟩
  | .hbm, ⟨4, _⟩ => ⟨S8x2x4x128, .f32⟩
  | .hbm, ⟨5, _⟩ => ⟨S8x2x3x512, .f32⟩
  | .hbm, ⟨6, _⟩ => ⟨S8x2x1024, .f32⟩
  | .hbm, ⟨7, _⟩ => ⟨S8x2x1024, .f32⟩
  | .hbm, ⟨8, _⟩ => ⟨S8x2x1024, .f32⟩
  | .hbm, ⟨9, _⟩ => ⟨S8x1024, .f32⟩
  | .hbm, ⟨10, _⟩ => ⟨S_, .f32⟩
  | .hbm, ⟨11, _⟩ => ⟨S2x1024, .f32⟩
  | .hbm, ⟨12, _⟩ => ⟨S_, .f32⟩
  | .hbm, ⟨13, _⟩ => ⟨S2x512, .f32⟩
  | .hbm, ⟨14, _⟩ => ⟨S_, .f32⟩
  | .hbm, ⟨15, _⟩ => ⟨S2x512, .f32⟩
  | .hbm, ⟨16, _⟩ => ⟨S_, .f32⟩
  | .hbm, ⟨17, _⟩ => ⟨S2x4x128x128, .f32⟩
  | .hbm, ⟨18, _⟩ => ⟨S_, .f32⟩
  | .hbm, ⟨19, _⟩ => ⟨S2x4x128, .f32⟩
  | .hbm, ⟨20, _⟩ => ⟨S_, .f32⟩
  | .hbm, ⟨21, _⟩ => ⟨S2x3x512, .f32⟩
  | .hbm, ⟨22, _⟩ => ⟨S_, .f32⟩
  | .hbm, ⟨23, _⟩ => ⟨S2x1024, .f32⟩
  | .hbm, ⟨24, _⟩ => ⟨S_, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S_, .f32⟩
  | .hbm, ⟨29, _⟩ => ⟨S1024, .f32⟩
  | _, _ => ⟨S8x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_cst_1 : Ref sig .tc := ⟨.hbm, 14, rfl⟩
abbrev main_v2 : Ref sig .tc := ⟨.hbm, 15, rfl⟩
abbrev main_cst_2 : Ref sig .tc := ⟨.hbm, 16, rfl⟩
abbrev main_v3 : Ref sig .tc := ⟨.hbm, 17, rfl⟩
abbrev main_cst_3 : Ref sig .tc := ⟨.hbm, 18, rfl⟩
abbrev main_v4 : Ref sig .tc := ⟨.hbm, 19, rfl⟩
abbrev main_cst_4 : Ref sig .tc := ⟨.hbm, 20, rfl⟩
abbrev main_v5 : Ref sig .tc := ⟨.hbm, 21, rfl⟩
abbrev main_cst_5 : Ref sig .tc := ⟨.hbm, 22, rfl⟩
abbrev main_v6 : Ref sig .tc := ⟨.hbm, 23, rfl⟩
abbrev main_cst_6 : Ref sig .tc := ⟨.hbm, 24, rfl⟩
abbrev main_v7 : Ref sig .tc := ⟨.hbm, 25, rfl⟩
abbrev main_cst_7 : Ref sig .tc := ⟨.hbm, 26, rfl⟩
abbrev main_v8 : Ref sig .tc := ⟨.hbm, 27, rfl⟩
abbrev main_cst_8 : Ref sig .tc := ⟨.hbm, 28, rfl⟩
abbrev main_v9 : Ref sig .tc := ⟨.hbm, 29, rfl⟩

abbrev nD : Nat := 1
abbrev τ : Topo := Topo.v7x

variable {F : FTy → Type} [FloatOps F]
-- ==== Proof.Reals.lean ====
/-  Extended reals that are numbers: the few facts by which an equation between two programs over numbers
    is taken to an equation over ℝ, where the ring laws hold. -/
module

public import Idealize.ShloMosaic.PureOps.Ideal
public import Idealize.ShloMosaic.Lib.Pipeline.ValueKit

@[expose] public section

noncomputable section

namespace Cert.Reals

open Idealize.ShloMosaic

/-- A sum of numbers is the number that is their sum. -/
theorem sum_coe {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A quotient of numbers by a number other than zero. -/
theorem div_coe_coe (a : ℝ) {b : ℝ} (h : b ≠ 0) : Ideal.div (a : EReal) (b : EReal) = ((a / b : ℝ) : EReal) := by
  rw [Ideal.div_coe h, ← EReal.coe_mul, mul_one_div]

/-- The reciprocal square root of a positive number. -/
theorem rsqrt_pos {a : ℝ} (h : 0 < a) : Ideal.rsqrt (a : EReal) = (((Real.sqrt a)⁻¹ : ℝ) : EReal) := by
  rw [Ideal.rsqrt_coe, if_neg h.le.not_gt, if_neg h.ne']

/-- What is below the infinity in absolute value is a number. -/
theorem exists_real {x : EReal} (h : max x (-x) < ⊤) : ∃ r : ℝ, x = (r : EReal) := by
  induction x using EReal.rec with
  | bot => simp at h
  | coe r => exact ⟨r, rfl⟩
  | top => simp at h

/-- The pattern of the infinity. -/
theorem ofBits_inf : Ideal.ofBits .f32 0x7F800000#32 = ⊤ := by
  simp [Ideal.ofBits, Ideal.ieee]

/-- The comparison `|x| < ∞` of a precondition. -/
theorem real_of_olt {x : EReal} (h : Ideal.cmp .olt (max x (-x)) (Ideal.ofBits .f32 0x7F800000#32) = 1#1) :
    ∃ r : ℝ, x = (r : EReal) := by
  rw [ofBits_inf] at h
  refine exists_real ?_
  by_contra hn
  simp [Ideal.cmp, hn] at h

/-- An array of numbers is the image of a real array. -/
theorem exists_reals {ι : Type*} {x : ι → EReal} (h : ∀ i, ∃ r : ℝ, x i = (r : EReal)) :
    ∃ f : ι → ℝ, x = fun i => ((f i : ℝ) : EReal) := by
  choose f hf using h
  exact ⟨f, funext hf⟩

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

/-- The norms' ε is a positive number. -/
theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

end Cert.Reals

end
-- ==== Proof.NormGrad.lean ====
/-  The gradient of a root-mean-square norm, of one row, on the extended reals: the kernel's form
    `r (d − (x r) · mean (d (x r)))` and the derivative's own `d r + x t + t x` with
    `t = (∑ x d) (−½ · r / s) / n` are equal for EVERY row. Here `s = mean (x x) + ε`, `r = s^(-1/2)`. -/
module

public import proofs.«01_k».proof.Proof.Reals

@[expose] public section

noncomputable section

namespace Cert.NormGrad

open Idealize.ShloMosaic

/-- A number that is not negative goes through a sum of extended reals. -/
theorem coe_mul_sum {ι : Type*} (s : Finset ι) {r : ℝ} (h : 0 ≤ r) (f : ι → EReal) :
    (r : EReal) * ∑ k ∈ s, f k = ∑ k ∈ s, (r : EReal) * f k := by
  classical
  induction s using Finset.induction_on with
  | empty => simp
  | insert a s ha ih =>
    rw [Finset.sum_insert ha, Finset.sum_insert ha, ← ih,
      EReal.left_distrib_of_nonneg_of_ne_top (by exact_mod_cast h) (EReal.coe_ne_top r)]

/-- Two halves of a negative multiple. -/
theorem half_add_half {c : ℝ} (h : 0 < c) (z : EReal) :
    ((-(c / 2) : ℝ) : EReal) * z + ((-(c / 2) : ℝ) : EReal) * z = -((c : EReal) * z) := by
  induction z using EReal.rec with
  | bot => rw [EReal.coe_mul_bot_of_neg (by linarith), EReal.coe_mul_bot_of_pos h]; rfl
  | coe z => norm_cast; ring
  | top => rw [EReal.coe_mul_top_of_neg (by linarith), EReal.coe_mul_top_of_pos h]; rfl

/-- A square is not negative. -/
theorem mul_self_nonneg (x : EReal) : 0 ≤ x * x := by
  rcases le_total 0 x with h | h
  · exact mul_nonneg h h
  · have h' : 0 ≤ -x := by simpa using EReal.neg_le_neg_iff.mpr h
    simpa using mul_nonneg h' h'

/-- `s` of a row. -/
abbrev meanSq {n : Nat} (N E : EReal) (x : Fin n → EReal) : EReal := Ideal.div (∑ k, x k * x k) N + E

/-- The two forms of the gradient at one place of a row. -/
theorem row {n : Nat} {N E : ℝ} (hN : 0 < N) (hE : 0 < E) (x d : Fin n → EReal) (l : Fin n) :
    Ideal.rsqrt (meanSq N E x) * (d l - x l * Ideal.rsqrt (meanSq N E x)
      * Ideal.div (∑ k, d k * (x k * Ideal.rsqrt (meanSq N E x))) N)
    = d l * Ideal.rsqrt (meanSq N E x)
      + x l * Ideal.div ((∑ k, x k * d k) * (((-(1 / 2) : ℝ) : EReal)
          * Ideal.div (Ideal.rsqrt (meanSq N E x)) (meanSq N E x))) N
      + Ideal.div ((∑ k, x k * d k) * (((-(1 / 2) : ℝ) : EReal)
          * Ideal.div (Ideal.rsqrt (meanSq N E x)) (meanSq N E x))) N * x l := by
  have hs : 0 < meanSq N E x := by
    have h0 : 0 ≤ Ideal.div (∑ k, x k * x k) N := by
      rw [Ideal.div_coe hN.ne']
      exact mul_nonneg (Finset.sum_nonneg fun k _ => mul_self_nonneg _) (by exact_mod_cast (one_div_pos.mpr hN).le)
    exact lt_of_lt_of_le (by exact_mod_cast hE) (le_add_of_nonneg_left h0)
  generalize meanSq N E x = s at hs ⊢
  induction s using EReal.rec with
  | bot => simp at hs
  | top =>
    have hr : Ideal.rsqrt ⊤ = 0 := rfl
    simp [Ideal.div, hr, hN.ne']
  | coe s =>
    have hs' : 0 < s := by exact_mod_cast hs
    rw [Reals.rsqrt_pos hs', Reals.div_coe_coe _ hs'.ne', Ideal.div_coe hN.ne', Ideal.div_coe hN.ne']
    have hr : 0 < (Real.sqrt s)⁻¹ := inv_pos.mpr (Real.sqrt_pos.mpr hs')
    have hrr : s⁻¹ = (Real.sqrt s)⁻¹ * (Real.sqrt s)⁻¹ := by
      rw [← mul_inv, Real.mul_self_sqrt hs'.le]
    rw [div_eq_mul_inv _ s, hrr]
    generalize (Real.sqrt s)⁻¹ = r at hr ⊢
    have hsum : ∑ k, d k * (x k * (r : EReal)) = (r : EReal) * ∑ k, x k * d k := by
      rw [coe_mul_sum _ hr.le]
      exact Finset.sum_congr rfl fun k _ => by rw [mul_comm (d k), mul_comm (x k), mul_assoc]
    rw [hsum]
    generalize ∑ k, x k * d k = S
    have hk : x l * (r : EReal) * ((r : EReal) * S * ((1 / N : ℝ) : EReal)) = ((r * r * (1 / N) : ℝ) : EReal) * (x l * S) := by
      push_cast; ac_rfl
    have ht : x l * (S * (((-(1 / 2) : ℝ) : EReal) * ((r * (r * r) : ℝ) : EReal)) * ((1 / N : ℝ) : EReal))
        = ((-((r * (r * r * (1 / N))) / 2) : ℝ) : EReal) * (x l * S) := by
      rw [show -((r * (r * r * (1 / N))) / 2) = (-(1 / 2)) * (r * (r * r)) * (1 / N) by ring]
      simp only [EReal.coe_mul]; ac_rfl
    rw [mul_comm _ (x l), ht, hk, sub_eq_add_neg,
      EReal.left_distrib_of_nonneg_of_ne_top (by exact_mod_cast hr.le) (EReal.coe_ne_top r), add_assoc,
      half_add_half (by positivity), mul_comm (d l), mul_neg, EReal.coe_mul r, mul_assoc (r : EReal)]

end Cert.NormGrad

end
-- ==== Proof.RmsBwd.lean ====
/-  The gradient of the memory norm (`_rms_bwd` at [256, 1024], one grid point): what the kernel leaves in its two
    results, and that it is what the derivative of `rms_norm` computes. -/
module

public import proofs.«01_k».proof.Defs
public import proofs.«01_k».proof.Proof.Gen.Kernel1Ideal.Value
public import proofs.«01_k».proof.Proof.Gen.Reference1Ideal.Run
public import proofs.«01_k».proof.Proof.Gen.Reference1Ideal.Read
public import proofs.«01_k».proof.Proof.NormGrad
public import Idealize.ShloMosaic.Lib.Pipeline.ValueKit
public import Idealize.ShloMosaic.Lib.Claim

@[expose] public section

set_option maxRecDepth 16384

noncomputable section

namespace Cert.Kernel1Ideal.RmsBwd

open Cert.Kernel1Ideal Cert.Kernel1Ideal.Gen Idealize.ShloMosaic Idealize.ShloMosaic.TcCoe Idealize.SL.Sem
open Idealize.ShloMosaic.Pipeline (Dat)

/-- `dx` at a place: the gradient of the row, to which the kernel adds its zero argument. -/
theorem dx_at (X : FVec Ideal S256x1024 .f32) (G : FVec Ideal S1024 .f32) (H : FVec Ideal S256x1024 .f32) (Z : FVec Ideal S256x1024 .f32)
    (G' : FVec Ideal S1x1024 .f32) (hZ : ∀ r l, Z (ix2 r l) = 0) (hG : ∀ l, G' (ix2 0 l) = G (ix1 l)) (r : Fin 256) (l : Fin 1024) :
    k0_pay1 (F := Ideal) (k0_pay6 Z) (k0_pay7 X H G') (k0_pay8 X) (ix2 r l) = Reference1Ideal.Read.val_main_v35 (F := Ideal) X G H (ix2 r l) := by
  rw [← Reference1Ideal.Read.val_main_v35_eq]
  pointwise [k0_pay1, k0_pay6, k0_pay7, k0_pay4, k0_pay3, k0_pay8]
  obtain ⟨e, he, hE⟩ := Reals.ofBits_eps
  simp only [hZ, hG, Finset.univ_unique, Finset.sum_singleton, Reals.ofBits_1024, Reals.ofBits_neg_half, hE, zero_add]
  exact NormGrad.row (by norm_num) he (fun k => X (ix2 r k)) (fun k => H (ix2 r k) * G (ix1 k)) l

/-- `dg` at a place: a column's sum. -/
theorem dg_at (X : FVec Ideal S256x1024 .f32) (H : FVec Ideal S256x1024 .f32) (l : Fin 1024) :
    k0_pay5 (F := Ideal) X H (k0_pay2 (F := Ideal)) (ix2 0 l) = Reference1Ideal.Read.val_main_v36 (F := Ideal) X H (ix2 0 l) := by
  rw [← Reference1Ideal.Read.val_main_v36_eq]
  pointwise [k0_pay5, k0_pay2, k0_pay4, k0_pay3]
  simp only [Finset.univ_unique (α := Fin 1), Finset.sum_singleton]
  exact Finset.sum_congr rfl fun _ _ => mul_comm _ _

variable (m : (ℓ : Loc nD τ sig) → Buf (Elt Ideal) ℓ)

/-- Every window is its whole array. -/
theorem idx : ∀ t : Fin cfg0.N, win0_0.index t = ![0, 0] ∧ win0_1.index t = ![0, 0] ∧ win0_2.index t = ![0, 0] ∧
    win0_3.index t = ![0, 0] ∧ win0_4.index t = ![0, 0] ∧ win0_5.index t = ![0, 0] :=
  (by decide +kernel : ∀ t : Fin grid0.N, _)

theorem block_x (c : Dev nD) (t : Fin cfg0.N) : iblk m c 0 t = m ((c : Thread nD τ).loc main_arg0) := by
  blk_ext! [iblk, V, idx t]

theorem block_h (c : Dev nD) (t : Fin cfg0.N) : iblk m c 2 t = m ((c : Thread nD τ).loc main_arg2) := by
  blk_ext! [iblk, V, idx t]

/-- The weight's block, a row. -/
theorem block_g (c : Dev nD) (t : Fin cfg0.N) (l : Fin 1024) :
    (iblk m c 1 t : FVec Ideal S1x1024 .f32) (ix2 0 l) = m ((c : Thread nD τ).loc main_arg1) (ix1 l) := by
  blk_simp [iblk, idx t]
  entry_read
  pointwise []
  blk_ext [idx t]

/-- The zero argument's block. -/
theorem block_z (c : Dev nD) (t : Fin cfg0.N) (r : Fin 256) (l : Fin 1024) : (iblk m c 3 t : FVec Ideal S256x1024 .f32) (ix2 r l) = (0 : EReal) := by
  blk_simp [iblk, idx t]
  entry_read
  pointwise []

/-- The kernel's `dx`. -/
theorem final_dx (c : Dev nD) : (dats m 0 c).arrAt 4 (cfgs 0).N = Reference1Ideal.Read.val_main_v35 (F := Ideal)
    (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]; simp only [outsAt0]; frame_out
  rw [block_x, block_h]
  idx_vars y
  refine (dx_at _ _ _ _ _ (block_z m c t) (block_g m c t) _ _).trans ?_
  blk_ext [idx t]

/-- The kernel's `dg`. -/
theorem final_dg (c : Dev nD) : (dats m 0 c).arrAt 5 (cfgs 0).N = Reference1Ideal.Read.val_main_v36 (F := Ideal)
    (m ((c : Thread nD τ).loc main_arg0)) (m ((c : Thread nD τ).loc main_arg2)) := by
  refine (dats m 0 c).arrAt_eq_of_covers 5 _ (by decide +kernel) fun t hf y => ?_
  blk_simp
  rw [after0_5]; simp only [outsAt0]; frame_out
  rw [block_x, block_h]
  idx_vars y
  obtain rfl : y0 = 0 := Subsingleton.elim _ _
  refine (dg_at _ _ _).trans ?_
  blk_ext [idx t]

end Cert.Kernel1Ideal.RmsBwd

namespace Cert.RmsBwd

open Idealize.ShloMosaic Idealize.SL.Sem

theorem frame_reference : quiescent_Reference1Ideal := fun m g _ =>
  (θ_run Reference1Ideal.defs _ _).mono (fun r h => ⟨fun c => (h c).2.2, sem_eq_zero_of_no_sems (by decide) r.2⟩)
    (Reference1Ideal.Value.run (F := Ideal) m g)

theorem algebraic : algebraic_Kernel1Ideal_Reference1Ideal := by
  pair_intro
  · run_from Kernel1Ideal.Value.run_blocks m g
  · run_from Reference1Ideal.Value.run m' g'
    · exact (Reference1Ideal.Read.val_main_v35_eq _ _ _).trans (Kernel1Ideal.RmsBwd.final_dx m c).symm
    · exact (Reference1Ideal.Read.val_main_v36_eq _ _).trans (Kernel1Ideal.RmsBwd.final_dg m c).symm

end Cert.RmsBwd

end
-- ==== Proof.SbStep.lean ====
module
public import proofs.«01_k».proof.Proof.Gen.Kernel2Ideal.Value
public import Idealize.ShloMosaic.Lib.Pipeline.ValueKit
@[expose] public section
noncomputable section

/-! One head's share of one span of keys, as the kernel computes it for a block of 512 query rows: the vector
operations in their order, once, with the mask of the last span optional. Every span of both heads is an instance. -/
namespace Cert.SbStep
open Cert.Kernel2Ideal Cert.Kernel2Ideal.Gen Idealize.ShloMosaic Idealize.ShloMosaic.TcCoe Idealize.SL.Sem

/-- What one head's step reads: its masked queries and cotangents, the span's keys and values, the table of sums over
later blocks, the span's number and, on the last span, the causal mask. -/
structure Inp where
  q : FVec Ideal S512x128 .bf16
  d : FVec Ideal S512x128 .bf16
  k : FVec Ideal S1024x128 .bf16
  v : FVec Ideal S1024x128 .bf16
  tab : FVec Ideal S512x128 .f32
  sb : BitVec 32
  mask : Option (IVec S512x1024 1)

variable (s : Inp)

/-- A row of the mask's shape kept where the mask allows, zero elsewhere. -/
def kept (x : FVec Ideal S512x1024 .f32) : FVec Ideal S512x1024 .f32 :=
  match s.mask with
  | none => x
  | some m => select m x (broadcast S512x1024 (Scalar.ofBits (F := Ideal) .f32 0x00000000#32))

theorem slices (b : Fin 8) : S512x1024.Slices ![0, 128 * b.val] S512x128 := by revert b; decide

/-- The `b`-th block of 128 keys. -/
def block (b : Fin 8) (x : FVec Ideal S512x1024 .bf16) : FVec Ideal S512x128 .bf16 :=
  extractStridedSlice S512x128 ![0, 128 * b.val] x (slices b)

/-- Eight blocks side by side. -/
def join (f : Fin 8 → FVec Ideal S512x128 .f32) : FVec Ideal S512x1024 .f32 :=
  concatenate S512x1024 1 [⟨S512x128, f 0⟩, ⟨S512x128, f 1⟩, ⟨S512x128, f 2⟩, ⟨S512x128, f 3⟩, ⟨S512x128, f 4⟩,
    ⟨S512x128, f 5⟩, ⟨S512x128, f 6⟩, ⟨S512x128, f 7⟩]
    concatenates_S512x128_S512x128_S512x128_S512x128_S512x128_S512x128_S512x128_S512x128_S512x1024_d1

/-- The scores of the span. -/
def score : FVec Ideal S512x1024 .f32 :=
  matmul dot_S512x128_S1024x128_S512x1024_1_1_0_0_n_n none s.q s.k (constant S512x1024 .f32 0x00000000#32)

/-- The logarithm of the gate. -/
def logGate : FVec Ideal S512x1024 .f32 :=
  subf (minimumf (score s) (broadcast S512x1024 (Scalar.ofBits (F := Ideal) .f32 0x00000000#32)))
    (log (addf (broadcast S512x1024 (Scalar.ofBits (F := Ideal) .f32 0x3F800000#32))
      (exp (subf (broadcast S512x1024 (Scalar.ofBits (F := Ideal) .f32 0x00000000#32)) (absf (score s))))))

/-- The logarithm of one minus the gate, masked. -/
def logRest : FVec Ideal S512x1024 .bf16 :=
  truncf .bf16 (kept s (subf (logGate s) (score s))) bitsLt_bf16_f32

/-- The lane of the table that belongs to block `b` of the span. -/
def lane (b : Fin 8) : IVec S512x128 1 :=
  broadcastTo S512x128 (shapeCast S1x128 (cmpi .eq (iota .tc S1x128 32 [1] iota_S1x128_d1_w32)
    (broadcast S1x128 (Scalar.addi (Scalar.muli s.sb 8#32) (BitVec.ofNat 32 b.val)))) shapeCasts_S1x128_S1x128)
    broadcasts_S1x128_S512x128

/-- The sum of the logarithms over later keys, for the keys of block `b`. -/
def laterBlock (b : Fin 8) : FVec Ideal S512x128 .f32 :=
  addf (broadcastTo S512x128 (shapeCast S512x1 (multiReduction .add [1] S512
      (select (lane s b) s.tab (broadcast S512x128 (Scalar.ofBits (F := Ideal) .f32 0x00000000#32)))
      0x00000000#32 reduces_S512x128_S512 (.inl rfl) rfl) shapeCasts_S512_S512x1) broadcasts_S512x1_S512x128)
    (matmul dot_S512x128_S128x128_S512x128_1_0_0_1_n_n none (block b (logRest s)) (k0_pay192 (F := Ideal))
      (constant S512x128 .f32 0x00000000#32))

/-- The attention weights of the span. -/
def weight : FVec Ideal S512x1024 .f32 := kept s (exp (addf (logGate s) (join (laterBlock s))))

/-- The gates of the span. -/
def gate : FVec Ideal S512x1024 .f32 := kept s (exp (logGate s))

/-- The cotangents of the weights' logarithms. -/
def grad : FVec Ideal S512x1024 .f32 :=
  mulf (weight s) (matmul dot_S512x128_S1024x128_S512x1024_1_1_0_0_n_n none s.d s.v (constant S512x1024 .f32 0x00000000#32))

/-- Within block `b`: the sums over earlier keys in the first 128 lanes, the block's total in the others. -/
def sums (b : Fin 8) : FVec Ideal S512x256 .f32 :=
  matmul dot_S512x128_S128x256_S512x256_1_0_0_1_n_n none (block b (truncf .bf16 (grad s) bitsLt_bf16_f32))
    (k0_pay193 (F := Ideal)) (constant S512x256 .f32 0x00000000#32)

/-- The total carried to block `b`, from the total `p` of the earlier spans. -/
def carried (p : FVec Ideal S512x128 .f32) : ℕ → FVec Ideal S512x128 .f32
  | 0 => p
  | b + 1 => addf (carried p b)
      (extractStridedSlice S512x128 ![0, 128] (sums s (Fin.ofNat 8 b)) slices_S512x256_o0_128_S512x128)

/-- The sum of the cotangents over earlier keys, for the keys of block `b`. -/
def beforeBlock (p : FVec Ideal S512x128 .f32) (b : Fin 8) : FVec Ideal S512x128 .f32 :=
  addf (carried s p b.val) (extractStridedSlice S512x128 ![0, 0] (sums s b) slices_S512x256_o0_0_S512x128)

/-- The cotangents of the scores. -/
def dscore (p : FVec Ideal S512x128 .f32) : FVec Ideal S512x1024 .bf16 :=
  truncf .bf16 (subf (grad s) (mulf (gate s) (addf (grad s) (join (beforeBlock s p))))) bitsLt_bf16_f32

/-- The head's part of the keys' gradient. -/
def dkPart (p : FVec Ideal S512x128 .f32) : FVec Ideal S1024x128 .f32 :=
  matmul dot_S512x1024_S512x128_S1024x128_0_0_1_1_n_n none (dscore s p) s.q (constant S1024x128 .f32 0x00000000#32)

/-- The head's part of the values' gradient. -/
def dvPart : FVec Ideal S1024x128 .f32 :=
  matmul dot_S512x1024_S512x128_S1024x128_0_0_1_1_n_n none (truncf .bf16 (weight s) bitsLt_bf16_f32) s.d
    (constant S1024x128 .f32 0x00000000#32)

/-- The queries' gradient with the span's part added. -/
def dqNext (p dq : FVec Ideal S512x128 .f32) : FVec Ideal S512x128 .f32 :=
  addf dq (matmul dot_S512x1024_S1024x128_S512x128_1_0_0_1_n_n none (dscore s p) s.k (constant S512x128 .f32 0x00000000#32))

end Cert.SbStep
-- ==== Proof.SbTrip.lean ====
module
public import proofs.«01_k».proof.Proof.SbStep
@[expose] public section
noncomputable section

/-! One trip of the kernel's loop over the spans below the last, as two steps of `SbStep`, one for each head. -/
namespace Cert.SbTrip
open Cert.Kernel2Ideal Cert.Kernel2Ideal.Gen Cert.SbStep
open Idealize.ShloMosaic Idealize.ShloMosaic.TcCoe Idealize.SL.Sem

/-- The rows of an array that trip `k` reads. -/
abbrev spanOf (i : grid0.Coords) (a : Memref sig .tc .vmem S4096x128 .f32) (X : BufTy.Contents (Elt Ideal) a.view.ty)
    (k : Fin (k0_t1_loop i).trips) : FVec Ideal S1024x128 .f32 :=
  View.readAt (Elt Ideal) a.view (Rect.unit (s := S4096x128) (k0_off1 i k) S1024x128.size (k0_off1_inb i k)).toLoadRect X

/-- What a head's step reads in trip `k`. -/
abbrev tripInp (i : grid0.Coords) (a3 a4 : Memref sig .tc .vmem S4096x128 .f32)
    (X3 : BufTy.Contents (Elt Ideal) a3.view.ty) (X4 : BufTy.Contents (Elt Ideal) a4.view.ty)
    (k : Fin (k0_t1_loop i).trips) (q d : FVec Ideal S512x128 .bf16) (tab : FVec Ideal S512x128 .f32) : Inp where
  q := q
  d := d
  k := truncf .bf16 (spanOf i a3 X3 k) bitsLt_bf16_f32
  v := truncf .bf16 (spanOf i a4 X4 k) bitsLt_bf16_f32
  tab := tab
  sb := Scf.iv 0#32 1#32 k
  mask := none

variable (𝒱 : Variants) (c : Dev nD) (bd : Option 𝒱.V) (i : grid0.Coords)
  (a2 : Memref sig .tc .vmem S512x128 .f32) (h2 : a2.IsWhole) (a3 : Memref sig .tc .vmem S4096x128 .f32) (h3 : a3.IsWhole)
  (a4 : Memref sig .tc .vmem S4096x128 .f32) (h4 : a4.IsWhole) (a5 : Memref sig .tc .vmem S512x128 .bf16) (h5 : a5.IsWhole)
  (a6 : Memref sig .tc .vmem S1x512x128 .f32) (h6 : a6.IsWhole) (a7 : Memref sig .tc .vmem S1x512x128 .f32) (h7 : a7.IsWhole)
  (a8 : Memref sig .tc .vmem S512x128 .bf16) (h8 : a8.IsWhole) (a9 : Memref sig .tc .vmem S4096x128 .bf16) (h9 : a9.IsWhole)
  (a10 : Memref sig .tc .vmem S4096x128 .bf16) (h10 : a10.IsWhole) (a11 : Memref sig .tc .vmem S4096x128 .f32)
  (h11 : a11.IsWhole) (a12 : Memref sig .tc .vmem S4096x128 .f32) (h12 : a12.IsWhole) (v22 : BitVec 32)
  (v31 : IVec S512x1024 1) (v39 v44 v70 v75 : FVec Ideal S512x128 .bf16) (v77 : FVec Ideal S512x128 .f32)
  (v78 : FVec Ideal S1x512x128 .f32) (X3 : BufTy.Contents (Elt Ideal) a3.view.ty) (X4 : BufTy.Contents (Elt Ideal) a4.view.ty)
  (k : Fin (k0_t1_loop i).trips)
  (acc : FVec Ideal S512x128 .f32 × FVec Ideal S512x128 .f32 × FVec Ideal S512x128 .f32 × FVec Ideal S512x128 .f32)
  (f11 : BufTy.Contents (Elt Ideal) a11.view.ty) (f12 : BufTy.Contents (Elt Ideal) a12.view.ty)

/-- The numbers of the table's lanes. -/
abbrev lanes : IVec S1x128 32 := iota .tc S1x128 32 [1] iota_S1x128_d1_w32

/-- The totals and the queries' gradients a trip hands on. -/
theorem tripR_eq :
    tripR_k0_t1 (F := Ideal) 𝒱 c bd i a2 h2 a3 h3 a4 h4 a5 h5 a6 h6 a7 h7 a8 h8 a9 h9 a10 h10 a11 h11 a12 h12 v22 v31 v39 v44
        k0_pay192 k0_pay193 v70 v75 v77 v78 lanes X3 X4 k acc f11 f12
      = (carried (tripInp i a3 a4 X3 X4 k v39 v70 v77) acc.1 8,
        dqNext (tripInp i a3 a4 X3 X4 k v39 v70 v77) acc.1 acc.2.1,
        carried (tripInp i a3 a4 X3 X4 k v44 v75 (k0_pay197 v78)) acc.2.2.1 8,
        dqNext (tripInp i a3 a4 X3 X4 k v44 v75 (k0_pay197 v78)) acc.2.2.1 acc.2.2.2) := by
  unfold tripR_k0_t1 trip_k0_t1
  dsimp only
  refine Prod.ext ?_ (Prod.ext ?_ (Prod.ext ?_ ?_)) <;> rfl

/-- What two parts add to a block of rows. -/
def plus (x y z : FVec Ideal S1024x128 .f32) : FVec Ideal S1024x128 .f32 :=
  shapeCast S1024x128 (addf x (addf (addf (broadcast S1024x128 (Scalar.ofBits (F := Ideal) .f32 0x00000000#32)) y) z))
    shapeCasts_S1024x128_S1024x128

theorem plus_at (x y z : FVec Ideal S1024x128 .f32) (l i) : plus x y z (ix2 l i) = x (ix2 l i) + (y (ix2 l i) + z (ix2 l i)) := by
  pointwise [plus]

/-- The rows a trip stores: the keys' gradient and the values' gradient of its span. -/
theorem tripL_eq :
    tripL_k0_t1 (F := Ideal) 𝒱 c bd i a2 h2 a3 h3 a4 h4 a5 h5 a6 h6 a7 h7 a8 h8 a9 h9 a10 h10 a11 h11 a12 h12 v22 v31 v39 v44
        k0_pay192 k0_pay193 v70 v75 v77 v78 lanes X3 X4 k acc f11 f12
      = ([⟨Rect.unit (s := S4096x128) (k0_off1 i k) S1024x128.size (k0_off1_inb i k),
          plus (spanOf i a11 f11 k) (dkPart (tripInp i a3 a4 X3 X4 k v39 v70 v77) acc.1)
            (dkPart (tripInp i a3 a4 X3 X4 k v44 v75 (k0_pay197 v78)) acc.2.2.1)⟩],
        [⟨Rect.unit (s := S4096x128) (k0_off1 i k) S1024x128.size (k0_off1_inb i k),
          plus (spanOf i a12 f12 k) (dvPart (tripInp i a3 a4 X3 X4 k v39 v70 v77))
            (dvPart (tripInp i a3 a4 X3 X4 k v44 v75 (k0_pay197 v78)))⟩]) := by
  unfold tripL_k0_t1 trip_k0_t1
  dsimp only
  refine Prod.ext ?_ ?_
  · refine congrArg (fun x => [(⟨_, x⟩ : View.Piece (Elt Ideal) S4096x128 .f32)]) ?_
    rfl
  · refine congrArg (fun x => [(⟨_, x⟩ : View.Piece (Elt Ideal) S4096x128 .f32)]) ?_
    rfl

end Cert.SbTrip
-- ==== Proof.SbHead.lean ====
module
public import proofs.«01_k».proof.Proof.Reals
@[expose] public section
noncomputable section

/-! One head of the stick-breaking attention over the real numbers, and sums over blocks of 128 keys. -/
open Idealize.ShloMosaic Idealize.ShloMosaic.TcCoe
namespace Cert.SbReal
/-- One head's queries, cotangents, keys and values: by position, then by feature. -/
structure Head where
  Q : ℕ → Fin 128 → ℝ
  O : ℕ → Fin 128 → ℝ
  K : ℕ → Fin 128 → ℝ
  V : ℕ → Fin 128 → ℝ

/-- The logarithm of the logistic function. -/
def lsp (z : ℝ) : ℝ := min z 0 - Real.log (1 + Real.exp (-|z|))

namespace Head
variable (h : Head)

/-- The score of query `q` at key `k`. -/
def Z (q k : ℕ) : ℝ := ∑ i, h.Q q i * h.K k i

/-- The logarithm of one minus the gate, zero where the key isn't earlier than the query. -/
def rest (q k : ℕ) : ℝ := if k < q then lsp (h.Z q k) - h.Z q k else 0

/-- The attention weight. -/
def att (q k : ℕ) : ℝ := if k < q then Real.exp (lsp (h.Z q k) + ∑ j ∈ Finset.Ico (k + 1) 4096, h.rest q j) else 0

/-- The cotangent of the weight's logarithm. -/
def grd (q k : ℕ) : ℝ := h.att q k * ∑ i, h.O q i * h.V k i

/-- The gate. -/
def gat (q k : ℕ) : ℝ := if k < q then Real.exp (lsp (h.Z q k)) else 0

/-- The cotangent of the score. -/
def dz (q k : ℕ) : ℝ := h.grd q k - h.gat q k * (h.grd q k + ∑ j ∈ Finset.range k, h.grd q j)

end Head

theorem log_one_add (z : ℝ) :
    Ideal.log (1 + Ideal.exp ((-|z| : ℝ) : EReal)) = ((Real.log (1 + Real.exp (-|z|)) : ℝ) : EReal) := by
  rw [Ideal.exp_coe, ← EReal.coe_one, ← EReal.coe_add, Ideal.log_coe, if_neg (by have := Real.exp_pos (-|z|); linarith)]

theorem coe_min (x y : ℝ) : min (x : EReal) (y : EReal) = ((min x y : ℝ) : EReal) := (EReal.coe_strictMono.monotone.map_min).symm

theorem coe_ite (p : Prop) [Decidable p] (x : ℝ) : (if p then (x : EReal) else 0) = ((if p then x else 0 : ℝ) : EReal) := by
  split_ifs <;> rfl

/-- The sum over the lanes after lane `j`. -/
theorem sum_after (f : ℕ → ℝ) (c : ℕ) (j : Fin 128) :
    ∑ a : Fin 128, f (c + a.val) * (if j.val < a.val then 1 else 0) = ∑ k ∈ Finset.Ico (c + j.val + 1) (c + 128), f k := by
  rw [Fin.sum_univ_eq_sum_range (fun a => f (c + a) * (if j.val < a then 1 else 0)) 128, Finset.range_eq_Ico,
    ← Finset.sum_Ico_consecutive _ (Nat.zero_le (j.val + 1)) (by omega : j.val + 1 ≤ 128)]
  have hz : ∑ i ∈ Finset.Ico 0 (j.val + 1), f (c + i) * (if j.val < i then 1 else 0 : ℝ) = 0 := by
    refine Finset.sum_eq_zero fun a ha => ?_
    have := Finset.mem_Ico.mp ha
    rw [if_neg (by omega), mul_zero]
  rw [hz, zero_add, ← (by ring : j.val + 1 + c = c + j.val + 1), add_comm c 128, ← Finset.sum_Ico_add' f (j.val + 1) 128 c]
  refine Finset.sum_congr rfl fun a ha => ?_
  have := Finset.mem_Ico.mp ha
  rw [if_pos (by omega), mul_one, add_comm]

/-- The sum over the lanes before lane `j`. -/
theorem sum_before (f : ℕ → ℝ) (c j : ℕ) (hj : j ≤ 128) :
    ∑ a : Fin 128, f (c + a.val) * (if a.val < j then 1 else 0) = ∑ k ∈ Finset.Ico c (c + j), f k := by
  rw [Fin.sum_univ_eq_sum_range (fun a => f (c + a) * (if a < j then 1 else 0)) 128, Finset.range_eq_Ico,
    ← Finset.sum_Ico_consecutive _ (Nat.zero_le j) hj, add_comm]
  have hz : ∑ i ∈ Finset.Ico j 128, f (c + i) * (if i < j then 1 else 0 : ℝ) = 0 := by
    refine Finset.sum_eq_zero fun a ha => ?_
    have := Finset.mem_Ico.mp ha
    rw [if_neg (by omega), mul_zero]
  rw [hz, zero_add]
  have := Finset.sum_Ico_add' f 0 j c
  rw [zero_add, add_comm j c] at this
  rw [← this]
  refine Finset.sum_congr rfl fun a ha => ?_
  have := Finset.mem_Ico.mp ha
  rw [if_pos (by omega), mul_one, add_comm]

end Cert.SbReal

namespace Cert.SbData
open Cert.SbReal

variable (q o k v : ℕ → Fin 128 → ℝ)

/-- The head of the first 64 columns, with scaled queries. -/
def low : Head := ⟨fun y l => if l.val < 64 then q y l * (1 / 8) else 0, fun y l => if l.val < 64 then o y l else 0, k, v⟩
/-- The head of the other 64 columns. -/
def high : Head := ⟨fun y l => if 64 ≤ l.val then q y l * (1 / 8) else 0, fun y l => if 64 ≤ l.val then o y l else 0, k, v⟩

/-- The sums a head's table holds: over the keys of later blocks of 128. -/
def later (h : Head) (y : ℕ) (b : Fin 128) : ℝ := ∑ j ∈ Finset.Ico (128 * (b.val + 1)) 4096, h.rest y j

theorem ofBits_eighth : Ideal.ofBits .f32 0x3E000000#32 = ((1 / 8 : ℝ) : EReal) := by
  simp [Ideal.ofBits, Ideal.ieee, -EReal.coe_mul]; norm_num

end Cert.SbData
-- ==== Proof.SbReal.lean ====
module
public import proofs.«01_k».proof.Proof.SbStep
public import proofs.«01_k».proof.Proof.SbHead
@[expose] public section
set_option maxRecDepth 16384
noncomputable section

/-! A step of the backward pass read over the real numbers: one head, query rows `ρ + r`, the keys of span `n`. -/
namespace Cert.SbReal
open Cert.Kernel2Ideal Cert.Kernel2Ideal.Gen Cert.SbStep Cert.Reals
open Idealize.ShloMosaic Idealize.ShloMosaic.TcCoe Idealize.SL.Sem

/-- What a step is given, in terms of a head, the first query row `ρ` and the span's number `n`. -/
structure Reads (s : Inp) (h : Head) (ρ n : ℕ) : Prop where
  q : ∀ r i, s.q (ix2 r i) = ((h.Q (ρ + r.val) i : ℝ) : EReal)
  d : ∀ r i, s.d (ix2 r i) = ((h.O (ρ + r.val) i : ℝ) : EReal)
  k : ∀ l i, s.k (ix2 l i) = ((h.K (1024 * n + l.val) i : ℝ) : EReal)
  v : ∀ l i, s.v (ix2 l i) = ((h.V (1024 * n + l.val) i : ℝ) : EReal)
  tab : ∀ r b, s.tab (ix2 r b) = ((∑ j ∈ Finset.Ico (128 * (b.val + 1)) 4096, h.rest (ρ + r.val) j : ℝ) : EReal)
  sb : s.sb = BitVec.ofNat 32 n
  hn : n < 4
  kept : ∀ (x : FVec Ideal S512x1024 .f32) r l,
    kept s x (ix2 r l) = if 1024 * n + l.val < ρ + r.val then x (ix2 r l) else (0 : EReal)

/-- The number of key `j` of block `b`. -/
abbrev key (b : Fin 8) (j : Fin 128) : Fin 1024 := ⟨128 * b.val + j.val, by omega⟩

theorem exists_key (l : Fin 1024) : ∃ b j, l = key b j :=
  ⟨⟨l.val / 128, by omega⟩, ⟨l.val % 128, by omega⟩, Fin.ext (by show l.val = 128 * (l.val / 128) + l.val % 128; omega)⟩

theorem join_at (f : Fin 8 → FVec Ideal S512x128 .f32) (r : Fin 512) (b : Fin 8) (j : Fin 128) :
    join f (ix2 r (key b j)) = f b (ix2 r j) := by
  pointwise [join, key]
  fin_vals b with hb
  · obtain rfl : b = 0 := Fin.ext hb
    rw [dif_pos (by omega)]; exact congrArg _ ((ix2_inj ..).2 ⟨rfl, Fin.ext (by dsimp only; omega)⟩)
  · obtain rfl : b = 1 := Fin.ext hb
    rw [dif_neg (by omega), dif_pos (by omega)]; exact congrArg _ ((ix2_inj ..).2 ⟨rfl, Fin.ext (by dsimp only; omega)⟩)
  · obtain rfl : b = 2 := Fin.ext hb
    rw [dif_neg (by omega), dif_neg (by omega), dif_pos (by omega)]
    exact congrArg _ ((ix2_inj ..).2 ⟨rfl, Fin.ext (by dsimp only; omega)⟩)
  · obtain rfl : b = 3 := Fin.ext hb
    rw [dif_neg (by omega), dif_neg (by omega), dif_neg (by omega), dif_pos (by omega)]
    exact congrArg _ ((ix2_inj ..).2 ⟨rfl, Fin.ext (by dsimp only; omega)⟩)
  · obtain rfl : b = 4 := Fin.ext hb
    rw [dif_neg (by omega), dif_neg (by omega), dif_neg (by omega), dif_neg (by omega), dif_pos (by omega)]
    exact congrArg _ ((ix2_inj ..).2 ⟨rfl, Fin.ext (by dsimp only; omega)⟩)
  · obtain rfl : b = 5 := Fin.ext hb
    rw [dif_neg (by omega), dif_neg (by omega), dif_neg (by omega), dif_neg (by omega), dif_neg (by omega), dif_pos (by omega)]
    exact congrArg _ ((ix2_inj ..).2 ⟨rfl, Fin.ext (by dsimp only; omega)⟩)
  · obtain rfl : b = 6 := Fin.ext hb
    rw [dif_neg (by omega), dif_neg (by omega), dif_neg (by omega), dif_neg (by omega), dif_neg (by omega),
      dif_neg (by omega), dif_pos (by omega)]
    exact congrArg _ ((ix2_inj ..).2 ⟨rfl, Fin.ext (by dsimp only; omega)⟩)
  · obtain rfl : b = 7 := Fin.ext hb
    rw [dif_neg (by omega), dif_neg (by omega), dif_neg (by omega), dif_neg (by omega), dif_neg (by omega),
      dif_neg (by omega), dif_neg (by omega)]
    exact congrArg _ ((ix2_inj ..).2 ⟨rfl, Fin.ext (by dsimp only; omega)⟩)

theorem block_at (x : FVec Ideal S512x1024 .bf16) (r : Fin 512) (b : Fin 8) (j : Fin 128) :
    block b x (ix2 r j) = x (ix2 r (key b j)) := by
  pointwise [block, key]

theorem tri_at (a b : Fin 128) :
    k0_pay192 (F := Ideal) (ix2 a b) = (((if b.val < a.val then 1 else 0 : ℝ)) : EReal) := by
  pointwise [k0_pay192]
  word_cmp
  refine (if_congr (show 128 ≤ b.val ∨ b.val < a.val ↔ b.val < a.val by omega) rfl rfl).trans ?_
  split_ifs <;> rfl

theorem pre_at (a : Fin 128) (b : Fin 256) :
    k0_pay193 (F := Ideal) (ix2 a b) = (((if a.val < b.val ∨ 128 ≤ b.val then 1 else 0 : ℝ)) : EReal) := by
  pointwise [k0_pay193]
  word_cmp
  refine (if_congr or_comm rfl rfl).trans ?_
  split_ifs <;> rfl

variable {s : Inp} {h : Head} {ρ n : ℕ} (H : Reads s h ρ n)
include H

theorem score_at (r l) : score s (ix2 r l) = ((h.Z (ρ + r.val) (1024 * n + l.val) : ℝ) : EReal) := by
  pointwise [score]
  simp only [H.q, H.k, ← EReal.coe_mul, sum_coe]
  rw [Head.Z]

theorem logGate_at (r l) : logGate s (ix2 r l) = ((lsp (h.Z (ρ + r.val) (1024 * n + l.val)) : ℝ) : EReal) := by
  pointwise [logGate]
  rw [score_at H, lsp]
  generalize h.Z (ρ + r.val) (1024 * n + l.val) = z
  have ha : (0 : EReal) - FloatOps.absf (F := Ideal) (φ := .f32) (z : EReal) = ((-|z| : ℝ) : EReal) := by
    rw [show FloatOps.absf (F := Ideal) (φ := .f32) (z : EReal) = max (z : EReal) (-(z : EReal)) from rfl, ← EReal.coe_neg,
      ← (EReal.coe_strictMono.monotone.map_max), ← EReal.coe_zero, ← EReal.coe_sub, zero_sub, abs]
  rw [ha, log_one_add, ← EReal.coe_zero, coe_min, ← EReal.coe_sub]

theorem lane_at (b : Fin 8) (r) (j : Fin 128) (x : EReal) : Scalar.select (lane s b (ix2 r j)) x 0 = if j.val = 8 * n + b.val then x else 0 := by
  pointwise [lane]
  have hn := H.hn
  rw [H.sb, show Scalar.addi (Scalar.muli (BitVec.ofNat 32 n) 8#32) (BitVec.ofNat 32 b.val) = BitVec.ofNat 32 (8 * n + b.val) by
    have hb := b.isLt
    generalize b.val = b at *
    interval_cases n <;> interval_cases b <;> rfl]
  rw [Scalar.select]
  refine if_congr ?_ rfl rfl
  word_cmp

theorem logRest_at (r l) : logRest s (ix2 r l) = ((h.rest (ρ + r.val) (1024 * n + l.val) : ℝ) : EReal) := by
  pointwise [logRest]
  rw [H.kept]
  pointwise []
  rw [logGate_at H, score_at H, ← EReal.coe_sub, coe_ite]
  rw [Head.rest]

theorem laterBlock_at (b : Fin 8) (r j) : laterBlock s b (ix2 r j)
    = ((∑ k ∈ Finset.Ico (1024 * n + (key b j).val + 1) 4096, h.rest (ρ + r.val) k : ℝ) : EReal) := by
  pointwise [laterBlock]
  have hn := H.hn
  have e1 : ∑ x : Fin 128, Scalar.select (lane s b (ix2 r x)) (s.tab (ix2 r x)) 0
      = ((∑ k ∈ Finset.Ico (1024 * n + 128 * b.val + 128) 4096, h.rest (ρ + r.val) k : ℝ) : EReal) := by
    simp only [lane_at H]
    rw [Finset.sum_eq_single (⟨8 * n + b.val, by omega⟩ : Fin 128) (fun x _ hx => if_neg fun hh => hx (Fin.ext hh))
      (fun hx => absurd (Finset.mem_univ _) hx), if_pos rfl, H.tab]
    dsimp only
    rw [show 128 * (8 * n + b.val + 1) = 1024 * n + 128 * b.val + 128 by ring]
  have e2 : ∑ x : Fin 128, block b (logRest s) (ix2 r x) * k0_pay192 (F := Ideal) (ix2 x j)
      = ((∑ k ∈ Finset.Ico (1024 * n + 128 * b.val + j.val + 1) (1024 * n + 128 * b.val + 128), h.rest (ρ + r.val) k : ℝ) : EReal) := by
    rw [← sum_after, ← sum_coe]
    refine Finset.sum_congr rfl fun x _ => ?_
    rw [block_at, logRest_at H, tri_at, ← EReal.coe_mul, key, add_assoc (1024 * n)]
  refine (congrArg₂ (· + ·) e1 e2).trans ?_
  rw [← EReal.coe_add, add_comm, Finset.sum_Ico_consecutive _ (by omega) (by omega), add_assoc (1024 * n) (128 * b.val) j.val]

theorem weight_at (r l) : weight s (ix2 r l) = ((h.att (ρ + r.val) (1024 * n + l.val) : ℝ) : EReal) := by
  obtain ⟨b, j, rfl⟩ := exists_key l
  rw [weight, H.kept]
  pointwise []
  rw [logGate_at H, join_at, laterBlock_at H, ← EReal.coe_add, Ideal.exp_coe, coe_ite]
  rw [Head.att]

theorem gate_at (r l) : gate s (ix2 r l) = ((h.gat (ρ + r.val) (1024 * n + l.val) : ℝ) : EReal) := by
  rw [gate, H.kept]
  pointwise []
  rw [logGate_at H, Ideal.exp_coe, coe_ite]
  rw [Head.gat]

theorem grad_at (r l) : grad s (ix2 r l) = ((h.grd (ρ + r.val) (1024 * n + l.val) : ℝ) : EReal) := by
  pointwise [grad]
  simp only [weight_at H, H.d, H.v, ← EReal.coe_mul, sum_coe]
  rw [Head.grd]

theorem sums_at (b : Fin 8) (r) (j : Fin 256) : sums s b (ix2 r j)
    = ((∑ k ∈ Finset.Ico (1024 * n + 128 * b.val) (1024 * n + 128 * b.val + min j.val 128), h.grd (ρ + r.val) k : ℝ) : EReal) := by
  pointwise [sums]
  rw [← sum_before _ _ _ (by omega), ← sum_coe]
  refine Finset.sum_congr rfl fun x _ => ?_
  rw [block_at, pre_at]
  pointwise []
  rw [grad_at H, ← EReal.coe_mul, key, add_assoc (1024 * n)]
  have hx := x.isLt
  rw [if_congr (show x.val < j.val ∨ 128 ≤ j.val ↔ x.val < min j.val 128 by omega) rfl rfl]

variable {p : FVec Ideal S512x128 .f32}
  (hp : ∀ r i, p (ix2 r i) = ((∑ k ∈ Finset.range (1024 * n), h.grd (ρ + r.val) k : ℝ) : EReal))
include hp

theorem carried_at (b : ℕ) (hb : b ≤ 8) (r i) : carried s p b (ix2 r i)
    = ((∑ k ∈ Finset.range (1024 * n + 128 * b), h.grd (ρ + r.val) k : ℝ) : EReal) := by
  induction b with
  | zero => exact hp r i
  | succ b ih =>
    rw [carried]
    pointwise []
    rw [ih (by omega), sums_at H, ← EReal.coe_add]
    have e : (Fin.ofNat 8 b).val = b := Nat.mod_eq_of_lt (by omega)
    rw [e, show min (128 + i.val) 128 = 128 by omega, Finset.range_eq_Ico, Finset.range_eq_Ico,
      Finset.sum_Ico_consecutive _ (by omega) (by omega), Nat.mul_succ, add_assoc]

theorem beforeBlock_at (b : Fin 8) (r j) : beforeBlock s p b (ix2 r j)
    = ((∑ k ∈ Finset.range (1024 * n + (key b j).val), h.grd (ρ + r.val) k : ℝ) : EReal) := by
  rw [beforeBlock]
  pointwise []
  rw [carried_at H hp _ (by omega), sums_at H, ← EReal.coe_add]
  dsimp only
  rw [show min j.val 128 = j.val by omega, Finset.range_eq_Ico, Finset.range_eq_Ico,
    Finset.sum_Ico_consecutive _ (by omega) (by omega), add_assoc]

theorem dscore_at (r l) : dscore s p (ix2 r l) = ((h.dz (ρ + r.val) (1024 * n + l.val) : ℝ) : EReal) := by
  obtain ⟨b, j, rfl⟩ := exists_key l
  rw [dscore]
  pointwise []
  rw [grad_at H, gate_at H, join_at, beforeBlock_at H hp, ← EReal.coe_add, ← EReal.coe_mul, ← EReal.coe_sub]
  rw [Head.dz]

theorem dkPart_at (l i) : dkPart s p (ix2 l i)
    = ((∑ r : Fin 512, h.dz (ρ + r.val) (1024 * n + l.val) * h.Q (ρ + r.val) i : ℝ) : EReal) := by
  pointwise [dkPart]
  simp only [dscore_at H hp, H.q, ← EReal.coe_mul, sum_coe]

theorem dqNext_at (dq : FVec Ideal S512x128 .f32) (r i) : dqNext s p dq (ix2 r i)
    = dq (ix2 r i) + ((∑ l : Fin 1024, h.dz (ρ + r.val) (1024 * n + l.val) * h.K (1024 * n + l.val) i : ℝ) : EReal) := by
  pointwise [dqNext]
  simp only [dscore_at H hp, H.k, ← EReal.coe_mul, sum_coe]

omit hp in
theorem dvPart_at (l i) : dvPart s (ix2 l i)
    = ((∑ r : Fin 512, h.att (ρ + r.val) (1024 * n + l.val) * h.O (ρ + r.val) i : ℝ) : EReal) := by
  pointwise [dvPart]
  simp only [weight_at H, H.d, ← EReal.coe_mul, sum_coe]

end Cert.SbReal
-- ==== Proof.SbLoop.lean ====
module
public import proofs.«01_k».proof.Proof.SbTrip
public import proofs.«01_k».proof.Proof.SbReal
public import Idealize.ShloMosaic.Lib.WritesUnit
@[expose] public section
set_option maxRecDepth 16384
noncomputable section

/-! The loop over the spans below the last: what it hands on, and what it has added to the two accumulators. -/
namespace Cert.SbLoop
open Cert.Kernel2Ideal Cert.Kernel2Ideal.Gen Cert.SbStep Cert.SbReal Cert.SbTrip Cert.Reals
open Idealize.ShloMosaic Idealize.ShloMosaic.TcCoe Idealize.SL.Sem

/-- What 512 query rows from `ρ` on add to the gradient of key `y`. -/
def dkInc (h : Head) (ρ y : ℕ) (i : Fin 128) : ℝ := ∑ r : Fin 512, h.dz (ρ + r.val) y * h.Q (ρ + r.val) i

/-- What they add to the gradient of value `y`. -/
def dvInc (h : Head) (ρ y : ℕ) (i : Fin 128) : ℝ := ∑ r : Fin 512, h.att (ρ + r.val) y * h.O (ρ + r.val) i

/-- The gradient of a query from the keys before `n`. -/
def dqSum (h : Head) (n q : ℕ) (i : Fin 128) : ℝ := ∑ k ∈ Finset.range n, h.dz q k * h.K k i

/-- A pass's state after the spans before `n`: for both heads the totals and the queries' gradients, and the two
accumulators, which hold the increments of the keys passed. -/
structure Inv (h0 h1 : Head) (ρ n : ℕ) (B11 B12 : S4096x128.Idx → EReal)
    (acc : FVec Ideal S512x128 .f32 × FVec Ideal S512x128 .f32 × FVec Ideal S512x128 .f32 × FVec Ideal S512x128 .f32)
    (X11 X12 : S4096x128.Idx → EReal) : Prop where
  p0 : ∀ r i, acc.1 (ix2 r i) = ((∑ k ∈ Finset.range (1024 * n), h0.grd (ρ + r.val) k : ℝ) : EReal)
  g0 : ∀ r i, acc.2.1 (ix2 r i) = ((dqSum h0 (1024 * n) (ρ + r.val) i : ℝ) : EReal)
  p1 : ∀ r i, acc.2.2.1 (ix2 r i) = ((∑ k ∈ Finset.range (1024 * n), h1.grd (ρ + r.val) k : ℝ) : EReal)
  g1 : ∀ r i, acc.2.2.2 (ix2 r i) = ((dqSum h1 (1024 * n) (ρ + r.val) i : ℝ) : EReal)
  dk : ∀ (y : Fin 4096) (i : Fin 128), X11 (ix2 y i)
    = B11 (ix2 y i) + ((if y.val < 1024 * n then dkInc h0 ρ y.val i + dkInc h1 ρ y.val i else 0 : ℝ) : EReal)
  dv : ∀ (y : Fin 4096) (i : Fin 128), X12 (ix2 y i)
    = B12 (ix2 y i) + ((if y.val < 1024 * n then dvInc h0 ρ y.val i + dvInc h1 ρ y.val i else 0 : ℝ) : EReal)

/-- An array with the rows of span `n` replaced by themselves plus two parts. -/
structure Added (n : ℕ) (X X' : S4096x128.Idx → EReal) (a b : FVec Ideal S1024x128 .f32) : Prop where
  mem : ∀ (y : Fin 4096) (l : Fin 1024) (i : Fin 128), y.val = 1024 * n + l.val → X' (ix2 y i) = X (ix2 y i) + (a (ix2 l i) + b (ix2 l i))
  out : ∀ (y : Fin 4096) (i : Fin 128), y.val < 1024 * n ∨ 1024 * n + 1024 ≤ y.val → X' (ix2 y i) = X (ix2 y i)

theorem dqSum_succ (h : Head) (n q : ℕ) (i : Fin 128) :
    dqSum h (1024 * n) q i + ∑ l : Fin 1024, h.dz q (1024 * n + l.val) * h.K (1024 * n + l.val) i = dqSum h (1024 * (n + 1)) q i := by
  rw [dqSum, dqSum, Nat.mul_succ, Finset.sum_range_add]
  rw [Fin.sum_univ_eq_sum_range (fun l => h.dz q (1024 * n + l) * h.K (1024 * n + l) i) 1024]

theorem add_step {n : ℕ} {B X X' : S4096x128.Idx → EReal} {a b : FVec Ideal S1024x128 .f32} {f : ℕ → Fin 128 → ℝ}
    {fa fb : ℕ → Fin 128 → ℝ} (hA : Added n X X' a b) (hf : ∀ y i, f y i = fa y i + fb y i)
    (ha : ∀ l i, a (ix2 l i) = ((fa (1024 * n + l.val) i : ℝ) : EReal)) (hb : ∀ l i, b (ix2 l i) = ((fb (1024 * n + l.val) i : ℝ) : EReal))
    (hX : ∀ (y : Fin 4096) (i : Fin 128), X (ix2 y i) = B (ix2 y i) + ((if y.val < 1024 * n then f y.val i else 0 : ℝ) : EReal))
    (y : Fin 4096) (i : Fin 128) :
    X' (ix2 y i) = B (ix2 y i) + ((if y.val < 1024 * (n + 1) then f y.val i else 0 : ℝ) : EReal) := by
  by_cases hy : y.val < 1024 * n ∨ 1024 * n + 1024 ≤ y.val
  · rw [hA.out y i hy, hX, if_congr (show y.val < 1024 * n ↔ y.val < 1024 * (n + 1) by omega) rfl rfl]
  · have e : y.val = 1024 * n + (⟨y.val - 1024 * n, by omega⟩ : Fin 1024).val := by dsimp only; omega
    rw [hA.mem y _ i e, hX, ha, hb, ← e, ← EReal.coe_add, if_neg (by omega), if_pos (by omega), EReal.coe_zero, add_zero, hf]

/-- One span more. -/
theorem Inv.succ {h0 h1 : Head} {ρ n : ℕ} {B11 B12 X11 X12 X11' X12' : S4096x128.Idx → EReal}
    {acc : FVec Ideal S512x128 .f32 × FVec Ideal S512x128 .f32 × FVec Ideal S512x128 .f32 × FVec Ideal S512x128 .f32}
    (I : Inv h0 h1 ρ n B11 B12 acc X11 X12) {s0 s1 : Inp} (R0 : Reads s0 h0 ρ n) (R1 : Reads s1 h1 ρ n)
    (h11 : Added n X11 X11' (dkPart s0 acc.1) (dkPart s1 acc.2.2.1)) (h12 : Added n X12 X12' (dvPart s0) (dvPart s1)) :
    Inv h0 h1 ρ (n + 1) B11 B12 (carried s0 acc.1 8, dqNext s0 acc.1 acc.2.1, carried s1 acc.2.2.1 8, dqNext s1 acc.2.2.1 acc.2.2.2)
      X11' X12' where
  p0 r i := carried_at R0 I.p0 8 (le_refl 8) r i
  g0 r i := by dsimp only; rw [dqNext_at R0 I.p0, I.g0, ← EReal.coe_add, dqSum_succ]
  p1 r i := carried_at R1 I.p1 8 (le_refl 8) r i
  g1 r i := by dsimp only; rw [dqNext_at R1 I.p1, I.g1, ← EReal.coe_add, dqSum_succ]
  dk := add_step h11 (fun _ _ => rfl) (dkPart_at R0 I.p0) (dkPart_at R1 I.p1) I.dk
  dv := add_step h12 (fun _ _ => rfl) (dvPart_at R0) (dvPart_at R1) I.dv

/-- Nothing passed yet. -/
theorem Inv.zero {h0 h1 : Head} {ρ : ℕ} {B11 B12 : S4096x128.Idx → EReal}
    {acc : FVec Ideal S512x128 .f32 × FVec Ideal S512x128 .f32 × FVec Ideal S512x128 .f32 × FVec Ideal S512x128 .f32}
    (h0z : ∀ r i, acc.1 (ix2 r i) = (0 : EReal)) (h1z : ∀ r i, acc.2.1 (ix2 r i) = (0 : EReal))
    (h2z : ∀ r i, acc.2.2.1 (ix2 r i) = (0 : EReal)) (h3z : ∀ r i, acc.2.2.2 (ix2 r i) = (0 : EReal)) :
    Inv h0 h1 ρ 0 B11 B12 acc B11 B12 where
  p0 r i := (h0z r i).trans (by simp)
  g0 r i := (h1z r i).trans (by simp [dqSum])
  p1 r i := (h2z r i).trans (by simp)
  g1 r i := (h3z r i).trans (by simp [dqSum])
  dk y i := by simp
  dv y i := by simp

/-- Storing a span's rows. -/
theorem added_store {sp : Space} (v : View sig .tc sp S4096x128 .f32) (G : v.ty.Contents (Elt Ideal)) (L : List (View.Piece (Elt Ideal) S4096x128 .f32))
    {off : Fin 2 → ℕ} (inb : ∀ a : Fin 2, off a + S1024x128.size a ≤ S4096x128.size a) {n : ℕ} (hoff : off = ![1024 * n, 0]) (a b : FVec Ideal S1024x128 .f32) :
    Added n (v.read (Elt Ideal) (v.writes (Elt Ideal) G L))
      (v.read (Elt Ideal) (v.writes (Elt Ideal) G (⟨Rect.unit (s := S4096x128) off S1024x128.size inb,
        plus (View.readAt (Elt Ideal) v (Rect.unit (s := S4096x128) off S1024x128.size inb).toLoadRect (v.writes (Elt Ideal) G L)) a b⟩ :: L))) a b where
  mem y l i e := by
    rw [View.read_writes_cons_rows_of_mem v G inb _ L (ix2 y i) (ix2 l i) hoff e rfl]
    rw [plus_at]
    rw [View.readAt_eq_ld, View.ld_unit_apply_of (S := S4096x128) _ off S1024x128.size inb (ix2 l i) (ix2 y i)]
    subst hoff
    exact Fin.forall_fin_two.mpr ⟨e, (Nat.zero_add _).symm⟩
  out y i hy := View.read_writes_cons_rows_of_not_mem v G inb _ L (ix2 y i) hoff rfl hy

section
variable (𝒱 : Variants) (c : Dev nD) (bd : Option 𝒱.V) (i : grid0.Coords)
  (a2 : Memref sig .tc .vmem S512x128 .f32) (h2 : a2.IsWhole) (a3 : Memref sig .tc .vmem S4096x128 .f32) (h3 : a3.IsWhole)
  (a4 : Memref sig .tc .vmem S4096x128 .f32) (h4 : a4.IsWhole) (a5 : Memref sig .tc .vmem S512x128 .bf16) (h5 : a5.IsWhole)
  (a6 : Memref sig .tc .vmem S1x512x128 .f32) (h6 : a6.IsWhole) (a7 : Memref sig .tc .vmem S1x512x128 .f32) (h7 : a7.IsWhole)
  (a8 : Memref sig .tc .vmem S512x128 .bf16) (h8 : a8.IsWhole) (a9 : Memref sig .tc .vmem S4096x128 .bf16) (h9 : a9.IsWhole)
  (a10 : Memref sig .tc .vmem S4096x128 .bf16) (h10 : a10.IsWhole) (a11 : Memref sig .tc .vmem S4096x128 .f32)
  (h11 : a11.IsWhole) (a12 : Memref sig .tc .vmem S4096x128 .f32) (h12 : a12.IsWhole) (v22 : BitVec 32)
  (v31 : IVec S512x1024 1) (v39 v44 v70 v75 : FVec Ideal S512x128 .bf16) (v77 : FVec Ideal S512x128 .f32)
  (v78 : FVec Ideal S1x512x128 .f32) (X3 : BufTy.Contents (Elt Ideal) a3.view.ty) (X4 : BufTy.Contents (Elt Ideal) a4.view.ty)
  (G11 : BufTy.Contents (Elt Ideal) a11.view.ty) (G12 : BufTy.Contents (Elt Ideal) a12.view.ty)
  (init : FVec Ideal S512x128 .f32 × FVec Ideal S512x128 .f32 × FVec Ideal S512x128 .f32 × FVec Ideal S512x128 .f32)

/-- The loop's state before trip `n`. -/
abbrev st (n : ℕ) := st_k0_t1 (F := Ideal) 𝒱 c bd i a2 h2 a3 h3 a4 h4 a5 h5 a6 h6 a7 h7 a8 h8 a9 h9 a10 h10 a11 h11 a12 h12 v22
  v31 v39 v44 k0_pay192 k0_pay193 v70 v75 v77 v78 lanes X3 X4 G11 G12 init n

/-- The state after the trips, as numbers. -/
theorem st_inv {h0' h1' : Head} {ρ : ℕ} (hoff : ∀ k : Fin (k0_t1_loop i).trips, k0_off1 i k = ![1024 * k.val, 0])
    (hR0 : ∀ k : Fin (k0_t1_loop i).trips, Reads (tripInp i a3 a4 X3 X4 k v39 v70 v77) h0' ρ k.val)
    (hR1 : ∀ k : Fin (k0_t1_loop i).trips, Reads (tripInp i a3 a4 X3 X4 k v44 v75 (k0_pay197 v78)) h1' ρ k.val)
    (h0z : ∀ r i, init.1 (ix2 r i) = (0 : EReal)) (h1z : ∀ r i, init.2.1 (ix2 r i) = (0 : EReal))
    (h2z : ∀ r i, init.2.2.1 (ix2 r i) = (0 : EReal)) (h3z : ∀ r i, init.2.2.2 (ix2 r i) = (0 : EReal))
    (n : ℕ) (hn : n ≤ (k0_t1_loop i).trips) :
    Inv h0' h1' ρ n (View.read (Elt Ideal) a11.view G11) (View.read (Elt Ideal) a12.view G12)
      (st 𝒱 c bd i a2 h2 a3 h3 a4 h4 a5 h5 a6 h6 a7 h7 a8 h8 a9 h9 a10 h10 a11 h11 a12 h12 v22 v31 v39 v44 v70 v75 v77 v78 X3 X4 G11 G12 init n).1
      (View.read (Elt Ideal) a11.view (View.writes a11.view (Elt Ideal) G11
        (st 𝒱 c bd i a2 h2 a3 h3 a4 h4 a5 h5 a6 h6 a7 h7 a8 h8 a9 h9 a10 h10 a11 h11 a12 h12 v22 v31 v39 v44 v70 v75 v77 v78 X3 X4 G11 G12 init n).2.1))
      (View.read (Elt Ideal) a12.view (View.writes a12.view (Elt Ideal) G12
        (st 𝒱 c bd i a2 h2 a3 h3 a4 h4 a5 h5 a6 h6 a7 h7 a8 h8 a9 h9 a10 h10 a11 h11 a12 h12 v22 v31 v39 v44 v70 v75 v77 v78 X3 X4 G11 G12 init n).2.2)) := by
  induction n with
  | zero => exact Inv.zero h0z h1z h2z h3z
  | succ n ih =>
    have I := ih (by omega)
    have e := st_k0_t1_succ (F := Ideal) 𝒱 c bd i a2 h2 a3 h3 a4 h4 a5 h5 a6 h6 a7 h7 a8 h8 a9 h9 a10 h10 a11 h11 a12 h12 v22
      v31 v39 v44 k0_pay192 k0_pay193 v70 v75 v77 v78 lanes X3 X4 G11 G12 init ⟨n, hn⟩
    rw [tripR_eq, tripL_eq] at e
    unfold st at I ⊢
    dsimp only at e
    rw [e]
    exact I.succ (hR0 ⟨n, hn⟩) (hR1 ⟨n, hn⟩) (added_store _ _ _ _ (hoff ⟨n, hn⟩) _ _) (added_store _ _ _ _ (hoff ⟨n, hn⟩) _ _)

end
end Cert.SbLoop
-- ==== Proof.SbLast.lean ====
module
public import proofs.«01_k».proof.Proof.SbTrip
@[expose] public section
noncomputable section

/-! The last span's values, in the kernel's own grouping of its operations, are the steps of `SbStep` with the mask. The kernel
groups the operations of the two heads differently; each structure below names one head's groups. -/
namespace Cert.SbLast
open Cert.Kernel2Ideal Cert.Kernel2Ideal.Gen Cert.SbStep Cert.SbTrip Idealize.ShloMosaic Idealize.ShloMosaic.TcCoe Idealize.SL.Sem

variable {m : IVec S512x1024 1} {sb : BitVec 32} {q d : FVec Ideal S512x128 .bf16} {kk vv : FVec Ideal S1024x128 .f32}
  {k v : FVec Ideal S1024x128 .bf16} {tab p dq0 : FVec Ideal S512x128 .f32}

/-- What the first head's weights are computed from. -/
structure WeightA (m : IVec S512x1024 1) (sb : BitVec 32) (q : FVec Ideal S512x128 .bf16) (kk : FVec Ideal S1024x128 .f32)
    (tab : FVec Ideal S512x128 .f32) (r13 : FVec Ideal S512x1024 .f32) (r14 : FVec Ideal S512x1024 .bf16)
    (r16 r17 r18 r20 r21 r22 : FVec Ideal S512x128 .f32) (r23 : FVec Ideal S512x1 .f32) (r24 : FVec Ideal S512x128 .bf16) : Prop where
  e24 : r24 = k0_pay215 (F := Ideal) r14
  e23 : r23 = k0_pay214 (F := Ideal) sb tab lanes
  e22 : r22 = k0_pay213 (F := Ideal) sb k0_pay192 tab lanes r14
  e21 : r21 = k0_pay212 (F := Ideal) sb k0_pay192 tab lanes r14
  e20 : r20 = k0_pay211 (F := Ideal) k0_pay192 r14 (k0_pay210 (F := Ideal) sb tab lanes)
  e18 : r18 = k0_pay209 (F := Ideal) sb k0_pay192 tab lanes r14
  e17 : r17 = k0_pay208 (F := Ideal) sb k0_pay192 tab lanes r14
  e16 : r16 = k0_pay207 (F := Ideal) k0_pay192 tab r14 (Scalar.ofBits (F := Ideal) .f32 0x00000000#32) (k0_pay206 sb)
  e14 : r14 = k0_pay205 (F := Ideal) m q kk
  e13 : r13 = k0_pay204 (F := Ideal) q kk

variable {r13 : FVec Ideal S512x1024 .f32} {r14 : FVec Ideal S512x1024 .bf16} {r16 r17 r18 r20 r21 r22 : FVec Ideal S512x128 .f32}
  {r23 : FVec Ideal S512x1 .f32} {r24 : FVec Ideal S512x128 .bf16}

/-- The first head's part of the values' gradient. -/
theorem WeightA.dv (w : WeightA m sb q kk tab r13 r14 r16 r17 r18 r20 r21 r22 r23 r24) :
    k0_pay232 (F := Ideal) d k0_pay202 (k0_pay216 (F := Ideal) sb m k0_pay192 tab lanes r13 r14 r16 r17 r18 r20 r21 r22 r23 r24)
      = addf k0_pay202 (dvPart ⟨q, d, k0_pay199 kk, v, tab, sb, some m⟩) := by
  obtain ⟨rfl, rfl, rfl, rfl, rfl, rfl, rfl, rfl, rfl, rfl⟩ := w
  rfl

/-- What the first head's part of the keys' and the queries' gradient is computed from. -/
structure GradA (m : IVec S512x1024 1) (sb : BitVec 32) (q d : FVec Ideal S512x128 .bf16) (kk : FVec Ideal S1024x128 .f32)
    (v : FVec Ideal S1024x128 .bf16) (tab p : FVec Ideal S512x128 .f32)
    (r13 : FVec Ideal S512x1024 .f32) (r14 : FVec Ideal S512x1024 .bf16)
    (r16 r17 r18 r20 r21 r22 : FVec Ideal S512x128 .f32) (r23 : FVec Ideal S512x1 .f32) (r24 : FVec Ideal S512x128 .bf16)
    (r26 r27 : FVec Ideal S512x1024 .f32) (r28 : FVec Ideal S512x1024 .bf16) (r29 r30 r31 r32 : FVec Ideal S512x128 .f32)
    (r33 : FVec Ideal S512x128 .bf16) : Prop where
  e33 : r33 = k0_pay229 (F := Ideal) sb m k0_pay192 d tab lanes v r13 r14 r16 r17 r18 r20 r21 r22 r23 r24
  e32 : r32 = k0_pay228 (F := Ideal) sb m k0_pay192 k0_pay193 d tab lanes p v r13 r14 r16 r17 r18 r20 r21 r22 r23 r24
  e31 : r31 = k0_pay227 (F := Ideal) sb m k0_pay192 k0_pay193 d tab lanes p v r13 r14 r16 r17 r18 r20 r21 r22 r23 r24
  e30 : r30 = k0_pay224 (F := Ideal) sb m k0_pay192 k0_pay193 d tab lanes p v r13 r14 r16 r17 r18 r20 r21 r22 r23 r24
  e29 : r29 = k0_pay221 (F := Ideal) sb m k0_pay192 k0_pay193 d tab lanes p v r13 r14 r16 r17 r18 r20 r21 r22 r23 r24
  e28 : r28 = k0_pay219 (F := Ideal) sb m k0_pay192 d tab lanes v r13 r14 r16 r17 r18 r20 r21 r22 r23 r24
  e27 : r27 = k0_pay218 (F := Ideal) sb m k0_pay192 d tab lanes v r13 r14 r16 r17 r18 r20 r21 r22 r23 r24
  e26 : r26 = k0_pay217 (F := Ideal) m r13
  w : WeightA m sb q kk tab r13 r14 r16 r17 r18 r20 r21 r22 r23 r24

variable {r26 r27 : FVec Ideal S512x1024 .f32} {r28 : FVec Ideal S512x1024 .bf16} {r29 r30 r31 r32 : FVec Ideal S512x128 .f32}
  {r33 : FVec Ideal S512x128 .bf16}

theorem GradA.dk (g : GradA m sb q d kk v tab p r13 r14 r16 r17 r18 r20 r21 r22 r23 r24 r26 r27 r28 r29 r30 r31 r32 r33) :
    k0_pay231 (F := Ideal) q k0_pay193 k0_pay201 r26 r27 r28 r29 r30 r31 r32 r33 (constant S512x256 .f32 0x00000000#32)
      = addf k0_pay201 (dkPart ⟨q, d, k0_pay199 kk, v, tab, sb, some m⟩ p) := by
  obtain ⟨rfl, rfl, rfl, rfl, rfl, rfl, rfl, rfl, rfl, rfl, rfl, rfl, rfl, rfl, rfl, rfl, rfl, rfl⟩ := g
  rfl

theorem GradA.dq (g : GradA m sb q d kk v tab p r13 r14 r16 r17 r18 r20 r21 r22 r23 r24 r26 r27 r28 r29 r30 r31 r32 r33) :
    k0_pay233 (F := Ideal) k0_pay193 dq0 (k0_pay199 kk) r26 r27 r28 r29 r30 r31 r32 r33 (constant S512x256 .f32 0x00000000#32)
      = dqNext ⟨q, d, k0_pay199 kk, v, tab, sb, some m⟩ p dq0 := by
  obtain ⟨rfl, rfl, rfl, rfl, rfl, rfl, rfl, rfl, rfl, rfl, rfl, rfl, rfl, rfl, rfl, rfl, rfl, rfl⟩ := g
  rfl

/-- What the second head's weights are computed from. -/
structure WeightB (m : IVec S512x1024 1) (sb : BitVec 32) (q : FVec Ideal S512x128 .bf16) (k : FVec Ideal S1024x128 .bf16)
    (tab : FVec Ideal S512x128 .f32) (r40 : FVec Ideal S512x1024 .f32) (r41 : FVec Ideal S512x1024 .bf16)
    (r42 r43 r46 r47 r48 r49 : FVec Ideal S512x128 .f32) : Prop where
  e49 : r49 = k0_pay246 (F := Ideal) sb k0_pay192 tab lanes r41
  e48 : r48 = k0_pay245 (F := Ideal) sb k0_pay192 tab lanes r41
  e47 : r47 = k0_pay244 (F := Ideal) sb k0_pay192 tab lanes r41
  e46 : r46 = k0_pay243 (F := Ideal) k0_pay192 (k0_pay241 (F := Ideal) sb tab lanes)
    (k0_pay242 (F := Ideal) m (k0_pay234 (F := Ideal) q k) (k0_pay235 (F := Ideal) q k) (k0_pay236 (F := Ideal) q k))
    (constant S512x128 .f32 0x00000000#32)
  e43 : r43 = k0_pay240 (F := Ideal) sb m k0_pay192 tab lanes (k0_pay234 (F := Ideal) q k) (k0_pay235 (F := Ideal) q k) (k0_pay236 (F := Ideal) q k)
  e42 : r42 = k0_pay239 (F := Ideal) sb m k0_pay192 tab lanes (k0_pay234 (F := Ideal) q k) (k0_pay235 (F := Ideal) q k) (k0_pay236 (F := Ideal) q k)
  e41 : r41 = k0_pay238 (F := Ideal) m (k0_pay234 (F := Ideal) q k) (k0_pay235 (F := Ideal) q k) (k0_pay236 (F := Ideal) q k)
  e40 : r40 = k0_pay237 (F := Ideal) (k0_pay235 (F := Ideal) q k) (k0_pay236 (F := Ideal) q k)

variable {r40 : FVec Ideal S512x1024 .f32} {r41 : FVec Ideal S512x1024 .bf16} {r42 r43 r46 r47 r48 r49 : FVec Ideal S512x128 .f32}
  {acc : FVec Ideal S1024x128 .f32}

/-- The second head's part of the values' gradient, added to the first's. -/
theorem WeightB.dv (w : WeightB m sb q k tab r40 r41 r42 r43 r46 r47 r48 r49) :
    k0_pay257 (F := Ideal) d acc (k0_pay247 (F := Ideal) sb m k0_pay192 tab lanes r40 r41 r42 r43 r46 r47 r48 r49)
      = addf acc (dvPart ⟨q, d, k, v, tab, sb, some m⟩) := by
  obtain ⟨rfl, rfl, rfl, rfl, rfl, rfl, rfl, rfl⟩ := w
  rfl

/-- What the second head's part of the keys' and the queries' gradient is computed from. -/
structure GradB (m : IVec S512x1024 1) (sb : BitVec 32) (q d : FVec Ideal S512x128 .bf16) (k v : FVec Ideal S1024x128 .bf16)
    (tab p : FVec Ideal S512x128 .f32) (r40 : FVec Ideal S512x1024 .f32) (r41 : FVec Ideal S512x1024 .bf16)
    (r42 r43 r46 r47 r48 r49 : FVec Ideal S512x128 .f32) (r51 r52 : FVec Ideal S512x1024 .f32) (r53 : FVec Ideal S512x1024 .bf16)
    (r54 r55 : FVec Ideal S512x128 .f32) (r56 : FVec Ideal S512x128 .bf16) : Prop where
  e56 : r56 = k0_pay254 (F := Ideal) sb m k0_pay192 d tab lanes v r40 r41 r42 r43 r46 r47 r48 r49
  e55 : r55 = k0_pay253 (F := Ideal) sb m k0_pay192 k0_pay193 d tab lanes p v r40 r41 r42 r43 r46 r47 r48 r49
  e54 : r54 = k0_pay252 (F := Ideal) sb m k0_pay192 k0_pay193 d tab lanes p v r40 r41 r42 r43 r46 r47 r48 r49
  e53 : r53 = k0_pay250 (F := Ideal) sb m k0_pay192 d tab lanes v r40 r41 r42 r43 r46 r47 r48 r49
  e52 : r52 = k0_pay249 (F := Ideal) sb m k0_pay192 d tab lanes v r40 r41 r42 r43 r46 r47 r48 r49
  e51 : r51 = k0_pay248 (F := Ideal) m r40
  w : WeightB m sb q k tab r40 r41 r42 r43 r46 r47 r48 r49

variable {r51 r52 : FVec Ideal S512x1024 .f32} {r53 : FVec Ideal S512x1024 .bf16} {r54 r55 : FVec Ideal S512x128 .f32} {r56 : FVec Ideal S512x128 .bf16}

theorem GradB.dk (g : GradB m sb q d k v tab p r40 r41 r42 r43 r46 r47 r48 r49 r51 r52 r53 r54 r55 r56) :
    k0_pay256 (F := Ideal) q k0_pay193 acc r51 r52 r53 r54 r55 r56 = addf acc (dkPart ⟨q, d, k, v, tab, sb, some m⟩ p) := by
  obtain ⟨rfl, rfl, rfl, rfl, rfl, rfl, rfl, rfl, rfl, rfl, rfl, rfl, rfl, rfl⟩ := g
  rfl

theorem GradB.dq (g : GradB m sb q d k v tab p r40 r41 r42 r43 r46 r47 r48 r49 r51 r52 r53 r54 r55 r56) :
    addf dq0 (k0_pay258 (F := Ideal) k0_pay193 k r51 r52 r53 r54 r55 r56) = dqNext ⟨q, d, k, v, tab, sb, some m⟩ p dq0 := by
  obtain ⟨rfl, rfl, rfl, rfl, rfl, rfl, rfl, rfl, rfl, rfl, rfl, rfl, rfl, rfl⟩ := g
  rfl

end Cert.SbLast
-- ==== Proof.SbPoint.lean ====
module
public import proofs.«01_k».proof.Proof.SbLoop
public import proofs.«01_k».proof.Proof.SbLast
public import Idealize.ShloMosaic.Lib.VecWindow
@[expose] public section
set_option maxRecDepth 16384
noncomputable section

/-! One grid point: what the body stores, as the loop's state followed by the masked step of the last span. -/
namespace Cert.SbPoint
open Cert.Kernel2Ideal Cert.Kernel2Ideal.Gen Cert.SbStep Cert.SbReal Cert.SbTrip Cert.SbLoop
open Idealize.ShloMosaic Idealize.ShloMosaic.TcCoe Idealize.SL.Sem

/-- The buffers of a point. -/
structure Mems where
  a2 : Memref sig .tc .vmem S512x128 .f32
  h2 : a2.IsWhole
  a3 : Memref sig .tc .vmem S4096x128 .f32
  h3 : a3.IsWhole
  a4 : Memref sig .tc .vmem S4096x128 .f32
  h4 : a4.IsWhole
  a5 : Memref sig .tc .vmem S512x128 .bf16
  h5 : a5.IsWhole
  a6 : Memref sig .tc .vmem S1x512x128 .f32
  h6 : a6.IsWhole
  a7 : Memref sig .tc .vmem S1x512x128 .f32
  h7 : a7.IsWhole
  a8 : Memref sig .tc .vmem S512x128 .bf16
  h8 : a8.IsWhole
  a9 : Memref sig .tc .vmem S4096x128 .bf16
  h9 : a9.IsWhole
  a10 : Memref sig .tc .vmem S4096x128 .bf16
  h10 : a10.IsWhole
  a11 : Memref sig .tc .vmem S4096x128 .f32
  h11 : a11.IsWhole
  a12 : Memref sig .tc .vmem S4096x128 .f32
  h12 : a12.IsWhole

/-- The number of the last span of a block of query rows: the quotient of the last row by 1024, rounded down. -/
def sd (i : grid0.Coords) : BitVec 32 :=
  let arg1 : BitVec 32 := BitVec.ofNat 32 (i 1).val
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c1024_i32 : BitVec 32 := 1024#32
  let c0_i32_4 : BitVec 32 := 0#32
  let v12 : BitVec 1 := Scalar.cmpi .sgt c1024_i32 c0_i32_4
  let v13 : BitVec 32 := Scalar.extui v12
  let c0_i32_5 : BitVec 32 := 0#32
  let v14 : BitVec 1 := Scalar.cmpi .slt c1024_i32 c0_i32_5
  let v15 : BitVec 32 := Scalar.extui v14
  let v16 : BitVec 32 := Scalar.subi v13 v15
  let v17 : BitVec 1 := Scalar.cmpi .ne v11 v16
  let v18 : BitVec 32 := Scalar.remsi v5 c1024_i32
  let c0_i32_6 : BitVec 32 := 0#32
  let v19 : BitVec 1 := Scalar.cmpi .ne v18 c0_i32_6
  let v20 : BitVec 1 := Scalar.andi v17 v19
  let v6 : BitVec 32 := Scalar.divsi v5 c1024_i32
  let c1_i32_7 : BitVec 32 := 1#32
  let v21 : BitVec 32 := Scalar.subi v6 c1_i32_7
  let v22 : BitVec 32 := Scalar.select v20 v21 v6
  v22

/-- The contents of a point's input buffers. -/
structure Ins where
  x0 : FVec Ideal S512x128 .f32
  x1 : FVec Ideal S4096x128 .f32
  x2 : FVec Ideal S4096x128 .f32
  x3 : FVec Ideal S512x128 .bf16
  x4 : FVec Ideal S1x512x128 .f32
  x5 : FVec Ideal S1x512x128 .f32

variable (c : Dev nD) (i : grid0.Coords) (M : Mems) (X : Ins)

/-- The contents as the body's whole loads give them. -/
def loaded : Ins where
  x0 := View.readAt (Elt Ideal) M.a2.view (Rect.unit (s := S512x128) ![0, 0] S512x128.size inb_S512x128_S512x128_0_0).toLoadRect (M.h2.unread X.x0)
  x1 := X.x1
  x2 := X.x2
  x3 := View.readAt (Elt Ideal) M.a5.view (Rect.unit (s := S512x128) ![0, 0] S512x128.size inb_S512x128_S512x128_0_0).toLoadRect (M.h5.unread X.x3)
  x4 := View.readAt (Elt Ideal) M.a6.view (Rect.unit (s := S1x512x128) ![0, 0, 0] S1x512x128.size inb_S1x512x128_S1x512x128_0_0_0).toLoadRect (M.h6.unread X.x4)
  x5 := View.readAt (Elt Ideal) M.a7.view (Rect.unit (s := S1x512x128) ![0, 0, 0] S1x512x128.size inb_S1x512x128_S1x512x128_0_0_0).toLoadRect (M.h7.unread X.x5)

theorem loaded_eq : loaded M X = X := by
  unfold loaded
  rw [View.readAt_full, View.readAt_full, View.readAt_full, View.readAt_full, M.h2.read_unread, M.h5.read_unread, M.h6.read_unread,
    M.h7.read_unread]

/-- The numbers of a row's features. -/
abbrev feats : IVec S512x128 32 := iota .tc S512x128 32 [1] iota_S512x128_d1_w32

/-- The scaled queries of the first head and of the second, each with the other's features zero. -/
abbrev qa : FVec Ideal S512x128 .bf16 := k0_pay190 (k0_pay187 X.x0) k0_pay188 k0_pay189
abbrev qb : FVec Ideal S512x128 .bf16 := k0_pay191 feats (k0_pay187 X.x0)
/-- The cotangents, likewise. -/
abbrev da : FVec Ideal S512x128 .bf16 := k0_pay194 (F := Ideal) feats X.x3
abbrev db : FVec Ideal S512x128 .bf16 := k0_pay195 (F := Ideal) feats X.x3

/-- The loop's state after its trips. -/
abbrev loop1 (G11 : BufTy.Contents (Elt Ideal) M.a11.view.ty) (G12 : BufTy.Contents (Elt Ideal) M.a12.view.ty) :=
  SbLoop.st Variants.none c none i M.a2 M.h2 M.a3 M.h3 M.a4 M.h4 M.a5 M.h5 M.a6 M.h6 M.a7 M.h7 M.a8 M.h8 M.a9 M.h9 M.a10 M.h10 M.a11 M.h11 M.a12 M.h12
    (sd i) (k0_pay186 i) (qa X) (qb X) (da X) (db X) (k0_pay196 X.x4) X.x5 (M.h3.unread X.x1) (M.h4.unread X.x2) G11 G12
    (k0_pay198, k0_pay198, k0_pay198, k0_pay198) (Scf.trips (k0_t1_loop i).lb (k0_t1_loop i).ub (k0_t1_loop i).st)

/-- The state after the loop over the remainder, which has no trips. -/
abbrev loop2 (G11 E11 : BufTy.Contents (Elt Ideal) M.a11.view.ty) (G12 E12 : BufTy.Contents (Elt Ideal) M.a12.view.ty) :=
  st_k0_t2 (F := Ideal) Variants.none c none i M.a2 M.h2 M.a3 M.h3 M.a4 M.h4 M.a5 M.h5 M.a6 M.h6 M.a7 M.h7 M.a8 M.h8 M.a9 M.h9 M.a10 M.h10 M.a11 M.h11 M.a12 M.h12
    (sd i) (k0_pay186 i) (qa X) (qb X) k0_pay192 k0_pay193 (da X) (db X) (k0_pay196 X.x4) X.x5 lanes
    (Scalar.addi 0#32 (Scalar.muli (Scalar.divsi (Scalar.subi (sd i) 0#32) 1#32) 1#32)) (M.h3.unread X.x1) (M.h4.unread X.x2)
    E11 E12
    ((loop1 c i M X G11 G12).1.1, (loop1 c i M X G11 G12).1.2.1, (loop1 c i M X G11 G12).1.2.2.1, (loop1 c i M X G11 G12).1.2.2.2)
    (Scf.trips (k0_t2_loop i).lb (k0_t2_loop i).ub (k0_t2_loop i).st)

/-- What a head's step reads on the last span. -/
abbrev lastInp (q d : FVec Ideal S512x128 .bf16) (tab : FVec Ideal S512x128 .f32) : Inp where
  q := q
  d := d
  k := k0_pay199 (View.readAt (Elt Ideal) M.a3.view (Rect.unit (s := S4096x128) (k0_off3 i) S1024x128.size (k0_off3_inb i)).toLoadRect (M.h3.unread X.x1))
  v := k0_pay200 (View.readAt (Elt Ideal) M.a4.view (Rect.unit (s := S4096x128) (k0_off3 i) S1024x128.size (k0_off3_inb i)).toLoadRect (M.h4.unread X.x2))
  tab := tab
  sb := sd i
  mask := some (k0_pay186 i)

abbrev lastA : Inp := lastInp i M X (qa X) (da X) (k0_pay196 X.x4)
abbrev lastB : Inp := lastInp i M X (qb X) (db X) (k0_pay197 X.x5)

/-- The pieces of the two accumulators after the last span, over those of the loops. -/
abbrev tail11 (p0 p1 : FVec Ideal S512x128 .f32) (G : BufTy.Contents (Elt Ideal) M.a11.view.ty) (L : List (View.Piece (Elt Ideal) S4096x128 .f32)) :
    List (View.Piece (Elt Ideal) S4096x128 .f32) :=
  ⟨Rect.unit (s := S4096x128) (k0_off3 i) S1024x128.size (k0_off3_inb i),
    plus (View.readAt (Elt Ideal) M.a11.view (Rect.unit (s := S4096x128) (k0_off3 i) S1024x128.size (k0_off3_inb i)).toLoadRect
        (M.a11.view.writes (Elt Ideal) G L)) (dkPart (lastA i M X) p0) (dkPart (lastB i M X) p1)⟩ :: L

abbrev tail12 (G : BufTy.Contents (Elt Ideal) M.a12.view.ty) (L : List (View.Piece (Elt Ideal) S4096x128 .f32)) :
    List (View.Piece (Elt Ideal) S4096x128 .f32) :=
  ⟨Rect.unit (s := S4096x128) (k0_off3 i) S1024x128.size (k0_off3_inb i),
    plus (View.readAt (Elt Ideal) M.a12.view (Rect.unit (s := S4096x128) (k0_off3 i) S1024x128.size (k0_off3_inb i)).toLoadRect
        (M.a12.view.writes (Elt Ideal) G L)) (dvPart (lastA i M X)) (dvPart (lastB i M X))⟩ :: L

/-- The queries' gradient a point stores. -/
def dqOut (g0 g1 : FVec Ideal S512x128 .f32) : FVec Ideal S512x128 .bf16 :=
  truncf .bf16 (mulf (select (cmpi .slt feats (broadcast S512x128 64#32)) g0 g1)
    (broadcast S512x128 (Scalar.ofBits (F := Ideal) .f32 0x3E000000#32))) bitsLt_bf16_f32

variable (xs0 xs1 : FVec Ideal S4096x128 .f32)

theorem loop2_eq (ht : (k0_t2_loop i).trips = 0) (G11 E11 : BufTy.Contents (Elt Ideal) M.a11.view.ty)
    (G12 E12 : BufTy.Contents (Elt Ideal) M.a12.view.ty) :
    loop2 c i M X G11 E11 G12 E12 = ((loop1 c i M X G11 G12).1, [], []) := by
  unfold loop2
  rw [show Scf.trips (k0_t2_loop i).lb (k0_t2_loop i).ub (k0_t2_loop i).st = 0 from ht]
  exact st_k0_t2.eq_1 ..

end Cert.SbPoint
-- ==== Proof.SbCaseA.lean ====
module
public import proofs.«01_k».proof.Proof.SbPoint
@[expose] public section
set_option maxRecDepth 16384
noncomputable section
open Cert.Kernel2Ideal Cert.Kernel2Ideal.Gen Cert.SbStep Cert.SbReal Cert.SbTrip Cert.SbLoop
open Idealize.ShloMosaic Idealize.ShloMosaic.TcCoe Idealize.SL.Sem
namespace Cert.SbPoint
variable (c : Dev nD) (i : grid0.Coords) (M : Mems) (X : Ins) (xs0 xs1 : FVec Ideal S4096x128 .f32)

set_option maxHeartbeats 1000000 in
theorem state_A (ht : (k0_t2_loop i).trips = 0) : (kernelRun0_A.sl.r_7 (F := Ideal) c i M.a2 M.h2 M.a3 M.h3 M.a4 M.h4 M.a5 M.h5 M.a6 M.h6 M.a7 M.h7 M.a8 M.h8 M.a9 M.h9 M.a10 M.h10 M.a11 M.h11 M.a12 M.h12 X.x0 X.x1 X.x2 X.x3 X.x4 X.x5,
    kernelRun0_A.sl.r_8 (F := Ideal) c i M.a2 M.h2 M.a3 M.h3 M.a4 M.h4 M.a5 M.h5 M.a6 M.h6 M.a7 M.h7 M.a8 M.h8 M.a9 M.h9 M.a10 M.h10 M.a11 M.h11 M.a12 M.h12 X.x0 X.x1 X.x2 X.x3 X.x4 X.x5,
    kernelRun0_A.sl.r_9 (F := Ideal) c i M.a2 M.h2 M.a3 M.h3 M.a4 M.h4 M.a5 M.h5 M.a6 M.h6 M.a7 M.h7 M.a8 M.h8 M.a9 M.h9 M.a10 M.h10 M.a11 M.h11 M.a12 M.h12 X.x0 X.x1 X.x2 X.x3 X.x4 X.x5,
    kernelRun0_A.sl.r_10 (F := Ideal) c i M.a2 M.h2 M.a3 M.h3 M.a4 M.h4 M.a5 M.h5 M.a6 M.h6 M.a7 M.h7 M.a8 M.h8 M.a9 M.h9 M.a10 M.h10 M.a11 M.h11 M.a12 M.h12 X.x0 X.x1 X.x2 X.x3 X.x4 X.x5) = (loop1 c i M (loaded M X) (M.a11.view.writes (Elt Ideal) M.a11.view.junk kernelRun0_A.sl.HS0_1) (M.a12.view.writes (Elt Ideal) M.a12.view.junk kernelRun0_A.sl.HS1_1)).1 :=
  (show _ = (loop2 c i M (loaded M X) (M.a11.view.writes (Elt Ideal) M.a11.view.junk kernelRun0_A.sl.HS0_1) (M.a11.view.writes (Elt Ideal) M.a11.view.junk ((loop1 c i M (loaded M X) (M.a11.view.writes (Elt Ideal) M.a11.view.junk kernelRun0_A.sl.HS0_1) (M.a12.view.writes (Elt Ideal) M.a12.view.junk kernelRun0_A.sl.HS1_1)).2.1 ++ kernelRun0_A.sl.HS0_1)) (M.a12.view.writes (Elt Ideal) M.a12.view.junk kernelRun0_A.sl.HS1_1) (M.a12.view.writes (Elt Ideal) M.a12.view.junk ((loop1 c i M (loaded M X) (M.a11.view.writes (Elt Ideal) M.a11.view.junk kernelRun0_A.sl.HS0_1) (M.a12.view.writes (Elt Ideal) M.a12.view.junk kernelRun0_A.sl.HS1_1)).2.2 ++ kernelRun0_A.sl.HS1_1))).1 by
    unfold kernelRun0_A.sl.r_7 kernelRun0_A.sl.r_8 kernelRun0_A.sl.r_9 kernelRun0_A.sl.r_10
    rfl).trans (by rw [loop2_eq c i M _ ht])

theorem inpA_A : (⟨kernelRun0_A.sl.r_1 (F := Ideal) c M.a2 M.h2 X.x0, kernelRun0_A.sl.r_3 (F := Ideal) c M.a5 M.h5 X.x3, kernelRun0_A.sl.r_11 (F := Ideal) i M.a3 M.h3 X.x1,
    kernelRun0_A.sl.r_12 (F := Ideal) i M.a4 M.h4 X.x2, kernelRun0_A.sl.r_5 (F := Ideal) c M.a6 M.h6 X.x4, kernelRun0_A.sl.v22 i, some (k0_pay186 i)⟩ : Inp) = lastA i M (loaded M X) := rfl

theorem inpB_A : (⟨kernelRun0_A.sl.r_2 (F := Ideal) c M.a2 M.h2 X.x0, kernelRun0_A.sl.r_4 (F := Ideal) c M.a5 M.h5 X.x3, kernelRun0_A.sl.r_11 (F := Ideal) i M.a3 M.h3 X.x1,
    kernelRun0_A.sl.r_12 (F := Ideal) i M.a4 M.h4 X.x2, kernelRun0_A.sl.r_6 (F := Ideal) c M.a7 M.h7 X.x5, kernelRun0_A.sl.v22 i, some (k0_pay186 i)⟩ : Inp) = lastB i M (loaded M X) := rfl

theorem dk_A (ht : (k0_t2_loop i).trips = 0) : kernelRun0_A.sl.r_57 (F := Ideal) c i M.a2 M.h2 M.a3 M.h3 M.a4 M.h4 M.a5 M.h5 M.a6 M.h6 M.a7 M.h7 M.a8 M.h8 M.a9 M.h9 M.a10 M.h10 M.a11 M.h11 M.a12 M.h12 X.x0 X.x1 X.x2 X.x3 X.x4 X.x5
    = addf (addf k0_pay201 (dkPart (lastA i M (loaded M X)) (loop1 c i M (loaded M X) (M.a11.view.writes (Elt Ideal) M.a11.view.junk kernelRun0_A.sl.HS0_1) (M.a12.view.writes (Elt Ideal) M.a12.view.junk kernelRun0_A.sl.HS1_1)).1.1)) (dkPart (lastB i M (loaded M X)) (loop1 c i M (loaded M X) (M.a11.view.writes (Elt Ideal) M.a11.view.junk kernelRun0_A.sl.HS0_1) (M.a12.view.writes (Elt Ideal) M.a12.view.junk kernelRun0_A.sl.HS1_1)).1.2.2.1) := by
  unfold kernelRun0_A.sl.r_57 kernelRun0_A.sl.r_34
  refine (SbLast.GradB.dk ⟨rfl, rfl, rfl, rfl, rfl, rfl, ⟨rfl, rfl, rfl, rfl, rfl, rfl, rfl, rfl⟩⟩).trans (congrArg₂ addf ((SbLast.GradA.dk ⟨rfl, rfl, rfl, rfl, rfl, rfl, rfl, rfl, ⟨rfl, rfl, rfl, rfl, rfl, rfl, rfl, rfl, rfl, rfl⟩⟩).trans (congrArg (addf k0_pay201) ?_)) ?_)
  · exact congrArg₂ dkPart (inpA_A c i M X) (congrArg Prod.fst (state_A c i M X ht))
  · exact congrArg₂ dkPart (inpB_A c i M X) (congrArg (fun s => s.2.2.1) (state_A c i M X ht))

theorem dv_A : kernelRun0_A.sl.r_58 (F := Ideal) c i M.a2 M.h2 M.a3 M.h3 M.a5 M.h5 M.a6 M.h6 M.a7 M.h7 X.x0 X.x1 X.x3 X.x4 X.x5
    = addf (addf k0_pay202 (dvPart (lastA i M (loaded M X)))) (dvPart (lastB i M (loaded M X))) := by
  unfold kernelRun0_A.sl.r_58 kernelRun0_A.sl.r_35 kernelRun0_A.sl.r_50 kernelRun0_A.sl.r_25
  exact (SbLast.WeightB.dv ⟨rfl, rfl, rfl, rfl, rfl, rfl, rfl, rfl⟩).trans (congrArg₂ addf ((SbLast.WeightA.dv ⟨rfl, rfl, rfl, rfl, rfl, rfl, rfl, rfl, rfl, rfl⟩).trans
    (congrArg (addf k0_pay202) (congrArg dvPart (inpA_A c i M X)))) (congrArg dvPart (inpB_A c i M X)))

theorem dq_A (hc0 hc1) (ht : (k0_t2_loop i).trips = 0) : (kernelRun0_A (F := Ideal) c i M.a2 M.h2 M.a3 M.h3 M.a4 M.h4 M.a5 M.h5 M.a6 M.h6 M.a7 M.h7 M.a8 M.h8 M.a9 M.h9 M.a10 M.h10 M.a11 M.h11 M.a12 M.h12 hc0 hc1 X.x0 X.x1 X.x2 X.x3 X.x4 X.x5).1
    = [⟨Rect.unit ![0, 0] ![512, 128] inb_S512x128_S512x128_0_0,
      dqOut (dqNext (lastA i M (loaded M X)) (loop1 c i M (loaded M X) (M.a11.view.writes (Elt Ideal) M.a11.view.junk kernelRun0_A.sl.HS0_1) (M.a12.view.writes (Elt Ideal) M.a12.view.junk kernelRun0_A.sl.HS1_1)).1.1 (loop1 c i M (loaded M X) (M.a11.view.writes (Elt Ideal) M.a11.view.junk kernelRun0_A.sl.HS0_1) (M.a12.view.writes (Elt Ideal) M.a12.view.junk kernelRun0_A.sl.HS1_1)).1.2.1) (dqNext (lastB i M (loaded M X)) (loop1 c i M (loaded M X) (M.a11.view.writes (Elt Ideal) M.a11.view.junk kernelRun0_A.sl.HS0_1) (M.a12.view.writes (Elt Ideal) M.a12.view.junk kernelRun0_A.sl.HS1_1)).1.2.2.1 (loop1 c i M (loaded M X) (M.a11.view.writes (Elt Ideal) M.a11.view.junk kernelRun0_A.sl.HS0_1) (M.a12.view.writes (Elt Ideal) M.a12.view.junk kernelRun0_A.sl.HS1_1)).1.2.2.2)⟩] := by
  unfold kernelRun0_A
  dsimp only
  refine congrArg (fun x => [(⟨_, x⟩ : View.Piece (Elt Ideal) S512x128 .bf16)]) ?_
  unfold kernelRun0_A.sl.r_36 kernelRun0_A.sl.r_59
  refine (show k0_pay3 (F := Ideal) _ _ _ _ = dqOut _ (addf _ _) from rfl).trans ?_
  refine congrArg₂ dqOut ((SbLast.GradA.dq ⟨rfl, rfl, rfl, rfl, rfl, rfl, rfl, rfl, ⟨rfl, rfl, rfl, rfl, rfl, rfl, rfl, rfl, rfl, rfl⟩⟩).trans ?_) ((SbLast.GradB.dq ⟨rfl, rfl, rfl, rfl, rfl, rfl, ⟨rfl, rfl, rfl, rfl, rfl, rfl, rfl, rfl⟩⟩).trans ?_)
  · exact congr (congrArg₂ dqNext (inpA_A c i M X) (congrArg Prod.fst (state_A c i M X ht))) (congrArg (fun s => s.2.1) (state_A c i M X ht))
  · exact congr (congrArg₂ dqNext (inpB_A c i M X) (congrArg (fun s => s.2.2.1) (state_A c i M X ht))) (congrArg (fun s => s.2.2.2) (state_A c i M X ht))

set_option maxHeartbeats 1000000 in
theorem dks_A (hc0 hc1) (ht : (k0_t2_loop i).trips = 0) : (kernelRun0_A (F := Ideal) c i M.a2 M.h2 M.a3 M.h3 M.a4 M.h4 M.a5 M.h5 M.a6 M.h6 M.a7 M.h7 M.a8 M.h8 M.a9 M.h9 M.a10 M.h10 M.a11 M.h11 M.a12 M.h12 hc0 hc1 X.x0 X.x1 X.x2 X.x3 X.x4 X.x5).2.2.2.1
    = tail11 i M (loaded M X) (loop1 c i M (loaded M X) (M.a11.view.writes (Elt Ideal) M.a11.view.junk kernelRun0_A.sl.HS0_1) (M.a12.view.writes (Elt Ideal) M.a12.view.junk kernelRun0_A.sl.HS1_1)).1.1 (loop1 c i M (loaded M X) (M.a11.view.writes (Elt Ideal) M.a11.view.junk kernelRun0_A.sl.HS0_1) (M.a12.view.writes (Elt Ideal) M.a12.view.junk kernelRun0_A.sl.HS1_1)).1.2.2.1 M.a11.view.junk ((loop1 c i M (loaded M X) (M.a11.view.writes (Elt Ideal) M.a11.view.junk kernelRun0_A.sl.HS0_1) (M.a12.view.writes (Elt Ideal) M.a12.view.junk kernelRun0_A.sl.HS1_1)).2.1 ++ kernelRun0_A.sl.HS0_1) := by
  refine (show _ = tail11 i M (loaded M X) (loop1 c i M (loaded M X) (M.a11.view.writes (Elt Ideal) M.a11.view.junk kernelRun0_A.sl.HS0_1) (M.a12.view.writes (Elt Ideal) M.a12.view.junk kernelRun0_A.sl.HS1_1)).1.1 (loop1 c i M (loaded M X) (M.a11.view.writes (Elt Ideal) M.a11.view.junk kernelRun0_A.sl.HS0_1) (M.a12.view.writes (Elt Ideal) M.a12.view.junk kernelRun0_A.sl.HS1_1)).1.2.2.1 M.a11.view.junk ((loop2 c i M (loaded M X) (M.a11.view.writes (Elt Ideal) M.a11.view.junk kernelRun0_A.sl.HS0_1) (M.a11.view.writes (Elt Ideal) M.a11.view.junk ((loop1 c i M (loaded M X) (M.a11.view.writes (Elt Ideal) M.a11.view.junk kernelRun0_A.sl.HS0_1) (M.a12.view.writes (Elt Ideal) M.a12.view.junk kernelRun0_A.sl.HS1_1)).2.1 ++ kernelRun0_A.sl.HS0_1)) (M.a12.view.writes (Elt Ideal) M.a12.view.junk kernelRun0_A.sl.HS1_1) (M.a12.view.writes (Elt Ideal) M.a12.view.junk ((loop1 c i M (loaded M X) (M.a11.view.writes (Elt Ideal) M.a11.view.junk kernelRun0_A.sl.HS0_1) (M.a12.view.writes (Elt Ideal) M.a12.view.junk kernelRun0_A.sl.HS1_1)).2.2 ++ kernelRun0_A.sl.HS1_1))).2.1 ++ ((loop1 c i M (loaded M X) (M.a11.view.writes (Elt Ideal) M.a11.view.junk kernelRun0_A.sl.HS0_1) (M.a12.view.writes (Elt Ideal) M.a12.view.junk kernelRun0_A.sl.HS1_1)).2.1 ++ kernelRun0_A.sl.HS0_1)) by
    unfold kernelRun0_A
    dsimp only
    refine congrArg₂ List.cons (congrArg (fun x => (⟨_, x⟩ : View.Piece (Elt Ideal) S4096x128 .f32)) ?_) rfl
    exact congrArg₂ (k0_pay1 (F := Ideal)) (dk_A c i M X ht) rfl).trans ?_
  rw [loop2_eq c i M _ ht]
  rfl

set_option maxHeartbeats 1000000 in
theorem dvs_A (hc0 hc1) (ht : (k0_t2_loop i).trips = 0) : (kernelRun0_A (F := Ideal) c i M.a2 M.h2 M.a3 M.h3 M.a4 M.h4 M.a5 M.h5 M.a6 M.h6 M.a7 M.h7 M.a8 M.h8 M.a9 M.h9 M.a10 M.h10 M.a11 M.h11 M.a12 M.h12 hc0 hc1 X.x0 X.x1 X.x2 X.x3 X.x4 X.x5).2.2.2.2.1
    = tail12 i M (loaded M X) M.a12.view.junk ((loop1 c i M (loaded M X) (M.a11.view.writes (Elt Ideal) M.a11.view.junk kernelRun0_A.sl.HS0_1) (M.a12.view.writes (Elt Ideal) M.a12.view.junk kernelRun0_A.sl.HS1_1)).2.2 ++ kernelRun0_A.sl.HS1_1) := by
  refine (show _ = tail12 i M (loaded M X) M.a12.view.junk ((loop2 c i M (loaded M X) (M.a11.view.writes (Elt Ideal) M.a11.view.junk kernelRun0_A.sl.HS0_1) (M.a11.view.writes (Elt Ideal) M.a11.view.junk ((loop1 c i M (loaded M X) (M.a11.view.writes (Elt Ideal) M.a11.view.junk kernelRun0_A.sl.HS0_1) (M.a12.view.writes (Elt Ideal) M.a12.view.junk kernelRun0_A.sl.HS1_1)).2.1 ++ kernelRun0_A.sl.HS0_1)) (M.a12.view.writes (Elt Ideal) M.a12.view.junk kernelRun0_A.sl.HS1_1) (M.a12.view.writes (Elt Ideal) M.a12.view.junk ((loop1 c i M (loaded M X) (M.a11.view.writes (Elt Ideal) M.a11.view.junk kernelRun0_A.sl.HS0_1) (M.a12.view.writes (Elt Ideal) M.a12.view.junk kernelRun0_A.sl.HS1_1)).2.2 ++ kernelRun0_A.sl.HS1_1))).2.2 ++ ((loop1 c i M (loaded M X) (M.a11.view.writes (Elt Ideal) M.a11.view.junk kernelRun0_A.sl.HS0_1) (M.a12.view.writes (Elt Ideal) M.a12.view.junk kernelRun0_A.sl.HS1_1)).2.2 ++ kernelRun0_A.sl.HS1_1)) by
    unfold kernelRun0_A
    dsimp only
    refine congrArg₂ List.cons (congrArg (fun x => (⟨_, x⟩ : View.Piece (Elt Ideal) S4096x128 .f32)) ?_) rfl
    exact congrArg₂ (k0_pay2 (F := Ideal)) (dv_A c i M X) rfl).trans ?_
  rw [loop2_eq c i M _ ht]
  rfl
end Cert.SbPoint
-- ==== Proof.SbCaseB.lean ====
module
public import proofs.«01_k».proof.Proof.SbPoint
@[expose] public section
set_option maxRecDepth 16384
noncomputable section
open Cert.Kernel2Ideal Cert.Kernel2Ideal.Gen Cert.SbStep Cert.SbReal Cert.SbTrip Cert.SbLoop
open Idealize.ShloMosaic Idealize.ShloMosaic.TcCoe Idealize.SL.Sem
namespace Cert.SbPoint
variable (c : Dev nD) (i : grid0.Coords) (M : Mems) (X : Ins) (xs0 xs1 : FVec Ideal S4096x128 .f32)

set_option maxHeartbeats 1000000 in
theorem state_B (ht : (k0_t2_loop i).trips = 0) : (kernelRun0_B.sl.r_7 (F := Ideal) c i M.a2 M.h2 M.a3 M.h3 M.a4 M.h4 M.a5 M.h5 M.a6 M.h6 M.a7 M.h7 M.a8 M.h8 M.a9 M.h9 M.a10 M.h10 M.a11 M.h11 M.a12 M.h12 X.x0 X.x1 X.x2 X.x3 X.x4 X.x5 xs0 xs1,
    kernelRun0_B.sl.r_8 (F := Ideal) c i M.a2 M.h2 M.a3 M.h3 M.a4 M.h4 M.a5 M.h5 M.a6 M.h6 M.a7 M.h7 M.a8 M.h8 M.a9 M.h9 M.a10 M.h10 M.a11 M.h11 M.a12 M.h12 X.x0 X.x1 X.x2 X.x3 X.x4 X.x5 xs0 xs1,
    kernelRun0_B.sl.r_9 (F := Ideal) c i M.a2 M.h2 M.a3 M.h3 M.a4 M.h4 M.a5 M.h5 M.a6 M.h6 M.a7 M.h7 M.a8 M.h8 M.a9 M.h9 M.a10 M.h10 M.a11 M.h11 M.a12 M.h12 X.x0 X.x1 X.x2 X.x3 X.x4 X.x5 xs0 xs1,
    kernelRun0_B.sl.r_10 (F := Ideal) c i M.a2 M.h2 M.a3 M.h3 M.a4 M.h4 M.a5 M.h5 M.a6 M.h6 M.a7 M.h7 M.a8 M.h8 M.a9 M.h9 M.a10 M.h10 M.a11 M.h11 M.a12 M.h12 X.x0 X.x1 X.x2 X.x3 X.x4 X.x5 xs0 xs1) = (loop1 c i M (loaded M X) (M.h11.unread xs0) (M.h12.unread xs1)).1 :=
  (show _ = (loop2 c i M (loaded M X) (M.h11.unread xs0) (M.a11.view.writes (Elt Ideal) (M.h11.unread xs0) (loop1 c i M (loaded M X) (M.h11.unread xs0) (M.h12.unread xs1)).2.1) (M.h12.unread xs1) (M.a12.view.writes (Elt Ideal) (M.h12.unread xs1) (loop1 c i M (loaded M X) (M.h11.unread xs0) (M.h12.unread xs1)).2.2)).1 by
    unfold kernelRun0_B.sl.r_7 kernelRun0_B.sl.r_8 kernelRun0_B.sl.r_9 kernelRun0_B.sl.r_10
    rfl).trans (by rw [loop2_eq c i M _ ht])

theorem inpA_B : (⟨kernelRun0_B.sl.r_1 (F := Ideal) c M.a2 M.h2 X.x0, kernelRun0_B.sl.r_3 (F := Ideal) c M.a5 M.h5 X.x3, kernelRun0_B.sl.r_11 (F := Ideal) i M.a3 M.h3 X.x1,
    kernelRun0_B.sl.r_12 (F := Ideal) i M.a4 M.h4 X.x2, kernelRun0_B.sl.r_5 (F := Ideal) c M.a6 M.h6 X.x4, kernelRun0_B.sl.v22 i, some (k0_pay186 i)⟩ : Inp) = lastA i M (loaded M X) := rfl

theorem inpB_B : (⟨kernelRun0_B.sl.r_2 (F := Ideal) c M.a2 M.h2 X.x0, kernelRun0_B.sl.r_4 (F := Ideal) c M.a5 M.h5 X.x3, kernelRun0_B.sl.r_11 (F := Ideal) i M.a3 M.h3 X.x1,
    kernelRun0_B.sl.r_12 (F := Ideal) i M.a4 M.h4 X.x2, kernelRun0_B.sl.r_6 (F := Ideal) c M.a7 M.h7 X.x5, kernelRun0_B.sl.v22 i, some (k0_pay186 i)⟩ : Inp) = lastB i M (loaded M X) := rfl

theorem dk_B (ht : (k0_t2_loop i).trips = 0) : kernelRun0_B.sl.r_57 (F := Ideal) c i M.a2 M.h2 M.a3 M.h3 M.a4 M.h4 M.a5 M.h5 M.a6 M.h6 M.a7 M.h7 M.a8 M.h8 M.a9 M.h9 M.a10 M.h10 M.a11 M.h11 M.a12 M.h12 X.x0 X.x1 X.x2 X.x3 X.x4 X.x5 xs0 xs1
    = addf (addf k0_pay201 (dkPart (lastA i M (loaded M X)) (loop1 c i M (loaded M X) (M.h11.unread xs0) (M.h12.unread xs1)).1.1)) (dkPart (lastB i M (loaded M X)) (loop1 c i M (loaded M X) (M.h11.unread xs0) (M.h12.unread xs1)).1.2.2.1) := by
  unfold kernelRun0_B.sl.r_57 kernelRun0_B.sl.r_34
  refine (SbLast.GradB.dk ⟨rfl, rfl, rfl, rfl, rfl, rfl, ⟨rfl, rfl, rfl, rfl, rfl, rfl, rfl, rfl⟩⟩).trans (congrArg₂ addf ((SbLast.GradA.dk ⟨rfl, rfl, rfl, rfl, rfl, rfl, rfl, rfl, ⟨rfl, rfl, rfl, rfl, rfl, rfl, rfl, rfl, rfl, rfl⟩⟩).trans (congrArg (addf k0_pay201) ?_)) ?_)
  · exact congrArg₂ dkPart (inpA_B c i M X) (congrArg Prod.fst (state_B c i M X xs0 xs1 ht))
  · exact congrArg₂ dkPart (inpB_B c i M X) (congrArg (fun s => s.2.2.1) (state_B c i M X xs0 xs1 ht))

theorem dv_B : kernelRun0_B.sl.r_58 (F := Ideal) c i M.a2 M.h2 M.a3 M.h3 M.a5 M.h5 M.a6 M.h6 M.a7 M.h7 X.x0 X.x1 X.x3 X.x4 X.x5
    = addf (addf k0_pay202 (dvPart (lastA i M (loaded M X)))) (dvPart (lastB i M (loaded M X))) := by
  unfold kernelRun0_B.sl.r_58 kernelRun0_B.sl.r_35 kernelRun0_B.sl.r_50 kernelRun0_B.sl.r_25
  exact (SbLast.WeightB.dv ⟨rfl, rfl, rfl, rfl, rfl, rfl, rfl, rfl⟩).trans (congrArg₂ addf ((SbLast.WeightA.dv ⟨rfl, rfl, rfl, rfl, rfl, rfl, rfl, rfl, rfl, rfl⟩).trans
    (congrArg (addf k0_pay202) (congrArg dvPart (inpA_B c i M X)))) (congrArg dvPart (inpB_B c i M X)))

theorem dq_B (hc0 hc1) (ht : (k0_t2_loop i).trips = 0) : (kernelRun0_B (F := Ideal) c i M.a2 M.h2 M.a3 M.h3 M.a4 M.h4 M.a5 M.h5 M.a6 M.h6 M.a7 M.h7 M.a8 M.h8 M.a9 M.h9 M.a10 M.h10 M.a11 M.h11 M.a12 M.h12 hc0 hc1 X.x0 X.x1 X.x2 X.x3 X.x4 X.x5 xs0 xs1).1
    = [⟨Rect.unit ![0, 0] ![512, 128] inb_S512x128_S512x128_0_0,
      dqOut (dqNext (lastA i M (loaded M X)) (loop1 c i M (loaded M X) (M.h11.unread xs0) (M.h12.unread xs1)).1.1 (loop1 c i M (loaded M X) (M.h11.unread xs0) (M.h12.unread xs1)).1.2.1) (dqNext (lastB i M (loaded M X)) (loop1 c i M (loaded M X) (M.h11.unread xs0) (M.h12.unread xs1)).1.2.2.1 (loop1 c i M (loaded M X) (M.h11.unread xs0) (M.h12.unread xs1)).1.2.2.2)⟩] := by
  unfold kernelRun0_B
  dsimp only
  refine congrArg (fun x => [(⟨_, x⟩ : View.Piece (Elt Ideal) S512x128 .bf16)]) ?_
  unfold kernelRun0_B.sl.r_36 kernelRun0_B.sl.r_59
  refine (show k0_pay3 (F := Ideal) _ _ _ _ = dqOut _ (addf _ _) from rfl).trans ?_
  refine congrArg₂ dqOut ((SbLast.GradA.dq ⟨rfl, rfl, rfl, rfl, rfl, rfl, rfl, rfl, ⟨rfl, rfl, rfl, rfl, rfl, rfl, rfl, rfl, rfl, rfl⟩⟩).trans ?_) ((SbLast.GradB.dq ⟨rfl, rfl, rfl, rfl, rfl, rfl, ⟨rfl, rfl, rfl, rfl, rfl, rfl, rfl, rfl⟩⟩).trans ?_)
  · exact congr (congrArg₂ dqNext (inpA_B c i M X) (congrArg Prod.fst (state_B c i M X xs0 xs1 ht))) (congrArg (fun s => s.2.1) (state_B c i M X xs0 xs1 ht))
  · exact congr (congrArg₂ dqNext (inpB_B c i M X) (congrArg (fun s => s.2.2.1) (state_B c i M X xs0 xs1 ht))) (congrArg (fun s => s.2.2.2) (state_B c i M X xs0 xs1 ht))

set_option maxHeartbeats 1000000 in
theorem dks_B (hc0 hc1) (ht : (k0_t2_loop i).trips = 0) : (kernelRun0_B (F := Ideal) c i M.a2 M.h2 M.a3 M.h3 M.a4 M.h4 M.a5 M.h5 M.a6 M.h6 M.a7 M.h7 M.a8 M.h8 M.a9 M.h9 M.a10 M.h10 M.a11 M.h11 M.a12 M.h12 hc0 hc1 X.x0 X.x1 X.x2 X.x3 X.x4 X.x5 xs0 xs1).2.2.2.1
    = tail11 i M (loaded M X) (loop1 c i M (loaded M X) (M.h11.unread xs0) (M.h12.unread xs1)).1.1 (loop1 c i M (loaded M X) (M.h11.unread xs0) (M.h12.unread xs1)).1.2.2.1 (M.h11.unread xs0) (loop1 c i M (loaded M X) (M.h11.unread xs0) (M.h12.unread xs1)).2.1 := by
  refine (show _ = tail11 i M (loaded M X) (loop1 c i M (loaded M X) (M.h11.unread xs0) (M.h12.unread xs1)).1.1 (loop1 c i M (loaded M X) (M.h11.unread xs0) (M.h12.unread xs1)).1.2.2.1 (M.h11.unread xs0) ((loop2 c i M (loaded M X) (M.h11.unread xs0) (M.a11.view.writes (Elt Ideal) (M.h11.unread xs0) (loop1 c i M (loaded M X) (M.h11.unread xs0) (M.h12.unread xs1)).2.1) (M.h12.unread xs1) (M.a12.view.writes (Elt Ideal) (M.h12.unread xs1) (loop1 c i M (loaded M X) (M.h11.unread xs0) (M.h12.unread xs1)).2.2)).2.1 ++ (loop1 c i M (loaded M X) (M.h11.unread xs0) (M.h12.unread xs1)).2.1) by
    unfold kernelRun0_B
    dsimp only
    refine congrArg₂ List.cons (congrArg (fun x => (⟨_, x⟩ : View.Piece (Elt Ideal) S4096x128 .f32)) ?_) rfl
    exact congrArg₂ (k0_pay1 (F := Ideal)) (dk_B c i M X xs0 xs1 ht) rfl).trans ?_
  rw [loop2_eq c i M _ ht]
  rfl

set_option maxHeartbeats 1000000 in
theorem dvs_B (hc0 hc1) (ht : (k0_t2_loop i).trips = 0) : (kernelRun0_B (F := Ideal) c i M.a2 M.h2 M.a3 M.h3 M.a4 M.h4 M.a5 M.h5 M.a6 M.h6 M.a7 M.h7 M.a8 M.h8 M.a9 M.h9 M.a10 M.h10 M.a11 M.h11 M.a12 M.h12 hc0 hc1 X.x0 X.x1 X.x2 X.x3 X.x4 X.x5 xs0 xs1).2.2.2.2.1
    = tail12 i M (loaded M X) (M.h12.unread xs1) (loop1 c i M (loaded M X) (M.h11.unread xs0) (M.h12.unread xs1)).2.2 := by
  refine (show _ = tail12 i M (loaded M X) (M.h12.unread xs1) ((loop2 c i M (loaded M X) (M.h11.unread xs0) (M.a11.view.writes (Elt Ideal) (M.h11.unread xs0) (loop1 c i M (loaded M X) (M.h11.unread xs0) (M.h12.unread xs1)).2.1) (M.h12.unread xs1) (M.a12.view.writes (Elt Ideal) (M.h12.unread xs1) (loop1 c i M (loaded M X) (M.h11.unread xs0) (M.h12.unread xs1)).2.2)).2.2 ++ (loop1 c i M (loaded M X) (M.h11.unread xs0) (M.h12.unread xs1)).2.2) by
    unfold kernelRun0_B
    dsimp only
    refine congrArg₂ List.cons (congrArg (fun x => (⟨_, x⟩ : View.Piece (Elt Ideal) S4096x128 .f32)) ?_) rfl
    exact congrArg₂ (k0_pay2 (F := Ideal)) (dv_B c i M X) rfl).trans ?_
  rw [loop2_eq c i M _ ht]
  rfl
end Cert.SbPoint
-- ==== Proof.SbCaseC.lean ====
module
public import proofs.«01_k».proof.Proof.SbPoint
@[expose] public section
set_option maxRecDepth 16384
noncomputable section
open Cert.Kernel2Ideal Cert.Kernel2Ideal.Gen Cert.SbStep Cert.SbReal Cert.SbTrip Cert.SbLoop
open Idealize.ShloMosaic Idealize.ShloMosaic.TcCoe Idealize.SL.Sem
namespace Cert.SbPoint
variable (c : Dev nD) (i : grid0.Coords) (M : Mems) (X : Ins) (xs0 xs1 : FVec Ideal S4096x128 .f32)

set_option maxHeartbeats 1000000 in
theorem state_C (ht : (k0_t2_loop i).trips = 0) : (kernelRun0_C.sl.r_7 (F := Ideal) c i M.a2 M.h2 M.a3 M.h3 M.a4 M.h4 M.a5 M.h5 M.a6 M.h6 M.a7 M.h7 M.a8 M.h8 M.a9 M.h9 M.a10 M.h10 M.a11 M.h11 M.a12 M.h12 X.x0 X.x1 X.x2 X.x3 X.x4 X.x5 xs0 xs1,
    kernelRun0_C.sl.r_8 (F := Ideal) c i M.a2 M.h2 M.a3 M.h3 M.a4 M.h4 M.a5 M.h5 M.a6 M.h6 M.a7 M.h7 M.a8 M.h8 M.a9 M.h9 M.a10 M.h10 M.a11 M.h11 M.a12 M.h12 X.x0 X.x1 X.x2 X.x3 X.x4 X.x5 xs0 xs1,
    kernelRun0_C.sl.r_9 (F := Ideal) c i M.a2 M.h2 M.a3 M.h3 M.a4 M.h4 M.a5 M.h5 M.a6 M.h6 M.a7 M.h7 M.a8 M.h8 M.a9 M.h9 M.a10 M.h10 M.a11 M.h11 M.a12 M.h12 X.x0 X.x1 X.x2 X.x3 X.x4 X.x5 xs0 xs1,
    kernelRun0_C.sl.r_10 (F := Ideal) c i M.a2 M.h2 M.a3 M.h3 M.a4 M.h4 M.a5 M.h5 M.a6 M.h6 M.a7 M.h7 M.a8 M.h8 M.a9 M.h9 M.a10 M.h10 M.a11 M.h11 M.a12 M.h12 X.x0 X.x1 X.x2 X.x3 X.x4 X.x5 xs0 xs1) = (loop1 c i M (loaded M X) (M.h11.unread xs0) (M.h12.unread xs1)).1 :=
  (show _ = (loop2 c i M (loaded M X) (M.h11.unread xs0) (M.a11.view.writes (Elt Ideal) (M.h11.unread xs0) (loop1 c i M (loaded M X) (M.h11.unread xs0) (M.h12.unread xs1)).2.1) (M.h12.unread xs1) (M.a12.view.writes (Elt Ideal) (M.h12.unread xs1) (loop1 c i M (loaded M X) (M.h11.unread xs0) (M.h12.unread xs1)).2.2)).1 by
    unfold kernelRun0_C.sl.r_7 kernelRun0_C.sl.r_8 kernelRun0_C.sl.r_9 kernelRun0_C.sl.r_10
    rfl).trans (by rw [loop2_eq c i M _ ht])

theorem inpA_C : (⟨kernelRun0_C.sl.r_1 (F := Ideal) c M.a2 M.h2 X.x0, kernelRun0_C.sl.r_3 (F := Ideal) c M.a5 M.h5 X.x3, kernelRun0_C.sl.r_11 (F := Ideal) i M.a3 M.h3 X.x1,
    kernelRun0_C.sl.r_12 (F := Ideal) i M.a4 M.h4 X.x2, kernelRun0_C.sl.r_5 (F := Ideal) c M.a6 M.h6 X.x4, kernelRun0_C.sl.v22 i, some (k0_pay186 i)⟩ : Inp) = lastA i M (loaded M X) := rfl

theorem inpB_C : (⟨kernelRun0_C.sl.r_2 (F := Ideal) c M.a2 M.h2 X.x0, kernelRun0_C.sl.r_4 (F := Ideal) c M.a5 M.h5 X.x3, kernelRun0_C.sl.r_11 (F := Ideal) i M.a3 M.h3 X.x1,
    kernelRun0_C.sl.r_12 (F := Ideal) i M.a4 M.h4 X.x2, kernelRun0_C.sl.r_6 (F := Ideal) c M.a7 M.h7 X.x5, kernelRun0_C.sl.v22 i, some (k0_pay186 i)⟩ : Inp) = lastB i M (loaded M X) := rfl

theorem dk_C (ht : (k0_t2_loop i).trips = 0) : kernelRun0_C.sl.r_57 (F := Ideal) c i M.a2 M.h2 M.a3 M.h3 M.a4 M.h4 M.a5 M.h5 M.a6 M.h6 M.a7 M.h7 M.a8 M.h8 M.a9 M.h9 M.a10 M.h10 M.a11 M.h11 M.a12 M.h12 X.x0 X.x1 X.x2 X.x3 X.x4 X.x5 xs0 xs1
    = addf (addf k0_pay201 (dkPart (lastA i M (loaded M X)) (loop1 c i M (loaded M X) (M.h11.unread xs0) (M.h12.unread xs1)).1.1)) (dkPart (lastB i M (loaded M X)) (loop1 c i M (loaded M X) (M.h11.unread xs0) (M.h12.unread xs1)).1.2.2.1) := by
  unfold kernelRun0_C.sl.r_57 kernelRun0_C.sl.r_34
  refine (SbLast.GradB.dk ⟨rfl, rfl, rfl, rfl, rfl, rfl, ⟨rfl, rfl, rfl, rfl, rfl, rfl, rfl, rfl⟩⟩).trans (congrArg₂ addf ((SbLast.GradA.dk ⟨rfl, rfl, rfl, rfl, rfl, rfl, rfl, rfl, ⟨rfl, rfl, rfl, rfl, rfl, rfl, rfl, rfl, rfl, rfl⟩⟩).trans (congrArg (addf k0_pay201) ?_)) ?_)
  · exact congrArg₂ dkPart (inpA_C c i M X) (congrArg Prod.fst (state_C c i M X xs0 xs1 ht))
  · exact congrArg₂ dkPart (inpB_C c i M X) (congrArg (fun s => s.2.2.1) (state_C c i M X xs0 xs1 ht))

theorem dv_C : kernelRun0_C.sl.r_58 (F := Ideal) c i M.a2 M.h2 M.a3 M.h3 M.a5 M.h5 M.a6 M.h6 M.a7 M.h7 X.x0 X.x1 X.x3 X.x4 X.x5
    = addf (addf k0_pay202 (dvPart (lastA i M (loaded M X)))) (dvPart (lastB i M (loaded M X))) := by
  unfold kernelRun0_C.sl.r_58 kernelRun0_C.sl.r_35 kernelRun0_C.sl.r_50 kernelRun0_C.sl.r_25
  exact (SbLast.WeightB.dv ⟨rfl, rfl, rfl, rfl, rfl, rfl, rfl, rfl⟩).trans (congrArg₂ addf ((SbLast.WeightA.dv ⟨rfl, rfl, rfl, rfl, rfl, rfl, rfl, rfl, rfl, rfl⟩).trans
    (congrArg (addf k0_pay202) (congrArg dvPart (inpA_C c i M X)))) (congrArg dvPart (inpB_C c i M X)))

theorem dq_C (hc0 hc1) (ht : (k0_t2_loop i).trips = 0) : (kernelRun0_C (F := Ideal) c i M.a2 M.h2 M.a3 M.h3 M.a4 M.h4 M.a5 M.h5 M.a6 M.h6 M.a7 M.h7 M.a8 M.h8 M.a9 M.h9 M.a10 M.h10 M.a11 M.h11 M.a12 M.h12 hc0 hc1 X.x0 X.x1 X.x2 X.x3 X.x4 X.x5 xs0 xs1).1
    = [⟨Rect.unit ![0, 0] ![512, 128] inb_S512x128_S512x128_0_0,
      dqOut (dqNext (lastA i M (loaded M X)) (loop1 c i M (loaded M X) (M.h11.unread xs0) (M.h12.unread xs1)).1.1 (loop1 c i M (loaded M X) (M.h11.unread xs0) (M.h12.unread xs1)).1.2.1) (dqNext (lastB i M (loaded M X)) (loop1 c i M (loaded M X) (M.h11.unread xs0) (M.h12.unread xs1)).1.2.2.1 (loop1 c i M (loaded M X) (M.h11.unread xs0) (M.h12.unread xs1)).1.2.2.2)⟩] := by
  unfold kernelRun0_C
  dsimp only
  refine congrArg (fun x => [(⟨_, x⟩ : View.Piece (Elt Ideal) S512x128 .bf16)]) ?_
  unfold kernelRun0_C.sl.r_36 kernelRun0_C.sl.r_59
  refine (show k0_pay3 (F := Ideal) _ _ _ _ = dqOut _ (addf _ _) from rfl).trans ?_
  refine congrArg₂ dqOut ((SbLast.GradA.dq ⟨rfl, rfl, rfl, rfl, rfl, rfl, rfl, rfl, ⟨rfl, rfl, rfl, rfl, rfl, rfl, rfl, rfl, rfl, rfl⟩⟩).trans ?_) ((SbLast.GradB.dq ⟨rfl, rfl, rfl, rfl, rfl, rfl, ⟨rfl, rfl, rfl, rfl, rfl, rfl, rfl, rfl⟩⟩).trans ?_)
  · exact congr (congrArg₂ dqNext (inpA_C c i M X) (congrArg Prod.fst (state_C c i M X xs0 xs1 ht))) (congrArg (fun s => s.2.1) (state_C c i M X xs0 xs1 ht))
  · exact congr (congrArg₂ dqNext (inpB_C c i M X) (congrArg (fun s => s.2.2.1) (state_C c i M X xs0 xs1 ht))) (congrArg (fun s => s.2.2.2) (state_C c i M X xs0 xs1 ht))

set_option maxHeartbeats 1000000 in
theorem dks_C (hc0 hc1) (ht : (k0_t2_loop i).trips = 0) : (kernelRun0_C (F := Ideal) c i M.a2 M.h2 M.a3 M.h3 M.a4 M.h4 M.a5 M.h5 M.a6 M.h6 M.a7 M.h7 M.a8 M.h8 M.a9 M.h9 M.a10 M.h10 M.a11 M.h11 M.a12 M.h12 hc0 hc1 X.x0 X.x1 X.x2 X.x3 X.x4 X.x5 xs0 xs1).2.2.2.1
    = tail11 i M (loaded M X) (loop1 c i M (loaded M X) (M.h11.unread xs0) (M.h12.unread xs1)).1.1 (loop1 c i M (loaded M X) (M.h11.unread xs0) (M.h12.unread xs1)).1.2.2.1 (M.h11.unread xs0) (loop1 c i M (loaded M X) (M.h11.unread xs0) (M.h12.unread xs1)).2.1 := by
  refine (show _ = tail11 i M (loaded M X) (loop1 c i M (loaded M X) (M.h11.unread xs0) (M.h12.unread xs1)).1.1 (loop1 c i M (loaded M X) (M.h11.unread xs0) (M.h12.unread xs1)).1.2.2.1 (M.h11.unread xs0) ((loop2 c i M (loaded M X) (M.h11.unread xs0) (M.a11.view.writes (Elt Ideal) (M.h11.unread xs0) (loop1 c i M (loaded M X) (M.h11.unread xs0) (M.h12.unread xs1)).2.1) (M.h12.unread xs1) (M.a12.view.writes (Elt Ideal) (M.h12.unread xs1) (loop1 c i M (loaded M X) (M.h11.unread xs0) (M.h12.unread xs1)).2.2)).2.1 ++ (loop1 c i M (loaded M X) (M.h11.unread xs0) (M.h12.unread xs1)).2.1) by
    unfold kernelRun0_C kernelRun0_C.sl.HS0_1
    dsimp only
    refine congrArg₂ List.cons (congrArg (fun x => (⟨_, x⟩ : View.Piece (Elt Ideal) S4096x128 .f32)) ?_) rfl
    exact congrArg₂ (k0_pay1 (F := Ideal)) (dk_C c i M X xs0 xs1 ht) rfl).trans ?_
  rw [loop2_eq c i M _ ht]
  rfl

set_option maxHeartbeats 1000000 in
theorem dvs_C (hc0 hc1) (ht : (k0_t2_loop i).trips = 0) : (kernelRun0_C (F := Ideal) c i M.a2 M.h2 M.a3 M.h3 M.a4 M.h4 M.a5 M.h5 M.a6 M.h6 M.a7 M.h7 M.a8 M.h8 M.a9 M.h9 M.a10 M.h10 M.a11 M.h11 M.a12 M.h12 hc0 hc1 X.x0 X.x1 X.x2 X.x3 X.x4 X.x5 xs0 xs1).2.2.2.2.1
    = tail12 i M (loaded M X) (M.h12.unread xs1) (loop1 c i M (loaded M X) (M.h11.unread xs0) (M.h12.unread xs1)).2.2 := by
  refine (show _ = tail12 i M (loaded M X) (M.h12.unread xs1) ((loop2 c i M (loaded M X) (M.h11.unread xs0) (M.a11.view.writes (Elt Ideal) (M.h11.unread xs0) (loop1 c i M (loaded M X) (M.h11.unread xs0) (M.h12.unread xs1)).2.1) (M.h12.unread xs1) (M.a12.view.writes (Elt Ideal) (M.h12.unread xs1) (loop1 c i M (loaded M X) (M.h11.unread xs0) (M.h12.unread xs1)).2.2)).2.2 ++ (loop1 c i M (loaded M X) (M.h11.unread xs0) (M.h12.unread xs1)).2.2) by
    unfold kernelRun0_C kernelRun0_C.sl.HS1_1
    dsimp only
    refine congrArg₂ List.cons (congrArg (fun x => (⟨_, x⟩ : View.Piece (Elt Ideal) S4096x128 .f32)) ?_) rfl
    exact congrArg₂ (k0_pay2 (F := Ideal)) (dv_C c i M X) rfl).trans ?_
  rw [loop2_eq c i M _ ht]
  rfl
/-- The last block of query rows also rounds and stores the whole accumulator of `dk`. -/
theorem dkOut_C (hc0 hc1) : (kernelRun0_C (F := Ideal) c i M.a2 M.h2 M.a3 M.h3 M.a4 M.h4 M.a5 M.h5 M.a6 M.h6 M.a7 M.h7 M.a8 M.h8 M.a9 M.h9 M.a10 M.h10 M.a11 M.h11 M.a12 M.h12 hc0 hc1 X.x0 X.x1 X.x2 X.x3 X.x4 X.x5 xs0 xs1).2.1
    = [⟨Rect.unit ![0, 0] ![4096, 128] inb_S4096x128_S4096x128_0_0,
      k0_pay4 (F := Ideal) (View.readAt (Elt Ideal) M.a11.view (Rect.unit (s := S4096x128) ![0, 0] S4096x128.size inb_S4096x128_S4096x128_0_0).toLoadRect
        (M.a11.view.writes (Elt Ideal) (M.h11.unread xs0) (kernelRun0_C (F := Ideal) c i M.a2 M.h2 M.a3 M.h3 M.a4 M.h4 M.a5 M.h5 M.a6 M.h6 M.a7 M.h7 M.a8 M.h8 M.a9 M.h9 M.a10 M.h10 M.a11 M.h11 M.a12 M.h12 hc0 hc1 X.x0 X.x1 X.x2 X.x3 X.x4 X.x5 xs0 xs1).2.2.2.1))⟩] := by
  unfold kernelRun0_C
  rfl

/-- The last block of query rows also rounds and stores the whole accumulator of `dv`. -/
theorem dvOut_C (hc0 hc1) : (kernelRun0_C (F := Ideal) c i M.a2 M.h2 M.a3 M.h3 M.a4 M.h4 M.a5 M.h5 M.a6 M.h6 M.a7 M.h7 M.a8 M.h8 M.a9 M.h9 M.a10 M.h10 M.a11 M.h11 M.a12 M.h12 hc0 hc1 X.x0 X.x1 X.x2 X.x3 X.x4 X.x5 xs0 xs1).2.2.1
    = [⟨Rect.unit ![0, 0] ![4096, 128] inb_S4096x128_S4096x128_0_0,
      k0_pay5 (F := Ideal) (View.readAt (Elt Ideal) M.a12.view (Rect.unit (s := S4096x128) ![0, 0] S4096x128.size inb_S4096x128_S4096x128_0_0).toLoadRect
        (M.a12.view.writes (Elt Ideal) (M.h12.unread xs1) (kernelRun0_C (F := Ideal) c i M.a2 M.h2 M.a3 M.h3 M.a4 M.h4 M.a5 M.h5 M.a6 M.h6 M.a7 M.h7 M.a8 M.h8 M.a9 M.h9 M.a10 M.h10 M.a11 M.h11 M.a12 M.h12 hc0 hc1 X.x0 X.x1 X.x2 X.x3 X.x4 X.x5 xs0 xs1).2.2.2.2.1))⟩] := by
  unfold kernelRun0_C
  rfl
end Cert.SbPoint
-- ==== Proof.SbGrid.lean ====
module
public import proofs.«01_k».proof.Proof.SbPoint
@[expose] public section
set_option maxRecDepth 16384
noncomputable section

/-! The integers of a grid point: the spans below the last, the last span's number, the rows they start at, the causal mask. -/
namespace Cert.SbGrid
open Cert.Kernel2Ideal Cert.Kernel2Ideal.Gen Cert.SbPoint Idealize.ShloMosaic Idealize.ShloMosaic.TcCoe Idealize.SL.Sem

variable (i : grid0.Coords)

theorem lt8 : (i 1).val < 8 := (i 1).isLt

theorem sd_eq : sd i = BitVec.ofNat 32 ((i 1).val / 2) := by
  have h := lt8 i
  unfold sd
  generalize (i 1).val = q at h ⊢
  interval_cases q <;> rfl

theorem trips1 : (k0_t1_loop i).trips = (i 1).val / 2 := by
  have h := lt8 i
  unfold k0_t1_loop
  generalize (i 1).val = q at h ⊢
  interval_cases q <;> rfl

theorem trips2 : (k0_t2_loop i).trips = 0 := by
  have h := lt8 i
  unfold k0_t2_loop
  generalize (i 1).val = q at h ⊢
  interval_cases q <;> rfl

theorem off1 (k : Fin (k0_t1_loop i).trips) : k0_off1 i k = ![1024 * k.val, 0] := by
  have h := lt8 i
  have hk : k.val < (i 1).val / 2 := lt_of_lt_of_eq k.isLt (trips1 i)
  unfold k0_off1
  dsimp only
  generalize k.val = n at hk ⊢
  have hn : n < 4 := by omega
  interval_cases n <;> rfl

theorem off3 : k0_off3 i = ![1024 * ((i 1).val / 2), 0] := by
  have h := lt8 i
  unfold k0_off3
  generalize (i 1).val = q at h ⊢
  interval_cases q <;> rfl

theorem mask_at (r : Fin 512) (l : Fin 1024) :
    k0_pay186 i (ix2 r l) = 1#1 ↔ 1024 * ((i 1).val / 2) + l.val < 512 * (i 1).val + r.val := by
  have h := lt8 i
  rw [show k0_pay186 i (ix2 r l) = IntOp.cmpi .slt (BitVec.ofNat 32 l.val) (IntOp.addi (Scalar.subi
      (Scalar.muli (BitVec.ofNat 32 (i 1).val) 512#32) (Scalar.muli (sd i) 1024#32)) (BitVec.ofNat 32 r.val)) by pointwise [k0_pay186]; rfl,
    sd_eq]
  rw [show Scalar.subi (Scalar.muli (BitVec.ofNat 32 (i 1).val) 512#32) (Scalar.muli (BitVec.ofNat 32 ((i 1).val / 2)) 1024#32)
      = BitVec.ofNat 32 (512 * ((i 1).val % 2)) by
    generalize (i 1).val = q at h ⊢
    interval_cases q <;> rfl]
  rw [show IntOp.addi (BitVec.ofNat 32 (512 * ((i 1).val % 2))) (BitVec.ofNat 32 r.val) = BitVec.ofNat 32 (512 * ((i 1).val % 2) + r.val) from
    (BitVec.ofNat_add ..).symm]
  have hb : 512 * ((i 1).val % 2) + r.val < 1024 := by omega
  rw [show 1024 * ((i 1).val / 2) + l.val < 512 * (i 1).val + r.val ↔ l.val < 512 * ((i 1).val % 2) + r.val by omega]
  generalize 512 * ((i 1).val % 2) + r.val = w at hb ⊢
  word_cmp

end Cert.SbGrid
-- ==== Proof.SbData.lean ====
module
public import proofs.«01_k».proof.Proof.SbGrid
@[expose] public section
set_option maxRecDepth 16384
noncomputable section

/-! What a grid point's blocks hold, as numbers, and what its spans then read. -/
namespace Cert.SbData
open Cert.Kernel2Ideal Cert.Kernel2Ideal.Gen Cert.SbStep Cert.SbReal Cert.SbTrip Cert.SbLoop Cert.SbPoint Cert.SbGrid
open Idealize.ShloMosaic Idealize.ShloMosaic.TcCoe Idealize.SL.Sem

variable (q o k v : ℕ → Fin 128 → ℝ)

/-- A point's blocks: queries and cotangents of its 512 rows, all keys and values, the rows' tables. -/
structure Holds (i : grid0.Coords) (X : Ins) : Prop where
  x0 : ∀ r l, X.x0 (ix2 r l) = ((q (512 * (i 1).val + r.val) l : ℝ) : EReal)
  x1 : ∀ (y : Fin 4096) l, X.x1 (ix2 y l) = ((k y.val l : ℝ) : EReal)
  x2 : ∀ (y : Fin 4096) l, X.x2 (ix2 y l) = ((v y.val l : ℝ) : EReal)
  x3 : ∀ r l, X.x3 (ix2 r l) = ((o (512 * (i 1).val + r.val) l : ℝ) : EReal)
  x4 : ∀ r b, X.x4 (ix3 0 r b) = ((later (low q o k v) (512 * (i 1).val + r.val) b : ℝ) : EReal)
  x5 : ∀ r b, X.x5 (ix3 0 r b) = ((later (high q o k v) (512 * (i 1).val + r.val) b : ℝ) : EReal)

variable {q o k v} {i : grid0.Coords} {M : Mems} {X : Ins} (H : Holds q o k v i X)
include H

theorem qa_at (r l) : qa X (ix2 r l) = (((low q o k v).Q (512 * (i 1).val + r.val) l : ℝ) : EReal) := by
  pointwise [qa, k0_pay190, k0_pay187, k0_pay188, k0_pay189]
  rw [H.x0, ofBits_eighth, ← EReal.coe_mul]
  word_cmp
  exact coe_ite _ _

theorem qb_at (r l) : qb X (ix2 r l) = (((high q o k v).Q (512 * (i 1).val + r.val) l : ℝ) : EReal) := by
  pointwise [qb, k0_pay191, k0_pay187]
  rw [H.x0, ofBits_eighth, ← EReal.coe_mul]
  word_cmp
  exact coe_ite _ _

theorem da_at (r l) : da X (ix2 r l) = (((low q o k v).O (512 * (i 1).val + r.val) l : ℝ) : EReal) := by
  pointwise [da, k0_pay194]
  rw [H.x3]
  word_cmp
  exact coe_ite _ _

theorem db_at (r l) : db X (ix2 r l) = (((high q o k v).O (512 * (i 1).val + r.val) l : ℝ) : EReal) := by
  pointwise [db, k0_pay195]
  rw [H.x3]
  word_cmp
  exact coe_ite _ _

theorem taba_at (r b) : k0_pay196 (F := Ideal) X.x4 (ix2 r b) = ((later (low q o k v) (512 * (i 1).val + r.val) b : ℝ) : EReal) := by
  pointwise [k0_pay196]
  exact H.x4 r b

theorem tabb_at (r b) : k0_pay197 (F := Ideal) X.x5 (ix2 r b) = ((later (high q o k v) (512 * (i 1).val + r.val) b : ℝ) : EReal) := by
  pointwise [k0_pay197]
  exact H.x5 r b
omit H

/-- Rows loaded from whole memory. -/
theorem rows_at (a : Memref sig .tc .vmem S4096x128 .f32) (h : a.IsWhole) (x : FVec Ideal S4096x128 .f32) {off : Fin 2 → ℕ}
    (inb : ∀ a : Fin 2, off a + S1024x128.size a ≤ S4096x128.size a) {n : ℕ} (hoff : off = ![1024 * n, 0]) (l : Fin 1024) (j : Fin 128)
    (hn : 1024 * n + l.val < 4096) :
    View.readAt (Elt Ideal) a.view (Rect.unit (s := S4096x128) off S1024x128.size inb).toLoadRect (h.unread x) (ix2 l j)
      = x (ix2 ⟨1024 * n + l.val, hn⟩ j) := by
  rw [View.readAt_eq_ld, h.read_unread, View.ld_unit_apply_of (S := S4096x128) _ off S1024x128.size inb (ix2 l j) (ix2 ⟨1024 * n + l.val, hn⟩ j)]
  subst hoff
  exact Fin.forall_fin_two.mpr ⟨rfl, (Nat.zero_add _).symm⟩

include H

/-- What the first head reads in a trip of the loop. -/
theorem trip_low (t : Fin (k0_t1_loop i).trips) :
    Reads (tripInp i M.a3 M.a4 (M.h3.unread X.x1) (M.h4.unread X.x2) t (qa X) (da X) (k0_pay196 X.x4)) (low q o k v) (512 * (i 1).val) t.val := by
  have ht : t.val < (i 1).val / 2 := lt_of_lt_of_eq t.isLt (trips1 i)
  have h8 := lt8 i
  exact {
    q := qa_at H
    d := da_at H
    k := fun l j => (rows_at M.a3 M.h3 X.x1 _ (off1 i t) l j (by omega)).trans (H.x1 _ j)
    v := fun l j => (rows_at M.a4 M.h4 X.x2 _ (off1 i t) l j (by omega)).trans (H.x2 _ j)
    tab := taba_at H
    sb := by show Scf.iv 0#32 1#32 t.val = _; generalize t.val = n at ht; have : n < 4 := by omega
             interval_cases n <;> rfl
    hn := by omega
    kept := fun x r l => by rw [if_pos (by omega)]; rfl }

theorem trip_high (t : Fin (k0_t1_loop i).trips) :
    Reads (tripInp i M.a3 M.a4 (M.h3.unread X.x1) (M.h4.unread X.x2) t (qb X) (db X) (k0_pay197 X.x5)) (high q o k v) (512 * (i 1).val) t.val :=
  have L := trip_low (M := M) H t
  { q := qb_at H, d := db_at H, k := L.k, v := L.v, tab := tabb_at H, sb := L.sb, hn := L.hn, kept := L.kept }

/-- What it reads on the last span. -/
theorem last_low : Reads (lastA i M X) (low q o k v) (512 * (i 1).val) ((i 1).val / 2) := by
  have h8 := lt8 i
  exact {
    q := qa_at H
    d := da_at H
    k := fun l j => (rows_at M.a3 M.h3 X.x1 _ (off3 i) l j (by omega)).trans (H.x1 _ j)
    v := fun l j => (rows_at M.a4 M.h4 X.x2 _ (off3 i) l j (by omega)).trans (H.x2 _ j)
    tab := taba_at H
    sb := sd_eq i
    hn := by omega
    kept := fun x r l => by
      show Scalar.select (k0_pay186 i (ix2 r l)) (x (ix2 r l)) (Ideal.ofBits .f32 0x00000000#32) = _
      rw [show Ideal.ofBits .f32 0x00000000#32 = 0 by simp [Ideal.ofBits, Ideal.ieee], Scalar.select]
      exact if_congr (mask_at i r l) rfl rfl }

theorem last_high : Reads (lastB i M X) (high q o k v) (512 * (i 1).val) ((i 1).val / 2) :=
  have L := last_low (M := M) H
  { q := qb_at H, d := db_at H, k := L.k, v := L.v, tab := tabb_at H, sb := L.sb, hn := L.hn, kept := L.kept }

theorem zeros_at (r l) : k0_pay198 (F := Ideal) (ix2 r l) = (0 : EReal) := by
  pointwise [k0_pay198]

/-- The numbers after the last span. -/
theorem point_inv (c : Dev nD) (G11 : BufTy.Contents (Elt Ideal) M.a11.view.ty) (G12 : BufTy.Contents (Elt Ideal) M.a12.view.ty) :
    Inv (low q o k v) (high q o k v) (512 * (i 1).val) ((k0_t1_loop i).trips + 1) (View.read (Elt Ideal) M.a11.view G11) (View.read (Elt Ideal) M.a12.view G12)
      (carried (lastA i M X) (loop1 c i M X G11 G12).1.1 8, dqNext (lastA i M X) (loop1 c i M X G11 G12).1.1 (loop1 c i M X G11 G12).1.2.1,
        carried (lastB i M X) (loop1 c i M X G11 G12).1.2.2.1 8, dqNext (lastB i M X) (loop1 c i M X G11 G12).1.2.2.1 (loop1 c i M X G11 G12).1.2.2.2)
      (View.read (Elt Ideal) M.a11.view (M.a11.view.writes (Elt Ideal) G11 (tail11 i M X (loop1 c i M X G11 G12).1.1 (loop1 c i M X G11 G12).1.2.2.1 G11 (loop1 c i M X G11 G12).2.1)))
      (View.read (Elt Ideal) M.a12.view (M.a12.view.writes (Elt Ideal) G12 (tail12 i M X G12 (loop1 c i M X G11 G12).2.2))) := by
  have I := st_inv Variants.none c none i M.a2 M.h2 M.a3 M.h3 M.a4 M.h4 M.a5 M.h5 M.a6 M.h6 M.a7 M.h7 M.a8 M.h8 M.a9 M.h9 M.a10 M.h10 M.a11 M.h11 M.a12 M.h12
    (sd i) (k0_pay186 i) (qa X) (qb X) (da X) (db X) (k0_pay196 X.x4) X.x5 (M.h3.unread X.x1) (M.h4.unread X.x2) G11 G12
    (k0_pay198, k0_pay198, k0_pay198, k0_pay198) (off1 i) (trip_low (M := M) H) (trip_high (M := M) H) (zeros_at H) (zeros_at H) (zeros_at H) (zeros_at H)
    (k0_t1_loop i).trips le_rfl
  have e := (trips1 i).symm
  exact I.succ (e ▸ last_low (M := M) H) (e ▸ last_high (M := M) H) (added_store _ _ _ _ (e ▸ off3 i) _ _) (added_store _ _ _ _ (e ▸ off3 i) _ _)

omit H
theorem dz_zero (h : Head) {y j : ℕ} (hj : ¬ j < y) : h.dz y j = 0 := by
  simp [Head.dz, Head.grd, Head.att, Head.gat, hj]

theorem dqSum_full (h : Head) {n y : ℕ} (hn : y < n) (hm : n ≤ 4096) (l : Fin 128) : dqSum h n y l = dqSum h 4096 y l := by
  rw [dqSum, dqSum, Finset.range_eq_Ico, Finset.range_eq_Ico, ← Finset.sum_Ico_consecutive _ (Nat.zero_le n) hm,
    Finset.sum_eq_zero (s := Finset.Ico n 4096) fun j hj => by rw [dz_zero h (by have := Finset.mem_Ico.mp hj; omega), zero_mul], add_zero]

/-- The gradient of the unscaled queries. -/
def gradQ (q o k v : ℕ → Fin 128 → ℝ) (y : ℕ) (l : Fin 128) : ℝ :=
  (if l.val < 64 then dqSum (low q o k v) 4096 y l else dqSum (high q o k v) 4096 y l) * (1 / 8)

/-- What the 512 query rows from `ρ` on add to the gradients of the keys and of the values. -/
def addK (q o k v : ℕ → Fin 128 → ℝ) (ρ y : ℕ) (l : Fin 128) : ℝ := dkInc (low q o k v) ρ y l + dkInc (high q o k v) ρ y l
def addV (q o k v : ℕ → Fin 128 → ℝ) (ρ y : ℕ) (l : Fin 128) : ℝ := dvInc (low q o k v) ρ y l + dvInc (high q o k v) ρ y l

theorem dkInc_zero (h : Head) {ρ y : ℕ} (hy : ρ + 512 ≤ y) (l : Fin 128) : dkInc h ρ y l = 0 :=
  Finset.sum_eq_zero fun r _ => by rw [dz_zero h (by omega), zero_mul]

theorem dvInc_zero (h : Head) {ρ y : ℕ} (hy : ρ + 512 ≤ y) (l : Fin 128) : dvInc h ρ y l = 0 :=
  Finset.sum_eq_zero fun r _ => by rw [Head.att, if_neg (by omega), zero_mul]
include H

theorem point_dq (c : Dev nD) (G11 : BufTy.Contents (Elt Ideal) M.a11.view.ty) (G12 : BufTy.Contents (Elt Ideal) M.a12.view.ty) (r l) :
    dqOut (dqNext (lastA i M X) (loop1 c i M X G11 G12).1.1 (loop1 c i M X G11 G12).1.2.1)
      (dqNext (lastB i M X) (loop1 c i M X G11 G12).1.2.2.1 (loop1 c i M X G11 G12).1.2.2.2) (ix2 r l)
      = ((gradQ q o k v (512 * (i 1).val + r.val) l : ℝ) : EReal) := by
  have I := point_inv (M := M) H c G11 G12
  have h0 := I.g0 r l
  have h1 := I.g1 r l
  dsimp only at h0 h1
  have h8 := lt8 i
  rw [trips1, dqSum_full _ (by omega) (by omega)] at h0 h1
  pointwise [dqOut]
  rw [h0, h1, ofBits_eighth]
  word_cmp
  unfold gradQ
  split_ifs <;> exact (EReal.coe_mul _ _).symm

theorem point_dk (c : Dev nD) (G11 : BufTy.Contents (Elt Ideal) M.a11.view.ty) (G12 : BufTy.Contents (Elt Ideal) M.a12.view.ty) (y : Fin 4096) (l) :
    View.read (Elt Ideal) M.a11.view (M.a11.view.writes (Elt Ideal) G11 (tail11 i M X (loop1 c i M X G11 G12).1.1 (loop1 c i M X G11 G12).1.2.2.1
      G11 (loop1 c i M X G11 G12).2.1)) (ix2 y l)
      = View.read (Elt Ideal) M.a11.view G11 (ix2 y l) + ((addK q o k v (512 * (i 1).val) y.val l : ℝ) : EReal) := by
  rw [(point_inv (M := M) H c G11 G12).dk y l, trips1]
  have h8 := lt8 i
  split_ifs with hy
  · rfl
  · rw [addK, dkInc_zero _ (by omega), dkInc_zero _ (by omega), add_zero]

theorem point_dv (c : Dev nD) (G11 : BufTy.Contents (Elt Ideal) M.a11.view.ty) (G12 : BufTy.Contents (Elt Ideal) M.a12.view.ty) (y : Fin 4096) (l) :
    View.read (Elt Ideal) M.a12.view (M.a12.view.writes (Elt Ideal) G12 (tail12 i M X G12 (loop1 c i M X G11 G12).2.2)) (ix2 y l)
      = View.read (Elt Ideal) M.a12.view G12 (ix2 y l) + ((addV q o k v (512 * (i 1).val) y.val l : ℝ) : EReal) := by
  rw [(point_inv (M := M) H c G11 G12).dv y l, trips1]
  have h8 := lt8 i
  split_ifs with hy
  · rfl
  · rw [addV, dvInc_zero _ (by omega), dvInc_zero _ (by omega), add_zero]

end Cert.SbData
-- ==== Proof.SbOuts.lean ====
module
public import proofs.«01_k».proof.Proof.SbCaseA
public import proofs.«01_k».proof.Proof.SbCaseB
public import proofs.«01_k».proof.Proof.SbCaseC
public import proofs.«01_k».proof.Proof.SbData
public import proofs.«01_k».proof.Proof.Gen.Kernel2Ideal.Value
@[expose] public section
set_option maxRecDepth 16384
noncomputable section
open Cert.Kernel2Ideal Cert.Kernel2Ideal.Gen Cert.SbStep Cert.SbReal Cert.SbTrip Cert.SbLoop Cert.SbPoint Cert.SbGrid Cert.SbData
open Idealize.ShloMosaic Idealize.ShloMosaic.TcCoe Idealize.ShloMosaic.Pipeline Idealize.SL.Sem
namespace Cert.SbOuts

/-! What one point of the grid leaves: its block of dq, and its contribution to the accumulators of dk and dv. -/

variable {q o k v : ℕ → Fin 128 → ℝ} {i : grid0.Coords} {M : Mems} {X : Ins} {c : Dev nD}

theorem zero_dk (y : Fin 4096) (l : Fin 128) :
    View.read (Elt Ideal) M.a11.view (M.a11.view.writes (Elt Ideal) M.a11.view.junk (kernelRun0_A.sl.HS0_1 (F := Ideal))) (ix2 y l) = (0 : EReal) := by
  rw [View.read_writes_junk_eq_canon]
  unfold kernelRun0_A.sl.HS0_1
  rw [View.canon_cons_unit_zero (by funext a; fin_cases a <;> rfl)]
  unfold k0_pay184
  exact Ideal.ofBits_zero .f32

theorem zero_dv (y : Fin 4096) (l : Fin 128) :
    View.read (Elt Ideal) M.a12.view (M.a12.view.writes (Elt Ideal) M.a12.view.junk (kernelRun0_A.sl.HS1_1 (F := Ideal))) (ix2 y l) = (0 : EReal) := by
  rw [View.read_writes_junk_eq_canon]
  unfold kernelRun0_A.sl.HS1_1
  rw [View.canon_cons_unit_zero (by funext a; fin_cases a <;> rfl)]
  unfold k0_pay185
  exact Ideal.ofBits_zero .f32

theorem at_dq_A (H : Holds q o k v i X) (hc0 hc1) (r l) :
    out0_A_6 (F := Ideal) c i M.a2 M.h2 M.a3 M.h3 M.a4 M.h4 M.a5 M.h5 M.a6 M.h6 M.a7 M.h7 M.a8 M.h8 M.a9 M.h9 M.a10 M.h10 M.a11 M.h11 M.a12 M.h12 hc0 hc1 X.x0 X.x1 X.x2 X.x3 X.x4 X.x5 (ix2 r l) = ((gradQ q o k v (512 * (i 1).val + r.val) l : ℝ) : EReal) := by
  unfold out0_A_6
  rw [View.read_writes_junk_eq_canon]
  refine (congrFun (congrArg View.canon (SbPoint.dq_A c i M X hc0 hc1 (trips2 _))) (ix2 r l)).trans ?_
  rw [View.canon_cons_unit_zero (by funext a; fin_cases a <;> rfl), loaded_eq]
  exact point_dq (M := M) H c _ _ r l

theorem at_dk_A (H : Holds q o k v i X) (hc0 hc1) (y : Fin 4096) (l) :
    sout0_A_0 (F := Ideal) c i M.a2 M.h2 M.a3 M.h3 M.a4 M.h4 M.a5 M.h5 M.a6 M.h6 M.a7 M.h7 M.a8 M.h8 M.a9 M.h9 M.a10 M.h10 M.a11 M.h11 M.a12 M.h12 hc0 hc1 X.x0 X.x1 X.x2 X.x3 X.x4 X.x5 (ix2 y l) = ((addK q o k v (512 * (i 1).val) y.val l : ℝ) : EReal) := by
  unfold sout0_A_0
  rw [View.read_writes_junk_eq_canon, ← View.read_writes_junk_eq_canon M.a11.view]
  have e := point_dk (M := M) H c (M.a11.view.writes (Elt Ideal) M.a11.view.junk (kernelRun0_A.sl.HS0_1 (F := Ideal)))
    (M.a12.view.writes (Elt Ideal) M.a12.view.junk (kernelRun0_A.sl.HS1_1 (F := Ideal))) y l
  rw [zero_dk, zero_add, ← View.writes_append] at e
  refine Eq.trans ?_ e
  refine congrFun (congrArg (fun L => View.read (Elt Ideal) M.a11.view (M.a11.view.writes (Elt Ideal) M.a11.view.junk L)) ?_) (ix2 y l)
  refine (SbPoint.dks_A c i M X hc0 hc1 (trips2 _)).trans ?_
  rw [loaded_eq]
  unfold tail11
  rw [View.writes_append]
  rfl

theorem at_dv_A (H : Holds q o k v i X) (hc0 hc1) (y : Fin 4096) (l) :
    sout0_A_1 (F := Ideal) c i M.a2 M.h2 M.a3 M.h3 M.a4 M.h4 M.a5 M.h5 M.a6 M.h6 M.a7 M.h7 M.a8 M.h8 M.a9 M.h9 M.a10 M.h10 M.a11 M.h11 M.a12 M.h12 hc0 hc1 X.x0 X.x1 X.x2 X.x3 X.x4 X.x5 (ix2 y l) = ((addV q o k v (512 * (i 1).val) y.val l : ℝ) : EReal) := by
  unfold sout0_A_1
  rw [View.read_writes_junk_eq_canon, ← View.read_writes_junk_eq_canon M.a12.view]
  have e := point_dv (M := M) H c (M.a11.view.writes (Elt Ideal) M.a11.view.junk (kernelRun0_A.sl.HS0_1 (F := Ideal)))
    (M.a12.view.writes (Elt Ideal) M.a12.view.junk (kernelRun0_A.sl.HS1_1 (F := Ideal))) y l
  rw [zero_dv, zero_add, ← View.writes_append] at e
  refine Eq.trans ?_ e
  refine congrFun (congrArg (fun L => View.read (Elt Ideal) M.a12.view (M.a12.view.writes (Elt Ideal) M.a12.view.junk L)) ?_) (ix2 y l)
  refine (SbPoint.dvs_A c i M X hc0 hc1 (trips2 _)).trans ?_
  rw [loaded_eq]
  unfold tail12
  rw [View.writes_append]
  rfl

theorem at_dq_B (H : Holds q o k v i X) (xs0 xs1 : FVec Ideal S4096x128 .f32) (hc0 hc1) (r l) :
    out0_B_6 (F := Ideal) c i M.a2 M.h2 M.a3 M.h3 M.a4 M.h4 M.a5 M.h5 M.a6 M.h6 M.a7 M.h7 M.a8 M.h8 M.a9 M.h9 M.a10 M.h10 M.a11 M.h11 M.a12 M.h12 hc0 hc1 X.x0 X.x1 X.x2 X.x3 X.x4 X.x5 xs0 xs1 (ix2 r l) = ((gradQ q o k v (512 * (i 1).val + r.val) l : ℝ) : EReal) := by
  unfold out0_B_6
  rw [View.read_writes_junk_eq_canon]
  refine (congrFun (congrArg View.canon (SbPoint.dq_B c i M X xs0 xs1 hc0 hc1 (trips2 _))) (ix2 r l)).trans ?_
  rw [View.canon_cons_unit_zero (by funext a; fin_cases a <;> rfl), loaded_eq]
  exact point_dq (M := M) H c _ _ r l

theorem at_dk_B (H : Holds q o k v i X) (xs0 xs1 : FVec Ideal S4096x128 .f32) (hc0 hc1) (y : Fin 4096) (l) :
    sout0_B_0 (F := Ideal) c i M.a2 M.h2 M.a3 M.h3 M.a4 M.h4 M.a5 M.h5 M.a6 M.h6 M.a7 M.h7 M.a8 M.h8 M.a9 M.h9 M.a10 M.h10 M.a11 M.h11 M.a12 M.h12 hc0 hc1 X.x0 X.x1 X.x2 X.x3 X.x4 X.x5 xs0 xs1 (ix2 y l)
      = xs0 (ix2 y l) + ((addK q o k v (512 * (i 1).val) y.val l : ℝ) : EReal) := by
  unfold sout0_B_0
  refine (congrFun (congrArg (fun L => View.read (Elt Ideal) M.a11.view (M.a11.view.writes (Elt Ideal) (M.h11.unread xs0) L))
    (SbPoint.dks_B c i M X xs0 xs1 hc0 hc1 (trips2 _))) (ix2 y l)).trans ?_
  rw [loaded_eq]
  refine (point_dk (M := M) H c _ _ y l).trans (congrArg (· + _) ?_)
  exact congrFun (M.h11.read_unread _) _

theorem at_dv_B (H : Holds q o k v i X) (xs0 xs1 : FVec Ideal S4096x128 .f32) (hc0 hc1) (y : Fin 4096) (l) :
    sout0_B_1 (F := Ideal) c i M.a2 M.h2 M.a3 M.h3 M.a4 M.h4 M.a5 M.h5 M.a6 M.h6 M.a7 M.h7 M.a8 M.h8 M.a9 M.h9 M.a10 M.h10 M.a11 M.h11 M.a12 M.h12 hc0 hc1 X.x0 X.x1 X.x2 X.x3 X.x4 X.x5 xs0 xs1 (ix2 y l)
      = xs1 (ix2 y l) + ((addV q o k v (512 * (i 1).val) y.val l : ℝ) : EReal) := by
  unfold sout0_B_1
  refine (congrFun (congrArg (fun L => View.read (Elt Ideal) M.a12.view (M.a12.view.writes (Elt Ideal) (M.h12.unread xs1) L))
    (SbPoint.dvs_B c i M X xs0 xs1 hc0 hc1 (trips2 _))) (ix2 y l)).trans ?_
  rw [loaded_eq]
  refine (point_dv (M := M) H c _ _ y l).trans (congrArg (· + _) ?_)
  exact congrFun (M.h12.read_unread _) _

theorem at_dq_C (H : Holds q o k v i X) (xs0 xs1 : FVec Ideal S4096x128 .f32) (hc0 hc1) (r l) :
    out0_C_6 (F := Ideal) c i M.a2 M.h2 M.a3 M.h3 M.a4 M.h4 M.a5 M.h5 M.a6 M.h6 M.a7 M.h7 M.a8 M.h8 M.a9 M.h9 M.a10 M.h10 M.a11 M.h11 M.a12 M.h12 hc0 hc1 X.x0 X.x1 X.x2 X.x3 X.x4 X.x5 xs0 xs1 (ix2 r l) = ((gradQ q o k v (512 * (i 1).val + r.val) l : ℝ) : EReal) := by
  unfold out0_C_6
  rw [View.read_writes_junk_eq_canon]
  refine (congrFun (congrArg View.canon (SbPoint.dq_C c i M X xs0 xs1 hc0 hc1 (trips2 _))) (ix2 r l)).trans ?_
  rw [View.canon_cons_unit_zero (by funext a; fin_cases a <;> rfl), loaded_eq]
  exact point_dq (M := M) H c _ _ r l

theorem at_dk_C (H : Holds q o k v i X) (xs0 xs1 : FVec Ideal S4096x128 .f32) (hc0 hc1) (y : Fin 4096) (l) :
    sout0_C_0 (F := Ideal) c i M.a2 M.h2 M.a3 M.h3 M.a4 M.h4 M.a5 M.h5 M.a6 M.h6 M.a7 M.h7 M.a8 M.h8 M.a9 M.h9 M.a10 M.h10 M.a11 M.h11 M.a12 M.h12 hc0 hc1 X.x0 X.x1 X.x2 X.x3 X.x4 X.x5 xs0 xs1 (ix2 y l)
      = xs0 (ix2 y l) + ((addK q o k v (512 * (i 1).val) y.val l : ℝ) : EReal) := by
  unfold sout0_C_0
  refine (congrFun (congrArg (fun L => View.read (Elt Ideal) M.a11.view (M.a11.view.writes (Elt Ideal) (M.h11.unread xs0) L))
    (SbPoint.dks_C c i M X xs0 xs1 hc0 hc1 (trips2 _))) (ix2 y l)).trans ?_
  rw [loaded_eq]
  refine (point_dk (M := M) H c _ _ y l).trans (congrArg (· + _) ?_)
  exact congrFun (M.h11.read_unread _) _

theorem at_dkOut_C (xs0 xs1 : FVec Ideal S4096x128 .f32) (hc0 hc1) : out0_C_7 (F := Ideal) c i M.a2 M.h2 M.a3 M.h3 M.a4 M.h4 M.a5 M.h5 M.a6 M.h6 M.a7 M.h7 M.a8 M.h8 M.a9 M.h9 M.a10 M.h10 M.a11 M.h11 M.a12 M.h12 hc0 hc1 X.x0 X.x1 X.x2 X.x3 X.x4 X.x5 xs0 xs1
    = (sout0_C_0 (F := Ideal) c i M.a2 M.h2 M.a3 M.h3 M.a4 M.h4 M.a5 M.h5 M.a6 M.h6 M.a7 M.h7 M.a8 M.h8 M.a9 M.h9 M.a10 M.h10 M.a11 M.h11 M.a12 M.h12 hc0 hc1 X.x0 X.x1 X.x2 X.x3 X.x4 X.x5 xs0 xs1 : FVec Ideal S4096x128 .f32) := by
  unfold sout0_C_0 out0_C_7
  rw [View.read_writes_junk_eq_canon]
  refine (congrArg View.canon (SbPoint.dkOut_C c i M X xs0 xs1 hc0 hc1)).trans ?_
  refine (View.canon_cons_unit_zero (S := S4096x128) (off := ![0, 0]) (by funext a; fin_cases a <;> rfl) inb_S4096x128_S4096x128_0_0 _ _).trans ?_
  exact (show k0_pay4 (F := Ideal) _ = _ from rfl).trans (View.readAt_full M.a11.view _ _)

theorem at_dv_C (H : Holds q o k v i X) (xs0 xs1 : FVec Ideal S4096x128 .f32) (hc0 hc1) (y : Fin 4096) (l) :
    sout0_C_1 (F := Ideal) c i M.a2 M.h2 M.a3 M.h3 M.a4 M.h4 M.a5 M.h5 M.a6 M.h6 M.a7 M.h7 M.a8 M.h8 M.a9 M.h9 M.a10 M.h10 M.a11 M.h11 M.a12 M.h12 hc0 hc1 X.x0 X.x1 X.x2 X.x3 X.x4 X.x5 xs0 xs1 (ix2 y l)
      = xs1 (ix2 y l) + ((addV q o k v (512 * (i 1).val) y.val l : ℝ) : EReal) := by
  unfold sout0_C_1
  refine (congrFun (congrArg (fun L => View.read (Elt Ideal) M.a12.view (M.a12.view.writes (Elt Ideal) (M.h12.unread xs1) L))
    (SbPoint.dvs_C c i M X xs0 xs1 hc0 hc1 (trips2 _))) (ix2 y l)).trans ?_
  rw [loaded_eq]
  refine (point_dv (M := M) H c _ _ y l).trans (congrArg (· + _) ?_)
  exact congrFun (M.h12.read_unread _) _

theorem at_dvOut_C (xs0 xs1 : FVec Ideal S4096x128 .f32) (hc0 hc1) : out0_C_8 (F := Ideal) c i M.a2 M.h2 M.a3 M.h3 M.a4 M.h4 M.a5 M.h5 M.a6 M.h6 M.a7 M.h7 M.a8 M.h8 M.a9 M.h9 M.a10 M.h10 M.a11 M.h11 M.a12 M.h12 hc0 hc1 X.x0 X.x1 X.x2 X.x3 X.x4 X.x5 xs0 xs1
    = (sout0_C_1 (F := Ideal) c i M.a2 M.h2 M.a3 M.h3 M.a4 M.h4 M.a5 M.h5 M.a6 M.h6 M.a7 M.h7 M.a8 M.h8 M.a9 M.h9 M.a10 M.h10 M.a11 M.h11 M.a12 M.h12 hc0 hc1 X.x0 X.x1 X.x2 X.x3 X.x4 X.x5 xs0 xs1 : FVec Ideal S4096x128 .f32) := by
  unfold sout0_C_1 out0_C_8
  rw [View.read_writes_junk_eq_canon]
  refine (congrArg View.canon (SbPoint.dvOut_C c i M X xs0 xs1 hc0 hc1)).trans ?_
  refine (View.canon_cons_unit_zero (S := S4096x128) (off := ![0, 0]) (by funext a; fin_cases a <;> rfl) inb_S4096x128_S4096x128_0_0 _ _).trans ?_
  exact (show k0_pay5 (F := Ideal) _ = _ from rfl).trans (View.readAt_full M.a12.view _ _)
end Cert.SbOuts
-- ==== Proof.SbHeads.lean ====
module
public import proofs.«01_k».proof.Proof.SbHead
@[expose] public section
noncomputable section
open Cert.SbReal Cert.SbData
/-! The eight heads, each of 64 columns, and the pairs of heads a grid point works on. -/
namespace Cert.SbHeads

/-- A key's part of the sums of log(1 - beta), from the scores. -/
def rest (z : ℕ → ℕ → ℝ) (q k : ℕ) : ℝ := if k < q then lsp (z q k) - z q k else 0
/-- The weights. -/
def att (z : ℕ → ℕ → ℝ) (q k : ℕ) : ℝ := if k < q then Real.exp (lsp (z q k) + ∑ j ∈ Finset.Ico (k + 1) 4096, rest z q j) else 0
/-- The weights' gradients times the weights, from the scores and the products of cotangents and values. -/
def grd (z g : ℕ → ℕ → ℝ) (q k : ℕ) : ℝ := att z q k * g q k
def gat (z : ℕ → ℕ → ℝ) (q k : ℕ) : ℝ := if k < q then Real.exp (lsp (z q k)) else 0
/-- The gradient of the scores. -/
def dz (z g : ℕ → ℕ → ℝ) (q k : ℕ) : ℝ := grd z g q k - gat z q k * (grd z g q k + ∑ j ∈ Finset.range k, grd z g q j)

theorem Head_rest (h : Head) : h.rest = rest h.Z := rfl
theorem Head_att (h : Head) : h.att = att h.Z := rfl
theorem Head_dz (h : Head) : h.dz = dz h.Z (fun q k => ∑ i, h.O q i * h.V k i) := rfl

variable (p o : ℕ → ℕ → ℝ)

/-- The scores of head `n`. -/
def score (n q k : ℕ) : ℝ := ∑ x : Fin 64, p q (64 * n + x.val) * (1 / 8) * p k (512 + (64 * n + x.val))
/-- The products of head `n`'s cotangents and values. -/
def prods (n q k : ℕ) : ℝ := ∑ x : Fin 64, o q (64 * n + x.val) * p k (1024 + (64 * n + x.val))

/-- The columns of a pair of heads. -/
def cols (a : ℕ → ℕ → ℝ) (base c : ℕ) (y : ℕ) (l : Fin 128) : ℝ := a y (base + (128 * c + l.val))

abbrev lo (c : ℕ) : Head := low (cols p 0 c) (cols o 0 c) (cols p 512 c) (cols p 1024 c)
abbrev hi (c : ℕ) : Head := high (cols p 0 c) (cols o 0 c) (cols p 512 c) (cols p 1024 c)

theorem sum_low (f : Fin 128 → ℝ) : (∑ l : Fin 128, if l.val < 64 then f l else 0) = ∑ x : Fin 64, f ⟨x.val, by omega⟩ := by
  rw [Fin.sum_univ_add (a := 64) (b := 64) (fun l : Fin 128 => if l.val < 64 then f l else 0)]
  rw [Finset.sum_congr rfl (fun x _ => if_pos (by simp) : ∀ x ∈ Finset.univ (α := Fin 64), _ = f (Fin.castAdd 64 x)),
    Finset.sum_eq_zero (s := Finset.univ (α := Fin 64)) (f := fun x => if (Fin.natAdd 64 x : Fin 128).val < 64 then _ else _) (fun x _ => if_neg (by simp)), add_zero]
  rfl

theorem sum_high (f : Fin 128 → ℝ) : (∑ l : Fin 128, if 64 ≤ l.val then f l else 0) = ∑ x : Fin 64, f ⟨64 + x.val, by omega⟩ := by
  rw [Fin.sum_univ_add (a := 64) (b := 64) (fun l : Fin 128 => if 64 ≤ l.val then f l else 0)]
  rw [Finset.sum_congr rfl (fun x _ => if_pos (by simp) : ∀ x ∈ Finset.univ (α := Fin 64), _ = f (Fin.natAdd 64 x)),
    Finset.sum_eq_zero (s := Finset.univ (α := Fin 64)) (f := fun x => if 64 ≤ (Fin.castAdd 64 x : Fin 128).val then _ else _) (fun x _ => if_neg (by simp)), zero_add]
  rfl

theorem lo_Z (c : ℕ) : (lo p o c).Z = score p (2 * c) := by
  funext q k
  unfold Head.Z score
  dsimp only [lo, low]
  simp only [ite_mul, zero_mul]
  rw [sum_low]
  refine Finset.sum_congr rfl fun x _ => ?_
  simp only [cols]
  rw [show 0 + (128 * c + x.val) = 64 * (2 * c) + x.val by omega, show 128 * c + x.val = 64 * (2 * c) + x.val by omega]

theorem hi_Z (c : ℕ) : (hi p o c).Z = score p (2 * c + 1) := by
  funext q k
  unfold Head.Z score
  dsimp only [hi, high]
  simp only [ite_mul, zero_mul]
  rw [sum_high]
  refine Finset.sum_congr rfl fun x _ => ?_
  simp only [cols]
  rw [show 0 + (128 * c + (64 + x.val)) = 64 * (2 * c + 1) + x.val by omega, show 128 * c + (64 + x.val) = 64 * (2 * c + 1) + x.val by omega]

theorem lo_prods (c : ℕ) : (fun q k => ∑ i, (lo p o c).O q i * (lo p o c).V k i) = prods p o (2 * c) := by
  funext q k
  unfold prods
  dsimp only [lo, low]
  simp only [ite_mul, zero_mul]
  rw [sum_low]
  refine Finset.sum_congr rfl fun x _ => ?_
  simp only [cols]
  rw [show 0 + (128 * c + x.val) = 64 * (2 * c) + x.val by omega, show 128 * c + x.val = 64 * (2 * c) + x.val by omega]

theorem hi_prods (c : ℕ) : (fun q k => ∑ i, (hi p o c).O q i * (hi p o c).V k i) = prods p o (2 * c + 1) := by
  funext q k
  unfold prods
  dsimp only [hi, high]
  simp only [ite_mul, zero_mul]
  rw [sum_high]
  refine Finset.sum_congr rfl fun x _ => ?_
  simp only [cols]
  rw [show 0 + (128 * c + (64 + x.val)) = 64 * (2 * c + 1) + x.val by omega, show 128 * c + (64 + x.val) = 64 * (2 * c + 1) + x.val by omega]

theorem spans (g : ℕ → ℝ) (b e : ℕ) (h : b ≤ e) :
    (∑ j ∈ Finset.Ico b e, ∑ x : Fin 128, g (128 * (j + 1) + x.val)) = ∑ j ∈ Finset.Ico (128 * (b + 1)) (128 * (e + 1)), g j := by
  induction e, h using Nat.le_induction with
  | base => simp
  | succ e he ih =>
    rw [Finset.sum_Ico_succ_top he, ih, Fin.sum_univ_eq_sum_range (fun x => g (128 * (e + 1) + x)),
      ← Finset.sum_Ico_consecutive g (show 128 * (b + 1) ≤ 128 * (e + 1) by omega) (show 128 * (e + 1) ≤ 128 * (e + 1 + 1) by omega),
      Finset.sum_Ico_eq_sum_range g (128 * (e + 1)), show 128 * (e + 1 + 1) - 128 * (e + 1) = 128 by omega]

/-- The sums of the later blocks, summed from the end, are the sums over all later keys. -/
theorem blocks (g : ℕ → ℝ) (b : ℕ) :
    (∑ j ∈ Finset.Ico b 128, if j < 31 then ∑ x : Fin 128, g (128 * (j + 1) + x.val) else 0) = ∑ j ∈ Finset.Ico (128 * (b + 1)) 4096, g j := by
  by_cases hb : b ≤ 31
  · rw [← Finset.sum_Ico_consecutive _ hb (by omega : 31 ≤ 128),
      Finset.sum_eq_zero (s := Finset.Ico 31 128) (fun j hj => if_neg (by rw [Finset.mem_Ico] at hj; omega)), add_zero, ← spans g b 31 hb]
    exact Finset.sum_congr rfl fun j hj => if_pos (by rw [Finset.mem_Ico] at hj; omega)
  · rw [Finset.sum_eq_zero (fun j hj => if_neg (by rw [Finset.mem_Ico] at hj; omega)), Finset.Ico_eq_empty (by omega), Finset.sum_empty]

end Cert.SbHeads
-- ==== Proof.CumSum.lean ====
module
public import proofs.«01_k».proof.Proof.Reals
@[expose] public section
noncomputable section
open Idealize.ShloMosaic Idealize.ShloMosaic.TcCoe

/-! Running sums of the host, along the last of three axes, of real entries. -/
namespace Cert.CumSum

abbrev Sh (A B N : ℕ) : Shape := ⟨3, ![A, B, N]⟩

theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The positions of a window of one row. -/
def row (N : ℕ) (n : Fin N) : (Sh 1 1 N).Idx := ix3 0 0 n

theorem row_bijective (N : ℕ) : Function.Bijective (row N) := by
  constructor
  · intro a b h
    exact congrFun h 2
  · intro i
    refine ⟨i 2, ?_⟩
    funext a
    match a with
    | ⟨0, _⟩ => exact Subsingleton.elim (α := Fin 1) _ _
    | ⟨1, _⟩ => exact Subsingleton.elim (α := Fin 1) _ _
    | ⟨2, _⟩ => rfl

variable {A B N : ℕ}

/-- The window's sum, entry by entry. -/
theorem window {L H : ℕ} (x : FVec Ideal (Sh A B N) .f32) (init : FVec Ideal ⟨0, ![]⟩ .f32) (hi : init ix0 = (0 : EReal))
    (h : (Sh A B N).ReduceWindows (![1, 1, N] : Fin 3 → ℕ) ![1, 1, 1] ![0, 0, L] ![0, 0, H] (Sh A B N)) (hu : 0 < (⟨0, ![]⟩ : Shape).numel)
    (a : Fin A) (b : Fin B) (k : Fin N) (f : ℕ → ℝ) (hf : ∀ j : Fin N, x (ix3 a b j) = ((f j.val : ℝ) : EReal)) :
    Host.reduceWindowAdd (F := Ideal) (φ := .f32) ![1, 1, N] ![1, 1, 1] ![0, 0, L] ![0, 0, H] x init h hu (ix3 a b k)
      = ((∑ n ∈ Finset.range N, if L ≤ k.val + n ∧ k.val + n - L < N then f (k.val + n - L) else 0 : ℝ) : EReal) := by
  have hv : init (Shape.Idx.first hu) = (0 : EReal) := (congrArg init (funext fun a => a.elim0)).trans hi
  show Host.reduceWindow (fun r s : EReal => r + s) _ _ _ _ x _ h _ (ix3 a b k) = _
  unfold Host.reduceWindow
  refine (foldl_add (fun n : Fin (Sh 1 1 N).numel => _) _ _).trans ?_
  dsimp only
  rw [hv, zero_add, ← List.ofFn_eq_map, List.sum_ofFn]
  rw [← (((Sh 1 1 N).rowMajor.bijective.comp (row_bijective N)).sum_comp),
    ← Fin.sum_univ_eq_sum_range (fun n => if L ≤ k.val + n ∧ k.val + n - L < N then f (k.val + n - L) else 0), ← Reals.sum_coe]
  refine Finset.sum_congr rfl fun n _ => ?_
  have hs : (Sh 1 1 N).rowMajor.symm (((Sh 1 1 N).rowMajor ∘ row N) n) = row N n := (Sh 1 1 N).rowMajor.symm_apply_apply _
  generalize ((Sh 1 1 N).rowMajor ∘ row N) n = z at hs
  have w0 : ((Sh 1 1 N).rowMajor.symm z 0).val = 0 := congrArg (fun i : (Sh 1 1 N).Idx => (i 0).val) hs
  have w1 : ((Sh 1 1 N).rowMajor.symm z 1).val = 0 := congrArg (fun i : (Sh 1 1 N).Idx => (i 1).val) hs
  have w2 : ((Sh 1 1 N).rowMajor.symm z 2).val = n.val := congrArg (fun i : (Sh 1 1 N).Idx => (i 2).val) hs
  have hk := k.isLt
  have ha := a.isLt
  have hb := b.isLt
  have p0 : a.val * 1 + ((Sh 1 1 N).rowMajor.symm z 0).val = a.val := by omega
  have p1 : b.val * 1 + ((Sh 1 1 N).rowMajor.symm z 1).val = b.val := by omega
  have p2 : k.val * 1 + ((Sh 1 1 N).rowMajor.symm z 2).val = k.val + n.val := by omega
  split_ifs with h1 h2 h2
  · refine (congrArg x (funext fun c => Fin.ext ?_)).trans (hf ⟨k.val + n.val - L, h2.2⟩)
    match c with
    | ⟨0, _⟩ => exact (congrArg (· - 0) p0).trans (Nat.sub_zero _)
    | ⟨1, _⟩ => exact (congrArg (· - 0) p1).trans (Nat.sub_zero _)
    | ⟨2, _⟩ => exact congrArg (· - L) p2
  · exfalso
    have e : L ≤ k.val * 1 + ((Sh 1 1 N).rowMajor.symm z 2).val ∧ k.val * 1 + ((Sh 1 1 N).rowMajor.symm z 2).val - L < N := h1 2
    rw [p2] at e
    exact h2 e
  · exfalso
    refine h1 fun c => ?_
    match c with
    | ⟨0, _⟩ =>
      show 0 ≤ a.val * 1 + ((Sh 1 1 N).rowMajor.symm z 0).val ∧ a.val * 1 + ((Sh 1 1 N).rowMajor.symm z 0).val - 0 < A
      omega
    | ⟨1, _⟩ =>
      show 0 ≤ b.val * 1 + ((Sh 1 1 N).rowMajor.symm z 1).val ∧ b.val * 1 + ((Sh 1 1 N).rowMajor.symm z 1).val - 0 < B
      omega
    | ⟨2, _⟩ =>
      show L ≤ k.val * 1 + ((Sh 1 1 N).rowMajor.symm z 2).val ∧ k.val * 1 + ((Sh 1 1 N).rowMajor.symm z 2).val - L < N
      rw [p2]; exact h2
  · rfl

/-- The sums from the end. -/
theorem from_end {H : ℕ} (x : FVec Ideal (Sh A B N) .f32) (init : FVec Ideal ⟨0, ![]⟩ .f32) (hi : init ix0 = (0 : EReal))
    (h : (Sh A B N).ReduceWindows (![1, 1, N] : Fin 3 → ℕ) ![1, 1, 1] ![0, 0, 0] ![0, 0, H] (Sh A B N)) (hu : 0 < (⟨0, ![]⟩ : Shape).numel)
    (a : Fin A) (b : Fin B) (k : Fin N) (f : ℕ → ℝ) (hf : ∀ j : Fin N, x (ix3 a b j) = ((f j.val : ℝ) : EReal)) :
    Host.reduceWindowAdd (F := Ideal) (φ := .f32) ![1, 1, N] ![1, 1, 1] ![0, 0, 0] ![0, 0, H] x init h hu (ix3 a b k)
      = ((∑ j ∈ Finset.Ico k.val N, f j : ℝ) : EReal) := by
  rw [window x init hi h hu a b k f hf]
  congr 1
  have hk := k.isLt
  rw [Finset.range_eq_Ico, ← Finset.sum_Ico_consecutive _ (Nat.zero_le (N - k.val)) (by omega : N - k.val ≤ N)]
  rw [Finset.sum_eq_zero (s := Finset.Ico (N - k.val) N) (fun n hn => by rw [Finset.mem_Ico] at hn; rw [if_neg (by omega)]), add_zero,
    Finset.sum_Ico_eq_sum_range f]
  rw [← Finset.range_eq_Ico]
  refine Finset.sum_congr rfl fun n hn => ?_
  rw [Finset.mem_range] at hn
  rw [if_pos (by omega), Nat.sub_zero]

/-- The sums from the start. -/
theorem from_start {L : ℕ} (hL : L + 1 = N) (x : FVec Ideal (Sh A B N) .f32) (init : FVec Ideal ⟨0, ![]⟩ .f32) (hi : init ix0 = (0 : EReal))
    (h : (Sh A B N).ReduceWindows (![1, 1, N] : Fin 3 → ℕ) ![1, 1, 1] ![0, 0, L] ![0, 0, 0] (Sh A B N)) (hu : 0 < (⟨0, ![]⟩ : Shape).numel)
    (a : Fin A) (b : Fin B) (k : Fin N) (f : ℕ → ℝ) (hf : ∀ j : Fin N, x (ix3 a b j) = ((f j.val : ℝ) : EReal)) :
    Host.reduceWindowAdd (F := Ideal) (φ := .f32) ![1, 1, N] ![1, 1, 1] ![0, 0, L] ![0, 0, 0] x init h hu (ix3 a b k)
      = ((∑ j ∈ Finset.range (k.val + 1), f j : ℝ) : EReal) := by
  rw [window x init hi h hu a b k f hf]
  congr 1
  have hk := k.isLt
  rw [Finset.range_eq_Ico, ← Finset.sum_Ico_consecutive _ (Nat.zero_le (L - k.val)) (by omega : L - k.val ≤ N)]
  rw [Finset.sum_eq_zero (s := Finset.Ico 0 (L - k.val)) (fun n hn => by rw [Finset.mem_Ico] at hn; rw [if_neg (by omega)]), zero_add,
    Finset.sum_Ico_eq_sum_range, show N - (L - k.val) = k.val + 1 by omega]
  refine Finset.sum_congr rfl fun n hn => ?_
  rw [Finset.mem_range] at hn
  rw [if_pos (by omega)]
  congr 1; omega

end Cert.CumSum
-- ==== Proof.SbTables.lean ====
module
public import proofs.«01_k».proof.Proof.SbData
public import proofs.«01_k».proof.Proof.SbHeads
public import proofs.«01_k».proof.Proof.CumSum
@[expose] public section
set_option maxRecDepth 16384
noncomputable section
open Cert.Kernel2Ideal Cert.Kernel2Ideal.Gen Cert.SbReal Cert.SbHeads
open Idealize.ShloMosaic Idealize.ShloMosaic.TcCoe Idealize.ShloMosaic.Pipeline Idealize.SL.Sem
/-! The tables the host prepares: for every head, query and block of keys the sum of log(1 - beta) over later blocks. -/
namespace Cert.SbTables

variable (σ : Valuation τ sig (Elt Ideal))

theorem even_line (c : Fin 4) (y : Fin 4096) (b : Fin 128) :
    (StableHlo.after (hostOps0_4 (F := Ideal)) σ (Proc.tc.devRef main_v35) : FVec Ideal S4x4096x128 .f32) (ix3 c y b)
      = (σ (Proc.tc.devRef main_v32) : FVec Ideal S8x4096x128 .f32) (ix3 ⟨c.val * 2, by omega⟩ y b) := by
  entry_read
  pointwise []

theorem odd_line (c : Fin 4) (y : Fin 4096) (b : Fin 128) :
    (StableHlo.after (hostOps0_4 (F := Ideal)) σ (Proc.tc.devRef main_v37) : FVec Ideal S4x4096x128 .f32) (ix3 c y b)
      = (σ (Proc.tc.devRef main_v32) : FVec Ideal S8x4096x128 .f32) (ix3 ⟨c.val * 2 + 1, by omega⟩ y b) := by
  entry_read
  pointwise []

theorem sums_line (h : Fin 8) (y : Fin 4096) (b : Fin 128) (f : ℕ → ℝ)
    (hf : ∀ j : Fin 128, (σ (Proc.tc.devRef main_v31) : FVec Ideal S8x4096x128 .f32) (ix3 h y j) = ((f j.val : ℝ) : EReal)) :
    (StableHlo.after (hostOps0_3 (F := Ideal)) σ (Proc.tc.devRef main_v32) : FVec Ideal S8x4096x128 .f32) (ix3 h y b)
      = ((∑ j ∈ Finset.Ico b.val 128, f j : ℝ) : EReal) := by
  entry_read
  exact CumSum.from_end _ _ Ideal.ofBits_zero_f32 _ _ h y b f hf

theorem block_read (h : Fin 8) (y : Fin 4096) (b : Fin 128) :
    (StableHlo.after (hostOps0_2 (F := Ideal)) σ (Proc.tc.devRef main_v31) : FVec Ideal S8x4096x128 .f32) (ix3 h y b)
      = (if hb : b.val < 31 then @Finset.sum (Fin 128) EReal _ Finset.univ (fun x => (σ (Proc.tc.devRef main_v26) : FVec Ideal S8x4096x4096 .f32) (ix3 h y ⟨(1 + b.val) * 128 + x.val, by omega⟩)) else 0 : EReal) := by
  entry_read
  pointwise []

theorem block_line (h : Fin 8) (y : Fin 4096) (b : Fin 128) (g : ℕ → ℝ)
    (hg : ∀ j : Fin 4096, (σ (Proc.tc.devRef main_v26) : FVec Ideal S8x4096x4096 .f32) (ix3 h y j) = ((g j.val : ℝ) : EReal)) :
    (StableHlo.after (hostOps0_2 (F := Ideal)) σ (Proc.tc.devRef main_v31) : FVec Ideal S8x4096x128 .f32) (ix3 h y b)
      = ((if b.val < 31 then ∑ x : Fin 128, g (128 * (b.val + 1) + x.val) else 0 : ℝ) : EReal) := by
  rw [block_read]
  have e : ∀ x : Fin 128, (1 + b.val) * 128 + x.val = 128 * (b.val + 1) + x.val := fun x => by omega
  split_ifs with hb
  · refine Eq.trans (b := ∑ x : Fin 128, ((g (128 * (b.val + 1) + x.val) : ℝ) : EReal)) ?_ (by rw [Reals.sum_coe])
    exact Finset.sum_congr rfl fun x _ => (hg _).trans (congrArg (fun n => ((g n : ℝ) : EReal)) (e x))
  · exact EReal.coe_zero.symm

theorem mask_line (h : Fin 8) (y k : Fin 4096) :
    (StableHlo.after (hostOps0_1 (F := Ideal)) σ (Proc.tc.devRef main_v26) : FVec Ideal S8x4096x4096 .f32) (ix3 h y k)
      = (Scalar.select ((σ (Proc.tc.devRef main_v24) : IVec S4096x4096 1) (ix2 y k)) ((σ (Proc.tc.devRef main_v25) : FVec Ideal S8x4096x4096 .f32) (ix3 h y k))
          ((σ (Proc.tc.devRef main_cst_2) : FVec Ideal S_ .f32) ix0) : EReal) := by
  entry_read
  show (select (broadcastInDim S8x4096x4096 ![1, 2] bcast_S4096x4096_S8x4096x4096_1_2 (σ (Proc.tc.devRef main_v24) : IVec S4096x4096 1))
    (σ (Proc.tc.devRef main_v25) : FVec Ideal S8x4096x4096 .f32)
     (broadcastInDim S8x4096x4096 ![] bcast_S_S8x4096x4096 (σ (Proc.tc.devRef main_cst_2) : FVec Ideal S_ .f32)) : FVec Ideal S8x4096x4096 .f32) (ix3 h y k) = _
  pointwise []

theorem zero_line : (StableHlo.after (hostOps0 (F := Ideal)) σ (Proc.tc.devRef main_cst_2) : FVec Ideal S_ .f32) ix0 = (0 : EReal) := by
  entry_read
  exact Ideal.ofBits_zero_f32

theorem order_line (y k : Fin 4096) :
    (StableHlo.after (hostOps0 (F := Ideal)) σ (Proc.tc.devRef main_v24) : IVec S4096x4096 1) (ix2 y k)
      = IntOp.cmpi CmpIPredicate.slt (BitVec.ofNat 32 k.val) (BitVec.ofNat 32 y.val) := by
  entry_read
  pointwise []

theorem score_sum (X : FVec Ideal S4096x7168 .f32) (p : ℕ → ℕ → ℝ)
    (hp : ∀ (y : Fin 4096) (x : Fin 7168), x.val < 1536 → X (ix2 y x) = ((p y.val x.val : ℝ) : EReal)) (h : Fin 8) (y k : Fin 4096) :
    (∑ x : Fin 64, X (ix2 y ⟨h.val * 64 + x.val, by omega⟩) * Ideal.ofBits FTy.f32 1040187392#32 * X (ix2 k ⟨512 + (h.val * 64 + x.val), by omega⟩) : EReal)
      = ((score p h.val y.val k.val : ℝ) : EReal) := by
  rw [score, ← Reals.sum_coe]
  refine Finset.sum_congr rfl fun x _ => ?_
  rw [hp y _ (show h.val * 64 + x.val < 1536 by omega), hp k _ (show 512 + (h.val * 64 + x.val) < 1536 by omega), SbData.ofBits_eighth,
    ← EReal.coe_mul, ← EReal.coe_mul]
  simp only [mul_comm h.val 64]

variable (p : ℕ → ℕ → ℝ) (hp : ∀ (y : Fin 4096) (x : Fin 7168), x.val < 1536 →
  (σ (Proc.tc.devRef main_arg0) : FVec Ideal S4096x7168 .f32) (ix2 y x) = ((p y.val x.val : ℝ) : EReal))
include hp

theorem log_line (h : Fin 8) (y k : Fin 4096) :
    (StableHlo.after (hostOps0 (F := Ideal)) σ (Proc.tc.devRef main_v25) : FVec Ideal S8x4096x4096 .f32) (ix3 h y k)
      = ((lsp (score p h.val y.val k.val) - score p h.val y.val k.val : ℝ) : EReal) := by
  entry_read
  pointwise []
  rw [score_sum _ p hp]
  generalize score p h.val y.val k.val = z
  rw [show FloatOps.absf (F := Ideal) (φ := .f32) (z : EReal) = max (z : EReal) (-(z : EReal)) from rfl, ← EReal.coe_neg,
      ← (EReal.coe_strictMono.monotone.map_max), ← EReal.coe_neg, ← abs, log_one_add, ← EReal.coe_zero, coe_min, ← EReal.coe_sub, ← EReal.coe_sub, lsp]

theorem rest_line (h : Fin 8) (y k : Fin 4096) :
    (StableHlo.after (hostOps0_1 (F := Ideal)) (StableHlo.after (hostOps0 (F := Ideal)) σ) (Proc.tc.devRef main_v26) : FVec Ideal S8x4096x4096 .f32) (ix3 h y k)
      = ((rest (score p h.val) y.val k.val : ℝ) : EReal) := by
  rw [mask_line, order_line, log_line σ p hp, zero_line, rest]
  have hk := k.isLt
  have hy := y.isLt
  word_cmp
  split_ifs <;> rfl

/-- The table of the first head of each pair. -/
theorem even (c : Fin 4) (y : Fin 4096) (b : Fin 128) :
    (StableHlo.after (List.flatten [hostOps0, hostOps0_1, hostOps0_2, hostOps0_3, hostOps0_4]) σ (Proc.tc.devRef main_v35) : FVec Ideal S4x4096x128 .f32) (ix3 c y b)
      = ((∑ j ∈ Finset.Ico (128 * (b.val + 1)) 4096, rest (score p (2 * c.val)) y.val j : ℝ) : EReal) := by
  rw [← blocks (rest (score p (2 * c.val)) y.val) b.val]
  simp only [List.flatten_cons, List.flatten_nil, List.append_nil, StableHlo.after_append]
  rw [even_line]
  refine sums_line _ _ y b (fun j => if j < 31 then ∑ x : Fin 128, rest (score p (2 * c.val)) y.val (128 * (j + 1) + x.val) else 0) fun j => ?_
  refine block_line _ _ y j (rest (score p (2 * c.val)) y.val) fun k => ?_
  rw [rest_line σ p hp]
  simp only [mul_comm c.val 2]

/-- The table of the second head of each pair. -/
theorem odd (c : Fin 4) (y : Fin 4096) (b : Fin 128) :
    (StableHlo.after (List.flatten [hostOps0, hostOps0_1, hostOps0_2, hostOps0_3, hostOps0_4]) σ (Proc.tc.devRef main_v37) : FVec Ideal S4x4096x128 .f32) (ix3 c y b)
      = ((∑ j ∈ Finset.Ico (128 * (b.val + 1)) 4096, rest (score p (2 * c.val + 1)) y.val j : ℝ) : EReal) := by
  rw [← blocks (rest (score p (2 * c.val + 1)) y.val) b.val]
  simp only [List.flatten_cons, List.flatten_nil, List.append_nil, StableHlo.after_append]
  rw [odd_line]
  refine sums_line _ _ y b (fun j => if j < 31 then ∑ x : Fin 128, rest (score p (2 * c.val + 1)) y.val (128 * (j + 1) + x.val) else 0) fun j => ?_
  refine block_line _ _ y j (rest (score p (2 * c.val + 1)) y.val) fun k => ?_
  rw [rest_line σ p hp]
  simp only [mul_comm c.val 2]

end Cert.SbTables
-- ==== Proof.SbBlocks.lean ====
module
public import proofs.«01_k».proof.Proof.SbOuts
public import proofs.«01_k».proof.Proof.SbTables
@[expose] public section
set_option maxRecDepth 16384
noncomputable section
open Cert.Kernel2Ideal Cert.Kernel2Ideal.Gen Cert.SbStep Cert.SbReal Cert.SbPoint Cert.SbGrid Cert.SbData Cert.SbHeads
open Idealize.ShloMosaic Idealize.ShloMosaic.TcCoe Idealize.ShloMosaic.Pipeline Idealize.SL.Sem
namespace Cert.SbBlocks

/-! The input blocks of a grid point, as entries of the arguments. -/

variable (m : (ℓ : Loc nD τ sig) → Buf (Elt Ideal) ℓ)

theorem idx : ∀ t : Fin cfg0.N, win0_0.index t = ![t.val % 8, t.val / 8] ∧ win0_1.index t = ![0, 4 + t.val / 8]
    ∧ win0_2.index t = ![0, 8 + t.val / 8] ∧ win0_3.index t = ![t.val % 8, t.val / 8] ∧ win0_4.index t = ![t.val / 8, t.val % 8, 0]
    ∧ win0_5.index t = ![t.val / 8, t.val % 8, 0] ∧ win0_6.index t = ![t.val % 8, t.val / 8] ∧ win0_7.index t = ![0, t.val / 8]
    ∧ win0_8.index t = ![0, t.val / 8] :=
  (by decide +kernel : ∀ t : Fin grid0.N, _)

theorem crd : ∀ t : Fin cfg0.N, ((grid0.coords t) 0).val = t.val / 8 ∧ ((grid0.coords t) 1).val = t.val % 8 :=
  (by decide +kernel : ∀ t : Fin grid0.N, _)

theorem tlt (t : Fin cfg0.N) : t.val < 32 := t.isLt

theorem block_q (c : Dev nD) (t : Fin cfg0.N) (r : Fin 512) (l : Fin 128) : (iblk m c 0 t : FVec Ideal S512x128 .f32) (ix2 r l)
    = m ((c : Thread nD τ).loc main_arg0) (ix2 ⟨512 * (t.val % 8) + r.val, by omega⟩ ⟨128 * (t.val / 8) + l.val, by have := tlt t; omega⟩) := by
  unfold iblk; rw [View.read]; exact (congrFun (V_main_arg0 m c) _).trans (by blk_ext [idx t])

theorem block_k (c : Dev nD) (t : Fin cfg0.N) (y : Fin 4096) (l : Fin 128) : (iblk m c 1 t : FVec Ideal S4096x128 .f32) (ix2 y l)
    = m ((c : Thread nD τ).loc main_arg0) (ix2 y ⟨512 + (128 * (t.val / 8) + l.val), by have := tlt t; omega⟩) := by
  unfold iblk; rw [View.read]; exact (congrFun (V_main_arg0 m c) _).trans (by blk_ext [idx t])

theorem block_v (c : Dev nD) (t : Fin cfg0.N) (y : Fin 4096) (l : Fin 128) : (iblk m c 2 t : FVec Ideal S4096x128 .f32) (ix2 y l)
    = m ((c : Thread nD τ).loc main_arg0) (ix2 y ⟨1024 + (128 * (t.val / 8) + l.val), by have := tlt t; omega⟩) := by
  unfold iblk; rw [View.read]; exact (congrFun (V_main_arg0 m c) _).trans (by blk_ext [idx t])

theorem block_o (c : Dev nD) (t : Fin cfg0.N) (r : Fin 512) (l : Fin 128) : (iblk m c 3 t : FVec Ideal S512x128 .bf16) (ix2 r l)
    = m ((c : Thread nD τ).loc main_arg1) (ix2 ⟨512 * (t.val % 8) + r.val, by omega⟩ ⟨128 * (t.val / 8) + l.val, by have := tlt t; omega⟩) := by
  unfold iblk; rw [View.read]; exact (congrFun (V_main_arg1 m c) _).trans (by blk_ext [idx t])

theorem low_at (t : Fin cfg0.N) (W : FVec Ideal S4x4096x128 .f32) (r : Fin 512) (b : Fin 128) :
    (((cfg0.win 4).blk t).view.read (Elt Ideal) W : FVec Ideal S1x512x128 .f32) (ix3 0 r b)
      = W (ix3 ⟨t.val / 8, by have := tlt t; omega⟩ ⟨512 * (t.val % 8) + r.val, by omega⟩ b) := by
  blk_simp []; blk_ext [idx t]

theorem high_at (t : Fin cfg0.N) (W : FVec Ideal S4x4096x128 .f32) (r : Fin 512) (b : Fin 128) :
    (((cfg0.win 5).blk t).view.read (Elt Ideal) W : FVec Ideal S1x512x128 .f32) (ix3 0 r b)
      = W (ix3 ⟨t.val / 8, by have := tlt t; omega⟩ ⟨512 * (t.val % 8) + r.val, by omega⟩ b) := by
  blk_simp []; blk_ext [idx t]

/-- The finite arguments, as numbers: the columns of p the call reads, and the cotangent. -/
structure Args (c : Dev nD) (p o : ℕ → ℕ → ℝ) : Prop where
  hp : ∀ (y : Fin 4096) (x : Fin 7168), x.val < 1536 → (m ((c : Thread nD τ).loc main_arg0) : FVec Ideal S4096x7168 .f32) (ix2 y x) = ((p y.val x.val : ℝ) : EReal)
  ho : ∀ (y : Fin 4096) (x : Fin 512), (m ((c : Thread nD τ).loc main_arg1) : FVec Ideal S4096x512 .bf16) (ix2 y x) = ((o y.val x.val : ℝ) : EReal)

variable {m} {c : Dev nD} {p o : ℕ → ℕ → ℝ} (A : Args m c p o)
include A

theorem table_low (t : Fin cfg0.N) (r : Fin 512) (b : Fin 128) : (iblk m c 4 t : FVec Ideal S1x512x128 .f32) (ix3 0 r b)
    = ((later (lo p o (t.val / 8)) (512 * (t.val % 8) + r.val) b : ℝ) : EReal) := by
  have ht := tlt t
  rw [later, Head_rest, lo_Z]
  exact (low_at t (V m c main_v35) r b).trans (SbTables.even (fun b => m (c, b)) p A.hp ⟨t.val / 8, by omega⟩ ⟨512 * (t.val % 8) + r.val, by omega⟩ b)

theorem table_high (t : Fin cfg0.N) (r : Fin 512) (b : Fin 128) : (iblk m c 5 t : FVec Ideal S1x512x128 .f32) (ix3 0 r b)
    = ((later (hi p o (t.val / 8)) (512 * (t.val % 8) + r.val) b : ℝ) : EReal) := by
  have ht := tlt t
  rw [later, Head_rest, hi_Z]
  exact (high_at t (V m c main_v37) r b).trans (SbTables.odd (fun b => m (c, b)) p A.hp ⟨t.val / 8, by omega⟩ ⟨512 * (t.val % 8) + r.val, by omega⟩ b)

theorem query (t : Fin cfg0.N) (r : Fin 512) (l : Fin 128) : (iblk m c 0 t : FVec Ideal S512x128 .f32) (ix2 r l)
    = ((cols p 0 (t.val / 8) (512 * (t.val % 8) + r.val) l : ℝ) : EReal) := by
  have ht := tlt t
  refine (block_q m c t r l).trans ((A.hp ⟨512 * (t.val % 8) + r.val, by omega⟩ ⟨128 * (t.val / 8) + l.val, by omega⟩ (show 128 * (t.val / 8) + l.val < 1536 by omega)).trans ?_)
  rw [cols, zero_add]

theorem key (t : Fin cfg0.N) (r : Fin 4096) (l : Fin 128) : (iblk m c 1 t : FVec Ideal S4096x128 .f32) (ix2 r l)
    = ((cols p 512 (t.val / 8) (r.val) l : ℝ) : EReal) := by
  have ht := tlt t
  refine (block_k m c t r l).trans ((A.hp r ⟨512 + (128 * (t.val / 8) + l.val), by omega⟩ (show 512 + (128 * (t.val / 8) + l.val) < 1536 by omega)).trans ?_)
  rfl

theorem value (t : Fin cfg0.N) (r : Fin 4096) (l : Fin 128) : (iblk m c 2 t : FVec Ideal S4096x128 .f32) (ix2 r l)
    = ((cols p 1024 (t.val / 8) (r.val) l : ℝ) : EReal) := by
  have ht := tlt t
  refine (block_v m c t r l).trans ((A.hp r ⟨1024 + (128 * (t.val / 8) + l.val), by omega⟩ (show 1024 + (128 * (t.val / 8) + l.val) < 1536 by omega)).trans ?_)
  rfl

theorem cotangent (t : Fin cfg0.N) (r : Fin 512) (l : Fin 128) : (iblk m c 3 t : FVec Ideal S512x128 .bf16) (ix2 r l)
    = ((cols o 0 (t.val / 8) (512 * (t.val % 8) + r.val) l : ℝ) : EReal) := by
  have ht := tlt t
  refine (block_o m c t r l).trans ((A.ho ⟨512 * (t.val % 8) + r.val, by omega⟩ ⟨128 * (t.val / 8) + l.val, by omega⟩).trans ?_)
  rw [cols, zero_add]

omit A in
/-- A point's blocks under what they hold. -/
theorem holds_of {q o' k v : ℕ → Fin 128 → ℝ} {i : grid0.Coords} {n : ℕ} (hn : (i 1).val = n)
    {x0 : FVec Ideal S512x128 .f32} {x1 x2 : FVec Ideal S4096x128 .f32} {x3 : FVec Ideal S512x128 .bf16} {x4 x5 : FVec Ideal S1x512x128 .f32}
    (h0 : ∀ r l, x0 (ix2 r l) = ((q (512 * n + r.val) l : ℝ) : EReal))
    (h1 : ∀ (y : Fin 4096) l, x1 (ix2 y l) = ((k y.val l : ℝ) : EReal))
    (h2 : ∀ (y : Fin 4096) l, x2 (ix2 y l) = ((v y.val l : ℝ) : EReal))
    (h3 : ∀ r l, x3 (ix2 r l) = ((o' (512 * n + r.val) l : ℝ) : EReal))
    (h4 : ∀ r b, x4 (ix3 0 r b) = ((later (low q o' k v) (512 * n + r.val) b : ℝ) : EReal))
    (h5 : ∀ r b, x5 (ix3 0 r b) = ((later (high q o' k v) (512 * n + r.val) b : ℝ) : EReal)) :
    Holds q o' k v i ⟨x0, x1, x2, x3, x4, x5⟩ := by
  subst hn
  exact ⟨h0, h1, h2, h3, h4, h5⟩

theorem holds (t : Fin cfg0.N) : Holds (cols p 0 (t.val / 8)) (cols o 0 (t.val / 8)) (cols p 512 (t.val / 8)) (cols p 1024 (t.val / 8))
    (grid0.coords t) ⟨iblk m c 0 t, iblk m c 1 t, iblk m c 2 t, iblk m c 3 t, iblk m c 4 t, iblk m c 5 t⟩ :=
  holds_of (crd t).2 (query A t) (key A t) (value A t) (cotangent A t) (table_low A t) (table_high A t)

end Cert.SbBlocks
-- ==== Proof.SbSpread.lean ====
module
public import proofs.«01_k».proof.Proof.SbOuts
public import proofs.«01_k».proof.Proof.SbData
public import proofs.«01_k».proof.Proof.Gen.Kernel2Ideal.Value
@[expose] public section
set_option maxRecDepth 16384
noncomputable section
open Cert.Kernel2Ideal Cert.Kernel2Ideal.Gen Cert.SbStep Cert.SbReal Cert.SbTrip Cert.SbLoop Cert.SbPoint Cert.SbGrid Cert.SbData Cert.SbOuts
open Idealize.ShloMosaic Idealize.ShloMosaic.TcCoe Idealize.ShloMosaic.Pipeline Idealize.SL.Sem
namespace Cert.SbSpread

/-! The same with a point's memories and blocks named one by one. -/

variable {q o k v : ℕ → Fin 128 → ℝ} {i : grid0.Coords} {c : Dev nD}
  {a2 : Memref sig .tc .vmem S512x128 .f32} {h2 : a2.IsWhole}
  {a3 : Memref sig .tc .vmem S4096x128 .f32} {h3 : a3.IsWhole}
  {a4 : Memref sig .tc .vmem S4096x128 .f32} {h4 : a4.IsWhole}
  {a5 : Memref sig .tc .vmem S512x128 .bf16} {h5 : a5.IsWhole}
  {a6 : Memref sig .tc .vmem S1x512x128 .f32} {h6 : a6.IsWhole}
  {a7 : Memref sig .tc .vmem S1x512x128 .f32} {h7 : a7.IsWhole}
  {a8 : Memref sig .tc .vmem S512x128 .bf16} {h8 : a8.IsWhole}
  {a9 : Memref sig .tc .vmem S4096x128 .bf16} {h9 : a9.IsWhole}
  {a10 : Memref sig .tc .vmem S4096x128 .bf16} {h10 : a10.IsWhole}
  {a11 : Memref sig .tc .vmem S4096x128 .f32} {h11 : a11.IsWhole}
  {a12 : Memref sig .tc .vmem S4096x128 .f32} {h12 : a12.IsWhole}
  {x0 : FVec Ideal S512x128 .f32}
  {x1 : FVec Ideal S4096x128 .f32}
  {x2 : FVec Ideal S4096x128 .f32}
  {x3 : FVec Ideal S512x128 .bf16}
  {x4 : FVec Ideal S1x512x128 .f32}
  {x5 : FVec Ideal S1x512x128 .f32}
  {xs0 xs1 : FVec Ideal S4096x128 .f32}

theorem dq_A (H : Holds q o k v i ⟨x0, x1, x2, x3, x4, x5⟩) {hc0 hc1} (r l) :
    out0_A_6 (F := Ideal) c i a2 h2 a3 h3 a4 h4 a5 h5 a6 h6 a7 h7 a8 h8 a9 h9 a10 h10 a11 h11 a12 h12 hc0 hc1 x0 x1 x2 x3 x4 x5 (ix2 r l) = ((gradQ q o k v (512 * (i 1).val + r.val) l : ℝ) : EReal) :=
  at_dq_A (M := ⟨a2, h2, a3, h3, a4, h4, a5, h5, a6, h6, a7, h7, a8, h8, a9, h9, a10, h10, a11, h11, a12, h12⟩) H hc0 hc1 r l

theorem dk_A (H : Holds q o k v i ⟨x0, x1, x2, x3, x4, x5⟩) {hc0 hc1} (y : Fin 4096) (l) :
    sout0_A_0 (F := Ideal) c i a2 h2 a3 h3 a4 h4 a5 h5 a6 h6 a7 h7 a8 h8 a9 h9 a10 h10 a11 h11 a12 h12 hc0 hc1 x0 x1 x2 x3 x4 x5 (ix2 y l) = ((addK q o k v (512 * (i 1).val) y.val l : ℝ) : EReal) :=
  at_dk_A (M := ⟨a2, h2, a3, h3, a4, h4, a5, h5, a6, h6, a7, h7, a8, h8, a9, h9, a10, h10, a11, h11, a12, h12⟩) H hc0 hc1 y l

theorem dv_A (H : Holds q o k v i ⟨x0, x1, x2, x3, x4, x5⟩) {hc0 hc1} (y : Fin 4096) (l) :
    sout0_A_1 (F := Ideal) c i a2 h2 a3 h3 a4 h4 a5 h5 a6 h6 a7 h7 a8 h8 a9 h9 a10 h10 a11 h11 a12 h12 hc0 hc1 x0 x1 x2 x3 x4 x5 (ix2 y l) = ((addV q o k v (512 * (i 1).val) y.val l : ℝ) : EReal) :=
  at_dv_A (M := ⟨a2, h2, a3, h3, a4, h4, a5, h5, a6, h6, a7, h7, a8, h8, a9, h9, a10, h10, a11, h11, a12, h12⟩) H hc0 hc1 y l

theorem dq_B (H : Holds q o k v i ⟨x0, x1, x2, x3, x4, x5⟩) {hc0 hc1} (r l) :
    out0_B_6 (F := Ideal) c i a2 h2 a3 h3 a4 h4 a5 h5 a6 h6 a7 h7 a8 h8 a9 h9 a10 h10 a11 h11 a12 h12 hc0 hc1 x0 x1 x2 x3 x4 x5 xs0 xs1 (ix2 r l) = ((gradQ q o k v (512 * (i 1).val + r.val) l : ℝ) : EReal) :=
  at_dq_B (M := ⟨a2, h2, a3, h3, a4, h4, a5, h5, a6, h6, a7, h7, a8, h8, a9, h9, a10, h10, a11, h11, a12, h12⟩) H xs0 xs1 hc0 hc1 r l

theorem dk_B (H : Holds q o k v i ⟨x0, x1, x2, x3, x4, x5⟩) {hc0 hc1} (y : Fin 4096) (l) :
    sout0_B_0 (F := Ideal) c i a2 h2 a3 h3 a4 h4 a5 h5 a6 h6 a7 h7 a8 h8 a9 h9 a10 h10 a11 h11 a12 h12 hc0 hc1 x0 x1 x2 x3 x4 x5 xs0 xs1 (ix2 y l) = xs0 (ix2 y l) + ((addK q o k v (512 * (i 1).val) y.val l : ℝ) : EReal) :=
  at_dk_B (M := ⟨a2, h2, a3, h3, a4, h4, a5, h5, a6, h6, a7, h7, a8, h8, a9, h9, a10, h10, a11, h11, a12, h12⟩) H xs0 xs1 hc0 hc1 y l

theorem dv_B (H : Holds q o k v i ⟨x0, x1, x2, x3, x4, x5⟩) {hc0 hc1} (y : Fin 4096) (l) :
    sout0_B_1 (F := Ideal) c i a2 h2 a3 h3 a4 h4 a5 h5 a6 h6 a7 h7 a8 h8 a9 h9 a10 h10 a11 h11 a12 h12 hc0 hc1 x0 x1 x2 x3 x4 x5 xs0 xs1 (ix2 y l) = xs1 (ix2 y l) + ((addV q o k v (512 * (i 1).val) y.val l : ℝ) : EReal) :=
  at_dv_B (M := ⟨a2, h2, a3, h3, a4, h4, a5, h5, a6, h6, a7, h7, a8, h8, a9, h9, a10, h10, a11, h11, a12, h12⟩) H xs0 xs1 hc0 hc1 y l

theorem dq_C (H : Holds q o k v i ⟨x0, x1, x2, x3, x4, x5⟩) {hc0 hc1} (r l) :
    out0_C_6 (F := Ideal) c i a2 h2 a3 h3 a4 h4 a5 h5 a6 h6 a7 h7 a8 h8 a9 h9 a10 h10 a11 h11 a12 h12 hc0 hc1 x0 x1 x2 x3 x4 x5 xs0 xs1 (ix2 r l) = ((gradQ q o k v (512 * (i 1).val + r.val) l : ℝ) : EReal) :=
  at_dq_C (M := ⟨a2, h2, a3, h3, a4, h4, a5, h5, a6, h6, a7, h7, a8, h8, a9, h9, a10, h10, a11, h11, a12, h12⟩) H xs0 xs1 hc0 hc1 r l

theorem dk_C (H : Holds q o k v i ⟨x0, x1, x2, x3, x4, x5⟩) {hc0 hc1} (y : Fin 4096) (l) :
    sout0_C_0 (F := Ideal) c i a2 h2 a3 h3 a4 h4 a5 h5 a6 h6 a7 h7 a8 h8 a9 h9 a10 h10 a11 h11 a12 h12 hc0 hc1 x0 x1 x2 x3 x4 x5 xs0 xs1 (ix2 y l) = xs0 (ix2 y l) + ((addK q o k v (512 * (i 1).val) y.val l : ℝ) : EReal) :=
  at_dk_C (M := ⟨a2, h2, a3, h3, a4, h4, a5, h5, a6, h6, a7, h7, a8, h8, a9, h9, a10, h10, a11, h11, a12, h12⟩) H xs0 xs1 hc0 hc1 y l

theorem dkOut_C {hc0 hc1} : out0_C_7 (F := Ideal) c i a2 h2 a3 h3 a4 h4 a5 h5 a6 h6 a7 h7 a8 h8 a9 h9 a10 h10 a11 h11 a12 h12 hc0 hc1 x0 x1 x2 x3 x4 x5 xs0 xs1 = (sout0_C_0 (F := Ideal) c i a2 h2 a3 h3 a4 h4 a5 h5 a6 h6 a7 h7 a8 h8 a9 h9 a10 h10 a11 h11 a12 h12 hc0 hc1 x0 x1 x2 x3 x4 x5 xs0 xs1 : FVec Ideal S4096x128 .f32) :=
  at_dkOut_C (M := ⟨a2, h2, a3, h3, a4, h4, a5, h5, a6, h6, a7, h7, a8, h8, a9, h9, a10, h10, a11, h11, a12, h12⟩) (X := ⟨x0, x1, x2, x3, x4, x5⟩) xs0 xs1 hc0 hc1

theorem dv_C (H : Holds q o k v i ⟨x0, x1, x2, x3, x4, x5⟩) {hc0 hc1} (y : Fin 4096) (l) :
    sout0_C_1 (F := Ideal) c i a2 h2 a3 h3 a4 h4 a5 h5 a6 h6 a7 h7 a8 h8 a9 h9 a10 h10 a11 h11 a12 h12 hc0 hc1 x0 x1 x2 x3 x4 x5 xs0 xs1 (ix2 y l) = xs1 (ix2 y l) + ((addV q o k v (512 * (i 1).val) y.val l : ℝ) : EReal) :=
  at_dv_C (M := ⟨a2, h2, a3, h3, a4, h4, a5, h5, a6, h6, a7, h7, a8, h8, a9, h9, a10, h10, a11, h11, a12, h12⟩) H xs0 xs1 hc0 hc1 y l

theorem dvOut_C {hc0 hc1} : out0_C_8 (F := Ideal) c i a2 h2 a3 h3 a4 h4 a5 h5 a6 h6 a7 h7 a8 h8 a9 h9 a10 h10 a11 h11 a12 h12 hc0 hc1 x0 x1 x2 x3 x4 x5 xs0 xs1 = (sout0_C_1 (F := Ideal) c i a2 h2 a3 h3 a4 h4 a5 h5 a6 h6 a7 h7 a8 h8 a9 h9 a10 h10 a11 h11 a12 h12 hc0 hc1 x0 x1 x2 x3 x4 x5 xs0 xs1 : FVec Ideal S4096x128 .f32) :=
  at_dvOut_C (M := ⟨a2, h2, a3, h3, a4, h4, a5, h5, a6, h6, a7, h7, a8, h8, a9, h9, a10, h10, a11, h11, a12, h12⟩) (X := ⟨x0, x1, x2, x3, x4, x5⟩) xs0 xs1 hc0 hc1
end Cert.SbSpread
-- ==== Proof.SbGrad.lean ====
module
public import proofs.«01_k».proof.Proof.SbBlocks
public import proofs.«01_k».proof.Proof.SbSpread
@[expose] public section
set_option maxRecDepth 16384
noncomputable section
open Cert.Kernel2Ideal Cert.Kernel2Ideal.Gen Cert.SbReal Cert.SbPoint Cert.SbGrid Cert.SbData Cert.SbHeads Cert.SbBlocks
open Idealize.ShloMosaic Idealize.ShloMosaic.TcCoe Idealize.ShloMosaic.Pipeline Idealize.SL.Sem
/-! What the grid leaves in the three results. -/
namespace Cert.SbGrad

theorem fst_of {α β : Type} {z : α × β} {a : α} {b : β} (e : z = (a, b)) : z.1 = a := by rw [e]
theorem snd_of {α β : Type} {z : α × β} {a : α} {b : β} (e : z = (a, b)) : z.2 = b := by rw [e]

variable (p o : ℕ → ℕ → ℝ)
/-- The gradients of a pair's queries; one block's additions to the gradients of its keys and values. -/
def pairQ (n y : ℕ) (l : Fin 128) : ℝ := gradQ (cols p 0 n) (cols o 0 n) (cols p 512 n) (cols p 1024 n) y l
def pairK (n ρ y : ℕ) (l : Fin 128) : ℝ := addK (cols p 0 n) (cols o 0 n) (cols p 512 n) (cols p 1024 n) ρ y l
def pairV (n ρ y : ℕ) (l : Fin 128) : ℝ := addV (cols p 0 n) (cols o 0 n) (cols p 512 n) (cols p 1024 n) ρ y l

variable {m : (ℓ : Loc nD τ sig) → Buf (Elt Ideal) ℓ} {c : Dev nD} {p o} (A : Args m c p o)
include A

theorem dq (t : Fin cfg0.N) (r : Fin 512) (l : Fin 128) :
    ((outsAt0 m c t.val t.isLt).1 : FVec Ideal S512x128 .bf16) (ix2 r l) = ((pairQ p o (t.val / 8) (512 * (t.val % 8) + r.val) l : ℝ) : EReal) := by
  rw [← (crd t).2, pairQ]
  by_cases h0 : t.val % 8 = 0
  · exact (congrFun (fst_of (outsAt0_A m c t h0 (by omega))) (ix2 r l)).trans
      (SbSpread.dq_A (holds A t) r l)
  · by_cases h1 : t.val % 8 = 7
    · exact (congrFun (fst_of (outsAt0_C m c t h0 h1)) (ix2 r l)).trans
        (SbSpread.dq_C (holds A t) r l)
    · exact (congrFun (fst_of (outsAt0_B m c t h0 h1)) (ix2 r l)).trans
        (SbSpread.dq_B (holds A t) r l)

theorem dk_first (t : Fin cfg0.N) (h0 : t.val % 8 = 0) (y : Fin 4096) (l : Fin 128) :
    ((outsAt0 m c t.val t.isLt).2.2.2.1 : FVec Ideal S4096x128 .f32) (ix2 y l) = ((pairK p o (t.val / 8) (512 * (t.val % 8)) y.val l : ℝ) : EReal) := by
  rw [← (crd t).2, pairK]
  exact (congrFun (fst_of (snd_of (snd_of (snd_of (outsAt0_A m c t h0 (by omega)))))) (ix2 y l)).trans (SbSpread.dk_A (holds A t) y l)

theorem dk_next (t : Fin cfg0.N) (h0 : ¬t.val % 8 = 0) (y : Fin 4096) (l : Fin 128) :
    ((outsAt0 m c t.val t.isLt).2.2.2.1 : FVec Ideal S4096x128 .f32) (ix2 y l)
      = ((outsAt0 m c (t.val - 1) (Nat.lt_of_le_of_lt (Nat.sub_le _ _) t.isLt)).2.2.2.1 : FVec Ideal S4096x128 .f32) (ix2 y l)
        + ((pairK p o (t.val / 8) (512 * (t.val % 8)) y.val l : ℝ) : EReal) := by
  rw [← (crd t).2, pairK]
  by_cases h1 : t.val % 8 = 7
  · exact (congrFun (fst_of (snd_of (snd_of (snd_of (outsAt0_C m c t h0 h1))))) (ix2 y l)).trans (SbSpread.dk_C (holds A t) y l)
  · exact (congrFun (fst_of (snd_of (snd_of (snd_of (outsAt0_B m c t h0 h1))))) (ix2 y l)).trans (SbSpread.dk_B (holds A t) y l)

/-- The accumulator of dk after a point: the additions of the blocks of query rows so far. -/
theorem dk_sum (y : Fin 4096) (l : Fin 128) : ∀ (n : ℕ) (h : n < cfg0.N), ((outsAt0 m c n h).2.2.2.1 : FVec Ideal S4096x128 .f32) (ix2 y l)
    = ((∑ j ∈ Finset.range (n % 8 + 1), pairK p o (n / 8) (512 * j) y.val l : ℝ) : EReal) := by
  intro n
  induction n with
  | zero =>
    intro h
    refine (dk_first A ⟨0, h⟩ rfl y l).trans ?_
    rw [show 0 % 8 + 1 = 1 from rfl, Finset.sum_range_one]
    rfl
  | succ n ih =>
    intro h
    by_cases h0 : (n + 1) % 8 = 0
    · refine (dk_first A ⟨n + 1, h⟩ h0 y l).trans ?_
      dsimp only
      rw [h0, Nat.zero_add, Finset.sum_range_one]
    · refine (dk_next A ⟨n + 1, h⟩ h0 y l).trans ?_
      refine (congrArg (· + _) (ih (Nat.lt_of_succ_lt h))).trans ?_
      dsimp only
      rw [← EReal.coe_add, show n / 8 = (n + 1) / 8 by omega, show n % 8 + 1 = (n + 1) % 8 by omega, ← Finset.sum_range_succ]

theorem dk_out (t : Fin cfg0.N) (h1 : t.val % 8 = 7) (y : Fin 4096) (l : Fin 128) :
    ((outsAt0 m c t.val t.isLt).2.1 : FVec Ideal S4096x128 .bf16) (ix2 y l)
      = ((∑ j ∈ Finset.range 8, pairK p o (t.val / 8) (512 * j) y.val l : ℝ) : EReal) := by
  have h0 : ¬t.val % 8 = 0 := by omega
  refine (congrFun (fst_of (snd_of (outsAt0_C m c t h0 h1))) (ix2 y l)).trans ?_
  refine (congrFun (SbSpread.dkOut_C) _).trans ?_
  refine (congrFun (fst_of (snd_of (snd_of (snd_of (outsAt0_C m c t h0 h1))))) (ix2 y l)).symm.trans ?_
  rw [dk_sum A y l t.val t.isLt, h1]

theorem dv_first (t : Fin cfg0.N) (h0 : t.val % 8 = 0) (y : Fin 4096) (l : Fin 128) :
    ((outsAt0 m c t.val t.isLt).2.2.2.2 : FVec Ideal S4096x128 .f32) (ix2 y l) = ((pairV p o (t.val / 8) (512 * (t.val % 8)) y.val l : ℝ) : EReal) := by
  rw [← (crd t).2, pairV]
  exact (congrFun (snd_of (snd_of (snd_of (snd_of (outsAt0_A m c t h0 (by omega)))))) (ix2 y l)).trans (SbSpread.dv_A (holds A t) y l)

theorem dv_next (t : Fin cfg0.N) (h0 : ¬t.val % 8 = 0) (y : Fin 4096) (l : Fin 128) :
    ((outsAt0 m c t.val t.isLt).2.2.2.2 : FVec Ideal S4096x128 .f32) (ix2 y l)
      = ((outsAt0 m c (t.val - 1) (Nat.lt_of_le_of_lt (Nat.sub_le _ _) t.isLt)).2.2.2.2 : FVec Ideal S4096x128 .f32) (ix2 y l)
        + ((pairV p o (t.val / 8) (512 * (t.val % 8)) y.val l : ℝ) : EReal) := by
  rw [← (crd t).2, pairV]
  by_cases h1 : t.val % 8 = 7
  · exact (congrFun (snd_of (snd_of (snd_of (snd_of (outsAt0_C m c t h0 h1))))) (ix2 y l)).trans (SbSpread.dv_C (holds A t) y l)
  · exact (congrFun (snd_of (snd_of (snd_of (snd_of (outsAt0_B m c t h0 h1))))) (ix2 y l)).trans (SbSpread.dv_B (holds A t) y l)

/-- The accumulator of dv after a point: the additions of the blocks of query rows so far. -/
theorem dv_sum (y : Fin 4096) (l : Fin 128) : ∀ (n : ℕ) (h : n < cfg0.N), ((outsAt0 m c n h).2.2.2.2 : FVec Ideal S4096x128 .f32) (ix2 y l)
    = ((∑ j ∈ Finset.range (n % 8 + 1), pairV p o (n / 8) (512 * j) y.val l : ℝ) : EReal) := by
  intro n
  induction n with
  | zero =>
    intro h
    refine (dv_first A ⟨0, h⟩ rfl y l).trans ?_
    rw [show 0 % 8 + 1 = 1 from rfl, Finset.sum_range_one]
    rfl
  | succ n ih =>
    intro h
    by_cases h0 : (n + 1) % 8 = 0
    · refine (dv_first A ⟨n + 1, h⟩ h0 y l).trans ?_
      dsimp only
      rw [h0, Nat.zero_add, Finset.sum_range_one]
    · refine (dv_next A ⟨n + 1, h⟩ h0 y l).trans ?_
      refine (congrArg (· + _) (ih (Nat.lt_of_succ_lt h))).trans ?_
      dsimp only
      rw [← EReal.coe_add, show n / 8 = (n + 1) / 8 by omega, show n % 8 + 1 = (n + 1) % 8 by omega, ← Finset.sum_range_succ]

theorem dv_out (t : Fin cfg0.N) (h1 : t.val % 8 = 7) (y : Fin 4096) (l : Fin 128) :
    ((outsAt0 m c t.val t.isLt).2.2.1 : FVec Ideal S4096x128 .bf16) (ix2 y l)
      = ((∑ j ∈ Finset.range 8, pairV p o (t.val / 8) (512 * j) y.val l : ℝ) : EReal) := by
  have h0 : ¬t.val % 8 = 0 := by omega
  refine (congrFun (fst_of (snd_of (snd_of (outsAt0_C m c t h0 h1)))) (ix2 y l)).trans ?_
  refine (congrFun (SbSpread.dvOut_C) _).trans ?_
  refine (congrFun (snd_of (snd_of (snd_of (snd_of (outsAt0_C m c t h0 h1))))) (ix2 y l)).symm.trans ?_
  rw [dv_sum A y l t.val t.isLt, h1]

theorem final_dq (y : Fin 4096) (x : Fin 512) : ((dats m 0 c).arrAt 6 cfg0.N : FVec Ideal S4096x512 .bf16) (ix2 y x)
    = ((pairQ p o (x.val / 128) y.val ⟨x.val % 128, by omega⟩ : ℝ) : EReal) := by
  have e : ((dats m 0 c).arrAt 6 cfg0.N : FVec Ideal S4096x512 .bf16) = fun i =>
      ((pairQ p o ((i 1).val / 128) (i 0).val ⟨(i 1).val % 128, by omega⟩ : ℝ) : EReal) := by
    refine (dats m 0 c).arrAt_eq_of_covers 6 _ (by decide +kernel) fun t hf i => ?_
    blk_simp
    rw [after0_6]
    have ht := tlt t
    obtain ⟨r, l, rfl⟩ : ∃ (r : Fin 512) (l : Fin 128), i = ix2 r l := ⟨i 0, i 1, by funext a; fin_cases a <;> rfl⟩
    refine (dq A t r l).trans ?_
    have hx := (idx t).2.2.2.2.2.2.1
    have e0 : win0_6.index t 0 = t.val % 8 := congrFun hx 0
    have e1 : win0_6.index t 1 = t.val / 8 := congrFun hx 1
    have hl := l.isLt
    have g0 : win0_6.index t 0 * 512 + r.val = 512 * (t.val % 8) + r.val := by rw [e0]; omega
    have g1 : (win0_6.index t 1 * 128 + l.val) / 128 = t.val / 8 := by rw [e1]; omega
    have g2 : (⟨(win0_6.index t 1 * 128 + l.val) % 128, Nat.mod_lt _ (by omega)⟩ : Fin 128) = l := Fin.ext (by show (win0_6.index t 1 * 128 + l.val) % 128 = l.val; rw [e1]; omega)
    refine congrArg (fun z : ℝ => (z : EReal)) ?_
    show _ = pairQ p o ((win0_6.index t 1 * 128 + l.val) / 128) (win0_6.index t 0 * 512 + r.val) ⟨(win0_6.index t 1 * 128 + l.val) % 128, _⟩
    rw [g0, g1, g2]
  exact congrFun e _

theorem final_dk (y : Fin 4096) (x : Fin 512) : ((dats m 0 c).arrAt 7 cfg0.N : FVec Ideal S4096x512 .bf16) (ix2 y x)
    = ((∑ j ∈ Finset.range 8, pairK p o (x.val / 128) (512 * j) y.val ⟨x.val % 128, by omega⟩ : ℝ) : EReal) := by
  have e : ((dats m 0 c).arrAt 7 cfg0.N : FVec Ideal S4096x512 .bf16) = fun i =>
      ((∑ j ∈ Finset.range 8, pairK p o ((i 1).val / 128) (512 * j) (i 0).val ⟨(i 1).val % 128, by omega⟩ : ℝ) : EReal) := by
    refine (dats m 0 c).arrAt_eq_of_covers 7 _ (by decide +kernel) fun t hf i => ?_
    blk_simp
    rw [after0_7]
    have ht := tlt t
    obtain ⟨r, l, rfl⟩ : ∃ (r : Fin 4096) (l : Fin 128), i = ix2 r l := ⟨i 0, i 1, by funext a; fin_cases a <;> rfl⟩
    refine (dk_out A t ((flush0_7 t).mp hf) r l).trans ?_
    have hx := (idx t).2.2.2.2.2.2.2.1
    have e0 : win0_7.index t 0 = 0 := congrFun hx 0
    have e1 : win0_7.index t 1 = t.val / 8 := congrFun hx 1
    have hl := l.isLt
    have g0 : win0_7.index t 0 * 4096 + r.val = r.val := by rw [e0]; omega
    have g1 : (win0_7.index t 1 * 128 + l.val) / 128 = t.val / 8 := by rw [e1]; omega
    have g2 : (⟨(win0_7.index t 1 * 128 + l.val) % 128, Nat.mod_lt _ (by omega)⟩ : Fin 128) = l := Fin.ext (by show (win0_7.index t 1 * 128 + l.val) % 128 = l.val; rw [e1]; omega)
    refine congrArg (fun z : ℝ => (z : EReal)) ?_
    show _ = ∑ j ∈ Finset.range 8, pairK p o ((win0_7.index t 1 * 128 + l.val) / 128) (512 * j) (win0_7.index t 0 * 4096 + r.val) ⟨(win0_7.index t 1 * 128 + l.val) % 128, _⟩
    rw [g0, g1, g2]
  exact congrFun e _

theorem final_dv (y : Fin 4096) (x : Fin 512) : ((dats m 0 c).arrAt 8 cfg0.N : FVec Ideal S4096x512 .bf16) (ix2 y x)
    = ((∑ j ∈ Finset.range 8, pairV p o (x.val / 128) (512 * j) y.val ⟨x.val % 128, by omega⟩ : ℝ) : EReal) := by
  have e : ((dats m 0 c).arrAt 8 cfg0.N : FVec Ideal S4096x512 .bf16) = fun i =>
      ((∑ j ∈ Finset.range 8, pairV p o ((i 1).val / 128) (512 * j) (i 0).val ⟨(i 1).val % 128, by omega⟩ : ℝ) : EReal) := by
    refine (dats m 0 c).arrAt_eq_of_covers 8 _ (by decide +kernel) fun t hf i => ?_
    blk_simp
    rw [after0_8]
    have ht := tlt t
    obtain ⟨r, l, rfl⟩ : ∃ (r : Fin 4096) (l : Fin 128), i = ix2 r l := ⟨i 0, i 1, by funext a; fin_cases a <;> rfl⟩
    refine (dv_out A t ((flush0_8 t).mp hf) r l).trans ?_
    have hx := (idx t).2.2.2.2.2.2.2.2
    have e0 : win0_8.index t 0 = 0 := congrFun hx 0
    have e1 : win0_8.index t 1 = t.val / 8 := congrFun hx 1
    have hl := l.isLt
    have g0 : win0_8.index t 0 * 4096 + r.val = r.val := by rw [e0]; omega
    have g1 : (win0_8.index t 1 * 128 + l.val) / 128 = t.val / 8 := by rw [e1]; omega
    have g2 : (⟨(win0_8.index t 1 * 128 + l.val) % 128, Nat.mod_lt _ (by omega)⟩ : Fin 128) = l := Fin.ext (by show (win0_8.index t 1 * 128 + l.val) % 128 = l.val; rw [e1]; omega)
    refine congrArg (fun z : ℝ => (z : EReal)) ?_
    show _ = ∑ j ∈ Finset.range 8, pairV p o ((win0_8.index t 1 * 128 + l.val) / 128) (512 * j) (win0_8.index t 0 * 4096 + r.val) ⟨(win0_8.index t 1 * 128 + l.val) % 128, _⟩
    rw [g0, g1, g2]
  exact congrFun e _

end Cert.SbGrad
-- ==== Proof.SbSig.lean ====
module
public import proofs.«01_k».proof.Proof.SbHeads
@[expose] public section
noncomputable section
open Cert.SbReal Cert.SbHeads Idealize.ShloMosaic
/-! The logistic function's logarithm on the real numbers. -/
namespace Cert.SbSig

/-- The logarithm of one plus the exponential. -/
def sp (w : ℝ) : ℝ := max w 0 + Real.log (1 + Real.exp (-|w|))

theorem sp_neg (z : ℝ) : -sp (-z) = lsp z := by
  unfold sp lsp
  rw [abs_neg]
  have : max (-z) 0 = -min z 0 := by rw [← neg_zero, max_neg_neg, neg_zero]
  rw [this]; ring

theorem sp_pos (z : ℝ) : -sp z = lsp z - z := by
  unfold sp lsp
  have : max z 0 = z - min z 0 := by
    rcases le_total z 0 with h | h
    · rw [max_eq_right h, min_eq_left h, sub_self]
    · rw [max_eq_left h, min_eq_right h, sub_zero]
  rw [this]; ring

theorem exp_add (z : ℝ) : Real.exp (lsp z) + Real.exp (lsp z - z) = 1 := by
  have hp : (0 : ℝ) < 1 + Real.exp (-|z|) := by positivity
  rcases le_total z 0 with h | h
  · have e : Real.exp (lsp z) = Real.exp z / (1 + Real.exp z) := by
      unfold lsp; rw [abs_of_nonpos h, neg_neg, min_eq_left h, Real.exp_sub, Real.exp_log (by positivity)]
    have e' : Real.exp (lsp z - z) = 1 / (1 + Real.exp z) := by
      rw [Real.exp_sub, e]; have := Real.exp_pos z; field_simp
    rw [e, e']; have := Real.exp_pos z; field_simp; ring
  · have e : Real.exp (lsp z) = 1 / (1 + Real.exp (-z)) := by
      unfold lsp; rw [abs_of_nonneg h, min_eq_right h, Real.exp_sub, Real.exp_log (by positivity), Real.exp_zero]
    have e' : Real.exp (lsp z - z) = Real.exp (-z) / (1 + Real.exp (-z)) := by
      rw [sub_eq_add_neg, Real.exp_add, e]; ring
    rw [e, e']; have := Real.exp_pos (-z); field_simp

/-- The gradient of the scores from its three parts. -/
theorem dz_of (z g : ℕ → ℕ → ℝ) (q k : ℕ) :
    -(-(grd z g q k) * Real.exp (lsp (z q k) - z q k))
      + -(-(-(if k < q then -(grd z g q k) + ∑ j ∈ Finset.range (k + 1), grd z g q j else 0) * Real.exp (lsp (z q k)))) = dz z g q k := by
  unfold dz gat
  rw [Finset.sum_range_succ]
  by_cases h : k < q
  · rw [if_pos h, if_pos h, eq_sub_of_add_eq' (exp_add (z q k))]; ring
  · rw [if_neg h, if_neg h, show grd z g q k = 0 by unfold grd att; rw [if_neg h, zero_mul]]; ring
/-- The host's softplus of a real number. -/
abbrev soft (w : EReal) : EReal :=
  (Scalar.select
        (FloatOps.cmpf (F := Ideal) (φ := .f32) CmpFPredicate.une
          (FloatOps.subf (F := Ideal) (φ := .f32) w (FloatOps.ofBits (F := Ideal) FTy.f32 0#32))
          (FloatOps.subf (F := Ideal) (φ := .f32) w (FloatOps.ofBits (F := Ideal) FTy.f32 0#32)))
        (FloatOps.addf (F := Ideal) (φ := .f32) w (FloatOps.ofBits (F := Ideal) FTy.f32 0#32))
        (FloatOps.addf (F := Ideal) (φ := .f32) (FloatOps.maximumf (F := Ideal) (φ := .f32) w (FloatOps.ofBits (F := Ideal) FTy.f32 0#32))
          (FloatOps.hostUnary (F := Ideal) (φ := .f32) HostUnaryOp.log1p
            (FloatOps.hostUnary (F := Ideal) (φ := .f32) HostUnaryOp.exp
              (FloatOps.hostNegf (F := Ideal) (φ := .f32)
                (FloatOps.hostAbsf (F := Ideal) (φ := .f32)
                  (FloatOps.subf (F := Ideal) (φ := .f32) w (FloatOps.ofBits (F := Ideal) FTy.f32 0#32))))))))

theorem soft_coe (w : ℝ) : soft (w : EReal) = ((sp w : ℝ) : EReal) := by
  unfold soft
  rw [show (FloatOps.ofBits (F := Ideal) FTy.f32 0#32 : EReal) = 0 from Ideal.ofBits_zero_f32]
  have hs : (FloatOps.subf (F := Ideal) (φ := .f32) (w : EReal) (0 : EReal)) = (w : EReal) := by
    show (w : EReal) - 0 = _; rw [sub_zero]
  have hc : ∀ a : EReal, FloatOps.cmpf (F := Ideal) (φ := .f32) CmpFPredicate.une a a = 0#1 := fun a => by
    show BitVec.ofBool (decide (a ≠ a)) = 0#1
    rw [decide_eq_false (by simp)]; rfl
  have ha : (FloatOps.hostAbsf (F := Ideal) (φ := .f32) (w : EReal)) = ((|w| : ℝ) : EReal) := by
    show max (w : EReal) (-(w : EReal)) = _
    rw [← EReal.coe_neg, ← EReal.coe_strictMono.monotone.map_max]; rfl
  have hn : (FloatOps.hostNegf (F := Ideal) (φ := .f32) ((|w| : ℝ) : EReal)) = ((-|w| : ℝ) : EReal) := (EReal.coe_neg _).symm
  have he : (FloatOps.hostUnary (F := Ideal) (φ := .f32) HostUnaryOp.exp ((-|w| : ℝ) : EReal)) = ((Real.exp (-|w|) : ℝ) : EReal) := rfl
  have hl : (FloatOps.hostUnary (F := Ideal) (φ := .f32) HostUnaryOp.log1p ((Real.exp (-|w|) : ℝ) : EReal)) = ((Real.log (1 + Real.exp (-|w|)) : ℝ) : EReal) := log_one_add w
  have hm : (FloatOps.maximumf (F := Ideal) (φ := .f32) (w : EReal) (0 : EReal)) = ((max w 0 : ℝ) : EReal) :=
    (EReal.coe_strictMono.monotone.map_max (a := w) (b := 0)).symm
  rw [hs, hc, ha, hn, he, hl, hm]
  exact (EReal.coe_add _ _).symm

/-- A choice by the mask. -/
theorem pick (P : Prop) [Decidable P] (a b : ℝ) (x y : EReal) (hx : x = (a : EReal)) (hy : y = (b : EReal)) :
    Scalar.select (if P then 1#1 else 0#1 : BitVec 1) x y = ((if P then a else b : ℝ) : EReal) := by
  subst hx hy
  by_cases h : P
  · rw [if_pos h, if_pos h]; rfl
  · rw [if_neg h, if_neg h]; rfl

end Cert.SbSig
end
end
-- ==== Proof.SbRef.lean ====
module
public import proofs.«01_k».proof.Proof.SbHeads
public import proofs.«01_k».proof.Proof.SbSig
public import proofs.«01_k».proof.Proof.CumSum
public import proofs.«01_k».proof.Proof.Gen.Reference2Ideal.Read
public import Idealize.ShloMosaic.Lib.WordCmp
@[expose] public section
set_option maxRecDepth 16384
noncomputable section
open Cert.Reference2Ideal Cert.Reference2Ideal.Gen Cert.Reference2Ideal.Read Cert.SbReal Cert.SbHeads Cert.SbSig Cert.Reals Cert.SbData
open Idealize.ShloMosaic Idealize.ShloMosaic.TcCoe Idealize.SL.Sem
/-! The reference read over the real numbers. -/
namespace Cert.SbRef
variable {X : (⟨S4096x7168, .f32⟩ : BufTy).Contents (Elt Ideal)} {G : (⟨S4096x512, .bf16⟩ : BufTy).Contents (Elt Ideal)}

theorem heads_q (h : Fin 8) (y : Fin 4096) (i : Fin 64) : val_main_v4 (F := Ideal) X (ix3 h y i) = X (ix2 y ⟨64 * h.val + i.val, by omega⟩) := by
  pointwise [val_main_v4, val_main_v3, val_main_v0]
  exact congrArg X ((ix2_inj ..).2 ⟨rfl, Fin.ext (by dsimp only; omega)⟩)

theorem heads_k (h : Fin 8) (y : Fin 4096) (i : Fin 64) : val_main_v6 (F := Ideal) X (ix3 h y i) = X (ix2 y ⟨512 + (64 * h.val + i.val), by omega⟩) := by
  pointwise [val_main_v6, val_main_v5, val_main_v1]
  exact congrArg X ((ix2_inj ..).2 ⟨rfl, Fin.ext (by dsimp only; omega)⟩)

theorem heads_v (h : Fin 8) (y : Fin 4096) (i : Fin 64) : val_main_v8 (F := Ideal) X (ix3 h y i) = X (ix2 y ⟨1024 + (64 * h.val + i.val), by omega⟩) := by
  pointwise [val_main_v8, val_main_v7, val_main_v2]
  exact congrArg X ((ix2_inj ..).2 ⟨rfl, Fin.ext (by dsimp only; omega)⟩)

theorem heads_o (h : Fin 8) (y : Fin 4096) (i : Fin 64) : val_main_v33 (F := Ideal) G (ix3 h y i) = G (ix2 y ⟨64 * h.val + i.val, by omega⟩) := by
  pointwise [val_main_v33, val_main_v32, val_main_v31]
  exact congrArg G ((ix2_inj ..).2 ⟨rfl, Fin.ext (by dsimp only; omega)⟩)

/-- The gradient of the logistic function's logarithm, as the host computes it, at a real number. -/
theorem sig_coe (w s : ℝ) (hi : (FloatOps.ofBits (F := Ideal) FTy.f32 0x7F800000#32 : EReal) = ⊤) :
    FloatOps.hostUnary (F := Ideal) (φ := .f32) .exp (FloatOps.subf (F := Ideal) (φ := .f32)
      (Scalar.select (FloatOps.cmpf (F := Ideal) (φ := .f32) .oeq (w : EReal) (FloatOps.ofBits (F := Ideal) FTy.f32 0x7F800000#32))
        (FloatOps.ofBits (F := Ideal) FTy.f32 0#32) (w : EReal))
      (Scalar.select (FloatOps.cmpf (F := Ideal) (φ := .f32) .oeq (s : EReal) (FloatOps.ofBits (F := Ideal) FTy.f32 0x7F800000#32))
        (FloatOps.ofBits (F := Ideal) FTy.f32 0#32) (s : EReal))) = ((Real.exp (w - s) : ℝ) : EReal) := by
  have hc : ∀ a : ℝ, FloatOps.cmpf (F := Ideal) (φ := .f32) .oeq (a : EReal) (⊤ : EReal) = 0#1 := fun a => by
    show BitVec.ofBool (decide ((a : EReal) = ⊤)) = 0#1
    rw [decide_eq_false (EReal.coe_ne_top a)]; rfl
  rw [hi, hc, hc]
  show Ideal.exp ((w : EReal) - (s : EReal)) = _
  rw [← EReal.coe_sub]; rfl

section
variable {j : S8x4096x4096.Idx} {z : ℝ} (hz : val_main_v11 (F := Ideal) X j = (z : EReal))
include hz

theorem twice : val_main_call0_v0 (F := Ideal) X j = (z : EReal) := by
  rw [val_main_call0_v0_apply, val_main_v19_apply, hz]
  exact neg_neg _
theorem once : val_main_call2_v0 (F := Ideal) X j = ((-z : ℝ) : EReal) := by
  rw [val_main_call2_v0_apply, hz]
  exact (EReal.coe_neg _).symm
theorem soft_twice : val_main_call0_v1_0 (F := Ideal) X j = ((sp z : ℝ) : EReal) := by
  refine (show _ = soft (val_main_call0_v0 (F := Ideal) X j) from rfl).trans ?_
  rw [twice hz, soft_coe]
theorem soft_once : val_main_call2_v1_0 (F := Ideal) X j = ((sp (-z) : ℝ) : EReal) := by
  refine (show _ = soft (val_main_call2_v0 (F := Ideal) X j) from rfl).trans ?_
  rw [once hz, soft_coe]
/-- The logarithm of one minus the gate, of the gate; one minus the gate, the gate. -/
theorem log_other : val_main_v20_0 (F := Ideal) X j = ((lsp z - z : ℝ) : EReal) := by
  rw [val_main_v20_0_apply, soft_twice hz]
  refine (EReal.coe_neg _).symm.trans ?_
  rw [sp_pos]
theorem log_gate : val_main_v22_0 (F := Ideal) X j = ((lsp z : ℝ) : EReal) := by
  rw [val_main_v22_0_apply, soft_once hz]
  refine (EReal.coe_neg _).symm.trans ?_
  rw [sp_neg]
theorem other : val_main_v22_1 (F := Ideal) X j = ((Real.exp (lsp z - z) : ℝ) : EReal) := by
  have e := sig_coe (-z) (sp (-z)) ofBits_inf
  rw [← once hz, ← soft_once hz] at e
  refine (show _ = _ from rfl).trans (e.trans ?_)
  rw [← sp_neg]; congr 2; ring
theorem gate : val_main_v20_1 (F := Ideal) X j = ((Real.exp (lsp z) : ℝ) : EReal) := by
  have e := sig_coe z (sp z) ofBits_inf
  rw [← twice hz, ← soft_twice hz] at e
  refine (show _ = _ from rfl).trans (e.trans ?_)
  have := sp_pos z
  congr 2; linarith
end

theorem mask_at (q k : Fin 4096) : val_main_v18 (F := Ideal) (ix2 q k) = if k.val < q.val then 1#1 else 0#1 := by
  pointwise [val_main_v18, val_main_v17, val_main_v16, val_main_v15, val_main_v14, val_main_v13, val_main_v12]
  by_cases h : k.val < q.val
  · rw [if_pos h]; word_cmp
  · rw [if_neg h]; word_cmp
theorem mask1 (h : Fin 8) (q k : Fin 4096) : val_main_v21_1 (F := Ideal) (ix3 h q k) = if k.val < q.val then 1#1 else 0#1 := by
  rw [← mask_at]; unfold val_main_v21_1; generalize val_main_v18 (F := Ideal) = a; pointwise []
theorem mask2 (h : Fin 8) (q k : Fin 4096) : val_main_v27_1 (F := Ideal) (ix3 h q k) = if k.val < q.val then 1#1 else 0#1 := mask1 h q k

theorem score_sum (h : Fin 8) (q k : Fin 4096) : val_main_v11 (F := Ideal) X (ix3 h q k)
    = (∑ x : Fin 64, val_main_v4 (F := Ideal) X (ix3 h q x) * val_main_v6 (F := Ideal) X (ix3 h k x)) * val_main_cst (F := Ideal) ix0 := by
  unfold val_main_v11 val_main_v9 val_main_v10
  generalize val_main_v4 (F := Ideal) X = a
  generalize val_main_v6 (F := Ideal) X = b
  generalize val_main_cst (F := Ideal) = b
  pointwise []
theorem prods_sum (h : Fin 8) (q k : Fin 4096) : val_main_v36 (F := Ideal) X G (ix3 h q k)
    = ∑ x : Fin 64, val_main_v33 (F := Ideal) G (ix3 h q x) * val_main_v8 (F := Ideal) X (ix3 h k x) := by
  unfold val_main_v36
  generalize val_main_v33 (F := Ideal) G = a
  generalize val_main_v8 (F := Ideal) X = b
  pointwise []
theorem dq_sum (h : Fin 8) (q : Fin 4096) (i : Fin 64) : val_main_v50 (F := Ideal) X G (ix3 h q i)
    = ∑ k : Fin 4096, val_main_v48 (F := Ideal) X G (ix3 h q k) * val_main_v6 (F := Ideal) X (ix3 h k i) := by
  unfold val_main_v50
  generalize val_main_v48 (F := Ideal) X G = a
  generalize val_main_v6 (F := Ideal) X = b
  pointwise []
theorem dk_sum (h : Fin 8) (k : Fin 4096) (i : Fin 64) : val_main_v49 (F := Ideal) X G (ix3 h k i)
    = ∑ q : Fin 4096, val_main_v48 (F := Ideal) X G (ix3 h q k) * val_main_v4 (F := Ideal) X (ix3 h q i) := by
  unfold val_main_v49
  generalize val_main_v48 (F := Ideal) X G = a
  generalize val_main_v4 (F := Ideal) X = b
  pointwise []
theorem dv_sum (h : Fin 8) (k : Fin 4096) (i : Fin 64) : val_main_v35 (F := Ideal) X G (ix3 h k i)
    = ∑ q : Fin 4096, val_main_v33 (F := Ideal) G (ix3 h q i) * val_main_v27_0 (F := Ideal) X (ix3 h q k) := by
  unfold val_main_v35 val_main_v34
  generalize val_main_v33 (F := Ideal) G = a
  generalize val_main_v27_0 (F := Ideal) X = b
  pointwise []

theorem out_dq (y : Fin 4096) (x : Fin 512) : val_main_v57 (F := Ideal) X G (ix2 y x) = val_main_v50 (F := Ideal) X G (ix3 ⟨x.val / 64, by omega⟩ y ⟨x.val % 64, by omega⟩) := by
  unfold val_main_v57 val_main_v56 val_main_v55
  generalize val_main_v50 (F := Ideal) X G = a
  pointwise []
theorem out_dk (y : Fin 4096) (x : Fin 512) : val_main_v58 (F := Ideal) X G (ix2 y x) = val_main_v49 (F := Ideal) X G (ix3 ⟨x.val / 64, by omega⟩ y ⟨x.val % 64, by omega⟩) := by
  unfold val_main_v58 val_main_v54 val_main_v53
  generalize val_main_v49 (F := Ideal) X G = a
  pointwise []
theorem out_dv (y : Fin 4096) (x : Fin 512) : val_main_v59 (F := Ideal) X G (ix2 y x) = val_main_v35 (F := Ideal) X G (ix3 ⟨x.val / 64, by omega⟩ y ⟨x.val % 64, by omega⟩) := by
  unfold val_main_v59 val_main_v52 val_main_v51
  generalize val_main_v35 (F := Ideal) X G = a
  pointwise []
end Cert.SbRef
end
end
-- ==== Proof.SbTotal.lean ====
module
public import proofs.«01_k».proof.Proof.SbData
public import proofs.«01_k».proof.Proof.SbHeads
public import proofs.«01_k».proof.Proof.SbLoop
@[expose] public section
noncomputable section
open Cert.SbReal Cert.SbData Cert.SbLoop Cert.SbHeads
/-! The sums over blocks of query rows put together: the gradients by head. -/
namespace Cert.SbTotal

theorem sum_blocks (f : ℕ → ℝ) (n : ℕ) :
    (∑ j ∈ Finset.range n, ∑ r : Fin 512, f (512 * j + r.val)) = ∑ q ∈ Finset.range (512 * n), f q := by
  induction n with
  | zero => simp
  | succ n ih =>
    rw [Finset.sum_range_succ, ih, Nat.mul_succ, Finset.sum_range_add, Fin.sum_univ_eq_sum_range (fun r => f (512 * n + r)) 512]

variable (p o : ℕ → ℕ → ℝ)

theorem lo_dz (c : ℕ) : (lo p o c).dz = dz (score p (2 * c)) (prods p o (2 * c)) := by rw [Head_dz, lo_Z, lo_prods]
theorem hi_dz (c : ℕ) : (hi p o c).dz = dz (score p (2 * c + 1)) (prods p o (2 * c + 1)) := by rw [Head_dz, hi_Z, hi_prods]
theorem lo_att (c : ℕ) : (lo p o c).att = att (score p (2 * c)) := by rw [Head_att, lo_Z]
theorem hi_att (c : ℕ) : (hi p o c).att = att (score p (2 * c + 1)) := by rw [Head_att, hi_Z]

/-- The gradient of a query. -/
def totQ (y x : ℕ) : ℝ := (∑ k ∈ Finset.range 4096, dz (score p (x / 64)) (prods p o (x / 64)) y k * p k (512 + x)) * (1 / 8)
/-- The gradient of a key. -/
def totK (y x : ℕ) : ℝ := ∑ q ∈ Finset.range 4096, dz (score p (x / 64)) (prods p o (x / 64)) q y * (p q x * (1 / 8))
/-- The gradient of a value. -/
def totV (y x : ℕ) : ℝ := ∑ q ∈ Finset.range 4096, att (score p (x / 64)) q y * o q x

variable {p o}

theorem gradQ_eq (y x : ℕ) (h : x % 128 < 128) :
    gradQ (cols p 0 (x / 128)) (cols o 0 (x / 128)) (cols p 512 (x / 128)) (cols p 1024 (x / 128)) y ⟨x % 128, h⟩ = totQ p o y x := by
  have hx : 128 * (x / 128) + x % 128 = x := by omega
  unfold gradQ totQ
  dsimp only
  by_cases hl : x % 128 < 64
  · rw [if_pos hl, show x / 64 = 2 * (x / 128) by omega, ← lo_dz]
    unfold dqSum
    simp only [lo, low, cols, hx]
  · rw [if_neg hl, show x / 64 = 2 * (x / 128) + 1 by omega, ← hi_dz]
    unfold dqSum
    simp only [hi, high, cols, hx]

theorem addK_eq (y x : ℕ) (h : x % 128 < 128) : (∑ j ∈ Finset.range 8,
    addK (cols p 0 (x / 128)) (cols o 0 (x / 128)) (cols p 512 (x / 128)) (cols p 1024 (x / 128)) (512 * j) y ⟨x % 128, h⟩) = totK p o y x := by
  have hx : 128 * (x / 128) + x % 128 = x := by omega
  unfold addK totK dkInc
  rw [Finset.sum_add_distrib, sum_blocks (fun q => (lo p o (x / 128)).dz q y * (lo p o (x / 128)).Q q ⟨x % 128, h⟩) 8,
    sum_blocks (fun q => (hi p o (x / 128)).dz q y * (hi p o (x / 128)).Q q ⟨x % 128, h⟩) 8, lo_dz, hi_dz]
  by_cases hl : x % 128 < 64
  · rw [show x / 64 = 2 * (x / 128) by omega]
    simp only [lo, hi, low, high, cols, zero_add, Nat.reduceMul, hx, if_pos hl, if_neg (Nat.not_le.2 hl), mul_zero, Finset.sum_const_zero, add_zero]
  · rw [show x / 64 = 2 * (x / 128) + 1 by omega]
    simp only [lo, hi, low, high, cols, zero_add, Nat.reduceMul, hx, if_neg hl, if_pos (Nat.not_lt.1 hl), mul_zero, Finset.sum_const_zero]

theorem addV_eq (y x : ℕ) (h : x % 128 < 128) : (∑ j ∈ Finset.range 8,
    addV (cols p 0 (x / 128)) (cols o 0 (x / 128)) (cols p 512 (x / 128)) (cols p 1024 (x / 128)) (512 * j) y ⟨x % 128, h⟩) = totV p o y x := by
  have hx : 128 * (x / 128) + x % 128 = x := by omega
  unfold addV totV dvInc
  rw [Finset.sum_add_distrib, sum_blocks (fun q => (lo p o (x / 128)).att q y * (lo p o (x / 128)).O q ⟨x % 128, h⟩) 8,
    sum_blocks (fun q => (hi p o (x / 128)).att q y * (hi p o (x / 128)).O q ⟨x % 128, h⟩) 8, lo_att, hi_att]
  by_cases hl : x % 128 < 64
  · rw [show x / 64 = 2 * (x / 128) by omega]
    simp only [lo, hi, low, high, cols, zero_add, Nat.reduceMul, hx, if_pos hl, if_neg (Nat.not_le.2 hl), mul_zero, Finset.sum_const_zero, add_zero]
  · rw [show x / 64 = 2 * (x / 128) + 1 by omega]
    simp only [lo, hi, low, high, cols, zero_add, Nat.reduceMul, hx, if_neg hl, if_pos (Nat.not_lt.1 hl), mul_zero, Finset.sum_const_zero]
end Cert.SbTotal
end
end
-- ==== Proof.SbEqual.lean ====
module
public import proofs.«01_k».proof.Proof.SbRef
public import proofs.«01_k».proof.Proof.SbTotal
@[expose] public section
set_option maxRecDepth 16384
noncomputable section
open Cert.Reference2Ideal Cert.Reference2Ideal.Gen Cert.Reference2Ideal.Read Cert.SbReal Cert.SbHeads Cert.SbSig Cert.Reals Cert.SbRef Cert.SbTotal Cert.SbData
open Idealize.ShloMosaic Idealize.ShloMosaic.TcCoe Idealize.SL.Sem
/-! The reference's gradients as sums over all queries or keys of a head. -/
namespace Cert.SbEqual

variable {X : (⟨S4096x7168, .f32⟩ : BufTy).Contents (Elt Ideal)} {G : (⟨S4096x512, .bf16⟩ : BufTy).Contents (Elt Ideal)} {p o : ℕ → ℕ → ℝ}

/-- The arguments' entries are real. -/
structure Reals (X : (⟨S4096x7168, .f32⟩ : BufTy).Contents (Elt Ideal)) (G : (⟨S4096x512, .bf16⟩ : BufTy).Contents (Elt Ideal)) (p o : ℕ → ℕ → ℝ) : Prop where
  hp : ∀ (y : Fin 4096) (x : Fin 7168), x.val < 1536 → X (ix2 y x) = ((p y.val x.val : ℝ) : EReal)
  ho : ∀ (y : Fin 4096) (x : Fin 512), G (ix2 y x) = ((o y.val x.val : ℝ) : EReal)

variable (H : Reals X G p o)
include H

theorem q_at (h : Fin 8) (y : Fin 4096) (i : Fin 64) : val_main_v4 (F := Ideal) X (ix3 h y i) = ((p y (64 * h.val + i.val) : ℝ) : EReal) :=
  (heads_q h y i).trans (H.hp y _ (by dsimp only; omega))
theorem k_at (h : Fin 8) (y : Fin 4096) (i : Fin 64) : val_main_v6 (F := Ideal) X (ix3 h y i) = ((p y (512 + (64 * h.val + i.val)) : ℝ) : EReal) :=
  (heads_k h y i).trans (H.hp y _ (by dsimp only; omega))
theorem v_at (h : Fin 8) (y : Fin 4096) (i : Fin 64) : val_main_v8 (F := Ideal) X (ix3 h y i) = ((p y (1024 + (64 * h.val + i.val)) : ℝ) : EReal) :=
  (heads_v h y i).trans (H.hp y _ (by dsimp only; omega))
theorem o_at (h : Fin 8) (y : Fin 4096) (i : Fin 64) : val_main_v33 (F := Ideal) G (ix3 h y i) = ((o y (64 * h.val + i.val) : ℝ) : EReal) :=
  (heads_o h y i).trans (H.ho y _)

theorem score_at (h : Fin 8) (q k : Fin 4096) : val_main_v11 (F := Ideal) X (ix3 h q k) = ((score p h.val q.val k.val : ℝ) : EReal) := by
  rw [score_sum]
  rw [Finset.sum_congr rfl (fun x _ => by rw [q_at H, k_at H, ← EReal.coe_mul]), sum_coe]
  rw [show val_main_cst (F := Ideal) ix0 = ((1 / 8 : ℝ) : EReal) from ofBits_eighth, ← EReal.coe_mul]
  unfold score
  rw [Finset.sum_mul]
  congr 1
  exact Finset.sum_congr rfl fun x _ => by ring

theorem prods_at (h : Fin 8) (q k : Fin 4096) : val_main_v36 (F := Ideal) X G (ix3 h q k) = ((prods p o h.val q.val k.val : ℝ) : EReal) := by
  rw [prods_sum]
  rw [Finset.sum_congr rfl (fun x _ => by rw [o_at H, v_at H, ← EReal.coe_mul]), sum_coe]
  rfl

omit H in
theorem zeros : (FloatOps.ofBits (F := Ideal) .f32 0x00000000#32 : EReal) = ((0 : ℝ) : EReal) := Ideal.ofBits_zero_f32

omit H in
theorem exp_of (a b c : ℝ) : FloatOps.hostUnary (F := Ideal) (φ := .f32) .exp (FloatOps.subf (F := Ideal) (φ := .f32)
    (FloatOps.addf (F := Ideal) (φ := .f32) (a : EReal) (b : EReal)) (c : EReal)) = ((Real.exp (a + b - c) : ℝ) : EReal) := by
  show Ideal.exp ((a : EReal) + (b : EReal) - (c : EReal)) = _
  rw [← EReal.coe_add, ← EReal.coe_sub, Ideal.exp_coe]

theorem rest_at (h : Fin 8) (q k : Fin 4096) : val_main_v21_0 (F := Ideal) X (ix3 h q k) = ((rest (score p h.val) q.val k.val : ℝ) : EReal) := by
  rw [val_main_v21_0_apply, mask1]
  exact pick _ _ _ _ _ (log_other (score_at H h q k)) zeros

theorem rests_at (h : Fin 8) (q k : Fin 4096) : val_main_v23 (F := Ideal) X (ix3 h q k)
    = ((∑ j ∈ Finset.Ico k.val 4096, rest (score p h.val) q.val j : ℝ) : EReal) := by
  refine CumSum.from_end (val_main_v21_0 (F := Ideal) X) _ ?_ _ _ h q k (rest (score p h.val) q.val) fun j => rest_at H h q j
  exact Ideal.ofBits_zero_f32

theorem weight_at (h : Fin 8) (q k : Fin 4096) : val_main_v26 (F := Ideal) X (ix3 h q k)
    = ((Real.exp (lsp (score p h.val q.val k.val) + ∑ j ∈ Finset.Ico (k.val + 1) 4096, rest (score p h.val) q.val j) : ℝ) : EReal) := by
  rw [val_main_v26_apply, val_main_v25_apply, val_main_v24_apply, rests_at H, rest_at H, log_gate (score_at H h q k)]
  rw [Finset.sum_eq_sum_Ico_succ_bot k.isLt]
  rw [exp_of]
  congr 2; ring

theorem att_at (h : Fin 8) (q k : Fin 4096) : val_main_v27_0 (F := Ideal) X (ix3 h q k) = ((att (score p h.val) q.val k.val : ℝ) : EReal) := by
  rw [val_main_v27_0_apply, mask2]
  exact pick _ _ _ _ _ (weight_at H h q k) zeros

theorem grd_at (h : Fin 8) (q k : Fin 4096) : val_main_v38 (F := Ideal) X G (ix3 h q k) = ((grd (score p h.val) (prods p o h.val) q.val k.val : ℝ) : EReal) := by
  have e : val_main_v37 (F := Ideal) X G (ix3 h q k) = ((if k.val < q.val then prods p o h.val q.val k.val else 0 : ℝ) : EReal) := by
    rw [val_main_v37_apply, mask2]
    exact pick _ _ _ _ _ (prods_at H h q k) zeros
  rw [val_main_v38_apply, e, weight_at H]
  refine (EReal.coe_mul _ _).symm.trans ?_
  congr 1
  unfold grd att
  by_cases hk : k.val < q.val
  · rw [if_pos hk, if_pos hk, mul_comm]
  · rw [if_neg hk, if_neg hk, zero_mul, zero_mul]

theorem grds_at (h : Fin 8) (q k : Fin 4096) : val_main_v40 (F := Ideal) X G (ix3 h q k)
    = ((∑ j ∈ Finset.range (k.val + 1), grd (score p h.val) (prods p o h.val) q.val j : ℝ) : EReal) := by
  refine CumSum.from_start rfl (val_main_v38 (F := Ideal) X G) _ ?_ _ _ h q k (grd (score p h.val) (prods p o h.val) q.val) fun j => grd_at H h q j
  exact Ideal.ofBits_zero_f32

theorem before_at (h : Fin 8) (q k : Fin 4096) : val_main_v43 (F := Ideal) X G (ix3 h q k)
    = ((if k.val < q.val then -(grd (score p h.val) (prods p o h.val) q.val k.val) + ∑ j ∈ Finset.range (k.val + 1), grd (score p h.val) (prods p o h.val) q.val j else 0 : ℝ) : EReal) := by
  rw [val_main_v43_apply, mask1]
  refine pick _ _ _ _ _ ?_ zeros
  rw [val_main_v41_apply, val_main_v39_apply, grd_at H, grds_at H]
  refine (show _ = (-((_ : ℝ) : EReal)) + ((_ : ℝ) : EReal) from rfl).trans ?_
  rw [← EReal.coe_neg, ← EReal.coe_add]

theorem dz_at (h : Fin 8) (q k : Fin 4096) : val_main_v48 (F := Ideal) X G (ix3 h q k) = ((dz (score p h.val) (prods p o h.val) q.val k.val * (1 / 8) : ℝ) : EReal) := by
  rw [val_main_v48_apply, val_main_v46_apply, val_main_v42_apply, val_main_v45_apply, val_main_v44_apply, val_main_call7_v1_apply, val_main_call7_v0_apply,
    val_main_call9_v1_apply, val_main_call9_v0_apply, grd_at H, before_at H, other (score_at H h q k), gate (score_at H h q k)]
  rw [show val_main_v47 (F := Ideal) (ix3 h q k) = ((1 / 8 : ℝ) : EReal) from ofBits_eighth, ← dz_of]
  refine (show _ = (-(-((_ : ℝ) : EReal) * ((_ : ℝ) : EReal)) + -(-(-((_ : ℝ) : EReal) * ((_ : ℝ) : EReal)))) * ((_ : ℝ) : EReal) from rfl).trans ?_
  simp only [EReal.coe_mul, EReal.coe_add, EReal.coe_neg]

theorem ref_dq (y : Fin 4096) (x : Fin 512) : val_main_v57 (F := Ideal) X G (ix2 y x) = ((totQ p o y.val x.val : ℝ) : EReal) := by
  rw [out_dq, dq_sum, Finset.sum_congr rfl (fun k _ => by rw [dz_at H, k_at H, ← EReal.coe_mul]), sum_coe]
  unfold totQ
  rw [Fin.sum_univ_eq_sum_range (fun k => dz (score p (x.val / 64)) (prods p o (x.val / 64)) y.val k * (1 / 8) * p k (512 + (64 * (x.val / 64) + x.val % 64))) 4096,
    show 64 * (x.val / 64) + x.val % 64 = x.val by omega, Finset.sum_mul]
  congr 1
  exact Finset.sum_congr rfl fun k _ => by ring

theorem ref_dk (y : Fin 4096) (x : Fin 512) : val_main_v58 (F := Ideal) X G (ix2 y x) = ((totK p o y.val x.val : ℝ) : EReal) := by
  rw [out_dk, dk_sum, Finset.sum_congr rfl (fun k _ => by rw [dz_at H, q_at H, ← EReal.coe_mul]), sum_coe]
  unfold totK
  rw [Fin.sum_univ_eq_sum_range (fun q => dz (score p (x.val / 64)) (prods p o (x.val / 64)) q y.val * (1 / 8) * p q (64 * (x.val / 64) + x.val % 64)) 4096,
    show 64 * (x.val / 64) + x.val % 64 = x.val by omega]
  congr 1
  exact Finset.sum_congr rfl fun k _ => by ring

theorem ref_dv (y : Fin 4096) (x : Fin 512) : val_main_v59 (F := Ideal) X G (ix2 y x) = ((totV p o y.val x.val : ℝ) : EReal) := by
  rw [out_dv, dv_sum, Finset.sum_congr rfl (fun k _ => by rw [o_at H, att_at H, ← EReal.coe_mul]), sum_coe]
  unfold totV
  rw [Fin.sum_univ_eq_sum_range (fun q => o q (64 * (x.val / 64) + x.val % 64) * att (score p (x.val / 64)) q y.val) 4096,
    show 64 * (x.val / 64) + x.val % 64 = x.val by omega]
  congr 1
  exact Finset.sum_congr rfl fun k _ => by ring
end Cert.SbEqual
end
end
-- ==== Proof.SbBwd.lean ====
/-  The gradients of the stick-breaking attention (`_sb_bwd`): the kernel's three results are the reference's. -/
module

public import proofs.«01_k».proof.Defs
public import proofs.«01_k».proof.Proof.Gen.Kernel2Ideal.Value
public import proofs.«01_k».proof.Proof.Gen.Reference2Ideal.Run
public import proofs.«01_k».proof.Proof.SbGrad
public import proofs.«01_k».proof.Proof.SbEqual
public import Idealize.ShloMosaic.Lib.Claim

@[expose] public section

set_option maxRecDepth 16384

noncomputable section

namespace Cert.SbBwd

open Idealize.ShloMosaic Idealize.ShloMosaic.TcCoe Idealize.SL.Sem Cert.Reals

/-- What the precondition says of one place. -/
theorem finite_at [Pre_finite_sb.Facts] (X : FVec Ideal Pre_finite_sb.S4096x7168 .f32) (G : FVec Ideal Pre_finite_sb.S4096x512 .bf16)
    (h : Pre_finite_sb.fn (F := Ideal) X G = fun _ => 1#1) (y : Fin 4096) (x : Fin 512) :
    (∃ r : ℝ, X (ix2 y ⟨x.val, by omega⟩) = (r : EReal)) ∧ (∃ r : ℝ, X (ix2 y ⟨512 + x.val, by omega⟩) = (r : EReal))
      ∧ (∃ r : ℝ, X (ix2 y ⟨1024 + x.val, by omega⟩) = (r : EReal)) ∧ ∃ r : ℝ, G (ix2 y x) = (r : EReal) := by
  have e := congrFun h (ix2 y x)
  unfold Pre_finite_sb.fn at e
  dsimp only at e
  have two : ∀ a b : BitVec 1, a &&& b = 1#1 → a = 1#1 ∧ b = 1#1 := by decide
  obtain ⟨e, e4⟩ := two _ _ e
  obtain ⟨e, e3⟩ := two _ _ e
  obtain ⟨e1, e2⟩ := two _ _ e
  refine ⟨?_, ?_, ?_, ?_⟩
  · refine real_of_olt (Eq.trans ?_ e1)
    pointwise []
    rfl
  · refine real_of_olt (Eq.trans ?_ e2)
    pointwise []
    rfl
  · refine real_of_olt (Eq.trans ?_ e3)
    pointwise []
    rfl
  · refine real_of_olt (Eq.trans ?_ e4)
    pointwise []
    rfl

/-- The arguments as tables of real numbers. -/
theorem tables [Pre_finite_sb.Facts] (X : FVec Ideal Pre_finite_sb.S4096x7168 .f32) (G : FVec Ideal Pre_finite_sb.S4096x512 .bf16)
    (h : Pre_finite_sb.fn (F := Ideal) X G = fun _ => 1#1) : ∃ p o : ℕ → ℕ → ℝ,
      (∀ (y : Fin 4096) (x : Fin 7168), x.val < 1536 → X (ix2 y x) = ((p y.val x.val : ℝ) : EReal))
      ∧ ∀ (y : Fin 4096) (x : Fin 512), G (ix2 y x) = ((o y.val x.val : ℝ) : EReal) := by
  refine ⟨fun y x => if hy : y < 4096 ∧ x < 7168 then EReal.toReal (X (ix2 ⟨y, hy.1⟩ ⟨x, hy.2⟩)) else 0,
    fun y x => if hy : y < 4096 ∧ x < 512 then EReal.toReal (G (ix2 ⟨y, hy.1⟩ ⟨x, hy.2⟩)) else 0, fun y x hx => ?_, fun y x => ?_⟩
  · dsimp only
    rw [dif_pos ⟨y.isLt, x.isLt⟩]
    have : ∃ r : ℝ, X (ix2 y x) = (r : EReal) := by
      rcases Nat.lt_or_ge x.val 512 with h1 | h1
      · exact (finite_at X G h y ⟨x.val, h1⟩).1
      rcases Nat.lt_or_ge x.val 1024 with h2 | h2
      · have := (finite_at X G h y ⟨x.val - 512, by omega⟩).2.1
        rwa [show (⟨512 + (x.val - 512), by omega⟩ : Fin 7168) = x from Fin.ext (by dsimp only; omega)] at this
      · have := (finite_at X G h y ⟨x.val - 1024, by omega⟩).2.2.1
        rwa [show (⟨1024 + (x.val - 1024), by omega⟩ : Fin 7168) = x from Fin.ext (by dsimp only; omega)] at this
    obtain ⟨r, hr⟩ := this
    rw [hr, EReal.toReal_coe]
  · dsimp only
    rw [dif_pos ⟨y.isLt, x.isLt⟩]
    obtain ⟨r, hr⟩ := (finite_at X G h y x).2.2.2
    rw [hr, EReal.toReal_coe]

section
open Cert.Kernel2Ideal Cert.Kernel2Ideal.Gen
variable (m : (ℓ : Loc nD τ sig) → Buf (Elt Ideal) ℓ) (c : Dev nD) {p o : ℕ → ℕ → ℝ} (A : SbBlocks.Args m c p o)
include A

theorem final_dq : (dats m 0 c).arrAt 6 cfg0.N = Reference2Ideal.Read.val_main_v57 (F := Ideal)
    (m ((c : Thread nD τ).loc main_arg0)) (m ((c : Thread nD τ).loc main_arg1)) := by
  funext i
  obtain ⟨y, x, rfl⟩ : ∃ (y : Fin 4096) (x : Fin 512), i = ix2 y x := ⟨i 0, i 1, by funext a; fin_cases a <;> rfl⟩
  refine (SbGrad.final_dq A y x).trans ?_
  rw [SbGrad.pairQ, SbTotal.gradQ_eq]
  exact (SbEqual.ref_dq ⟨A.hp, A.ho⟩ y x).symm

theorem final_dk : (dats m 0 c).arrAt 7 cfg0.N = Reference2Ideal.Read.val_main_v58 (F := Ideal)
    (m ((c : Thread nD τ).loc main_arg0)) (m ((c : Thread nD τ).loc main_arg1)) := by
  funext i
  obtain ⟨y, x, rfl⟩ : ∃ (y : Fin 4096) (x : Fin 512), i = ix2 y x := ⟨i 0, i 1, by funext a; fin_cases a <;> rfl⟩
  refine (SbGrad.final_dk A y x).trans ?_
  simp only [SbGrad.pairK]
  rw [SbTotal.addK_eq]
  exact (SbEqual.ref_dk ⟨A.hp, A.ho⟩ y x).symm

theorem final_dv : (dats m 0 c).arrAt 8 cfg0.N = Reference2Ideal.Read.val_main_v59 (F := Ideal)
    (m ((c : Thread nD τ).loc main_arg0)) (m ((c : Thread nD τ).loc main_arg1)) := by
  funext i
  obtain ⟨y, x, rfl⟩ : ∃ (y : Fin 4096) (x : Fin 512), i = ix2 y x := ⟨i 0, i 1, by funext a; fin_cases a <;> rfl⟩
  refine (SbGrad.final_dv A y x).trans ?_
  simp only [SbGrad.pairV]
  rw [SbTotal.addV_eq]
  exact (SbEqual.ref_dv ⟨A.hp, A.ho⟩ y x).symm
end

theorem frame_reference : quiescent_Reference2Ideal := fun m g _ =>
  (θ_run Reference2Ideal.defs _ _).mono (fun r h => ⟨fun c => (h c).2.2.2, sem_eq_zero_of_no_sems (by decide) r.2⟩)
    (Reference2Ideal.Value.run (F := Ideal) m g)

theorem algebraic [Pre_finite_sb.Facts] : algebraic_Kernel2Ideal_Reference2Ideal_pre_finite_sb := by
  pair_intro
  · run_from Kernel2Ideal.Value.run_blocks m g
  · run_from Reference2Ideal.Value.run m' g'
    all_goals obtain ⟨p, o, hp, ho⟩ := tables _ _ (hpre c)
    · refine (Reference2Ideal.Read.val_main_v57_eq m' c).trans ?_
      rw [(hagree c).1, (hagree c).2]
      exact (final_dq m c ⟨hp, ho⟩).symm
    · refine (Reference2Ideal.Read.val_main_v58_eq m' c).trans ?_
      rw [(hagree c).1, (hagree c).2]
      exact (final_dk m c ⟨hp, ho⟩).symm
    · refine (Reference2Ideal.Read.val_main_v59_eq m' c).trans ?_
      rw [(hagree c).1, (hagree c).2]
      exact (final_dv m c ⟨hp, ho⟩).symm
end Cert.SbBwd
end
-- ==== Proof.FinalLoss.lean ====
/-  The loss and the gradient of the last norm (`_final_loss` at [4096, 1024], eight blocks of 512 rows): what the kernel leaves in its three
    results, and that it is what the derivative computes. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.NormGrad
public import Idealize.ShloMosaic.Lib.Pipeline.ValueKit
public import Idealize.ShloMosaic.Lib.Claim

@[expose] public section

set_option maxRecDepth 16384

noncomputable section

namespace Cert.Kernel8Ideal.FinalLoss

open Cert.Kernel8Ideal Cert.Kernel8Ideal.Gen Cert.Reference8Ideal.Read Idealize.ShloMosaic Idealize.ShloMosaic.TcCoe Idealize.SL.Sem
open Idealize.ShloMosaic.Pipeline (Dat)

theorem ofBits_thousandth : Ideal.ofBits .f32 0x3A800000#32 = ((1 / 1024 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
variable (X : FVec Ideal S4096x1024 .f32) (G : FVec Ideal S1024 .f32) (Y : FVec Ideal S4096x1024 .f32)

/-- The error of the prediction. -/
theorem err_at (x y : FVec Ideal S512x1024 .f32) (g : FVec Ideal S1x1024 .f32) (r : Fin 512) (R : Fin 4096)
    (hx : ∀ k, x (ix2 r k) = X (ix2 R k)) (hy : ∀ k, y (ix2 r k) = Y (ix2 R k)) (hg : ∀ k, g (ix2 0 k) = G (ix1 k)) (l : Fin 1024) :
    k0_pay8 (F := Ideal) x g y (ix2 r l) = val_main_v16 (F := Ideal) X G Y (ix2 R l) := by
  pointwise [k0_pay5, k0_pay6, k0_pay7, k0_pay8, val_main_v16, val_main_v15, val_main_v14, val_main_v13, val_main_v12, val_main_v11, val_main_v7, val_main_v6, val_main_v5, val_main_v4, val_main_v3, val_main_v2, val_main_v1, val_main_v0, val_main_cst, val_main_cst_0, val_main_cst_1]
  simp only [hx, hy, hg, zero_add]

/-- The loss's derivative by the prediction. -/
theorem derr_at (x y : FVec Ideal S512x1024 .f32) (g : FVec Ideal S1x1024 .f32) (r : Fin 512) (R : Fin 4096)
    (hx : ∀ k, x (ix2 r k) = X (ix2 R k)) (hy : ∀ k, y (ix2 r k) = Y (ix2 R k)) (hg : ∀ k, g (ix2 0 k) = G (ix1 k)) (l : Fin 1024) :
    k0_pay10 (F := Ideal) x g y (ix2 r l) = val_main_v30 (F := Ideal) X G Y (ix2 R l) := by
  have e := err_at X G Y x y g r R hx hy hg l
  unfold k0_pay10 val_main_v30 val_main_v19
  generalize k0_pay8 (F := Ideal) x g y = a at e ⊢
  generalize val_main_v16 (F := Ideal) X G Y = b at e ⊢
  pointwise [val_main_v29, val_main_v28, val_main_v27, val_main_v26, val_main_v25, val_main_v18, val_main_cst_3, val_main_cst_8, val_main_cst_9, val_main_cst_10]
  rw [e, ofBits_thousandth, ofBits_two, ofBits_half, Reals.ofBits_1024, Reals.div_coe_coe _ (by norm_num), ← mul_assoc, ← EReal.coe_mul, mul_comm]
  norm_num

/-- `dx` at row `r` of a block, its row `R` of the array. -/
theorem dx_at (x y : FVec Ideal S512x1024 .f32) (g : FVec Ideal S1x1024 .f32) (r : Fin 512) (R : Fin 4096)
    (hx : ∀ k, x (ix2 r k) = X (ix2 R k)) (hy : ∀ k, y (ix2 r k) = Y (ix2 R k)) (hg : ∀ k, g (ix2 0 k) = G (ix1 k)) (l : Fin 1024) :
    k0_pay2 (F := Ideal) (k0_pay5 g) (k0_pay6 x) (k0_pay7 x) (k0_pay10 x g y) (ix2 r l) = val_main_v50 (F := Ideal) X G Y (ix2 R l) := by
  have e := derr_at X G Y x y g r R hx hy hg
  unfold val_main_v50 val_main_v49 val_main_v48 val_main_v47 val_main_v46 val_main_v45 val_main_v44 val_main_v42 val_main_v41 val_main_v39 val_main_v38 val_main_v37 val_main_v35
  generalize k0_pay10 (F := Ideal) x g y = a at e ⊢
  generalize val_main_v30 (F := Ideal) X G Y = D at e ⊢
  pointwise [k0_pay2, k0_pay5, k0_pay6, k0_pay7, val_main_v43, val_main_v40, val_main_v34, val_main_v13, val_main_v10, val_main_v9, val_main_v8, val_main_v7, val_main_v6, val_main_v5, val_main_v4, val_main_v3, val_main_v2, val_main_v1, val_main_v0, val_main_cst, val_main_cst_0, val_main_cst_1, val_main_cst_2, val_main_cst_13, val_main_cst_14, val_main_cst_15]
  obtain ⟨ε, he, hE⟩ := Reals.ofBits_eps
  simp only [e, hx, hg, Finset.univ_unique, Finset.sum_singleton, Reals.ofBits_1024, Reals.ofBits_neg_half, hE, zero_add]
  exact NormGrad.row (by norm_num) he (fun k => X (ix2 R k)) (fun k => D (ix2 R k) * G (ix1 k)) l

/-- A block's addition to `dg`. -/
theorem dg_at (x y : FVec Ideal S512x1024 .f32) (g s : FVec Ideal S1x1024 .f32) (R : Fin 512 → Fin 4096)
    (hx : ∀ r k, x (ix2 r k) = X (ix2 (R r) k)) (hy : ∀ r k, y (ix2 r k) = Y (ix2 (R r) k)) (hg : ∀ k, g (ix2 0 k) = G (ix1 k)) (l : Fin 1024) :
    k0_pay1 (F := Ideal) (k0_pay7 x) (k0_pay10 x g y) s (ix2 0 l) = s (ix2 0 l) + ∑ r : Fin 512, val_main_v31 (F := Ideal) X G Y (ix2 (R r) l) := by
  have e := fun r => derr_at X G Y x y g r (R r) (hx r) (hy r) hg
  unfold val_main_v31
  generalize k0_pay10 (F := Ideal) x g y = a at e ⊢
  generalize val_main_v30 (F := Ideal) X G Y = D at e ⊢
  pointwise [k0_pay1, k0_pay6, k0_pay7, val_main_v12, val_main_v11, val_main_v7, val_main_v6, val_main_v5, val_main_v4, val_main_v3, val_main_v2, val_main_v1, val_main_v0, val_main_cst, val_main_cst_0, val_main_cst_1]
  simp only [e, hx, zero_add]
  refine congrArg (s (ix2 0 l) + ·) (Finset.sum_congr rfl fun r _ => ?_)
  rw [mul_comm]

theorem dg_whole (l : Fin 1024) : val_main_v52 (F := Ideal) X G Y (ix2 0 l) = ∑ R : Fin 4096, val_main_v31 (F := Ideal) X G Y (ix2 R l) := by
  unfold val_main_v52 val_main_v36 val_main_v33 val_main_v32
  generalize val_main_v31 (F := Ideal) X G Y = A
  pointwise [val_main_cst_11, val_main_cst_12]
  simp only [Finset.univ_unique, Finset.sum_singleton, zero_add]

theorem dg_zero_at (l : Fin 1024) : k0_pay3 (F := Ideal) (ix2 0 l) = (0 : EReal) := by
  pointwise [k0_pay3]

/-- A block's addition to the loss. -/
theorem loss_at (x y : FVec Ideal S512x1024 .f32) (g : FVec Ideal S1x1024 .f32) (s : FVec Ideal S1x128 .f32) (R : Fin 512 → Fin 4096)
    (hx : ∀ r k, x (ix2 r k) = X (ix2 (R r) k)) (hy : ∀ r k, y (ix2 r k) = Y (ix2 (R r) k)) (hg : ∀ k, g (ix2 0 k) = G (ix1 k)) (l : Fin 128) :
    k0_pay9 (F := Ideal) x g y s (ix2 0 l) = s (ix2 0 l) + ∑ r : Fin 512, ((1 / 2 : ℝ) : EReal) * val_main_v22 (F := Ideal) X G Y (ix1 (R r)) := by
  have e := fun r => err_at X G Y x y g r (R r) (hx r) (hy r) hg
  unfold k0_pay9 val_main_v22 val_main_v20 val_main_v17
  generalize k0_pay8 (F := Ideal) x g y = a at e ⊢
  generalize val_main_v16 (F := Ideal) X G Y = D at e ⊢
  pointwise [val_main_v21, val_main_cst_4, val_main_cst_5]
  simp only [e, zero_add, ofBits_half]
  rw [NormGrad.coe_mul_sum _ (by norm_num)]

theorem loss_whole (l : Fin 128) : val_main_v51 (F := Ideal) X G Y (ix2 0 l) = ∑ R : Fin 4096, ((1 / 2 : ℝ) : EReal) * val_main_v22 (F := Ideal) X G Y (ix1 R) := by
  unfold val_main_v51 val_main_v24 val_main_v23
  generalize val_main_v22 (F := Ideal) X G Y = A
  pointwise [val_main_cst_6, val_main_cst_7]
  rw [ofBits_half, NormGrad.coe_mul_sum _ (by norm_num)]

theorem loss_zero_at (l : Fin 128) : k0_pay4 (F := Ideal) (ix2 0 l) = (0 : EReal) := by
  pointwise [k0_pay4]

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] :=
  (by decide +kernel : ∀ t : Fin grid0.N, _)

/-- Row `r` of block `t`. -/
abbrev row (t : Fin cfg0.N) (r : Fin 512) : Fin 4096 := ⟨512 * t.val + r.val, by have := t.isLt; have h : cfg0.N = 8 := N_0; omega⟩

theorem block_x (c : Dev nD) (t : Fin cfg0.N) (r : Fin 512) (k : Fin 1024) : (iblk m c 0 t : FVec Ideal S512x1024 .f32) (ix2 r k) = m ((c : Thread nD τ).loc main_arg0) (ix2 (row t r) k) := by
  blk_ext! [iblk, V, idx t]
theorem block_y (c : Dev nD) (t : Fin cfg0.N) (r : Fin 512) (k : Fin 1024) : (iblk m c 2 t : FVec Ideal S512x1024 .f32) (ix2 r k) = m ((c : Thread nD τ).loc main_arg2) (ix2 (row t r) k) := by
  blk_ext! [iblk, V, idx t]
theorem block_g (c : Dev nD) (t : Fin cfg0.N) (l : Fin 1024) : (iblk m c 1 t : FVec Ideal S1x1024 .f32) (ix2 0 l) = m ((c : Thread nD τ).loc main_arg1) (ix1 l) := by
  blk_simp [iblk, idx t]
  entry_read
  pointwise []
  blk_ext [idx t]

theorem final_dx (c : Dev nD) : (dats m 0 c).arrAt 3 (cfgs 0).N = val_main_v50 (F := Ideal) (m ((c : Thread nD τ).loc main_arg0)) (m ((c : Thread nD τ).loc main_arg1))
    (m ((c : Thread nD τ).loc main_arg2)) := by
  refine (dats m 0 c).arrAt_eq_of_covers 3 _ (by decide +kernel) fun t hf y => ?_
  blk_simp
  rw [after0_3]
  have e : (outsAt0 m c t.val t.isLt).1 = k0_pay2 (F := Ideal) (k0_pay5 (iblk m c 1 t)) (k0_pay6 (iblk m c 0 t)) (k0_pay7 (iblk m c 0 t)) (k0_pay10 (iblk m c 0 t) (iblk m c 1 t) (iblk m c 2 t)) := by
    by_cases h : t.val % 8 = 0
    · rw [outsAt0_A m c t h]; frame_out
    · rw [outsAt0_B m c t h]; frame_out
  rw [e]
  idx_vars y
  refine (dx_at _ _ _ _ _ _ _ (row t y0) (block_x m c t y0) (block_y m c t y0) (block_g m c t) _).trans ?_
  blk_ext [idx t]

/-- The rows of the blocks are the rows of the array. -/
theorem sum_rows (A : Fin 4096 → EReal) : ∑ t : Fin cfg0.N, ∑ r : Fin 512, A (row t r) = ∑ R : Fin 4096, A R := by
  have h : cfg0.N = 8 := N_0
  refine (Fin.sum_points_lanes_congr (A := 1) 8 (g := fun _ R => A R) (fun t k ha hl => congrArg A (Fin.ext ?_))).trans ?_
  · have := t.isLt
    show 512 * t.val + k.val = t.val % 8 * 512 + k.val
    omega
  · simp only [Finset.univ_unique, Finset.sum_singleton]

theorem dg_last (c : Dev nD) (t : Fin cfg0.N) (ht : t.val + 1 = cfg0.N) (l : Fin 1024) : (outsAt0 m c t.val t.isLt).2.2 (ix2 0 l)
    = val_main_v52 (F := Ideal) (m ((c : Thread nD τ).loc main_arg0)) (m ((c : Thread nD τ).loc main_arg1)) (m ((c : Thread nD τ).loc main_arg2)) (ix2 0 l) := by
  refine (Pipeline.eq_sum_fin_of_reset_step_apply_last (M := EReal) (fun n h (l : Fin 1024) => (outsAt0 m c n h).2.2 (ix2 0 l)) 8 (fun _ => 0)
    (fun t l => ∑ r : Fin 512, val_main_v31 (F := Ideal) (m ((c : Thread nD τ).loc main_arg0)) (m ((c : Thread nD τ).loc main_arg1)) (m ((c : Thread nD τ).loc main_arg2)) (ix2 (row t r) l))
    (fun t h l => ?_) (fun t h l => ?_) (le_of_eq N_0) t ht l).trans ?_
  · rw [outsAt0_A m c t h]; frame_out
    refine (dg_at _ _ _ _ _ _ _ (row t) (block_x m c t) (block_y m c t) (block_g m c t) l).trans ?_
    rw [dg_zero_at]
  · rw [outsAt0_B m c t h]; frame_out
    exact dg_at _ _ _ _ _ _ _ (row t) (block_x m c t) (block_y m c t) (block_g m c t) l
  · rw [zero_add, dg_whole]
    exact sum_rows fun R => val_main_v31 (F := Ideal) _ _ _ (ix2 R l)

theorem loss_last (c : Dev nD) (t : Fin cfg0.N) (ht : t.val + 1 = cfg0.N) (l : Fin 128) : (outsAt0 m c t.val t.isLt).2.1 (ix2 0 l)
    = val_main_v51 (F := Ideal) (m ((c : Thread nD τ).loc main_arg0)) (m ((c : Thread nD τ).loc main_arg1)) (m ((c : Thread nD τ).loc main_arg2)) (ix2 0 l) := by
  refine (Pipeline.eq_sum_fin_of_reset_step_apply_last (M := EReal) (fun n h (l : Fin 128) => (outsAt0 m c n h).2.1 (ix2 0 l)) 8 (fun _ => 0)
    (fun t l => ∑ r : Fin 512, ((1 / 2 : ℝ) : EReal) * val_main_v22 (F := Ideal) (m ((c : Thread nD τ).loc main_arg0)) (m ((c : Thread nD τ).loc main_arg1)) (m ((c : Thread nD τ).loc main_arg2)) (ix1 (row t r)))
    (fun t h l => ?_) (fun t h l => ?_) (le_of_eq N_0) t ht l).trans ?_
  · rw [outsAt0_A m c t h]; frame_out
    refine (loss_at _ _ _ _ _ _ _ (row t) (block_x m c t) (block_y m c t) (block_g m c t) l).trans ?_
    rw [loss_zero_at]
  · rw [outsAt0_B m c t h]; frame_out
    exact loss_at _ _ _ _ _ _ _ (row t) (block_x m c t) (block_y m c t) (block_g m c t) l
  · rw [zero_add, loss_whole]
    exact sum_rows fun R => ((1 / 2 : ℝ) : EReal) * val_main_v22 (F := Ideal) _ _ _ (ix1 R)

theorem final_dg (c : Dev nD) : (dats m 0 c).arrAt 5 (cfgs 0).N = val_main_v52 (F := Ideal) (m ((c : Thread nD τ).loc main_arg0)) (m ((c : Thread nD τ).loc main_arg1))
    (m ((c : Thread nD τ).loc main_arg2)) := by
  refine (dats m 0 c).arrAt_eq_of_covers 5 _ (by decide +kernel) fun t hf y => ?_
  blk_simp
  idx_vars y
  obtain rfl : y0 = 0 := Subsingleton.elim _ _
  rw [after0_5]
  refine (dg_last m c t (by have := (flush0_5 t).mp hf; have := t.isLt; have h : cfg0.N = 8 := N_0; omega) y1).trans ?_
  blk_ext [idx t]

theorem final_loss (c : Dev nD) : (dats m 0 c).arrAt 4 (cfgs 0).N = val_main_v51 (F := Ideal) (m ((c : Thread nD τ).loc main_arg0)) (m ((c : Thread nD τ).loc main_arg1))
    (m ((c : Thread nD τ).loc main_arg2)) := by
  refine (dats m 0 c).arrAt_eq_of_covers 4 _ (by decide +kernel) fun t hf y => ?_
  blk_simp
  idx_vars y
  obtain rfl : y0 = 0 := Subsingleton.elim _ _
  rw [after0_4]
  refine (loss_last m c t (by have := (flush0_4 t).mp hf; have := t.isLt; have h : cfg0.N = 8 := N_0; omega) y1).trans ?_
  blk_ext [idx t]

end Cert.Kernel8Ideal.FinalLoss

namespace Cert.FinalLoss

open Idealize.ShloMosaic Idealize.SL.Sem

theorem frame_reference : quiescent_Reference8Ideal := fun m g _ =>
  (θ_run Reference8Ideal.defs _ _).mono (fun r h => ⟨fun c => (h c).2.2.2, sem_eq_zero_of_no_sems (by decide) r.2⟩)
    (Reference8Ideal.Value.run (F := Ideal) m g)

theorem algebraic : algebraic_Kernel8Ideal_Reference8Ideal := by
  pair_intro
  · run_from Kernel8Ideal.Value.run_blocks m g
  · run_from Reference8Ideal.Value.run m' g'
    · refine (Reference8Ideal.Read.val_main_v50_eq m' c).trans ?_
      rw [(hagree c).1, (hagree c).2.1, (hagree c).2.2]
      exact (Kernel8Ideal.FinalLoss.final_dx m c).symm
    · exact (Reference8Ideal.Read.val_main_v51_eq _ _ _).trans (Kernel8Ideal.FinalLoss.final_loss m c).symm
    · exact (Reference8Ideal.Read.val_main_v52_eq _ _ _).trans (Kernel8Ideal.FinalLoss.final_dg m c).symm

end Cert.FinalLoss

end
-- ==== Proof.XaQ.lean ====
/-  The gradient of the queries' projection and of the norm before it (`_mm` with `rms` at [4096, 1024], four blocks of
    1024 rows): what the kernel leaves in its two results, and that it is what the derivative computes. -/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.NormGrad
public import Idealize.ShloMosaic.Lib.Pipeline.ValueKit
public import Idealize.ShloMosaic.Lib.Claim

@[expose] public section

set_option maxRecDepth 16384

noncomputable section

namespace Cert.Kernel9Ideal.XaQ

open Cert.Kernel9Ideal Cert.Kernel9Ideal.Gen Cert.Reference9Ideal.Read Idealize.ShloMosaic Idealize.ShloMosaic.TcCoe Idealize.SL.Sem
open Idealize.ShloMosaic.Pipeline (Dat)

variable (Q : FVec Ideal S4096x1024 .bf16) (W : FVec Ideal S1024x1024 .bf16) (X : FVec Ideal S4096x1024 .f32) (G : FVec Ideal S1024 .f32) (Z : FVec Ideal S4096x1024 .f32)

/-- `dx` at row `r` of a block whose first row is `b`. -/
theorem dx_at (q : FVec Ideal S1024x1024 .bf16) (x z : FVec Ideal S1024x1024 .f32) (g : FVec Ideal S1x1024 .f32) (r : Fin 1024) (R : Fin 4096)
    (hq : ∀ k, q (ix2 r k) = Q (ix2 R k)) (hx : ∀ k, x (ix2 r k) = X (ix2 R k)) (hz : ∀ k, z (ix2 r k) = Z (ix2 R k)) (hg : ∀ k, g (ix2 0 k) = G (ix1 k)) (l : Fin 1024) :
    k0_pay1 (F := Ideal) (k0_pay4 x) (k0_pay5 x) (k0_pay7 q W g) z (k0_pay8 q W x g) (Scalar.ofBits .f32 0x44800000#32) (ix2 r l)
      = val_main_v40 (F := Ideal) Q W X G Z (ix2 R l) := by
  pointwise [k0_pay1, k0_pay4, k0_pay5, k0_pay7, k0_pay8, k0_pay2, val_main_v40, val_main_v39, val_main_v38, val_main_v37, val_main_v36, val_main_v35, val_main_v34, val_main_v33, val_main_v32, val_main_v31, val_main_v30, val_main_v29, val_main_v28, val_main_v27, val_main_v26, val_main_v24, val_main_v23, val_main_v19, val_main_v15, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_5, val_main_cst_6, val_main_cst_7]
  obtain ⟨e, he, hE⟩ := Reals.ofBits_eps
  simp only [hq, hx, hz, hg, Finset.univ_unique, Finset.sum_singleton, Reals.ofBits_1024, Reals.ofBits_neg_half, hE, zero_add]
  rw [add_assoc, add_assoc]
  refine congrArg (Z (ix2 R l) + ·) ?_
  rw [← add_assoc]
  exact NormGrad.row (by norm_num) he (fun k => X (ix2 R k)) (fun k => (∑ j : Fin 1024, Q (ix2 R j) * W (ix2 k j)) * G (ix1 k)) l

/-- A block's addition to `dg`. -/
theorem dg_at (q : FVec Ideal S1024x1024 .bf16) (x : FVec Ideal S1024x1024 .f32) (a : FVec Ideal S1x1024 .f32) (R : Fin 1024 → Fin 4096)
    (hq : ∀ r k, q (ix2 r k) = Q (ix2 (R r) k)) (hx : ∀ r k, x (ix2 r k) = X (ix2 (R r) k)) (l : Fin 1024) :
    k0_pay6 (F := Ideal) q W x a (ix2 0 l) = a (ix2 0 l) + ∑ r : Fin 1024, val_main_v20 (F := Ideal) Q W X (ix2 (R r) l) := by
  pointwise [k0_pay6, k0_pay5, k0_pay4, k0_pay2, val_main_v20, val_main_v19, val_main_v14, val_main_v13, val_main_v9, val_main_v8, val_main_v7, val_main_v6, val_main_v5, val_main_v4, val_main_v3, val_main_v2, val_main_v1, val_main_v0, val_main_cst, val_main_cst_0, val_main_cst_1]
  simp only [hq, hx, zero_add]
  refine congrArg (a (ix2 0 l) + ·) (Finset.sum_congr rfl fun r _ => ?_)
  rw [mul_comm]

theorem dg_whole (l : Fin 1024) : val_main_v41 (F := Ideal) Q W X (ix2 0 l) = ∑ R : Fin 4096, val_main_v20 (F := Ideal) Q W X (ix2 R l) := by
  unfold val_main_v41 val_main_v25 val_main_v22 val_main_v21
  generalize val_main_v20 (F := Ideal) Q W X = A
  pointwise [val_main_cst_3, val_main_cst_4]
  simp only [Finset.univ_unique, Finset.sum_singleton, zero_add]

theorem zero_at (l : Fin 1024) : k0_pay3 (F := Ideal) (ix2 0 l) = (0 : EReal) := by
  pointwise [k0_pay3]

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

/-- Row `r` of block `t`. -/
abbrev row (t : Fin cfg0.N) (r : Fin 1024) : Fin 4096 := ⟨1024 * t.val + r.val, by have := t.isLt; have h : cfg0.N = 4 := N_0; omega⟩

theorem block_q (c : Dev nD) (t : Fin cfg0.N) (r k : Fin 1024) : (iblk m c 0 t : FVec Ideal S1024x1024 .bf16) (ix2 r k) = m ((c : Thread nD τ).loc main_arg0) (ix2 (row t r) k) := by
  blk_ext! [iblk, V, idx t]
theorem block_w (c : Dev nD) (t : Fin cfg0.N) : iblk m c 1 t = m ((c : Thread nD τ).loc main_arg1) := by
  blk_ext! [iblk, V, idx t]
theorem block_x (c : Dev nD) (t : Fin cfg0.N) (r k : Fin 1024) : (iblk m c 2 t : FVec Ideal S1024x1024 .f32) (ix2 r k) = m ((c : Thread nD τ).loc main_arg2) (ix2 (row t r) k) := by
  blk_ext! [iblk, V, idx t]
theorem block_z (c : Dev nD) (t : Fin cfg0.N) (r k : Fin 1024) : (iblk m c 4 t : FVec Ideal S1024x1024 .f32) (ix2 r k) = m ((c : Thread nD τ).loc main_arg4) (ix2 (row t r) k) := by
  blk_ext! [iblk, V, idx t]
theorem block_g (c : Dev nD) (t : Fin cfg0.N) (l : Fin 1024) : (iblk m c 3 t : FVec Ideal S1x1024 .f32) (ix2 0 l) = m ((c : Thread nD τ).loc main_arg3) (ix1 l) := by
  blk_simp [iblk, idx t]
  entry_read
  pointwise []
  blk_ext [idx t]

theorem final_dx (c : Dev nD) : (dats m 0 c).arrAt 5 (cfgs 0).N = val_main_v40 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  have e : (outsAt0 m c t.val t.isLt).1 = k0_pay1 (F := Ideal) (k0_pay4 (iblk m c 2 t)) (k0_pay5 (iblk m c 2 t)) (k0_pay7 (iblk m c 0 t) (iblk m c 1 t) (iblk m c 3 t)) (iblk m c 4 t)
      (k0_pay8 (iblk m c 0 t) (iblk m c 1 t) (iblk m c 2 t) (iblk m c 3 t)) (Scalar.ofBits .f32 0x44800000#32) := by
    by_cases h : t.val % 4 = 0
    · rw [outsAt0_A m c t h]; frame_out
    · rw [outsAt0_B m c t h]; frame_out
  rw [e, block_w]
  idx_vars y
  refine (dx_at _ _ _ _ _ _ _ _ _ _ (row t y0) (block_q m c t y0) (block_x m c t y0) (block_z m c t y0) (block_g m c t) _).trans ?_
  blk_ext [idx t]

/-- The rows of the blocks are the rows of the array. -/
theorem sum_rows (A : Fin 4096 → EReal) : ∑ t : Fin cfg0.N, ∑ r : Fin 1024, A (row t r) = ∑ R : Fin 4096, A R := by
  have h : cfg0.N = 4 := N_0
  refine (Fin.sum_points_lanes_congr (A := 1) 4 (g := fun _ R => A R) (fun t k ha hl => congrArg A (Fin.ext ?_))).trans ?_
  · have := t.isLt
    show 1024 * t.val + k.val = t.val % 4 * 1024 + k.val
    omega
  · simp only [Finset.univ_unique, Finset.sum_singleton]

/-- The sum over the blocks so far, at the last one. -/
theorem dg_last (c : Dev nD) (t : Fin cfg0.N) (ht : t.val + 1 = cfg0.N) (l : Fin 1024) : (outsAt0 m c t.val t.isLt).2 (ix2 0 l)
    = val_main_v41 (F := Ideal) (m ((c : Thread nD τ).loc main_arg0)) (m ((c : Thread nD τ).loc main_arg1)) (m ((c : Thread nD τ).loc main_arg2)) (ix2 0 l) := by
  refine (Pipeline.eq_sum_fin_of_reset_step_apply_last (M := EReal) (fun n h (l : Fin 1024) => (outsAt0 m c n h).2 (ix2 0 l)) 4 (fun _ => 0)
    (fun t l => ∑ r : Fin 1024, val_main_v20 (F := Ideal) (m ((c : Thread nD τ).loc main_arg0)) (m ((c : Thread nD τ).loc main_arg1)) (m ((c : Thread nD τ).loc main_arg2)) (ix2 (row t r) l))
    (fun t h l => ?_) (fun t h l => ?_) (le_of_eq N_0) t ht l).trans ?_
  · rw [outsAt0_A m c t h]; frame_out
    rw [block_w]
    refine (dg_at _ _ _ _ _ _ (row t) (block_q m c t) (block_x m c t) l).trans ?_
    rw [zero_at]
  · rw [outsAt0_B m c t h]; frame_out
    rw [block_w]
    exact dg_at _ _ _ _ _ _ (row t) (block_q m c t) (block_x m c t) l
  · rw [zero_add, dg_whole]
    exact sum_rows fun R => val_main_v20 (F := Ideal) _ _ _ (ix2 R l)

theorem final_dg (c : Dev nD) : (dats m 0 c).arrAt 6 (cfgs 0).N = val_main_v41 (F := Ideal) (m ((c : Thread nD τ).loc main_arg0)) (m ((c : Thread nD τ).loc main_arg1))
    (m ((c : Thread nD τ).loc main_arg2)) := by
  refine (dats m 0 c).arrAt_eq_of_covers 6 _ (by decide +kernel) fun t hf y => ?_
  blk_simp
  idx_vars y
  obtain rfl : y0 = 0 := Subsingleton.elim _ _
  rw [after0_6]
  refine (dg_last m c t (by have := (flush0_6 t).mp hf; have := t.isLt; have h : cfg0.N = 4 := N_0; omega) y1).trans ?_
  blk_ext [idx t]

end Cert.Kernel9Ideal.XaQ

namespace Cert.XaQ

open Idealize.ShloMosaic Idealize.SL.Sem

theorem frame_reference : quiescent_Reference9Ideal := fun m g _ =>
  (θ_run Reference9Ideal.defs _ _).mono (fun r h => ⟨fun c => (h c).2.2, sem_eq_zero_of_no_sems (by decide) r.2⟩)
    (Reference9Ideal.Value.run (F := Ideal) m g)

theorem algebraic : algebraic_Kernel9Ideal_Reference9Ideal := by
  pair_intro
  · run_from Kernel9Ideal.Value.run_blocks m g
  · run_from Reference9Ideal.Value.run m' g'
    · refine (Reference9Ideal.Read.val_main_v40_eq m' c).trans ?_
      rw [(hagree c).1, (hagree c).2.1, (hagree c).2.2.1, (hagree c).2.2.2.1, (hagree c).2.2.2.2]
      exact (Kernel9Ideal.XaQ.final_dx m c).symm
    · exact (Reference9Ideal.Read.val_main_v41_eq _ _ _).trans (Kernel9Ideal.XaQ.final_dg m c).symm

end Cert.XaQ

end
-- ==== Proof.FfnUp.lean ====
/-  The gradient of the feed-forward's up projection and of the norm before it (`_mm` with `add` and `rms`, eight blocks of 512 rows, the
    contraction of 2816 lanes in two halves): what the kernel leaves in its two results, and that it is what the derivative computes. -/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.NormGrad
public import Idealize.ShloMosaic.Lib.Pipeline.ValueKit
public import Idealize.ShloMosaic.Lib.Claim

@[expose] public section

set_option maxRecDepth 16384

noncomputable section

namespace Cert.Kernel10Ideal.FfnUp

open Cert.Kernel10Ideal Cert.Kernel10Ideal.Gen Cert.Reference10Ideal.Read Idealize.ShloMosaic Idealize.ShloMosaic.TcCoe Idealize.SL.Sem
open Idealize.ShloMosaic.Pipeline (Dat)

variable (Q : FVec Ideal S4096x2816 .bf16) (W : FVec Ideal S1024x2816 .bf16) (H X : FVec Ideal S4096x1024 .f32) (G : FVec Ideal S1024 .f32) (Z : FVec Ideal S4096x1024 .f32)

/-- The sum so far, and a half's products. -/
theorem half_at (a : FVec Ideal S512x1024 .f32) (q : FVec Ideal S512x1408 .bf16) (w : FVec Ideal S1408x1024 .bf16) (r : Fin 512) (k : Fin 1024) :
    k0_pay2 (F := Ideal) a q w (ix2 r k) = a (ix2 r k) + ∑ j : Fin 1408, q (ix2 r j) * w (ix2 j k) := by
  pointwise [k0_pay2]

theorem zero_at (r : Fin 512) (k : Fin 1024) : k0_pay1 (F := Ideal) (ix2 r k) = (0 : EReal) := by
  pointwise [k0_pay1]

theorem dg_zero_at (l : Fin 1024) : k0_pay5 (F := Ideal) (ix2 0 l) = (0 : EReal) := by
  pointwise [k0_pay5]

/-- The cotangent of the norm's output. -/
theorem dh_at (R : Fin 4096) (k : Fin 1024) : val_main_v20 (F := Ideal) Q W H (ix2 R k) = H (ix2 R k) + ∑ j : Fin 2816, Q (ix2 R j) * W (ix2 k j) := by
  pointwise [val_main_v20, val_main_v19, val_main_v0, val_main_v1]

/-- `dx` at row `r` of a block, its row `R` of the array; `a` is the finished sum of the products. -/
theorem dx_at (a h x z : FVec Ideal S512x1024 .f32) (g : FVec Ideal S1x1024 .f32) (r : Fin 512) (R : Fin 4096)
    (hd : ∀ k, a (ix2 r k) + h (ix2 r k) = val_main_v20 (F := Ideal) Q W H (ix2 R k)) (hx : ∀ k, x (ix2 r k) = X (ix2 R k)) (hz : ∀ k, z (ix2 r k) = Z (ix2 R k)) (hg : ∀ k, g (ix2 0 k) = G (ix1 k)) (l : Fin 1024) :
    k0_pay3 (F := Ideal) z (k0_pay9 a h x g) (k0_pay10 x) (ix2 r l) = val_main_v41 (F := Ideal) Q W H X G Z (ix2 R l) := by
  unfold val_main_v41 val_main_v40 val_main_v39 val_main_v38 val_main_v37 val_main_v36 val_main_v35 val_main_v34 val_main_v33 val_main_v32 val_main_v31 val_main_v30 val_main_v29 val_main_v28 val_main_v27 val_main_v25
  generalize val_main_v20 (F := Ideal) Q W H = D at hd ⊢
  pointwise [k0_pay3, k0_pay4, k0_pay6, k0_pay7, k0_pay9, k0_pay10, val_main_v24, val_main_v16, val_main_v15, val_main_v13, val_main_v12, val_main_v11, val_main_v10, val_main_v9, val_main_v8, val_main_v7, val_main_v6, val_main_v5, val_main_v4, val_main_v3, val_main_v2, val_main_cst, val_main_cst_0, val_main_cst_1, val_main_cst_2, val_main_cst_5, val_main_cst_6, val_main_cst_7]
  obtain ⟨e, he, hE⟩ := Reals.ofBits_eps
  simp only [hd, hx, hz, hg, Finset.univ_unique, Finset.sum_singleton, Reals.ofBits_1024, Reals.ofBits_neg_half, hE, zero_add]
  rw [add_assoc, add_assoc]
  refine congrArg (Z (ix2 R l) + ·) ?_
  rw [← add_assoc]
  exact NormGrad.row (by norm_num) he (fun k => X (ix2 R k)) (fun k => D (ix2 R k) * G (ix1 k)) l

/-- A block's addition to `dg`. -/
theorem dg_at (a h x : FVec Ideal S512x1024 .f32) (s : FVec Ideal S1x1024 .f32) (R : Fin 512 → Fin 4096)
    (hd : ∀ r k, a (ix2 r k) + h (ix2 r k) = val_main_v20 (F := Ideal) Q W H (ix2 (R r) k)) (hx : ∀ r k, x (ix2 r k) = X (ix2 (R r) k)) (l : Fin 1024) :
    k0_pay8 (F := Ideal) a h x s (ix2 0 l) = s (ix2 0 l) + ∑ r : Fin 512, val_main_v21 (F := Ideal) Q W H X (ix2 (R r) l) := by
  unfold val_main_v21
  generalize val_main_v20 (F := Ideal) Q W H = D at hd ⊢
  pointwise [k0_pay8, k0_pay7, k0_pay6, k0_pay4, val_main_v14, val_main_v13, val_main_v9, val_main_v8, val_main_v7, val_main_v6, val_main_v5, val_main_v4, val_main_v3, val_main_v2, val_main_cst, val_main_cst_0, val_main_cst_1]
  simp only [hd, hx, zero_add]
  refine congrArg (s (ix2 0 l) + ·) (Finset.sum_congr rfl fun r _ => ?_)
  rw [mul_comm]

theorem dg_whole (l : Fin 1024) : val_main_v42 (F := Ideal) Q W H X (ix2 0 l) = ∑ R : Fin 4096, val_main_v21 (F := Ideal) Q W H X (ix2 R l) := by
  unfold val_main_v42 val_main_v26 val_main_v23 val_main_v22
  generalize val_main_v21 (F := Ideal) Q W H X = A
  pointwise [val_main_cst_3, val_main_cst_4]
  simp only [Finset.univ_unique, Finset.sum_singleton, zero_add]

variable (m : (ℓ : Loc nD τ sig) → Buf (Elt Ideal) ℓ)

theorem idx : ∀ t : Fin cfg0.N, win0_0.index t = ![t.val / 2, t.val % 2] ∧ win0_1.index t = ![t.val % 2, 0] ∧ win0_2.index t = ![t.val / 2, 0] ∧ win0_3.index t = ![t.val / 2, 0]
    ∧ win0_4.index t = ![0, 0] ∧ win0_5.index t = ![t.val / 2, 0] ∧ win0_6.index t = ![t.val / 2, 0] ∧ win0_7.index t = ![0, 0] :=
  (by decide +kernel : ∀ t : Fin grid0.N, _)

/-- Row `r` of point `t`'s block, lane `j` of its half. -/
abbrev row (t : Fin cfg0.N) (r : Fin 512) : Fin 4096 := ⟨512 * (t.val / 2) + r.val, by have := t.isLt; have h : cfg0.N = 16 := N_0; omega⟩
abbrev lane (t : Fin cfg0.N) (j : Fin 1408) : Fin 2816 := ⟨1408 * (t.val % 2) + j.val, by omega⟩

theorem block_q (c : Dev nD) (t : Fin cfg0.N) (r : Fin 512) (j : Fin 1408) : (iblk m c 0 t : FVec Ideal S512x1408 .bf16) (ix2 r j) = m ((c : Thread nD τ).loc main_arg0) (ix2 (row t r) (lane t j)) := by
  blk_ext! [iblk, V, idx t]
theorem block_w (c : Dev nD) (t : Fin cfg0.N) (j : Fin 1408) (k : Fin 1024) : (iblk m c 1 t : FVec Ideal S1408x1024 .bf16) (ix2 j k) = m ((c : Thread nD τ).loc main_arg1) (ix2 k (lane t j)) := by
  blk_simp [iblk, idx t]
  entry_read
  pointwise []
  blk_ext [idx t]
theorem block_h (c : Dev nD) (t : Fin cfg0.N) (r : Fin 512) (k : Fin 1024) : (iblk m c 2 t : FVec Ideal S512x1024 .f32) (ix2 r k) = m ((c : Thread nD τ).loc main_arg2) (ix2 (row t r) k) := by
  blk_ext! [iblk, V, idx t]
theorem block_x (c : Dev nD) (t : Fin cfg0.N) (r : Fin 512) (k : Fin 1024) : (iblk m c 3 t : FVec Ideal S512x1024 .f32) (ix2 r k) = m ((c : Thread nD τ).loc main_arg3) (ix2 (row t r) k) := by
  blk_ext! [iblk, V, idx t]
theorem block_z (c : Dev nD) (t : Fin cfg0.N) (r : Fin 512) (k : Fin 1024) : (iblk m c 5 t : FVec Ideal S512x1024 .f32) (ix2 r k) = m ((c : Thread nD τ).loc main_arg5) (ix2 (row t r) k) := by
  blk_ext! [iblk, V, idx t]
theorem block_g (c : Dev nD) (t : Fin cfg0.N) (l : Fin 1024) : (iblk m c 4 t : FVec Ideal S1x1024 .f32) (ix2 0 l) = m ((c : Thread nD τ).loc main_arg4) (ix1 l) := by
  blk_simp [iblk, idx t]
  entry_read
  pointwise []
  blk_ext [idx t]

/-- The scratch is read whole. -/
theorem carried (h : (Memref.whole cc0_scratch0).IsWhole) (A : Vec Ideal S512x1024 .f32) : View.read (Elt Ideal) (View.whole cc0_scratch0) (h.unread A) = A :=
  h.read_unread A

/-- The point before. -/
abbrev prev (t : Fin cfg0.N) : Fin cfg0.N := ⟨t.val - 1, Nat.lt_of_le_of_lt (Nat.sub_le _ _) t.isLt⟩

/-- The sum after the first half. -/
theorem sum_even (c : Dev nD) (t : Fin cfg0.N) (h : t.val % 2 = 0) : (outsAt0 m c t.val t.isLt).2.2 = k0_pay2 (F := Ideal) (k0_pay1 (F := Ideal)) (iblk m c 0 t) (iblk m c 1 t) := by
  rw [outsAt0_A m c t h (by omega)]; frame_out

/-- The sum at the second half, as the point finds it finished. -/
def total (c : Dev nD) (t : Fin cfg0.N) : FVec Ideal S512x1024 .f32 := k0_pay2 (F := Ideal) (outsAt0 m c (prev t).val (prev t).isLt).2.2 (iblk m c 0 t) (iblk m c 1 t)

theorem total_at (c : Dev nD) (t : Fin cfg0.N) (h : t.val % 2 = 1) (r : Fin 512) (k : Fin 1024) : total m c t (ix2 r k) + (iblk m c 2 t : FVec Ideal S512x1024 .f32) (ix2 r k)
    = val_main_v20 (F := Ideal) (m ((c : Thread nD τ).loc main_arg0)) (m ((c : Thread nD τ).loc main_arg1)) (m ((c : Thread nD τ).loc main_arg2)) (ix2 (row t r) k) := by
  have hp : (prev t).val % 2 = 0 := by dsimp only; omega
  have hr : row (prev t) r = row t r := Fin.ext (by show 512 * ((t.val - 1) / 2) + r.val = 512 * (t.val / 2) + r.val; omega)
  unfold total
  rw [half_at, sum_even m c (prev t) hp, half_at, zero_at, zero_add, dh_at, block_h, add_comm]
  simp only [block_q, block_w, hr]
  refine congrArg ((_ : EReal) + ·) ((Fin.sum_univ_add (a := 1408) (b := 1408) _).trans ?_).symm
  refine congrArg₂ (· + ·) (Finset.sum_congr rfl fun j _ => ?_) (Finset.sum_congr rfl fun j _ => ?_)
  · have e : (Fin.castAdd 1408 j : Fin 2816) = lane (prev t) j := Fin.ext (by show j.val = 1408 * ((t.val - 1) % 2) + j.val; omega)
    rw [← e]
  · have e : (Fin.natAdd 1408 j : Fin 2816) = lane t j := Fin.ext (by show 1408 + j.val = 1408 * (t.val % 2) + j.val; omega)
    rw [← e]

theorem dx_odd (c : Dev nD) (t : Fin cfg0.N) (h : t.val % 2 = 1) : (outsAt0 m c t.val t.isLt).1 = k0_pay3 (F := Ideal) (iblk m c 5 t) (k0_pay9 (total m c t) (iblk m c 2 t) (iblk m c 3 t) (iblk m c 4 t)) (k0_pay10 (iblk m c 3 t)) := by
  by_cases h2 : t.val < 2
  · rw [outsAt0_B m c t (by omega) h h2]; frame_out; rw [carried]; rfl
  · rw [outsAt0_C m c t (by omega) h h2]; frame_out; rw [carried]; rfl

theorem final_dx (c : Dev nD) : (dats m 0 c).arrAt 6 (cfgs 0).N = val_main_v41 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  have h := (flush0_6 t).mp hf
  blk_simp
  rw [after0_6, dx_odd m c t h]
  idx_vars y
  refine (dx_at _ _ _ _ _ _ _ _ _ _ _ _ (row t y0) (total_at m c t h y0) (block_x m c t y0) (block_z m c t y0) (block_g m c t) _).trans ?_
  blk_ext [idx t]

/-- The second half's point of block `b`. -/
abbrev pt (b : Fin 8) : Fin cfg0.N := ⟨2 * b.val + 1, by have h : cfg0.N = 16 := N_0; omega⟩

theorem dg_first (c : Dev nD) (t : Fin cfg0.N) (h : t.val % 2 = 1) (h2 : t.val < 2) : (outsAt0 m c t.val t.isLt).2.1 = k0_pay8 (F := Ideal) (total m c t) (iblk m c 2 t) (iblk m c 3 t) (k0_pay5 (F := Ideal)) := by
  rw [outsAt0_B m c t (by omega) h h2]; frame_out; rw [carried]; rfl

theorem dg_next (c : Dev nD) (t : Fin cfg0.N) (h : t.val % 2 = 1) (h2 : ¬t.val < 2) :
    (outsAt0 m c t.val t.isLt).2.1 = k0_pay8 (F := Ideal) (total m c t) (iblk m c 2 t) (iblk m c 3 t) (outsAt0 m c (prev (prev t)).val (prev (prev t)).isLt).2.1 := by
  have e : (outsAt0 m c (prev t).val (prev t).isLt).2.1 = (outsAt0 m c (prev (prev t)).val (prev (prev t)).isLt).2.1 := by
    rw [outsAt0_A m c (prev t) (by dsimp only; omega) (by dsimp only; omega)]; rfl
  rw [outsAt0_C m c t (by omega) h h2]; frame_out; rw [carried]
  rw [← e]; rfl

/-- The rows of the blocks are the rows of the array. -/
theorem sum_rows (A : Fin 4096 → EReal) : ∑ b : Fin 8, ∑ r : Fin 512, A (row (pt b) r) = ∑ R : Fin 4096, A R :=
  Fin.sum_mul_add_congr fun b r hl => congrArg A (Fin.ext (by show 512 * ((2 * b.val + 1) / 2) + r.val = b.val * 512 + r.val; omega))

/-- The sum over the blocks so far, at the last one. -/
theorem dg_last (c : Dev nD) (l : Fin 1024) : (outsAt0 m c (pt 7).val (pt 7).isLt).2.1 (ix2 0 l)
    = val_main_v42 (F := Ideal) (m ((c : Thread nD τ).loc main_arg0)) (m ((c : Thread nD τ).loc main_arg1)) (m ((c : Thread nD τ).loc main_arg2)) (m ((c : Thread nD τ).loc main_arg3)) (ix2 0 l) := by
  refine (Pipeline.eq_sum_fin_of_reset_step_apply_last (M := EReal) (N := 8) (fun n h (l : Fin 1024) => (outsAt0 m c (pt ⟨n, h⟩).val (pt ⟨n, h⟩).isLt).2.1 (ix2 0 l)) 8 (fun _ => 0)
    (fun b l => ∑ r : Fin 512, val_main_v21 (F := Ideal) (m ((c : Thread nD τ).loc main_arg0)) (m ((c : Thread nD τ).loc main_arg1)) (m ((c : Thread nD τ).loc main_arg2)) (m ((c : Thread nD τ).loc main_arg3)) (ix2 (row (pt b) r) l))
    (fun b h l => ?_) (fun b h l => ?_) (le_refl _) 7 rfl l).trans ?_
  · rw [dg_first m c (pt b) (by dsimp only; omega) (by dsimp only; omega)]
    refine (dg_at _ _ _ _ _ _ _ _ (row (pt b)) (total_at m c (pt b) (by dsimp only; omega)) (block_x m c (pt b)) l).trans ?_
    rw [dg_zero_at]
  · rw [dg_next m c (pt b) (by dsimp only; omega) (by dsimp only; omega)]
    have e : prev (prev (pt b)) = pt ⟨b.val - 1, by omega⟩ := Fin.ext (by show 2 * b.val + 1 - 1 - 1 = 2 * (b.val - 1) + 1; omega)
    rw [e]
    exact dg_at _ _ _ _ _ _ _ _ (row (pt b)) (total_at m c (pt b) (by dsimp only; omega)) (block_x m c (pt b)) l
  · rw [zero_add, dg_whole]
    exact sum_rows fun R => val_main_v21 (F := Ideal) _ _ _ _ (ix2 R l)

theorem final_dg (c : Dev nD) : (dats m 0 c).arrAt 7 (cfgs 0).N = val_main_v42 (F := Ideal) (m ((c : Thread nD τ).loc main_arg0)) (m ((c : Thread nD τ).loc main_arg1))
    (m ((c : Thread nD τ).loc main_arg2)) (m ((c : Thread nD τ).loc main_arg3)) := by
  refine (dats m 0 c).arrAt_eq_of_covers 7 _ (by decide +kernel) fun t hf y => ?_
  have ht : t = pt 7 := Fin.ext (by have := (flush0_7 t).mp hf; have := t.isLt; have h : cfg0.N = 16 := N_0; show t.val = 15; omega)
  blk_simp
  idx_vars y
  obtain rfl : y0 = 0 := Subsingleton.elim _ _
  rw [after0_7]
  have e : (outsAt0 m c t.val t.isLt).2.1 (ix2 0 y1) = (outsAt0 m c (pt 7).val (pt 7).isLt).2.1 (ix2 0 y1) := by rw [ht]
  refine (e.trans (dg_last m c y1)).trans ?_
  blk_ext [idx t]

end Cert.Kernel10Ideal.FfnUp

namespace Cert.FfnUp

open Idealize.ShloMosaic Idealize.SL.Sem

theorem frame_reference : quiescent_Reference10Ideal := fun m g _ =>
  (θ_run Reference10Ideal.defs _ _).mono (fun r h => ⟨fun c => (h c).2.2, sem_eq_zero_of_no_sems (by decide) r.2⟩)
    (Reference10Ideal.Value.run (F := Ideal) m g)

theorem algebraic : algebraic_Kernel10Ideal_Reference10Ideal := by
  pair_intro
  · run_from Kernel10Ideal.Value.run_blocks m g
  · run_from Reference10Ideal.Value.run m' g'
    · refine (Reference10Ideal.Read.val_main_v41_eq m' c).trans ?_
      rw [(hagree c).1, (hagree c).2.1, (hagree c).2.2.1, (hagree c).2.2.2.1, (hagree c).2.2.2.2.1, (hagree c).2.2.2.2.2]
      exact (Kernel10Ideal.FfnUp.final_dx m c).symm
    · exact (Reference10Ideal.Read.val_main_v42_eq _ _ _ _).trans (Kernel10Ideal.FfnUp.final_dg m c).symm

end Cert.FfnUp

end
-- ==== Proof.InProj.lean ====
/-  The gradient of the block's input projection and of the norm before it (`_mm` with `rms`, four blocks of 1024 rows, the contraction of
    7168 lanes in four parts): what the kernel leaves in its two results, and that it is what the derivative computes. -/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import proofs.«01_k».proof.Proof.NormGrad
public import Idealize.ShloMosaic.Lib.Pipeline.ValueKit
public import Idealize.ShloMosaic.Lib.Claim

@[expose] public section

set_option maxRecDepth 16384

noncomputable section

namespace Cert.Kernel11Ideal.InProj

open Cert.Kernel11Ideal Cert.Kernel11Ideal.Gen Cert.Reference11Ideal.Read Idealize.ShloMosaic Idealize.ShloMosaic.TcCoe Idealize.SL.Sem
open Idealize.ShloMosaic.Pipeline (Dat)

variable (Q : FVec Ideal S4096x7168 .bf16) (W : FVec Ideal S1024x7168 .bf16) (X : FVec Ideal S4096x1024 .f32) (G : FVec Ideal S1024 .f32) (Z : FVec Ideal S4096x1024 .f32)

/-- The sum so far, and a part's products. -/
theorem part_at (a : FVec Ideal S1024x1024 .f32) (q : FVec Ideal S1024x1792 .bf16) (w : FVec Ideal S1792x1024 .bf16) (r : Fin 1024) (k : Fin 1024) :
    k0_pay2 (F := Ideal) a q w (ix2 r k) = a (ix2 r k) + ∑ j : Fin 1792, q (ix2 r j) * w (ix2 j k) := by
  pointwise [k0_pay2]

theorem zero_at (r : Fin 1024) (k : Fin 1024) : k0_pay1 (F := Ideal) (ix2 r k) = (0 : EReal) := by
  pointwise [k0_pay1]

theorem dg_zero_at (l : Fin 1024) : k0_pay3 (F := Ideal) (ix2 0 l) = (0 : EReal) := by
  pointwise [k0_pay3]

/-- The cotangent of the norm's output. -/
theorem dh_at (R : Fin 4096) (k : Fin 1024) : val_main_v19 (F := Ideal) Q W (ix2 R k) = ∑ j : Fin 7168, Q (ix2 R j) * W (ix2 k j) := by
  pointwise [val_main_v19, val_main_v0, val_main_v1]

/-- `dx` at row `r` of a block, its row `R` of the array; `a` is the finished sum of the products. -/
theorem dx_at (a x z : FVec Ideal S1024x1024 .f32) (g : FVec Ideal S1x1024 .f32) (r : Fin 1024) (R : Fin 4096)
    (hd : ∀ k, a (ix2 r k) = val_main_v19 (F := Ideal) Q W (ix2 R k)) (hx : ∀ k, x (ix2 r k) = X (ix2 R k)) (hz : ∀ k, z (ix2 r k) = Z (ix2 R k)) (hg : ∀ k, g (ix2 0 k) = G (ix1 k)) (l : Fin 1024) :
    k0_pay7 (F := Ideal) a x g z (ix2 r l) = val_main_v40 (F := Ideal) Q W X G Z (ix2 R l) := by
  unfold val_main_v40 val_main_v39 val_main_v38 val_main_v37 val_main_v36 val_main_v35 val_main_v34 val_main_v32 val_main_v31 val_main_v30 val_main_v28 val_main_v27 val_main_v26 val_main_v24
  generalize val_main_v19 (F := Ideal) Q W = D at hd ⊢
  pointwise [k0_pay4, k0_pay5, k0_pay7, val_main_v33, val_main_v29, val_main_v23, val_main_v15, val_main_v12, val_main_v11, val_main_v10, val_main_v9, val_main_v8, val_main_v7, val_main_v6, val_main_v5, val_main_v4, val_main_v3, val_main_v2, val_main_cst, val_main_cst_0, val_main_cst_1, val_main_cst_2, val_main_cst_5, val_main_cst_6, val_main_cst_7]
  obtain ⟨e, he, hE⟩ := Reals.ofBits_eps
  simp only [hd, hx, hz, hg, Finset.univ_unique, Finset.sum_singleton, Reals.ofBits_1024, Reals.ofBits_neg_half, hE, zero_add]
  rw [add_assoc, add_assoc]
  refine congrArg (Z (ix2 R l) + ·) ?_
  rw [← add_assoc]
  exact NormGrad.row (by norm_num) he (fun k => X (ix2 R k)) (fun k => D (ix2 R k) * G (ix1 k)) l

/-- A block's addition to `dg`. -/
theorem dg_at (a x : FVec Ideal S1024x1024 .f32) (s : FVec Ideal S1x1024 .f32) (R : Fin 1024 → Fin 4096)
    (hd : ∀ r k, a (ix2 r k) = val_main_v19 (F := Ideal) Q W (ix2 (R r) k)) (hx : ∀ r k, x (ix2 r k) = X (ix2 (R r) k)) (l : Fin 1024) :
    k0_pay6 (F := Ideal) a x s (ix2 0 l) = s (ix2 0 l) + ∑ r : Fin 1024, val_main_v20 (F := Ideal) Q W X (ix2 (R r) l) := by
  unfold val_main_v20
  generalize val_main_v19 (F := Ideal) Q W = D at hd ⊢
  pointwise [k0_pay6, k0_pay5, k0_pay4, val_main_v14, val_main_v13, val_main_v9, val_main_v8, val_main_v7, val_main_v6, val_main_v5, val_main_v4, val_main_v3, val_main_v2, val_main_cst, val_main_cst_0, val_main_cst_1]
  simp only [hd, hx, zero_add]
  refine congrArg (s (ix2 0 l) + ·) (Finset.sum_congr rfl fun r _ => ?_)
  rw [mul_comm]

theorem dg_whole (l : Fin 1024) : val_main_v41 (F := Ideal) Q W X (ix2 0 l) = ∑ R : Fin 4096, val_main_v20 (F := Ideal) Q W X (ix2 R l) := by
  unfold val_main_v41 val_main_v25 val_main_v22 val_main_v21
  generalize val_main_v20 (F := Ideal) Q W X = A
  pointwise [val_main_cst_3, val_main_cst_4]
  simp only [Finset.univ_unique, Finset.sum_singleton, zero_add]

variable (m : (ℓ : Loc nD τ sig) → Buf (Elt Ideal) ℓ)

theorem idx : ∀ t : Fin cfg0.N, win0_0.index t = ![t.val / 4, t.val % 4] ∧ win0_1.index t = ![t.val % 4, 0] ∧ win0_2.index t = ![t.val / 4, 0]
    ∧ win0_3.index t = ![0, 0] ∧ win0_4.index t = ![t.val / 4, 0] ∧ win0_5.index t = ![t.val / 4, 0] ∧ win0_6.index t = ![0, 0] :=
  (by decide +kernel : ∀ t : Fin grid0.N, _)

/-- Row `r` of point `t`'s block, lane `j` of its part. -/
abbrev row (t : Fin cfg0.N) (r : Fin 1024) : Fin 4096 := ⟨1024 * (t.val / 4) + r.val, by have := t.isLt; have h : cfg0.N = 16 := N_0; omega⟩
abbrev lane (t : Fin cfg0.N) (j : Fin 1792) : Fin 7168 := ⟨1792 * (t.val % 4) + j.val, by omega⟩

theorem block_q (c : Dev nD) (t : Fin cfg0.N) (r : Fin 1024) (j : Fin 1792) : (iblk m c 0 t : FVec Ideal S1024x1792 .bf16) (ix2 r j) = m ((c : Thread nD τ).loc main_arg0) (ix2 (row t r) (lane t j)) := by
  blk_ext! [iblk, V, idx t]
theorem block_w (c : Dev nD) (t : Fin cfg0.N) (j : Fin 1792) (k : Fin 1024) : (iblk m c 1 t : FVec Ideal S1792x1024 .bf16) (ix2 j k) = m ((c : Thread nD τ).loc main_arg1) (ix2 k (lane t j)) := by
  blk_simp [iblk, idx t]
  entry_read
  pointwise []
  blk_ext [idx t]
theorem block_x (c : Dev nD) (t : Fin cfg0.N) (r : Fin 1024) (k : Fin 1024) : (iblk m c 2 t : FVec Ideal S1024x1024 .f32) (ix2 r k) = m ((c : Thread nD τ).loc main_arg2) (ix2 (row t r) k) := by
  blk_ext! [iblk, V, idx t]
theorem block_z (c : Dev nD) (t : Fin cfg0.N) (r : Fin 1024) (k : Fin 1024) : (iblk m c 4 t : FVec Ideal S1024x1024 .f32) (ix2 r k) = m ((c : Thread nD τ).loc main_arg4) (ix2 (row t r) k) := by
  blk_ext! [iblk, V, idx t]
theorem block_g (c : Dev nD) (t : Fin cfg0.N) (l : Fin 1024) : (iblk m c 3 t : FVec Ideal S1x1024 .f32) (ix2 0 l) = m ((c : Thread nD τ).loc main_arg3) (ix1 l) := by
  blk_simp [iblk, idx t]
  entry_read
  pointwise []
  blk_ext [idx t]

/-- The scratch is read whole. -/
theorem carried (h : (Memref.whole cc0_scratch0).IsWhole) (A : Vec Ideal S1024x1024 .f32) : View.read (Elt Ideal) (View.whole cc0_scratch0) (h.unread A) = A :=
  h.read_unread A

/-- The point before. -/
abbrev prev (t : Fin cfg0.N) : Fin cfg0.N := ⟨t.val - 1, Nat.lt_of_le_of_lt (Nat.sub_le _ _) t.isLt⟩

theorem sum_first (c : Dev nD) (t : Fin cfg0.N) (h : t.val % 4 = 0) : (outsAt0 m c t.val t.isLt).2.2 = k0_pay2 (F := Ideal) (k0_pay1 (F := Ideal)) (iblk m c 0 t) (iblk m c 1 t) := by
  rw [outsAt0_A m c t h (by omega)]; frame_out

theorem sum_next (c : Dev nD) (t : Fin cfg0.N) (h : ¬t.val % 4 = 0) :
    (outsAt0 m c t.val t.isLt).2.2 = k0_pay2 (F := Ideal) (outsAt0 m c (prev t).val (prev t).isLt).2.2 (iblk m c 0 t) (iblk m c 1 t) := by
  by_cases h1 : t.val % 4 = 3
  · by_cases h2 : t.val < 4
    · rw [outsAt0_C m c t h h1 h2]; frame_out; rw [carried]
    · rw [outsAt0_D m c t h h1 h2]; frame_out; rw [carried]
  · rw [outsAt0_B m c t h h1]; frame_out; rw [carried]

/-- A point's products. -/
def part (t : Fin cfg0.N) (r k : Fin 1024) : EReal := ∑ j : Fin 1792, Q (ix2 (row t r) (lane t j)) * W (ix2 k (lane t j))

theorem part_block (c : Dev nD) (t : Fin cfg0.N) (a : FVec Ideal S1024x1024 .f32) (r k : Fin 1024) : k0_pay2 (F := Ideal) a (iblk m c 0 t) (iblk m c 1 t) (ix2 r k)
    = a (ix2 r k) + part (m ((c : Thread nD τ).loc main_arg0)) (m ((c : Thread nD τ).loc main_arg1)) t r k := by
  rw [part_at]
  simp only [block_q, block_w]
  rfl

/-- The finished sum. -/
theorem total_at (c : Dev nD) (t : Fin cfg0.N) (h : t.val % 4 = 3) (r : Fin 1024) (k : Fin 1024) : (outsAt0 m c t.val t.isLt).2.2 (ix2 r k)
    = val_main_v19 (F := Ideal) (m ((c : Thread nD τ).loc main_arg0)) (m ((c : Thread nD τ).loc main_arg1)) (ix2 (row t r) k) := by
  refine (Pipeline.eq_sum_fin_of_reset_step_apply_of_flush (M := EReal) (fun n h (_ : Unit) => (outsAt0 m c n h).2.2 (ix2 r k)) 4 (fun _ => 0)
    (fun t _ => part (m ((c : Thread nD τ).loc main_arg0)) (m ((c : Thread nD τ).loc main_arg1)) t r k) (fun t h _ => ?_) (fun t h _ => ?_) t h ()).trans ?_
  · rw [sum_first m c t h, part_block, zero_at]
  · rw [sum_next m c t h, part_block]
  · rw [zero_add, dh_at]
    refine Fin.sum_mul_add_congr fun s j hl => ?_
    have hs := s.isLt
    have e1 : row ⟨4 * (t.val / 4) + s.val, Pipeline.run_point_lt_of_flush t h s⟩ r = row t r := Fin.ext (by show 1024 * ((4 * (t.val / 4) + s.val) / 4) + r.val = 1024 * (t.val / 4) + r.val; omega)
    have e2 : lane ⟨4 * (t.val / 4) + s.val, Pipeline.run_point_lt_of_flush t h s⟩ j = ⟨s.val * 1792 + j.val, hl⟩ := Fin.ext (by show 1792 * ((4 * (t.val / 4) + s.val) % 4) + j.val = s.val * 1792 + j.val; omega)
    rw [e1, e2]

theorem dx_last (c : Dev nD) (t : Fin cfg0.N) (h : t.val % 4 = 3) : (outsAt0 m c t.val t.isLt).1 = k0_pay7 (F := Ideal) (outsAt0 m c t.val t.isLt).2.2 (iblk m c 2 t) (iblk m c 3 t) (iblk m c 4 t) := by
  rw [sum_next m c t (by omega)]
  by_cases h2 : t.val < 4
  · rw [outsAt0_C m c t (by omega) h h2]; frame_out; rw [carried]
  · rw [outsAt0_D m c t (by omega) h h2]; frame_out; rw [carried]

theorem final_dx (c : Dev nD) : (dats m 0 c).arrAt 5 (cfgs 0).N = val_main_v40 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  have h := (flush0_5 t).mp hf
  blk_simp
  rw [after0_5, dx_last m c t h]
  idx_vars y
  refine (dx_at _ _ _ _ _ _ _ _ _ _ (row t y0) (total_at m c t h y0) (block_x m c t y0) (block_z m c t y0) (block_g m c t) _).trans ?_
  blk_ext [idx t]

/-- The last part's point of block `b`. -/
abbrev pt (b : Fin 4) : Fin cfg0.N := ⟨4 * b.val + 3, by have h : cfg0.N = 16 := N_0; omega⟩

theorem dg_first (c : Dev nD) (t : Fin cfg0.N) (h : t.val % 4 = 3) (h2 : t.val < 4) : (outsAt0 m c t.val t.isLt).2.1 = k0_pay6 (F := Ideal) (outsAt0 m c t.val t.isLt).2.2 (iblk m c 2 t) (k0_pay3 (F := Ideal)) := by
  rw [sum_next m c t (by omega), outsAt0_C m c t (by omega) h h2]; frame_out; rw [carried]

/-- Until a block's last part `dg` stays. -/
theorem dg_kept (c : Dev nD) (t : Fin cfg0.N) (h : ¬t.val % 4 = 3) : (outsAt0 m c t.val t.isLt).2.1 = (outsAt0 m c (prev t).val (prev t).isLt).2.1 := by
  by_cases h0 : t.val % 4 = 0
  · rw [outsAt0_A m c t h0 h]; rfl
  · rw [outsAt0_B m c t h0 h]; rfl

theorem dg_next (c : Dev nD) (t : Fin cfg0.N) (h : t.val % 4 = 3) (h2 : ¬t.val < 4) :
    (outsAt0 m c t.val t.isLt).2.1 = k0_pay6 (F := Ideal) (outsAt0 m c t.val t.isLt).2.2 (iblk m c 2 t) (outsAt0 m c (prev (prev (prev (prev t)))).val (prev (prev (prev (prev t)))).isLt).2.1 := by
  have e := (dg_kept m c (prev t) (by dsimp only; omega)).trans ((dg_kept m c (prev (prev t)) (by dsimp only; omega)).trans (dg_kept m c (prev (prev (prev t))) (by dsimp only; omega)))
  rw [sum_next m c t (by omega), outsAt0_D m c t (by omega) h h2]; frame_out; rw [carried, ← e]

/-- The rows of the blocks are the rows of the array. -/
theorem sum_rows (A : Fin 4096 → EReal) : ∑ b : Fin 4, ∑ r : Fin 1024, A (row (pt b) r) = ∑ R : Fin 4096, A R :=
  Fin.sum_mul_add_congr fun b r hl => congrArg A (Fin.ext (by show 1024 * ((4 * b.val + 3) / 4) + r.val = b.val * 1024 + r.val; omega))

/-- The sum over the blocks, at the last one. -/
theorem dg_last (c : Dev nD) (l : Fin 1024) : (outsAt0 m c (pt 3).val (pt 3).isLt).2.1 (ix2 0 l)
    = val_main_v41 (F := Ideal) (m ((c : Thread nD τ).loc main_arg0)) (m ((c : Thread nD τ).loc main_arg1)) (m ((c : Thread nD τ).loc main_arg2)) (ix2 0 l) := by
  refine (Pipeline.eq_sum_fin_of_reset_step_apply_last (M := EReal) (N := 4) (fun n h (l : Fin 1024) => (outsAt0 m c (pt ⟨n, h⟩).val (pt ⟨n, h⟩).isLt).2.1 (ix2 0 l)) 4 (fun _ => 0)
    (fun b l => ∑ r : Fin 1024, val_main_v20 (F := Ideal) (m ((c : Thread nD τ).loc main_arg0)) (m ((c : Thread nD τ).loc main_arg1)) (m ((c : Thread nD τ).loc main_arg2)) (ix2 (row (pt b) r) l))
    (fun b h l => ?_) (fun b h l => ?_) (le_refl _) 3 rfl l).trans ?_
  · rw [dg_first m c (pt b) (by dsimp only; omega) (by dsimp only; omega)]
    refine (dg_at _ _ _ _ _ _ (row (pt b)) (total_at m c (pt b) (by dsimp only; omega)) (block_x m c (pt b)) l).trans ?_
    rw [dg_zero_at]
  · rw [dg_next m c (pt b) (by dsimp only; omega) (by dsimp only; omega)]
    have e : prev (prev (prev (prev (pt b)))) = pt ⟨b.val - 1, by omega⟩ := Fin.ext (by show 4 * b.val + 3 - 1 - 1 - 1 - 1 = 4 * (b.val - 1) + 3; omega)
    rw [e]
    exact dg_at _ _ _ _ _ _ (row (pt b)) (total_at m c (pt b) (by dsimp only; omega)) (block_x m c (pt b)) l
  · rw [zero_add, dg_whole]
    exact sum_rows fun R => val_main_v20 (F := Ideal) _ _ _ (ix2 R l)

theorem final_dg (c : Dev nD) : (dats m 0 c).arrAt 6 (cfgs 0).N = val_main_v41 (F := Ideal) (m ((c : Thread nD τ).loc main_arg0)) (m ((c : Thread nD τ).loc main_arg1))
    (m ((c : Thread nD τ).loc main_arg2)) := by
  refine (dats m 0 c).arrAt_eq_of_covers 6 _ (by decide +kernel) fun t hf y => ?_
  have ht : t = pt 3 := Fin.ext (by have := (flush0_6 t).mp hf; have := t.isLt; have h : cfg0.N = 16 := N_0; show t.val = 15; omega)
  blk_simp
  idx_vars y
  obtain rfl : y0 = 0 := Subsingleton.elim _ _
  rw [after0_6]
  have e : (outsAt0 m c t.val t.isLt).2.1 (ix2 0 y1) = (outsAt0 m c (pt 3).val (pt 3).isLt).2.1 (ix2 0 y1) := by rw [ht]
  refine (e.trans (dg_last m c y1)).trans ?_
  blk_ext [idx t]

end Cert.Kernel11Ideal.InProj

namespace Cert.InProj

open Idealize.ShloMosaic Idealize.SL.Sem

theorem frame_reference : quiescent_Reference11Ideal := fun m g _ =>
  (θ_run Reference11Ideal.defs _ _).mono (fun r h => ⟨fun c => (h c).2.2, sem_eq_zero_of_no_sems (by decide) r.2⟩)
    (Reference11Ideal.Value.run (F := Ideal) m g)

theorem algebraic : algebraic_Kernel11Ideal_Reference11Ideal := by
  pair_intro
  · run_from Kernel11Ideal.Value.run_blocks m g
  · run_from Reference11Ideal.Value.run m' g'
    · refine (Reference11Ideal.Read.val_main_v40_eq m' c).trans ?_
      rw [(hagree c).1, (hagree c).2.1, (hagree c).2.2.1, (hagree c).2.2.2.1, (hagree c).2.2.2.2]
      exact (Kernel11Ideal.InProj.final_dx m c).symm
    · exact (Reference11Ideal.Read.val_main_v41_eq _ _ _).trans (Kernel11Ideal.InProj.final_dg m c).symm

end Cert.InProj

end
-- ==== Proof.FfnBwd.lean ====
/-  The gradient through the gated product of the feed-forward layer (`_ffn_in_bwd` at [4096, 2816], four by two blocks
    of [1024, 1408]): what the kernel leaves in its two results, and that it is what the derivative computes wherever
    the gradient of the product and the linear factor are finite. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.Reals
public import Idealize.ShloMosaic.Lib.Pipeline.ValueKit
public import Idealize.ShloMosaic.Lib.Claim

@[expose] public section

set_option maxRecDepth 16384

noncomputable section

namespace Cert.Kernel7Ideal.FfnBwd

open Cert.Kernel7Ideal Cert.Kernel7Ideal.Gen Cert.Reference7Ideal.Read Idealize.ShloMosaic Idealize.ShloMosaic.TcCoe Idealize.SL.Sem
open Idealize.ShloMosaic.Pipeline (Dat)

variable (Dx : FVec Ideal S4096x1024 .f32) (H : FVec Ideal S4096x1024 .bf16) (Wg Wu : FVec Ideal S1024x2816 .bf16) (Wd : FVec Ideal S2816x1024 .bf16)

section Pre
variable [Pre_finite_ffn.Facts] (h : Pre_finite_ffn.fn (F := Ideal) Dx H Wg Wu Wd = fun _ => 1#1)
include h

theorem finite_dx (r : Fin 4096) (k : Fin 1024) : ∃ x : ℝ, Dx (ix2 r k) = (x : EReal) := by
  have e := congrFun h (ix2 (⟨r.val, by omega⟩ : Fin 13824) k)
  unfold Pre_finite_ffn.fn at e
  dsimp only at e
  refine Reals.real_of_olt (Eq.trans ?_ e)
  pointwise []
  rfl

theorem finite_h (r : Fin 4096) (k : Fin 1024) : ∃ x : ℝ, H (ix2 r k) = (x : EReal) := by
  have e := congrFun h (ix2 (⟨4096 + r.val, by omega⟩ : Fin 13824) k)
  unfold Pre_finite_ffn.fn at e
  dsimp only at e
  refine Reals.real_of_olt (Eq.trans ?_ e)
  pointwise []
  rfl

theorem finite_wu (k : Fin 1024) (l : Fin 2816) : ∃ x : ℝ, Wu (ix2 k l) = (x : EReal) := by
  have e := congrFun h (ix2 (⟨8192 + l.val, by omega⟩ : Fin 13824) k)
  unfold Pre_finite_ffn.fn at e
  dsimp only at e
  refine Reals.real_of_olt (Eq.trans ?_ e)
  pointwise []
  rw [dif_neg (by omega), dif_neg (by omega), dif_pos (by omega)]
  simp only [show 8192 + l.val - 4096 - 4096 = l.val by omega]
  rfl

theorem finite_wd (l : Fin 2816) (k : Fin 1024) : ∃ x : ℝ, Wd (ix2 l k) = (x : EReal) := by
  have e := congrFun h (ix2 (⟨11008 + l.val, by omega⟩ : Fin 13824) k)
  unfold Pre_finite_ffn.fn at e
  dsimp only at e
  refine Reals.real_of_olt (Eq.trans ?_ e)
  pointwise []
  rw [dif_neg (by omega), dif_neg (by omega), dif_neg (by omega)]
  simp only [show 11008 + l.val - 4096 - 4096 - 2816 = l.val by omega]
  rfl

/-- The gradient of the gated product times the linear factor is finite. -/
theorem finite_y (r : Fin 4096) (l : Fin 2816) :
    ∃ y : ℝ, val_main_v9 (F := Ideal) Dx Wd (ix2 r l) * val_main_v5 (F := Ideal) H Wu (ix2 r l) = (y : EReal) := by
  obtain ⟨d, hd⟩ := Reals.exists_reals (finite_dx Dx H Wg Wu Wd h r)
  obtain ⟨w, hw⟩ := Reals.exists_reals (finite_wd Dx H Wg Wu Wd h l)
  obtain ⟨x, hx⟩ := Reals.exists_reals (finite_h Dx H Wg Wu Wd h r)
  obtain ⟨u, hu⟩ := Reals.exists_reals fun k => finite_wu Dx H Wg Wu Wd h k l
  pointwise [val_main_v9, val_main_v5, val_main_v0, val_main_v2, val_main_v3]
  simp only [congrFun hd _, congrFun hw _, congrFun hx _, congrFun hu _, ← EReal.coe_mul, Reals.sum_coe]
  exact ⟨_, rfl⟩

end Pre

/-- The derivative of `a · σ(a)` times a real `y`, in the kernel's factoring and in the derivative's. -/
theorem gate (a : EReal) (y : ℝ) : (y : EReal) * (Ideal.div 1 (1 + Ideal.exp (-a)) + a * Ideal.div 1 (1 + Ideal.exp (-a)) * (1 - Ideal.div 1 (1 + Ideal.exp (-a))))
    = (y : EReal) * Ideal.div 1 (1 + Ideal.exp (-a)) + a * (y : EReal) * (Ideal.div 1 (1 + Ideal.exp (-a)) * (1 - Ideal.div 1 (1 + Ideal.exp (-a)))) := by
  have one : ((1 : ℝ) : EReal) = 1 := rfl
  induction a using EReal.rec with
  | bot =>
    have hs : Ideal.div 1 (1 + Ideal.exp (-⊥)) = 0 := by
      rw [EReal.neg_bot, show Ideal.exp ⊤ = ⊤ from rfl, ← one, EReal.coe_add_top]
      simp [Ideal.div]
    rw [hs]; simp
  | top =>
    have hs : Ideal.div 1 (1 + Ideal.exp (-⊤)) = 1 := by
      rw [EReal.neg_top, show Ideal.exp ⊥ = 0 from rfl, add_zero]
      simp [Ideal.div]
    have z : (1 : EReal) - 1 = 0 := by rw [← one, ← EReal.coe_sub, sub_self]; rfl
    rw [hs, z]; simp
  | coe x =>
    have pos : (1 : ℝ) + Real.exp (-x) ≠ 0 := (add_pos one_pos (Real.exp_pos _)).ne'
    obtain ⟨s, hs⟩ : ∃ s : ℝ, Ideal.div 1 (1 + Ideal.exp (-(x : EReal))) = (s : EReal) := ⟨1 / (1 + Real.exp (-x)), by
      rw [← EReal.coe_neg, Ideal.exp_coe, ← one, ← EReal.coe_add, Reals.div_coe_coe 1 pos]⟩
    rw [hs, ← one]
    simp only [← EReal.coe_mul, ← EReal.coe_sub, ← EReal.coe_add]
    congr 1
    ring

/-- `da` at a point of a block. -/
theorem da_at (x : FVec Ideal S1024x1024 .f32) (w : FVec Ideal S1408x1024 .bf16) (a b : FVec Ideal S1024x1408 .bf16) (r : Fin 1024) (l : Fin 1408) (R : Fin 4096) (L : Fin 2816)
    (hx : ∀ k, x (ix2 r k) = Dx (ix2 R k)) (hw : ∀ k, w (ix2 l k) = Wd (ix2 L k))
    (ha : a (ix2 r l) = val_main_v4 (F := Ideal) H Wg (ix2 R L)) (hb : b (ix2 r l) = val_main_v5 (F := Ideal) H Wu (ix2 R L))
    (hy : ∃ y : ℝ, val_main_v9 (F := Ideal) Dx Wd (ix2 R L) * val_main_v5 (F := Ideal) H Wu (ix2 R L) = (y : EReal)) :
    k0_pay5 (F := Ideal) x w a b (ix2 r l) = val_main_v13 (F := Ideal) Dx H Wg Wu Wd (ix2 R L) := by
  have hd : k0_pay1 (F := Ideal) x w (ix2 r l) = val_main_v9 (F := Ideal) Dx Wd (ix2 R L) := by
    pointwise [k0_pay1, val_main_v9, val_main_v3]
    simp only [hx, hw, zero_add]
  unfold val_main_v13 val_main_v12 val_main_call1_v2 val_main_call1_v1 val_main_call1_v0 val_main_v11 val_main_v6_1 val_main_call0_v7 val_main_v6_2 val_main_call0_v3 val_main_call0_v1 val_main_call0_v0 k0_pay5 k0_pay4 k0_pay3 k0_pay2
  generalize val_main_v9 (F := Ideal) Dx Wd = D at hd hy ⊢
  generalize val_main_v4 (F := Ideal) H Wg = A at ha ⊢
  generalize val_main_v5 (F := Ideal) H Wu = B at hb hy ⊢
  generalize k0_pay1 (F := Ideal) x w = d at hd ⊢
  obtain ⟨y, hy⟩ := hy
  pointwise [val_main_call0_v2, val_main_call0_v4, val_main_call0_v6, val_main_call0_cst, val_main_call0_cst_0, val_main_call0_cst_1]
  rw [hd, ha, hb, hy, zero_sub]
  exact gate _ y

/-- `db` at a point of a block. -/
theorem db_at (x : FVec Ideal S1024x1024 .f32) (w : FVec Ideal S1408x1024 .bf16) (a : FVec Ideal S1024x1408 .bf16) (r : Fin 1024) (l : Fin 1408) (R : Fin 4096) (L : Fin 2816)
    (hx : ∀ k, x (ix2 r k) = Dx (ix2 R k)) (hw : ∀ k, w (ix2 l k) = Wd (ix2 L k))
    (ha : a (ix2 r l) = val_main_v4 (F := Ideal) H Wg (ix2 R L)) :
    k0_pay6 (F := Ideal) x w a (ix2 r l) = val_main_v14 (F := Ideal) Dx H Wg Wd (ix2 R L) := by
  unfold val_main_v14 val_main_v10 val_main_v6_0 val_main_v6_2 val_main_call0_v3 val_main_call0_v1 val_main_call0_v0 k0_pay6 k0_pay4 k0_pay3 k0_pay2
  generalize val_main_v4 (F := Ideal) H Wg = A at ha ⊢
  pointwise [k0_pay1, val_main_v9, val_main_v3, val_main_call0_v2, val_main_call0_v4, val_main_call0_cst, val_main_call0_cst_0]
  simp only [hx, hw, ha, zero_add, zero_sub]
  rw [mul_comm]

variable (m : (ℓ : Loc nD τ sig) → Buf (Elt Ideal) ℓ)

theorem idx : ∀ t : Fin cfg0.N, win0_0.index t = ![t.val / 2, 0] ∧ win0_1.index t = ![t.val % 2, 0] ∧ win0_2.index t = ![t.val / 2, t.val % 2] ∧ win0_3.index t = ![t.val / 2, t.val % 2]
    ∧ win0_4.index t = ![t.val / 2, t.val % 2] ∧ win0_5.index t = ![t.val / 2, t.val % 2] :=
  (by decide +kernel : ∀ t : Fin grid0.N, _)

/-- Row `r` of block `t`. -/
abbrev row (t : Fin cfg0.N) (r : Fin 1024) : Fin 4096 := ⟨1024 * (t.val / 2) + r.val, by have := t.isLt; have h : cfg0.N = 8 := N_0; omega⟩
/-- Column `l` of block `t`. -/
abbrev col (t : Fin cfg0.N) (l : Fin 1408) : Fin 2816 := ⟨1408 * (t.val % 2) + l.val, by omega⟩

theorem block_x (c : Dev nD) (t : Fin cfg0.N) (r k : Fin 1024) : (iblk m c 0 t : FVec Ideal S1024x1024 .f32) (ix2 r k) = m ((c : Thread nD τ).loc main_arg0) (ix2 (row t r) k) := by
  blk_ext! [iblk, V, idx t]
theorem block_w (c : Dev nD) (t : Fin cfg0.N) (l : Fin 1408) (k : Fin 1024) : (iblk m c 1 t : FVec Ideal S1408x1024 .bf16) (ix2 l k) = m ((c : Thread nD τ).loc main_arg4) (ix2 (col t l) k) := by
  blk_ext! [iblk, V, idx t]
theorem block_a (c : Dev nD) (t : Fin cfg0.N) (r : Fin 1024) (l : Fin 1408) : (iblk m c 2 t : FVec Ideal S1024x1408 .bf16) (ix2 r l)
    = val_main_v4 (F := Ideal) (m ((c : Thread nD τ).loc main_arg1)) (m ((c : Thread nD τ).loc main_arg2)) (ix2 (row t r) (col t l)) := by
  blk_simp [iblk, idx t]
  entry_read
  pointwise [val_main_v4, val_main_v0, val_main_v1]
  refine Finset.sum_congr (M := EReal) rfl fun k _ => congrArg₂ (fun p q : EReal => p * q) ?_ ?_ <;> blk_ext [idx t]
theorem block_b (c : Dev nD) (t : Fin cfg0.N) (r : Fin 1024) (l : Fin 1408) : (iblk m c 3 t : FVec Ideal S1024x1408 .bf16) (ix2 r l)
    = val_main_v5 (F := Ideal) (m ((c : Thread nD τ).loc main_arg1)) (m ((c : Thread nD τ).loc main_arg3)) (ix2 (row t r) (col t l)) := by
  blk_simp [iblk, idx t]
  entry_read
  pointwise [val_main_v5, val_main_v0, val_main_v2]
  refine Finset.sum_congr (M := EReal) rfl fun k _ => congrArg₂ (fun p q : EReal => p * q) ?_ ?_ <;> blk_ext [idx t]

theorem final_db (c : Dev nD) : (dats m 0 c).arrAt 5 (cfgs 0).N = val_main_v14 (F := Ideal) (m ((c : Thread nD τ).loc main_arg0)) (m ((c : Thread nD τ).loc main_arg1))
    (m ((c : Thread nD τ).loc main_arg2)) (m ((c : Thread nD τ).loc main_arg4)) := by
  refine (dats m 0 c).arrAt_eq_of_covers 5 _ (by decide +kernel) fun t hf y => ?_
  blk_simp
  rw [after0_5]
  unfold out0_5
  frame_out
  idx_vars y
  refine (db_at _ _ _ _ _ _ _ _ _ (row t y0) (col t y1) (block_x m c t y0) (block_w m c t y1) (block_a m c t y0 y1)).trans ?_
  blk_ext [idx t]

theorem final_da [Pre_finite_ffn.Facts] (c : Dev nD) (h : Pre_finite_ffn.fn (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = fun _ => 1#1) :
    (dats m 0 c).arrAt 4 (cfgs 0).N = val_main_v13 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 4 _ (by decide +kernel) fun t hf y => ?_
  blk_simp
  rw [after0_4]
  unfold out0_4
  frame_out
  idx_vars y
  refine (da_at _ _ _ _ _ _ _ _ _ _ _ (row t y0) (col t y1) (block_x m c t y0) (block_w m c t y1) (block_a m c t y0 y1) (block_b m c t y0 y1) (finite_y _ _ _ _ _ h _ _)).trans ?_
  blk_ext [idx t]

end Cert.Kernel7Ideal.FfnBwd

namespace Cert.FfnBwd

open Idealize.ShloMosaic Idealize.SL.Sem

theorem frame_reference : quiescent_Reference7Ideal := fun m g _ =>
  (θ_run Reference7Ideal.defs _ _).mono (fun r h => ⟨fun c => (h c).2.2, sem_eq_zero_of_no_sems (by decide) r.2⟩)
    (Reference7Ideal.Value.run (F := Ideal) m g)

theorem algebraic [Pre_finite_ffn.Facts] : algebraic_Kernel7Ideal_Reference7Ideal_pre_finite_ffn := by
  pair_intro
  · run_from Kernel7Ideal.Value.run_blocks m g
  · run_from Reference7Ideal.Value.run m' g'
    · exact (Reference7Ideal.Read.val_main_v13_eq _ _ _ _ _).trans (Kernel7Ideal.FfnBwd.final_da m c (hpre c)).symm
    · exact (Reference7Ideal.Read.val_main_v14_eq _ _ _ _).trans (Kernel7Ideal.FfnBwd.final_db m c).symm

end Cert.FfnBwd

end
-- ==== Proof.MergeBwd.lean ====
/-  The gradient through the gated sum of the three branches (`_merge_bwd` at [4096, 1024], sixteen blocks of 256 rows):
    what the kernel leaves in its seven results, and that it is what the derivative computes. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Claim

@[expose] public section

set_option maxRecDepth 16384

noncomputable section

namespace Cert.Kernel5Ideal.MergeBwd

open Cert.Kernel5Ideal Cert.Kernel5Ideal.Gen Cert.Reference5Ideal.Read Idealize.ShloMosaic Idealize.ShloMosaic.TcCoe Idealize.SL.Sem
open Idealize.ShloMosaic.Pipeline (Dat)

variable (Dm : FVec Ideal S4096x1024 .f32) (Ya Yb Yc : FVec Ideal S4096x512 .bf16) (W : FVec Ideal S3x512x1024 .bf16) (P : FVec Ideal S4096x7168 .f32)

/-- The sigmoid of a gate. -/
def gate (x : EReal) : EReal := Ideal.div 1 (1 + Ideal.exp (-x))

theorem ref_sig (R : Fin 4096) (n : Fin 3) (l : Fin 1024) : val_main_v17 (F := Ideal) P (ix3 R n l) = gate (P (ix2 R ⟨4096 + (n.val * 1024 + l.val), by omega⟩)) := by
  pointwise [val_main_v17, val_main_v16, val_main_v15, val_main_v14, val_main_v13, val_main_v12, val_main_v11, val_main_v10, val_main_cst, val_main_cst_0]
  rfl

theorem ref_dbrd (R : Fin 4096) (n : Fin 3) (l : Fin 1024) : val_main_v24 (F := Ideal) Dm P (ix3 R n l) = val_main_v17 (F := Ideal) P (ix3 R n l) * Dm (ix2 R l) := by
  pointwise [val_main_v24, val_main_v23]

theorem ref_dgates (R : Fin 4096) (n : Fin 3) (l : Fin 1024) (C : Fin 3072) (hC : C.val = n.val * 1024 + l.val) : val_main_v38 (F := Ideal) Dm Ya Yb Yc W P (ix2 R C)
    = Dm (ix2 R l) * val_main_v9 (F := Ideal) Ya Yb Yc W (ix3 R n l) * val_main_v17 (F := Ideal) P (ix3 R n l) * (1 - val_main_v17 (F := Ideal) P (ix3 R n l)) := by
  have hlt : n.val * 1024 + l.val < 3072 := by omega
  obtain rfl : C = ⟨_, hlt⟩ := Fin.ext hC
  unfold val_main_v38 val_main_v27 val_main_v26 val_main_v25 val_main_v23 val_main_v20 val_main_v19
  generalize val_main_v9 (F := Ideal) Ya Yb Yc W = B
  generalize val_main_v17 (F := Ideal) P = S
  pointwise [val_main_v18, val_main_cst_1]
  rw [mul_assoc, mul_assoc, mul_assoc]

/-- The three branches' inputs by number. -/
def input (n : Fin 3) : FVec Ideal S4096x512 .bf16 := ![Ya, Yb, Yc] n

theorem ref_brd (R : Fin 4096) (n : Fin 3) (l : Fin 1024) : val_main_v9 (F := Ideal) Ya Yb Yc W (ix3 R n l) = ∑ k : Fin 512, input Ya Yb Yc n (ix2 R k) * W (ix3 n k l) := by
  rcases (by decide : ∀ n : Fin 3, n = 0 ∨ n = 1 ∨ n = 2) n with rfl | rfl | rfl <;>
  · pointwise [val_main_v9, val_main_v8, val_main_v7, val_main_v6, val_main_v5, val_main_v4, val_main_v3, val_main_v2, val_main_v1, val_main_v0]
    exact Finset.sum_congr rfl fun k _ => mul_comm _ _

theorem ref_dy (R : Fin 4096) (n : Fin 3) (l : Fin 512) : val_main_v30 (F := Ideal) Dm W P (ix3 R n l) = ∑ k : Fin 1024, val_main_v24 (F := Ideal) Dm P (ix3 R n k) * W (ix3 n l k) := by
  unfold val_main_v30 val_main_v29 val_main_v28
  generalize val_main_v24 (F := Ideal) Dm P = D
  pointwise [val_main_v3]

section Block
variable (x g : FVec Ideal S256x1024 .f32) (y : FVec Ideal S256x512 .bf16) (w : FVec Ideal S1x512x1024 .bf16)

theorem dbrd_at (r : Fin 256) (l : Fin 1024) : k0_pay6 (F := Ideal) x g (ix2 r l) = gate (g (ix2 r l)) * x (ix2 r l) := by
  pointwise [k0_pay6, k0_pay5]
  rw [zero_sub]
  rfl

theorem dy_at (r : Fin 256) (j : Fin 512) (n : Fin 3) (hw : ∀ k, w (ix3 0 j k) = W (ix3 n j k)) :
    k0_pay8 (F := Ideal) x g w (ix2 r j) = ∑ k : Fin 1024, gate (g (ix2 r k)) * x (ix2 r k) * W (ix3 n j k) := by
  unfold k0_pay8
  have e := fun k => dbrd_at x g r k
  generalize k0_pay6 (F := Ideal) x g = D at e ⊢
  pointwise []
  simp only [e, hw, zero_add]

theorem dgate_at (r : Fin 256) (l : Fin 1024) (n : Fin 3) (hw : ∀ k, w (ix3 0 k l) = W (ix3 n k l)) : k0_pay7 (F := Ideal) x y w g (ix2 r l)
    = x (ix2 r l) * (∑ k : Fin 512, y (ix2 r k) * W (ix3 n k l)) * gate (g (ix2 r l)) * (1 - gate (g (ix2 r l))) := by
  pointwise [k0_pay7, k0_pay5]
  simp only [hw, zero_add, zero_sub]
  rfl

theorem pay10_eq : k0_pay10 (F := Ideal) x g = k0_pay6 (F := Ideal) x g := rfl
theorem pay2_eq : k0_pay2 (F := Ideal) x g = k0_pay6 (F := Ideal) x g := rfl
theorem pay11_eq : k0_pay11 (F := Ideal) x y w g = k0_pay7 (F := Ideal) x y w g := rfl
theorem pay3_eq : k0_pay3 (F := Ideal) x (k0_pay13 y w) g = k0_pay7 (F := Ideal) x y w g := rfl
theorem pay12_eq : k0_pay12 (F := Ideal) x g w = k0_pay8 (F := Ideal) x g w := rfl
theorem pay4_eq : k0_pay4 (F := Ideal) x g w = k0_pay8 (F := Ideal) x g w := rfl

end Block

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0]
    ∧ win0_4.index t = ![0, 0, 0] ∧ win0_5.index t = ![t.val, 4] ∧ win0_6.index t = ![t.val, 5] ∧ win0_7.index t = ![t.val, 6]
    ∧ win0_8.index t = ![t.val, 0] ∧ win0_9.index t = ![t.val, 0] ∧ win0_10.index t = ![t.val, 0] ∧ win0_11.index t = ![t.val, 0] ∧ win0_12.index t = ![t.val, 0]
    ∧ win0_13.index t = ![t.val, 0] ∧ win0_14.index t = ![t.val, 0] :=
  (by decide +kernel : ∀ t : Fin grid0.N, _)

/-- Row `r` of block `t`. -/
abbrev row (t : Fin cfg0.N) (r : Fin 256) : Fin 4096 := ⟨256 * t.val + r.val, by have := t.isLt; have h : cfg0.N = 16 := N_0; omega⟩

/-- Column `k` of gate `n`. -/
abbrev col (n : Fin 3) (k : Fin 1024) : Fin 7168 := ⟨4096 + (n.val * 1024 + k.val), by omega⟩

theorem block_dm (c : Dev nD) (t : Fin cfg0.N) (r : Fin 256) (k : Fin 1024) : (iblk m c 0 t : FVec Ideal S256x1024 .f32) (ix2 r k) = m ((c : Thread nD τ).loc main_arg0) (ix2 (row t r) k) := by
  blk_ext! [iblk, V, idx t]
theorem block_ya (c : Dev nD) (t : Fin cfg0.N) (r : Fin 256) (k : Fin 512) : (iblk m c 1 t : FVec Ideal S256x512 .bf16) (ix2 r k) = m ((c : Thread nD τ).loc main_arg1) (ix2 (row t r) k) := by
  blk_ext! [iblk, V, idx t]
theorem block_yb (c : Dev nD) (t : Fin cfg0.N) (r : Fin 256) (k : Fin 512) : (iblk m c 2 t : FVec Ideal S256x512 .bf16) (ix2 r k) = m ((c : Thread nD τ).loc main_arg2) (ix2 (row t r) k) := by
  blk_ext! [iblk, V, idx t]
theorem block_yc (c : Dev nD) (t : Fin cfg0.N) (r : Fin 256) (k : Fin 512) : (iblk m c 3 t : FVec Ideal S256x512 .bf16) (ix2 r k) = m ((c : Thread nD τ).loc main_arg3) (ix2 (row t r) k) := by
  blk_ext! [iblk, V, idx t]
theorem block_w (c : Dev nD) (t : Fin cfg0.N) : iblk m c 4 t = m ((c : Thread nD τ).loc main_arg4) := by
  blk_ext! [iblk, V, idx t]
theorem block_g0 (c : Dev nD) (t : Fin cfg0.N) (r : Fin 256) (k : Fin 1024) : (iblk m c 5 t : FVec Ideal S256x1024 .f32) (ix2 r k) = m ((c : Thread nD τ).loc main_arg5) (ix2 (row t r) (col 0 k)) := by
  blk_ext! [iblk, V, idx t]
theorem block_g1 (c : Dev nD) (t : Fin cfg0.N) (r : Fin 256) (k : Fin 1024) : (iblk m c 6 t : FVec Ideal S256x1024 .f32) (ix2 r k) = m ((c : Thread nD τ).loc main_arg5) (ix2 (row t r) (col 1 k)) := by
  blk_ext! [iblk, V, idx t]
theorem block_g2 (c : Dev nD) (t : Fin cfg0.N) (r : Fin 256) (k : Fin 1024) : (iblk m c 7 t : FVec Ideal S256x1024 .f32) (ix2 r k) = m ((c : Thread nD τ).loc main_arg5) (ix2 (row t r) (col 2 k)) := by
  blk_ext! [iblk, V, idx t]

/-- A branch's weights, as the body loads them. -/
theorem load_w0 (w : FVec Ideal S3x512x1024 .bf16) (j : Fin 512) (k : Fin 1024) : (View.ld (Val := Elt Ideal) (e' := .bf16) w r0_2 : FVec Ideal S1x512x1024 .bf16) (ix3 0 j k) = w (ix3 0 j k) := by
  refine congrArg w ?_
  funext a
  refine Fin.ext ?_
  rcases (by decide : ∀ a : Fin 3, a = 0 ∨ a = 1 ∨ a = 2) a with rfl | rfl | rfl <;> simp [r0_2, ix3]
theorem load_w1 (w : FVec Ideal S3x512x1024 .bf16) (j : Fin 512) (k : Fin 1024) : (View.ld (Val := Elt Ideal) (e' := .bf16) w r0_4 : FVec Ideal S1x512x1024 .bf16) (ix3 0 j k) = w (ix3 1 j k) := by
  refine congrArg w ?_
  funext a
  refine Fin.ext ?_
  rcases (by decide : ∀ a : Fin 3, a = 0 ∨ a = 1 ∨ a = 2) a with rfl | rfl | rfl <;> simp [r0_4, ix3]
theorem load_w2 (w : FVec Ideal S3x512x1024 .bf16) (j : Fin 512) (k : Fin 1024) : (View.ld (Val := Elt Ideal) (e' := .bf16) w r0_6 : FVec Ideal S1x512x1024 .bf16) (ix3 0 j k) = w (ix3 2 j k) := by
  refine congrArg w ?_
  funext a
  refine Fin.ext ?_
  rcases (by decide : ∀ a : Fin 3, a = 0 ∨ a = 1 ∨ a = 2) a with rfl | rfl | rfl <;> simp [r0_6, ix3]
theorem ref_out0 (R : Fin 4096) (l : Fin 1024) : val_main_v41 (F := Ideal) Dm P (ix2 R l) = gate (P (ix2 R (col 0 l))) * Dm (ix2 R l) := by
  refine Eq.trans ?_ ((ref_dbrd Dm P R 0 l).trans (by rw [ref_sig]))
  unfold val_main_v41 val_main_v40 val_main_v39
  generalize val_main_v24 (F := Ideal) Dm P = D
  pointwise []
theorem ref_out1 (R : Fin 4096) (l : Fin 1024) : val_main_v44 (F := Ideal) Dm P (ix2 R l) = gate (P (ix2 R (col 1 l))) * Dm (ix2 R l) := by
  refine Eq.trans ?_ ((ref_dbrd Dm P R 1 l).trans (by rw [ref_sig]))
  unfold val_main_v44 val_main_v43 val_main_v42
  generalize val_main_v24 (F := Ideal) Dm P = D
  pointwise []
theorem ref_out2 (R : Fin 4096) (l : Fin 1024) : val_main_v47 (F := Ideal) Dm P (ix2 R l) = gate (P (ix2 R (col 2 l))) * Dm (ix2 R l) := by
  refine Eq.trans ?_ ((ref_dbrd Dm P R 2 l).trans (by rw [ref_sig]))
  unfold val_main_v47 val_main_v46 val_main_v45
  generalize val_main_v24 (F := Ideal) Dm P = D
  pointwise []
theorem ref_dy0 (R : Fin 4096) (j : Fin 512) : val_main_v37 (F := Ideal) Dm W P (ix2 R j) = ∑ k : Fin 1024, gate (P (ix2 R (col 0 k))) * Dm (ix2 R k) * W (ix3 0 j k) := by
  refine Eq.trans ?_ ((ref_dy Dm W P R 0 j).trans (by simp only [ref_dbrd, ref_sig]))
  unfold val_main_v37 val_main_v32 val_main_v31
  generalize val_main_v30 (F := Ideal) Dm W P = D
  pointwise []
theorem ref_dy1 (R : Fin 4096) (j : Fin 512) : val_main_v34 (F := Ideal) Dm W P (ix2 R j) = ∑ k : Fin 1024, gate (P (ix2 R (col 1 k))) * Dm (ix2 R k) * W (ix3 1 j k) := by
  refine Eq.trans ?_ ((ref_dy Dm W P R 1 j).trans (by simp only [ref_dbrd, ref_sig]))
  unfold val_main_v34 val_main_v33
  generalize val_main_v30 (F := Ideal) Dm W P = D
  pointwise []
theorem ref_dy2 (R : Fin 4096) (j : Fin 512) : val_main_v36 (F := Ideal) Dm W P (ix2 R j) = ∑ k : Fin 1024, gate (P (ix2 R (col 2 k))) * Dm (ix2 R k) * W (ix3 2 j k) := by
  refine Eq.trans ?_ ((ref_dy Dm W P R 2 j).trans (by simp only [ref_dbrd, ref_sig]))
  unfold val_main_v36 val_main_v35
  generalize val_main_v30 (F := Ideal) Dm W P = D
  pointwise []

theorem final_dbrd0 (c : Dev nD) : (dats m 0 c).arrAt 12 (cfgs 0).N = val_main_v41 (F := Ideal) (m ((c : Thread nD τ).loc main_arg0)) (m ((c : Thread nD τ).loc main_arg5)) := by
  refine (dats m 0 c).arrAt_eq_of_covers 12 _ (by decide +kernel) fun t hf y => ?_
  blk_simp
  rw [after0_12]
  unfold out0_12
  frame_out
  idx_vars y
  rw [dbrd_at, block_dm, block_g0]
  refine (ref_out0 _ _ (row t y0) y1).symm.trans ?_
  blk_ext [idx t]

theorem final_dy0 (c : Dev nD) : (dats m 0 c).arrAt 8 (cfgs 0).N = val_main_v37 (F := Ideal) (m ((c : Thread nD τ).loc main_arg0)) (m ((c : Thread nD τ).loc main_arg4)) (m ((c : Thread nD τ).loc main_arg5)) := by
  refine (dats m 0 c).arrAt_eq_of_covers 8 _ (by decide +kernel) fun t hf y => ?_
  blk_simp
  rw [after0_8]
  unfold out0_8
  frame_out
  idx_vars y
  refine (dy_at _ _ _ _ y0 y1 0 (fun k => load_w0 _ y1 k)).trans ?_
  simp only [block_dm, block_g0, block_w]
  refine (ref_dy0 (m ((c : Thread nD τ).loc main_arg0)) (m ((c : Thread nD τ).loc main_arg4)) (m ((c : Thread nD τ).loc main_arg5)) (row t y0) y1).symm.trans ?_
  blk_ext [idx t]

theorem final_dbrd1 (c : Dev nD) : (dats m 0 c).arrAt 13 (cfgs 0).N = val_main_v44 (F := Ideal) (m ((c : Thread nD τ).loc main_arg0)) (m ((c : Thread nD τ).loc main_arg5)) := by
  refine (dats m 0 c).arrAt_eq_of_covers 13 _ (by decide +kernel) fun t hf y => ?_
  blk_simp
  rw [after0_13]
  unfold out0_13
  frame_out
  idx_vars y
  rw [pay10_eq, dbrd_at, block_dm, block_g1]
  refine (ref_out1 _ _ (row t y0) y1).symm.trans ?_
  blk_ext [idx t]

theorem final_dy1 (c : Dev nD) : (dats m 0 c).arrAt 9 (cfgs 0).N = val_main_v34 (F := Ideal) (m ((c : Thread nD τ).loc main_arg0)) (m ((c : Thread nD τ).loc main_arg4)) (m ((c : Thread nD τ).loc main_arg5)) := by
  refine (dats m 0 c).arrAt_eq_of_covers 9 _ (by decide +kernel) fun t hf y => ?_
  blk_simp
  rw [after0_9]
  unfold out0_9
  frame_out
  idx_vars y
  rw [pay12_eq]
  refine (dy_at _ _ _ _ y0 y1 1 (fun k => load_w1 _ y1 k)).trans ?_
  simp only [block_dm, block_g1, block_w]
  refine (ref_dy1 (m ((c : Thread nD τ).loc main_arg0)) (m ((c : Thread nD τ).loc main_arg4)) (m ((c : Thread nD τ).loc main_arg5)) (row t y0) y1).symm.trans ?_
  blk_ext [idx t]

theorem final_dbrd2 (c : Dev nD) : (dats m 0 c).arrAt 14 (cfgs 0).N = val_main_v47 (F := Ideal) (m ((c : Thread nD τ).loc main_arg0)) (m ((c : Thread nD τ).loc main_arg5)) := by
  refine (dats m 0 c).arrAt_eq_of_covers 14 _ (by decide +kernel) fun t hf y => ?_
  blk_simp
  rw [after0_14]
  unfold out0_14
  frame_out
  idx_vars y
  rw [pay2_eq, dbrd_at, block_dm, block_g2]
  refine (ref_out2 _ _ (row t y0) y1).symm.trans ?_
  blk_ext [idx t]

theorem final_dy2 (c : Dev nD) : (dats m 0 c).arrAt 10 (cfgs 0).N = val_main_v36 (F := Ideal) (m ((c : Thread nD τ).loc main_arg0)) (m ((c : Thread nD τ).loc main_arg4)) (m ((c : Thread nD τ).loc main_arg5)) := by
  refine (dats m 0 c).arrAt_eq_of_covers 10 _ (by decide +kernel) fun t hf y => ?_
  blk_simp
  rw [after0_10]
  unfold out0_10
  frame_out
  idx_vars y
  rw [pay4_eq]
  refine (dy_at _ _ _ _ y0 y1 2 (fun k => load_w2 _ y1 k)).trans ?_
  simp only [block_dm, block_g2, block_w]
  refine (ref_dy2 (m ((c : Thread nD τ).loc main_arg0)) (m ((c : Thread nD τ).loc main_arg4)) (m ((c : Thread nD τ).loc main_arg5)) (row t y0) y1).symm.trans ?_
  blk_ext [idx t]

theorem final_dgates (c : Dev nD) : (dats m 0 c).arrAt 11 (cfgs 0).N = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t hf y => ?_
  blk_simp
  rw [after0_11]
  unfold out0_11
  idx_vars y
  canon_tiles x h
  case piece0 =>
    idx_vars x
    obtain rfl : y0 = x0 := Fin.ext h0
    frame_out
    rw [pay3_eq]
    refine (dgate_at _ _ _ _ _ y0 x1 2 (fun k => load_w2 _ k x1)).trans ?_
    simp only [block_dm, block_yc, block_g2, block_w]
    have h : y1.val = ((2 : Fin 3) : ℕ) * 1024 + x1.val := by simpa using h1
    refine Eq.trans ?_ ((ref_dgates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t y0) 2 x1 y1 h).symm.trans ?_)
    · rw [ref_brd, ref_sig]; rfl
    · blk_ext [idx t]
  case piece1 =>
    idx_vars x
    obtain rfl : y0 = x0 := Fin.ext h0
    frame_out
    rw [pay11_eq]
    refine (dgate_at _ _ _ _ _ y0 x1 1 (fun k => load_w1 _ k x1)).trans ?_
    simp only [block_dm, block_yb, block_g1, block_w]
    have h : y1.val = ((1 : Fin 3) : ℕ) * 1024 + x1.val := by simpa using h1
    refine Eq.trans ?_ ((ref_dgates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t y0) 1 x1 y1 h).symm.trans ?_)
    · rw [ref_brd, ref_sig]; rfl
    · blk_ext [idx t]
  case piece2 =>
    idx_vars x
    obtain rfl : y0 = x0 := Fin.ext h0
    frame_out
    refine (dgate_at _ _ _ _ _ y0 x1 0 (fun k => load_w0 _ k x1)).trans ?_
    simp only [block_dm, block_ya, block_g0, block_w]
    have h : y1.val = ((0 : Fin 3) : ℕ) * 1024 + x1.val := by simpa using h1
    refine Eq.trans ?_ ((ref_dgates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t y0) 0 x1 y1 h).symm.trans ?_)
    · rw [ref_brd, ref_sig]; rfl
    · blk_ext [idx t]

end Cert.Kernel5Ideal.MergeBwd

namespace Cert.MergeBwd

open Idealize.ShloMosaic Idealize.ShloMosaic.TcCoe Idealize.SL.Sem

theorem frame_reference : quiescent_Reference5Ideal := fun m g _ =>
  (θ_run Reference5Ideal.defs _ _).mono (fun r h => ⟨fun c => (h c).2.2.2.2.2.2.2, sem_eq_zero_of_no_sems (by decide) r.2⟩)
    (Reference5Ideal.Value.run (F := Ideal) m g)

theorem algebraic : algebraic_Kernel5Ideal_Reference5Ideal := by
  pair_intro
  · run_from Kernel5Ideal.Value.run_blocks m g
  · run_from Reference5Ideal.Value.run m' g'
    · exact (Reference5Ideal.Read.val_main_v37_eq _ _ _).trans (Kernel5Ideal.MergeBwd.final_dy0 m c).symm
    · exact (Reference5Ideal.Read.val_main_v34_eq _ _ _).trans (Kernel5Ideal.MergeBwd.final_dy1 m c).symm
    · exact (Reference5Ideal.Read.val_main_v36_eq _ _ _).trans (Kernel5Ideal.MergeBwd.final_dy2 m c).symm
    · have e := Reference5Ideal.Read.val_main_v38_eq (F := Ideal) (m ((c : Thread Kernel5Ideal.nD Kernel5Ideal.τ).loc Kernel5Ideal.main_arg0))
        (m' ((c : Thread Reference5Ideal.nD Reference5Ideal.τ).loc Reference5Ideal.main_arg1)) (m' ((c : Thread Reference5Ideal.nD Reference5Ideal.τ).loc Reference5Ideal.main_arg2))
        (m' ((c : Thread Reference5Ideal.nD Reference5Ideal.τ).loc Reference5Ideal.main_arg3)) (m ((c : Thread Kernel5Ideal.nD Kernel5Ideal.τ).loc Kernel5Ideal.main_arg4)) (m ((c : Thread Kernel5Ideal.nD Kernel5Ideal.τ).loc Kernel5Ideal.main_arg5))
      refine e.trans ?_
      rw [(hagree c).2.1, (hagree c).2.2.1, (hagree c).2.2.2.1]
      exact (Kernel5Ideal.MergeBwd.final_dgates m c).symm
    · exact (Reference5Ideal.Read.val_main_v41_eq _ _).trans (Kernel5Ideal.MergeBwd.final_dbrd0 m c).symm
    · exact (Reference5Ideal.Read.val_main_v44_eq _ _).trans (Kernel5Ideal.MergeBwd.final_dbrd1 m c).symm
    · exact (Reference5Ideal.Read.val_main_v47_eq _ _).trans (Kernel5Ideal.MergeBwd.final_dbrd2 m c).symm

end Cert.MergeBwd

end
-- ==== Proof.ConvBwd.lean ====
/-  The gradient of the gated short convolution (`_conv_bwd` at [4096, 512], four by four tiles of [1024, 128]): what the kernel
    leaves in its four results, and that it is what the derivative computes. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel4Ideal.ConvBwd

open Cert.Kernel4Ideal Cert.Kernel4Ideal.Gen Cert.Reference4Ideal.Read Idealize.ShloMosaic Idealize.ShloMosaic.TcCoe Idealize.SL.Sem
open Idealize.ShloMosaic.Pipeline (Dat)

variable (P : FVec Ideal S4096x7168 .f32) (Dy : FVec Ideal S4096x512 .f32) (W : FVec Ideal S3x512 .f32)

/-- The convolution's input `k` rows above row `R`: zero above the first row. -/
def above (k R : ℕ) (L : Fin 512) : EReal :=
  if h : k ≤ R ∧ R - k < 4096 then P (ix2 ⟨R - k, h.2⟩ ⟨3072 + L.val, by omega⟩) * P (ix2 ⟨R - k, h.2⟩ ⟨3584 + L.val, by omega⟩) else 0

/-- The gradient of the convolution's result at row `R`: zero below the last row. -/
def below (R : ℕ) (L : Fin 512) : EReal :=
  if h : R < 4096 then Dy (ix2 ⟨R, h⟩ L) * P (ix2 ⟨R, h⟩ ⟨2560 + L.val, by omega⟩) else 0

section Tile
variable {P Dy} {base : ℕ} {L : Fin 512} {l : Fin 128} (i : grid0.Coords) {a b c d : FVec Ideal S1024x128 .f32} {a8 b8 c8 d8 : FVec Ideal S8x128 .f32}

theorem lt_one : ∀ r : Fin 8, IntOp.cmpi CmpIPredicate.slt (BitVec.ofNat 32 r.val) 1#32 = if r.val < 1 then 1#1 else 0#1 := by decide
theorem lt_two : ∀ r : Fin 8, IntOp.cmpi CmpIPredicate.slt (BitVec.ofNat 32 r.val) 2#32 = if r.val < 2 then 1#1 else 0#1 := by decide
theorem ge_seven : ∀ r : Fin 8, IntOp.cmpi CmpIPredicate.sge (BitVec.ofNat 32 r.val) 7#32 = if 7 ≤ r.val then 1#1 else 0#1 := by decide
theorem ge_six : ∀ r : Fin 8, IntOp.cmpi CmpIPredicate.sge (BitVec.ofNat 32 r.val) 6#32 = if 6 ≤ r.val then 1#1 else 0#1 := by decide

theorem above_eq {k R : ℕ} (h : k ≤ R) : above P k R L = above P 0 (R - k) L := by
  unfold above
  by_cases hR : R - k < 4096
  · rw [dif_pos ⟨h, hR⟩, dif_pos ⟨Nat.zero_le _, hR⟩]; rfl
  · rw [dif_neg (fun e => hR e.2), dif_neg (fun e => hR e.2)]

theorem above_zero {k R : ℕ} (h : R < k) : above P k R L = 0 := dif_neg (fun e => by omega)

theorem down1_at (hb : base = 0 ∨ 8 ≤ base) (hw : Scalar.cmpi CmpIPredicate.eq (BitVec.ofNat 32 (i 1).val) 0#32 = if base = 0 then 1#1 else 0#1)
    (hy : ∀ r : Fin 1024, a (ix2 r l) * b (ix2 r l) = above P 0 (base + r.val) L)
    (h8 : base ≠ 0 → ∀ r : Fin 8, a8 (ix2 r l) * b8 (ix2 r l) = above P 0 (base - 8 + r.val) L) (r : Fin 1024) :
    k0_pay10 (F := Ideal) i a b a8 b8 (ix2 r l) = above P 1 (base + r.val) L := by
  pointwise [k0_pay10, k0_pay9, k0_pay8]
  rw [hw]
  split
  · next h =>
    rw [lt_one ⟨r.val, h⟩]
    by_cases hr : r.val < 1
    · by_cases h0 : base = 0
      · simp only [Scalar.select, if_pos hr, if_pos h0]
        exact (above_zero (by omega)).symm
      · simp only [Scalar.select, if_pos hr, if_neg h0]
        refine (h8 h0 _).trans ?_
        rw [above_eq (k := 1) (by omega)]
        exact congrArg (fun n => above P 0 n L) (by simp only []; omega)
    · simp only [Scalar.select, if_neg hr]
      refine (hy _).trans ?_
      rw [above_eq (k := 1) (by omega)]
      exact congrArg (fun n => above P 0 n L) (by simp only []; omega)
  · refine (hy _).trans ?_
    rw [above_eq (k := 1) (by omega)]
    exact congrArg (fun n => above P 0 n L) (by simp only []; omega)

theorem down2_at (hb : base = 0 ∨ 8 ≤ base) (hw : Scalar.cmpi CmpIPredicate.eq (BitVec.ofNat 32 (i 1).val) 0#32 = if base = 0 then 1#1 else 0#1)
    (hy : ∀ r : Fin 1024, a (ix2 r l) * b (ix2 r l) = above P 0 (base + r.val) L)
    (h8 : base ≠ 0 → ∀ r : Fin 8, a8 (ix2 r l) * b8 (ix2 r l) = above P 0 (base - 8 + r.val) L) (r : Fin 1024) :
    k0_pay11 (F := Ideal) i a b a8 b8 (ix2 r l) = above P 2 (base + r.val) L := by
  pointwise [k0_pay11, k0_pay9, k0_pay8]
  rw [hw]
  split
  · next h =>
    rw [lt_two ⟨r.val, h⟩]
    by_cases hr : r.val < 2
    · by_cases h0 : base = 0
      · simp only [Scalar.select, if_pos hr, if_pos h0]
        exact (above_zero (by omega)).symm
      · simp only [Scalar.select, if_pos hr, if_neg h0]
        refine (h8 h0 _).trans ?_
        rw [above_eq (k := 2) (by omega)]
        exact congrArg (fun n => above P 0 n L) (by simp only []; omega)
    · simp only [Scalar.select, if_neg hr]
      refine (hy _).trans ?_
      rw [above_eq (k := 2) (by omega)]
      exact congrArg (fun n => above P 0 n L) (by simp only []; omega)
  · refine (hy _).trans ?_
    rw [above_eq (k := 2) (by omega)]
    exact congrArg (fun n => above P 0 n L) (by simp only []; omega)

theorem below_zero {R : ℕ} (h : 4096 ≤ R) : below P Dy R L = 0 := dif_neg (by omega)

theorem up_at (w : BitVec 32) {w0 w1 w2 : FVec Ideal S1x128 .f32} (hw : Scalar.cmpi CmpIPredicate.eq w 3#32 = if base = 3072 then 1#1 else 0#1)
    (hd : ∀ r : Fin 1024, k0_pay12 (F := Ideal) a b (ix2 r l) = below P Dy (base + r.val) L)
    (h8 : base ≠ 3072 → ∀ r : Fin 8, a8 (ix2 r l) * b8 (ix2 r l) = below P Dy (base + 1024 + r.val) L) (r : Fin 1024) :
    k0_pay13 (F := Ideal) w a w0 w1 w2 b a8 b8 (ix2 r l) =
      (w2 (ix2 0 l) * below P Dy (base + r.val) L + w1 (ix2 0 l) * below P Dy (base + r.val + 1) L) + w0 (ix2 0 l) * below P Dy (base + r.val + 2) L := by
  pointwise [k0_pay13]
  rw [hw]
  refine Ideal.add_congr (Ideal.add_congr (Ideal.mul_congr rfl (hd r)) (Ideal.mul_congr rfl ?_)) (Ideal.mul_congr rfl ?_)
  · split
    · exact (hd _).trans (congrArg (fun n => below P Dy n L) (by simp only []; omega))
    · next h =>
      rw [ge_seven ⟨r.val - 1016, by omega⟩]
      by_cases hr : 7 ≤ r.val - 1016
      · by_cases h3 : base = 3072
        · simp only [Scalar.select, if_pos hr, if_pos h3]
          exact (below_zero (by omega)).symm
        · simp only [Scalar.select, if_pos hr, if_neg h3]
          exact (h8 h3 _).trans (congrArg (fun n => below P Dy n L) (by simp only []; omega))
      · simp only [Scalar.select, if_neg hr]
        exact (hd _).trans (congrArg (fun n => below P Dy n L) (by simp only []; omega))
  · split
    · exact (hd _).trans (congrArg (fun n => below P Dy n L) (by simp only []; omega))
    · next h =>
      rw [ge_six ⟨r.val - 1016, by omega⟩]
      by_cases hr : 6 ≤ r.val - 1016
      · by_cases h3 : base = 3072
        · simp only [Scalar.select, if_pos hr, if_pos h3]
          exact (below_zero (by omega)).symm
        · simp only [Scalar.select, if_pos hr, if_neg h3]
          exact (h8 h3 _).trans (congrArg (fun n => below P Dy n L) (by simp only []; omega))
      · simp only [Scalar.select, if_neg hr]
        exact (hd _).trans (congrArg (fun n => below P Dy n L) (by simp only []; omega))

/-- What one tile adds to row `k` of the taps' gradient. -/
def part (P : FVec Ideal S4096x7168 .f32) (Dy : FVec Ideal S4096x512 .f32) (k base : ℕ) (L : Fin 512) : EReal :=
  ∑ r : Fin 1024, below P Dy (base + r.val) L * above P (2 - k) (base + r.val) L

section Sums
variable {e : FVec Ideal S1x128 .f32} {z : EReal} (he : e (ix2 0 l) = z) (hb : ∀ r : Fin 1024, b (ix2 r l) = below P Dy (base + r.val) L)
include he hb

theorem sum0_at (ha : ∀ r : Fin 1024, a (ix2 r l) = above P 2 (base + r.val) L) : k0_pay4 (F := Ideal) a b e (ix2 0 l) = z + part P Dy 0 base L := by
  pointwise [k0_pay4]
  exact Ideal.add_congr he (Finset.sum_congr rfl fun r _ => Ideal.mul_congr (hb r) (ha r))
theorem sum1_at (ha : ∀ r : Fin 1024, a (ix2 r l) = above P 1 (base + r.val) L) : k0_pay5 (F := Ideal) a b e (ix2 0 l) = z + part P Dy 1 base L := by
  pointwise [k0_pay5]
  exact Ideal.add_congr he (Finset.sum_congr rfl fun r _ => Ideal.mul_congr (hb r) (ha r))
theorem sum2_at (ha : ∀ r : Fin 1024, a (ix2 r l) = above P 0 (base + r.val) L) : k0_pay6 (F := Ideal) a b e (ix2 0 l) = z + part P Dy 2 base L := by
  pointwise [k0_pay6]
  exact Ideal.add_congr he (Finset.sum_congr rfl fun r _ => Ideal.mul_congr (hb r) (ha r))

end Sums

theorem dcb_at {e f g : FVec Ideal S1024x128 .f32} {w0 w1 w2 : FVec Ideal S1x128 .f32} (r : Fin 1024) :
    k0_pay1 (F := Ideal) (k0_pay14 e f g w0 w1 w2 a) (ix2 r l) = a (ix2 r l) * (w2 (ix2 0 l) * e (ix2 r l) + w1 (ix2 0 l) * f (ix2 r l) + w0 (ix2 0 l) * g (ix2 r l)) := by
  pointwise [k0_pay1, k0_pay14, k0_pay8]

theorem dcc_at (r : Fin 1024) : k0_pay2 (F := Ideal) a b (ix2 r l) = b (ix2 r l) * a (ix2 r l) := by
  pointwise [k0_pay2]
theorem dcx_at (r : Fin 1024) : k0_pay3 (F := Ideal) a b (ix2 r l) = b (ix2 r l) * a (ix2 r l) := by
  pointwise [k0_pay3]

end Tile

theorem ref_y (R : Fin 4096) (L : Fin 512) : val_main_v3 (F := Ideal) P (ix2 R L) = above P 0 R.val L := by
  unfold above
  rw [dif_pos ⟨Nat.zero_le _, R.isLt⟩]
  pointwise [val_main_v3, val_main_v2, val_main_v1]

theorem ref_y2 (R : Fin 4096) (L : Fin 512) : val_main_v10 (F := Ideal) P (ix2 R L) = above P 2 R.val L := by
  unfold val_main_v10 val_main_v5
  have e := ref_y P
  generalize val_main_v3 (F := Ideal) P = y at e ⊢
  pointwise [val_main_v4, val_main_cst]
  split
  · exact (above_zero (by omega)).symm
  · exact (e _ L).trans (by rw [above_eq (k := 2) (by omega)])

theorem ref_y1 (R : Fin 4096) (L : Fin 512) : val_main_v16 (F := Ideal) P (ix2 R L) = above P 1 R.val L := by
  unfold val_main_v16 val_main_v5
  have e := ref_y P
  generalize val_main_v3 (F := Ideal) P = y at e ⊢
  pointwise [val_main_v4, val_main_cst]
  split
  · exact (above_zero (by omega)).symm
  · exact (e _ L).trans (by rw [above_eq (k := 1) (by omega)]; exact congrArg (fun n => above P 0 n L) (by simp only []; omega))

theorem ref_y0 (R : Fin 4096) (L : Fin 512) : val_main_v23 (F := Ideal) P (ix2 R L) = above P 0 R.val L := by
  unfold val_main_v23 val_main_v5
  have e := ref_y P
  generalize val_main_v3 (F := Ideal) P = y at e ⊢
  pointwise [val_main_v4, val_main_cst]
  exact e _ L

theorem ref_d (R : Fin 4096) (L : Fin 512) : val_main_v28 (F := Ideal) P Dy (ix2 R L) = below P Dy R.val L := by
  unfold below
  rw [dif_pos R.isLt]
  pointwise [val_main_v28, val_main_v0]
  exact mul_comm _ _

theorem ref_dcb (R : Fin 4096) (L : Fin 512) : val_main_v65 (F := Ideal) P Dy W (ix2 R L) =
    Dy (ix2 R L) * ((W (ix2 0 L) * above P 2 R.val L + W (ix2 1 L) * above P 1 R.val L) + W (ix2 2 L) * above P 0 R.val L) := by
  rw [← ref_y0, ← ref_y1, ← ref_y2]
  unfold val_main_v65 val_main_v29 val_main_v26 val_main_v25 val_main_v19 val_main_v18 val_main_v12
  generalize val_main_v10 (F := Ideal) P = a
  generalize val_main_v16 (F := Ideal) P = b
  generalize val_main_v23 (F := Ideal) P = d
  pointwise [val_main_v7, val_main_v8, val_main_v9, val_main_v11, val_main_v13, val_main_v14, val_main_v15, val_main_v17, val_main_v20, val_main_v21, val_main_v22, val_main_v24]

theorem ref_dy (R : Fin 4096) (L : Fin 512) : val_main_v62 (F := Ideal) P Dy W (ix2 R L) =
    (W (ix2 2 L) * below P Dy R.val L + W (ix2 1 L) * below P Dy (R.val + 1) L) + W (ix2 0 L) * below P Dy (R.val + 2) L := by
  unfold val_main_v62 val_main_v56 val_main_v55 val_main_v51 val_main_v45 val_main_v44 val_main_v40 val_main_v35 val_main_v31
  have e := ref_d P Dy
  generalize val_main_v28 (F := Ideal) P Dy = d at e ⊢
  pointwise [val_main_v7, val_main_v8, val_main_v9, val_main_v13, val_main_v14, val_main_v15, val_main_v20, val_main_v21, val_main_v22, val_main_v30, val_main_v39, val_main_v50,
    val_main_cst_2, val_main_cst_6, val_main_cst_10]
  rw [e]
  refine Ideal.add_congr (Ideal.add_congr rfl ?_) ?_
  · split
    · exact Ideal.mul_congr rfl ((e _ L).trans (congrArg (fun n => below P Dy n L) (by simp only []; omega)))
    · rw [below_zero (by omega), mul_zero]
  · split
    · exact Ideal.mul_congr rfl ((e _ L).trans (congrArg (fun n => below P Dy n L) (by simp only []; omega)))
    · rw [below_zero (by omega), mul_zero]

theorem ref_dw (k : Fin 3) (L : Fin 512) : val_main_v60 (F := Ideal) P Dy (ix2 k L) = ∑ R : Fin 4096, below P Dy R.val L * above P (2 - k.val) R.val L := by
  unfold val_main_v60 val_main_v59 val_main_v58 val_main_v57 val_main_v54 val_main_v53 val_main_v52 val_main_v49 val_main_v48 val_main_v47 val_main_v46 val_main_v43 val_main_v42 val_main_v41
    val_main_v38 val_main_v37 val_main_v36 val_main_v34 val_main_v33 val_main_v32
  have e := ref_d P Dy
  have e0 := ref_y0 P
  have e1 := ref_y1 P
  have e2 := ref_y2 P
  generalize val_main_v28 (F := Ideal) P Dy = d at e ⊢
  generalize val_main_v10 (F := Ideal) P = a at e2 ⊢
  generalize val_main_v16 (F := Ideal) P = b at e1 ⊢
  generalize val_main_v23 (F := Ideal) P = q at e0 ⊢
  rcases (by decide : ∀ n : Fin 3, n = 0 ∨ n = 1 ∨ n = 2) k with rfl | rfl | rfl <;>
  · pointwise [val_main_cst_1, val_main_cst_2, val_main_cst_3, val_main_cst_4, val_main_cst_5, val_main_cst_6, val_main_cst_7, val_main_cst_8, val_main_cst_9, val_main_cst_10, val_main_cst_11, val_main_cst_12]
    simp only [Finset.univ_unique, Finset.sum_singleton]
    exact Finset.sum_congr rfl fun R _ => Ideal.mul_congr (e R L) (by first | exact e0 R L | exact e1 R L | exact e2 R L)

variable (m : (ℓ : Loc nD τ sig) → Buf (Elt Ideal) ℓ)

theorem idx : ∀ t : Fin cfg0.N, win0_0.index t = ![t.val % 4, 20 + t.val / 4] ∧ win0_1.index t = ![t.val % 4, 24 + t.val / 4] ∧ win0_2.index t = ![t.val % 4, 28 + t.val / 4]
    ∧ win0_3.index t = ![128 * (t.val % 4) - 1, 24 + t.val / 4] ∧ win0_4.index t = ![128 * (t.val % 4) - 1, 28 + t.val / 4]
    ∧ win0_5.index t = ![min (128 * (t.val % 4 + 1)) 511, 20 + t.val / 4] ∧ win0_6.index t = ![t.val % 4, t.val / 4] ∧ win0_7.index t = ![min (128 * (t.val % 4 + 1)) 511, t.val / 4]
    ∧ win0_8.index t = ![0, t.val / 4] ∧ win0_9.index t = ![t.val % 4, t.val / 4] ∧ win0_10.index t = ![t.val % 4, t.val / 4] ∧ win0_11.index t = ![t.val % 4, t.val / 4]
    ∧ win0_12.index t = ![0, t.val / 4] :=
  (by decide +kernel : ∀ t : Fin grid0.N, _)

theorem first_tile : ∀ t : Fin cfg0.N, Scalar.cmpi CmpIPredicate.eq (BitVec.ofNat 32 (grid0.coords t 1).val) 0#32 = if 1024 * (t.val % 4) = 0 then 1#1 else 0#1 :=
  (by decide +kernel : ∀ t : Fin grid0.N, _)
theorem last_tile : ∀ t : Fin cfg0.N, Scalar.cmpi CmpIPredicate.eq (BitVec.ofNat 32 (grid0.coords t 1).val) 3#32 = if 1024 * (t.val % 4) = 3072 then 1#1 else 0#1 :=
  (by decide +kernel : ∀ t : Fin grid0.N, _)

/-- Row `r` of tile `t`, and its column `l`. -/
abbrev row (t : Fin cfg0.N) (r : Fin 1024) : Fin 4096 := ⟨1024 * (t.val % 4) + r.val, by omega⟩
abbrev lane (t : Fin cfg0.N) (l : Fin 128) : Fin 512 := ⟨128 * (t.val / 4) + l.val, by have := t.isLt; have h : cfg0.N = 16 := N_0; omega⟩
abbrev arr (c : Dev nD) : FVec Ideal S4096x7168 .f32 := m ((c : Thread nD τ).loc main_arg0)
abbrev ct (c : Dev nD) : FVec Ideal S4096x512 .f32 := m ((c : Thread nD τ).loc main_arg1)
abbrev taps (c : Dev nD) : FVec Ideal S3x512 .f32 := m ((c : Thread nD τ).loc main_arg2)

theorem block_cb (c : Dev nD) (t : Fin cfg0.N) (l : Fin 128) (r : Fin 1024) : (iblk m c 0 t : FVec Ideal S1024x128 .f32) (ix2 r l) = arr m c (ix2 (row t r) ⟨2560 + (lane t l).val, by omega⟩) := by
  blk_ext! [iblk, V, idx t]
theorem block_cc (c : Dev nD) (t : Fin cfg0.N) (l : Fin 128) (r : Fin 1024) : (iblk m c 1 t : FVec Ideal S1024x128 .f32) (ix2 r l) = arr m c (ix2 (row t r) ⟨3072 + (lane t l).val, by omega⟩) := by
  blk_ext! [iblk, V, idx t]
theorem block_cx (c : Dev nD) (t : Fin cfg0.N) (l : Fin 128) (r : Fin 1024) : (iblk m c 2 t : FVec Ideal S1024x128 .f32) (ix2 r l) = arr m c (ix2 (row t r) ⟨3584 + (lane t l).val, by omega⟩) := by
  blk_ext! [iblk, V, idx t]
theorem block_cc_above (c : Dev nD) (t : Fin cfg0.N) (l : Fin 128) (h : 1024 * (t.val % 4) ≠ 0) (r : Fin 8) : (iblk m c 3 t : FVec Ideal S8x128 .f32) (ix2 r l) = arr m c (ix2 ⟨1024 * (t.val % 4) - 8 + r.val, by omega⟩ ⟨3072 + (lane t l).val, by omega⟩) := by
  blk_ext! [iblk, V, idx t]
theorem block_cx_above (c : Dev nD) (t : Fin cfg0.N) (l : Fin 128) (h : 1024 * (t.val % 4) ≠ 0) (r : Fin 8) : (iblk m c 4 t : FVec Ideal S8x128 .f32) (ix2 r l) = arr m c (ix2 ⟨1024 * (t.val % 4) - 8 + r.val, by omega⟩ ⟨3584 + (lane t l).val, by omega⟩) := by
  blk_ext! [iblk, V, idx t]
theorem block_dy (c : Dev nD) (t : Fin cfg0.N) (l : Fin 128) (r : Fin 1024) : (iblk m c 6 t : FVec Ideal S1024x128 .f32) (ix2 r l) = ct m c (ix2 (row t r) (lane t l)) := by
  blk_ext! [iblk, V, idx t]
theorem block_cb_below (c : Dev nD) (t : Fin cfg0.N) (l : Fin 128) (h : 1024 * (t.val % 4) ≠ 3072) (r : Fin 8) : (iblk m c 5 t : FVec Ideal S8x128 .f32) (ix2 r l) = arr m c (ix2 ⟨1024 * (t.val % 4) + 1024 + r.val, by omega⟩ ⟨2560 + (lane t l).val, by omega⟩) := by
  blk_ext! [iblk, V, idx t]
theorem block_dy_below (c : Dev nD) (t : Fin cfg0.N) (l : Fin 128) (h : 1024 * (t.val % 4) ≠ 3072) (r : Fin 8) : (iblk m c 7 t : FVec Ideal S8x128 .f32) (ix2 r l) = ct m c (ix2 ⟨1024 * (t.val % 4) + 1024 + r.val, by omega⟩ (lane t l)) := by
  blk_ext! [iblk, V, idx t]
theorem block_w (c : Dev nD) (t : Fin cfg0.N) (k : Fin 3) (l : Fin 128) : (iblk m c 8 t : FVec Ideal S3x128 .f32) (ix2 k l) = taps m c (ix2 k (lane t l)) := by
  blk_ext! [iblk, V, idx t]

section Point
variable (c : Dev nD) (t : Fin cfg0.N) (l : Fin 128)

theorem tile_y (r : Fin 1024) : k0_pay8 (F := Ideal) (iblk m c 1 t) (iblk m c 2 t) (ix2 r l) = above (arr m c) 0 (1024 * (t.val % 4) + r.val) (lane t l) := by
  unfold above
  rw [dif_pos ⟨Nat.zero_le _, (row t r).isLt⟩]
  refine Eq.trans ?_ (Ideal.mul_congr (block_cc m c t l r) (block_cx m c t l r))
  pointwise [k0_pay8]

theorem mul_above {a b : FVec Ideal S8x128 .f32} (h : 1024 * (t.val % 4) ≠ 0) (r : Fin 8)
    (ha : a (ix2 r l) = arr m c (ix2 ⟨1024 * (t.val % 4) - 8 + r.val, by omega⟩ ⟨3072 + (lane t l).val, by omega⟩))
    (hb : b (ix2 r l) = arr m c (ix2 ⟨1024 * (t.val % 4) - 8 + r.val, by omega⟩ ⟨3584 + (lane t l).val, by omega⟩)) :
    a (ix2 r l) * b (ix2 r l) = above (arr m c) 0 (1024 * (t.val % 4) - 8 + r.val) (lane t l) := by
  unfold above
  rw [dif_pos ⟨Nat.zero_le _, by omega⟩, ha, hb]
  rfl

theorem mul_tile {a b : FVec Ideal S1024x128 .f32} (r : Fin 1024) (e : k0_pay8 (F := Ideal) a b (ix2 r l) = above (arr m c) 0 (1024 * (t.val % 4) + r.val) (lane t l)) :
    a (ix2 r l) * b (ix2 r l) = above (arr m c) 0 (1024 * (t.val % 4) + r.val) (lane t l) := by
  refine Eq.trans ?_ e
  pointwise [k0_pay8]

theorem mul_below {a b : FVec Ideal S8x128 .f32} (h : 1024 * (t.val % 4) ≠ 3072) (r : Fin 8)
    (ha : a (ix2 r l) = ct m c (ix2 ⟨1024 * (t.val % 4) + 1024 + r.val, by omega⟩ (lane t l)))
    (hb : b (ix2 r l) = arr m c (ix2 ⟨1024 * (t.val % 4) + 1024 + r.val, by omega⟩ ⟨2560 + (lane t l).val, by omega⟩)) :
    a (ix2 r l) * b (ix2 r l) = below (arr m c) (ct m c) (1024 * (t.val % 4) + 1024 + r.val) (lane t l) := by
  unfold below
  rw [dif_pos (by omega), ha, hb]

theorem tile_y1 (r : Fin 1024) : k0_pay10 (F := Ideal) (grid0.coords t) (iblk m c 1 t) (iblk m c 2 t) (iblk m c 3 t) (iblk m c 4 t) (ix2 r l)
    = above (arr m c) 1 (1024 * (t.val % 4) + r.val) (lane t l) :=
  down1_at _ (by omega) (first_tile t) (fun r => mul_tile m c t l r (tile_y m c t l r)) (fun h r => mul_above m c t l h r (block_cc_above m c t l h r) (block_cx_above m c t l h r)) r

theorem tile_y2 (r : Fin 1024) : k0_pay11 (F := Ideal) (grid0.coords t) (iblk m c 1 t) (iblk m c 2 t) (iblk m c 3 t) (iblk m c 4 t) (ix2 r l)
    = above (arr m c) 2 (1024 * (t.val % 4) + r.val) (lane t l) :=
  down2_at _ (by omega) (first_tile t) (fun r => mul_tile m c t l r (tile_y m c t l r)) (fun h r => mul_above m c t l h r (block_cc_above m c t l h r) (block_cx_above m c t l h r)) r

theorem tile_d (r : Fin 1024) : k0_pay12 (F := Ideal) (iblk m c 0 t) (iblk m c 6 t) (ix2 r l) = below (arr m c) (ct m c) (1024 * (t.val % 4) + r.val) (lane t l) := by
  unfold below
  rw [dif_pos (row t r).isLt]
  refine Eq.trans ?_ (Ideal.mul_congr (block_dy m c t l r) (block_cb m c t l r))
  pointwise [k0_pay12]

/-- Tap `k` over the tile's columns, as the body loads it. -/
theorem load_w {w : FVec Ideal S3x128 .f32} {off : Fin 2 → ℕ} (h : ∀ a, off a + ![1, 128] a ≤ S3x128.size a) (k : Fin 3) (h0 : off 0 = k.val) (h1 : off 1 = 0) :
    (View.ld (Val := Elt Ideal) (e' := .f32) w (Rect.unit off ![1, 128] h) : FVec Ideal S1x128 .f32) (ix2 0 l) = w (ix2 k l) := by
  refine congrArg w ?_
  funext a
  refine Fin.ext ?_
  rcases (by decide : ∀ a : Fin 2, a = 0 ∨ a = 1) a with rfl | rfl <;> simp [ix2, h0, h1]

theorem tile_dy (r : Fin 1024) : k0_pay13 (F := Ideal) (BitVec.ofNat 32 (grid0.coords t 1).val) (iblk m c 0 t) (View.ld (iblk m c 8 t) (Rect.unit ![0, 0] ![1, 128] inb_S3x128_S1x128_0_0))
      (View.ld (iblk m c 8 t) (Rect.unit ![1, 0] ![1, 128] inb_S3x128_S1x128_1_0)) (View.ld (iblk m c 8 t) (Rect.unit ![2, 0] ![1, 128] inb_S3x128_S1x128_2_0)) (iblk m c 6 t) (iblk m c 7 t) (iblk m c 5 t) (ix2 r l)
    = val_main_v62 (F := Ideal) (arr m c) (ct m c) (taps m c) (ix2 (row t r) (lane t l)) := by
  rw [ref_dy]
  refine (up_at (P := arr m c) (Dy := ct m c) (base := 1024 * (t.val % 4)) (L := lane t l) _ (last_tile t) (tile_d m c t l) (fun h r => mul_below m c t l h r (block_dy_below m c t l h r) (block_cb_below m c t l h r)) r).trans ?_
  have w0 := (load_w l inb_S3x128_S1x128_0_0 0 rfl rfl).trans (block_w m c t 0 l)
  have w1 := (load_w l inb_S3x128_S1x128_1_0 1 rfl rfl).trans (block_w m c t 1 l)
  have w2 := (load_w l inb_S3x128_S1x128_2_0 2 rfl rfl).trans (block_w m c t 2 l)
  exact Ideal.add_congr (Ideal.add_congr (Ideal.mul_congr w2 rfl) (Ideal.mul_congr w1 rfl)) (Ideal.mul_congr w0 rfl)

theorem out_cb (r : Fin 1024) : (outsAt0 m c t.val t.isLt).1 (ix2 r l) = val_main_v65 (F := Ideal) (arr m c) (ct m c) (taps m c) (ix2 (row t r) (lane t l)) := by
  have w0 := (load_w l inb_S3x128_S1x128_0_0 0 rfl rfl).trans (block_w m c t 0 l)
  have w1 := (load_w l inb_S3x128_S1x128_1_0 1 rfl rfl).trans (block_w m c t 1 l)
  have w2 := (load_w l inb_S3x128_S1x128_2_0 2 rfl rfl).trans (block_w m c t 2 l)
  have e := Ideal.mul_congr (block_dy m c t l r) (Ideal.add_congr (Ideal.add_congr (Ideal.mul_congr w2 (tile_y m c t l r)) (Ideal.mul_congr w1 (tile_y1 m c t l r))) (Ideal.mul_congr w0 (tile_y2 m c t l r)))
  rw [ref_dcb]
  by_cases h : t.val % 4 = 0
  · rw [outsAt0_A m c t h]; frame_out
    refine ((dcb_at r).trans e).trans ?_
    refine Ideal.mul_congr rfl ?_
    rw [add_comm, ← add_assoc, add_right_comm]
  · rw [outsAt0_B m c t h]; frame_out
    refine ((dcb_at r).trans e).trans ?_
    refine Ideal.mul_congr rfl ?_
    rw [add_comm, ← add_assoc, add_right_comm]

theorem out_cc (r : Fin 1024) : (outsAt0 m c t.val t.isLt).2.1 (ix2 r l) = val_main_v66 (F := Ideal) (arr m c) (ct m c) (taps m c) (ix2 (row t r) (lane t l)) := by
  have e : val_main_v66 (F := Ideal) (arr m c) (ct m c) (taps m c) (ix2 (row t r) (lane t l)) = val_main_v62 (F := Ideal) (arr m c) (ct m c) (taps m c) (ix2 (row t r) (lane t l)) * arr m c (ix2 (row t r) ⟨3584 + (lane t l).val, by omega⟩) := by
    unfold val_main_v66 val_main_v64
    generalize val_main_v62 (F := Ideal) (arr m c) (ct m c) (taps m c) = D
    pointwise [val_main_v2]
  rw [e]
  by_cases h : t.val % 4 = 0
  · rw [outsAt0_A m c t h]; frame_out
    exact (dcc_at r).trans (Ideal.mul_congr (tile_dy m c t l r) (block_cx m c t l r))
  · rw [outsAt0_B m c t h]; frame_out
    exact (dcc_at r).trans (Ideal.mul_congr (tile_dy m c t l r) (block_cx m c t l r))

theorem out_cx (r : Fin 1024) : (outsAt0 m c t.val t.isLt).2.2.1 (ix2 r l) = val_main_v67 (F := Ideal) (arr m c) (ct m c) (taps m c) (ix2 (row t r) (lane t l)) := by
  have e : val_main_v67 (F := Ideal) (arr m c) (ct m c) (taps m c) (ix2 (row t r) (lane t l)) = val_main_v62 (F := Ideal) (arr m c) (ct m c) (taps m c) (ix2 (row t r) (lane t l)) * arr m c (ix2 (row t r) ⟨3072 + (lane t l).val, by omega⟩) := by
    unfold val_main_v67 val_main_v63
    generalize val_main_v62 (F := Ideal) (arr m c) (ct m c) (taps m c) = D
    pointwise [val_main_v1]
    exact mul_comm _ _
  rw [e]
  by_cases h : t.val % 4 = 0
  · rw [outsAt0_A m c t h]; frame_out
    exact (dcx_at r).trans (Ideal.mul_congr (tile_dy m c t l r) (block_cc m c t l r))
  · rw [outsAt0_B m c t h]; frame_out
    exact (dcx_at r).trans (Ideal.mul_congr (tile_dy m c t l r) (block_cc m c t l r))

theorem zero_pay (k : Fin 3) (l : Fin 128) : k0_pay7 (F := Ideal) (ix2 k l) = 0 := by
  pointwise [k0_pay7]

section Rows
variable {off : Fin 2 → ℕ} (h : ∀ a, off a + ![1, 128] a ≤ S3x128.size a) (w : FVec Ideal S1x128 .f32) (L : List (View.Piece (Elt Ideal) S3x128 .f32)) {k : Fin 3} (l : Fin 128)

/-- After a store of row `k` that row reads what was stored, and another row what stood there. -/
theorem row_hit (h0 : off 0 = k.val) (h1 : off 1 = 0) : View.canon (Val := Elt Ideal) ((⟨Rect.unit off ![1, 128] h, w⟩ : View.Piece (Elt Ideal) S3x128 .f32) :: L) (ix2 k l) = w (ix2 0 l) := by
  have e : (ix2 k l : S3x128.Idx) = (Rect.unit off ![1, 128] h).emb (ix2 0 l) := by
    funext a
    refine Fin.ext ?_
    rcases (by decide : ∀ a : Fin 2, a = 0 ∨ a = 1) a with rfl | rfl <;> simp [ix2, h0, h1]
  rw [e]
  apply View.canon_cons_emb

theorem row_miss (h0 : off 0 ≠ k.val) : View.canon (Val := Elt Ideal) ((⟨Rect.unit off ![1, 128] h, w⟩ : View.Piece (Elt Ideal) S3x128 .f32) :: L) (ix2 k l) = View.canon L (ix2 k l) := by
  refine View.canon_cons_of_not_mem _ L fun hm => ?_
  mem_blk at hm
  have e := hm 0
  simp [ix2] at e
  omega

end Rows

/-- The first tile of a column starts the taps' gradient from zero. -/
theorem dw_first (h : t.val % 4 = 0) (k : Fin 3) : (outsAt0 m c t.val t.isLt).2.2.2 (ix2 k l) = 0 + part (arr m c) (ct m c) k.val (1024 * (t.val % 4)) (lane t l) := by
  rw [outsAt0_A m c t h]; frame_out
  rcases (by decide : ∀ n : Fin 3, n = 0 ∨ n = 1 ∨ n = 2) k with rfl | rfl | rfl
  · refine (row_miss _ _ _ l (by decide)).trans ((row_miss _ _ _ l (by decide)).trans ((row_hit _ _ _ l rfl rfl).trans (sum0_at ?_ (tile_d m c t l) (tile_y2 m c t l))))
    rw [View.readCov_fill _ _ _ _ _ (by decide)]
    exact (load_w l _ 0 rfl rfl).trans (zero_pay 0 l)
  · refine (row_miss _ _ _ l (by decide)).trans ((row_hit _ _ _ l rfl rfl).trans (sum1_at ?_ (tile_d m c t l) (tile_y1 m c t l)))
    rw [View.readCov_skip _ _ _ _ _ (by decide), View.readCov_fill _ _ _ _ _ (by decide)]
    exact (load_w l _ 1 rfl rfl).trans (zero_pay 1 l)
  · refine (row_hit _ _ _ l rfl rfl).trans (sum2_at ?_ (tile_d m c t l) (tile_y m c t l))
    rw [View.readCov_skip _ _ _ _ _ (by decide), View.readCov_skip _ _ _ _ _ (by decide), View.readCov_fill _ _ _ _ _ (by decide)]
    exact (load_w l _ 2 rfl rfl).trans (zero_pay 2 l)

/-- Every later one adds its part. -/
theorem dw_next (h : ¬ t.val % 4 = 0) (k : Fin 3) : (outsAt0 m c t.val t.isLt).2.2.2 (ix2 k l)
    = (outsAt0 m c (t.val - 1) (Nat.lt_of_le_of_lt (Nat.sub_le _ _) t.isLt)).2.2.2 (ix2 k l) + part (arr m c) (ct m c) k.val (1024 * (t.val % 4)) (lane t l) := by
  rw [outsAt0_B m c t h]; frame_out
  canon_tiles x hx
  case piece0 =>
    idx_vars x
    obtain rfl : l = x1 := Fin.ext hx1
    obtain rfl : x0 = 0 := Subsingleton.elim _ _
    obtain rfl : k = 2 := Fin.ext (by simpa using hx0)
    exact sum2_at (load_w l _ 2 rfl rfl) (tile_d m c t l) (tile_y m c t l)
  case piece1 =>
    idx_vars x
    obtain rfl : l = x1 := Fin.ext hx1
    obtain rfl : x0 = 0 := Subsingleton.elim _ _
    obtain rfl : k = 1 := Fin.ext (by simpa using hx0)
    exact sum1_at (load_w l _ 1 rfl rfl) (tile_d m c t l) (tile_y1 m c t l)
  case piece2 =>
    idx_vars x
    obtain rfl : l = x1 := Fin.ext hx1
    obtain rfl : x0 = 0 := Subsingleton.elim _ _
    obtain rfl : k = 0 := Fin.ext (by simpa using hx0)
    exact sum0_at (load_w l _ 0 rfl rfl) (tile_d m c t l) (tile_y2 m c t l)

end Point

/-- A column's finished taps' gradient. -/
theorem dw_total (c : Dev nD) (t : Fin cfg0.N) (h : t.val % 4 = 3) (k : Fin 3) (l : Fin 128) : (outsAt0 m c t.val t.isLt).2.2.2 (ix2 k l)
    = val_main_v60 (F := Ideal) (arr m c) (ct m c) (ix2 k (lane t l)) := by
  refine (Pipeline.eq_sum_fin_of_reset_step_apply_of_flush (M := EReal) (fun n h (_ : Unit) => (outsAt0 m c n h).2.2.2 (ix2 k l)) 4 (fun _ => 0)
    (fun t _ => part (arr m c) (ct m c) k.val (1024 * (t.val % 4)) (lane t l)) (fun t h _ => dw_first m c t l h k) (fun t h _ => dw_next m c t l h k) t h ()).trans ?_
  rw [zero_add, ref_dw]
  refine Fin.sum_mul_add_congr fun s j hl => ?_
  have hs := s.isLt
  have e1 : 1024 * ((4 * (t.val / 4) + s.val) % 4) + j.val = s.val * 1024 + j.val := by omega
  have e2 : lane ⟨4 * (t.val / 4) + s.val, Pipeline.run_point_lt_of_flush t h s⟩ l = lane t l := Fin.ext (by show 128 * ((4 * (t.val / 4) + s.val) / 4) + l.val = 128 * (t.val / 4) + l.val; omega)
  simp only [e1, e2]

theorem final_dcb (c : Dev nD) : (dats m 0 c).arrAt 9 (cfgs 0).N = val_main_v65 (F := Ideal) (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  idx_vars y
  refine (out_cb m c t y1 y0).trans ?_
  blk_ext [idx t]

theorem final_dcc (c : Dev nD) : (dats m 0 c).arrAt 10 (cfgs 0).N = val_main_v66 (F := Ideal) (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  rw [after0_10]
  idx_vars y
  refine (out_cc m c t y1 y0).trans ?_
  blk_ext [idx t]

theorem final_dcx (c : Dev nD) : (dats m 0 c).arrAt 11 (cfgs 0).N = val_main_v67 (F := Ideal) (m ((c : Thread nD τ).loc main_arg0)) (m ((c : Thread nD τ).loc main_arg1)) (m ((c : Thread nD τ).loc main_arg2)) := by
  refine (dats m 0 c).arrAt_eq_of_covers 11 _ (by decide +kernel) fun t hf y => ?_
  blk_simp
  rw [after0_11]
  idx_vars y
  refine (out_cx m c t y1 y0).trans ?_
  blk_ext [idx t]

theorem final_dw (c : Dev nD) : (dats m 0 c).arrAt 12 (cfgs 0).N = val_main_v60 (F := Ideal) (m ((c : Thread nD τ).loc main_arg0)) (m ((c : Thread nD τ).loc main_arg1)) := by
  refine (dats m 0 c).arrAt_eq_of_covers 12 _ (by decide +kernel) fun t hf y => ?_
  have h := (by decide +kernel : ∀ t : Fin grid0.N, win0_12.flush t = true → t.val % 4 = 3) t hf
  blk_simp
  rw [after0_12]
  idx_vars y
  refine (dw_total m c t h y0 y1).trans ?_
  blk_ext [idx t]

end Cert.Kernel4Ideal.ConvBwd

namespace Cert.ConvBwd

open Idealize.ShloMosaic Idealize.ShloMosaic.TcCoe Idealize.SL.Sem

theorem frame_reference : quiescent_Reference4Ideal := fun m g _ =>
  (θ_run Reference4Ideal.defs _ _).mono (fun r h => ⟨fun c => (h c).2.2.2.2, sem_eq_zero_of_no_sems (by decide) r.2⟩)
    (Reference4Ideal.Value.run (F := Ideal) m g)

theorem algebraic : algebraic_Kernel4Ideal_Reference4Ideal := by
  pair_intro
  · run_from Kernel4Ideal.Value.run_blocks m g
  · run_from Reference4Ideal.Value.run m' g'
    · exact (Reference4Ideal.Read.val_main_v65_eq _ _ _).trans (Kernel4Ideal.ConvBwd.final_dcb m c).symm
    · exact (Reference4Ideal.Read.val_main_v66_eq _ _ _).trans (Kernel4Ideal.ConvBwd.final_dcc m c).symm
    · exact (Reference4Ideal.Read.val_main_v67_eq _ _ _).trans (Kernel4Ideal.ConvBwd.final_dcx m c).symm
    · exact (Reference4Ideal.Read.val_main_v60_eq _ _).trans (Kernel4Ideal.ConvBwd.final_dw m c).symm

end Cert.ConvBwd

end
-- ==== Proof.XaBwd.lean ====
/-  The gradient of the memory's cross-attention (`_xa_bwd` at 4096 queries, 256 keys and four heads of 256): what the kernel leaves in its three
    results, and that it is what the derivative computes. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.Reals
public import Idealize.ShloMosaic.Lib.Pipeline.ValueKit
public import Idealize.ShloMosaic.Lib.Claim

@[expose] public section

set_option maxRecDepth 16384

noncomputable section

namespace Cert.Kernel6Ideal.XaBwd

open Cert.Kernel6Ideal Cert.Kernel6Ideal.Gen Cert.Reference6Ideal.Read Idealize.ShloMosaic Idealize.ShloMosaic.TcCoe Idealize.SL.Sem
open Idealize.ShloMosaic.Pipeline (Dat)

/-- The largest of a row's scores, a key's weight, and its probability. -/
def top (s : Fin 256 → EReal) : EReal := Finset.fold max ⊥ s Finset.univ
def weight (s : Fin 256 → EReal) (l : Fin 256) : EReal := Ideal.exp (s l - top s)
def prob (s : Fin 256 → EReal) (l : Fin 256) : EReal := Ideal.div (weight s l) (∑ x, weight s x)

/-- Finite scores have positive finite weights. -/
theorem weight_real {s : Fin 256 → EReal} (h : ∀ l, ∃ x : ℝ, s l = (x : EReal)) : ∃ w : Fin 256 → ℝ, (∀ l, 0 < w l) ∧ ∀ l, weight s l = (w l : EReal) := by
  obtain ⟨f, hf⟩ := Reals.exists_reals h
  have ht : ∃ x : ℝ, top s = (x : EReal) := by
    have hm : ∀ A : Finset (Fin 256), A.Nonempty → ∃ x : ℝ, Finset.fold max ⊥ s A = (x : EReal) := by
      intro A hA
      induction hA using Finset.Nonempty.cons_induction with
      | singleton a => exact ⟨f a, by rw [Finset.fold_singleton, congrFun hf a]; exact max_eq_left bot_le⟩
      | cons a A ha hA ih =>
        obtain ⟨x, hx⟩ := ih
        exact ⟨max (f a) x, by rw [Finset.fold_cons, hx, congrFun hf a]; exact (EReal.coe_strictMono.monotone.map_max).symm⟩
    exact hm _ Finset.univ_nonempty
  obtain ⟨x, hx⟩ := ht
  refine ⟨fun l => Real.exp (f l - x), fun l => Real.exp_pos _, fun l => ?_⟩
  unfold weight
  rw [hx, congrFun hf l, ← EReal.coe_sub]
  rfl

theorem mul_sum_pos (i : ℝ) (h : 0 < i) (f : Fin 256 → EReal) (A : Finset (Fin 256)) : ∑ x ∈ A, (i : EReal) * f x = (i : EReal) * ∑ x ∈ A, f x := by
  induction A using Finset.induction_on with
  | empty => simp
  | insert a A ha ih =>
    rw [Finset.sum_insert ha, Finset.sum_insert ha, ih]
    exact (EReal.left_distrib_of_nonneg_of_ne_top (by exact_mod_cast h.le) (EReal.coe_ne_top i) _ _).symm

/-- The derivative of the probabilities, in the two ways the programs compute it. -/
theorem grad_eq {s : Fin 256 → EReal} (h : ∀ l, ∃ x : ℝ, s l = (x : EReal)) (g : Fin 256 → EReal) (l : Fin 256) :
    prob s l * (g l - ∑ x, g x * prob s x)
      = (Ideal.div (g l) (∑ x, weight s x) + -∑ x, g x * Ideal.div 1 ((∑ x, weight s x) * ∑ x, weight s x) * weight s x) * weight s l := by
  obtain ⟨w, hp, hw⟩ := weight_real h
  have hS : (∑ x, weight s x) = ((∑ x, w x : ℝ) : EReal) := by simp only [hw, Reals.sum_coe]
  have hpos : 0 < ∑ x, w x := Finset.sum_pos (fun x _ => hp x) Finset.univ_nonempty
  unfold prob
  rw [hS, ← EReal.coe_mul]
  simp only [hw, Ideal.div_coe hpos.ne', Ideal.div_coe (mul_pos hpos hpos).ne']
  generalize hi : 1 / (∑ x, w x) = i
  have hi0 : 0 < i := hi ▸ one_div_pos.mpr hpos
  have e2 : 1 / ((∑ x, w x) * ∑ x, w x) = i * i := by rw [← hi, one_div_mul_one_div]
  rw [e2, one_mul]
  have e : ∀ x, g x * ((i * i : ℝ) : EReal) * (w x : EReal) = (i : EReal) * (g x * ((w x : EReal) * (i : EReal))) := fun x => by
    rw [EReal.coe_mul]; simp only [mul_comm, mul_left_comm, mul_assoc]
  simp only [e]
  rw [mul_sum_pos i hi0, ← mul_neg, mul_comm (g l), ← EReal.left_distrib_of_nonneg_of_ne_top (by exact_mod_cast hi0.le) (EReal.coe_ne_top i), ← sub_eq_add_neg]
  simp only [mul_comm, mul_left_comm, mul_assoc]

theorem bot_word : Ideal.ofBits FTy.f32 4286578688#32 = ⊥ := by simp [Ideal.ofBits, Ideal.ieee]

section Block
variable (q o : FVec Ideal S2048x256 .bf16) (k v : FVec Ideal S256x256 .bf16)

/-- The scale of the scores, as the programs write it. -/
abbrev unit16 : EReal := Ideal.ofBits FTy.f32 0x3D800000#32

/-- A row's scores, and its products with the values. -/
def score (a : Fin 256 → EReal) (b : Fin 256 → Fin 256 → EReal) (l : Fin 256) : EReal := (∑ d, a d * b l d) * unit16
def inner (a : Fin 256 → EReal) (b : Fin 256 → Fin 256 → EReal) (l : Fin 256) : EReal := ∑ d, a d * b l d

/-- A row's gradient of the scores. -/
def dscore (s g : Fin 256 → EReal) (l : Fin 256) : EReal := prob s l * (g l - ∑ x, g x * prob s x) * unit16

theorem prob_at (r : Fin 2048) (l : Fin 256) : k0_pay5 (F := Ideal) q k (ix2 r l) = prob (score (fun d => q (ix2 r d)) fun l d => k (ix2 l d)) l := by
  unfold prob weight top score
  rw [← bot_word]
  pointwise [k0_pay5]

theorem dscore_at (r : Fin 2048) (l : Fin 256) : k0_pay6 (F := Ideal) q k o v (ix2 r l)
    = dscore (score (fun d => q (ix2 r d)) fun l d => k (ix2 l d)) (inner (fun d => o (ix2 r d)) fun l d => v (ix2 l d)) l := by
  have e := prob_at q k r
  unfold k0_pay6 dscore inner
  generalize k0_pay5 (F := Ideal) q k = p at e ⊢
  pointwise []
  simp only [e]

theorem dq_at (r : Fin 2048) (l : Fin 256) : k0_pay7 (F := Ideal) q k o v (ix2 r l) = ∑ x, k0_pay6 (F := Ideal) q k o v (ix2 r x) * k (ix2 x l) := by
  unfold k0_pay7
  generalize k0_pay6 (F := Ideal) q k o v = p
  pointwise []

theorem dk_at (e : FVec Ideal S256x256 .f32) (r : Fin 256) (l : Fin 256) : k0_pay1 (F := Ideal) q o (k0_pay8 e) (ix2 r l) = e (ix2 r l) + ∑ x, o (ix2 x r) * q (ix2 x l) := by
  unfold k0_pay1 k0_pay8
  pointwise []

theorem dv_at (p : FVec Ideal S2048x256 .f32) (e : FVec Ideal S256x256 .f32) (r : Fin 256) (l : Fin 256) : k0_pay2 (F := Ideal) o p e (ix2 r l) = e (ix2 r l) + ∑ x, p (ix2 x r) * o (ix2 x l) := by
  unfold k0_pay2
  pointwise []

theorem zero_k (r l : Fin 256) : k0_pay3 (F := Ideal) (ix2 r l) = 0 := by
  pointwise [k0_pay3]
theorem zero_v (r l : Fin 256) : k0_pay4 (F := Ideal) (ix2 r l) = 0 := by
  pointwise [k0_pay4]

end Block

variable (Q : FVec Ideal S4096x1024 .bf16) (K V : FVec Ideal S256x1024 .bf16) (Do : FVec Ideal S4096x1024 .bf16)

section Ref
variable (h : Fin 4) (R : Fin 4096)

/-- Column `d` of head `h`. -/
abbrev col (h : Fin 4) (d : Fin 256) : Fin 1024 := ⟨h.val * 256 + d.val, by omega⟩

abbrev scores : Fin 256 → EReal := score (fun d => Q (ix2 R (col h d))) fun l d => K (ix2 l (col h d))
abbrev inners : Fin 256 → EReal := inner (fun d => Do (ix2 R (col h d))) fun l d => V (ix2 l (col h d))

theorem ref_score (l : Fin 256) : val_main_v9 (F := Ideal) Q K (ix3 h R l) = scores Q K h R l := by
  unfold scores score
  pointwise [val_main_v9, val_main_v7, val_main_v8, val_main_v4, val_main_v5, val_main_cst, val_main_v0, val_main_v1]

theorem ref_top : val_main_v10 (F := Ideal) Q K (ix2 h R) = top (scores Q K h R) := by
  have e := ref_score Q K h R
  unfold val_main_v10 top
  rw [← bot_word]
  generalize val_main_v9 (F := Ideal) Q K = s at e ⊢
  simp only [← e]
  pointwise [val_main_cst_0]

theorem ref_floor : val_main_v16 (F := Ideal) (ix2 h R) = ⊥ := by
  refine Eq.trans ?_ bot_word
  unfold val_main_v16 val_main_cst_2
  pointwise []

theorem max_at {s : Shape} (a b : FVec Ideal s .f32) (i : s.Idx) : maximumf a b i = max (a i) (b i) := rfl

theorem ref_top' : val_main_v17 (F := Ideal) Q K (ix2 h R) = top (scores Q K h R) := by
  unfold val_main_v17
  refine (max_at _ _ _).trans ?_
  rw [ref_floor, ref_top]
  exact max_eq_right bot_le

theorem ref_weight (l : Fin 256) : val_main_v30 (F := Ideal) Q K (ix3 h R l) = weight (scores Q K h R) l := by
  unfold weight
  rw [← ref_score, ← ref_top']
  unfold val_main_v30 val_main_v29 val_main_v28 val_main_v27
  generalize val_main_v17 (F := Ideal) Q K = e
  generalize val_main_v9 (F := Ideal) Q K = s
  pointwise []

theorem ref_prob (l : Fin 256) : val_main_v34 (F := Ideal) Q K (ix3 h R l) = prob (scores Q K h R) l := by
  have e := ref_weight Q K h R
  unfold prob val_main_v34 val_main_v33 val_main_v32 val_main_v31
  generalize val_main_v30 (F := Ideal) Q K = s at e ⊢
  simp only [← e]
  pointwise [val_main_cst_8]

theorem ref_inner (l : Fin 256) : val_main_v43 (F := Ideal) V Do (ix3 h R l) = inners V Do h R l := by
  unfold inners inner
  pointwise [val_main_v43, val_main_v42, val_main_v41, val_main_v3, val_main_v6, val_main_v2]

theorem ref_dscore (hs : ∀ l, ∃ x : ℝ, scores Q K h R l = (x : EReal)) (l : Fin 256) : val_main_v59 (F := Ideal) Q K V Do (ix3 h R l) = dscore (scores Q K h R) (inners V Do h R) l := by
  unfold dscore
  rw [grad_eq hs]
  have e := ref_weight Q K h R
  have f := ref_inner V Do h R
  unfold val_main_v59 val_main_v57 val_main_v56 val_main_v55 val_main_v54 val_main_v53 val_main_v51 val_main_v50 val_main_v49 val_main_v48 val_main_v47 val_main_v46 val_main_v37 val_main_v35
    val_main_v52 val_main_v32 val_main_v31
  generalize val_main_v30 (F := Ideal) Q K = s at e ⊢
  generalize val_main_v43 (F := Ideal) V Do = g at f ⊢
  simp only [← e, ← f]
  pointwise [val_main_v36, val_main_cst_8, val_main_cst_9, val_main_cst_10, val_main_cst_11, val_main_cst_12, val_main_v58]
  simp only [Fin.sum_univ_one]

theorem ref_dq (l : Fin 1024) : val_main_v67 (F := Ideal) Q K V Do (ix2 R l) = ∑ x, val_main_v59 (F := Ideal) Q K V Do (ix3 ⟨l.val / 256, by omega⟩ R x) * K (ix2 x l) := by
  unfold val_main_v67 val_main_v66 val_main_v63 val_main_v62
  generalize val_main_v59 (F := Ideal) Q K V Do = s
  pointwise [val_main_v5, val_main_v1]
theorem ref_dk (x : Fin 256) (l : Fin 1024) : val_main_v65 (F := Ideal) Q K V Do (ix2 x l) = ∑ R, val_main_v59 (F := Ideal) Q K V Do (ix3 ⟨l.val / 256, by omega⟩ R x) * Q (ix2 R l) := by
  unfold val_main_v65 val_main_v61 val_main_v60
  generalize val_main_v59 (F := Ideal) Q K V Do = s
  pointwise [val_main_v4, val_main_v0]
theorem ref_dv (x : Fin 256) (l : Fin 1024) : val_main_v64 (F := Ideal) Q K Do (ix2 x l) = ∑ R, val_main_v34 (F := Ideal) Q K (ix3 ⟨l.val / 256, by omega⟩ R x) * Do (ix2 R l) := by
  unfold val_main_v64 val_main_v45 val_main_v44
  generalize val_main_v34 (F := Ideal) Q K = s
  pointwise [val_main_v42, val_main_v41, val_main_v3]
  exact Finset.sum_congr rfl fun _ _ => mul_comm _ _

section Finite
variable [Pre_finite_xa.Facts] (hf : Pre_finite_xa.fn (F := Ideal) Q K V Do = fun _ => 1#1)
include hf

theorem finite_q (l : Fin 1024) : ∃ x : ℝ, Q (ix2 R l) = (x : EReal) := by
  have e := congrFun hf (ix2 (⟨R.val, by omega⟩ : Fin 4352) l)
  unfold Pre_finite_xa.fn at e
  dsimp only at e
  refine Reals.real_of_olt (Eq.trans ?_ e)
  pointwise []
  rfl

theorem finite_k (x : Fin 256) (l : Fin 1024) : ∃ y : ℝ, K (ix2 x l) = (y : EReal) := by
  have e := congrFun hf (ix2 (⟨4096 + x.val, by omega⟩ : Fin 4352) l)
  unfold Pre_finite_xa.fn at e
  dsimp only at e
  refine Reals.real_of_olt (Eq.trans ?_ e)
  pointwise []
  rfl

theorem finite_scores (l : Fin 256) : ∃ x : ℝ, scores Q K h R l = (x : EReal) := by
  obtain ⟨a, ha⟩ := Reals.exists_reals fun d => finite_q Q K V Do R hf (col h d)
  obtain ⟨b, hb⟩ := Reals.exists_reals fun d => finite_k Q K V Do hf l (col h d)
  have hu : unit16 = ((1 / 16 : ℝ) : EReal) := by
    simp [unit16, Ideal.ofBits, Ideal.ieee, -EReal.coe_mul]
    norm_num
  unfold scores score
  simp only [congrFun ha _, congrFun hb _, ← EReal.coe_mul, Reals.sum_coe, hu]
  exact ⟨_, rfl⟩

end Finite
end Ref

variable (m : (ℓ : Loc nD τ sig) → Buf (Elt Ideal) ℓ)

theorem idx : ∀ t : Fin cfg0.N, win0_0.index t = ![t.val % 2, t.val / 2] ∧ win0_1.index t = ![0, t.val / 2] ∧ win0_2.index t = ![0, t.val / 2] ∧ win0_3.index t = ![t.val % 2, t.val / 2]
    ∧ win0_4.index t = ![t.val % 2, t.val / 2] ∧ win0_5.index t = ![0, t.val / 2] ∧ win0_6.index t = ![0, t.val / 2] :=
  (by decide +kernel : ∀ t : Fin grid0.N, _)

/-- Row `r` of block `t`, and its head. -/
abbrev row (t : Fin cfg0.N) (r : Fin 2048) : Fin 4096 := ⟨2048 * (t.val % 2) + r.val, by omega⟩
abbrev head (t : Fin cfg0.N) : Fin 4 := ⟨t.val / 2, by have := t.isLt; have h : cfg0.N = 8 := N_0; omega⟩
abbrev aQ (c : Dev nD) : FVec Ideal S4096x1024 .bf16 := m ((c : Thread nD τ).loc main_arg0)
abbrev aK (c : Dev nD) : FVec Ideal S256x1024 .bf16 := m ((c : Thread nD τ).loc main_arg1)
abbrev aV (c : Dev nD) : FVec Ideal S256x1024 .bf16 := m ((c : Thread nD τ).loc main_arg2)
abbrev aD (c : Dev nD) : FVec Ideal S4096x1024 .bf16 := m ((c : Thread nD τ).loc main_arg3)

section Point
variable (c : Dev nD) (t : Fin cfg0.N)

theorem block_q (r : Fin 2048) (d : Fin 256) : (iblk m c 0 t : FVec Ideal S2048x256 .bf16) (ix2 r d) = aQ m c (ix2 (row t r) (col (head t) d)) := by
  blk_ext! [iblk, V, idx t]
theorem block_k (l d : Fin 256) : (iblk m c 1 t : FVec Ideal S256x256 .bf16) (ix2 l d) = aK m c (ix2 l (col (head t) d)) := by
  blk_ext! [iblk, V, idx t]
theorem block_v (l d : Fin 256) : (iblk m c 2 t : FVec Ideal S256x256 .bf16) (ix2 l d) = aV m c (ix2 l (col (head t) d)) := by
  blk_ext! [iblk, V, idx t]
theorem block_d (r : Fin 2048) (d : Fin 256) : (iblk m c 3 t : FVec Ideal S2048x256 .bf16) (ix2 r d) = aD m c (ix2 (row t r) (col (head t) d)) := by
  blk_ext! [iblk, V, idx t]

theorem prob_block (r : Fin 2048) (x : Fin 256) : k0_pay5 (F := Ideal) (iblk m c 0 t) (iblk m c 1 t) (ix2 r x) = val_main_v34 (F := Ideal) (aQ m c) (aK m c) (ix3 (head t) (row t r) x) := by
  rw [prob_at, ref_prob]
  simp only [block_q, block_k]

theorem dscore_block [Pre_finite_xa.Facts] (hf : Pre_finite_xa.fn (F := Ideal) (aQ m c) (aK m c) (aV m c) (aD m c) = fun _ => 1#1) (r : Fin 2048) (x : Fin 256) :
    k0_pay6 (F := Ideal) (iblk m c 0 t) (iblk m c 1 t) (iblk m c 3 t) (iblk m c 2 t) (ix2 r x) = val_main_v59 (F := Ideal) (aQ m c) (aK m c) (aV m c) (aD m c) (ix3 (head t) (row t r) x) := by
  rw [dscore_at, ref_dscore _ _ _ _ _ _ (finite_scores _ _ _ _ _ _ hf)]
  simp only [block_q, block_k, block_v, block_d]

theorem out_q (r : Fin 2048) (l : Fin 256) : (outsAt0 m c t.val t.isLt).1 (ix2 r l) = ∑ x, k0_pay6 (F := Ideal) (iblk m c 0 t) (iblk m c 1 t) (iblk m c 3 t) (iblk m c 2 t) (ix2 r x) * aK m c (ix2 x (col (head t) l)) := by
  by_cases h : t.val % 2 = 0
  · rw [outsAt0_A m c t h]; frame_out
    refine (dq_at _ _ _ _ r l).trans ?_
    simp only [block_k]
  · rw [outsAt0_B m c t h]; frame_out
    refine (dq_at _ _ _ _ r l).trans ?_
    simp only [block_k]

/-- What one block of rows adds to the keys' gradient, and to the values'. -/
def partK (x d : Fin 256) : EReal := ∑ r : Fin 2048, k0_pay6 (F := Ideal) (iblk m c 0 t) (iblk m c 1 t) (iblk m c 3 t) (iblk m c 2 t) (ix2 r x) * aQ m c (ix2 (row t r) (col (head t) d))
def partV (x d : Fin 256) : EReal := ∑ r : Fin 2048, k0_pay5 (F := Ideal) (iblk m c 0 t) (iblk m c 1 t) (ix2 r x) * aD m c (ix2 (row t r) (col (head t) d))

theorem dk_first (h : t.val % 2 = 0) (x d : Fin 256) : (outsAt0 m c t.val t.isLt).2.1 (ix2 x d) = 0 + partK m c t x d := by
  rw [outsAt0_A m c t h]; frame_out
  refine (dk_at _ _ _ x d).trans ?_
  unfold partK
  simp only [block_q, zero_k]

theorem dk_next (h : ¬ t.val % 2 = 0) (x d : Fin 256) : (outsAt0 m c t.val t.isLt).2.1 (ix2 x d)
    = (outsAt0 m c (t.val - 1) (Nat.lt_of_le_of_lt (Nat.sub_le _ _) t.isLt)).2.1 (ix2 x d) + partK m c t x d := by
  rw [outsAt0_B m c t h]; frame_out
  refine (dk_at _ _ _ x d).trans ?_
  unfold partK
  simp only [block_q]

theorem dv_first (h : t.val % 2 = 0) (x d : Fin 256) : (outsAt0 m c t.val t.isLt).2.2 (ix2 x d) = 0 + partV m c t x d := by
  rw [outsAt0_A m c t h]; frame_out
  refine (dv_at _ _ _ x d).trans ?_
  unfold partV
  simp only [block_d, zero_v]

theorem dv_next (h : ¬ t.val % 2 = 0) (x d : Fin 256) : (outsAt0 m c t.val t.isLt).2.2 (ix2 x d)
    = (outsAt0 m c (t.val - 1) (Nat.lt_of_le_of_lt (Nat.sub_le _ _) t.isLt)).2.2 (ix2 x d) + partV m c t x d := by
  rw [outsAt0_B m c t h]; frame_out
  refine (dv_at _ _ _ x d).trans ?_
  unfold partV
  simp only [block_d]

theorem head_col (d : Fin 256) : (⟨(col (head t) d).val / 256, by omega⟩ : Fin 4) = head t := Fin.ext (by show (t.val / 2 * 256 + d.val) / 256 = t.val / 2; omega)

/-- The rows of a head's two blocks are the array's rows. -/
theorem rows_of_head (h : t.val % 2 = 1) (A : Fin 4 → Fin 4096 → EReal) : ∑ s : Fin 2, ∑ r : Fin 2048, A (head ⟨2 * (t.val / 2) + s.val, Pipeline.run_point_lt_of_flush t h s⟩)
    (row ⟨2 * (t.val / 2) + s.val, Pipeline.run_point_lt_of_flush t h s⟩ r) = ∑ R, A (head t) R := by
  refine Fin.sum_mul_add_congr fun s j hl => ?_
  have hs := s.isLt
  have e1 : row ⟨2 * (t.val / 2) + s.val, Pipeline.run_point_lt_of_flush t h s⟩ j = ⟨s.val * 2048 + j.val, hl⟩ := Fin.ext (by show 2048 * ((2 * (t.val / 2) + s.val) % 2) + j.val = s.val * 2048 + j.val; omega)
  have e2 : head ⟨2 * (t.val / 2) + s.val, Pipeline.run_point_lt_of_flush t h s⟩ = head t := Fin.ext (by show (2 * (t.val / 2) + s.val) / 2 = t.val / 2; omega)
  rw [e1, e2]

theorem dk_total [Pre_finite_xa.Facts] (hf : Pre_finite_xa.fn (F := Ideal) (aQ m c) (aK m c) (aV m c) (aD m c) = fun _ => 1#1) (h : t.val % 2 = 1) (x d : Fin 256) :
    (outsAt0 m c t.val t.isLt).2.1 (ix2 x d) = val_main_v65 (F := Ideal) (aQ m c) (aK m c) (aV m c) (aD m c) (ix2 x (col (head t) d)) := by
  refine (Pipeline.eq_sum_fin_of_reset_step_apply_of_flush (M := EReal) (fun n h (_ : Unit) => (outsAt0 m c n h).2.1 (ix2 x d)) 2 (fun _ => 0)
    (fun t _ => partK m c t x d) (fun t h _ => dk_first m c t h x d) (fun t h _ => dk_next m c t h x d) t h ()).trans ?_
  rw [zero_add, ref_dk, head_col]
  refine Eq.trans ?_ (rows_of_head t h fun H R => val_main_v59 (F := Ideal) (aQ m c) (aK m c) (aV m c) (aD m c) (ix3 H R x) * aQ m c (ix2 R (col (head t) d)))
  refine Finset.sum_congr rfl fun s _ => ?_
  have e2 : head ⟨2 * (t.val / 2) + s.val, Pipeline.run_point_lt_of_flush t h s⟩ = head t := Fin.ext (by show (2 * (t.val / 2) + s.val) / 2 = t.val / 2; omega)
  unfold partK
  refine Finset.sum_congr rfl fun r _ => Ideal.mul_congr (dscore_block m c _ hf r x) ?_
  rw [e2]

theorem dv_total (h : t.val % 2 = 1) (x d : Fin 256) :
    (outsAt0 m c t.val t.isLt).2.2 (ix2 x d) = val_main_v64 (F := Ideal) (aQ m c) (aK m c) (aD m c) (ix2 x (col (head t) d)) := by
  refine (Pipeline.eq_sum_fin_of_reset_step_apply_of_flush (M := EReal) (fun n h (_ : Unit) => (outsAt0 m c n h).2.2 (ix2 x d)) 2 (fun _ => 0)
    (fun t _ => partV m c t x d) (fun t h _ => dv_first m c t h x d) (fun t h _ => dv_next m c t h x d) t h ()).trans ?_
  rw [zero_add, ref_dv, head_col]
  refine Eq.trans ?_ (rows_of_head t h fun H R => val_main_v34 (F := Ideal) (aQ m c) (aK m c) (ix3 H R x) * aD m c (ix2 R (col (head t) d)))
  refine Finset.sum_congr rfl fun s _ => ?_
  have e2 : head ⟨2 * (t.val / 2) + s.val, Pipeline.run_point_lt_of_flush t h s⟩ = head t := Fin.ext (by show (2 * (t.val / 2) + s.val) / 2 = t.val / 2; omega)
  unfold partV
  refine Finset.sum_congr rfl fun r _ => Ideal.mul_congr (prob_block m c _ r x) ?_
  rw [e2]

end Point

theorem final_dq [Pre_finite_xa.Facts] (c : Dev nD) (hf : Pre_finite_xa.fn (F := Ideal) (aQ m c) (aK m c) (aV m c) (aD m c) = fun _ => 1#1) :
    (dats m 0 c).arrAt 4 (cfgs 0).N = val_main_v67 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf' y => ?_
  blk_simp
  rw [after0_4]
  idx_vars y
  refine (out_q m c t y0 y1).trans ?_
  have e : val_main_v67 (F := Ideal) (aQ m c) (aK m c) (aV m c) (aD m c) (ix2 (row t y0) (col (head t) y1)) = _ := ref_dq _ _ _ _ _ _
  rw [head_col] at e
  simp only [dscore_block m c t hf]
  refine e.symm.trans ?_
  blk_ext [idx t]

theorem final_dk [Pre_finite_xa.Facts] (c : Dev nD) (hf : Pre_finite_xa.fn (F := Ideal) (aQ m c) (aK m c) (aV m c) (aD m c) = fun _ => 1#1) :
    (dats m 0 c).arrAt 5 (cfgs 0).N = val_main_v65 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf' y => ?_
  have h := (flush0_5 t).mp hf'
  blk_simp
  rw [after0_5]
  idx_vars y
  refine (dk_total m c t hf h y0 y1).trans ?_
  blk_ext [idx t]

theorem final_dv (c : Dev nD) : (dats m 0 c).arrAt 6 (cfgs 0).N = val_main_v64 (F := Ideal) (m ((c : Thread nD τ).loc main_arg0)) (m ((c : Thread nD τ).loc main_arg1)) (m ((c : Thread nD τ).loc main_arg3)) := by
  refine (dats m 0 c).arrAt_eq_of_covers 6 _ (by decide +kernel) fun t hf' y => ?_
  have h := (flush0_6 t).mp hf'
  blk_simp
  rw [after0_6]
  idx_vars y
  refine (dv_total m c t h y0 y1).trans ?_
  blk_ext [idx t]

end Cert.Kernel6Ideal.XaBwd

namespace Cert.XaBwd

open Idealize.ShloMosaic Idealize.ShloMosaic.TcCoe Idealize.SL.Sem

theorem frame_reference : quiescent_Reference6Ideal := fun m g _ =>
  (θ_run Reference6Ideal.defs _ _).mono (fun r h => ⟨fun c => (h c).2.2.2, sem_eq_zero_of_no_sems (by decide) r.2⟩)
    (Reference6Ideal.Value.run (F := Ideal) m g)

theorem algebraic [Pre_finite_xa.Facts] : algebraic_Kernel6Ideal_Reference6Ideal_pre_finite_xa := by
  pair_intro
  · run_from Kernel6Ideal.Value.run_blocks m g
  · run_from Reference6Ideal.Value.run m' g'
    · refine (Reference6Ideal.Read.val_main_v67_eq m' c).trans ?_
      rw [(hagree c).1, (hagree c).2.1, (hagree c).2.2.1, (hagree c).2.2.2]
      exact (Kernel6Ideal.XaBwd.final_dq m c (hpre c)).symm
    · refine (Reference6Ideal.Read.val_main_v65_eq m' c).trans ?_
      rw [(hagree c).1, (hagree c).2.1, (hagree c).2.2.1, (hagree c).2.2.2]
      exact (Kernel6Ideal.XaBwd.final_dk m c (hpre c)).symm
    · exact (Reference6Ideal.Read.val_main_v64_eq _ _ _).trans (Kernel6Ideal.XaBwd.final_dv m c).symm

end Cert.XaBwd

end
-- ==== Proof.SguGate.lean ====
/-  Two gradients of the spatial gate over the real numbers: of the GELU, and of the layer norm over rows of 512. Each is written once as the
    kernel computes it and once as the derivative of the forward lines does, and the two are shown to be one number. -/
module

public import proofs.«01_k».proof.Defs
public import proofs.«01_k».proof.Proof.Reals
public import Idealize.ShloMosaic.PureOps.Ideal.Laws

@[expose] public section

noncomputable section

namespace Cert.SguGate

open Idealize.ShloMosaic

/-- The constants `1/√2`, which the kernel multiplies by and the forward lines divide by the root of, and half of the factor of the derivative of the
    error function over `√2`. -/
theorem named_root : Named.named (F := Ideal) Kernel3Ideal.κ "inv_sqrt2" (φ := .f32) 0x3F3504F3#32 = (((Real.sqrt 2)⁻¹ : ℝ) : EReal) :=
  IdealRules.named_const.ideal_named_scalar _ _ _ _ rfl
theorem named_slope : Named.named (F := Ideal) Kernel3Ideal.κ "inv_sqrt2pi" (φ := .f32) 0x3ECC422A#32 = (((9465531 / 16777216) * (Real.sqrt 2)⁻¹ : ℝ) : EReal) :=
  IdealRules.named_const.ideal_named_scalar _ _ _ _ rfl

theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_512 : Ideal.ofBits .f32 0x44000000#32 = ((512 : ℝ) : EReal) := by
  simp [Ideal.ofBits, Ideal.ieee, -EReal.coe_mul]; norm_num
theorem ofBits_erf : Ideal.ofBits .f32 0xBF906EBB#32 = ((-(9465531 / 8388608) : ℝ) : EReal) := by
  simp [Ideal.ofBits, Ideal.ieee, -EReal.coe_mul]; norm_num
theorem ofBits_eps : ∃ e : ℝ, 0 < e ∧ Ideal.ofBits .f32 0x3727C5AC#32 = (e : EReal) := by
  refine ⟨_, ?_, by simp [Ideal.ofBits, Ideal.ieee, -EReal.coe_mul]; rfl⟩
  norm_num
theorem root_two : Ideal.sqrt (Ideal.ofBits .f32 0x40000000#32) = ((Real.sqrt 2 : ℝ) : EReal) := by
  rw [ofBits_two, Ideal.sqrt_coe, if_neg (by norm_num)]

theorem sqrt_ne : Real.sqrt 2 ≠ 0 := by positivity

/-- The GELU and its derivative, as the kernel writes them. -/
def gelu (x : EReal) : EReal :=
  Ideal.ofBits .f32 0x3F000000#32 * x * (1 + Ideal.erf (x * Named.named (F := Ideal) Kernel3Ideal.κ "inv_sqrt2" (φ := .f32) 0x3F3504F3#32))
def slope (x : EReal) : EReal :=
  Ideal.ofBits .f32 0x3F000000#32 * (1 + Ideal.erf (x * Named.named (F := Ideal) Kernel3Ideal.κ "inv_sqrt2" (φ := .f32) 0x3F3504F3#32))
    + x * Named.named (F := Ideal) Kernel3Ideal.κ "inv_sqrt2pi" (φ := .f32) 0x3ECC422A#32 * Ideal.exp (Ideal.ofBits .f32 0xBF000000#32 * x * x)

theorem arg_eq (x : EReal) : Ideal.div (-x) ((Real.sqrt 2 : ℝ) : EReal) = -(x * (((Real.sqrt 2)⁻¹ : ℝ) : EReal)) := by
  rw [Ideal.div_coe sqrt_ne, one_div, neg_mul]

theorem gelu_eq (x : EReal) : Ideal.ofBits .f32 0x3F000000#32 * x * Ideal.erfc (Ideal.div (-x) (Ideal.sqrt (Ideal.ofBits .f32 0x40000000#32))) = gelu x := by
  unfold gelu
  rw [root_two, named_root, arg_eq, Ideal.erfc_neg]

theorem erf_real (x : ℝ) : ∃ y : ℝ, Ideal.erf (x : EReal) = (y : EReal) := ⟨_, Ideal.erf_coe x⟩

theorem gelu_real (x : ℝ) : ∃ y : ℝ, gelu (x : EReal) = (y : EReal) := by
  unfold gelu
  rw [named_root, ofBits_half, ← EReal.coe_mul, ← EReal.coe_mul]
  obtain ⟨y, hy⟩ := erf_real (x * (Real.sqrt 2)⁻¹)
  rw [hy, ← EReal.coe_one, ← EReal.coe_add, ← EReal.coe_mul]
  exact ⟨_, rfl⟩

/-- The cotangent through the GELU: the derivative's way is the cotangent times the slope. -/
theorem slope_eq (x ct : ℝ) :
    -Ideal.div (Ideal.ofBits .f32 0xBF906EBB#32 * (Ideal.ofBits .f32 0x3F000000#32 * (x : EReal) * (ct : EReal))
          * Ideal.exp (-(Ideal.div (-(x : EReal)) (Ideal.sqrt (Ideal.ofBits .f32 0x40000000#32)) * Ideal.div (-(x : EReal)) (Ideal.sqrt (Ideal.ofBits .f32 0x40000000#32)))))
        (Ideal.sqrt (Ideal.ofBits .f32 0x40000000#32))
      + Ideal.ofBits .f32 0x3F000000#32 * ((ct : EReal) * Ideal.erfc (Ideal.div (-(x : EReal)) (Ideal.sqrt (Ideal.ofBits .f32 0x40000000#32))))
      = (ct : EReal) * slope (x : EReal) := by
  unfold slope
  rw [root_two, named_root, named_slope, arg_eq, Ideal.erfc_neg, ofBits_erf, ofBits_half, Reals.ofBits_neg_half, ← EReal.coe_mul]
  obtain ⟨y, hy⟩ := erf_real (x * (Real.sqrt 2)⁻¹)
  simp only [hy, ← EReal.coe_one, ← EReal.coe_neg, ← EReal.coe_mul, Ideal.exp_coe, Reals.div_coe_coe _ sqrt_ne, ← EReal.coe_add]
  have hs : (Real.sqrt 2)⁻¹ * (Real.sqrt 2)⁻¹ = 1 / 2 := by
    rw [← mul_inv, Real.mul_self_sqrt (by norm_num)]; norm_num
  have he : -(-(x * (Real.sqrt 2)⁻¹) * -(x * (Real.sqrt 2)⁻¹)) = -(1 / 2) * x * x := by
    linear_combination (-(x * x)) * hs
  rw [he, div_eq_mul_inv]
  congr 1
  ring

/-- The layer norm of a row `z` and the pieces of its gradient. -/
def mean (z : Fin 512 → EReal) : EReal := Ideal.div (∑ k, z k) (Ideal.ofBits .f32 0x44000000#32)
def cent (z : Fin 512 → EReal) (k : Fin 512) : EReal := z k - mean z
def spread (z : Fin 512 → EReal) : EReal := mean (fun k => cent z k * cent z k) + Ideal.ofBits .f32 0x3727C5AC#32
def unit (z : Fin 512 → EReal) (k : Fin 512) : EReal := cent z k * Ideal.rsqrt (spread z)

/-- The gradient of a row's norm at the cotangent `a`: as the kernel computes it … -/
def back (z a : Fin 512 → EReal) (d : Fin 512) : EReal :=
  Ideal.rsqrt (spread z) * (a d - mean a - unit z d * mean (fun k => a k * unit z k))
/-- … and as the derivative does, first without the part that the mean carries. -/
def pull (z a : Fin 512 → EReal) : EReal :=
  Ideal.div ((∑ k, cent z k * a k) * (Ideal.ofBits .f32 0xBF000000#32 * Ideal.div (Ideal.rsqrt (spread z)) (spread z))) (Ideal.ofBits .f32 0x44000000#32)
def direct (z a : Fin 512 → EReal) (d : Fin 512) : EReal :=
  a d * Ideal.rsqrt (spread z) + cent z d * pull z a + pull z a * cent z d

theorem mean_coe (z : Fin 512 → ℝ) : mean (fun k => (z k : EReal)) = (((∑ k, z k) / 512 : ℝ) : EReal) := by
  unfold mean
  rw [ofBits_512, Reals.sum_coe, Reals.div_coe_coe _ (by norm_num)]

theorem cent_coe (z : Fin 512 → ℝ) (k : Fin 512) : cent (fun k => (z k : EReal)) k = ((z k - (∑ k, z k) / 512 : ℝ) : EReal) := by
  unfold cent
  rw [mean_coe, ← EReal.coe_sub]

/-- A row of numbers has a positive spread, so that its norm is a row of numbers. -/
theorem spread_coe (z : Fin 512 → ℝ) : ∃ v : ℝ, 0 < v ∧ spread (fun k => (z k : EReal)) = (v : EReal) := by
  obtain ⟨e, he, e'⟩ := ofBits_eps
  unfold spread
  simp only [cent_coe, ← EReal.coe_mul]
  rw [mean_coe, e', ← EReal.coe_add]
  exact ⟨_, add_pos_of_nonneg_of_pos (div_nonneg (Finset.sum_nonneg fun k _ => mul_self_nonneg _) (by norm_num)) he, rfl⟩

theorem unit_real (z : Fin 512 → ℝ) (k : Fin 512) : ∃ y : ℝ, unit (fun k => (z k : EReal)) k = (y : EReal) := by
  obtain ⟨v, hv, e⟩ := spread_coe z
  unfold unit
  rw [cent_coe, e, Reals.rsqrt_pos hv, ← EReal.coe_mul]
  exact ⟨_, rfl⟩

/-- The two ways agree on rows of numbers, and what they compute is a number. -/
theorem back_eq (z a : Fin 512 → ℝ) (d : Fin 512) :
    direct (fun k => (z k : EReal)) (fun k => (a k : EReal)) d + mean (fun k => -direct (fun k => (z k : EReal)) (fun k => (a k : EReal)) k)
      = back (fun k => (z k : EReal)) (fun k => (a k : EReal)) d
    ∧ ∃ y : ℝ, back (fun k => (z k : EReal)) (fun k => (a k : EReal)) d = (y : EReal) := by
  obtain ⟨v, hv, e⟩ := spread_coe z
  unfold back direct pull unit
  simp only [mean_coe, cent_coe, e, Reals.rsqrt_pos hv, Reals.ofBits_neg_half, ofBits_512, Reals.div_coe_coe _ hv.ne', ← EReal.coe_mul, ← EReal.coe_sub,
    Reals.sum_coe, Reals.div_coe_coe _ (by norm_num : (512 : ℝ) ≠ 0), ← EReal.coe_add, ← EReal.coe_neg]
  refine ⟨?_, _, rfl⟩
  congr 1
  set x : Fin 512 → ℝ := fun k => z k - (∑ k, z k) / 512 with hx
  set r := (Real.sqrt v)⁻¹ with hr
  have h0 : ∑ k, x k = 0 := by
    simp only [hx, Finset.sum_sub_distrib, Finset.sum_const, Finset.card_univ, Fintype.card_fin, nsmul_eq_mul]
    push_cast
    ring
  have hrr : r / v = r * r * r := by
    have : r * r * v = 1 := by
      rw [hr, ← mul_inv, Real.mul_self_sqrt hv.le, inv_mul_cancel₀ hv.ne']
    rw [div_eq_iff hv.ne']
    linear_combination (-r) * this
  have h1 : ∑ k, a k * (x k * r) = r * ∑ k, x k * a k := by
    rw [Finset.mul_sum]
    exact Finset.sum_congr rfl fun k _ => by ring
  have h2 : ∀ q : ℝ, ∑ k, -(a k * r + x k * q + q * x k) = -(r * ∑ k, a k) - 2 * q * ∑ k, x k := by
    intro q
    rw [Finset.mul_sum, Finset.mul_sum, ← Finset.sum_neg_distrib, ← Finset.sum_sub_distrib]
    exact Finset.sum_congr rfl fun k _ => by ring
  change a d * r + x d * _ + _ * x d + (∑ k, -(a k * r + x k * _ + _ * x k)) / 512 = r * (a d - _ - x d * r * ((∑ k, a k * (x k * r)) / 512))
  rw [h2, h1, h0, hrr]
  ring

end Cert.SguGate

end
-- ==== Proof.SguRead.lean ====
/-  What the derivative of the spatial gate computes, read at an index: the gate's two halves through the GELU, the layer norm, the masked mixing of a
    chunk's positions, and the cotangents of each; and that all of them are numbers where the arguments are. -/
module

public import proofs.«01_k».proof.Defs
public import proofs.«01_k».proof.Proof.Gen.Reference3Ideal.Read
public import proofs.«01_k».proof.Proof.Reals
public import proofs.«01_k».proof.Proof.SguGate
public import Idealize.ShloMosaic.Lib.Pipeline.ValueKit

@[expose] public section

set_option maxRecDepth 16384

noncomputable section

namespace Cert.SguRead

open Cert.Reference3Ideal Cert.Reference3Ideal.Gen Cert.Reference3Ideal.Read Cert.SguGate Idealize.ShloMosaic Idealize.ShloMosaic.TcCoe

variable (P : FVec Ideal S4096x7168 .f32) (D : FVec Ideal S4096x512 .f32) (g b : FVec Ideal S512 .f32) (W : FVec Ideal S4x128x128 .f32) (s : FVec Ideal S4x128 .f32)

/-- The gate's halves of the projection's columns. -/
def colU (l : Fin 512) : Fin 7168 := ⟨1536 + l.val, by omega⟩
def colV (l : Fin 512) : Fin 7168 := ⟨2048 + l.val, by omega⟩
/-- A row of the second half after the GELU. -/
def rowV (n : Fin 4096) (k : Fin 512) : EReal := gelu (P (ix2 n (colV k)))

theorem read_gelu (n : Fin 4096) (j : Fin 1024) : val_main_v11 (F := Ideal) P (ix2 n j) = gelu (P (ix2 n ⟨1536 + j.val, by omega⟩)) := by
  refine Eq.trans ?_ (gelu_eq _)
  pointwise [val_main_v11, val_main_v7, val_main_v6, val_main_v5, val_main_v4, val_main_v3, val_main_v2, val_main_v1, val_main_v0, val_main_cst, val_main_cst_0]

theorem read_u (n : Fin 4096) (l : Fin 512) : val_main_v12 (F := Ideal) P (ix2 n l) = gelu (P (ix2 n (colU l))) := by
  pointwise [val_main_v12]
  exact read_gelu P n _

theorem read_v (n : Fin 4096) (l : Fin 512) : val_main_v13 (F := Ideal) P (ix2 n l) = rowV P n l := by
  pointwise [val_main_v13]
  refine (read_gelu P n _).trans (congrArg gelu (congrArg P (congrArg (ix2 n) (Fin.ext ?_))))
  show 1536 + (512 + l.val) = 2048 + l.val
  omega

theorem read_cent (n : Fin 4096) (l : Fin 512) : val_main_v19 (F := Ideal) P (ix2 n l) = cent (rowV P n) l := by
  have e := read_v P n
  generalize hv : val_main_v13 (F := Ideal) P = v at e ⊢
  unfold cent mean
  simp only [← e]
  pointwise [val_main_v19, val_main_v18, val_main_v17, val_main_v16, val_main_v15, val_main_v14, val_main_cst_1, val_main_cst_2, hv]

theorem read_spread (n : Fin 4096) : val_main_v26 (F := Ideal) P (ix2 n 0) = spread (rowV P n) := by
  have e := read_cent P n
  generalize hv : val_main_v19 (F := Ideal) P = v at e
  unfold spread mean
  simp only [← e]
  pointwise [val_main_v26, val_main_v25, val_main_v24, val_main_v23, val_main_v22, val_main_v21, val_main_v20, val_main_cst_3, val_main_cst_4, val_main_cst_5, hv]

theorem read_unit (n : Fin 4096) (l : Fin 512) : val_main_v32 (F := Ideal) P (ix2 n l) = unit (rowV P n) l := by
  unfold unit
  rw [← read_cent, ← read_spread]
  pointwise [val_main_v32, val_main_v31, val_main_v27]

theorem read_norm (n : Fin 4096) (l : Fin 512) : val_main_v38 (F := Ideal) P g b (ix2 n l) = unit (rowV P n) l * g (ix1 l) + b (ix1 l) := by
  rw [← read_unit]
  pointwise [val_main_v38, val_main_v37, val_main_v36, val_main_v35, val_main_v34, val_main_v33]

theorem read_dvm (n : Fin 4096) (l : Fin 512) : val_main_v58 (F := Ideal) P D (ix2 n l) = D (ix2 n l) * gelu (P (ix2 n (colU l))) := by
  rw [← read_u, mul_comm]
  pointwise [val_main_v58]

/-- The half of a chunk a position lies in, and whether a position sees another one. -/
def half (i : Fin 128) : BitVec 32 := BitVec.ofNat 32 (i.val / 64)
def sees (i j : Fin 128) : BitVec 1 := IntOp.cmpi .sge (half i) (half j)

theorem read_half (i : Fin 128) : val_main_v42 (F := Ideal) (ix2 i 0) = half i := by
  pointwise [val_main_v42, val_main_call0_v11, val_main_call0_v13, val_main_call0_v2, val_main_call0_v12, val_main_call0_v10, val_main_call0_v9, val_main_call0_v8,
    val_main_call0_v7, val_main_call0_v6, val_main_call0_v5, val_main_call0_v4, val_main_call0_v3, val_main_call0_v1, val_main_call0_v0, val_main_call0_c, val_main_call0_c_0,
    val_main_c, val_main_v41, val_main_v40, id]
  revert i
  decide +kernel

theorem read_half' (i : Fin 128) : val_main_v44 (F := Ideal) (ix2 0 i) = half i := by
  pointwise [val_main_v44, val_main_call1_v11, val_main_call1_v13, val_main_call1_v2, val_main_call1_v12, val_main_call1_v10, val_main_call1_v9, val_main_call1_v8,
    val_main_call1_v7, val_main_call1_v6, val_main_call1_v5, val_main_call1_v4, val_main_call1_v3, val_main_call1_v1, val_main_call1_v0, val_main_call1_c, val_main_call1_c_0,
    val_main_c_7, val_main_v43, val_main_v40, id]
  revert i
  decide +kernel

theorem read_sees (i j : Fin 128) : val_main_v47 (F := Ideal) (ix2 i j) = sees i j := by
  unfold sees
  rw [← read_half, ← read_half']
  pointwise [val_main_v47, val_main_v46, val_main_v45]

/-- The weight by which position `i` of a chunk takes position `j` in. -/
def mix (q : Fin 4) (i j : Fin 128) : EReal := Scalar.select (sees i j) (W (ix3 q i j)) 0

/-- Position `i` of chunk `a`, and column `d` of group `q`. -/
def at_ (a : Fin 32) (i : Fin 128) : Fin 4096 := ⟨a.val * 128 + i.val, by omega⟩
def col (q : Fin 4) (d : Fin 128) : Fin 512 := ⟨q.val * 128 + d.val, by omega⟩

theorem at_div (a : Fin 32) (i : Fin 128) : (at_ a i).val / 128 = a.val := by show (a.val * 128 + i.val) / 128 = a.val; omega
theorem at_mod (a : Fin 32) (i : Fin 128) : (at_ a i).val % 128 = i.val := by show (a.val * 128 + i.val) % 128 = i.val; omega
theorem col_div (q : Fin 4) (d : Fin 128) : (col q d).val / 128 = q.val := by show (q.val * 128 + d.val) / 128 = q.val; omega
theorem col_mod (q : Fin 4) (d : Fin 128) : (col q d).val % 128 = d.val := by show (q.val * 128 + d.val) % 128 = d.val; omega

theorem read_mix (a : Fin 32) (i : Fin 128) (q : Fin 4) (d : Fin 128) : val_main_v56 (F := Ideal) P g b W s (ix2 (at_ a i) (col q d))
    = ∑ x, mix W q i x * val_main_v38 (F := Ideal) P g b (ix2 (at_ a x) (col q d)) + s (ix2 q i) := by
  have e := read_sees
  generalize hm : val_main_v47 (F := Ideal) = M at e
  unfold mix
  simp only [← e]
  pointwise [val_main_v56, val_main_v55, val_main_v54, val_main_v53, val_main_v52, val_main_v51, val_main_v50, val_main_v49_0, val_main_v49_1, val_main_v48, val_main_call2_v2,
    val_main_call2_v0, val_main_cst_8, val_main_v39, hm, id, at_div, at_mod, col_div, col_mod, mul_comm]
  rfl

theorem read_dvn (a : Fin 32) (i : Fin 128) (q : Fin 4) (d : Fin 128) : val_main_v70 (F := Ideal) P D W (ix2 (at_ a i) (col q d))
    = ∑ x, mix W q x i * val_main_v58 (F := Ideal) P D (ix2 (at_ a x) (col q d)) := by
  have e := read_sees
  generalize hm : val_main_v47 (F := Ideal) = M at e
  unfold mix
  simp only [← e]
  pointwise [val_main_v70, val_main_v68, val_main_v67, val_main_v65, val_main_v60, val_main_v49_0, val_main_v49_1, val_main_v48, val_main_call2_v2, val_main_call2_v0, val_main_cst_8, hm, id, at_div, at_mod, col_div, col_mod, mul_comm]
  rfl

theorem read_dw (q : Fin 4) (i j : Fin 128) : val_main_v69 (F := Ideal) P D g b (ix3 q i j)
    = Scalar.select (sees i j) (∑ a, ∑ d, val_main_v58 (F := Ideal) P D (ix2 (at_ a i) (col q d)) * val_main_v38 (F := Ideal) P g b (ix2 (at_ a j) (col q d))) 0 := by
  rw [← read_sees]
  pointwise [val_main_v69, val_main_v66, val_main_v65, val_main_v60, val_main_v39, val_main_v49_1, val_main_v48, val_main_call3_v0, val_main_call3_cst]
  rfl

/-- A sum over the chunks and the columns of a position and a group. -/
theorem sum_outer {n0 n1 n2 n3 : Nat} (h : (⟨4, ![n0, n1, n2, n3]⟩ : Shape).ReducesTo [0, 3] (⟨2, ![n1, n2]⟩ : Shape)) (v : (⟨4, ![n0, n1, n2, n3]⟩ : Shape).Idx → EReal)
    (z : EReal) (i : Fin n1) (q : Fin n2) : Ideal.hostReduceAdd h v z (ix2 i q) = z + ∑ a : Fin n0, ∑ d : Fin n3, v (ix4 a i q d) := by
  refine congrArg (z + ·) ((Finset.sum_filter_eq_sum_of_fiber (M := EReal) _ (fun k : Fin n0 × Fin n3 => ix4 k.1 i q k.2) (fun x y e => Prod.ext (congrFun e 0) (congrFun e 3)) (fun x => ?_) v).trans ?_)
  · constructor
    · intro e
      refine ⟨(x 0, x 3), ?_⟩
      funext a; apply Fin.ext
      match a with
      | ⟨0, _⟩ => rfl
      | ⟨1, _⟩ => exact (congrArg Fin.val (congrFun e 0)).symm
      | ⟨2, _⟩ => exact (congrArg Fin.val (congrFun e 1)).symm
      | ⟨3, _⟩ => rfl
    · rintro ⟨k, rfl⟩
      funext a
      apply Fin.ext
      match a with
      | ⟨0, _⟩ => rfl
      | ⟨1, _⟩ => rfl
  · simp only [Fintype.sum_prod_type]

theorem read_ds (q : Fin 4) (i : Fin 128) : val_main_v119 (F := Ideal) P D (ix3 q i 0) = ∑ a, ∑ d, val_main_v58 (F := Ideal) P D (ix2 (at_ a i) (col q d)) := by
  pointwise [val_main_v119, val_main_v64, val_main_v63, val_main_v62, val_main_v61, val_main_v60, val_main_cst_9, val_main_cst_10, sum_outer]
  rw [Fin.sum_univ_one, Fin.sum_univ_one]
  rfl

theorem read_dg (l : Fin 512) : val_main_v117 (F := Ideal) P D W (ix2 0 l) = ∑ n, unit (rowV P n) l * val_main_v70 (F := Ideal) P D W (ix2 n l) := by
  simp only [← read_unit]
  pointwise [val_main_v117, val_main_v79, val_main_v76, val_main_v75, val_main_v74, val_main_cst_13, val_main_cst_14]
  exact Fin.sum_univ_one _

theorem read_db (l : Fin 512) : val_main_v118 (F := Ideal) P D W (ix2 0 l) = ∑ n, val_main_v70 (F := Ideal) P D W (ix2 n l) := by
  pointwise [val_main_v118, val_main_v73, val_main_v72, val_main_v71, val_main_cst_11, val_main_cst_12]
  exact Fin.sum_univ_one _

/-- The cotangent that enters the norm, scaled; and the gradient of the norm, as the derivative puts it. -/
def cot (n : Fin 4096) (k : Fin 512) : EReal := val_main_v70 (F := Ideal) P D W (ix2 n k) * g (ix1 k)

theorem read_cot (n : Fin 4096) (k : Fin 512) : val_main_v78 (F := Ideal) P D g W (ix2 n k) = cot P D g W n k := by
  unfold cot
  pointwise [val_main_v78, val_main_v77, val_main_v33, val_main_v34]

theorem read_pull (n : Fin 4096) (l : Fin 512) : val_main_v89 (F := Ideal) P D g W (ix2 n l) = pull (rowV P n) (cot P D g W n) := by
  unfold pull
  simp only [← read_cent, ← read_cot, ← read_spread]
  pointwise [val_main_v89, val_main_v88, val_main_v87, val_main_v86, val_main_v85, val_main_v82, val_main_v81, val_main_v80, val_main_v30, val_main_v29, val_main_v28, val_main_v27,
    val_main_cst_15, val_main_cst_16, val_main_cst_17, val_main_cst_6]
  exact Fin.sum_univ_one _

theorem read_direct (n : Fin 4096) (l : Fin 512) : val_main_v93 (F := Ideal) P D g W (ix2 n l) = direct (rowV P n) (cot P D g W n) l := by
  unfold direct
  rw [← read_pull P D g W n l]
  simp only [← read_cent, ← read_cot, ← read_spread]
  pointwise [val_main_v93, val_main_v92, val_main_v91, val_main_v90, val_main_v84, val_main_v83, val_main_v27]

theorem read_back (n : Fin 4096) (l : Fin 512) : val_main_v101 (F := Ideal) P D g W (ix2 n l)
    = direct (rowV P n) (cot P D g W n) l + mean (fun k => -direct (rowV P n) (cot P D g W n) k) := by
  have e := read_direct P D g W n
  generalize hv : val_main_v93 (F := Ideal) P D g W = v at e
  unfold mean
  simp only [← e]
  pointwise [val_main_v101, val_main_v100, val_main_v99, val_main_v98, val_main_v97, val_main_v96, val_main_v95, val_main_v94, val_main_cst_18, val_main_cst_19, val_main_cst_20, hv]
  rw [Fin.sum_univ_one]

theorem read_left (n : Fin 4096) (l : Fin 512) : val_main_v104 (F := Ideal) P D g b W s (ix2 n (⟨l.val, by omega⟩ : Fin 1024))
    = D (ix2 n l) * val_main_v56 (F := Ideal) P g b W s (ix2 n l) := by
  pointwise [val_main_v104, val_main_v103, val_main_v102, val_main_v59, val_main_cst_21, val_main_cst_22]
  rw [dif_neg (fun h => h.1)]
  exact zero_add _

theorem read_right (n : Fin 4096) (l : Fin 512) : val_main_v104 (F := Ideal) P D g b W s (ix2 n (⟨512 + l.val, by omega⟩ : Fin 1024))
    = direct (rowV P n) (cot P D g W n) l + mean (fun k => -direct (rowV P n) (cot P D g W n) k) := by
  rw [← read_back]
  pointwise [val_main_v104, val_main_v103, val_main_v102, val_main_v59, val_main_cst_21, val_main_cst_22]

/-- The last step, through the GELU. -/
theorem read_dz (n : Fin 4096) (j : Fin 1024) (x ct : ℝ) (hx : P (ix2 n (⟨1536 + j.val, by omega⟩ : Fin 7168)) = (x : EReal))
    (hc : val_main_v104 (F := Ideal) P D g b W s (ix2 n j) = (ct : EReal)) :
    val_main_v116 (F := Ideal) P D g b W s (ix2 n j) = (ct : EReal) * slope (x : EReal) := by
  rw [← slope_eq, ← hx, ← hc]
  pointwise [val_main_v116, val_main_v115, val_main_v114, val_main_v113, val_main_v112, val_main_v111, val_main_v110, val_main_v109, val_main_v108, val_main_v107, val_main_v106,
    val_main_v105, val_main_v10, val_main_v9, val_main_v8, val_main_v7, val_main_v6, val_main_v5, val_main_v4, val_main_v3, val_main_v2, val_main_v1, val_main_v0, val_main_cst, val_main_cst_0,
    val_main_cst_23, val_main_cst_24]

/-- A value that is a number. -/
def Num (x : EReal) : Prop := ∃ r : ℝ, x = (r : EReal)

theorem Num.mul {x y : EReal} : Num x → Num y → Num (x * y) := by
  rintro ⟨a, rfl⟩ ⟨b, rfl⟩; exact ⟨a * b, (EReal.coe_mul a b).symm⟩
theorem Num.add {x y : EReal} : Num x → Num y → Num (x + y) := by
  rintro ⟨a, rfl⟩ ⟨b, rfl⟩; exact ⟨a + b, (EReal.coe_add a b).symm⟩
theorem Num.sum {N : ℕ} {f : Fin N → EReal} (h : ∀ k, Num (f k)) : Num (∑ k, f k) := by
  choose r hr using h
  exact ⟨∑ k, r k, by simp only [hr, Cert.Reals.sum_coe]⟩
theorem Num.pick {p : BitVec 1} {x : EReal} (h : Num x) : Num (Scalar.select p x 0) := by
  unfold Scalar.select
  split
  · exact h
  · exact ⟨0, EReal.coe_zero.symm⟩
theorem Num.gelu {x : EReal} : Num x → Num (gelu x) := by
  rintro ⟨a, rfl⟩; exact gelu_real a

/-- What the claim asks of the arguments. -/
structure Nums : Prop where
  p : ∀ n (j : Fin 1024), Num (P (ix2 n (⟨1536 + j.val, by omega⟩ : Fin 7168)))
  d : ∀ n l, Num (D (ix2 n l))
  g : ∀ l, Num (g (ix1 l))
  b : ∀ l, Num (b (ix1 l))
  w : ∀ q i j, Num (W (ix3 q i j))
  s : ∀ q i, Num (s (ix2 q i))

variable {P D g b W s} (h : Nums P D g b W s)
include h

theorem Nums.pv (n : Fin 4096) (l : Fin 512) : Num (P (ix2 n (colV l))) := by
  have e : colV l = (⟨1536 + (⟨512 + l.val, by omega⟩ : Fin 1024).val, by omega⟩ : Fin 7168) := Fin.ext (by show 2048 + l.val = 1536 + (512 + l.val); omega)
  exact e ▸ h.p n _

theorem Nums.rows (n : Fin 4096) : ∃ z : Fin 512 → ℝ, rowV P n = fun k => (z k : EReal) := by
  have e : ∀ k, Num (rowV P n k) := fun k => (h.pv n k).gelu
  choose z hz using e
  exact ⟨z, funext hz⟩

theorem Nums.norm (n : Fin 4096) (l : Fin 512) : Num (val_main_v38 (F := Ideal) P g b (ix2 n l)) := by
  obtain ⟨z, hz⟩ := h.rows n
  rw [read_norm, hz]
  exact Num.add (Num.mul (unit_real z l) (h.g l)) (h.b l)

theorem Nums.dvm (n : Fin 4096) (l : Fin 512) : Num (val_main_v58 (F := Ideal) P D (ix2 n l)) := by
  rw [read_dvm]
  exact (h.d n l).mul (Num.gelu (h.p n ⟨l.val, by omega⟩))

theorem Nums.mix (q : Fin 4) (i j : Fin 128) : Num (mix W q i j) := (h.w q i j).pick

omit h in
theorem at_surj (n : Fin 4096) : ∃ a i, n = at_ a i :=
  ⟨⟨n.val / 128, by omega⟩, ⟨n.val % 128, by omega⟩, Fin.ext (by show n.val = n.val / 128 * 128 + n.val % 128; omega)⟩
omit h in
theorem col_surj (l : Fin 512) : ∃ q d, l = col q d :=
  ⟨⟨l.val / 128, by omega⟩, ⟨l.val % 128, by omega⟩, Fin.ext (by show l.val = l.val / 128 * 128 + l.val % 128; omega)⟩

theorem Nums.vm (n : Fin 4096) (l : Fin 512) : Num (val_main_v56 (F := Ideal) P g b W s (ix2 n l)) := by
  obtain ⟨a, i, rfl⟩ := at_surj n
  obtain ⟨q, d, rfl⟩ := col_surj l
  rw [read_mix]
  exact (Num.sum fun x => (h.mix q i x).mul (h.norm _ _)).add (h.s q i)

theorem Nums.cot (n : Fin 4096) : ∃ z : Fin 512 → ℝ, cot P D g W n = fun k => (z k : EReal) := by
  have e : ∀ k, Num (Cert.SguRead.cot P D g W n k) := fun k => by
    obtain ⟨a, i, rfl⟩ := at_surj n
    obtain ⟨q, d, rfl⟩ := col_surj k
    unfold Cert.SguRead.cot
    rw [read_dvn]
    exact (Num.sum fun x => (h.mix q x i).mul (h.dvm _ _)).mul (h.g _)
  choose z hz using e
  exact ⟨z, funext hz⟩

theorem Nums.dz_left (n : Fin 4096) (l : Fin 512) : val_main_v116 (F := Ideal) P D g b W s (ix2 n (⟨l.val, by omega⟩ : Fin 1024))
    = D (ix2 n l) * val_main_v56 (F := Ideal) P g b W s (ix2 n l) * slope (P (ix2 n (colU l))) := by
  obtain ⟨x, hx⟩ := h.p n ⟨l.val, by omega⟩
  obtain ⟨y, hy⟩ := (h.d n l).mul (h.vm n l)
  rw [read_dz P D g b W s n ⟨l.val, by omega⟩ x y hx ((read_left P D g b W s n l).trans hy), hy, ← hx]
  rfl

theorem Nums.dz_right (n : Fin 4096) (l : Fin 512) : val_main_v116 (F := Ideal) P D g b W s (ix2 n (⟨512 + l.val, by omega⟩ : Fin 1024))
    = back (rowV P n) (Cert.SguRead.cot P D g W n) l * slope (P (ix2 n (colV l))) := by
  obtain ⟨x, hx⟩ := h.p n ⟨512 + l.val, by omega⟩
  obtain ⟨z, hz⟩ := h.rows n
  obtain ⟨a, ha⟩ := h.cot n
  have e := read_right P D g b W s n l
  rw [hz, ha, (back_eq z a l).1] at e
  obtain ⟨y, hy⟩ := (back_eq z a l).2
  have ec : colV l = (⟨1536 + (⟨512 + l.val, by omega⟩ : Fin 1024).val, by omega⟩ : Fin 7168) := Fin.ext (by show 2048 + l.val = 1536 + (512 + l.val); omega)
  rw [read_dz P D g b W s n ⟨512 + l.val, by omega⟩ x y hx (e.trans hy), hz, ha, hy, ec, ← hx]

end Cert.SguRead

end
-- ==== Proof.SguTile.lean ====
/-  What one step of the spatial gate's backward kernel computes, tile by tile: four chunks of 128 positions by four groups of 128 columns. The tiles
    are the same function at different offsets, so each is read once, at offsets that are variables. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Reals
public import proofs.«01_k».proof.Proof.SguGate
public import proofs.«01_k».proof.Proof.SguRead
public import Idealize.ShloMosaic.Lib.Pipeline.ValueKit
public import Idealize.ShloMosaic.Lib.Claim

@[expose] public section

set_option maxRecDepth 16384

noncomputable section

namespace Cert.Kernel3Ideal.SguTile

open Cert.Kernel3Ideal Cert.Kernel3Ideal.Gen Cert.Reference3Ideal.Read Idealize.ShloMosaic Idealize.ShloMosaic.TcCoe Idealize.SL.Sem
open Idealize.ShloMosaic.Pipeline (Dat)

open Cert.SguGate Cert.SguRead

/-- The mask of the kernel: its two forms, by rows and by columns, are whether a position sees another. -/
abbrev MK : IVec S128x128 1 := k0_pay10 (iota Kind.tc S128x128 32 [1] iota_S128x128_d1_w32) k0_pay6 (64#32) k0_pay7 k0_pay8 k0_pay9
abbrev MKT : IVec S128x128 1 := k0_pay14 (iota Kind.tc S128x128 32 [0] iota_S128x128_d0_w32) k0_pay11 (64#32) k0_pay12 k0_pay13 1#32

theorem half_row (i j : Fin 128) : k0_pay6 (ix2 i j) = half i := by
  pointwise [k0_pay6]
  revert i
  decide +kernel
theorem half_col (i j : Fin 128) : k0_pay11 (ix2 i j) = half j := by
  pointwise [k0_pay11]
  revert j
  decide +kernel

theorem mask_at (i j : Fin 128) : MK (ix2 i j) = sees i j := by
  unfold sees
  rw [← half_row i j, ← half_col i j]
  unfold MK k0_pay10 k0_pay11 k0_pay7 k0_pay8 k0_pay9
  rfl
theorem mask_t (i j : Fin 128) : MKT (ix2 i j) = sees j i := by
  unfold sees
  rw [← half_row i j, ← half_col i j]
  unfold MKT k0_pay14 k0_pay6 k0_pay12 k0_pay13
  rfl

/-- The load of group `q` of the weights, and of the biases. -/
theorem load_w {w : FVec Ideal S4x128x128 .f32} {off : Fin 3 → ℕ} (h : ∀ a, off a + ![1, 128, 128] a ≤ S4x128x128.size a) (q : Fin 4) (h0 : off 0 = q.val) (h1 : off 1 = 0) (h2 : off 2 = 0)
    (i j : Fin 128) : (View.ld (Val := Elt Ideal) (e' := .f32) w (Rect.unit off ![1, 128, 128] h) : FVec Ideal S1x128x128 .f32) (ix3 0 i j) = w (ix3 q i j) := by
  refine congrArg w ?_
  funext a
  refine Fin.ext ?_
  rcases (by decide : ∀ a : Fin 3, a = 0 ∨ a = 1 ∨ a = 2) a with rfl | rfl | rfl <;> simp [ix3, h0, h1, h2]
theorem load_s {w : FVec Ideal S4x128x1 .f32} {off : Fin 3 → ℕ} (h : ∀ a, off a + ![1, 128, 1] a ≤ S4x128x1.size a) (q : Fin 4) (h0 : off 0 = q.val) (h1 : off 1 = 0) (h2 : off 2 = 0)
    (i : Fin 128) : (View.ld (Val := Elt Ideal) (e' := .f32) w (Rect.unit off ![1, 128, 1] h) : FVec Ideal S1x128x1 .f32) (ix3 0 i 0) = w (ix3 q i 0) := by
  refine congrArg w ?_
  funext a
  refine Fin.ext ?_
  rcases (by decide : ∀ a : Fin 3, a = 0 ∨ a = 1 ∨ a = 2) a with rfl | rfl | rfl <;> simp [ix3, h0, h1, h2]

section Tile
variable {o p : ℕ} (hs : S512x512.Slices ![o, p] S128x128)

/-- The first half's gradient on a tile: the mixed norm of the second half, under the cotangent, through the GELU's slope. -/
def tileZ (wg : FVec Ideal S128x128 .bf16) (vn : FVec Ideal S512x512 .bf16) (dy u : FVec Ideal S512x512 .f32) (sb : FVec Ideal S1x128x1 .f32) : FVec Ideal S128x128 .bf16 :=
  truncf .bf16 (mulf (mulf (extractStridedSlice S128x128 ![o, p] dy hs)
      (addf (matmul dot_S128x128_S128x128_S128x128_1_0_0_1_n_n none wg (extractStridedSlice S128x128 ![o, p] vn hs) (constant S128x128 .f32 0x00000000#32))
        (broadcastTo S128x128 (shapeCast S128x1 sb shapeCasts_S1x128x1_S128x1) broadcasts_S128x1_S128x128)))
    (addf (mulf (broadcast S128x128 (Scalar.ofBits .f32 0x3F000000#32)) (addf (broadcast S128x128 (Scalar.ofBits .f32 0x3F800000#32))
        (erf (mulf (extractStridedSlice S128x128 ![o, p] u hs) (broadcast S128x128 (Named.named κ "inv_sqrt2" 0x3F3504F3#32))))))
      (mulf (mulf (extractStridedSlice S128x128 ![o, p] u hs) (broadcast S128x128 (Named.named κ "inv_sqrt2pi" 0x3ECC422A#32)))
        (exp (mulf (mulf (broadcast S128x128 (Scalar.ofBits .f32 0xBF000000#32)) (extractStridedSlice S128x128 ![o, p] u hs)) (extractStridedSlice S128x128 ![o, p] u hs)))))) bitsLt_bf16_f32

theorem tileZ_at (wg : FVec Ideal S128x128 .bf16) (vn : FVec Ideal S512x512 .bf16) (dy u : FVec Ideal S512x512 .f32) (sb : FVec Ideal S1x128x1 .f32) (x d : Fin 128) (l : Fin 512) (f : Fin 128 → Fin 512)
    (hl : l.val = p + d.val) (hf : ∀ y, (f y).val = o + y.val) :
    tileZ hs wg vn dy u sb (ix2 x d) = dy (ix2 (f x) l) * (∑ y, wg (ix2 x y) * vn (ix2 (f y) l) + sb (ix3 0 x 0)) * SguGate.slope (u (ix2 (f x) l)) := by
  have e : ∀ y (h : o + y.val < 512) (h' : p + d.val < 512), (ix2 (⟨o + y.val, h⟩ : Fin 512) (⟨p + d.val, h'⟩ : Fin 512)) = ix2 (f y) l := fun y h h' => by
    rw [Fin.ext (hf y) (a := f y) (b := ⟨o + y.val, h⟩), Fin.ext hl (a := l) (b := ⟨p + d.val, h'⟩)]
  unfold SguGate.slope
  pointwise [tileZ]
  simp only [e]
  rfl

/-- The gradient of the norm's result on a tile: the mixing, transposed. -/
def tileV (wt : FVec Ideal S128x128 .bf16) (dvm : FVec Ideal S512x512 .f32) : FVec Ideal S128x128 .f32 :=
  shapeCast S128x128 (matmul dot_S128x128_S128x128_S128x128_1_0_0_1_n_n none wt (truncf .bf16 (extractStridedSlice S128x128 ![o, p] dvm hs) bitsLt_bf16_f32) (constant S128x128 .f32 0x00000000#32))
    shapeCasts_S128x128_S128x128

theorem tileV_at (wt : FVec Ideal S128x128 .bf16) (dvm : FVec Ideal S512x512 .f32) (x d : Fin 128) (l : Fin 512) (f : Fin 128 → Fin 512)
    (hl : l.val = p + d.val) (hf : ∀ y, (f y).val = o + y.val) :
    tileV hs wt dvm (ix2 x d) = ∑ y, wt (ix2 x y) * dvm (ix2 (f y) l) := by
  have e : ∀ y (h : o + y.val < 512) (h' : p + d.val < 512), (ix2 (⟨o + y.val, h⟩ : Fin 512) (⟨p + d.val, h'⟩ : Fin 512)) = ix2 (f y) l := fun y h h' => by
    rw [Fin.ext (hf y) (a := f y) (b := ⟨o + y.val, h⟩), Fin.ext hl (a := l) (b := ⟨p + d.val, h'⟩)]
  pointwise [tileV]
  simp only [e]

end Tile

theorem pick_at (w : FVec Ideal S1x128x128 .f32) (x y : Fin 128) : k0_pay25 (F := Ideal) MK w (ix2 x y) = Scalar.select (sees x y) (w (ix3 0 x y)) 0 := by
  have e := mask_at x y
  generalize MK = M at e ⊢
  rw [← e]
  pointwise [k0_pay25]
theorem pick_t (w : FVec Ideal S1x128x128 .f32) (x y : Fin 128) : k0_pay26 (F := Ideal) MKT w (ix2 x y) = Scalar.select (sees y x) (w (ix3 0 x y)) 0 := by
  have e := mask_t x y
  generalize MKT = M at e ⊢
  rw [← e]
  pointwise [k0_pay26]

section Chain
variable {p : ℕ} (h0 : S512x512.Slices ![0, p] S128x128) (h1 : S512x512.Slices ![128, p] S128x128) (h2 : S512x512.Slices ![256, p] S128x128) (h3 : S512x512.Slices ![384, p] S128x128)

/-- What the step's four chunks add to the weights' gradient, and to the biases'. -/
def stepW (vn : FVec Ideal S512x512 .bf16) (dvm : FVec Ideal S512x512 .f32) : FVec Ideal S128x128 .f32 :=
  let tile {o : ℕ} (hs : S512x512.Slices ![o, p] S128x128) := matmul dot_S128x128_S128x128_S128x128_1_1_0_0_n_n none (truncf .bf16 (extractStridedSlice S128x128 ![o, p] dvm hs) bitsLt_bf16_f32)
    (extractStridedSlice S128x128 ![o, p] vn hs) (constant (F := Ideal) S128x128 .f32 0x00000000#32)
  addf (addf (addf (addf (broadcast S128x128 (Scalar.ofBits .f32 0x00000000#32)) (tile h0)) (tile h1)) (tile h2)) (tile h3)
def stepS (dvm : FVec Ideal S512x512 .f32) : FVec Ideal S128x1 .f32 :=
  let tile {o : ℕ} (hs : S512x512.Slices ![o, p] S128x128) := shapeCast S128x1 (multiReduction (F := Ideal) .add [1] S128 (extractStridedSlice S128x128 ![o, p] dvm hs) 0x00000000#32 reduces_S128x128_S128 (.inl rfl) rfl) shapeCasts_S128_S128x1
  addf (addf (addf (addf (broadcast S128x1 (Scalar.ofBits .f32 0x00000000#32)) (tile h0)) (tile h1)) (tile h2)) (tile h3)

def addW (mk : IVec S128x128 1) (w : FVec Ideal S128x128 .f32) (old : FVec Ideal S1x128x128 .f32) : FVec Ideal S1x128x128 .f32 :=
  shapeCast S1x128x128 (addf (shapeCast S128x128 old shapeCasts_S1x128x128_S128x128) (select mk w (broadcast S128x128 (Scalar.ofBits .f32 0x00000000#32)))) shapeCasts_S128x128_S1x128x128
def addS (w : FVec Ideal S128x1 .f32) (old : FVec Ideal S1x128x1 .f32) : FVec Ideal S1x128x1 .f32 :=
  shapeCast S1x128x1 (addf (shapeCast S128x1 old shapeCasts_S1x128x1_S128x1) w) shapeCasts_S128x1_S1x128x1

/-- Position `y` of chunk `a` of a step. -/
def spot (a : Fin 4) (y : Fin 128) : Fin 512 := ⟨a.val * 128 + y.val, by omega⟩

theorem stepW_at (vn : FVec Ideal S512x512 .bf16) (dvm : FVec Ideal S512x512 .f32) (q : Fin 4) (hq : p = q.val * 128) (i j : Fin 128) :
    stepW h0 h1 h2 h3 vn dvm (ix2 i j) = ∑ a : Fin 4, ∑ d, dvm (ix2 (spot a i) (col q d)) * vn (ix2 (spot a j) (col q d)) := by
  subst hq
  rw [Fin.sum_univ_four]
  pointwise [stepW]
  have e : ∀ (y : Fin 128) (h : y.val < 512), (⟨y.val, h⟩ : Fin 512) = spot 0 y := fun y h => Fin.ext (by show y.val = 0 * 128 + y.val; omega)
  simp only [e]
  rfl
theorem stepS_at (dvm : FVec Ideal S512x512 .f32) (q : Fin 4) (hq : p = q.val * 128) (i : Fin 128) :
    stepS h0 h1 h2 h3 dvm (ix2 i 0) = ∑ a : Fin 4, ∑ d, dvm (ix2 (spot a i) (col q d)) := by
  subst hq
  rw [Fin.sum_univ_four]
  pointwise [stepS]
  have e : ∀ (y : Fin 128) (h : y.val < 512), (⟨y.val, h⟩ : Fin 512) = spot 0 y := fun y h => Fin.ext (by show y.val = 0 * 128 + y.val; omega)
  simp only [e]
  rfl
theorem addW_at (w : FVec Ideal S128x128 .f32) (old : FVec Ideal S1x128x128 .f32) (i j : Fin 128) :
    addW MK w old (ix3 0 i j) = old (ix3 0 i j) + Scalar.select (sees i j) (w (ix2 i j)) 0 := by
  have e := mask_at i j
  generalize MK = M at e ⊢
  rw [← e]
  pointwise [addW]
theorem addS_at (w : FVec Ideal S128x1 .f32) (old : FVec Ideal S1x128x1 .f32) (i : Fin 128) :
    addS w old (ix3 0 i 0) = old (ix3 0 i 0) + w (ix2 i 0) := by
  pointwise [addS]

end Chain

section Rows
variable (g b old : FVec Ideal S1x512 .f32) (u v dy dvn : FVec Ideal S512x512 .f32)

/-- The rows of the second half after the GELU, and their norm. -/
def zrow (r : Fin 512) (k : Fin 512) : EReal := gelu (v (ix2 r k))

theorem gelu_at (r k : Fin 512) : k0_pay18 (F := Ideal) v (ix2 r k) = zrow v r k := by
  unfold zrow gelu
  pointwise [k0_pay18]
  rfl
theorem dvm_at (r k : Fin 512) : k0_pay24 (F := Ideal) dy (k0_pay15 u) (ix2 r k) = dy (ix2 r k) * gelu (u (ix2 r k)) := by
  unfold gelu
  pointwise [k0_pay24, k0_pay15]
  rfl
theorem cent_at (r k : Fin 512) : k0_pay20 (F := Ideal) (k0_pay18 v) (k0_pay19 v) (FloatOps.ofBits FTy.f32 1140850688#32) (ix2 r k) = cent (zrow v r) k := by
  have e := gelu_at v
  unfold cent mean
  simp only [← e]
  unfold k0_pay19
  generalize k0_pay18 (F := Ideal) v = z
  pointwise [k0_pay20]
theorem root_at (r : Fin 512) : k0_pay21 (F := Ideal) (k0_pay18 v) (k0_pay19 v) (FloatOps.ofBits FTy.f32 1140850688#32) (ix2 r 0) = Ideal.rsqrt (spread (zrow v r)) := by
  have e := cent_at v
  unfold spread mean k0_pay21
  simp only [← e]
  generalize k0_pay20 (F := Ideal) (k0_pay18 v) (k0_pay19 v) (FloatOps.ofBits FTy.f32 1140850688#32) = z
  pointwise []
theorem unit_at (r k : Fin 512) : k0_pay22 (F := Ideal) (k0_pay18 v) (k0_pay19 v) (FloatOps.ofBits FTy.f32 1140850688#32) (ix2 r k) = unit (zrow v r) k := by
  unfold unit k0_pay22
  rw [← cent_at, ← root_at]
  pointwise []
theorem norm_at (r k : Fin 512) : k0_pay23 (F := Ideal) (k0_pay16 g) (k0_pay17 b) (k0_pay18 v) (k0_pay19 v) (FloatOps.ofBits FTy.f32 1140850688#32) (ix2 r k)
    = unit (zrow v r) k * g (ix2 0 k) + b (ix2 0 k) := by
  rw [← unit_at]
  unfold k0_pay23
  pointwise [k0_pay16, k0_pay17]
theorem dg_at (x : FVec Ideal S512x512 .f32) (k : Fin 512) : k0_pay166 (F := Ideal) x dvn old (ix2 0 k) = old (ix2 0 k) + ∑ r, dvn (ix2 r k) * x (ix2 r k) := by
  pointwise [k0_pay166]
theorem db_at (k : Fin 512) : k0_pay167 (F := Ideal) dvn old (ix2 0 k) = old (ix2 0 k) + ∑ r, dvn (ix2 r k) := by
  pointwise [k0_pay167]
theorem back_at (r k : Fin 512) : k0_pay168 (F := Ideal) (k0_pay21 (k0_pay18 v) (k0_pay19 v) (FloatOps.ofBits FTy.f32 1140850688#32)) (k0_pay22 (k0_pay18 v) (k0_pay19 v) (FloatOps.ofBits FTy.f32 1140850688#32)) dvn g (ix2 r k)
    = back (zrow v r) (fun k => dvn (ix2 r k) * g (ix2 0 k)) k := by
  unfold back mean
  simp only [← unit_at, ← root_at]
  generalize k0_pay21 (F := Ideal) (k0_pay18 v) (k0_pay19 v) (FloatOps.ofBits FTy.f32 1140850688#32) = s
  generalize k0_pay22 (F := Ideal) (k0_pay18 v) (k0_pay19 v) (FloatOps.ofBits FTy.f32 1140850688#32) = z
  pointwise [k0_pay168]
theorem slope_at (x : FVec Ideal S512x512 .f32) (r k : Fin 512) : k0_pay1 (F := Ideal) v x (k0_pay169 v) (ix2 r k) = x (ix2 r k) * SguGate.slope (v (ix2 r k)) := by
  unfold SguGate.slope
  pointwise [k0_pay1, k0_pay169]
  rfl

end Rows

end Cert.Kernel3Ideal.SguTile

end
-- ==== Proof.SguStep.lean ====
/-  One step of the spatial gate's backward kernel (`_sgu_bwd` at [4096, 512], eight steps of four chunks): the blocks it reads, and what it
    leaves in the rows' gradient and in the sums of the norm's scale and shift. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Reals
public import proofs.«01_k».proof.Proof.SguGate
public import proofs.«01_k».proof.Proof.SguRead
public import proofs.«01_k».proof.Proof.SguTile
public import Idealize.ShloMosaic.Lib.Pipeline.ValueKit
public import Idealize.ShloMosaic.Lib.Claim

@[expose] public section

set_option maxRecDepth 16384

noncomputable section

namespace Cert.Kernel3Ideal.SguStep

open Cert.Kernel3Ideal Cert.Kernel3Ideal.Gen Cert.Reference3Ideal.Read Idealize.ShloMosaic Idealize.ShloMosaic.TcCoe Idealize.SL.Sem
open Idealize.ShloMosaic.Pipeline (Dat)

open Cert.SguGate Cert.SguRead Cert.Kernel3Ideal.SguTile

variable (m : (ℓ : Loc nD τ sig) → Buf (Elt Ideal) ℓ)

theorem idx : ∀ t : Fin cfg0.N, win0_0.index t = ![t.val, 3] ∧ win0_1.index t = ![t.val, 4] ∧ win0_2.index t = ![t.val, 0] ∧ win0_3.index t = ![0, 0] ∧ win0_4.index t = ![0, 0]
    ∧ win0_5.index t = ![0, 0, 0] ∧ win0_6.index t = ![0, 0, 0] ∧ win0_7.index t = ![0, 0, 0] ∧ win0_8.index t = ![t.val, 0] ∧ win0_9.index t = ![0, 0] ∧ win0_10.index t = ![0, 0]
    ∧ win0_11.index t = ![0, 0, 0] ∧ win0_12.index t = ![0, 0, 0] :=
  (by decide +kernel : ∀ t : Fin grid0.N, _)

/-- Row `r` of step `t`. -/
abbrev row (t : Fin cfg0.N) (r : Fin 512) : Fin 4096 := ⟨512 * t.val + r.val, by have := t.isLt; have h : cfg0.N = 8 := N_0; omega⟩
/-- Chunk `a` of step `t`. -/
abbrev chunk (t : Fin cfg0.N) (a : Fin 4) : Fin 32 := ⟨4 * t.val + a.val, by have := t.isLt; have h : cfg0.N = 8 := N_0; omega⟩
abbrev proj (c : Dev nD) : FVec Ideal S4096x7168 .f32 := m ((c : Thread nD τ).loc main_arg0)
abbrev ct (c : Dev nD) : FVec Ideal S4096x512 .f32 := m ((c : Thread nD τ).loc main_arg1)
abbrev gain (c : Dev nD) : FVec Ideal S512 .f32 := m ((c : Thread nD τ).loc main_arg2)
abbrev bias (c : Dev nD) : FVec Ideal S512 .f32 := m ((c : Thread nD τ).loc main_arg3)
abbrev wsp (c : Dev nD) : FVec Ideal S4x128x128 .f32 := m ((c : Thread nD τ).loc main_arg4)
abbrev bsp (c : Dev nD) : FVec Ideal S4x128 .f32 := m ((c : Thread nD τ).loc main_arg5)

theorem row_spot (t : Fin cfg0.N) (a : Fin 4) (y : Fin 128) : row t (spot a y) = at_ (chunk t a) y :=
  Fin.ext (by show 512 * t.val + (a.val * 128 + y.val) = (4 * t.val + a.val) * 128 + y.val; omega)

section Blocks
variable (c : Dev nD) (t : Fin cfg0.N)

theorem block_u (r l : Fin 512) : (iblk m c 0 t : FVec Ideal S512x512 .f32) (ix2 r l) = proj m c (ix2 (row t r) (colU l)) := by
  blk_ext! [iblk, V, idx t, colU]
theorem block_v (r l : Fin 512) : (iblk m c 1 t : FVec Ideal S512x512 .f32) (ix2 r l) = proj m c (ix2 (row t r) (colV l)) := by
  blk_ext! [iblk, V, idx t, colV]
theorem block_dy (r l : Fin 512) : (iblk m c 2 t : FVec Ideal S512x512 .f32) (ix2 r l) = ct m c (ix2 (row t r) l) := by
  blk_ext! [iblk, V, idx t]
theorem block_g (l : Fin 512) : (iblk m c 3 t : FVec Ideal S1x512 .f32) (ix2 0 l) = gain m c (ix1 l) := by
  blk_ext! [iblk, V, idx t]
theorem block_b (l : Fin 512) : (iblk m c 4 t : FVec Ideal S1x512 .f32) (ix2 0 l) = bias m c (ix1 l) := by
  blk_ext! [iblk, V, idx t]
theorem block_w (q : Fin 4) (i j : Fin 128) : (iblk m c 5 t : FVec Ideal S4x128x128 .f32) (ix3 q i j) = wsp m c (ix3 q i j) := by
  blk_ext! [iblk, V, idx t]
theorem block_t (q : Fin 4) (i j : Fin 128) : (iblk m c 6 t : FVec Ideal S4x128x128 .f32) (ix3 q i j) = wsp m c (ix3 q j i) := by
  blk_ext! [iblk, V, idx t]
theorem block_s (q : Fin 4) (i : Fin 128) : (iblk m c 7 t : FVec Ideal S4x128x1 .f32) (ix3 q i 0) = bsp m c (ix2 q i) := by
  blk_ext! [iblk, V, idx t]

/-- The step's norm of the second half, and its cotangent times the first half. -/
abbrev VN : FVec Ideal S512x512 .bf16 := k0_pay23 (k0_pay16 (iblk m c 3 t)) (k0_pay17 (iblk m c 4 t)) (k0_pay18 (iblk m c 1 t)) (k0_pay19 (iblk m c 1 t)) (FloatOps.ofBits FTy.f32 1140850688#32)
abbrev DVM : FVec Ideal S512x512 .f32 := k0_pay24 (iblk m c 2 t) (k0_pay15 (iblk m c 0 t))

theorem zrow_eq (r : Fin 512) : zrow (iblk m c 1 t) r = rowV (proj m c) (row t r) :=
  funext fun k => congrArg gelu (block_v m c t r k)
theorem norm_eq (r l : Fin 512) : VN m c t (ix2 r l) = val_main_v38 (F := Ideal) (proj m c) (gain m c) (bias m c) (ix2 (row t r) l) := by
  rw [read_norm]
  refine (norm_at _ _ _ r l).trans ?_
  rw [zrow_eq, block_g, block_b]
theorem dvm_eq (r l : Fin 512) : DVM m c t (ix2 r l) = val_main_v58 (F := Ideal) (proj m c) (ct m c) (ix2 (row t r) l) := by
  rw [read_dvm]
  refine (dvm_at _ _ r l).trans ?_
  rw [block_u, block_dy]

/-- Every index of a step's block lies in one tile; there the tile's value is the derivative's. -/
theorem left_tile {o p gi : ℕ} (hs : S512x512.Slices ![o, p] S128x128) (i5 : ∀ a, ![gi, 0, 0] a + ![1, 128, 128] a ≤ S4x128x128.size a) (i7 : ∀ a, ![gi, 0, 0] a + ![1, 128, 1] a ≤ S4x128x1.size a)
    (ho : o < 512 ∧ o % 128 = 0 ∧ gi < 4 ∧ p = gi * 128) (x d : Fin 128) (r l : Fin 512) (hr : r.val = o + x.val) (hl : l.val = p + d.val) :
    tileZ hs (k0_pay25 MK (View.ld (iblk m c 5 t) (Rect.unit ![gi, 0, 0] ![1, 128, 128] i5))) (VN m c t) (iblk m c 2 t) (iblk m c 0 t) (View.ld (iblk m c 7 t) (Rect.unit ![gi, 0, 0] ![1, 128, 1] i7)) (ix2 x d)
      = ct m c (ix2 (row t r) l) * val_main_v56 (F := Ideal) (proj m c) (gain m c) (bias m c) (wsp m c) (bsp m c) (ix2 (row t r) l) * SguGate.slope (proj m c (ix2 (row t r) (colU l))) := by
  obtain ⟨h1, h2, h3, h4⟩ := ho
  have hf : ∀ y : Fin 128, (spot ⟨o / 128, by omega⟩ y).val = o + y.val := fun y => by show o / 128 * 128 + y.val = o + y.val; omega
  have er : r = spot ⟨o / 128, by omega⟩ x := Fin.ext (hr.trans (hf x).symm)
  have el : l = col ⟨gi, h3⟩ d := Fin.ext (by show l.val = gi * 128 + d.val; omega)
  refine (tileZ_at hs _ _ _ _ _ x d l _ hl hf).trans ?_
  rw [← er, block_dy, block_u, load_s i7 ⟨gi, h3⟩ rfl rfl rfl, block_s]
  refine congrArg (fun z => ct m c (ix2 (row t r) l) * z * SguGate.slope (proj m c (ix2 (row t r) (colU l)))) ?_
  rw [er, el, row_spot, read_mix]
  refine congrArg (· + bsp m c (ix2 ⟨gi, h3⟩ x)) (Finset.sum_congr (M := EReal) rfl fun y _ => ?_)
  rw [pick_at, norm_eq, row_spot, load_w i5 ⟨gi, h3⟩ rfl rfl rfl, block_w]
  rfl

theorem dvn_tile {o p gi : ℕ} (hs : S512x512.Slices ![o, p] S128x128) (i6 : ∀ a, ![gi, 0, 0] a + ![1, 128, 128] a ≤ S4x128x128.size a)
    (ho : o < 512 ∧ o % 128 = 0 ∧ gi < 4 ∧ p = gi * 128) (x d : Fin 128) (r l : Fin 512) (hr : r.val = o + x.val) (hl : l.val = p + d.val) :
    tileV hs (k0_pay26 MKT (View.ld (iblk m c 6 t) (Rect.unit ![gi, 0, 0] ![1, 128, 128] i6))) (DVM m c t) (ix2 x d)
      = val_main_v70 (F := Ideal) (proj m c) (ct m c) (wsp m c) (ix2 (row t r) l) := by
  obtain ⟨h1, h2, h3, h4⟩ := ho
  have hf : ∀ y : Fin 128, (spot ⟨o / 128, by omega⟩ y).val = o + y.val := fun y => by show o / 128 * 128 + y.val = o + y.val; omega
  have er : r = spot ⟨o / 128, by omega⟩ x := Fin.ext (hr.trans (hf x).symm)
  have el : l = col ⟨gi, h3⟩ d := Fin.ext (by show l.val = gi * 128 + d.val; omega)
  refine (tileV_at hs _ _ x d l _ hl hf).trans ?_
  rw [er, el, row_spot, read_dvn]
  refine Finset.sum_congr (M := EReal) rfl fun y _ => ?_
  rw [pick_t, dvm_eq, row_spot, load_w i6 ⟨gi, h3⟩ rfl rfl rfl, block_t]
  rfl

end Blocks

section Outs
variable (c : Dev nD) (t : Fin cfg0.N)

theorem whole_idx (h : ∀ a, ![0, 0] a + ![512, 512] a ≤ S512x512.size a) (r l : Fin 512) : (Rect.unit (s := S512x512) ![0, 0] ![512, 512] h).idx (ix2 r l) = ix2 r l := by
  funext a
  refine Fin.ext ?_
  rcases (by decide : ∀ a : Fin 2, a = 0 ∨ a = 1) a with rfl | rfl <;> simp [ix2]

abbrev UN : FVec Ideal S512x512 .f32 := k0_pay22 (k0_pay18 (iblk m c 1 t)) (k0_pay19 (iblk m c 1 t)) (FloatOps.ofBits FTy.f32 1140850688#32)
abbrev RT : FVec Ideal S512x1 .f32 := k0_pay21 (k0_pay18 (iblk m c 1 t)) (k0_pay19 (iblk m c 1 t)) (FloatOps.ofBits FTy.f32 1140850688#32)

/-- What a store leaves on the second half of the columns, and that it leaves the first half. -/
theorem right_hit (h : ∀ a, ![0, 512] a + ![512, 512] a ≤ S512x1024.size a) (w : FVec Ideal S512x512 .bf16) (L : List (View.Piece (Elt Ideal) S512x1024 .bf16)) (r l : Fin 512) :
    View.canon (Val := Elt Ideal) ((⟨Rect.unit ![0, 512] ![512, 512] h, w⟩ : View.Piece (Elt Ideal) S512x1024 .bf16) :: L) (ix2 r (⟨512 + l.val, by omega⟩ : Fin 1024)) = w (ix2 r l) := by
  have e : (ix2 r (⟨512 + l.val, by omega⟩ : Fin 1024) : S512x1024.Idx) = (Rect.unit ![0, 512] ![512, 512] h).emb (ix2 r l) := by
    funext a
    refine Fin.ext ?_
    rcases (by decide : ∀ a : Fin 2, a = 0 ∨ a = 1) a with rfl | rfl <;> simp [ix2]
  rw [e]
  apply View.canon_cons_emb
theorem right_miss (h : ∀ a, ![0, 512] a + ![512, 512] a ≤ S512x1024.size a) (w : FVec Ideal S512x512 .bf16) (L : List (View.Piece (Elt Ideal) S512x1024 .bf16)) (r l : Fin 512) :
    View.canon (Val := Elt Ideal) ((⟨Rect.unit ![0, 512] ![512, 512] h, w⟩ : View.Piece (Elt Ideal) S512x1024 .bf16) :: L) (ix2 r (⟨l.val, by omega⟩ : Fin 1024))
      = View.canon L (ix2 r (⟨l.val, by omega⟩ : Fin 1024)) := by
  refine View.canon_cons_of_not_mem _ L fun hm => ?_
  mem_blk at hm
  have e := hm 1
  simp [ix2] at e
  omega

/-- The sixteen tiles of the first half of the columns, and that they cover it. -/
theorem tile_inb (q a : Fin 4) : ∀ k : Fin 2, (![a.val * 128, q.val * 128] : Fin 2 → ℕ) k + (![128, 128] : Fin 2 → ℕ) k ≤ S512x1024.size k := by
  intro k
  rcases (by decide : ∀ a : Fin 2, a = 0 ∨ a = 1) k with rfl | rfl
  · show a.val * 128 + 128 ≤ 512; omega
  · show q.val * 128 + 128 ≤ 1024; omega
def tile (q a : Fin 4) : Rect S512x1024 := Rect.unit (s := S512x1024) ![a.val * 128, q.val * 128] ![128, 128] (tile_inb q a)
def tiles : List (Rect S512x1024) := ([3, 2, 1, 0] : List (Fin 4)).flatMap fun q => ([3, 2, 1, 0] : List (Fin 4)).map fun a => tile q a
theorem cover (L : List (View.Piece (Elt Ideal) S512x1024 .bf16)) (e : L.map (fun p => p.1) = tiles) (r l : Fin 512) : ∃ p ∈ L, (ix2 r (⟨l.val, by omega⟩ : Fin 1024) : S512x1024.Idx) ∈ p.1.set := by
  have all : ∀ a : Fin 4, a ∈ ([3, 2, 1, 0] : List (Fin 4)) := by decide
  have hm : tile ⟨l.val / 128, by omega⟩ ⟨r.val / 128, by omega⟩ ∈ L.map (fun p => p.1) := by
    rw [e]
    exact List.mem_flatMap.2 ⟨_, all _, List.mem_map.2 ⟨_, all _, rfl⟩⟩
  obtain ⟨p, hp, ep⟩ := List.mem_map.1 hm
  refine ⟨p, hp, ?_⟩
  rw [ep]
  refine Rect.mem_set_unit.2 fun k => ?_
  rcases (by decide : ∀ a : Fin 2, a = 0 ∨ a = 1) k with rfl | rfl
  · show r.val / 128 * 128 ≤ r.val ∧ r.val < r.val / 128 * 128 + 128; omega
  · show l.val / 128 * 128 ≤ l.val ∧ l.val < l.val / 128 * 128 + 128; omega

/-- What a step leaves: its gradient `R` of the norm's result, read back from sixteen tiles, the sums the step takes of it, and the two halves of its rows. -/
def Left (R : FVec Ideal S512x512 .f32) (g0 b0 : FVec Ideal S1x512 .f32) : Prop :=
  (outsAt0 m c t.val t.isLt).2.1 = k0_pay166 (F := Ideal) (UN m c t) R g0 ∧ (outsAt0 m c t.val t.isLt).2.2.1 = k0_pay167 (F := Ideal) R b0
    ∧ (∀ r l : Fin 512, (outsAt0 m c t.val t.isLt).1 (ix2 r (⟨512 + l.val, by omega⟩ : Fin 1024)) = k0_pay1 (F := Ideal) (iblk m c 1 t) (k0_pay168 (RT m c t) (UN m c t) R (iblk m c 3 t)) (k0_pay169 (iblk m c 1 t)) (ix2 r l))
    ∧ (∀ r l, R (ix2 r l) = val_main_v70 (F := Ideal) (proj m c) (ct m c) (wsp m c) (ix2 (row t r) l))
    ∧ ∀ r l : Fin 512, (outsAt0 m c t.val t.isLt).1 (ix2 r (⟨l.val, by omega⟩ : Fin 1024))
      = ct m c (ix2 (row t r) l) * val_main_v56 (F := Ideal) (proj m c) (gain m c) (bias m c) (wsp m c) (bsp m c) (ix2 (row t r) l) * SguGate.slope (proj m c (ix2 (row t r) (colU l)))

set_option maxHeartbeats 1000000 in
theorem step_first (h : t.val % 8 = 0) : ∃ R, Left m c t R k0_pay2 k0_pay3 := by
  unfold Left
  rw [outsAt0_A m c t h]
  apply Exists.intro
  refine ⟨?_, ?_, fun r l => ?_, fun r l => ?_, fun r l => ?_⟩
  · frame_out
    rfl
  · frame_out
  · frame_out
    exact right_hit _ _ _ r l
  · refine (congrFun (View.readCov_eq_canon' _ _ _) _).trans ?_
    refine (congrArg (View.canon _) (whole_idx _ r l)).trans ?_
    canon_tiles
    all_goals exact dvn_tile m c t (by decide) _ (by decide) _ _ _ _ (by first | assumption | (refine Eq.trans ?_ (Nat.zero_add _).symm; assumption)) (by first | assumption | (refine Eq.trans ?_ (Nat.zero_add _).symm; assumption))
  · frame_out
    refine (right_miss _ _ _ r l).trans ?_
    canon_tiles x h using (by refine cover _ ?_ r l; rfl)
    all_goals (idx_vars x; exact left_tile m c t (by decide) _ _ (by decide) _ _ _ _ (by first | assumption | (refine Eq.trans ?_ (Nat.zero_add _).symm; assumption)) (by first | assumption | (refine Eq.trans ?_ (Nat.zero_add _).symm; assumption)))

set_option maxHeartbeats 1000000 in
theorem step_next (h : ¬t.val % 8 = 0) : ∃ R, Left m c t R (outsAt0 m c (t.val - 1) (Nat.lt_of_le_of_lt (Nat.sub_le _ _) t.isLt)).2.1 (outsAt0 m c (t.val - 1) (Nat.lt_of_le_of_lt (Nat.sub_le _ _) t.isLt)).2.2.1 := by
  unfold Left
  rw [outsAt0_B m c t h]
  apply Exists.intro
  refine ⟨?_, ?_, fun r l => ?_, fun r l => ?_, fun r l => ?_⟩
  · frame_out
    rfl
  · frame_out
  · frame_out
    exact right_hit _ _ _ r l
  · refine (congrFun (View.readCov_eq_canon' _ _ _) _).trans ?_
    refine (congrArg (View.canon _) (whole_idx _ r l)).trans ?_
    canon_tiles
    all_goals exact dvn_tile m c t (by decide) _ (by decide) _ _ _ _ (by first | assumption | (refine Eq.trans ?_ (Nat.zero_add _).symm; assumption)) (by first | assumption | (refine Eq.trans ?_ (Nat.zero_add _).symm; assumption))
  · frame_out
    refine (right_miss _ _ _ r l).trans ?_
    canon_tiles x h using (by refine cover _ ?_ r l; rfl)
    all_goals (idx_vars x; exact left_tile m c t (by decide) _ _ (by decide) _ _ _ _ (by first | assumption | (refine Eq.trans ?_ (Nat.zero_add _).symm; assumption)) (by first | assumption | (refine Eq.trans ?_ (Nat.zero_add _).symm; assumption)))

end Outs

end Cert.Kernel3Ideal.SguStep

end
-- ==== Proof.SguMix.lean ====
/-  The spatial gate's backward kernel: what a step adds to the gradients of the mixing weights and of the biases. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Reals
public import proofs.«01_k».proof.Proof.SguGate
public import proofs.«01_k».proof.Proof.SguRead
public import proofs.«01_k».proof.Proof.SguTile
public import proofs.«01_k».proof.Proof.SguStep
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel3Ideal.SguMix

open Cert.Kernel3Ideal Cert.Kernel3Ideal.Gen Cert.Reference3Ideal.Read Idealize.ShloMosaic Idealize.ShloMosaic.TcCoe Idealize.SL.Sem
open Idealize.ShloMosaic.Pipeline (Dat)

open Cert.SguGate Cert.SguRead Cert.Kernel3Ideal.SguTile Cert.Kernel3Ideal.SguStep

variable (m : (ℓ : Loc nD τ sig) → Buf (Elt Ideal) ℓ)

section Rows
variable {off : Fin 3 → ℕ} (h : ∀ a, off a + ![1, 128, 128] a ≤ S4x128x128.size a) (w : FVec Ideal S1x128x128 .f32) (L : List (View.Piece (Elt Ideal) S4x128x128 .f32)) (q : Fin 4) (i j : Fin 128)

/-- After a store of group `q` that group reads what was stored, and another one what stood there. -/
theorem row_hit_w (h0 : off 0 = q.val) (h1 : off 1 = 0) (h2 : off 2 = 0) :
    View.canon (Val := Elt Ideal) ((⟨Rect.unit off ![1, 128, 128] h, w⟩ : View.Piece (Elt Ideal) S4x128x128 .f32) :: L) (ix3 q i j) = w (ix3 0 i j) := by
  have e : (ix3 q i j : S4x128x128.Idx) = (Rect.unit off ![1, 128, 128] h).emb (ix3 0 i j) := by
    funext a
    refine Fin.ext ?_
    rcases (by decide : ∀ a : Fin 3, a = 0 ∨ a = 1 ∨ a = 2) a with rfl | rfl | rfl <;> simp [ix3, h0, h1, h2]
  rw [e]
  apply View.canon_cons_emb
theorem row_miss_w (h0 : off 0 ≠ q.val) : View.canon (Val := Elt Ideal) ((⟨Rect.unit off ![1, 128, 128] h, w⟩ : View.Piece (Elt Ideal) S4x128x128 .f32) :: L) (ix3 q i j) = View.canon L (ix3 q i j) := by
  refine View.canon_cons_of_not_mem _ L fun hm => ?_
  mem_blk at hm
  have e := hm 0
  simp [ix3] at e
  omega

end Rows

section Point
variable (c : Dev nD) (t : Fin cfg0.N)

/-- What a step adds to an element of the weights' gradient. -/
def partW (t : Fin cfg0.N) (q : Fin 4) (i j : Fin 128) : EReal :=
  Scalar.select (sees i j) (∑ a : Fin 4, ∑ d, val_main_v58 (F := Ideal) (proj m c) (ct m c) (ix2 (at_ (chunk t a) i) (col q d)) * val_main_v38 (F := Ideal) (proj m c) (gain m c) (bias m c) (ix2 (at_ (chunk t a) j) (col q d))) 0

theorem w_tile {p : ℕ} (h0 : S512x512.Slices ![0, p] S128x128) (h1 : S512x512.Slices ![128, p] S128x128) (h2 : S512x512.Slices ![256, p] S128x128) (h3 : S512x512.Slices ![384, p] S128x128)
    (q : Fin 4) (hq : p = q.val * 128) (old : FVec Ideal S1x128x128 .f32) (i j : Fin 128) :
    addW MK (stepW h0 h1 h2 h3 (VN m c t) (DVM m c t)) old (ix3 0 i j) = old (ix3 0 i j) + partW m c t q i j := by
  rw [addW_at, stepW_at h0 h1 h2 h3 _ _ q hq]
  simp only [dvm_eq, norm_eq, row_spot]
  rfl

theorem zero_w (q : Fin 4) (i j : Fin 128) : k0_pay4 (F := Ideal) (ix3 q i j) = 0 := by
  pointwise [k0_pay4]

set_option maxHeartbeats 1000000 in
theorem w_first (h : t.val % 8 = 0) (q : Fin 4) (i j : Fin 128) : (outsAt0 m c t.val t.isLt).2.2.2.1 (ix3 q i j) = 0 + partW m c t q i j := by
  rw [outsAt0_A m c t h]; frame_out
  rcases (by decide : ∀ n : Fin 4, n = 0 ∨ n = 1 ∨ n = 2 ∨ n = 3) q with rfl | rfl | rfl | rfl
  · refine (row_miss_w _ _ _ 0 i j (by decide)).trans ((row_miss_w _ _ _ 0 i j (by decide)).trans ((row_miss_w _ _ _ 0 i j (by decide)).trans ((row_hit_w _ _ _ 0 i j rfl rfl rfl).trans ((w_tile m c t (p := 0) (by decide) (by decide) (by decide) (by decide) 0 rfl _ i j).trans ?_))))
    refine Ideal.add_congr ?_ rfl
    rw [View.readCov_fill _ _ _ _ _ (by decide)]
    exact (load_w _ 0 rfl rfl rfl i j).trans (zero_w 0 i j)
  · refine (row_miss_w _ _ _ 1 i j (by decide)).trans ((row_miss_w _ _ _ 1 i j (by decide)).trans ((row_hit_w _ _ _ 1 i j rfl rfl rfl).trans ((w_tile m c t (p := 128) (by decide) (by decide) (by decide) (by decide) 1 rfl _ i j).trans ?_)))
    refine Ideal.add_congr ?_ rfl
    rw [View.readCov_skip _ _ _ _ _ (by decide), View.readCov_fill _ _ _ _ _ (by decide)]
    exact (load_w _ 1 rfl rfl rfl i j).trans (zero_w 1 i j)
  · refine (row_miss_w _ _ _ 2 i j (by decide)).trans ((row_hit_w _ _ _ 2 i j rfl rfl rfl).trans ((w_tile m c t (p := 256) (by decide) (by decide) (by decide) (by decide) 2 rfl _ i j).trans ?_))
    refine Ideal.add_congr ?_ rfl
    rw [View.readCov_skip _ _ _ _ _ (by decide), View.readCov_skip _ _ _ _ _ (by decide), View.readCov_fill _ _ _ _ _ (by decide)]
    exact (load_w _ 2 rfl rfl rfl i j).trans (zero_w 2 i j)
  · refine (row_hit_w _ _ _ 3 i j rfl rfl rfl).trans ((w_tile m c t (p := 384) (by decide) (by decide) (by decide) (by decide) 3 rfl _ i j).trans ?_)
    refine Ideal.add_congr ?_ rfl
    rw [View.readCov_skip _ _ _ _ _ (by decide), View.readCov_skip _ _ _ _ _ (by decide), View.readCov_skip _ _ _ _ _ (by decide), View.readCov_fill _ _ _ _ _ (by decide)]
    exact (load_w _ 3 rfl rfl rfl i j).trans (zero_w 3 i j)

set_option maxHeartbeats 1000000 in
theorem w_next (h : ¬ t.val % 8 = 0) (q : Fin 4) (i j : Fin 128) : (outsAt0 m c t.val t.isLt).2.2.2.1 (ix3 q i j)
    = (outsAt0 m c (t.val - 1) (Nat.lt_of_le_of_lt (Nat.sub_le _ _) t.isLt)).2.2.2.1 (ix3 q i j) + partW m c t q i j := by
  rw [outsAt0_B m c t h]; frame_out
  rcases (by decide : ∀ n : Fin 4, n = 0 ∨ n = 1 ∨ n = 2 ∨ n = 3) q with rfl | rfl | rfl | rfl
  · refine (row_miss_w _ _ _ 0 i j (by decide)).trans ((row_miss_w _ _ _ 0 i j (by decide)).trans ((row_miss_w _ _ _ 0 i j (by decide)).trans ((row_hit_w _ _ _ 0 i j rfl rfl rfl).trans ((w_tile m c t (p := 0) (by decide) (by decide) (by decide) (by decide) 0 rfl _ i j).trans ?_))))
    exact Ideal.add_congr (load_w _ 0 rfl rfl rfl i j) rfl
  · refine (row_miss_w _ _ _ 1 i j (by decide)).trans ((row_miss_w _ _ _ 1 i j (by decide)).trans ((row_hit_w _ _ _ 1 i j rfl rfl rfl).trans ((w_tile m c t (p := 128) (by decide) (by decide) (by decide) (by decide) 1 rfl _ i j).trans ?_)))
    exact Ideal.add_congr (load_w _ 1 rfl rfl rfl i j) rfl
  · refine (row_miss_w _ _ _ 2 i j (by decide)).trans ((row_hit_w _ _ _ 2 i j rfl rfl rfl).trans ((w_tile m c t (p := 256) (by decide) (by decide) (by decide) (by decide) 2 rfl _ i j).trans ?_))
    exact Ideal.add_congr (load_w _ 2 rfl rfl rfl i j) rfl
  · refine (row_hit_w _ _ _ 3 i j rfl rfl rfl).trans ((w_tile m c t (p := 384) (by decide) (by decide) (by decide) (by decide) 3 rfl _ i j).trans ?_)
    exact Ideal.add_congr (load_w _ 3 rfl rfl rfl i j) rfl

end Point

section Rows
variable {off : Fin 3 → ℕ} (h : ∀ a, off a + ![1, 128, 1] a ≤ S4x128x1.size a) (w : FVec Ideal S1x128x1 .f32) (L : List (View.Piece (Elt Ideal) S4x128x1 .f32)) (q : Fin 4) (i : Fin 128)

/-- After a store of group `q` that group reads what was stored, and another one what stood there. -/
theorem row_hit_s (h0 : off 0 = q.val) (h1 : off 1 = 0) (h2 : off 2 = 0) :
    View.canon (Val := Elt Ideal) ((⟨Rect.unit off ![1, 128, 1] h, w⟩ : View.Piece (Elt Ideal) S4x128x1 .f32) :: L) (ix3 q i 0) = w (ix3 0 i 0) := by
  have e : (ix3 q i 0 : S4x128x1.Idx) = (Rect.unit off ![1, 128, 1] h).emb (ix3 0 i 0) := by
    funext a
    refine Fin.ext ?_
    rcases (by decide : ∀ a : Fin 3, a = 0 ∨ a = 1 ∨ a = 2) a with rfl | rfl | rfl <;> simp [ix3, h0, h1, h2]
  rw [e]
  apply View.canon_cons_emb
theorem row_miss_s (h0 : off 0 ≠ q.val) : View.canon (Val := Elt Ideal) ((⟨Rect.unit off ![1, 128, 1] h, w⟩ : View.Piece (Elt Ideal) S4x128x1 .f32) :: L) (ix3 q i 0) = View.canon L (ix3 q i 0) := by
  refine View.canon_cons_of_not_mem _ L fun hm => ?_
  mem_blk at hm
  have e := hm 0
  simp [ix3] at e
  omega

end Rows

section Point
variable (c : Dev nD) (t : Fin cfg0.N)

/-- What a step adds to an element of the biases' gradient. -/
def partS (t : Fin cfg0.N) (q : Fin 4) (i : Fin 128) : EReal := ∑ a : Fin 4, ∑ d, val_main_v58 (F := Ideal) (proj m c) (ct m c) (ix2 (at_ (chunk t a) i) (col q d))

theorem s_tile {p : ℕ} (h0 : S512x512.Slices ![0, p] S128x128) (h1 : S512x512.Slices ![128, p] S128x128) (h2 : S512x512.Slices ![256, p] S128x128) (h3 : S512x512.Slices ![384, p] S128x128)
    (q : Fin 4) (hq : p = q.val * 128) (old : FVec Ideal S1x128x1 .f32) (i : Fin 128) :
    addS (stepS h0 h1 h2 h3 (DVM m c t)) old (ix3 0 i 0) = old (ix3 0 i 0) + partS m c t q i := by
  rw [addS_at, stepS_at h0 h1 h2 h3 _ q hq]
  simp only [dvm_eq, row_spot]
  rfl

theorem zero_s (q : Fin 4) (i : Fin 128) : k0_pay5 (F := Ideal) (ix3 q i 0) = 0 := by
  pointwise [k0_pay5]

set_option maxHeartbeats 1000000 in
theorem s_first (h : t.val % 8 = 0) (q : Fin 4) (i : Fin 128) : (outsAt0 m c t.val t.isLt).2.2.2.2 (ix3 q i 0) = 0 + partS m c t q i := by
  rw [outsAt0_A m c t h]; frame_out
  rcases (by decide : ∀ n : Fin 4, n = 0 ∨ n = 1 ∨ n = 2 ∨ n = 3) q with rfl | rfl | rfl | rfl
  · refine (row_miss_s _ _ _ 0 i (by decide)).trans ((row_miss_s _ _ _ 0 i (by decide)).trans ((row_miss_s _ _ _ 0 i (by decide)).trans ((row_hit_s _ _ _ 0 i rfl rfl rfl).trans ((s_tile m c t (p := 0) (by decide) (by decide) (by decide) (by decide) 0 rfl _ i).trans ?_))))
    refine Ideal.add_congr ?_ rfl
    rw [View.readCov_fill _ _ _ _ _ (by decide)]
    exact (load_s _ 0 rfl rfl rfl i).trans (zero_s 0 i)
  · refine (row_miss_s _ _ _ 1 i (by decide)).trans ((row_miss_s _ _ _ 1 i (by decide)).trans ((row_hit_s _ _ _ 1 i rfl rfl rfl).trans ((s_tile m c t (p := 128) (by decide) (by decide) (by decide) (by decide) 1 rfl _ i).trans ?_)))
    refine Ideal.add_congr ?_ rfl
    rw [View.readCov_skip _ _ _ _ _ (by decide), View.readCov_fill _ _ _ _ _ (by decide)]
    exact (load_s _ 1 rfl rfl rfl i).trans (zero_s 1 i)
  · refine (row_miss_s _ _ _ 2 i (by decide)).trans ((row_hit_s _ _ _ 2 i rfl rfl rfl).trans ((s_tile m c t (p := 256) (by decide) (by decide) (by decide) (by decide) 2 rfl _ i).trans ?_))
    refine Ideal.add_congr ?_ rfl
    rw [View.readCov_skip _ _ _ _ _ (by decide), View.readCov_skip _ _ _ _ _ (by decide), View.readCov_fill _ _ _ _ _ (by decide)]
    exact (load_s _ 2 rfl rfl rfl i).trans (zero_s 2 i)
  · refine (row_hit_s _ _ _ 3 i rfl rfl rfl).trans ((s_tile m c t (p := 384) (by decide) (by decide) (by decide) (by decide) 3 rfl _ i).trans ?_)
    refine Ideal.add_congr ?_ rfl
    rw [View.readCov_skip _ _ _ _ _ (by decide), View.readCov_skip _ _ _ _ _ (by decide), View.readCov_skip _ _ _ _ _ (by decide), View.readCov_fill _ _ _ _ _ (by decide)]
    exact (load_s _ 3 rfl rfl rfl i).trans (zero_s 3 i)

set_option maxHeartbeats 1000000 in
theorem s_next (h : ¬ t.val % 8 = 0) (q : Fin 4) (i : Fin 128) : (outsAt0 m c t.val t.isLt).2.2.2.2 (ix3 q i 0)
    = (outsAt0 m c (t.val - 1) (Nat.lt_of_le_of_lt (Nat.sub_le _ _) t.isLt)).2.2.2.2 (ix3 q i 0) + partS m c t q i := by
  rw [outsAt0_B m c t h]; frame_out
  rcases (by decide : ∀ n : Fin 4, n = 0 ∨ n = 1 ∨ n = 2 ∨ n = 3) q with rfl | rfl | rfl | rfl
  · refine (row_miss_s _ _ _ 0 i (by decide)).trans ((row_miss_s _ _ _ 0 i (by decide)).trans ((row_miss_s _ _ _ 0 i (by decide)).trans ((row_hit_s _ _ _ 0 i rfl rfl rfl).trans ((s_tile m c t (p := 0) (by decide) (by decide) (by decide) (by decide) 0 rfl _ i).trans ?_))))
    exact Ideal.add_congr (load_s _ 0 rfl rfl rfl i) rfl
  · refine (row_miss_s _ _ _ 1 i (by decide)).trans ((row_miss_s _ _ _ 1 i (by decide)).trans ((row_hit_s _ _ _ 1 i rfl rfl rfl).trans ((s_tile m c t (p := 128) (by decide) (by decide) (by decide) (by decide) 1 rfl _ i).trans ?_)))
    exact Ideal.add_congr (load_s _ 1 rfl rfl rfl i) rfl
  · refine (row_miss_s _ _ _ 2 i (by decide)).trans ((row_hit_s _ _ _ 2 i rfl rfl rfl).trans ((s_tile m c t (p := 256) (by decide) (by decide) (by decide) (by decide) 2 rfl _ i).trans ?_))
    exact Ideal.add_congr (load_s _ 2 rfl rfl rfl i) rfl
  · refine (row_hit_s _ _ _ 3 i rfl rfl rfl).trans ((s_tile m c t (p := 384) (by decide) (by decide) (by decide) (by decide) 3 rfl _ i).trans ?_)
    exact Ideal.add_congr (load_s _ 3 rfl rfl rfl i) rfl

end Point

end Cert.Kernel3Ideal.SguMix

end
-- ==== Proof.SguBwd.lean ====
/-  The gradient of the spatial gate (`_sgu_bwd` at [4096, 512], eight steps of four chunks): what the kernel leaves in its five results,
    and that it is what the derivative computes. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Reals
public import proofs.«01_k».proof.Proof.SguGate
public import proofs.«01_k».proof.Proof.SguRead
public import proofs.«01_k».proof.Proof.SguTile
public import proofs.«01_k».proof.Proof.SguStep
public import proofs.«01_k».proof.Proof.SguMix
public import Idealize.ShloMosaic.Lib.Pipeline.ValueKit
public import Idealize.ShloMosaic.Lib.Claim

@[expose] public section

set_option maxRecDepth 16384

noncomputable section

namespace Cert.Kernel3Ideal.SguBwd

open Cert.Kernel3Ideal Cert.Kernel3Ideal.Gen Cert.Reference3Ideal.Read Idealize.ShloMosaic Idealize.ShloMosaic.TcCoe Idealize.SL.Sem
open Idealize.ShloMosaic.Pipeline (Dat)

open Cert.SguGate Cert.SguRead Cert.Kernel3Ideal.SguMix Cert.Kernel3Ideal.SguTile Cert.Kernel3Ideal.SguStep

variable (m : (ℓ : Loc nD τ sig) → Buf (Elt Ideal) ℓ)

section Dz
variable (c : Dev nD) (t : Fin cfg0.N)

theorem left_some : ∃ R g0 b0, Left m c t R g0 b0 := by
  by_cases h : t.val % 8 = 0
  · obtain ⟨R, hR⟩ := step_first m c t h
    exact ⟨R, _, _, hR⟩
  · obtain ⟨R, hR⟩ := step_next m c t h
    exact ⟨R, _, _, hR⟩

theorem out_dz (hn : Nums (proj m c) (ct m c) (gain m c) (bias m c) (wsp m c) (bsp m c)) (r : Fin 512) (j : Fin 1024) :
    (outsAt0 m c t.val t.isLt).1 (ix2 r j) = val_main_v116 (F := Ideal) (proj m c) (ct m c) (gain m c) (bias m c) (wsp m c) (bsp m c) (ix2 (row t r) j) := by
  obtain ⟨R, g0, b0, -, -, hr, hR, hl⟩ := left_some m c t
  by_cases hj : j.val < 512
  · exact (hl r ⟨j.val, hj⟩).trans (hn.dz_left (row t r) ⟨j.val, hj⟩).symm
  · have hl : ∃ l : Fin 512, j.val = 512 + l.val := ⟨⟨j.val - 512, by omega⟩, by show j.val = 512 + (j.val - 512); omega⟩
    obtain ⟨l, hj'⟩ := hl
    have e : j = (⟨512 + l.val, by omega⟩ : Fin 1024) := Fin.ext hj'
    rw [e]
    refine (hr r l).trans ?_
    rw [slope_at, hn.dz_right (row t r) l, block_v]
    refine Ideal.mul_congr ((back_at _ _ _ r l).trans ?_) rfl
    rw [zrow_eq]
    refine congrArg (fun f => back (rowV (proj m c) (row t r)) f l) (funext fun k => ?_)
    rw [hR, block_g]
    rfl

/-- What a step adds to the gradients of the norm's scale and shift. -/
def partG (l : Fin 512) : EReal := ∑ r : Fin 512, unit (rowV (proj m c) (row t r)) l * val_main_v70 (F := Ideal) (proj m c) (ct m c) (wsp m c) (ix2 (row t r) l)
def partB (l : Fin 512) : EReal := ∑ r : Fin 512, val_main_v70 (F := Ideal) (proj m c) (ct m c) (wsp m c) (ix2 (row t r) l)

theorem add_g {R g0 b0} (h : Left m c t R g0 b0) (l : Fin 512) : (outsAt0 m c t.val t.isLt).2.1 (ix2 0 l) = g0 (ix2 0 l) + partG m c t l := by
  obtain ⟨hg, -, -, hR, -⟩ := h
  refine (congrFun hg _).trans ((dg_at _ _ _ l).trans (congrArg (g0 (ix2 0 l) + ·) (Finset.sum_congr (M := EReal) rfl fun r _ => ?_)))
  rw [hR, mul_comm]
  refine Ideal.mul_congr ((unit_at _ r l).trans ?_) rfl
  rw [zrow_eq]
theorem add_b {R g0 b0} (h : Left m c t R g0 b0) (l : Fin 512) : (outsAt0 m c t.val t.isLt).2.2.1 (ix2 0 l) = b0 (ix2 0 l) + partB m c t l := by
  obtain ⟨-, hb, -, hR, -⟩ := h
  refine (congrFun hb _).trans ((db_at _ _ l).trans (congrArg (b0 (ix2 0 l) + ·) (Finset.sum_congr (M := EReal) rfl fun r _ => ?_)))
  rw [hR]
theorem zero_g (l : Fin 512) : k0_pay2 (F := Ideal) (ix2 0 l) = 0 := by
  pointwise [k0_pay2]
theorem zero_b (l : Fin 512) : k0_pay3 (F := Ideal) (ix2 0 l) = 0 := by
  pointwise [k0_pay3]

end Dz

/-- The rows of the steps are the rows of the array, and their chunks its chunks. -/
theorem sum_rows (A : Fin 4096 → EReal) : ∑ t : Fin cfg0.N, ∑ r : Fin 512, A (row t r) = ∑ R : Fin 4096, A R :=
  Fin.sum_mul_add_congr (fun t r hl => congrArg A (Fin.ext (by show 512 * t.val + r.val = t.val * 512 + r.val; omega))) (by rw [show cfg0.N = 8 from N_0])
theorem sum_chunks (A : Fin 32 → EReal) : ∑ t : Fin cfg0.N, ∑ a : Fin 4, A (chunk t a) = ∑ a : Fin 32, A a :=
  Fin.sum_mul_add_congr (fun t r hl => congrArg A (Fin.ext (by show 4 * t.val + r.val = t.val * 4 + r.val; omega))) (by rw [show cfg0.N = 8 from N_0])
theorem sum_select {N : ℕ} (p : BitVec 1) (f : Fin N → EReal) : ∑ t, Scalar.select p (f t) 0 = Scalar.select p (∑ t, f t) 0 := by
  unfold Scalar.select
  split
  · rfl
  · exact Finset.sum_const_zero

section Last
variable (c : Dev nD) (t : Fin cfg0.N) (ht : t.val + 1 = cfg0.N)
include ht

theorem g_last (l : Fin 512) : (outsAt0 m c t.val t.isLt).2.1 (ix2 0 l) = val_main_v117 (F := Ideal) (proj m c) (ct m c) (wsp m c) (ix2 0 l) := by
  refine (Pipeline.eq_sum_fin_of_reset_step_apply_last (M := EReal) (fun n h (_ : Unit) => (outsAt0 m c n h).2.1 (ix2 0 l)) 8 (fun _ => 0) (fun t _ => partG m c t l)
    (fun t h _ => ?_) (fun t h _ => ?_) (le_of_eq N_0) t ht ()).trans ?_
  · obtain ⟨R, hR⟩ := step_first m c t h
    refine (add_g m c t hR l).trans ?_
    rw [zero_g]
  · obtain ⟨R, hR⟩ := step_next m c t h
    exact add_g m c t hR l
  · rw [zero_add, read_dg]
    exact sum_rows fun n => unit (rowV (proj m c) n) l * val_main_v70 (F := Ideal) (proj m c) (ct m c) (wsp m c) (ix2 n l)

theorem b_last (l : Fin 512) : (outsAt0 m c t.val t.isLt).2.2.1 (ix2 0 l) = val_main_v118 (F := Ideal) (proj m c) (ct m c) (wsp m c) (ix2 0 l) := by
  refine (Pipeline.eq_sum_fin_of_reset_step_apply_last (M := EReal) (fun n h (_ : Unit) => (outsAt0 m c n h).2.2.1 (ix2 0 l)) 8 (fun _ => 0) (fun t _ => partB m c t l)
    (fun t h _ => ?_) (fun t h _ => ?_) (le_of_eq N_0) t ht ()).trans ?_
  · obtain ⟨R, hR⟩ := step_first m c t h
    refine (add_b m c t hR l).trans ?_
    rw [zero_b]
  · obtain ⟨R, hR⟩ := step_next m c t h
    exact add_b m c t hR l
  · rw [zero_add, read_db]
    exact sum_rows fun n => val_main_v70 (F := Ideal) (proj m c) (ct m c) (wsp m c) (ix2 n l)

theorem w_last (q : Fin 4) (i j : Fin 128) : (outsAt0 m c t.val t.isLt).2.2.2.1 (ix3 q i j) = val_main_v69 (F := Ideal) (proj m c) (ct m c) (gain m c) (bias m c) (ix3 q i j) := by
  refine (Pipeline.eq_sum_fin_of_reset_step_apply_last (M := EReal) (fun n h (_ : Unit) => (outsAt0 m c n h).2.2.2.1 (ix3 q i j)) 8 (fun _ => 0) (fun t _ => partW m c t q i j)
    (fun t h _ => w_first m c t h q i j) (fun t h _ => w_next m c t h q i j) (le_of_eq N_0) t ht ()).trans ?_
  rw [zero_add, read_dw]
  exact (sum_select _ _).trans (congrArg (fun x => Scalar.select (sees i j) x 0) (sum_chunks fun a => ∑ d, val_main_v58 (F := Ideal) (proj m c) (ct m c) (ix2 (at_ a i) (col q d))
    * val_main_v38 (F := Ideal) (proj m c) (gain m c) (bias m c) (ix2 (at_ a j) (col q d))))

theorem s_last (q : Fin 4) (i : Fin 128) : (outsAt0 m c t.val t.isLt).2.2.2.2 (ix3 q i 0) = val_main_v119 (F := Ideal) (proj m c) (ct m c) (ix3 q i 0) := by
  refine (Pipeline.eq_sum_fin_of_reset_step_apply_last (M := EReal) (fun n h (_ : Unit) => (outsAt0 m c n h).2.2.2.2 (ix3 q i 0)) 8 (fun _ => 0) (fun t _ => partS m c t q i)
    (fun t h _ => s_first m c t h q i) (fun t h _ => s_next m c t h q i) (le_of_eq N_0) t ht ()).trans ?_
  rw [zero_add, read_ds]
  exact sum_chunks fun a => ∑ d, val_main_v58 (F := Ideal) (proj m c) (ct m c) (ix2 (at_ a i) (col q d))

end Last

theorem final_dz (c : Dev nD) (hn : Nums (proj m c) (ct m c) (gain m c) (bias m c) (wsp m c) (bsp m c)) :
    (dats m 0 c).arrAt 8 (cfgs 0).N = val_main_v116 (F := Ideal) (proj m c) (ct m c) (gain m c) (bias m c) (wsp m c) (bsp m c) := by
  refine (dats m 0 c).arrAt_eq_of_covers 8 _ (by decide +kernel) fun t hf y => ?_
  blk_simp
  rw [after0_8]
  idx_vars y
  refine (out_dz m c t hn y0 y1).trans ?_
  blk_ext [idx t]

theorem final_dg (c : Dev nD) : (dats m 0 c).arrAt 9 (cfgs 0).N = val_main_v117 (F := Ideal) (proj m c) (ct m c) (wsp m c) := by
  refine (dats m 0 c).arrAt_eq_of_covers 9 _ (by decide +kernel) fun t hf y => ?_
  blk_simp
  rw [after0_9]
  have ht : t.val + 1 = cfg0.N := by have := (flush0_9 t).mp hf; have := t.isLt; have h : cfg0.N = 8 := N_0; omega
  idx_vars y
  obtain rfl : y0 = 0 := Subsingleton.elim _ _
  refine (g_last m c t ht y1).trans ?_
  blk_ext [idx t]

theorem final_db (c : Dev nD) : (dats m 0 c).arrAt 10 (cfgs 0).N = val_main_v118 (F := Ideal) (proj m c) (ct m c) (wsp m c) := by
  refine (dats m 0 c).arrAt_eq_of_covers 10 _ (by decide +kernel) fun t hf y => ?_
  blk_simp
  rw [after0_10]
  have ht : t.val + 1 = cfg0.N := by have := (flush0_10 t).mp hf; have := t.isLt; have h : cfg0.N = 8 := N_0; omega
  idx_vars y
  obtain rfl : y0 = 0 := Subsingleton.elim _ _
  refine (b_last m c t ht y1).trans ?_
  blk_ext [idx t]

theorem final_dw (c : Dev nD) : (dats m 0 c).arrAt 11 (cfgs 0).N = val_main_v69 (F := Ideal) (proj m c) (ct m c) (gain m c) (bias m c) := by
  refine (dats m 0 c).arrAt_eq_of_covers 11 _ (by decide +kernel) fun t hf y => ?_
  blk_simp
  rw [after0_11]
  have ht : t.val + 1 = cfg0.N := by have := (flush0_11 t).mp hf; have := t.isLt; have h : cfg0.N = 8 := N_0; omega
  idx_vars y
  refine (w_last m c t ht y0 y1 y2).trans ?_
  blk_ext [idx t]

theorem final_ds (c : Dev nD) : (dats m 0 c).arrAt 12 (cfgs 0).N = val_main_v119 (F := Ideal) (proj m c) (ct m c) := by
  refine (dats m 0 c).arrAt_eq_of_covers 12 _ (by decide +kernel) fun t hf y => ?_
  blk_simp
  rw [after0_12]
  have ht : t.val + 1 = cfg0.N := by have := (flush0_12 t).mp hf; have := t.isLt; have h : cfg0.N = 8 := N_0; omega
  idx_vars y
  obtain rfl : y2 = 0 := Subsingleton.elim _ _
  refine (s_last m c t ht y0 y1).trans ?_
  blk_ext [idx t]

section Pre
variable (P : FVec Ideal S4096x7168 .f32) (D : FVec Ideal S4096x512 .f32) (g b : FVec Ideal S512 .f32) (W : FVec Ideal S4x128x128 .f32) (s : FVec Ideal S4x128 .f32)
variable [Pre_finite_sgu.Facts] (h : Pre_finite_sgu.fn (F := Ideal) P D g b W s = fun _ => 1#1)
include h

theorem finite_u (n : Fin 4096) (l : Fin 512) : Num (P (ix2 n (⟨1536 + l.val, by omega⟩ : Fin 7168))) := by
  have e := congrFun h (ix2 (⟨n.val, by omega⟩ : Fin 12419) l)
  unfold Pre_finite_sgu.fn at e
  dsimp only at e
  refine Reals.real_of_olt (Eq.trans ?_ e)
  pointwise []
  rfl

theorem finite_v (n : Fin 4096) (l : Fin 512) : Num (P (ix2 n (⟨1536 + (512 + l.val), by omega⟩ : Fin 7168))) := by
  have e := congrFun h (ix2 (⟨4096 + n.val, by omega⟩ : Fin 12419) l)
  unfold Pre_finite_sgu.fn at e
  dsimp only at e
  refine Reals.real_of_olt (Eq.trans ?_ e)
  pointwise []
  rfl

set_option maxRecDepth 100000 in
theorem finite_d (n : Fin 4096) (l : Fin 512) : Num (D (ix2 n l)) := by
  have e := congrFun h (ix2 (⟨8192 + n.val, by omega⟩ : Fin 12419) l)
  unfold Pre_finite_sgu.fn at e
  dsimp only at e
  refine Reals.real_of_olt (Eq.trans ?_ e)
  pointwise []
  rw [dif_neg (by omega), dif_neg (by omega), dif_pos (by omega)]
  simp only [show 8192 + n.val - 4096 - 4096 = n.val by omega]
  rfl

theorem finite_g (l : Fin 512) : Num (g (ix1 l)) := by
  have z : Fin 1 := 0
  have e := congrFun h (ix2 (⟨12288 + z.val, by omega⟩ : Fin 12419) l)
  unfold Pre_finite_sgu.fn at e
  dsimp only at e
  refine Reals.real_of_olt (Eq.trans ?_ e)
  pointwise []
  rfl

theorem finite_b (l : Fin 512) : Num (b (ix1 l)) := by
  have z : Fin 1 := 0
  have e := congrFun h (ix2 (⟨12289 + z.val, by omega⟩ : Fin 12419) l)
  unfold Pre_finite_sgu.fn at e
  dsimp only at e
  refine Reals.real_of_olt (Eq.trans ?_ e)
  pointwise []
  rfl

set_option maxRecDepth 100000 in
theorem finite_w (q : Fin 4) (i j : Fin 128) : Num (W (ix3 q i j)) := by
  have e := congrFun h (ix2 (⟨12290 + (q.val * 32 + i.val / 4), by omega⟩ : Fin 12419) (⟨i.val % 4 * 128 + j.val, by omega⟩ : Fin 512))
  unfold Pre_finite_sgu.fn at e
  dsimp only at e
  refine Reals.real_of_olt (Eq.trans ?_ e)
  pointwise []
  rw [dif_neg (by omega), dif_neg (by omega), dif_neg (by omega), dif_neg (by omega), dif_neg (by omega), dif_pos (by omega)]
  simp only [show (12290 + (q.val * 32 + i.val / 4) - 4096 - 4096 - 4096 - 1 - 1) / 32 = q.val by omega]
  rfl

theorem finite_s (q : Fin 4) (i : Fin 128) : Num (s (ix2 q i)) := by
  have z : Fin 1 := 0
  have e := congrFun h (ix2 (⟨12418 + z.val, by omega⟩ : Fin 12419) (⟨q.val * 128 + i.val, by omega⟩ : Fin 512))
  unfold Pre_finite_sgu.fn at e
  dsimp only at e
  refine Reals.real_of_olt (Eq.trans ?_ e)
  pointwise []
  rfl

/-- What the precondition says, read back from its rows. -/
theorem nums : Nums P D g b W s where
  p n j := by
    by_cases hj : j.val < 512
    · exact finite_u P D g b W s h n ⟨j.val, hj⟩
    · have e : (⟨1536 + j.val, by omega⟩ : Fin 7168) = ⟨1536 + (512 + (⟨j.val - 512, by omega⟩ : Fin 512).val), by omega⟩ := Fin.ext (by show 1536 + j.val = 1536 + (512 + (j.val - 512)); omega)
      rw [e]
      exact finite_v P D g b W s h n _
  d := finite_d P D g b W s h
  g := finite_g P D g b W s h
  b := finite_b P D g b W s h
  w := finite_w P D g b W s h
  s := finite_s P D g b W s h

end Pre

end Cert.Kernel3Ideal.SguBwd

namespace Cert.SguBwd

open Idealize.ShloMosaic Idealize.ShloMosaic.TcCoe Idealize.SL.Sem

theorem frame_reference : quiescent_Reference3Ideal := fun m g _ =>
  (θ_run Reference3Ideal.defs _ _).mono (fun r h => ⟨fun c => (h c).2.2.2.2.2, sem_eq_zero_of_no_sems (by decide) r.2⟩)
    (Reference3Ideal.Value.run (F := Ideal) m g)

theorem algebraic [Pre_finite_sgu.Facts] : algebraic_Kernel3Ideal_Reference3Ideal_pre_finite_sgu := by
  pair_intro
  · run_from Kernel3Ideal.Value.run_blocks m g
  · have arg : ∀ c, StableHlo.launchContents m' c (Proc.devRef .tc Reference3Ideal.main_arg0) = Kernel3Ideal.SguStep.proj m c ∧ StableHlo.launchContents m' c (Proc.devRef .tc Reference3Ideal.main_arg1) = Kernel3Ideal.SguStep.ct m c ∧ StableHlo.launchContents m' c (Proc.devRef .tc Reference3Ideal.main_arg2) = Kernel3Ideal.SguStep.gain m c ∧ StableHlo.launchContents m' c (Proc.devRef .tc Reference3Ideal.main_arg3) = Kernel3Ideal.SguStep.bias m c ∧ StableHlo.launchContents m' c (Proc.devRef .tc Reference3Ideal.main_arg4) = Kernel3Ideal.SguStep.wsp m c ∧ StableHlo.launchContents m' c (Proc.devRef .tc Reference3Ideal.main_arg5) = Kernel3Ideal.SguStep.bsp m c := hagree
    run_from Reference3Ideal.Value.run m' g'
    · refine (Reference3Ideal.Read.val_main_v116_eq _).trans ?_
      rw [(arg c).1, (arg c).2.1, (arg c).2.2.1, (arg c).2.2.2.1, (arg c).2.2.2.2.1, (arg c).2.2.2.2.2]
      exact (Kernel3Ideal.SguBwd.final_dz m c (Kernel3Ideal.SguBwd.nums _ _ _ _ _ _ (hpre c))).symm
    · refine (Reference3Ideal.Read.val_main_v117_eq _).trans ?_
      rw [(arg c).1, (arg c).2.1, (arg c).2.2.2.2.1]
      exact (Kernel3Ideal.SguBwd.final_dg m c).symm
    · refine (Reference3Ideal.Read.val_main_v118_eq _).trans ?_
      rw [(arg c).1, (arg c).2.1, (arg c).2.2.2.2.1]
      exact (Kernel3Ideal.SguBwd.final_db m c).symm
    · refine (Reference3Ideal.Read.val_main_v69_eq _).trans ?_
      rw [(arg c).1, (arg c).2.1, (arg c).2.2.1, (arg c).2.2.2.1]
      exact (Kernel3Ideal.SguBwd.final_dw m c).symm
    · refine (Reference3Ideal.Read.val_main_v119_eq _).trans ?_
      rw [(arg c).1, (arg c).2.1]
      exact (Kernel3Ideal.SguBwd.final_ds m c).symm

end Cert.SguBwd

end
-- ==== Proof.SfStep.lean ====
module
public import proofs.«01_k».proof.Proof.Gen.Kernel12Ideal.Value
public import Idealize.ShloMosaic.Lib.Pipeline.ValueKit
@[expose] public section
noncomputable section

/-! One head's share of one span of keys in the forward pass, for a block of 512 query rows: the vector operations in
their order, once, with the mask of the last span optional. Every span of both heads is an instance. -/
namespace Cert.SfStep
open Cert.Kernel12Ideal Cert.Kernel12Ideal.Gen Idealize.ShloMosaic Idealize.ShloMosaic.TcCoe Idealize.SL.Sem

/-- What one head's step reads: its masked queries, the span's keys and values, the span's number and, on the last span,
the causal mask. -/
structure Inp where
  q : FVec Ideal S512x128 .bf16
  k : FVec Ideal S1024x128 .bf16
  v : FVec Ideal S1024x128 .bf16
  sb : BitVec 32
  mask : Option (IVec S512x1024 1)

variable (s : Inp)

/-- A row of the mask's shape kept where the mask allows, zero elsewhere. -/
def kept (x : FVec Ideal S512x1024 .f32) : FVec Ideal S512x1024 .f32 :=
  match s.mask with
  | none => x
  | some m => select m x (broadcast S512x1024 (Scalar.ofBits (F := Ideal) .f32 0x00000000#32))

theorem slices (b : Fin 8) : S512x1024.Slices ![0, 128 * b.val] S512x128 := by revert b; decide

/-- The `b`-th block of 128 keys. -/
def block (b : Fin 8) (x : FVec Ideal S512x1024 .bf16) : FVec Ideal S512x128 .bf16 :=
  extractStridedSlice S512x128 ![0, 128 * b.val] x (slices b)

/-- Eight blocks side by side. -/
def join (f : Fin 8 → FVec Ideal S512x128 .f32) : FVec Ideal S512x1024 .f32 :=
  concatenate S512x1024 1 [⟨S512x128, f 0⟩, ⟨S512x128, f 1⟩, ⟨S512x128, f 2⟩, ⟨S512x128, f 3⟩, ⟨S512x128, f 4⟩,
    ⟨S512x128, f 5⟩, ⟨S512x128, f 6⟩, ⟨S512x128, f 7⟩]
    concatenates_S512x128_S512x128_S512x128_S512x128_S512x128_S512x128_S512x128_S512x128_S512x1024_d1

/-- The scores of the span. -/
def score : FVec Ideal S512x1024 .f32 :=
  matmul dot_S512x128_S1024x128_S512x1024_1_1_0_0_n_n none s.q s.k (constant S512x1024 .f32 0x00000000#32)

/-- The logarithm of the gate. -/
def logGate : FVec Ideal S512x1024 .f32 :=
  subf (minimumf (score s) (broadcast S512x1024 (Scalar.ofBits (F := Ideal) .f32 0x00000000#32)))
    (log (addf (broadcast S512x1024 (Scalar.ofBits (F := Ideal) .f32 0x3F800000#32))
      (exp (subf (broadcast S512x1024 (Scalar.ofBits (F := Ideal) .f32 0x00000000#32)) (absf (score s))))))

/-- The logarithm of one minus the gate, masked. -/
def logRest : FVec Ideal S512x1024 .bf16 :=
  truncf .bf16 (kept s (subf (logGate s) (score s))) bitsLt_bf16_f32

/-- The lane of the table that belongs to block `b` of the span. -/
def lane (b : Fin 8) : IVec S512x128 1 :=
  broadcastTo S512x128 (shapeCast S1x128 (cmpi .eq (iota .tc S1x128 32 [1] iota_S1x128_d1_w32)
    (broadcast S1x128 (Scalar.addi (Scalar.muli s.sb 8#32) (BitVec.ofNat 32 b.val)))) shapeCasts_S1x128_S1x128)
    broadcasts_S1x128_S512x128

/-- Within block `b`: the sums over later keys in the first 128 lanes, the block's total in the others. -/
def sums (b : Fin 8) : FVec Ideal S512x256 .f32 :=
  matmul dot_S512x128_S128x256_S512x256_1_0_0_1_n_n none (block b (logRest s)) (k0_pay129 (F := Ideal))
    (constant S512x256 .f32 0x00000000#32)

/-- The total carried past the last `j` blocks, from the total `p` of the later spans. -/
def run (p : FVec Ideal S512x128 .f32) : ℕ → FVec Ideal S512x128 .f32
  | 0 => p
  | j + 1 => addf (run p j)
      (extractStridedSlice S512x128 ![0, 128] (sums s (Fin.ofNat 8 (7 - j))) slices_S512x256_o0_128_S512x128)

/-- The sum of the logarithms over later keys, for the keys of block `b`. -/
def laterBlock (p : FVec Ideal S512x128 .f32) (b : Fin 8) : FVec Ideal S512x128 .f32 :=
  addf (run s p (7 - b.val)) (extractStridedSlice S512x128 ![0, 0] (sums s b) slices_S512x256_o0_0_S512x128)

/-- The attention weights of the span. -/
def weight (p : FVec Ideal S512x128 .f32) : FVec Ideal S512x1024 .f32 := kept s (exp (addf (logGate s) (join (laterBlock s p))))

/-- The outputs with the span's part added. -/
def accNext (p acc : FVec Ideal S512x128 .f32) : FVec Ideal S512x128 .f32 :=
  addf acc (matmul dot_S512x1024_S1024x128_S512x128_1_0_0_1_n_n none (truncf .bf16 (weight s p) bitsLt_bf16_f32) s.v
    (constant S512x128 .f32 0x00000000#32))

/-- The table with the lanes of the span's first `b` blocks filled in. -/
def tab (p t : FVec Ideal S512x128 .f32) : ℕ → FVec Ideal S512x128 .f32
  | 0 => t
  | b + 1 => select (lane s (Fin.ofNat 8 b)) (run s p (7 - b)) (tab p t b)

end Cert.SfStep
-- ==== Proof.SfReal.lean ====
module
public import proofs.«01_k».proof.Proof.SfStep
public import proofs.«01_k».proof.Proof.SbHead
@[expose] public section
set_option maxRecDepth 16384
noncomputable section

/-! A step of the forward pass read over the real numbers: one head, query rows `ρ + r`, the keys of span `n`. The values
may be any extended reals. -/
namespace Cert.SfReal
open Cert.Kernel12Ideal Cert.Kernel12Ideal.Gen Cert.SfStep Cert.SbReal Cert.SbData Cert.Reals
open Idealize.ShloMosaic Idealize.ShloMosaic.TcCoe Idealize.SL.Sem

/-- What a step is given, in terms of a head, the values `V`, the first query row `ρ` and the span's number `n`. -/
structure Reads (s : Inp) (h : Head) (V : ℕ → Fin 128 → EReal) (ρ n : ℕ) : Prop where
  q : ∀ r i, s.q (ix2 r i) = ((h.Q (ρ + r.val) i : ℝ) : EReal)
  k : ∀ l i, s.k (ix2 l i) = ((h.K (1024 * n + l.val) i : ℝ) : EReal)
  v : ∀ l i, s.v (ix2 l i) = V (1024 * n + l.val) i
  sb : s.sb = BitVec.ofNat 32 n
  hn : n < 4
  kept : ∀ (x : FVec Ideal S512x1024 .f32) r l,
    kept s x (ix2 r l) = if 1024 * n + l.val < ρ + r.val then x (ix2 r l) else (0 : EReal)

/-- The number of key `j` of block `b`. -/
abbrev key (b : Fin 8) (j : Fin 128) : Fin 1024 := ⟨128 * b.val + j.val, by omega⟩

theorem exists_key (l : Fin 1024) : ∃ b j, l = key b j :=
  ⟨⟨l.val / 128, by omega⟩, ⟨l.val % 128, by omega⟩, Fin.ext (by show l.val = 128 * (l.val / 128) + l.val % 128; omega)⟩

theorem join_at (f : Fin 8 → FVec Ideal S512x128 .f32) (r : Fin 512) (b : Fin 8) (j : Fin 128) :
    join f (ix2 r (key b j)) = f b (ix2 r j) := by
  pointwise [join, key]
  fin_vals b with hb
  · obtain rfl : b = 0 := Fin.ext hb
    rw [dif_pos (by omega)]; exact congrArg _ ((ix2_inj ..).2 ⟨rfl, Fin.ext (by dsimp only; omega)⟩)
  · obtain rfl : b = 1 := Fin.ext hb
    rw [dif_neg (by omega), dif_pos (by omega)]; exact congrArg _ ((ix2_inj ..).2 ⟨rfl, Fin.ext (by dsimp only; omega)⟩)
  · obtain rfl : b = 2 := Fin.ext hb
    rw [dif_neg (by omega), dif_neg (by omega), dif_pos (by omega)]
    exact congrArg _ ((ix2_inj ..).2 ⟨rfl, Fin.ext (by dsimp only; omega)⟩)
  · obtain rfl : b = 3 := Fin.ext hb
    rw [dif_neg (by omega), dif_neg (by omega), dif_neg (by omega), dif_pos (by omega)]
    exact congrArg _ ((ix2_inj ..).2 ⟨rfl, Fin.ext (by dsimp only; omega)⟩)
  · obtain rfl : b = 4 := Fin.ext hb
    rw [dif_neg (by omega), dif_neg (by omega), dif_neg (by omega), dif_neg (by omega), dif_pos (by omega)]
    exact congrArg _ ((ix2_inj ..).2 ⟨rfl, Fin.ext (by dsimp only; omega)⟩)
  · obtain rfl : b = 5 := Fin.ext hb
    rw [dif_neg (by omega), dif_neg (by omega), dif_neg (by omega), dif_neg (by omega), dif_neg (by omega), dif_pos (by omega)]
    exact congrArg _ ((ix2_inj ..).2 ⟨rfl, Fin.ext (by dsimp only; omega)⟩)
  · obtain rfl : b = 6 := Fin.ext hb
    rw [dif_neg (by omega), dif_neg (by omega), dif_neg (by omega), dif_neg (by omega), dif_neg (by omega),
      dif_neg (by omega), dif_pos (by omega)]
    exact congrArg _ ((ix2_inj ..).2 ⟨rfl, Fin.ext (by dsimp only; omega)⟩)
  · obtain rfl : b = 7 := Fin.ext hb
    rw [dif_neg (by omega), dif_neg (by omega), dif_neg (by omega), dif_neg (by omega), dif_neg (by omega),
      dif_neg (by omega), dif_neg (by omega)]
    exact congrArg _ ((ix2_inj ..).2 ⟨rfl, Fin.ext (by dsimp only; omega)⟩)

theorem block_at (x : FVec Ideal S512x1024 .bf16) (r : Fin 512) (b : Fin 8) (j : Fin 128) :
    block b x (ix2 r j) = x (ix2 r (key b j)) := by
  pointwise [block, key]

theorem tri_at (a : Fin 128) (b : Fin 256) :
    k0_pay129 (F := Ideal) (ix2 a b) = (((if b.val < a.val ∨ 128 ≤ b.val then 1 else 0 : ℝ)) : EReal) := by
  pointwise [k0_pay129]
  word_cmp
  refine (if_congr or_comm rfl rfl).trans ?_
  split_ifs <;> rfl

variable {s : Inp} {h : Head} {V : ℕ → Fin 128 → EReal} {ρ n : ℕ} (H : Reads s h V ρ n)
include H

theorem score_at (r l) : score s (ix2 r l) = ((h.Z (ρ + r.val) (1024 * n + l.val) : ℝ) : EReal) := by
  pointwise [score]
  simp only [H.q, H.k, ← EReal.coe_mul, sum_coe]
  rw [Head.Z]

theorem logGate_at (r l) : logGate s (ix2 r l) = ((lsp (h.Z (ρ + r.val) (1024 * n + l.val)) : ℝ) : EReal) := by
  pointwise [logGate]
  rw [score_at H, lsp]
  generalize h.Z (ρ + r.val) (1024 * n + l.val) = z
  have ha : (0 : EReal) - FloatOps.absf (F := Ideal) (φ := .f32) (z : EReal) = ((-|z| : ℝ) : EReal) := by
    rw [show FloatOps.absf (F := Ideal) (φ := .f32) (z : EReal) = max (z : EReal) (-(z : EReal)) from rfl, ← EReal.coe_neg,
      ← (EReal.coe_strictMono.monotone.map_max), ← EReal.coe_zero, ← EReal.coe_sub, zero_sub, abs]
  rw [ha, log_one_add, ← EReal.coe_zero, coe_min, ← EReal.coe_sub]

theorem lane_at (b : Fin 8) (r) (j : Fin 128) (x y : EReal) : Scalar.select (lane s b (ix2 r j)) x y = if j.val = 8 * n + b.val then x else y := by
  pointwise [lane]
  have hn := H.hn
  rw [H.sb, show Scalar.addi (Scalar.muli (BitVec.ofNat 32 n) 8#32) (BitVec.ofNat 32 b.val) = BitVec.ofNat 32 (8 * n + b.val) by
    have hb := b.isLt
    generalize b.val = b at *
    interval_cases n <;> interval_cases b <;> rfl]
  rw [Scalar.select]
  refine if_congr ?_ rfl rfl
  word_cmp

theorem logRest_at (r l) : logRest s (ix2 r l) = ((h.rest (ρ + r.val) (1024 * n + l.val) : ℝ) : EReal) := by
  pointwise [logRest]
  rw [H.kept]
  pointwise []
  rw [logGate_at H, score_at H, ← EReal.coe_sub, coe_ite]
  rw [Head.rest]

theorem sums_lo (b : Fin 8) (r) (j : Fin 128) (j' : Fin 256) (e : j'.val = j.val) : sums s b (ix2 r j')
    = ((∑ k ∈ Finset.Ico (1024 * n + 128 * b.val + j.val + 1) (1024 * n + 128 * b.val + 128), h.rest (ρ + r.val) k : ℝ) : EReal) := by
  pointwise [sums]
  rw [← sum_after, ← sum_coe]
  refine Finset.sum_congr rfl fun x _ => ?_
  rw [block_at, tri_at, logRest_at H, ← EReal.coe_mul, key, add_assoc (1024 * n)]
  have hj := j.isLt
  rw [if_congr (show j'.val < x.val ∨ 128 ≤ j'.val ↔ j.val < x.val by omega) rfl rfl]

theorem sums_hi (b : Fin 8) (r) (j' : Fin 256) (e : 128 ≤ j'.val) : sums s b (ix2 r j')
    = ((∑ k ∈ Finset.Ico (1024 * n + 128 * b.val) (1024 * n + 128 * b.val + 128), h.rest (ρ + r.val) k : ℝ) : EReal) := by
  pointwise [sums]
  rw [← sum_before _ _ _ le_rfl, ← sum_coe]
  refine Finset.sum_congr rfl fun x _ => ?_
  rw [block_at, tri_at, logRest_at H, ← EReal.coe_mul, key, add_assoc (1024 * n)]
  have hx := x.isLt
  rw [if_congr (show j'.val < x.val ∨ 128 ≤ j'.val ↔ x.val < 128 by omega) rfl rfl]

variable {p : FVec Ideal S512x128 .f32}
  (hp : ∀ r i, p (ix2 r i) = ((∑ k ∈ Finset.Ico (1024 * (n + 1)) 4096, h.rest (ρ + r.val) k : ℝ) : EReal))
include hp

theorem run_at (j : ℕ) (hj : j ≤ 8) (r i) : run s p j (ix2 r i)
    = ((∑ k ∈ Finset.Ico (1024 * n + 128 * (8 - j)) 4096, h.rest (ρ + r.val) k : ℝ) : EReal) := by
  have hn := H.hn
  induction j with
  | zero => exact (hp r i).trans (by rw [show 1024 * (n + 1) = 1024 * n + 128 * (8 - 0) by omega])
  | succ j ih =>
    rw [run]
    pointwise []
    rw [ih (by omega), sums_hi H _ _ _ (by dsimp only; omega), ← EReal.coe_add]
    have e : (Fin.ofNat 8 (7 - j)).val = 7 - j := Nat.mod_eq_of_lt (by omega)
    rw [e, add_comm, show 1024 * n + 128 * (8 - j) = 1024 * n + 128 * (7 - j) + 128 by omega,
      Finset.sum_Ico_consecutive _ (by omega) (by omega), show 8 - (j + 1) = 7 - j by omega]

theorem laterBlock_at (b : Fin 8) (r j) : laterBlock s p b (ix2 r j)
    = ((∑ k ∈ Finset.Ico (1024 * n + (key b j).val + 1) 4096, h.rest (ρ + r.val) k : ℝ) : EReal) := by
  have hn := H.hn
  rw [laterBlock]
  pointwise []
  rw [run_at H hp _ (by omega), sums_lo H _ _ j _ (by dsimp only), ← EReal.coe_add]
  rw [add_comm, show 1024 * n + 128 * (8 - (7 - b.val)) = 1024 * n + 128 * b.val + 128 by omega,
    Finset.sum_Ico_consecutive _ (by omega) (by omega), add_assoc (1024 * n) (128 * b.val) j.val]

theorem weight_at (r l) : weight s p (ix2 r l) = ((h.att (ρ + r.val) (1024 * n + l.val) : ℝ) : EReal) := by
  obtain ⟨b, j, rfl⟩ := exists_key l
  rw [weight, H.kept]
  pointwise []
  rw [logGate_at H, join_at, laterBlock_at H hp, ← EReal.coe_add, Ideal.exp_coe, coe_ite]
  rw [Head.att]

theorem accNext_at (acc : FVec Ideal S512x128 .f32) (r i) : accNext s p acc (ix2 r i)
    = acc (ix2 r i) + ∑ l : Fin 1024, ((h.att (ρ + r.val) (1024 * n + l.val) : ℝ) : EReal) * V (1024 * n + l.val) i := by
  pointwise [accNext]
  simp only [weight_at H hp, H.v]

theorem tab_at (t : FVec Ideal S512x128 .f32) (b : ℕ) (hb : b ≤ 8) (r) (x : Fin 128) : tab s p t b (ix2 r x)
    = if 8 * n ≤ x.val ∧ x.val < 8 * n + b then ((later h (ρ + r.val) x : ℝ) : EReal) else t (ix2 r x) := by
  have hn := H.hn
  induction b with
  | zero => rw [if_neg (by omega)]; rfl
  | succ b ih =>
    rw [tab]
    have e : (Fin.ofNat 8 b).val = b := Nat.mod_eq_of_lt (by omega)
    refine (lane_at H (Fin.ofNat 8 b) r x _ _).trans ?_
    rw [e, ih (by omega), run_at H hp _ (by omega)]
    by_cases hx : x.val = 8 * n + b
    · rw [if_pos hx, if_pos (by omega), later]
      rw [show 1024 * n + 128 * (8 - (7 - b)) = 128 * (x.val + 1) by omega]
    · rw [if_neg hx]
      exact if_congr (by omega) rfl rfl

end Cert.SfReal
-- ==== Proof.SfLoop.lean ====
module
public import proofs.«01_k».proof.Proof.SfReal
@[expose] public section
set_option maxRecDepth 16384
noncomputable section

/-! The loop over the spans before the last: one trip as two steps of `SfStep`, one for each head, and what the loop hands on. -/
namespace Cert.SfLoop
open Cert.Kernel12Ideal Cert.Kernel12Ideal.Gen Cert.SfStep Cert.SfReal Cert.SbReal Cert.SbData Cert.Reals
open Idealize.ShloMosaic Idealize.ShloMosaic.TcCoe Idealize.SL.Sem

/-- A head's state once the spans from `n` on are done: the totals of the logarithms, the outputs, the table. -/
structure Inv (h : Head) (V : ℕ → Fin 128 → EReal) (ρ n : ℕ) (p a t : FVec Ideal S512x128 .f32) : Prop where
  p : ∀ r i, p (ix2 r i) = ((∑ k ∈ Finset.Ico (1024 * n) 4096, h.rest (ρ + r.val) k : ℝ) : EReal)
  a : ∀ r i, a (ix2 r i) = ∑ k ∈ Finset.Ico (1024 * n) 4096, ((h.att (ρ + r.val) k : ℝ) : EReal) * V k i
  t : ∀ r (x : Fin 128), t (ix2 r x) = if 8 * n ≤ x.val then ((later h (ρ + r.val) x : ℝ) : EReal) else 0

variable {h : Head} {V : ℕ → Fin 128 → EReal} {ρ n : ℕ} {p a t : FVec Ideal S512x128 .f32}

/-- One span more. -/
theorem Inv.step {s : Inp} (R : Reads s h V ρ n) (I : Inv h V ρ (n + 1) p a t) : Inv h V ρ n (run s p 8) (accNext s p a) (tab s p t 8) where
  p r i := by
    have := run_at R I.p 8 le_rfl r i
    rwa [show 1024 * n + 128 * (8 - 8) = 1024 * n by omega] at this
  a r i := by
    have hn := R.hn
    rw [accNext_at R I.p, I.a, ← Finset.sum_Ico_consecutive _ (show 1024 * n ≤ 1024 * (n + 1) by omega) (show 1024 * (n + 1) ≤ 4096 by omega), add_comm]
    congr 1
    rw [Finset.sum_Ico_eq_sum_range, show 1024 * (n + 1) - 1024 * n = 1024 by omega,
      Fin.sum_univ_eq_sum_range (fun l => ((h.att (ρ + r.val) (1024 * n + l) : ℝ) : EReal) * V (1024 * n + l) i) 1024]
  t r x := by
    rw [tab_at R I.p t 8 le_rfl, I.t]
    by_cases h1 : 8 * n ≤ x.val
    · by_cases h2 : x.val < 8 * n + 8
      · rw [if_pos ⟨h1, h2⟩, if_pos h1]
      · rw [if_neg (by omega), if_pos (by omega), if_pos h1]
    · rw [if_neg (by omega), if_neg (by omega), if_neg h1]

/-- Before the first span: every key from `1024 * n` on is masked. -/
theorem Inv.start (hn : ρ + 512 ≤ 1024 * n) (hp : ∀ r i, p (ix2 r i) = (0 : EReal)) (ha : ∀ r i, a (ix2 r i) = (0 : EReal))
    (ht : ∀ r i, t (ix2 r i) = (0 : EReal)) : Inv h V ρ n p a t where
  p r i := by
    rw [hp, Finset.sum_eq_zero fun k hk => ?_]; · rfl
    have := Finset.mem_Ico.mp hk
    exact if_neg (by omega)
  a r i := by
    rw [ha, Finset.sum_eq_zero fun k hk => ?_]
    have := Finset.mem_Ico.mp hk
    rw [Head.att, if_neg (by omega), EReal.coe_zero, zero_mul]
  t r x := by
    rw [ht]
    split_ifs with hx
    · rw [later, Finset.sum_eq_zero fun k hk => ?_]; · rfl
      have := Finset.mem_Ico.mp hk
      exact if_neg (by omega)
    · rfl

/-- The rows of an array that trip `k` reads. -/
abbrev spanOf (i : grid0.Coords) (a : Memref sig .tc .vmem S4096x128 .f32) (X : BufTy.Contents (Elt Ideal) a.view.ty)
    (k : Fin (k0_t1_loop i).trips) : FVec Ideal S1024x128 .f32 :=
  View.readAt (Elt Ideal) a.view (Rect.unit (s := S4096x128) (k0_off2 i k) S1024x128.size (k0_off2_inb i k)).toLoadRect X

/-- What a head's step reads in trip `k`, counting down from the span `sd`. -/
abbrev tripInp (i : grid0.Coords) (a3 a4 : Memref sig .tc .vmem S4096x128 .f32)
    (X3 : BufTy.Contents (Elt Ideal) a3.view.ty) (X4 : BufTy.Contents (Elt Ideal) a4.view.ty)
    (k : Fin (k0_t1_loop i).trips) (sd : BitVec 32) (q : FVec Ideal S512x128 .bf16) : Inp where
  q := q
  k := truncf .bf16 (spanOf i a3 X3 k) bitsLt_bf16_f32
  v := truncf .bf16 (spanOf i a4 X4 k) bitsLt_bf16_f32
  sb := Scalar.subi (Scalar.subi sd 1#32) (Scf.iv 0#32 1#32 k)
  mask := none

variable (𝒱 : Variants) (c : Dev nD) (bd : Option 𝒱.V) (i : grid0.Coords)
  (a2 : Memref sig .tc .vmem S512x128 .f32) (h2 : a2.IsWhole) (a3 : Memref sig .tc .vmem S4096x128 .f32) (h3 : a3.IsWhole)
  (a4 : Memref sig .tc .vmem S4096x128 .f32) (h4 : a4.IsWhole) (a5 : Memref sig .tc .vmem S512x128 .bf16) (h5 : a5.IsWhole)
  (a6 : Memref sig .tc .vmem S1x512x128 .f32) (h6 : a6.IsWhole) (a7 : Memref sig .tc .vmem S1x512x128 .f32) (h7 : a7.IsWhole)
  (v19 : BitVec 32) (v20 : IVec S512x128 32) (v36 v41 : FVec Ideal S512x128 .bf16) (v52 : FVec Ideal S512x128 .f32)
  (v61 : FVec Ideal S1024x128 .bf16) (v124 v185 v188 v209 v215 v221 v227 v251 : FVec Ideal S512x128 .f32)
  (v256 : FVec Ideal S512x1024 .f32) (v277 : FVec Ideal S512x128 .f32) (v278 c3 : BitVec 32)
  (X3 : BufTy.Contents (Elt Ideal) a3.view.ty) (X4 : BufTy.Contents (Elt Ideal) a4.view.ty)

/-- The numbers of the table's lanes. -/
abbrev lanes : IVec S1x128 32 := iota .tc S1x128 32 [1] iota_S1x128_d1_w32

/-- The two heads' states. -/
abbrev Six : Type := FVec Ideal S512x128 .f32 × FVec Ideal S512x128 .f32 × FVec Ideal S512x128 .f32 × FVec Ideal S512x128 .f32
  × FVec Ideal S512x128 .f32 × FVec Ideal S512x128 .f32

/-- Two heads' states after one more span. -/
abbrev next (s0 s1 : Inp) (z : Six) : Six :=
  (run s0 z.1 8, accNext s0 z.1 z.2.1, tab s0 z.1 z.2.2.1 8,
    run s1 z.2.2.2.1 8, accNext s1 z.2.2.2.1 z.2.2.2.2.1, tab s1 z.2.2.2.1 z.2.2.2.2.2 8)

/-- What a trip hands on. -/
theorem tripR_eq (k : Fin (k0_t1_loop i).trips) (z : Six) :
    tripR_k0_t1 (F := Ideal) 𝒱 c bd i a2 h2 a3 h3 a4 h4 a5 h5 a6 h6 a7 h7 v19 v20 v36 v41 k0_pay129 v52 lanes v61 v124 v185 v188 v209
        v215 v221 v227 v251 v256 v277 v278 c3 X3 X4 k z
      = next (tripInp i a3 a4 X3 X4 k v19 v36) (tripInp i a3 a4 X3 X4 k v19 v41) z := by
  unfold tripR_k0_t1 trip_k0_t1
  dsimp only
  refine Prod.ext ?_ (Prod.ext ?_ (Prod.ext ?_ (Prod.ext ?_ (Prod.ext ?_ ?_)))) <;> rfl

/-- The state before trip `n`, from the state `z` before the loop. -/
abbrev st (z : Six) (n : ℕ) : Six := st_k0_t1 (F := Ideal) 𝒱 c bd i a2 h2 a3 h3 a4 h4 a5 h5 a6 h6 a7 h7 v19 v20 v36 v41 k0_pay129 v52 lanes v61 v124 v185
  v188 v209 v215 v221 v227 v251 v256 v277 v278 c3 X3 X4 z n

/-- Both heads' states once the spans from `n` on are done. -/
structure Both (h0 h1 : Head) (V : ℕ → Fin 128 → EReal) (ρ n : ℕ) (z : Six) : Prop where
  a : Inv h0 V ρ n z.1 z.2.1 z.2.2.1
  b : Inv h1 V ρ n z.2.2.2.1 z.2.2.2.2.1 z.2.2.2.2.2

theorem st_inv {ha hb : Head} {V : ℕ → Fin 128 → EReal} {ρ N : ℕ} (hN : (k0_t1_loop i).trips = N)
    (hR0 : ∀ k : Fin (k0_t1_loop i).trips, Reads (tripInp i a3 a4 X3 X4 k v19 v36) ha V ρ (N - 1 - k.val))
    (hR1 : ∀ k : Fin (k0_t1_loop i).trips, Reads (tripInp i a3 a4 X3 X4 k v19 v41) hb V ρ (N - 1 - k.val))
    {z : Six} (hz : Both ha hb V ρ N z) (n : ℕ) (hn : n ≤ N) :
    Both ha hb V ρ (N - n) (st 𝒱 c bd i a2 h2 a3 h3 a4 h4 a5 h5 a6 h6 a7 h7 v19 v20 v36 v41 v52 v61 v124 v185 v188 v209
        v215 v221 v227 v251 v256 v277 v278 c3 X3 X4 z n) := by
  induction n with
  | zero => exact hz
  | succ n ih =>
    have I := ih (by omega)
    have e := st_k0_t1_succ (F := Ideal) 𝒱 c bd i a2 h2 a3 h3 a4 h4 a5 h5 a6 h6 a7 h7 v19 v20 v36 v41 k0_pay129 v52 lanes v61 v124 v185
      v188 v209 v215 v221 v227 v251 v256 v277 v278 c3 X3 X4 z ⟨n, by omega⟩
    rw [tripR_eq] at e
    unfold st at I ⊢
    dsimp only at e
    rw [e]
    have w := hR0 ⟨n, by omega⟩
    have w' := hR1 ⟨n, by omega⟩
    dsimp only at w w'
    rw [show N - n = N - (n + 1) + 1 by omega] at I
    rw [show N - 1 - n = N - (n + 1) by omega] at w w'
    exact ⟨I.a.step w, I.b.step w'⟩

end Cert.SfLoop
-- ==== Proof.SfPoint.lean ====
module
public import proofs.«01_k».proof.Proof.SfLoop
public import Idealize.ShloMosaic.Lib.VecWindow
@[expose] public section
set_option maxRecDepth 16384
noncomputable section

/-! One grid point of the forward pass: what the body stores, as the masked step of the last span followed by the loop. -/
namespace Cert.SfPoint
open Cert.Kernel12Ideal Cert.Kernel12Ideal.Gen Cert.SfStep Cert.SfReal Cert.SfLoop
open Idealize.ShloMosaic Idealize.ShloMosaic.TcCoe Idealize.SL.Sem

/-- The buffers of a point. -/
structure Mems where
  a2 : Memref sig .tc .vmem S512x128 .f32
  h2 : a2.IsWhole
  a3 : Memref sig .tc .vmem S4096x128 .f32
  h3 : a3.IsWhole
  a4 : Memref sig .tc .vmem S4096x128 .f32
  h4 : a4.IsWhole
  a5 : Memref sig .tc .vmem S512x128 .bf16
  h5 : a5.IsWhole
  a6 : Memref sig .tc .vmem S1x512x128 .f32
  h6 : a6.IsWhole
  a7 : Memref sig .tc .vmem S1x512x128 .f32
  h7 : a7.IsWhole

/-- The number of the last span of a block of query rows: the quotient of the last row by 1024, rounded down. -/
def sd (i : grid0.Coords) : BitVec 32 :=
  let arg1 : BitVec 32 := BitVec.ofNat 32 (i 1).val
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c1024_i32 : BitVec 32 := 1024#32
  let c0_i32_4 : BitVec 32 := 0#32
  let v12 : BitVec 1 := Scalar.cmpi .sgt c1024_i32 c0_i32_4
  let v13 : BitVec 32 := Scalar.extui v12
  let c0_i32_5 : BitVec 32 := 0#32
  let v14 : BitVec 1 := Scalar.cmpi .slt c1024_i32 c0_i32_5
  let v15 : BitVec 32 := Scalar.extui v14
  let v16 : BitVec 32 := Scalar.subi v13 v15
  let v17 : BitVec 1 := Scalar.cmpi .ne v11 v16
  let v18 : BitVec 32 := Scalar.remsi v5 c1024_i32
  let c0_i32_6 : BitVec 32 := 0#32
  let v19 : BitVec 1 := Scalar.cmpi .ne v18 c0_i32_6
  let v20 : BitVec 1 := Scalar.andi v17 v19
  let v6 : BitVec 32 := Scalar.divsi v5 c1024_i32
  let c1_i32_7 : BitVec 32 := 1#32
  let v21 : BitVec 32 := Scalar.subi v6 c1_i32_7
  let v22 : BitVec 32 := Scalar.select v20 v21 v6
  v22

/-- The contents of a point's input buffers: queries, keys, values. -/
structure Ins where
  x0 : FVec Ideal S512x128 .f32
  x1 : FVec Ideal S4096x128 .f32
  x2 : FVec Ideal S4096x128 .f32

variable (c : Dev nD) (i : grid0.Coords) (M : Mems) (X : Ins)

/-- The queries as the body loads them. -/
def loaded : FVec Ideal S512x128 .f32 :=
  View.readAt (Elt Ideal) M.a2.view (Rect.unit (s := S512x128) ![0, 0] S512x128.size inb_S512x128_S512x128_0_0).toLoadRect (M.h2.unread X.x0)

theorem loaded_eq : loaded M X = X.x0 := by
  unfold loaded
  rw [View.readAt_full, M.h2.read_unread]

/-- The numbers of a row's features. -/
abbrev feats : IVec S512x128 32 := iota .tc S512x128 32 [1] iota_S512x128_d1_w32

/-- The scaled queries of the first head and of the second, each with the other's features zero. -/
abbrev qa (x : FVec Ideal S512x128 .f32) : FVec Ideal S512x128 .bf16 := k0_pay126 x
abbrev qb (x : FVec Ideal S512x128 .f32) : FVec Ideal S512x128 .bf16 :=
  k0_pay128 (k0_pay125 x) k0_pay127 (Scalar.ofBits (F := Ideal) .f32 0x00000000#32)

/-- What a head's step reads on the last span. -/
abbrev lastInp (q : FVec Ideal S512x128 .bf16) : Inp where
  q := q
  k := k0_pay131 (View.readAt (Elt Ideal) M.a3.view (Rect.unit (s := S4096x128) (k0_off1 i) S1024x128.size (k0_off1_inb i)).toLoadRect (M.h3.unread X.x1))
  v := k0_pay132 (View.readAt (Elt Ideal) M.a4.view (Rect.unit (s := S4096x128) (k0_off1 i) S1024x128.size (k0_off1_inb i)).toLoadRect (M.h4.unread X.x2))
  sb := sd i
  mask := some (k0_pay124 i)

/-- The two heads' states at the start. -/
abbrev zero : Six := (k0_pay130 (F := Ideal), k0_pay130 (F := Ideal), k0_pay130 (F := Ideal), k0_pay130 (F := Ideal),
  k0_pay130 (F := Ideal), k0_pay130 (F := Ideal))

/-- The states after the last span, as the body computes them. -/
abbrev first : Six := (kernelRun0_A.sl.r_16 (F := Ideal) c i M.a2 M.h2 M.a3 M.h3 X.x0 X.x1, kernelRun0_A.sl.r_22 (F := Ideal) c i M.a2 M.h2 M.a3 M.h3 M.a4 M.h4 X.x0 X.x1 X.x2,
  kernelRun0_A.sl.r_21 (F := Ideal) c i M.a2 M.h2 M.a3 M.h3 X.x0 X.x1, kernelRun0_A.sl.r_35 (F := Ideal) c i M.a2 M.h2 M.a3 M.h3 X.x0 X.x1,
  k0_pay186 k0_pay130 (kernelRun0_A.sl.r_4 (F := Ideal) c i M.a4 M.h4 X.x2) (kernelRun0_A.sl.r_36 (F := Ideal) c i M.a2 M.h2 M.a3 M.h3 X.x0 X.x1),
  k0_pay185 (kernelRun0_A.sl.v19 i) k0_pay130 kernelRun0_A.sl.v53 (kernelRun0_A.sl.r_26 (F := Ideal) c i M.a2 M.h2 M.a3 M.h3 X.x0 X.x1) (kernelRun0_A.sl.r_28 (F := Ideal) c i M.a2 M.h2 M.a3 M.h3 X.x0 X.x1) (kernelRun0_A.sl.r_30 (F := Ideal) c i M.a2 M.h2 M.a3 M.h3 X.x0 X.x1) (kernelRun0_A.sl.r_32 (F := Ideal) c i M.a2 M.h2 M.a3 M.h3 X.x0 X.x1) (kernelRun0_A.sl.r_37 (F := Ideal) c i M.a2 M.h2 M.a3 M.h3 X.x0 X.x1) (kernelRun0_A.sl.v278 i) 3#32)

set_option maxHeartbeats 1000000 in
theorem first_eq : first c i M X = next (lastInp i M X (qa (loaded M X))) (lastInp i M X (qb (loaded M X))) zero := by
  refine Prod.ext ?_ (Prod.ext ?_ (Prod.ext ?_ (Prod.ext ?_ (Prod.ext ?_ ?_)))) <;> rfl

/-- The states after the loop, from the states `z` before it. -/
abbrev loop1 (z : Six) : Six :=
  st Variants.none c none i M.a2 M.h2 M.a3 M.h3 M.a4 M.h4 M.a5 M.h5 M.a6 M.h6 M.a7 M.h7 (sd i) feats (qa (loaded M X)) (qb (loaded M X)) k0_pay130
    (kernelRun0_A.sl.r_4 (F := Ideal) c i M.a4 M.h4 X.x2) (kernelRun0_A.sl.r_16 (F := Ideal) c i M.a2 M.h2 M.a3 M.h3 X.x0 X.x1) (kernelRun0_A.sl.r_21 (F := Ideal) c i M.a2 M.h2 M.a3 M.h3 X.x0 X.x1) (kernelRun0_A.sl.r_22 (F := Ideal) c i M.a2 M.h2 M.a3 M.h3 M.a4 M.h4 X.x0 X.x1 X.x2) (kernelRun0_A.sl.r_26 (F := Ideal) c i M.a2 M.h2 M.a3 M.h3 X.x0 X.x1) (kernelRun0_A.sl.r_28 (F := Ideal) c i M.a2 M.h2 M.a3 M.h3 X.x0 X.x1) (kernelRun0_A.sl.r_30 (F := Ideal) c i M.a2 M.h2 M.a3 M.h3 X.x0 X.x1) (kernelRun0_A.sl.r_32 (F := Ideal) c i M.a2 M.h2 M.a3 M.h3 X.x0 X.x1) (kernelRun0_A.sl.r_35 (F := Ideal) c i M.a2 M.h2 M.a3 M.h3 X.x0 X.x1) (kernelRun0_A.sl.r_36 (F := Ideal) c i M.a2 M.h2 M.a3 M.h3 X.x0 X.x1) (kernelRun0_A.sl.r_37 (F := Ideal) c i M.a2 M.h2 M.a3 M.h3 X.x0 X.x1) (kernelRun0_A.sl.v278 i) 3#32
    (M.h3.unread X.x1) (M.h4.unread X.x2) z (Scf.trips (k0_t1_loop i).lb (k0_t1_loop i).ub (k0_t1_loop i).st)

/-- The states after the loop over the remainder, which has no trips. -/
abbrev loop2 (z : Six) : Six :=
  st_k0_t2 (F := Ideal) Variants.none c none i M.a2 M.h2 M.a3 M.h3 M.a4 M.h4 M.a5 M.h5 M.a6 M.h6 M.a7 M.h7 (sd i) feats (qa (loaded M X)) (qb (loaded M X)) k0_pay129 k0_pay130 lanes
    (kernelRun0_A.sl.r_4 (F := Ideal) c i M.a4 M.h4 X.x2) (kernelRun0_A.sl.r_16 (F := Ideal) c i M.a2 M.h2 M.a3 M.h3 X.x0 X.x1) (kernelRun0_A.sl.r_21 (F := Ideal) c i M.a2 M.h2 M.a3 M.h3 X.x0 X.x1) (kernelRun0_A.sl.r_22 (F := Ideal) c i M.a2 M.h2 M.a3 M.h3 M.a4 M.h4 X.x0 X.x1 X.x2) (kernelRun0_A.sl.r_26 (F := Ideal) c i M.a2 M.h2 M.a3 M.h3 X.x0 X.x1) (kernelRun0_A.sl.r_28 (F := Ideal) c i M.a2 M.h2 M.a3 M.h3 X.x0 X.x1) (kernelRun0_A.sl.r_30 (F := Ideal) c i M.a2 M.h2 M.a3 M.h3 X.x0 X.x1) (kernelRun0_A.sl.r_32 (F := Ideal) c i M.a2 M.h2 M.a3 M.h3 X.x0 X.x1) (kernelRun0_A.sl.r_35 (F := Ideal) c i M.a2 M.h2 M.a3 M.h3 X.x0 X.x1) (kernelRun0_A.sl.r_36 (F := Ideal) c i M.a2 M.h2 M.a3 M.h3 X.x0 X.x1) (kernelRun0_A.sl.r_37 (F := Ideal) c i M.a2 M.h2 M.a3 M.h3 X.x0 X.x1) (kernelRun0_A.sl.v278 i) 3#32 (kernelRun0_A.sl.v320 i)
    (M.h3.unread X.x1) (M.h4.unread X.x2) z (Scf.trips (k0_t2_loop i).lb (k0_t2_loop i).ub (k0_t2_loop i).st)

theorem loop2_eq (ht : (k0_t2_loop i).trips = 0) (z : Six) : loop2 c i M X z = z := by
  unfold loop2
  rw [show Scf.trips (k0_t2_loop i).lb (k0_t2_loop i).ub (k0_t2_loop i).st = 0 from ht]
  exact st_k0_t2.eq_1 ..

/-- The states a point ends with. -/
abbrev last : Six := loop1 c i M X (next (lastInp i M X (qa (loaded M X))) (lastInp i M X (qb (loaded M X))) zero)

abbrev six (z : Six) : Six := (z.1, z.2.1, z.2.2.1, z.2.2.2.1, z.2.2.2.2.1, z.2.2.2.2.2)

theorem end_eq (ht : (k0_t2_loop i).trips = 0) : loop2 c i M X (six (loop1 c i M X (first c i M X))) = last c i M X := by
  rw [loop2_eq c i M X ht, first_eq]

set_option maxHeartbeats 1000000 in
theorem out_y (ht : (k0_t2_loop i).trips = 0) :
    (kernelRun0_A (F := Ideal) c i M.a2 M.h2 M.a3 M.h3 M.a4 M.h4 M.a5 M.h5 M.a6 M.h6 M.a7 M.h7 X.x0 X.x1 X.x2).1
      = [⟨Rect.unit ![0, 0] ![512, 128] inb_S512x128_S512x128_0_0,
          k0_pay1 (last c i M X).2.1 (last c i M X).2.2.2.2.1 (k0_pay191 feats)⟩] := by
  rw [← end_eq c i M X ht]
  unfold kernelRun0_A
  dsimp only
  refine congrArg (fun x => [(⟨_, x⟩ : View.Piece (Elt Ideal) S512x128 .bf16)]) ?_
  rfl

set_option maxHeartbeats 1000000 in
theorem out_a (ht : (k0_t2_loop i).trips = 0) :
    (kernelRun0_A (F := Ideal) c i M.a2 M.h2 M.a3 M.h3 M.a4 M.h4 M.a5 M.h5 M.a6 M.h6 M.a7 M.h7 X.x0 X.x1 X.x2).2.1
      = [⟨Rect.unit ![0, 0, 0] ![1, 512, 128] inb_S1x512x128_S1x512x128_0_0_0, k0_pay2 (last c i M X).2.2.1⟩] := by
  rw [← end_eq c i M X ht]
  unfold kernelRun0_A
  dsimp only
  refine congrArg (fun x => [(⟨_, x⟩ : View.Piece (Elt Ideal) S1x512x128 .f32)]) ?_
  rfl

set_option maxHeartbeats 1000000 in
theorem out_b (ht : (k0_t2_loop i).trips = 0) :
    (kernelRun0_A (F := Ideal) c i M.a2 M.h2 M.a3 M.h3 M.a4 M.h4 M.a5 M.h5 M.a6 M.h6 M.a7 M.h7 X.x0 X.x1 X.x2).2.2.1
      = [⟨Rect.unit ![0, 0, 0] ![1, 512, 128] inb_S1x512x128_S1x512x128_0_0_0, k0_pay3 (last c i M X).2.2.2.2.2⟩] := by
  rw [← end_eq c i M X ht]
  unfold kernelRun0_A
  dsimp only
  refine congrArg (fun x => [(⟨_, x⟩ : View.Piece (Elt Ideal) S1x512x128 .f32)]) ?_
  rfl

end Cert.SfPoint
-- ==== Proof.SfGrid.lean ====
module
public import proofs.«01_k».proof.Proof.SfPoint
@[expose] public section
set_option maxRecDepth 16384
noncomputable section

/-! The integers of a grid point: the spans below the last, the last span's number, the rows they start at, the causal mask. -/
namespace Cert.SfGrid
open Cert.Kernel12Ideal Cert.Kernel12Ideal.Gen Cert.SfPoint Idealize.ShloMosaic Idealize.ShloMosaic.TcCoe Idealize.SL.Sem

variable (i : grid0.Coords)

theorem lt8 : (i 1).val < 8 := (i 1).isLt

theorem sd_eq : sd i = BitVec.ofNat 32 ((i 1).val / 2) := by
  have h := lt8 i
  unfold sd
  generalize (i 1).val = q at h ⊢
  interval_cases q <;> rfl

theorem trips1 : (k0_t1_loop i).trips = (i 1).val / 2 := by
  have h := lt8 i
  unfold k0_t1_loop
  generalize (i 1).val = q at h ⊢
  interval_cases q <;> rfl

theorem trips2 : (k0_t2_loop i).trips = 0 := by
  have h := lt8 i
  unfold k0_t2_loop
  generalize (i 1).val = q at h ⊢
  interval_cases q <;> rfl

theorem off2 (k : Fin (k0_t1_loop i).trips) : k0_off2 i k = ![1024 * ((i 1).val / 2 - 1 - k.val), 0] := by
  have h := lt8 i
  have hk : k.val < (i 1).val / 2 := lt_of_lt_of_eq k.isLt (trips1 i)
  unfold k0_off2
  dsimp only
  generalize k.val = n at hk ⊢
  generalize (i 1).val = q at h hk ⊢
  have hn : n < 4 := by omega
  interval_cases q <;> interval_cases n <;> first | omega | rfl

theorem sb_trip (k : Fin (k0_t1_loop i).trips) :
    Scalar.subi (Scalar.subi (sd i) 1#32) (Scf.iv 0#32 1#32 k.val) = BitVec.ofNat 32 ((i 1).val / 2 - 1 - k.val) := by
  have h := lt8 i
  have hk : k.val < (i 1).val / 2 := lt_of_lt_of_eq k.isLt (trips1 i)
  rw [sd_eq]
  generalize k.val = n at hk ⊢
  generalize (i 1).val = q at h hk ⊢
  have hn : n < 4 := by omega
  interval_cases q <;> interval_cases n <;> first | omega | rfl

theorem off1 : k0_off1 i = ![1024 * ((i 1).val / 2), 0] := by
  have h := lt8 i
  unfold k0_off1
  generalize (i 1).val = q at h ⊢
  interval_cases q <;> rfl

theorem mask_at (r : Fin 512) (l : Fin 1024) :
    k0_pay124 i (ix2 r l) = 1#1 ↔ 1024 * ((i 1).val / 2) + l.val < 512 * (i 1).val + r.val := by
  have h := lt8 i
  rw [show k0_pay124 i (ix2 r l) = IntOp.cmpi .slt (BitVec.ofNat 32 l.val) (IntOp.addi (Scalar.subi
      (Scalar.muli (BitVec.ofNat 32 (i 1).val) 512#32) (Scalar.muli (sd i) 1024#32)) (BitVec.ofNat 32 r.val)) by pointwise [k0_pay124]; rfl,
    sd_eq]
  rw [show Scalar.subi (Scalar.muli (BitVec.ofNat 32 (i 1).val) 512#32) (Scalar.muli (BitVec.ofNat 32 ((i 1).val / 2)) 1024#32)
      = BitVec.ofNat 32 (512 * ((i 1).val % 2)) by
    generalize (i 1).val = q at h ⊢
    interval_cases q <;> rfl]
  rw [show IntOp.addi (BitVec.ofNat 32 (512 * ((i 1).val % 2))) (BitVec.ofNat 32 r.val) = BitVec.ofNat 32 (512 * ((i 1).val % 2) + r.val) from
    (BitVec.ofNat_add ..).symm]
  have hb : 512 * ((i 1).val % 2) + r.val < 1024 := by omega
  rw [show 1024 * ((i 1).val / 2) + l.val < 512 * (i 1).val + r.val ↔ l.val < 512 * ((i 1).val % 2) + r.val by omega]
  generalize 512 * ((i 1).val % 2) + r.val = w at hb ⊢
  word_cmp

end Cert.SfGrid
-- ==== Proof.SfData.lean ====
module
public import proofs.«01_k».proof.Proof.SfGrid
public import proofs.«01_k».proof.Proof.SfLoop
public import Idealize.ShloMosaic.Lib.WritesUnit
@[expose] public section
set_option maxRecDepth 16384
noncomputable section

/-! What a grid point's blocks hold, what its spans then read, and what the point stores. -/
namespace Cert.SfData
open Cert.Kernel12Ideal Cert.Kernel12Ideal.Gen Cert.SfStep Cert.SfReal Cert.SfLoop Cert.SfPoint Cert.SfGrid Cert.SbReal Cert.SbData
open Idealize.ShloMosaic Idealize.ShloMosaic.TcCoe Idealize.SL.Sem

/-- A point's blocks: the queries of its 512 rows and all keys, as numbers, and all values. -/
structure Holds (q k : ℕ → Fin 128 → ℝ) (V : ℕ → Fin 128 → EReal) (i : grid0.Coords) (X : Ins) : Prop where
  x0 : ∀ r l, X.x0 (ix2 r l) = ((q (512 * (i 1).val + r.val) l : ℝ) : EReal)
  x1 : ∀ (y : Fin 4096) l, X.x1 (ix2 y l) = ((k y.val l : ℝ) : EReal)
  x2 : ∀ (y : Fin 4096) l, X.x2 (ix2 y l) = V y.val l

variable {q o k v : ℕ → Fin 128 → ℝ} {V : ℕ → Fin 128 → EReal} {i : grid0.Coords} {M : Mems} {X : Ins} (H : Holds q k V i X)

/-- Rows loaded from whole memory. -/
theorem rows_at (a : Memref sig .tc .vmem S4096x128 .f32) (h : a.IsWhole) (x : FVec Ideal S4096x128 .f32) {off : Fin 2 → ℕ}
    (inb : ∀ a : Fin 2, off a + S1024x128.size a ≤ S4096x128.size a) {n : ℕ} (hoff : off = ![1024 * n, 0]) (l : Fin 1024) (j : Fin 128)
    (hn : 1024 * n + l.val < 4096) :
    View.readAt (Elt Ideal) a.view (Rect.unit (s := S4096x128) off S1024x128.size inb).toLoadRect (h.unread x) (ix2 l j)
      = x (ix2 ⟨1024 * n + l.val, hn⟩ j) := by
  rw [View.readAt_eq_ld, h.read_unread, View.ld_unit_apply_of (S := S4096x128) _ off S1024x128.size inb (ix2 l j) (ix2 ⟨1024 * n + l.val, hn⟩ j)]
  subst hoff
  exact Fin.forall_fin_two.mpr ⟨rfl, (Nat.zero_add _).symm⟩

include H

theorem qa_at (r l) : qa X.x0 (ix2 r l) = (((low q o k v).Q (512 * (i 1).val + r.val) l : ℝ) : EReal) := by
  pointwise [qa, k0_pay126, k0_pay125]
  rw [H.x0, ofBits_eighth, ← EReal.coe_mul]
  word_cmp
  exact coe_ite _ _

theorem qb_at (r l) : qb X.x0 (ix2 r l) = (((high q o k v).Q (512 * (i 1).val + r.val) l : ℝ) : EReal) := by
  pointwise [qb, k0_pay128, k0_pay127, k0_pay125]
  rw [H.x0, ofBits_eighth, ← EReal.coe_mul]
  word_cmp
  exact coe_ite _ _

/-- What the first head reads in a trip of the loop. -/
theorem trip_low (t : Fin (k0_t1_loop i).trips) :
    Reads (tripInp i M.a3 M.a4 (M.h3.unread X.x1) (M.h4.unread X.x2) t (sd i) (qa X.x0)) (low q o k v) V (512 * (i 1).val) ((i 1).val / 2 - 1 - t.val) := by
  have ht : t.val < (i 1).val / 2 := lt_of_lt_of_eq t.isLt (trips1 i)
  have h8 := lt8 i
  exact {
    q := qa_at H
    k := fun l j => (rows_at M.a3 M.h3 X.x1 _ (off2 i t) l j (by omega)).trans (H.x1 _ j)
    v := fun l j => (rows_at M.a4 M.h4 X.x2 _ (off2 i t) l j (by omega)).trans (H.x2 _ j)
    sb := sb_trip i t
    hn := by omega
    kept := fun x r l => by rw [if_pos (by omega)]; rfl }

theorem trip_high (t : Fin (k0_t1_loop i).trips) :
    Reads (tripInp i M.a3 M.a4 (M.h3.unread X.x1) (M.h4.unread X.x2) t (sd i) (qb X.x0)) (high q o k v) V (512 * (i 1).val) ((i 1).val / 2 - 1 - t.val) :=
  have L := trip_low (M := M) (o := o) (v := v) H t
  { q := qb_at H, k := L.k, v := L.v, sb := L.sb, hn := L.hn, kept := L.kept }

/-- What it reads on the last span. -/
theorem last_low : Reads (lastInp i M X (qa X.x0)) (low q o k v) V (512 * (i 1).val) ((i 1).val / 2) := by
  have h8 := lt8 i
  exact {
    q := qa_at H
    k := fun l j => (rows_at M.a3 M.h3 X.x1 _ (off1 i) l j (by omega)).trans (H.x1 _ j)
    v := fun l j => (rows_at M.a4 M.h4 X.x2 _ (off1 i) l j (by omega)).trans (H.x2 _ j)
    sb := sd_eq i
    hn := by omega
    kept := fun x r l => by
      show Scalar.select (k0_pay124 i (ix2 r l)) (x (ix2 r l)) (Ideal.ofBits .f32 0x00000000#32) = _
      rw [show Ideal.ofBits .f32 0x00000000#32 = 0 by simp [Ideal.ofBits, Ideal.ieee], Scalar.select]
      exact if_congr (mask_at i r l) rfl rfl }

theorem last_high : Reads (lastInp i M X (qb X.x0)) (high q o k v) V (512 * (i 1).val) ((i 1).val / 2) :=
  have L := last_low (M := M) (o := o) (v := v) H
  { q := qb_at H, k := L.k, v := L.v, sb := L.sb, hn := L.hn, kept := L.kept }
omit H

theorem zeros_at (r l) : k0_pay130 (F := Ideal) (ix2 r l) = (0 : EReal) := by
  pointwise [k0_pay130]
include H

/-- Both heads' states when every span is done. -/
theorem last_inv (c : Dev nD) : Both (low q o k v) (high q o k v) V (512 * (i 1).val) 0 (last c i M X) := by
  have h8 := lt8 i
  have e : loaded M X = X.x0 := loaded_eq M X
  have hz : Both (low q o k v) (high q o k v) V (512 * (i 1).val) ((i 1).val / 2) (next (lastInp i M X (qa X.x0)) (lastInp i M X (qb X.x0)) zero) :=
    ⟨(Inv.start (by omega) zeros_at zeros_at zeros_at).step (last_low H), (Inv.start (by omega) zeros_at zeros_at zeros_at).step (last_high H)⟩
  have key : Both (low q o k v) (high q o k v) V (512 * (i 1).val) ((i 1).val / 2 - (i 1).val / 2) (last c i M X) := by
    unfold last loop1
    rw [e, show Scf.trips (k0_t1_loop i).lb (k0_t1_loop i).ub (k0_t1_loop i).st = (i 1).val / 2 from trips1 i]
    exact st_inv (hN := trips1 i) (hR0 := trip_low H) (hR1 := trip_high H) (hz := hz) (n := (i 1).val / 2) (hn := le_rfl) ..
  rwa [Nat.sub_self] at key

/-- A weighted sum of all values. -/
def weighted (h : Head) (V : ℕ → Fin 128 → EReal) (y : ℕ) (l : Fin 128) : EReal := ∑ j ∈ Finset.Ico 0 4096, ((h.att y j : ℝ) : EReal) * V j l

theorem point_y (c : Dev nD) (r l) : k0_pay1 (last c i M X).2.1 (last c i M X).2.2.2.2.1 (k0_pay191 feats) (ix2 r l)
    = (if l.val < 64 then weighted (low q o k v) V (512 * (i 1).val + r.val) l else weighted (high q o k v) V (512 * (i 1).val + r.val) l : EReal) := by
  have I := last_inv (M := M) (o := o) (v := v) H c
  have h0 := I.a.a r l
  have h1 := I.b.a r l
  generalize last c i M X = z at h0 h1 ⊢
  pointwise [k0_pay1, k0_pay191]
  rw [h0, h1]
  word_cmp
  rfl

theorem point_low (c : Dev nD) (r b) : k0_pay2 (last c i M X).2.2.1 (ix3 0 r b) = ((later (low q o k v) (512 * (i 1).val + r.val) b : ℝ) : EReal) := by
  have h0 := (last_inv (M := M) (o := o) (v := v) H c).a.t r b
  generalize last c i M X = z at h0 ⊢
  pointwise [k0_pay2]
  rw [h0, if_pos (Nat.zero_le _)]

theorem point_high (c : Dev nD) (r b) : k0_pay3 (last c i M X).2.2.2.2.2 (ix3 0 r b) = ((later (high q o k v) (512 * (i 1).val + r.val) b : ℝ) : EReal) := by
  have h0 := (last_inv (M := M) (o := o) (v := v) H c).b.t r b
  generalize last c i M X = z at h0 ⊢
  pointwise [k0_pay3]
  rw [h0, if_pos (Nat.zero_le _)]

end Cert.SfData
-- ==== Proof.SfBlocks.lean ====
module
public import proofs.«01_k».proof.Proof.SfData
public import proofs.«01_k».proof.Proof.SbHeads
public import proofs.«01_k».proof.Proof.Gen.Kernel12Ideal.Value
@[expose] public section
set_option maxRecDepth 16384
noncomputable section

/-! The blocks of the grid's points, as entries of the arguments, and the results put together. -/
namespace Cert.SfBlocks
open Cert.Kernel12Ideal Cert.Kernel12Ideal.Gen Cert.SfPoint Cert.SfGrid Cert.SfData Cert.SbReal Cert.SbData Cert.SbHeads
open Idealize.ShloMosaic Idealize.ShloMosaic.TcCoe Idealize.ShloMosaic.Pipeline Idealize.SL.Sem

variable (m : (ℓ : Loc nD τ sig) → Buf (Elt Ideal) ℓ)

theorem idx : ∀ t : Fin cfg0.N, win0_0.index t = ![t.val % 8, t.val / 8] ∧ win0_1.index t = ![0, 4 + t.val / 8]
    ∧ win0_2.index t = ![0, 8 + t.val / 8] ∧ win0_3.index t = ![t.val % 8, t.val / 8] ∧ win0_4.index t = ![t.val / 8, t.val % 8, 0]
    ∧ win0_5.index t = ![t.val / 8, t.val % 8, 0] :=
  (by decide +kernel : ∀ t : Fin grid0.N, _)

theorem crd : ∀ t : Fin cfg0.N, ((grid0.coords t) 0).val = t.val / 8 ∧ ((grid0.coords t) 1).val = t.val % 8 :=
  (by decide +kernel : ∀ t : Fin grid0.N, _)

theorem tlt (t : Fin cfg0.N) : t.val < 32 := t.isLt

theorem block_q (c : Dev nD) (t : Fin cfg0.N) (r : Fin 512) (l : Fin 128) : (iblk m c 0 t : FVec Ideal S512x128 .f32) (ix2 r l)
    = m ((c : Thread nD τ).loc main_arg0) (ix2 ⟨512 * (t.val % 8) + r.val, by omega⟩ ⟨128 * (t.val / 8) + l.val, by have := tlt t; omega⟩) := by
  unfold iblk; rw [View.read]; exact (congrFun (V_main_arg0 m c) _).trans (by blk_ext [idx t])

theorem block_k (c : Dev nD) (t : Fin cfg0.N) (y : Fin 4096) (l : Fin 128) : (iblk m c 1 t : FVec Ideal S4096x128 .f32) (ix2 y l)
    = m ((c : Thread nD τ).loc main_arg0) (ix2 y ⟨512 + (128 * (t.val / 8) + l.val), by have := tlt t; omega⟩) := by
  unfold iblk; rw [View.read]; exact (congrFun (V_main_arg0 m c) _).trans (by blk_ext [idx t])

theorem block_v (c : Dev nD) (t : Fin cfg0.N) (y : Fin 4096) (l : Fin 128) : (iblk m c 2 t : FVec Ideal S4096x128 .f32) (ix2 y l)
    = m ((c : Thread nD τ).loc main_arg0) (ix2 y ⟨1024 + (128 * (t.val / 8) + l.val), by have := tlt t; omega⟩) := by
  unfold iblk; rw [View.read]; exact (congrFun (V_main_arg0 m c) _).trans (by blk_ext [idx t])

/-- The finite columns of p, as numbers: those of the queries and keys; and the columns of the values. -/
structure Args (c : Dev nD) (p : ℕ → ℕ → ℝ) (V : ℕ → ℕ → EReal) : Prop where
  hp : ∀ (y : Fin 4096) (x : Fin 7168), x.val < 1024 → (m ((c : Thread nD τ).loc main_arg0) : FVec Ideal S4096x7168 .f32) (ix2 y x) = ((p y.val x.val : ℝ) : EReal)
  hv : ∀ (y : Fin 4096) (x : Fin 512), (m ((c : Thread nD τ).loc main_arg0) : FVec Ideal S4096x7168 .f32) (ix2 y ⟨1024 + x.val, by omega⟩) = V y.val x.val

variable {m} {c : Dev nD} {p : ℕ → ℕ → ℝ} {V : ℕ → ℕ → EReal} (A : Args m c p V)
include A

theorem query (t : Fin cfg0.N) (r : Fin 512) (l : Fin 128) : (iblk m c 0 t : FVec Ideal S512x128 .f32) (ix2 r l)
    = ((cols p 0 (t.val / 8) (512 * (t.val % 8) + r.val) l : ℝ) : EReal) := by
  have ht := tlt t
  refine (block_q m c t r l).trans ((A.hp ⟨512 * (t.val % 8) + r.val, by omega⟩ ⟨128 * (t.val / 8) + l.val, by omega⟩ (show 128 * (t.val / 8) + l.val < 1024 by omega)).trans ?_)
  rw [cols, zero_add]

theorem key (t : Fin cfg0.N) (r : Fin 4096) (l : Fin 128) : (iblk m c 1 t : FVec Ideal S4096x128 .f32) (ix2 r l)
    = ((cols p 512 (t.val / 8) (r.val) l : ℝ) : EReal) := by
  have ht := tlt t
  refine (block_k m c t r l).trans ((A.hp r ⟨512 + (128 * (t.val / 8) + l.val), by omega⟩ (show 512 + (128 * (t.val / 8) + l.val) < 1024 by omega)).trans ?_)
  rfl

theorem value (t : Fin cfg0.N) (r : Fin 4096) (l : Fin 128) : (iblk m c 2 t : FVec Ideal S4096x128 .f32) (ix2 r l)
    = V r.val (128 * (t.val / 8) + l.val) := by
  have ht := tlt t
  exact (block_v m c t r l).trans (A.hv r ⟨128 * (t.val / 8) + l.val, by omega⟩)

omit A in
/-- A point's blocks under what they hold. -/
theorem holds_of {q k : ℕ → Fin 128 → ℝ} {W : ℕ → Fin 128 → EReal} {i : grid0.Coords} {n : ℕ} (hn : (i 1).val = n)
    {x0 : FVec Ideal S512x128 .f32} {x1 x2 : FVec Ideal S4096x128 .f32}
    (h0 : ∀ r l, x0 (ix2 r l) = ((q (512 * n + r.val) l : ℝ) : EReal))
    (h1 : ∀ (y : Fin 4096) l, x1 (ix2 y l) = ((k y.val l : ℝ) : EReal))
    (h2 : ∀ (y : Fin 4096) l, x2 (ix2 y l) = W y.val l) :
    Holds q k W i ⟨x0, x1, x2⟩ := by
  subst hn
  exact ⟨h0, h1, h2⟩

theorem holds (t : Fin cfg0.N) : Holds (cols p 0 (t.val / 8)) (cols p 512 (t.val / 8)) (fun y l => V y (128 * (t.val / 8) + l.val))
    (grid0.coords t) ⟨iblk m c 0 t, iblk m c 1 t, iblk m c 2 t⟩ :=
  holds_of (crd t).2 (query A t) (key A t) (value A t)

omit A in
section
variable {q o k v : ℕ → Fin 128 → ℝ} {W : ℕ → Fin 128 → EReal} {i : grid0.Coords} {M : Mems} {X : Ins}

theorem at_y (H : Holds q k W i X) (r l) :
    out0_A_3 (F := Ideal) c i M.a2 M.h2 M.a3 M.h3 M.a4 M.h4 M.a5 M.h5 M.a6 M.h6 M.a7 M.h7 X.x0 X.x1 X.x2 (ix2 r l)
      = (if l.val < 64 then weighted (low q o k v) W (512 * (i 1).val + r.val) l else weighted (high q o k v) W (512 * (i 1).val + r.val) l : EReal) := by
  unfold out0_A_3
  rw [View.read_writes_junk_eq_canon]
  refine (congrFun (congrArg View.canon (SfPoint.out_y c i M X (trips2 _))) (ix2 r l)).trans ?_
  rw [View.canon_cons_unit_zero (by funext a; fin_cases a <;> rfl)]
  exact point_y (M := M) H c r l

theorem at_low (H : Holds q k W i X) (r b) :
    out0_A_4 (F := Ideal) c i M.a2 M.h2 M.a3 M.h3 M.a4 M.h4 M.a5 M.h5 M.a6 M.h6 M.a7 M.h7 X.x0 X.x1 X.x2 (ix3 0 r b)
      = ((later (low q o k v) (512 * (i 1).val + r.val) b : ℝ) : EReal) := by
  unfold out0_A_4
  rw [View.read_writes_junk_eq_canon]
  refine (congrFun (congrArg View.canon (SfPoint.out_a c i M X (trips2 _))) (ix3 0 r b)).trans ?_
  rw [View.canon_cons_unit_zero (by funext a; fin_cases a <;> rfl)]
  exact point_low (M := M) H c r b

theorem at_high (H : Holds q k W i X) (r b) :
    out0_A_5 (F := Ideal) c i M.a2 M.h2 M.a3 M.h3 M.a4 M.h4 M.a5 M.h5 M.a6 M.h6 M.a7 M.h7 X.x0 X.x1 X.x2 (ix3 0 r b)
      = ((later (high q o k v) (512 * (i 1).val + r.val) b : ℝ) : EReal) := by
  unfold out0_A_5
  rw [View.read_writes_junk_eq_canon]
  refine (congrFun (congrArg View.canon (SfPoint.out_b c i M X (trips2 _))) (ix3 0 r b)).trans ?_
  rw [View.canon_cons_unit_zero (by funext a; fin_cases a <;> rfl)]
  exact point_high (M := M) H c r b
end

/-- The buffers at a point. -/
abbrev mems (t : Fin cfg0.N) : Mems := ⟨ms0_0 t, hs0_0 t, ms0_1 t, hs0_1 t, ms0_2 t, hs0_2 t, ms0_3 t, hs0_3 t, ms0_4 t, hs0_4 t, ms0_5 t, hs0_5 t⟩

/-- The attention of one row and column. -/
def outY (p : ℕ → ℕ → ℝ) (V : ℕ → ℕ → EReal) (y x : ℕ) : EReal := ∑ j ∈ Finset.Ico 0 4096, ((att (score p (x / 64)) y j : ℝ) : EReal) * V j x
/-- A head's table. -/
def outT (p : ℕ → ℕ → ℝ) (h y b : ℕ) : ℝ := ∑ j ∈ Finset.Ico (128 * (b + 1)) 4096, rest (score p h) y j

theorem block_y (t : Fin cfg0.N) (r : Fin 512) (l : Fin 128) : ((outsAt0 m c t).1 : FVec Ideal S512x128 .bf16) (ix2 r l)
    = outY p V (512 * (t.val % 8) + r.val) (128 * (t.val / 8) + l.val) := by
  refine (at_y (M := mems t) (o := cols p 0 (t.val / 8)) (v := cols p 1024 (t.val / 8)) (holds A t) r l).trans ?_
  rw [(crd t).2]
  unfold outY weighted
  dsimp only
  split_ifs with hl
  · rw [show (128 * (t.val / 8) + l.val) / 64 = 2 * (t.val / 8) by omega, ← lo_Z p p, ← Head_att]
  · rw [show (128 * (t.val / 8) + l.val) / 64 = 2 * (t.val / 8) + 1 by omega, ← hi_Z p p, ← Head_att]

theorem block_low (t : Fin cfg0.N) (r : Fin 512) (b : Fin 128) : ((outsAt0 m c t).2.1 : FVec Ideal S1x512x128 .f32) (ix3 0 r b)
    = ((outT p (2 * (t.val / 8)) (512 * (t.val % 8) + r.val) b.val : ℝ) : EReal) := by
  have e : (outsAt0 m c t).2.1 = out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) := by simp only [outsAt0]
  refine (congrFun e (ix3 0 r b)).trans ?_
  refine (at_low (M := mems t) (X := ⟨iblk m c 0 t, iblk m c 1 t, iblk m c 2 t⟩) (o := cols p 0 (t.val / 8)) (v := cols p 1024 (t.val / 8)) (holds A t) r b).trans ?_
  rw [(crd t).2, outT, later, ← lo_Z p p, ← Head_rest]

theorem block_high (t : Fin cfg0.N) (r : Fin 512) (b : Fin 128) : ((outsAt0 m c t).2.2 : FVec Ideal S1x512x128 .f32) (ix3 0 r b)
    = ((outT p (2 * (t.val / 8) + 1) (512 * (t.val % 8) + r.val) b.val : ℝ) : EReal) := by
  have e : (outsAt0 m c t).2.2 = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) := by simp only [outsAt0]
  refine (congrFun e (ix3 0 r b)).trans ?_
  refine (at_high (M := mems t) (X := ⟨iblk m c 0 t, iblk m c 1 t, iblk m c 2 t⟩) (o := cols p 0 (t.val / 8)) (v := cols p 1024 (t.val / 8)) (holds A t) r b).trans ?_
  rw [(crd t).2, outT, later, ← hi_Z p p, ← Head_rest]

theorem final_y (y : Fin 4096) (x : Fin 512) : ((dats m 0 c).arrAt 3 cfg0.N : FVec Ideal S4096x512 .bf16) (ix2 y x) = outY p V y.val x.val := by
  have e : ((dats m 0 c).arrAt 3 cfg0.N : FVec Ideal S4096x512 .bf16) = fun i => outY p V (i 0).val (i 1).val := by
    refine (dats m 0 c).arrAt_eq_of_covers 3 _ (by decide +kernel) fun t hf i => ?_
    blk_simp
    rw [after0_3]
    have ht := tlt t
    obtain ⟨r, l, rfl⟩ : ∃ (r : Fin 512) (l : Fin 128), i = ix2 r l := ⟨i 0, i 1, by funext a; fin_cases a <;> rfl⟩
    refine (block_y A t r l).trans ?_
    have hx := (idx t).2.2.2.1
    have e0 : win0_3.index t 0 = t.val % 8 := congrFun hx 0
    have e1 : win0_3.index t 1 = t.val / 8 := congrFun hx 1
    have g0 : win0_3.index t 0 * 512 + r.val = 512 * (t.val % 8) + r.val := by rw [e0]; omega
    have g1 : win0_3.index t 1 * 128 + l.val = 128 * (t.val / 8) + l.val := by rw [e1]; omega
    show _ = outY p V (win0_3.index t 0 * 512 + r.val) (win0_3.index t 1 * 128 + l.val)
    rw [g0, g1]
  exact congrFun e _

omit A in
theorem low_of (G : FVec Ideal S4x4096x128 .f32) (h : ∀ (t : Fin cfg0.N) (r : Fin 512) (b : Fin 128), ((outsAt0 m c t).2.1 : FVec Ideal S1x512x128 .f32) (ix3 0 r b)
    = G (ix3 ⟨t.val / 8, by have := tlt t; omega⟩ ⟨512 * (t.val % 8) + r.val, by omega⟩ b)) :
    ((dats m 0 c).arrAt 4 cfg0.N : FVec Ideal S4x4096x128 .f32) = G := by
  refine (dats m 0 c).arrAt_eq_of_covers 4 _ (by decide +kernel) fun t hf i => ?_
  blk_simp
  rw [after0_4]
  obtain ⟨r, l, rfl⟩ : ∃ (r : Fin 512) (l : Fin 128), i = ix3 0 r l := ⟨i 1, i 2, by funext a; fin_cases a; exact Subsingleton.elim (α := Fin 1) _ _; rfl; rfl⟩
  refine (h t r l).trans ?_
  blk_ext [idx t]

theorem final_low (s : Fin 4) (y : Fin 4096) (b : Fin 128) : ((dats m 0 c).arrAt 4 cfg0.N : FVec Ideal S4x4096x128 .f32) (ix3 s y b)
    = ((outT p (2 * s.val) y.val b.val : ℝ) : EReal) :=
  congrFun (low_of (fun i => ((outT p (2 * (i 0).val) (i 1).val (i 2).val : ℝ) : EReal)) (block_low A)) (ix3 s y b)

omit A in
theorem high_of (G : FVec Ideal S4x4096x128 .f32) (h : ∀ (t : Fin cfg0.N) (r : Fin 512) (b : Fin 128), ((outsAt0 m c t).2.2 : FVec Ideal S1x512x128 .f32) (ix3 0 r b)
    = G (ix3 ⟨t.val / 8, by have := tlt t; omega⟩ ⟨512 * (t.val % 8) + r.val, by omega⟩ b)) :
    ((dats m 0 c).arrAt 5 cfg0.N : FVec Ideal S4x4096x128 .f32) = G := by
  refine (dats m 0 c).arrAt_eq_of_covers 5 _ (by decide +kernel) fun t hf i => ?_
  blk_simp
  rw [after0_5]
  obtain ⟨r, l, rfl⟩ : ∃ (r : Fin 512) (l : Fin 128), i = ix3 0 r l := ⟨i 1, i 2, by funext a; fin_cases a; exact Subsingleton.elim (α := Fin 1) _ _; rfl; rfl⟩
  refine (h t r l).trans ?_
  blk_ext [idx t]

theorem final_high (s : Fin 4) (y : Fin 4096) (b : Fin 128) : ((dats m 0 c).arrAt 5 cfg0.N : FVec Ideal S4x4096x128 .f32) (ix3 s y b)
    = ((outT p (2 * s.val + 1) y.val b.val : ℝ) : EReal) :=
  congrFun (high_of (fun i => ((outT p (2 * (i 0).val + 1) (i 1).val (i 2).val : ℝ) : EReal)) (block_high A)) (ix3 s y b)

end Cert.SfBlocks
-- ==== Proof.SfRef.lean ====
module
public import proofs.«01_k».proof.Proof.SbHeads
public import proofs.«01_k».proof.Proof.SbSig
public import proofs.«01_k».proof.Proof.CumSum
public import Idealize.ShloMosaic.Lib.WordCmp
public import proofs.«01_k».proof.Proof.Gen.Reference12Ideal.Read
@[expose] public section
set_option maxRecDepth 16384
noncomputable section
open Cert.Reference12Ideal Cert.Reference12Ideal.Gen Cert.Reference12Ideal.Read Cert.SbReal Cert.SbHeads Cert.SbSig Cert.Reals Cert.SbData
open Idealize.ShloMosaic Idealize.ShloMosaic.TcCoe Idealize.SL.Sem
/-! The forward reference read over the real numbers; the values may be any extended reals. -/
namespace Cert.SfRef
variable {X : (⟨S4096x7168, .f32⟩ : BufTy).Contents (Elt Ideal)} {p : ℕ → ℕ → ℝ} {V : ℕ → ℕ → EReal}

theorem heads_q (h : Fin 8) (y : Fin 4096) (i : Fin 64) : val_main_v4 (F := Ideal) X (ix3 h y i) = X (ix2 y ⟨64 * h.val + i.val, by omega⟩) := by
  pointwise [val_main_v4, val_main_v3, val_main_v0]
  exact congrArg X ((ix2_inj ..).2 ⟨rfl, Fin.ext (by dsimp only; omega)⟩)

theorem heads_k (h : Fin 8) (y : Fin 4096) (i : Fin 64) : val_main_v6 (F := Ideal) X (ix3 h y i) = X (ix2 y ⟨512 + (64 * h.val + i.val), by omega⟩) := by
  pointwise [val_main_v6, val_main_v5, val_main_v1]
  exact congrArg X ((ix2_inj ..).2 ⟨rfl, Fin.ext (by dsimp only; omega)⟩)

theorem heads_v (h : Fin 8) (y : Fin 4096) (i : Fin 64) : val_main_v39 (F := Ideal) X (ix3 h y i) = X (ix2 y ⟨1024 + (64 * h.val + i.val), by omega⟩) := by
  pointwise [val_main_v39, val_main_v38, val_main_v2]
  exact congrArg X ((ix2_inj ..).2 ⟨rfl, Fin.ext (by dsimp only; omega)⟩)

theorem score_sum (h : Fin 8) (q k : Fin 4096) : val_main_v9 (F := Ideal) X (ix3 h q k)
    = (∑ x : Fin 64, val_main_v4 (F := Ideal) X (ix3 h q x) * val_main_v6 (F := Ideal) X (ix3 h k x)) * val_main_cst (F := Ideal) ix0 := by
  unfold val_main_v9 val_main_v7 val_main_v8
  generalize val_main_v4 (F := Ideal) X = a
  generalize val_main_v6 (F := Ideal) X = b
  generalize val_main_cst (F := Ideal) = b
  pointwise []

/-- The scores are computed twice, in the same words. -/
theorem again : val_main_v42 (F := Ideal) X = val_main_v9 (F := Ideal) X := rfl

theorem mask_at (q k : Fin 4096) : val_main_v16 (F := Ideal) (ix2 q k) = if k.val < q.val then 1#1 else 0#1 := by
  pointwise [val_main_v16, val_main_v15, val_main_v14, val_main_v13, val_main_v12, val_main_v11, val_main_v10]
  by_cases h : k.val < q.val
  · rw [if_pos h]; word_cmp
  · rw [if_neg h]; word_cmp
theorem mask1 (h : Fin 8) (q k : Fin 4096) : val_main_call1_v1 (F := Ideal) (ix3 h q k) = if k.val < q.val then 1#1 else 0#1 := by
  rw [← mask_at]; unfold val_main_call1_v1; generalize val_main_v16 (F := Ideal) = a; pointwise []
theorem mask3 (h : Fin 8) (q k : Fin 4096) : val_main_call3_v1 (F := Ideal) (ix3 h q k) = if k.val < q.val then 1#1 else 0#1 := mask1 h q k
theorem mask6 (h : Fin 8) (q k : Fin 4096) : val_main_call6_v1 (F := Ideal) (ix3 h q k) = if k.val < q.val then 1#1 else 0#1 := mask1 h q k

section
variable {j : S8x4096x4096.Idx} {z : ℝ} (hz : val_main_v9 (F := Ideal) X j = (z : EReal))
include hz

theorem twice : val_main_call0_v0 (F := Ideal) X j = (z : EReal) := by
  rw [val_main_call0_v0_apply, val_main_v17_apply, hz]
  exact neg_neg _
theorem once : val_main_call4_v0 (F := Ideal) X j = ((-z : ℝ) : EReal) := by
  rw [val_main_call4_v0_apply, again, hz]
  exact (EReal.coe_neg _).symm
theorem soft_twice : val_main_call0_v1 (F := Ideal) X j = ((sp z : ℝ) : EReal) := by
  refine (show _ = soft (val_main_call0_v0 (F := Ideal) X j) from rfl).trans ?_
  rw [twice hz, soft_coe]
theorem soft_once : val_main_call4_v1 (F := Ideal) X j = ((sp (-z) : ℝ) : EReal) := by
  refine (show _ = soft (val_main_call4_v0 (F := Ideal) X j) from rfl).trans ?_
  rw [once hz, soft_coe]
/-- The logarithm of one minus the gate, and of the gate. -/
theorem log_other : val_main_v18 (F := Ideal) X j = ((lsp z - z : ℝ) : EReal) := by
  rw [val_main_v18_apply, soft_twice hz]
  refine (EReal.coe_neg _).symm.trans ?_
  rw [sp_pos]
theorem log_gate : val_main_v53 (F := Ideal) X j = ((lsp z : ℝ) : EReal) := by
  rw [val_main_v53_apply, soft_once hz]
  refine (EReal.coe_neg _).symm.trans ?_
  rw [sp_neg]
end

/-- The arguments' entries: finite queries and keys, and any values. -/
structure Reads (X : (⟨S4096x7168, .f32⟩ : BufTy).Contents (Elt Ideal)) (p : ℕ → ℕ → ℝ) (V : ℕ → ℕ → EReal) : Prop where
  hp : ∀ (y : Fin 4096) (x : Fin 7168), x.val < 1024 → X (ix2 y x) = ((p y.val x.val : ℝ) : EReal)
  hv : ∀ (y : Fin 4096) (x : Fin 512), X (ix2 y ⟨1024 + x.val, by omega⟩) = V y.val x.val

theorem zeros : (FloatOps.ofBits (F := Ideal) .f32 0x00000000#32 : EReal) = ((0 : ℝ) : EReal) := Ideal.ofBits_zero_f32

variable (H : Reads X p V)
include H

theorem q_at (h : Fin 8) (y : Fin 4096) (i : Fin 64) : val_main_v4 (F := Ideal) X (ix3 h y i) = ((p y (64 * h.val + i.val) : ℝ) : EReal) :=
  (heads_q h y i).trans (H.hp y _ (by dsimp only; omega))
theorem k_at (h : Fin 8) (y : Fin 4096) (i : Fin 64) : val_main_v6 (F := Ideal) X (ix3 h y i) = ((p y (512 + (64 * h.val + i.val)) : ℝ) : EReal) :=
  (heads_k h y i).trans (H.hp y _ (by dsimp only; omega))
theorem v_at (h : Fin 8) (y : Fin 4096) (i : Fin 64) : val_main_v39 (F := Ideal) X (ix3 h y i) = V y (64 * h.val + i.val) :=
  (heads_v h y i).trans (H.hv y ⟨64 * h.val + i.val, by omega⟩)

theorem score_at (h : Fin 8) (q k : Fin 4096) : val_main_v9 (F := Ideal) X (ix3 h q k) = ((score p h.val q.val k.val : ℝ) : EReal) := by
  rw [score_sum]
  rw [Finset.sum_congr rfl (fun x _ => by rw [q_at H, k_at H, ← EReal.coe_mul]), sum_coe]
  rw [show val_main_cst (F := Ideal) ix0 = ((1 / 8 : ℝ) : EReal) from ofBits_eighth, ← EReal.coe_mul]
  unfold score
  rw [Finset.sum_mul]
  congr 1
  exact Finset.sum_congr rfl fun x _ => by ring

theorem rest_at (h : Fin 8) (q k : Fin 4096) : val_main_v19 (F := Ideal) X (ix3 h q k) = ((rest (score p h.val) q.val k.val : ℝ) : EReal) := by
  rw [val_main_v19_apply, mask1]
  exact pick _ _ _ _ _ (log_other (score_at H h q k)) zeros

theorem rest_again (h : Fin 8) (q k : Fin 4096) : val_main_v52 (F := Ideal) X (ix3 h q k) = ((rest (score p h.val) q.val k.val : ℝ) : EReal) :=
  (show _ = val_main_v19 (F := Ideal) X (ix3 h q k) from rfl).trans (rest_at H h q k)

theorem rests_at (h : Fin 8) (q k : Fin 4096) : val_main_v54 (F := Ideal) X (ix3 h q k)
    = ((∑ j ∈ Finset.Ico k.val 4096, rest (score p h.val) q.val j : ℝ) : EReal) := by
  refine CumSum.from_end (val_main_v52 (F := Ideal) X) _ ?_ _ _ h q k (rest (score p h.val) q.val) fun j => rest_again H h q j
  exact Ideal.ofBits_zero_f32

omit H in
theorem exp_of (a b c : ℝ) : FloatOps.hostUnary (F := Ideal) (φ := .f32) .exp (FloatOps.subf (F := Ideal) (φ := .f32)
    (FloatOps.addf (F := Ideal) (φ := .f32) (a : EReal) (b : EReal)) (c : EReal)) = ((Real.exp (a + b - c) : ℝ) : EReal) := by
  show Ideal.exp ((a : EReal) + (b : EReal) - (c : EReal)) = _
  rw [← EReal.coe_add, ← EReal.coe_sub, Ideal.exp_coe]

theorem weight_at (h : Fin 8) (q k : Fin 4096) : val_main_v57 (F := Ideal) X (ix3 h q k)
    = ((Real.exp (lsp (score p h.val q.val k.val) + ∑ j ∈ Finset.Ico (k.val + 1) 4096, rest (score p h.val) q.val j) : ℝ) : EReal) := by
  rw [val_main_v57_apply, val_main_v56_apply, val_main_v55_apply, rests_at H, rest_again H, log_gate (score_at H h q k)]
  rw [Finset.sum_eq_sum_Ico_succ_bot k.isLt]
  rw [exp_of]
  congr 2; ring

theorem att_at (h : Fin 8) (q k : Fin 4096) : val_main_v58 (F := Ideal) X (ix3 h q k) = ((att (score p h.val) q.val k.val : ℝ) : EReal) := by
  rw [val_main_v58_apply, mask6]
  exact pick _ _ _ _ _ (weight_at H h q k) zeros

omit H in
theorem y_sum (h : Fin 8) (q : Fin 4096) (i : Fin 64) : val_main_v59 (F := Ideal) X (ix3 h q i)
    = ∑ k : Fin 4096, val_main_v58 (F := Ideal) X (ix3 h q k) * val_main_v39 (F := Ideal) X (ix3 h k i) := by
  unfold val_main_v59
  generalize val_main_v58 (F := Ideal) X = a
  generalize val_main_v39 (F := Ideal) X = b
  pointwise []
omit H in
theorem out_y (y : Fin 4096) (x : Fin 512) : val_main_v62 (F := Ideal) X (ix2 y x) = val_main_v59 (F := Ideal) X (ix3 ⟨x.val / 64, by omega⟩ y ⟨x.val % 64, by omega⟩) := by
  unfold val_main_v62 val_main_v61 val_main_v60
  generalize val_main_v59 (F := Ideal) X = a
  pointwise []

theorem ref_y (y : Fin 4096) (x : Fin 512) : val_main_v62 (F := Ideal) X (ix2 y x)
    = (∑ j ∈ Finset.Ico 0 4096, ((att (score p (x.val / 64)) y.val j : ℝ) : EReal) * V j x.val : EReal) := by
  rw [out_y, y_sum, Finset.sum_congr rfl (fun k _ => by rw [att_at H, v_at H]), ← Finset.range_eq_Ico]
  dsimp only
  rw [show 64 * (x.val / 64) + x.val % 64 = x.val by omega]
  exact Fin.sum_univ_eq_sum_range (fun k => ((att (score p (x.val / 64)) y.val k : ℝ) : EReal) * V k x.val) 4096

omit H in
theorem one_of : FloatOps.uitofp (F := Ideal) FTy.f32 (BitVec.ofBool true) = ((1 : ℝ) : EReal) := by
  show (((BitVec.ofBool true).toNat : ℝ) : EReal) = _
  simp
omit H in
theorem zero_of : FloatOps.uitofp (F := Ideal) FTy.f32 (BitVec.ofBool false) = ((0 : ℝ) : EReal) := by
  show (((BitVec.ofBool false).toNat : ℝ) : EReal) = _
  simp

omit H in
theorem later_at (k : Fin 4096) (b : Fin 128) : val_main_v31 (F := Ideal) (ix2 k b) = ((if 128 * (b.val + 1) ≤ k.val then 1 else 0 : ℝ) : EReal) := by
  pointwise [val_main_v31, val_main_v30, val_main_v29, val_main_v28, val_main_v27, val_main_v26, val_main_c_1, val_main_v25, val_main_v24, val_main_c, val_main_v23,
    val_main_v22, val_main_v21, val_main_v20]
  rw [show IntOp.muli (128#32) (IntOp.addi (BitVec.ofNat 32 b.val) 1#32) = BitVec.ofNat 32 (128 * (b.val + 1)) by
    rw [show IntOp.addi (BitVec.ofNat 32 b.val) 1#32 = BitVec.ofNat 32 (b.val + 1) from (BitVec.ofNat_add ..).symm]
    exact (BitVec.ofNat_mul ..).symm]
  have hb := b.isLt
  have hk := k.isLt
  word_cmp
  split_ifs with h
  · rw [decide_eq_true h]; exact one_of
  · rw [decide_eq_false h]; exact zero_of

omit H in
theorem table_sum (h : Fin 8) (q : Fin 4096) (b : Fin 128) : val_main_v32 (F := Ideal) X (ix3 h q b)
    = ∑ k : Fin 4096, val_main_v19 (F := Ideal) X (ix3 h q k) * val_main_v31 (F := Ideal) (ix2 k b) := by
  unfold val_main_v32
  generalize val_main_v19 (F := Ideal) X = a
  generalize val_main_v31 (F := Ideal) = b
  pointwise []

theorem table_at (h : Fin 8) (q : Fin 4096) (b : Fin 128) : val_main_v32 (F := Ideal) X (ix3 h q b)
    = ((∑ j ∈ Finset.Ico (128 * (b.val + 1)) 4096, rest (score p h.val) q.val j : ℝ) : EReal) := by
  rw [table_sum, Finset.sum_congr rfl (fun k _ => by rw [rest_at H, later_at, ← EReal.coe_mul]), sum_coe]
  refine congrArg (fun z : ℝ => (z : EReal)) ?_
  generalize rest (score p h.val) q.val = f
  rw [Fin.sum_univ_eq_sum_range (fun k => f k * (if 128 * (b.val + 1) ≤ k then 1 else 0)) 4096]
  simp only [mul_ite, mul_one, mul_zero]
  rw [← Finset.sum_filter, Finset.range_eq_Ico, Finset.Ico_filter_le, max_eq_right (Nat.zero_le _)]

omit H in
theorem low_line (s : Fin 4) (y : Fin 4096) (b : Fin 128) : val_main_v64 (F := Ideal) X (ix3 s y b) = val_main_v32 (F := Ideal) X (ix3 ⟨2 * s.val, by omega⟩ y b) := by
  unfold val_main_v64 val_main_v63 val_main_v33
  generalize val_main_v32 (F := Ideal) X = a
  pointwise []
  exact congrArg a ((ix3_inj ..).2 ⟨Fin.ext (by dsimp only; omega), rfl, rfl⟩)
omit H in
theorem high_line (s : Fin 4) (y : Fin 4096) (b : Fin 128) : val_main_v66 (F := Ideal) X (ix3 s y b) = val_main_v32 (F := Ideal) X (ix3 ⟨2 * s.val + 1, by omega⟩ y b) := by
  unfold val_main_v66 val_main_v65 val_main_v33
  generalize val_main_v32 (F := Ideal) X = a
  pointwise []
  exact congrArg a ((ix3_inj ..).2 ⟨Fin.ext (by dsimp only; omega), rfl, rfl⟩)

theorem ref_low (s : Fin 4) (y : Fin 4096) (b : Fin 128) : val_main_v64 (F := Ideal) X (ix3 s y b)
    = ((∑ j ∈ Finset.Ico (128 * (b.val + 1)) 4096, rest (score p (2 * s.val)) y.val j : ℝ) : EReal) := (low_line s y b).trans (table_at H _ y b)
theorem ref_high (s : Fin 4) (y : Fin 4096) (b : Fin 128) : val_main_v66 (F := Ideal) X (ix3 s y b)
    = ((∑ j ∈ Finset.Ico (128 * (b.val + 1)) 4096, rest (score p (2 * s.val + 1)) y.val j : ℝ) : EReal) := (high_line s y b).trans (table_at H _ y b)
end Cert.SfRef
end
end
-- ==== Proof.SbFwd.lean ====
/-  The forward pass of the stick-breaking attention (`_sb_fwd`): the kernel's three results are the reference's. -/
module

public import proofs.«01_k».proof.Defs
public import proofs.«01_k».proof.Proof.Gen.Reference12Ideal.Run
public import proofs.«01_k».proof.Proof.SfBlocks
public import proofs.«01_k».proof.Proof.SfRef
public import Idealize.ShloMosaic.Lib.Claim

@[expose] public section

set_option maxRecDepth 16384

noncomputable section

namespace Cert.SbFwd

open Idealize.ShloMosaic Idealize.ShloMosaic.TcCoe Idealize.SL.Sem Cert.Reals

/-- What the precondition says of one place. -/
theorem finite_at [Pre_finite_qk.Facts] (X : FVec Ideal Pre_finite_qk.S4096x7168 .f32)
    (h : Pre_finite_qk.fn (F := Ideal) X = fun _ => 1#1) (y : Fin 4096) (x : Fin 512) :
    (∃ r : ℝ, X (ix2 y ⟨x.val, by omega⟩) = (r : EReal)) ∧ ∃ r : ℝ, X (ix2 y ⟨512 + x.val, by omega⟩) = (r : EReal) := by
  have e := congrFun h (ix2 y x)
  unfold Pre_finite_qk.fn at e
  dsimp only at e
  have two : ∀ a b : BitVec 1, a &&& b = 1#1 → a = 1#1 ∧ b = 1#1 := by decide
  obtain ⟨e1, e2⟩ := two _ _ e
  refine ⟨?_, ?_⟩
  · refine real_of_olt (Eq.trans ?_ e1)
    pointwise []
    rfl
  · refine real_of_olt (Eq.trans ?_ e2)
    pointwise []
    rfl

/-- The queries' and keys' columns as a table of real numbers, and the values'. -/
theorem tables [Pre_finite_qk.Facts] (X : FVec Ideal Pre_finite_qk.S4096x7168 .f32)
    (h : Pre_finite_qk.fn (F := Ideal) X = fun _ => 1#1) : ∃ (p : ℕ → ℕ → ℝ) (V : ℕ → ℕ → EReal),
      (∀ (y : Fin 4096) (x : Fin 7168), x.val < 1024 → X (ix2 y x) = ((p y.val x.val : ℝ) : EReal))
      ∧ ∀ (y : Fin 4096) (x : Fin 512), X (ix2 y ⟨1024 + x.val, by omega⟩) = V y.val x.val := by
  refine ⟨fun y x => if hy : y < 4096 ∧ x < 7168 then EReal.toReal (X (ix2 ⟨y, hy.1⟩ ⟨x, hy.2⟩)) else 0,
    fun y x => if hy : y < 4096 ∧ x < 512 then X (ix2 ⟨y, hy.1⟩ ⟨1024 + x, by omega⟩) else 0, fun y x hx => ?_, fun y x => ?_⟩
  · dsimp only
    rw [dif_pos ⟨y.isLt, x.isLt⟩]
    have : ∃ r : ℝ, X (ix2 y x) = (r : EReal) := by
      rcases Nat.lt_or_ge x.val 512 with h1 | h1
      · exact (finite_at X h y ⟨x.val, h1⟩).1
      · have := (finite_at X h y ⟨x.val - 512, by omega⟩).2
        rwa [show (⟨512 + (x.val - 512), by omega⟩ : Fin 7168) = x from Fin.ext (by dsimp only; omega)] at this
    obtain ⟨r, hr⟩ := this
    rw [hr, EReal.toReal_coe]
  · dsimp only
    rw [dif_pos ⟨y.isLt, x.isLt⟩]

section
open Cert.Kernel12Ideal Cert.Kernel12Ideal.Gen
variable (m : (ℓ : Loc nD τ sig) → Buf (Elt Ideal) ℓ) (c : Dev nD) {p : ℕ → ℕ → ℝ} {V : ℕ → ℕ → EReal} (A : SfBlocks.Args m c p V)
include A

theorem final_y : (dats m 0 c).arrAt 3 cfg0.N = Reference12Ideal.Read.val_main_v62 (F := Ideal) (m ((c : Thread nD τ).loc main_arg0)) := by
  funext i
  obtain ⟨y, x, rfl⟩ : ∃ (y : Fin 4096) (x : Fin 512), i = ix2 y x := ⟨i 0, i 1, by funext a; fin_cases a <;> rfl⟩
  exact (SfBlocks.final_y A y x).trans (SfRef.ref_y ⟨A.hp, A.hv⟩ y x).symm

theorem final_low : (dats m 0 c).arrAt 4 cfg0.N = Reference12Ideal.Read.val_main_v64 (F := Ideal) (m ((c : Thread nD τ).loc main_arg0)) := by
  funext i
  obtain ⟨s, y, b, rfl⟩ : ∃ (s : Fin 4) (y : Fin 4096) (b : Fin 128), i = ix3 s y b := ⟨i 0, i 1, i 2, by funext a; fin_cases a <;> rfl⟩
  exact (SfBlocks.final_low A s y b).trans (SfRef.ref_low ⟨A.hp, A.hv⟩ s y b).symm

theorem final_high : (dats m 0 c).arrAt 5 cfg0.N = Reference12Ideal.Read.val_main_v66 (F := Ideal) (m ((c : Thread nD τ).loc main_arg0)) := by
  funext i
  obtain ⟨s, y, b, rfl⟩ : ∃ (s : Fin 4) (y : Fin 4096) (b : Fin 128), i = ix3 s y b := ⟨i 0, i 1, i 2, by funext a; fin_cases a <;> rfl⟩
  exact (SfBlocks.final_high A s y b).trans (SfRef.ref_high ⟨A.hp, A.hv⟩ s y b).symm
end

theorem frame_reference : quiescent_Reference12Ideal := fun m g _ =>
  (θ_run Reference12Ideal.defs _ _).mono (fun r h => ⟨fun c => (h c).2.2.2, sem_eq_zero_of_no_sems (by decide) r.2⟩)
    (Reference12Ideal.Value.run (F := Ideal) m g)

theorem algebraic [Pre_finite_qk.Facts] : algebraic_Kernel12Ideal_Reference12Ideal_pre_finite_qk := by
  pair_intro
  · run_from Kernel12Ideal.Value.run_blocks m g
  · run_from Reference12Ideal.Value.run m' g'
    all_goals obtain ⟨p, V, hp, hv⟩ := tables _ (hpre c)
    · refine (Reference12Ideal.Read.val_main_v62_eq m' c).trans ?_
      rw [hagree c]
      exact (final_y m c ⟨hp, hv⟩).symm
    · refine (Reference12Ideal.Read.val_main_v64_eq m' c).trans ?_
      rw [hagree c]
      exact (final_low m c ⟨hp, hv⟩).symm
    · refine (Reference12Ideal.Read.val_main_v66_eq m' c).trans ?_
      rw [hagree c]
      exact (final_high m c ⟨hp, hv⟩).symm
end Cert.SbFwd
end
-- ==== Proof.XaFwd.lean ====
/-  The memory cross attention (`_xa_fwd`): what the kernel leaves is what the reference computes. -/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import Idealize.ShloMosaic.Lib.Claim

@[expose] public section

set_option maxRecDepth 16384

noncomputable section

namespace Cert.Kernel14Ideal.XaFwd

open Cert.Kernel14Ideal Cert.Kernel14Ideal.Gen Cert.Reference14Ideal.Read Idealize.ShloMosaic Idealize.ShloMosaic.TcCoe Idealize.SL.Sem
open Idealize.ShloMosaic.Pipeline (Dat)

/-- The largest of a row's scores, a key's weight, and its probability. -/
def top (s : Fin 256 → EReal) : EReal := Finset.fold max ⊥ s Finset.univ
def weight (s : Fin 256 → EReal) (l : Fin 256) : EReal := Ideal.exp (s l - top s)
def prob (s : Fin 256 → EReal) (l : Fin 256) : EReal := Ideal.div (weight s l) (∑ x, weight s x)

/-- A row's scores against the keys. -/
def score (a : Fin 256 → EReal) (b : Fin 256 → Fin 256 → EReal) (l : Fin 256) : EReal := (∑ d, a d * b l d) * Ideal.ofBits FTy.f32 0x3D800000#32

/-- A column of the attention's output: the mean of the values by the probabilities. -/
def mix (s v : Fin 256 → EReal) : EReal := ∑ x, prob s x * v x

theorem bot_word : Ideal.ofBits FTy.f32 4286578688#32 = ⊥ := by simp [Ideal.ofBits, Ideal.ieee]

theorem out_at (q : FVec Ideal S2048x256 .bf16) (k v : FVec Ideal S256x256 .bf16) (r : Fin 2048) (l : Fin 256) :
    k0_pay1 (F := Ideal) q k v (ix2 r l) = mix (score (fun d => q (ix2 r d)) fun x d => k (ix2 x d)) fun x => v (ix2 x l) := by
  unfold mix prob weight top score
  rw [← bot_word]
  pointwise [k0_pay1]

section Ref
variable (Q : FVec Ideal S4096x1024 .bf16) (K V : FVec Ideal S256x1024 .bf16) (h : Fin 4) (R : Fin 4096)

/-- Column `d` of head `h`. -/
abbrev col (h : Fin 4) (d : Fin 256) : Fin 1024 := ⟨h.val * 256 + d.val, by omega⟩

abbrev scores : Fin 256 → EReal := score (fun d => Q (ix2 R (col h d))) fun l d => K (ix2 l (col h d))

theorem ref_score (l : Fin 256) : val_main_v8 (F := Ideal) Q K (ix3 h R l) = scores Q K h R l := by
  unfold scores score
  pointwise [val_main_v8, val_main_v7, val_main_v6, val_main_v4, val_main_v3, val_main_cst, val_main_v0, val_main_v1]

theorem ref_top : val_main_v9 (F := Ideal) Q K (ix2 h R) = top (scores Q K h R) := by
  have e := ref_score Q K h R
  unfold val_main_v9 top
  rw [← bot_word]
  generalize val_main_v8 (F := Ideal) Q K = s at e ⊢
  simp only [← e]
  pointwise [val_main_cst_0]

theorem ref_floor : val_main_v10 (F := Ideal) (ix2 h R) = ⊥ := by
  refine Eq.trans ?_ bot_word
  unfold val_main_v10 val_main_cst_1
  pointwise []

theorem max_at {s : Shape} (a b : FVec Ideal s .f32) (i : s.Idx) : maximumf a b i = max (a i) (b i) := rfl

theorem ref_top' : val_main_v11 (F := Ideal) Q K (ix2 h R) = top (scores Q K h R) := by
  unfold val_main_v11
  refine (max_at _ _ _).trans ?_
  rw [ref_floor, ref_top]
  exact max_eq_right bot_le

theorem ref_weight (l : Fin 256) : val_main_v15 (F := Ideal) Q K (ix3 h R l) = weight (scores Q K h R) l := by
  unfold weight
  rw [← ref_score, ← ref_top']
  unfold val_main_v15 val_main_v14 val_main_v13 val_main_v12
  generalize val_main_v11 (F := Ideal) Q K = e
  generalize val_main_v8 (F := Ideal) Q K = s
  pointwise []

theorem ref_prob (l : Fin 256) : val_main_v19 (F := Ideal) Q K (ix3 h R l) = prob (scores Q K h R) l := by
  have e := ref_weight Q K h R
  unfold prob val_main_v19 val_main_v18 val_main_v17 val_main_v16
  generalize val_main_v15 (F := Ideal) Q K = s at e ⊢
  simp only [← e]
  pointwise [val_main_cst_2]

theorem ref_mix (l : Fin 1024) : val_main_v23 (F := Ideal) Q K V (ix2 R l) = ∑ x, val_main_v19 (F := Ideal) Q K (ix3 ⟨l.val / 256, by omega⟩ R x) * V (ix2 x l) := by
  unfold val_main_v23 val_main_v22 val_main_v21 val_main_v20
  generalize val_main_v19 (F := Ideal) Q K = s
  pointwise [val_main_v5, val_main_v2]
  exact Finset.sum_congr rfl fun _ _ => mul_comm _ _

theorem head_col (l : Fin 256) : (⟨(col h l).val / 256, by omega⟩ : Fin 4) = h := Fin.ext (by show (h.val * 256 + l.val) / 256 = h.val; omega)

theorem ref_out (l : Fin 256) : val_main_v23 (F := Ideal) Q K V (ix2 R (col h l)) = mix (scores Q K h R) fun x => V (ix2 x (col h l)) := by
  refine (ref_mix Q K V R _).trans (Finset.sum_congr rfl fun x _ => Ideal.mul_congr ?_ rfl)
  rw [head_col]
  exact ref_prob Q K h R x

end Ref

variable (m : (ℓ : Loc nD τ sig) → Buf (Elt Ideal) ℓ)

theorem idx : ∀ t : Fin cfg0.N, win0_0.index t = ![t.val % 2, t.val / 2] ∧ win0_1.index t = ![0, t.val / 2] ∧ win0_2.index t = ![0, t.val / 2]
    ∧ win0_3.index t = ![t.val % 2, t.val / 2] :=
  (by decide +kernel : ∀ t : Fin grid0.N, _)

/-- Row `r` of block `t`, and its head. -/
abbrev row (t : Fin cfg0.N) (r : Fin 2048) : Fin 4096 := ⟨2048 * (t.val % 2) + r.val, by omega⟩
abbrev head (t : Fin cfg0.N) : Fin 4 := ⟨t.val / 2, by have := t.isLt; have h : cfg0.N = 8 := N_0; omega⟩

theorem block_q (c : Dev nD) (t : Fin cfg0.N) (r : Fin 2048) (d : Fin 256) :
    (iblk m c 0 t : FVec Ideal S2048x256 .bf16) (ix2 r d) = m ((c : Thread nD τ).loc main_arg0) (ix2 (row t r) (col (head t) d)) := by
  blk_ext! [iblk, V, idx t]
theorem block_k (c : Dev nD) (t : Fin cfg0.N) (x d : Fin 256) :
    (iblk m c 1 t : FVec Ideal S256x256 .bf16) (ix2 x d) = m ((c : Thread nD τ).loc main_arg1) (ix2 x (col (head t) d)) := by
  blk_ext! [iblk, V, idx t]
theorem block_v (c : Dev nD) (t : Fin cfg0.N) (x d : Fin 256) :
    (iblk m c 2 t : FVec Ideal S256x256 .bf16) (ix2 x d) = m ((c : Thread nD τ).loc main_arg2) (ix2 x (col (head t) d)) := by
  blk_ext! [iblk, V, idx t]

theorem final (c : Dev nD) : (dats m 0 c).arrAt 3 (cfgs 0).N
    = val_main_v23 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  idx_vars y
  refine (out_at _ _ _ _ _).trans ?_
  simp only [block_q, block_k, block_v]
  refine (ref_out _ _ _ (head t) (row t y0) y1).symm.trans ?_
  blk_ext [idx t]

end Cert.Kernel14Ideal.XaFwd

namespace Cert.XaFwd

open Idealize.ShloMosaic Idealize.SL.Sem

theorem frame_reference : quiescent_Reference14Ideal := fun m g _ =>
  (θ_run Reference14Ideal.defs _ _).mono (fun r h => ⟨fun c => (h c).2, sem_eq_zero_of_no_sems (by decide) r.2⟩)
    (Reference14Ideal.Value.run (F := Ideal) m g)

theorem algebraic : algebraic_Kernel14Ideal_Reference14Ideal := by
  pair_intro
  · run_from Kernel14Ideal.Value.run_blocks m g
  · run_from Reference14Ideal.Value.run m' g'
    exact (Reference14Ideal.Read.val_main_v23_eq _ _ _).trans (Kernel14Ideal.XaFwd.final m c).symm

end Cert.XaFwd

end
-- ==== Proof.SguFwd.lean ====
/-  The spatial gate (`_sgu_fwd`): what the kernel leaves is what the forward lines compute. The kernel's sixteen tiles of a step are one function at
    different offsets, read once at offsets that are variables. -/
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit
public import Idealize.ShloMosaic.Lib.Claim

@[expose] public section

set_option maxRecDepth 16384

noncomputable section

namespace Cert.Kernel16Ideal.SguFwd

open Cert.Kernel16Ideal Cert.Kernel16Ideal.Gen Cert.Reference16Ideal.Read Idealize.ShloMosaic Idealize.ShloMosaic.TcCoe Idealize.SL.Sem
open Idealize.ShloMosaic.Pipeline (Dat)

/-- The constant `1/√2`, which the kernel multiplies by and the forward lines divide by the root of. -/
theorem named_root : Named.named (F := Ideal) κ "inv_sqrt2" (φ := .f32) 0x3F3504F3#32 = (((Real.sqrt 2)⁻¹ : ℝ) : EReal) :=
  IdealRules.named_const.ideal_named_scalar _ _ _ _ rfl

theorem root_two : Ideal.sqrt (Ideal.ofBits .f32 0x40000000#32) = ((Real.sqrt 2 : ℝ) : EReal) := by
  have e : Ideal.ofBits .f32 0x40000000#32 = ((2 : ℝ) : EReal) := by
    simp [Ideal.ofBits, Ideal.ieee, -EReal.coe_mul]; norm_num
  rw [e, Ideal.sqrt_coe, if_neg (by norm_num)]

/-- The GELU as the kernel writes it, and as the forward lines do: one function of every extended real. -/
def gelu (x : EReal) : EReal :=
  Ideal.ofBits .f32 0x3F000000#32 * x * (1 + Ideal.erf (x * Named.named (F := Ideal) κ "inv_sqrt2" (φ := .f32) 0x3F3504F3#32))

theorem gelu_eq (x : EReal) : Ideal.ofBits .f32 0x3F000000#32 * x * Ideal.erfc (Ideal.div (-x) (Ideal.sqrt (Ideal.ofBits .f32 0x40000000#32))) = gelu x := by
  unfold gelu
  rw [root_two, named_root, Ideal.div_coe (by positivity : Real.sqrt 2 ≠ 0), one_div, neg_mul, Ideal.erfc_neg]

/-- The layer norm of a row `z`. -/
def mean (z : Fin 512 → EReal) : EReal := Ideal.div (∑ k, z k) (Ideal.ofBits .f32 0x44000000#32)
def cent (z : Fin 512 → EReal) (k : Fin 512) : EReal := z k - mean z
def spread (z : Fin 512 → EReal) : EReal := mean (fun k => cent z k * cent z k) + Ideal.ofBits .f32 0x3727C5AC#32
def unit (z : Fin 512 → EReal) (k : Fin 512) : EReal := cent z k * Ideal.rsqrt (spread z)

/-- The half of a chunk a position lies in, and whether a position sees another one. -/
def half (i : Fin 128) : BitVec 32 := BitVec.ofNat 32 (i.val / 64)
def sees (i j : Fin 128) : BitVec 1 := IntOp.cmpi .sge (half i) (half j)

/-- Position `i` of chunk `a`, column `d` of group `q`, and position `y` of chunk `a` of a step. -/
def at_ (a : Fin 32) (i : Fin 128) : Fin 4096 := ⟨a.val * 128 + i.val, by omega⟩
def col (q : Fin 4) (d : Fin 128) : Fin 512 := ⟨q.val * 128 + d.val, by omega⟩
def spot (a : Fin 4) (y : Fin 128) : Fin 512 := ⟨a.val * 128 + y.val, by omega⟩

theorem at_div (a : Fin 32) (i : Fin 128) : (at_ a i).val / 128 = a.val := by show (a.val * 128 + i.val) / 128 = a.val; omega
theorem at_mod (a : Fin 32) (i : Fin 128) : (at_ a i).val % 128 = i.val := by show (a.val * 128 + i.val) % 128 = i.val; omega
theorem col_div (q : Fin 4) (d : Fin 128) : (col q d).val / 128 = q.val := by show (q.val * 128 + d.val) / 128 = q.val; omega
theorem col_mod (q : Fin 4) (d : Fin 128) : (col q d).val % 128 = d.val := by show (q.val * 128 + d.val) % 128 = d.val; omega

section Read
variable (P : FVec Ideal S4096x7168 .f32) (g b : FVec Ideal S512 .f32) (W : FVec Ideal S4x128x128 .f32) (s : FVec Ideal S4x128 .f32)

/-- The gate's halves of the projection's columns, and a row of the second half after the GELU. -/
def colU (l : Fin 512) : Fin 7168 := ⟨1536 + l.val, by omega⟩
def colV (l : Fin 512) : Fin 7168 := ⟨2048 + l.val, by omega⟩
def rowV (n : Fin 4096) (k : Fin 512) : EReal := gelu (P (ix2 n (colV k)))

theorem read_gelu (n : Fin 4096) (j : Fin 1024) : val_main_v8 (F := Ideal) P (ix2 n j) = gelu (P (ix2 n ⟨1536 + j.val, by omega⟩)) := by
  refine Eq.trans ?_ (gelu_eq _)
  pointwise [val_main_v8, val_main_v7, val_main_v6, val_main_v5, val_main_v4, val_main_v3, val_main_v2, val_main_v1, val_main_v0, val_main_cst, val_main_cst_0]

theorem read_u (n : Fin 4096) (l : Fin 512) : val_main_v9 (F := Ideal) P (ix2 n l) = gelu (P (ix2 n (colU l))) := by
  pointwise [val_main_v9]
  exact read_gelu P n _

theorem read_v (n : Fin 4096) (l : Fin 512) : val_main_v10 (F := Ideal) P (ix2 n l) = rowV P n l := by
  pointwise [val_main_v10]
  refine (read_gelu P n _).trans (congrArg gelu (congrArg P (congrArg (ix2 n) (Fin.ext ?_))))
  show 1536 + (512 + l.val) = 2048 + l.val
  omega

theorem read_cent (n : Fin 4096) (l : Fin 512) : val_main_v16 (F := Ideal) P (ix2 n l) = cent (rowV P n) l := by
  have e := read_v P n
  generalize hv : val_main_v10 (F := Ideal) P = v at e ⊢
  unfold cent mean
  simp only [← e]
  pointwise [val_main_v16, val_main_v15, val_main_v14, val_main_v13, val_main_v12, val_main_v11, val_main_cst_1, val_main_cst_2, hv]

theorem read_spread (n : Fin 4096) : val_main_v23 (F := Ideal) P (ix2 n 0) = spread (rowV P n) := by
  have e := read_cent P n
  generalize hv : val_main_v16 (F := Ideal) P = v at e
  unfold spread mean
  simp only [← e]
  pointwise [val_main_v23, val_main_v22, val_main_v21, val_main_v20, val_main_v19, val_main_v18, val_main_v17, val_main_cst_3, val_main_cst_4, val_main_cst_5, hv]

theorem read_unit (n : Fin 4096) (l : Fin 512) : val_main_v26 (F := Ideal) P (ix2 n l) = unit (rowV P n) l := by
  unfold unit
  rw [← read_cent, ← read_spread]
  pointwise [val_main_v26, val_main_v25, val_main_v24]

theorem read_norm (n : Fin 4096) (l : Fin 512) : val_main_v32 (F := Ideal) P g b (ix2 n l) = unit (rowV P n) l * g (ix1 l) + b (ix1 l) := by
  rw [← read_unit]
  pointwise [val_main_v32, val_main_v31, val_main_v30, val_main_v29, val_main_v28, val_main_v27]

theorem read_half (i : Fin 128) : val_main_v36 (F := Ideal) (ix2 i 0) = half i := by
  pointwise [val_main_v36, val_main_call0_v11, val_main_call0_v13, val_main_call0_v2, val_main_call0_v12, val_main_call0_v10, val_main_call0_v9, val_main_call0_v8,
    val_main_call0_v7, val_main_call0_v6, val_main_call0_v5, val_main_call0_v4, val_main_call0_v3, val_main_call0_v1, val_main_call0_v0, val_main_call0_c, val_main_call0_c_0,
    val_main_c, val_main_v35, val_main_v34, id]
  revert i
  decide +kernel

theorem read_half' (i : Fin 128) : val_main_v38 (F := Ideal) (ix2 0 i) = half i := by
  pointwise [val_main_v38, val_main_call1_v11, val_main_call1_v13, val_main_call1_v2, val_main_call1_v12, val_main_call1_v10, val_main_call1_v9, val_main_call1_v8,
    val_main_call1_v7, val_main_call1_v6, val_main_call1_v5, val_main_call1_v4, val_main_call1_v3, val_main_call1_v1, val_main_call1_v0, val_main_call1_c, val_main_call1_c_0,
    val_main_c_6, val_main_v37, val_main_v34, id]
  revert i
  decide +kernel

theorem read_sees (i j : Fin 128) : val_main_v41 (F := Ideal) (ix2 i j) = sees i j := by
  unfold sees
  rw [← read_half, ← read_half']
  pointwise [val_main_v41, val_main_v40, val_main_v39]

/-- The weight by which position `i` of a chunk takes position `j` in. -/
def mix (q : Fin 4) (i j : Fin 128) : EReal := Scalar.select (sees i j) (W (ix3 q i j)) 0

theorem read_mix (a : Fin 32) (i : Fin 128) (q : Fin 4) (d : Fin 128) : val_main_v50 (F := Ideal) P g b W s (ix2 (at_ a i) (col q d))
    = ∑ x, mix W q i x * val_main_v32 (F := Ideal) P g b (ix2 (at_ a x) (col q d)) + s (ix2 q i) := by
  have e := read_sees
  generalize hm : val_main_v41 (F := Ideal) = M at e
  unfold mix
  simp only [← e]
  pointwise [val_main_v50, val_main_v49, val_main_v48, val_main_v47, val_main_v46, val_main_v45, val_main_v44, val_main_v43, val_main_v42, val_main_call2_v2,
    val_main_call2_v1, val_main_call2_v0, val_main_cst_7, val_main_v33, hm, id, at_div, at_mod, col_div, col_mod, mul_comm]
  rfl

theorem read_out (n : Fin 4096) (l : Fin 512) : val_main_v52 (F := Ideal) P g b W s (ix2 n l) = gelu (P (ix2 n (colU l))) * val_main_v50 (F := Ideal) P g b W s (ix2 n l) := by
  rw [← read_u]
  pointwise [val_main_v52, val_main_v51]

end Read

section Tile

/-- The mask of the kernel is whether a position sees another. -/
abbrev MK : IVec S128x128 1 := k0_pay6 k0_pay2 k0_pay3 k0_pay4 k0_pay5

theorem half_row (i j : Fin 128) : k0_pay2 (ix2 i j) = half i := by
  pointwise [k0_pay2]
  revert i
  decide +kernel
theorem half_col (j : Fin 128) (i : Fin 128) :
    Scalar.select (IntOp.andi (k0_pay4 (ix2 i j)) (k0_pay5 (ix2 i j))) (IntOp.subi (k0_pay3 (ix2 i j)) 1#32) (k0_pay3 (ix2 i j)) = half j := by
  pointwise [k0_pay3, k0_pay4, k0_pay5]
  revert j
  decide +kernel

theorem mask_at (i j : Fin 128) : MK (ix2 i j) = sees i j := by
  unfold sees
  rw [← half_row i j, ← half_col j i]
  unfold MK k0_pay6
  rfl

theorem pick_at (w : FVec Ideal S1x128x128 .f32) (x y : Fin 128) : k0_pay13 (F := Ideal) MK w (ix2 x y) = Scalar.select (sees x y) (w (ix3 0 x y)) 0 := by
  have e := mask_at x y
  generalize MK = M at e ⊢
  rw [← e]
  pointwise [k0_pay13]

/-- The load of group `q` of the weights, and of the biases. -/
theorem load_w {w : FVec Ideal S4x128x128 .f32} {off : Fin 3 → ℕ} (h : ∀ a, off a + ![1, 128, 128] a ≤ S4x128x128.size a) (q : Fin 4) (h0 : off 0 = q.val) (h1 : off 1 = 0) (h2 : off 2 = 0)
    (i j : Fin 128) : (View.ld (Val := Elt Ideal) (e' := .f32) w (Rect.unit off ![1, 128, 128] h) : FVec Ideal S1x128x128 .f32) (ix3 0 i j) = w (ix3 q i j) := by
  refine congrArg w ?_
  funext a
  refine Fin.ext ?_
  rcases (by decide : ∀ a : Fin 3, a = 0 ∨ a = 1 ∨ a = 2) a with rfl | rfl | rfl <;> simp [ix3, h0, h1, h2]
theorem load_s {w : FVec Ideal S4x128x1 .f32} {off : Fin 3 → ℕ} (h : ∀ a, off a + ![1, 128, 1] a ≤ S4x128x1.size a) (q : Fin 4) (h0 : off 0 = q.val) (h1 : off 1 = 0) (h2 : off 2 = 0)
    (i : Fin 128) : (View.ld (Val := Elt Ideal) (e' := .f32) w (Rect.unit off ![1, 128, 1] h) : FVec Ideal S1x128x1 .f32) (ix3 0 i 0) = w (ix3 q i 0) := by
  refine congrArg w ?_
  funext a
  refine Fin.ext ?_
  rcases (by decide : ∀ a : Fin 3, a = 0 ∨ a = 1 ∨ a = 2) a with rfl | rfl | rfl <;> simp [ix3, h0, h1, h2]

/-- A tile of the result: the mixed norm of the second half, times the first half. -/
def tileO {o p : ℕ} (hs : S512x512.Slices ![o, p] S128x128) (wg : FVec Ideal S128x128 .bf16) (vn : FVec Ideal S512x512 .bf16) (u : FVec Ideal S512x512 .f32) (sb : FVec Ideal S1x128x1 .f32) : FVec Ideal S128x128 .bf16 :=
  truncf .bf16 (mulf (extractStridedSlice S128x128 ![o, p] u hs)
      (addf (matmul dot_S128x128_S128x128_S128x128_1_0_0_1_n_n none wg (extractStridedSlice S128x128 ![o, p] vn hs) (constant S128x128 .f32 0x00000000#32))
        (broadcastTo S128x128 (shapeCast S128x1 sb shapeCasts_S1x128x1_S128x1) broadcasts_S128x1_S128x128))) bitsLt_bf16_f32

theorem tileO_at {o p : ℕ} (hs : S512x512.Slices ![o, p] S128x128) (wg : FVec Ideal S128x128 .bf16) (vn : FVec Ideal S512x512 .bf16) (u : FVec Ideal S512x512 .f32) (sb : FVec Ideal S1x128x1 .f32)
    (x d : Fin 128) (l : Fin 512) (f : Fin 128 → Fin 512) (hl : l.val = p + d.val) (hf : ∀ y, (f y).val = o + y.val) :
    tileO hs wg vn u sb (ix2 x d) = u (ix2 (f x) l) * (∑ y, wg (ix2 x y) * vn (ix2 (f y) l) + sb (ix3 0 x 0)) := by
  have e : ∀ y (h : o + y.val < 512) (h' : p + d.val < 512), (ix2 (⟨o + y.val, h⟩ : Fin 512) (⟨p + d.val, h'⟩ : Fin 512)) = ix2 (f y) l := fun y h h' => by
    rw [Fin.ext (hf y) (a := f y) (b := ⟨o + y.val, h⟩), Fin.ext hl (a := l) (b := ⟨p + d.val, h'⟩)]
  pointwise [tileO]
  simp only [e]

variable (g b : FVec Ideal S1x512 .f32) (u v : FVec Ideal S512x512 .f32)

/-- The rows of the second half after the GELU, and their norm. -/
def zrow (r : Fin 512) (k : Fin 512) : EReal := gelu (v (ix2 r k))

theorem gelu_at (r k : Fin 512) : k0_pay7 (F := Ideal) u (ix2 r k) = gelu (u (ix2 r k)) := by
  unfold gelu
  pointwise [k0_pay7]
  rfl
theorem cent_at (r k : Fin 512) : k0_pay10 (F := Ideal) v (ix2 r k) = cent (zrow v r) k := by
  have e : ∀ r k, k0_pay7 (F := Ideal) v (ix2 r k) = zrow v r k := gelu_at v
  unfold cent mean
  simp only [← e]
  pointwise [k0_pay10, k0_pay7]
theorem spread_at (r : Fin 512) : k0_pay11 (F := Ideal) v (ix2 r 0) = spread (zrow v r) := by
  have e := cent_at v
  unfold spread mean k0_pay11
  simp only [← e]
  generalize k0_pay10 (F := Ideal) v = z
  pointwise []
theorem norm_at (r k : Fin 512) : k0_pay12 (F := Ideal) (k0_pay8 g) (k0_pay9 b) (k0_pay10 v) (k0_pay11 v) (ix2 r k) = unit (zrow v r) k * g (ix2 0 k) + b (ix2 0 k) := by
  unfold unit
  rw [← cent_at, ← spread_at]
  pointwise [k0_pay12, k0_pay8, k0_pay9]

end Tile

variable (m : (ℓ : Loc nD τ sig) → Buf (Elt Ideal) ℓ)

theorem idx : ∀ t : Fin cfg0.N, win0_0.index t = ![t.val, 3] ∧ win0_1.index t = ![t.val, 4] ∧ win0_2.index t = ![0, 0] ∧ win0_3.index t = ![0, 0] ∧ win0_4.index t = ![0, 0, 0]
    ∧ win0_5.index t = ![0, 0, 0] ∧ win0_6.index t = ![t.val, 0] :=
  (by decide +kernel : ∀ t : Fin grid0.N, _)

/-- Row `r` of step `t`, and its chunk `a`. -/
abbrev row (t : Fin cfg0.N) (r : Fin 512) : Fin 4096 := ⟨512 * t.val + r.val, by have := t.isLt; have h : cfg0.N = 8 := N_0; omega⟩
abbrev chunk (t : Fin cfg0.N) (a : Fin 4) : Fin 32 := ⟨4 * t.val + a.val, by have := t.isLt; have h : cfg0.N = 8 := N_0; omega⟩
abbrev proj (c : Dev nD) : FVec Ideal S4096x7168 .f32 := m ((c : Thread nD τ).loc main_arg0)
abbrev gain (c : Dev nD) : FVec Ideal S512 .f32 := m ((c : Thread nD τ).loc main_arg1)
abbrev bias (c : Dev nD) : FVec Ideal S512 .f32 := m ((c : Thread nD τ).loc main_arg2)
abbrev wsp (c : Dev nD) : FVec Ideal S4x128x128 .f32 := m ((c : Thread nD τ).loc main_arg3)
abbrev bsp (c : Dev nD) : FVec Ideal S4x128 .f32 := m ((c : Thread nD τ).loc main_arg4)

theorem row_spot (t : Fin cfg0.N) (a : Fin 4) (y : Fin 128) : row t (spot a y) = at_ (chunk t a) y :=
  Fin.ext (by show 512 * t.val + (a.val * 128 + y.val) = (4 * t.val + a.val) * 128 + y.val; omega)

section Blocks
variable (c : Dev nD) (t : Fin cfg0.N)

theorem block_u (r l : Fin 512) : (iblk m c 0 t : FVec Ideal S512x512 .f32) (ix2 r l) = proj m c (ix2 (row t r) (colU l)) := by
  blk_ext! [iblk, V, idx t, colU]
theorem block_v (r l : Fin 512) : (iblk m c 1 t : FVec Ideal S512x512 .f32) (ix2 r l) = proj m c (ix2 (row t r) (colV l)) := by
  blk_ext! [iblk, V, idx t, colV]
theorem block_g (l : Fin 512) : (iblk m c 2 t : FVec Ideal S1x512 .f32) (ix2 0 l) = gain m c (ix1 l) := by
  blk_ext! [iblk, V, idx t]
theorem block_b (l : Fin 512) : (iblk m c 3 t : FVec Ideal S1x512 .f32) (ix2 0 l) = bias m c (ix1 l) := by
  blk_ext! [iblk, V, idx t]
theorem block_w (q : Fin 4) (i j : Fin 128) : (iblk m c 4 t : FVec Ideal S4x128x128 .f32) (ix3 q i j) = wsp m c (ix3 q i j) := by
  blk_ext! [iblk, V, idx t]
theorem block_s (q : Fin 4) (i : Fin 128) : (iblk m c 5 t : FVec Ideal S4x128x1 .f32) (ix3 q i 0) = bsp m c (ix2 q i) := by
  blk_ext! [iblk, V, idx t]

/-- The step's norm of the second half. -/
abbrev VN : FVec Ideal S512x512 .bf16 := k0_pay12 (k0_pay8 (iblk m c 2 t)) (k0_pay9 (iblk m c 3 t)) (k0_pay10 (iblk m c 1 t)) (k0_pay11 (iblk m c 1 t))

theorem zrow_eq (r : Fin 512) : zrow (iblk m c 1 t) r = rowV (proj m c) (row t r) :=
  funext fun k => congrArg gelu (block_v m c t r k)
theorem norm_eq (r l : Fin 512) : VN m c t (ix2 r l) = val_main_v32 (F := Ideal) (proj m c) (gain m c) (bias m c) (ix2 (row t r) l) := by
  rw [read_norm]
  refine (norm_at _ _ _ r l).trans ?_
  rw [zrow_eq, block_g, block_b]

/-- Every index of a step's block lies in one tile; there the tile's value is that of the forward lines. -/
theorem out_tile {o p gi : ℕ} (hs : S512x512.Slices ![o, p] S128x128) (i4 : ∀ a, ![gi, 0, 0] a + ![1, 128, 128] a ≤ S4x128x128.size a) (i5 : ∀ a, ![gi, 0, 0] a + ![1, 128, 1] a ≤ S4x128x1.size a)
    (ho : o < 512 ∧ o % 128 = 0 ∧ gi < 4 ∧ p = gi * 128) (x d : Fin 128) (r l : Fin 512) (hr : r.val = o + x.val) (hl : l.val = p + d.val) :
    tileO hs (k0_pay13 MK (View.ld (iblk m c 4 t) (Rect.unit ![gi, 0, 0] ![1, 128, 128] i4))) (VN m c t) (k0_pay7 (iblk m c 0 t)) (View.ld (iblk m c 5 t) (Rect.unit ![gi, 0, 0] ![1, 128, 1] i5)) (ix2 x d)
      = val_main_v52 (F := Ideal) (proj m c) (gain m c) (bias m c) (wsp m c) (bsp m c) (ix2 (row t r) l) := by
  obtain ⟨h1, h2, h3, h4⟩ := ho
  have hf : ∀ y : Fin 128, (spot ⟨o / 128, by omega⟩ y).val = o + y.val := fun y => by show o / 128 * 128 + y.val = o + y.val; omega
  have er : r = spot ⟨o / 128, by omega⟩ x := Fin.ext (hr.trans (hf x).symm)
  have el : l = col ⟨gi, h3⟩ d := Fin.ext (by show l.val = gi * 128 + d.val; omega)
  refine (tileO_at hs _ _ _ _ x d l _ hl hf).trans ?_
  rw [← er, gelu_at, block_u, read_out, load_s i5 ⟨gi, h3⟩ rfl rfl rfl, block_s]
  refine congrArg (fun z => gelu (proj m c (ix2 (row t r) (colU l))) * z) ?_
  rw [er, el, row_spot, read_mix]
  refine congrArg (· + bsp m c (ix2 ⟨gi, h3⟩ x)) (Finset.sum_congr (M := EReal) rfl fun y _ => ?_)
  rw [pick_at, norm_eq, row_spot, load_w i4 ⟨gi, h3⟩ rfl rfl rfl, block_w]
  rfl

end Blocks

set_option maxHeartbeats 1000000 in
theorem out_at (c : Dev nD) (t : Fin cfg0.N) (r l : Fin 512) : out0_6 (iblk m c 0 t) (iblk m c 1 t) (iblk m c 2 t) (iblk m c 3 t) (iblk m c 4 t) (iblk m c 5 t) (ix2 r l)
    = val_main_v52 (F := Ideal) (proj m c) (gain m c) (bias m c) (wsp m c) (bsp m c) (ix2 (row t r) l) := by
  unfold out0_6 k0_pay47 k0_pay46 k0_pay45 k0_pay44 k0_pay43 k0_pay42 k0_pay41 k0_pay40 k0_pay39
  frame_out
  canon_tiles x h
  all_goals (idx_vars x; exact out_tile m c t (by decide) _ _ (by decide) _ _ _ _ (by first | assumption | (refine Eq.trans ?_ (Nat.zero_add _).symm; assumption)) (by first | assumption | (refine Eq.trans ?_ (Nat.zero_add _).symm; assumption)))

theorem final (c : Dev nD) : (dats m 0 c).arrAt 6 (cfgs 0).N = val_main_v52 (F := Ideal) (proj m c) (gain m c) (bias m c) (wsp m c) (bsp m c) := by
  refine (dats m 0 c).arrAt_eq_of_covers 6 _ (by decide +kernel) fun t hf y => ?_
  blk_simp
  rw [after0_6]
  idx_vars y
  refine (out_at m c t y0 y1).trans ?_
  blk_ext [idx t]

end Cert.Kernel16Ideal.SguFwd

namespace Cert.SguFwd

open Idealize.ShloMosaic Idealize.SL.Sem

theorem frame_reference : quiescent_Reference16Ideal := fun m g _ =>
  (θ_run Reference16Ideal.defs _ _).mono (fun r h => ⟨fun c => (h c).2, sem_eq_zero_of_no_sems (by decide) r.2⟩)
    (Reference16Ideal.Value.run (F := Ideal) m g)

theorem algebraic : algebraic_Kernel16Ideal_Reference16Ideal := by
  pair_intro
  · run_from Kernel16Ideal.Value.run_blocks m g
  · run_from Reference16Ideal.Value.run m' g'
    refine (Reference16Ideal.Read.val_main_v52_eq _ _).trans ?_
    rw [(hagree c).1, (hagree c).2.1, (hagree c).2.2.1, (hagree c).2.2.2.1, (hagree c).2.2.2.2]
    exact (Kernel16Ideal.SguFwd.final m c).symm

end Cert.SguFwd

end
-- ==== Proof.ConvFwd.lean ====
/-  The gated short convolution (`_conv_fwd`): what the kernel leaves is what the reference computes. -/
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pipeline.ValueKit
public import Idealize.ShloMosaic.Lib.Claim

@[expose] public section

set_option maxRecDepth 16384

noncomputable section

namespace Cert.Kernel17Ideal.ConvFwd

open Cert.Kernel17Ideal Cert.Kernel17Ideal.Gen Cert.Reference17Ideal.Read Idealize.ShloMosaic Idealize.ShloMosaic.TcCoe Idealize.SL.Sem
open Idealize.ShloMosaic.Pipeline (Dat)

variable (P : FVec Ideal S4096x7168 .f32) (W : FVec Ideal S3x512 .f32)

/-- The convolution's input `k` rows above row `R`: zero above the first row. -/
def above (k R : ℕ) (L : Fin 512) : EReal :=
  if h : k ≤ R ∧ R - k < 4096 then P (ix2 ⟨R - k, h.2⟩ ⟨3072 + L.val, by omega⟩) * P (ix2 ⟨R - k, h.2⟩ ⟨3584 + L.val, by omega⟩) else 0

section Tile
variable {P} {base : ℕ} {L : Fin 512} {l : Fin 128} (i : grid0.Coords) {a b : FVec Ideal S1024x128 .f32} {a8 b8 : FVec Ideal S8x128 .f32} {w1 w2 : FVec Ideal S1x128 .f32}

theorem lt_one : ∀ r : Fin 8, IntOp.cmpi CmpIPredicate.slt (BitVec.ofNat 32 r.val) 1#32 = if r.val < 1 then 1#1 else 0#1 := by decide
theorem lt_two : ∀ r : Fin 8, IntOp.cmpi CmpIPredicate.slt (BitVec.ofNat 32 r.val) 2#32 = if r.val < 2 then 1#1 else 0#1 := by decide

theorem above_eq {k R : ℕ} (h : k ≤ R) : above P k R L = above P 0 (R - k) L := by
  unfold above
  by_cases hR : R - k < 4096
  · rw [dif_pos ⟨h, hR⟩, dif_pos ⟨Nat.zero_le _, hR⟩]; rfl
  · rw [dif_neg (fun e => hR e.2), dif_neg (fun e => hR e.2)]

theorem above_zero {k R : ℕ} (h : R < k) : above P k R L = 0 := dif_neg (fun e => by omega)

theorem down1_at (hb : base = 0 ∨ 8 ≤ base) (hw : Scalar.cmpi CmpIPredicate.eq (BitVec.ofNat 32 (i 1).val) 0#32 = if base = 0 then 1#1 else 0#1)
    (hy : ∀ r : Fin 1024, a (ix2 r l) * b (ix2 r l) = above P 0 (base + r.val) L)
    (h8 : base ≠ 0 → ∀ r : Fin 8, a8 (ix2 r l) * b8 (ix2 r l) = above P 0 (base - 8 + r.val) L) (r : Fin 1024) :
    k0_pay4 (F := Ideal) i a b a8 b8 w2 w1 (ix2 r l) = w2 (ix2 0 l) * above P 0 (base + r.val) L + w1 (ix2 0 l) * above P 1 (base + r.val) L := by
  pointwise [k0_pay4, k0_pay3, k0_pay2]
  rw [hw]
  refine Ideal.add_congr (Ideal.mul_congr rfl (hy r)) (Ideal.mul_congr rfl ?_)
  split
  · next h =>
    rw [lt_one ⟨r.val, h⟩]
    by_cases hr : r.val < 1
    · by_cases h0 : base = 0
      · simp only [Scalar.select, if_pos hr, if_pos h0]
        exact (above_zero (by omega)).symm
      · simp only [Scalar.select, if_pos hr, if_neg h0]
        refine (h8 h0 _).trans ?_
        rw [above_eq (k := 1) (by omega)]
        exact congrArg (fun n => above P 0 n L) (by simp only []; omega)
    · simp only [Scalar.select, if_neg hr]
      refine (hy _).trans ?_
      rw [above_eq (k := 1) (by omega)]
      exact congrArg (fun n => above P 0 n L) (by simp only []; omega)
  · refine (hy _).trans ?_
    rw [above_eq (k := 1) (by omega)]
    exact congrArg (fun n => above P 0 n L) (by simp only []; omega)

theorem down2_at (hb : base = 0 ∨ 8 ≤ base) (hw : Scalar.cmpi CmpIPredicate.eq (BitVec.ofNat 32 (i 1).val) 0#32 = if base = 0 then 1#1 else 0#1)
    (hy : ∀ r : Fin 1024, a (ix2 r l) * b (ix2 r l) = above P 0 (base + r.val) L)
    (h8 : base ≠ 0 → ∀ r : Fin 8, a8 (ix2 r l) * b8 (ix2 r l) = above P 0 (base - 8 + r.val) L) (r : Fin 1024) :
    k0_pay5 (F := Ideal) i a b a8 b8 (ix2 r l) =  above P 2 (base + r.val) L := by
  pointwise [k0_pay5, k0_pay3, k0_pay2]
  rw [hw]
  split
  · next h =>
    rw [lt_two ⟨r.val, h⟩]
    by_cases hr : r.val < 2
    · by_cases h0 : base = 0
      · simp only [Scalar.select, if_pos hr, if_pos h0]
        exact (above_zero (by omega)).symm
      · simp only [Scalar.select, if_pos hr, if_neg h0]
        refine (h8 h0 _).trans ?_
        rw [above_eq (k := 2) (by omega)]
        exact congrArg (fun n => above P 0 n L) (by simp only []; omega)
    · simp only [Scalar.select, if_neg hr]
      refine (hy _).trans ?_
      rw [above_eq (k := 2) (by omega)]
      exact congrArg (fun n => above P 0 n L) (by simp only []; omega)
  · refine (hy _).trans ?_
    rw [above_eq (k := 2) (by omega)]
    exact congrArg (fun n => above P 0 n L) (by simp only []; omega)

theorem out_at {e f g : FVec Ideal S1024x128 .f32} (r : Fin 1024) : k0_pay1 (F := Ideal) e f g a (ix2 r l) = a (ix2 r l) * (e (ix2 r l) + g (ix2 r l) * f (ix2 r l)) := by
  pointwise [k0_pay1]

theorem tap_at (r : Fin 1024) : k0_pay6 (F := Ideal) w1 (ix2 r l) = w1 (ix2 0 l) := by
  pointwise [k0_pay6]

end Tile

theorem ref_y (R : Fin 4096) (L : Fin 512) : val_main_v3 (F := Ideal) P (ix2 R L) = above P 0 R.val L := by
  unfold above
  rw [dif_pos ⟨Nat.zero_le _, R.isLt⟩]
  pointwise [val_main_v3, val_main_v2, val_main_v1]

theorem ref_y2 (R : Fin 4096) (L : Fin 512) : val_main_v9 (F := Ideal) P (ix2 R L) = above P 2 R.val L := by
  unfold val_main_v9 val_main_v5
  have e := ref_y P
  generalize val_main_v3 (F := Ideal) P = y at e ⊢
  pointwise [val_main_v4, val_main_cst]
  split
  · exact (above_zero (by omega)).symm
  · exact (e _ L).trans (by rw [above_eq (k := 2) (by omega)])

theorem ref_y1 (R : Fin 4096) (L : Fin 512) : val_main_v15 (F := Ideal) P (ix2 R L) = above P 1 R.val L := by
  unfold val_main_v15 val_main_v5
  have e := ref_y P
  generalize val_main_v3 (F := Ideal) P = y at e ⊢
  pointwise [val_main_v4, val_main_cst]
  split
  · exact (above_zero (by omega)).symm
  · exact (e _ L).trans (by rw [above_eq (k := 1) (by omega)]; exact congrArg (fun n => above P 0 n L) (by simp only []; omega))

theorem ref_y0 (R : Fin 4096) (L : Fin 512) : val_main_v22 (F := Ideal) P (ix2 R L) = above P 0 R.val L := by
  unfold val_main_v22 val_main_v5
  have e := ref_y P
  generalize val_main_v3 (F := Ideal) P = y at e ⊢
  pointwise [val_main_v4, val_main_cst]
  exact e _ L

theorem ref_out (R : Fin 4096) (L : Fin 512) : val_main_v27 (F := Ideal) P W (ix2 R L) =
    P (ix2 R ⟨2560 + L.val, by omega⟩) * ((W (ix2 0 L) * above P 2 R.val L + W (ix2 1 L) * above P 1 R.val L) + W (ix2 2 L) * above P 0 R.val L) := by
  rw [← ref_y0, ← ref_y1, ← ref_y2]
  unfold val_main_v27 val_main_v26 val_main_v25 val_main_v24 val_main_v18 val_main_v17 val_main_v11
  generalize val_main_v9 (F := Ideal) P = a
  generalize val_main_v15 (F := Ideal) P = b
  generalize val_main_v22 (F := Ideal) P = d
  pointwise [val_main_v0, val_main_v6, val_main_v7, val_main_v8, val_main_v10, val_main_v12, val_main_v13, val_main_v14, val_main_v16, val_main_v19, val_main_v20, val_main_v21, val_main_v23]

variable (m : (ℓ : Loc nD τ sig) → Buf (Elt Ideal) ℓ)

theorem idx : ∀ t : Fin cfg0.N, win0_0.index t = ![t.val % 4, 20 + t.val / 4] ∧ win0_1.index t = ![t.val % 4, 24 + t.val / 4] ∧ win0_2.index t = ![t.val % 4, 28 + t.val / 4]
    ∧ win0_3.index t = ![128 * (t.val % 4) - 1, 24 + t.val / 4] ∧ win0_4.index t = ![128 * (t.val % 4) - 1, 28 + t.val / 4] ∧ win0_5.index t = ![0, t.val / 4]
    ∧ win0_6.index t = ![t.val % 4, t.val / 4] :=
  (by decide +kernel : ∀ t : Fin grid0.N, _)

theorem first_tile : ∀ t : Fin cfg0.N, Scalar.cmpi CmpIPredicate.eq (BitVec.ofNat 32 (grid0.coords t 1).val) 0#32 = if 1024 * (t.val % 4) = 0 then 1#1 else 0#1 :=
  (by decide +kernel : ∀ t : Fin grid0.N, _)

/-- Row `r` of tile `t`, and its column `l`. -/
abbrev row (t : Fin cfg0.N) (r : Fin 1024) : Fin 4096 := ⟨1024 * (t.val % 4) + r.val, by omega⟩
abbrev lane (t : Fin cfg0.N) (l : Fin 128) : Fin 512 := ⟨128 * (t.val / 4) + l.val, by have := t.isLt; have h : cfg0.N = 16 := N_0; omega⟩
abbrev arr (c : Dev nD) : FVec Ideal S4096x7168 .f32 := m ((c : Thread nD τ).loc main_arg0)
abbrev taps (c : Dev nD) : FVec Ideal S3x512 .f32 := m ((c : Thread nD τ).loc main_arg1)

section Point
variable (c : Dev nD) (t : Fin cfg0.N) (l : Fin 128)

theorem block_cb (r : Fin 1024) : (iblk m c 0 t : FVec Ideal S1024x128 .f32) (ix2 r l) = arr m c (ix2 (row t r) ⟨2560 + (lane t l).val, by omega⟩) := by
  blk_ext! [iblk, V, idx t]
theorem block_cc (r : Fin 1024) : (iblk m c 1 t : FVec Ideal S1024x128 .f32) (ix2 r l) = arr m c (ix2 (row t r) ⟨3072 + (lane t l).val, by omega⟩) := by
  blk_ext! [iblk, V, idx t]
theorem block_cx (r : Fin 1024) : (iblk m c 2 t : FVec Ideal S1024x128 .f32) (ix2 r l) = arr m c (ix2 (row t r) ⟨3584 + (lane t l).val, by omega⟩) := by
  blk_ext! [iblk, V, idx t]
theorem block_cc_above (h : 1024 * (t.val % 4) ≠ 0) (r : Fin 8) : (iblk m c 3 t : FVec Ideal S8x128 .f32) (ix2 r l) = arr m c (ix2 ⟨1024 * (t.val % 4) - 8 + r.val, by omega⟩ ⟨3072 + (lane t l).val, by omega⟩) := by
  blk_ext! [iblk, V, idx t]
theorem block_cx_above (h : 1024 * (t.val % 4) ≠ 0) (r : Fin 8) : (iblk m c 4 t : FVec Ideal S8x128 .f32) (ix2 r l) = arr m c (ix2 ⟨1024 * (t.val % 4) - 8 + r.val, by omega⟩ ⟨3584 + (lane t l).val, by omega⟩) := by
  blk_ext! [iblk, V, idx t]
theorem block_w (k : Fin 3) : (iblk m c 5 t : FVec Ideal S3x128 .f32) (ix2 k l) = taps m c (ix2 k (lane t l)) := by
  blk_ext! [iblk, V, idx t]

theorem mul_tile {a b : FVec Ideal S1024x128 .f32} (r : Fin 1024) (ha : a (ix2 r l) = arr m c (ix2 (row t r) ⟨3072 + (lane t l).val, by omega⟩))
    (hb : b (ix2 r l) = arr m c (ix2 (row t r) ⟨3584 + (lane t l).val, by omega⟩)) : a (ix2 r l) * b (ix2 r l) = above (arr m c) 0 (1024 * (t.val % 4) + r.val) (lane t l) := by
  unfold above
  rw [dif_pos ⟨Nat.zero_le _, (row t r).isLt⟩]
  exact Ideal.mul_congr ha hb

theorem mul_above {a b : FVec Ideal S8x128 .f32} (h : 1024 * (t.val % 4) ≠ 0) (r : Fin 8)
    (ha : a (ix2 r l) = arr m c (ix2 ⟨1024 * (t.val % 4) - 8 + r.val, by omega⟩ ⟨3072 + (lane t l).val, by omega⟩))
    (hb : b (ix2 r l) = arr m c (ix2 ⟨1024 * (t.val % 4) - 8 + r.val, by omega⟩ ⟨3584 + (lane t l).val, by omega⟩)) :
    a (ix2 r l) * b (ix2 r l) = above (arr m c) 0 (1024 * (t.val % 4) - 8 + r.val) (lane t l) := by
  unfold above
  rw [dif_pos ⟨Nat.zero_le _, by omega⟩]
  exact Ideal.mul_congr ha hb

theorem tile_y1 {w1 w2 : FVec Ideal S1x128 .f32} (r : Fin 1024) : k0_pay4 (F := Ideal) (grid0.coords t) (iblk m c 1 t) (iblk m c 2 t) (iblk m c 3 t) (iblk m c 4 t) w2 w1 (ix2 r l)
    = w2 (ix2 0 l) * above (arr m c) 0 (1024 * (t.val % 4) + r.val) (lane t l) + w1 (ix2 0 l) * above (arr m c) 1 (1024 * (t.val % 4) + r.val) (lane t l) :=
  down1_at _ (by omega) (first_tile t) (fun r => mul_tile m c t l r (block_cc m c t l r) (block_cx m c t l r)) (fun h r => mul_above m c t l h r (block_cc_above m c t l h r) (block_cx_above m c t l h r)) r

theorem tile_y2 (r : Fin 1024) : k0_pay5 (F := Ideal) (grid0.coords t) (iblk m c 1 t) (iblk m c 2 t) (iblk m c 3 t) (iblk m c 4 t) (ix2 r l)
    = above (arr m c) 2 (1024 * (t.val % 4) + r.val) (lane t l) :=
  down2_at _ (by omega) (first_tile t) (fun r => mul_tile m c t l r (block_cc m c t l r) (block_cx m c t l r)) (fun h r => mul_above m c t l h r (block_cc_above m c t l h r) (block_cx_above m c t l h r)) r

/-- Tap `k` over the tile's columns, as the body loads it. -/
theorem load_w {w : FVec Ideal S3x128 .f32} {off : Fin 2 → ℕ} (h : ∀ a, off a + ![1, 128] a ≤ S3x128.size a) (k : Fin 3) (h0 : off 0 = k.val) (h1 : off 1 = 0) :
    (View.ld (Val := Elt Ideal) (e' := .f32) w (Rect.unit off ![1, 128] h) : FVec Ideal S1x128 .f32) (ix2 0 l) = w (ix2 k l) := by
  refine congrArg w ?_
  funext a
  refine Fin.ext ?_
  rcases (by decide : ∀ a : Fin 2, a = 0 ∨ a = 1) a with rfl | rfl <;> simp [ix2, h0, h1]

end Point

theorem final (c : Dev nD) : (dats m 0 c).arrAt 6 (cfgs 0).N = val_main_v27 (F := Ideal) (arr m c) (taps m c) := by
  refine (dats m 0 c).arrAt_eq_of_covers 6 _ (by decide +kernel) fun t hf y => ?_
  blk_simp
  rw [after0_6]; frame_out
  idx_vars y
  have w0 := (load_w y1 inb_S3x128_S1x128_0_0 0 rfl rfl).trans (block_w m c t y1 0)
  have w1 := (load_w y1 inb_S3x128_S1x128_1_0 1 rfl rfl).trans (block_w m c t y1 1)
  have w2 := (load_w y1 inb_S3x128_S1x128_2_0 2 rfl rfl).trans (block_w m c t y1 2)
  refine (out_at _).trans ?_
  refine Eq.trans ?_ ((ref_out _ _ (row t y0) (lane t y1)).symm.trans (by blk_ext [idx t]))
  refine Ideal.mul_congr (block_cb m c t y1 y0) ?_
  refine (Ideal.add_congr (tile_y1 m c t y1 y0) (Ideal.mul_congr ((tap_at y0).trans w0) (tile_y2 m c t y1 y0))).trans ?_
  rw [w1, w2, add_comm, ← add_assoc, add_right_comm]

end Cert.Kernel17Ideal.ConvFwd

namespace Cert.ConvFwd

open Idealize.ShloMosaic Idealize.SL.Sem

theorem frame_reference : quiescent_Reference17Ideal := fun m g _ =>
  (θ_run Reference17Ideal.defs _ _).mono (fun r h => ⟨fun c => (h c).2, sem_eq_zero_of_no_sems (by decide) r.2⟩)
    (Reference17Ideal.Value.run (F := Ideal) m g)

theorem algebraic : algebraic_Kernel17Ideal_Reference17Ideal := by
  pair_intro
  · run_from Kernel17Ideal.Value.run_blocks m g
  · run_from Reference17Ideal.Value.run m' g'
    exact (Reference17Ideal.Read.val_main_v27_eq _ _).trans (Kernel17Ideal.ConvFwd.final m c).symm

end Cert.ConvFwd

end
-- ==== Proof.MergeFwd.lean ====
/-  The gated sum of the three branches (`_merge_fwd`): what the kernel leaves is what the reference computes. -/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit
public import Idealize.ShloMosaic.Lib.Claim

@[expose] public section

set_option maxRecDepth 16384

noncomputable section

namespace Cert.Kernel15Ideal.MergeFwd

open Cert.Kernel15Ideal Cert.Kernel15Ideal.Gen Cert.Reference15Ideal.Read Idealize.ShloMosaic Idealize.ShloMosaic.TcCoe Idealize.SL.Sem
open Idealize.ShloMosaic.Pipeline (Dat)

/-- The sigmoid of a gate; and one branch's part of the sum, its gate by its product. -/
def gate (x : EReal) : EReal := Ideal.div 1 (1 + Ideal.exp (-x))
def part (g : EReal) (y w : Fin 512 → EReal) : EReal := gate g * ∑ k, y k * w k

section Ref
variable (Ya Yb Yc : FVec Ideal S4096x512 .bf16) (W : FVec Ideal S3x512x1024 .bf16) (P : FVec Ideal S4096x7168 .f32) (R : Fin 4096)

/-- The three branches' inputs by number. -/
def input (n : Fin 3) : FVec Ideal S4096x512 .bf16 := ![Ya, Yb, Yc] n

/-- Column `k` of gate `n`. -/
abbrev col (n : Fin 3) (k : Fin 1024) : Fin 7168 := ⟨4096 + (n.val * 1024 + k.val), by omega⟩

theorem ref_sig (n : Fin 3) (l : Fin 1024) : val_main_v17 (F := Ideal) P (ix3 R n l) = gate (P (ix2 R (col n l))) := by
  pointwise [val_main_v17, val_main_v16, val_main_v15, val_main_v14, val_main_v13, val_main_v12, val_main_v11, val_main_v10, val_main_cst, val_main_cst_0]
  rfl

theorem ref_brd (n : Fin 3) (l : Fin 1024) : val_main_v9 (F := Ideal) Ya Yb Yc W (ix3 R n l) = ∑ k : Fin 512, input Ya Yb Yc n (ix2 R k) * W (ix3 n k l) := by
  rcases (by decide : ∀ n : Fin 3, n = 0 ∨ n = 1 ∨ n = 2) n with rfl | rfl | rfl <;>
  · pointwise [val_main_v9, val_main_v8, val_main_v7, val_main_v6, val_main_v5, val_main_v4, val_main_v3, val_main_v2, val_main_v1, val_main_v0]
    exact Finset.sum_congr rfl fun k _ => mul_comm _ _

theorem ref_out (l : Fin 1024) : val_main_v20 (F := Ideal) Ya Yb Yc W P (ix2 R l)
    = part (P (ix2 R (col 0 l))) (fun k => Ya (ix2 R k)) (fun k => W (ix3 0 k l)) + part (P (ix2 R (col 1 l))) (fun k => Yb (ix2 R k)) (fun k => W (ix3 1 k l))
      + part (P (ix2 R (col 2 l))) (fun k => Yc (ix2 R k)) (fun k => W (ix3 2 k l)) := by
  have e := fun n => ref_brd Ya Yb Yc W R n l
  have f := fun n => ref_sig P R n l
  have e0 := e 0; have e1 := e 1; have e2 := e 2
  have f0 := f 0; have f1 := f 1; have f2 := f 2
  unfold part
  unfold input at e0 e1 e2
  simp only [Matrix.cons_val_zero, Matrix.cons_val_one, Matrix.cons_val] at e0 e1 e2
  rw [← e0, ← e1, ← e2, ← f0, ← f1, ← f2]
  unfold val_main_v20 val_main_v19 val_main_v18
  generalize val_main_v17 (F := Ideal) P = s
  generalize val_main_v9 (F := Ideal) Ya Yb Yc W = b
  pointwise [val_main_cst_1]
  rw [Fin.sum_univ_three]

end Ref

theorem out_at (g0 g1 g2 : FVec Ideal S512x1024 .f32) (y0 y1 y2 : FVec Ideal S512x512 .bf16) (w0 w1 w2 : FVec Ideal S1x512x1024 .bf16) (r : Fin 512) (l : Fin 1024) :
    k0_pay1 (F := Ideal) (k0_pay2 g0 y0 w0 g1 y1 w1) (k0_pay3 g2) y2 w2 (ix2 r l)
    = part (g0 (ix2 r l)) (fun k => y0 (ix2 r k)) (fun k => w0 (ix3 0 k l)) + part (g1 (ix2 r l)) (fun k => y1 (ix2 r k)) (fun k => w1 (ix3 0 k l))
      + part (g2 (ix2 r l)) (fun k => y2 (ix2 r k)) (fun k => w2 (ix3 0 k l)) := by
  unfold part gate
  pointwise [k0_pay1, k0_pay2, k0_pay3]
  simp only [zero_add, zero_sub]

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0, 0]
    ∧ win0_4.index t = ![t.val, 4] ∧ win0_5.index t = ![t.val, 5] ∧ win0_6.index t = ![t.val, 6] ∧ win0_7.index t = ![t.val, 0] :=
  (by decide +kernel : ∀ t : Fin grid0.N, _)

/-- Row `r` of block `t`. -/
abbrev row (t : Fin cfg0.N) (r : Fin 512) : Fin 4096 := ⟨512 * t.val + r.val, by have := t.isLt; have h : cfg0.N = 8 := N_0; omega⟩

theorem block_ya (c : Dev nD) (t : Fin cfg0.N) (r k : Fin 512) : (iblk m c 0 t : FVec Ideal S512x512 .bf16) (ix2 r k) = m ((c : Thread nD τ).loc main_arg0) (ix2 (row t r) k) := by
  blk_ext! [iblk, V, idx t]
theorem block_yb (c : Dev nD) (t : Fin cfg0.N) (r k : Fin 512) : (iblk m c 1 t : FVec Ideal S512x512 .bf16) (ix2 r k) = m ((c : Thread nD τ).loc main_arg1) (ix2 (row t r) k) := by
  blk_ext! [iblk, V, idx t]
theorem block_yc (c : Dev nD) (t : Fin cfg0.N) (r k : Fin 512) : (iblk m c 2 t : FVec Ideal S512x512 .bf16) (ix2 r k) = m ((c : Thread nD τ).loc main_arg2) (ix2 (row t r) k) := by
  blk_ext! [iblk, V, idx t]
theorem block_w (c : Dev nD) (t : Fin cfg0.N) : iblk m c 3 t = m ((c : Thread nD τ).loc main_arg3) := by
  blk_ext! [iblk, V, idx t]
theorem block_g0 (c : Dev nD) (t : Fin cfg0.N) (r : Fin 512) (k : Fin 1024) : (iblk m c 4 t : FVec Ideal S512x1024 .f32) (ix2 r k) = m ((c : Thread nD τ).loc main_arg4) (ix2 (row t r) (col 0 k)) := by
  blk_ext! [iblk, V, idx t]
theorem block_g1 (c : Dev nD) (t : Fin cfg0.N) (r : Fin 512) (k : Fin 1024) : (iblk m c 5 t : FVec Ideal S512x1024 .f32) (ix2 r k) = m ((c : Thread nD τ).loc main_arg4) (ix2 (row t r) (col 1 k)) := by
  blk_ext! [iblk, V, idx t]
theorem block_g2 (c : Dev nD) (t : Fin cfg0.N) (r : Fin 512) (k : Fin 1024) : (iblk m c 6 t : FVec Ideal S512x1024 .f32) (ix2 r k) = m ((c : Thread nD τ).loc main_arg4) (ix2 (row t r) (col 2 k)) := by
  blk_ext! [iblk, V, idx t]

/-- A branch's weights, as the body loads them. -/
theorem load_w {w : FVec Ideal S3x512x1024 .bf16} {off : Fin 3 → ℕ} (h : ∀ a, off a + ![1, 512, 1024] a ≤ S3x512x1024.size a) (n : Fin 3) (h0 : off 0 = n.val) (h1 : off 1 = 0) (h2 : off 2 = 0)
    (j : Fin 512) (k : Fin 1024) : (View.ld (Val := Elt Ideal) (e' := .bf16) w (Rect.unit off ![1, 512, 1024] h) : FVec Ideal S1x512x1024 .bf16) (ix3 0 j k) = w (ix3 n j k) := by
  refine congrArg w ?_
  funext a
  refine Fin.ext ?_
  rcases (by decide : ∀ a : Fin 3, a = 0 ∨ a = 1 ∨ a = 2) a with rfl | rfl | rfl <;> simp [ix3, h0, h1, h2]

theorem final (c : Dev nD) : (dats m 0 c).arrAt 7 (cfgs 0).N
    = val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]; frame_out
  rw [block_w]
  idx_vars y
  refine (out_at _ _ _ _ _ _ _ _ _ _ _).trans ?_
  have w0 := load_w (w := m ((c : Thread nD τ).loc main_arg3)) inb_S3x512x1024_S1x512x1024_0_0_0 0 rfl rfl rfl
  have w1 := load_w (w := m ((c : Thread nD τ).loc main_arg3)) inb_S3x512x1024_S1x512x1024_1_0_0 1 rfl rfl rfl
  have w2 := load_w (w := m ((c : Thread nD τ).loc main_arg3)) inb_S3x512x1024_S1x512x1024_2_0_0 2 rfl rfl rfl
  refine Eq.trans ?_ ((ref_out _ _ _ _ _ (row t y0) y1).symm.trans (by blk_ext [idx t]))
  refine Ideal.add_congr (Ideal.add_congr ?_ ?_) ?_
  · exact congrArg₂ (fun g f => gate g * f) (block_g0 m c t y0 y1) (Finset.sum_congr rfl fun k _ => Ideal.mul_congr (block_ya m c t y0 k) (w0 k y1))
  · exact congrArg₂ (fun g f => gate g * f) (block_g1 m c t y0 y1) (Finset.sum_congr rfl fun k _ => Ideal.mul_congr (block_yb m c t y0 k) (w1 k y1))
  · exact congrArg₂ (fun g f => gate g * f) (block_g2 m c t y0 y1) (Finset.sum_congr rfl fun k _ => Ideal.mul_congr (block_yc m c t y0 k) (w2 k y1))

end Cert.Kernel15Ideal.MergeFwd

namespace Cert.MergeFwd

open Idealize.ShloMosaic Idealize.SL.Sem

theorem frame_reference : quiescent_Reference15Ideal := fun m g _ =>
  (θ_run Reference15Ideal.defs _ _).mono (fun r h => ⟨fun c => (h c).2, sem_eq_zero_of_no_sems (by decide) r.2⟩)
    (Reference15Ideal.Value.run (F := Ideal) m g)

theorem algebraic : algebraic_Kernel15Ideal_Reference15Ideal := by
  pair_intro
  · run_from Kernel15Ideal.Value.run_blocks m g
  · run_from Reference15Ideal.Value.run m' g'
    exact (Reference15Ideal.Read.val_main_v20_eq _ _ _ _ _).trans (Kernel15Ideal.MergeFwd.final m c).symm

end Cert.MergeFwd

end
-- ==== Proof.FfnIn.lean ====
/-  The products of the SwiGLU gate and the gate itself (`_ffn_in`): what the kernel leaves in its three results is what
    the reference computes. -/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Claim

@[expose] public section

set_option maxRecDepth 16384

noncomputable section

namespace Cert.Kernel13Ideal.FfnIn

open Cert.Kernel13Ideal Cert.Kernel13Ideal.Gen Cert.Reference13Ideal.Read Idealize.ShloMosaic Idealize.ShloMosaic.TcCoe Idealize.SL.Sem
open Idealize.ShloMosaic.Pipeline (Dat)

/-- A row of `h` with a column of weights, and the gate of two such products. -/
def dot (h w : Fin 1024 → EReal) : EReal := ∑ k, h k * w k
def swiglu (a b : EReal) : EReal := a * Ideal.div 1 (1 + Ideal.exp (-a)) * b

section Ref
variable (H : FVec Ideal S4096x1024 .bf16) (W U : FVec Ideal S1024x2816 .bf16) (R : Fin 4096) (C : Fin 2816)

theorem ref_v3 : val_main_v3 (F := Ideal) H W (ix2 R C) = dot (fun k => H (ix2 R k)) fun k => W (ix2 k C) := by
  unfold dot
  pointwise [val_main_v3, val_main_v0, val_main_v1]

theorem ref_v4 : val_main_v4 (F := Ideal) H W (ix2 R C) = dot (fun k => H (ix2 R k)) fun k => W (ix2 k C) := by
  unfold dot
  pointwise [val_main_v4, val_main_v0, val_main_v2]

theorem ref_a : val_main_v5 (F := Ideal) H W (ix2 R C) = dot (fun k => H (ix2 R k)) fun k => W (ix2 k C) := ref_v3 H W R C
theorem ref_b : val_main_v6 (F := Ideal) H W (ix2 R C) = dot (fun k => H (ix2 R k)) fun k => W (ix2 k C) := ref_v4 H W R C

theorem ref_o : val_main_v9 (F := Ideal) H W U (ix2 R C)
    = swiglu (dot (fun k => H (ix2 R k)) fun k => W (ix2 k C)) (dot (fun k => H (ix2 R k)) fun k => U (ix2 k C)) := by
  rw [← ref_v3, ← ref_v4]
  unfold swiglu val_main_v9 val_main_v8 val_main_v7 val_main_call0_v5 val_main_call0_v3 val_main_call0_v1 val_main_call0_v0
  generalize val_main_v3 (F := Ideal) H W = a
  generalize val_main_v4 (F := Ideal) H U = b
  pointwise [val_main_call0_v4, val_main_call0_v2, val_main_call0_cst, val_main_call0_cst_0]

end Ref

section Block
variable (h : FVec Ideal S1024x1024 .bf16) (w u : FVec Ideal S1408x1024 .bf16) (r : Fin 1024) (l : Fin 1408)

theorem a32_at : k0_pay1 (F := Ideal) h w (ix2 r l) = dot (fun k => h (ix2 r k)) fun k => w (ix2 l k) := by
  unfold dot
  pointwise [k0_pay1]
theorem b32_at : k0_pay2 (F := Ideal) h w (ix2 r l) = dot (fun k => h (ix2 r k)) fun k => w (ix2 l k) := by
  unfold dot
  pointwise [k0_pay2]
theorem a_at : k0_pay3 (F := Ideal) h w (ix2 r l) = dot (fun k => h (ix2 r k)) fun k => w (ix2 l k) := a32_at h w r l
theorem b_at : k0_pay4 (F := Ideal) h w (ix2 r l) = dot (fun k => h (ix2 r k)) fun k => w (ix2 l k) := b32_at h w r l

theorem o_at : k0_pay5 (F := Ideal) h w u (ix2 r l)
    = swiglu (dot (fun k => h (ix2 r k)) fun k => w (ix2 l k)) (dot (fun k => h (ix2 r k)) fun k => u (ix2 l k)) := by
  rw [← a32_at, ← b32_at]
  unfold swiglu k0_pay5
  generalize k0_pay1 (F := Ideal) h w = a
  generalize k0_pay2 (F := Ideal) h u = b
  pointwise []
  rw [zero_sub]

end Block

variable (m : (ℓ : Loc nD τ sig) → Buf (Elt Ideal) ℓ)

theorem idx : ∀ t : Fin cfg0.N, win0_0.index t = ![t.val / 2, 0] ∧ win0_1.index t = ![t.val % 2, 0] ∧ win0_2.index t = ![t.val % 2, 0]
    ∧ win0_3.index t = ![t.val / 2, t.val % 2] ∧ win0_4.index t = ![t.val / 2, t.val % 2] ∧ win0_5.index t = ![t.val / 2, t.val % 2] :=
  (by decide +kernel : ∀ t : Fin grid0.N, _)

/-- Row `r` and column `l` of block `t`. -/
abbrev row (t : Fin cfg0.N) (r : Fin 1024) : Fin 4096 := ⟨1024 * (t.val / 2) + r.val, by have := t.isLt; have h : cfg0.N = 8 := N_0; omega⟩
abbrev col (t : Fin cfg0.N) (l : Fin 1408) : Fin 2816 := ⟨1408 * (t.val % 2) + l.val, by omega⟩

theorem block_h (c : Dev nD) (t : Fin cfg0.N) (r : Fin 1024) (k : Fin 1024) :
    (iblk m c 0 t : FVec Ideal S1024x1024 .bf16) (ix2 r k) = m ((c : Thread nD τ).loc main_arg0) (ix2 (row t r) k) := by
  unfold iblk; rw [View.read]; exact (congrFun (V_main_arg0 m c) _).trans (by blk_ext [idx t])

/-- The weights' blocks: the kernel reads them transposed. -/
theorem block_w (c : Dev nD) (t : Fin cfg0.N) (l : Fin 1408) (k : Fin 1024) :
    (iblk m c 1 t : FVec Ideal S1408x1024 .bf16) (ix2 l k) = m ((c : Thread nD τ).loc main_arg1) (ix2 k (col t l)) := by
  blk_simp [iblk, idx t]
  entry_read
  pointwise []
  blk_ext [idx t]
theorem block_u (c : Dev nD) (t : Fin cfg0.N) (l : Fin 1408) (k : Fin 1024) :
    (iblk m c 2 t : FVec Ideal S1408x1024 .bf16) (ix2 l k) = m ((c : Thread nD τ).loc main_arg2) (ix2 k (col t l)) := by
  blk_simp [iblk, idx t]
  entry_read
  pointwise []
  blk_ext [idx t]

theorem final_a (c : Dev nD) : (dats m 0 c).arrAt 3 (cfgs 0).N
    = val_main_v5 (F := Ideal) (m ((c : Thread nD τ).loc main_arg0)) (m ((c : Thread nD τ).loc main_arg1)) := by
  refine (dats m 0 c).arrAt_eq_of_covers 3 _ (by decide +kernel) fun t hf y => ?_
  blk_simp
  rw [after0_3]; frame_out
  idx_vars y
  refine (a_at _ _ _ _).trans ?_
  simp only [block_h, block_w]
  refine (ref_a _ _ (row t y0) (col t y1)).symm.trans ?_
  blk_ext [idx t]

theorem final_b (c : Dev nD) : (dats m 0 c).arrAt 4 (cfgs 0).N
    = val_main_v6 (F := Ideal) (m ((c : Thread nD τ).loc main_arg0)) (m ((c : Thread nD τ).loc main_arg2)) := by
  refine (dats m 0 c).arrAt_eq_of_covers 4 _ (by decide +kernel) fun t hf y => ?_
  blk_simp
  rw [after0_4]; frame_out
  idx_vars y
  refine (b_at _ _ _ _).trans ?_
  simp only [block_h, block_u]
  refine (ref_b _ _ (row t y0) (col t y1)).symm.trans ?_
  blk_ext [idx t]

theorem final_o (c : Dev nD) : (dats m 0 c).arrAt 5 (cfgs 0).N
    = val_main_v9 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]; frame_out
  idx_vars y
  refine (o_at _ _ _ _ _).trans ?_
  simp only [block_h, block_w, block_u]
  refine (ref_o _ _ _ (row t y0) (col t y1)).symm.trans ?_
  blk_ext [idx t]

end Cert.Kernel13Ideal.FfnIn

namespace Cert.FfnIn

open Idealize.ShloMosaic Idealize.SL.Sem

theorem frame_reference : quiescent_Reference13Ideal := fun m g _ =>
  (θ_run Reference13Ideal.defs _ _).mono (fun r h => ⟨fun c => (h c).2.2.2, sem_eq_zero_of_no_sems (by decide) r.2⟩)
    (Reference13Ideal.Value.run (F := Ideal) m g)

theorem algebraic : algebraic_Kernel13Ideal_Reference13Ideal := by
  pair_intro
  · run_from Kernel13Ideal.Value.run_blocks m g
  · run_from Reference13Ideal.Value.run m' g'
    · exact (Reference13Ideal.Read.val_main_v5_eq _ _).trans (Kernel13Ideal.FfnIn.final_a m c).symm
    · exact (Reference13Ideal.Read.val_main_v6_eq _ _).trans (Kernel13Ideal.FfnIn.final_b m c).symm
    · exact (Reference13Ideal.Read.val_main_v9_eq _ _ _).trans (Kernel13Ideal.FfnIn.final_o m c).symm

end Cert.FfnIn

end
-- ==== Proof.RmsFwd.lean ====
/-  The norm of rows (`_rms_fwd`): what the kernel leaves is what `rms_norm` computes. -/
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pipeline.ValueKit
public import Idealize.ShloMosaic.Lib.Claim

@[expose] public section

set_option maxRecDepth 16384

noncomputable section

namespace Cert.Kernel18Ideal.RmsFwd

open Cert.Kernel18Ideal Cert.Kernel18Ideal.Gen Cert.Reference18Ideal.Read Idealize.ShloMosaic Idealize.ShloMosaic.TcCoe Idealize.SL.Sem
open Idealize.ShloMosaic.Pipeline (Dat)

/-- A place of the norm, from its row and its column's gain. -/
def norm (x : Fin 1024 → EReal) (g : EReal) (l : Fin 1024) : EReal :=
  x l * Ideal.rsqrt (Ideal.div (∑ k, x k * x k) (Ideal.ofBits FTy.f32 0x44800000#32) + Ideal.ofBits FTy.f32 0x358637BD#32) * g

theorem ref_at (X : FVec Ideal S4096x1024 .f32) (G : FVec Ideal S1024 .f32) (R : Fin 4096) (l : Fin 1024) :
    val_main_v13 (F := Ideal) X G (ix2 R l) = norm (fun k => X (ix2 R k)) (G (ix1 l)) l := by
  rw [← val_main_v13_eq]
  unfold norm
  pointwise []

theorem out_at (x : FVec Ideal S512x1024 .f32) (g : FVec Ideal S1x1024 .f32) (r : Fin 512) (l : Fin 1024) :
    k0_pay1 (F := Ideal) x g (ix2 r l) = norm (fun k => x (ix2 r k)) (g (ix2 0 l)) l := by
  unfold norm
  pointwise [k0_pay1]

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- Row `r` of block `t`. -/
abbrev row (t : Fin cfg0.N) (r : Fin 512) : Fin 4096 := ⟨512 * t.val + r.val, by have := t.isLt; have h : cfg0.N = 8 := N_0; omega⟩

theorem block_x (c : Dev nD) (t : Fin cfg0.N) (r : Fin 512) (k : Fin 1024) :
    (iblk m c 0 t : FVec Ideal S512x1024 .f32) (ix2 r k) = m ((c : Thread nD τ).loc main_arg0) (ix2 (row t r) k) := by
  blk_ext! [iblk, V, idx t]

/-- The gain's block, a row. -/
theorem block_g (c : Dev nD) (t : Fin cfg0.N) (l : Fin 1024) :
    (iblk m c 1 t : FVec Ideal S1x1024 .f32) (ix2 0 l) = m ((c : Thread nD τ).loc main_arg1) (ix1 l) := by
  blk_simp [iblk, idx t]
  entry_read
  pointwise []
  blk_ext [idx t]

theorem final (c : Dev nD) : (dats m 0 c).arrAt 2 (cfgs 0).N
    = val_main_v13 (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  idx_vars y
  refine (out_at _ _ _ _).trans ?_
  simp only [block_x, block_g]
  refine (ref_at _ _ (row t y0) y1).symm.trans ?_
  blk_ext [idx t]

end Cert.Kernel18Ideal.RmsFwd

namespace Cert.RmsFwd

open Idealize.ShloMosaic Idealize.SL.Sem

theorem frame_reference : quiescent_Reference18Ideal := fun m g _ =>
  (θ_run Reference18Ideal.defs _ _).mono (fun r h => ⟨fun c => (h c).2, sem_eq_zero_of_no_sems (by decide) r.2⟩)
    (Reference18Ideal.Value.run (F := Ideal) m g)

theorem algebraic : algebraic_Kernel18Ideal_Reference18Ideal := by
  pair_intro
  · run_from Kernel18Ideal.Value.run_blocks m g
  · run_from Reference18Ideal.Value.run m' g'
    exact (Reference18Ideal.Read.val_main_v13_eq _ _).trans (Kernel18Ideal.RmsFwd.final m c).symm

end Cert.RmsFwd

end
-- ==== Proof.InProjDw.lean ====
/-  The gradient of the block's input projection's weight (`_mm` with `ta`, seven blocks of 1024 rows, the contraction of 4096 rows in two
    parts): the sum over both parts is the product that the derivative computes. -/
module

public import proofs.«01_k».proof.Defs
public import proofs.«01_k».proof.Proof.Gen.Kernel19Ideal.Value
public import proofs.«01_k».proof.Proof.Gen.Reference19Ideal.Run
public import Idealize.ShloMosaic.Lib.Pipeline.ValueKit
public import Idealize.ShloMosaic.Lib.Claim

@[expose] public section

set_option maxRecDepth 16384

noncomputable section

namespace Cert.Kernel19Ideal.InProjDw

open Cert.Kernel19Ideal Cert.Kernel19Ideal.Gen Idealize.ShloMosaic Idealize.ShloMosaic.TcCoe Idealize.SL.Sem
open Idealize.ShloMosaic.Pipeline (Dat)

/-- The product over all rows. -/
def dw (D : FVec Ideal S4096x7168 .bf16) (H : FVec Ideal S4096x1024 .bf16) : FVec Ideal S7168x1024 .bf16 := fun i => ∑ j : Fin 4096, D (ix2 j (i 0)) * H (ix2 j (i 1))

/-- The sum so far, and a part's products. -/
theorem part_at (a : FVec Ideal S1024x1024 .f32) (d h : FVec Ideal S2048x1024 .bf16) (r k : Fin 1024) :
    k0_pay2 (F := Ideal) a d h (ix2 r k) = a (ix2 r k) + ∑ j : Fin 2048, d (ix2 j r) * h (ix2 j k) := by
  pointwise [k0_pay2]

theorem zero_at (r k : Fin 1024) : k0_pay1 (F := Ideal) (ix2 r k) = (0 : EReal) := by
  pointwise [k0_pay1]

theorem out_at (a : FVec Ideal S1024x1024 .f32) (r k : Fin 1024) : k0_pay3 (F := Ideal) a (ix2 r k) = a (ix2 r k) := by
  pointwise [k0_pay3]

variable (m : (ℓ : Loc nD τ sig) → Buf (Elt Ideal) ℓ)

theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

/-- Row `r` of point `t`'s block of the result, row `j` of its part of the contraction. -/
abbrev row (t : Fin cfg0.N) (r : Fin 1024) : Fin 7168 := ⟨1024 * (t.val / 2) + r.val, by have := t.isLt; have h : cfg0.N = 14 := N_0; omega⟩
abbrev lane (t : Fin cfg0.N) (j : Fin 2048) : Fin 4096 := ⟨2048 * (t.val % 2) + j.val, by omega⟩

theorem block_d (c : Dev nD) (t : Fin cfg0.N) (j : Fin 2048) (r : Fin 1024) : (iblk m c 0 t : FVec Ideal S2048x1024 .bf16) (ix2 j r) = m ((c : Thread nD τ).loc main_arg0) (ix2 (lane t j) (row t r)) := by
  blk_ext! [iblk, V, idx t]
theorem block_h (c : Dev nD) (t : Fin cfg0.N) (j : Fin 2048) (k : Fin 1024) : (iblk m c 1 t : FVec Ideal S2048x1024 .bf16) (ix2 j k) = m ((c : Thread nD τ).loc main_arg1) (ix2 (lane t j) k) := by
  blk_ext! [iblk, V, idx t]

/-- The scratch is read whole. -/
theorem carried (h : (Memref.whole cc0_scratch0).IsWhole) (A : Vec Ideal S1024x1024 .f32) : View.read (Elt Ideal) (View.whole cc0_scratch0) (h.unread A) = A :=
  h.read_unread A

/-- The point before. -/
abbrev prev (t : Fin cfg0.N) : Fin cfg0.N := ⟨t.val - 1, Nat.lt_of_le_of_lt (Nat.sub_le _ _) t.isLt⟩

/-- The sum after the first part. -/
theorem sum_even (c : Dev nD) (t : Fin cfg0.N) (h : t.val % 2 = 0) : (outsAt0 m c t.val t.isLt).2 = k0_pay2 (F := Ideal) (k0_pay1 (F := Ideal)) (iblk m c 0 t) (iblk m c 1 t) := by
  rw [outsAt0_A m c t h (by omega)]; frame_out

/-- The sum at the second part, as the point finishes it. -/
def total (c : Dev nD) (t : Fin cfg0.N) : FVec Ideal S1024x1024 .f32 := k0_pay2 (F := Ideal) (outsAt0 m c (prev t).val (prev t).isLt).2 (iblk m c 0 t) (iblk m c 1 t)

theorem total_at (c : Dev nD) (t : Fin cfg0.N) (h : t.val % 2 = 1) (r k : Fin 1024) : total m c t (ix2 r k)
    = dw (m ((c : Thread nD τ).loc main_arg0)) (m ((c : Thread nD τ).loc main_arg1)) (ix2 (row t r) k) := by
  have hp : (prev t).val % 2 = 0 := by dsimp only; omega
  have hr : row (prev t) r = row t r := Fin.ext (by show 1024 * ((t.val - 1) / 2) + r.val = 1024 * (t.val / 2) + r.val; omega)
  unfold total
  rw [part_at, sum_even m c (prev t) hp, part_at, zero_at, zero_add]
  simp only [block_d, block_h, hr]
  refine ((Fin.sum_univ_add (a := 2048) (b := 2048) _).trans ?_).symm
  refine congrArg₂ (· + ·) (Finset.sum_congr rfl fun j _ => ?_) (Finset.sum_congr rfl fun j _ => ?_)
  · have e : (Fin.castAdd 2048 j : Fin 4096) = lane (prev t) j := Fin.ext (by show j.val = 2048 * ((t.val - 1) % 2) + j.val; omega)
    rw [← e]; rfl
  · have e : (Fin.natAdd 2048 j : Fin 4096) = lane t j := Fin.ext (by show 2048 + j.val = 2048 * (t.val % 2) + j.val; omega)
    rw [← e]; rfl

theorem out_odd (c : Dev nD) (t : Fin cfg0.N) (h : t.val % 2 = 1) : (outsAt0 m c t.val t.isLt).1 = k0_pay3 (F := Ideal) (total m c t) := by
  rw [outsAt0_B m c t (by omega) h]; frame_out; rw [carried]; rfl

theorem final (c : Dev nD) : (dats m 0 c).arrAt 2 (cfgs 0).N = dw (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, out_odd m c t h]
  idx_vars y
  refine (out_at _ _ _).trans ((total_at m c t h y0 y1).trans ?_)
  blk_ext [idx t]

end Cert.Kernel19Ideal.InProjDw

namespace Cert.InProjDw

open Idealize.ShloMosaic Idealize.SL.Sem

/-- The derivative's product. -/
theorem ref_eq (D : FVec Ideal Reference19Ideal.S4096x7168 .bf16) (H : FVec Ideal Reference19Ideal.S4096x1024 .bf16) :
    truncf (F := Ideal) .bf16 (transpose Reference19Ideal.S7168x1024 [1, 0] (transpose Reference19Ideal.S1024x7168 [1, 0]
      (Host.dotGeneral Reference19Ideal.dot_S4096x7168_S4096x1024_S7168x1024_0_0_1_1_n_n none (extf .f32 D Reference19Ideal.Gen.bitsLt_bf16_f32) (extf .f32 H Reference19Ideal.Gen.bitsLt_bf16_f32))
      Reference19Ideal.Gen.transposes_S7168x1024_S1024x7168_1_0) Reference19Ideal.Gen.transposes_S1024x7168_S7168x1024_1_0) Reference19Ideal.Gen.bitsLt_bf16_f32
      = Kernel19Ideal.InProjDw.dw D H := by
  funext i
  idx_vars i
  pointwise [Kernel19Ideal.InProjDw.dw]

theorem frame_reference : quiescent_Reference19Ideal := fun m g _ =>
  (θ_run Reference19Ideal.defs _ _).mono (fun r h => ⟨fun c => (h c).2, sem_eq_zero_of_no_sems (by decide) r.2⟩)
    (Reference19Ideal.Value.run (F := Ideal) m g)

theorem algebraic : algebraic_Kernel19Ideal_Reference19Ideal := by
  intro m g m' g' _ hagree
  refine ⟨_, Kernel19Ideal.Value.run_blocks (F := Ideal) m g, ?_⟩
  refine (θ_run Reference19Ideal.defs _ _).mono (fun _ h c => ⟨?_, (h c).2⟩) (Reference19Ideal.Value.run (F := Ideal) m' g')
  rw [(h c).1, (hagree c).1, (hagree c).2]
  exact (ref_eq _ _).trans (Kernel19Ideal.InProjDw.final m c).symm

end Cert.InProjDw

end
-- ==== Proof.SumDevices.lean ====
/-  The sum of the eight devices' parts of the gradients (`_sum_devices`, eight blocks of 352 rows): what the kernel leaves is the sum over the
    devices. -/
module

public import proofs.«01_k».proof.Defs
public import proofs.«01_k».proof.Proof.Gen.Kernel20Ideal.Value
public import proofs.«01_k».proof.Proof.Gen.Reference20Ideal.Run
public import proofs.«01_k».proof.Proof.Gen.Reference20Ideal.Read
public import Idealize.ShloMosaic.Lib.Pipeline.ValueKit
public import Idealize.ShloMosaic.Lib.Claim

@[expose] public section

set_option maxRecDepth 16384

noncomputable section

namespace Cert.Kernel20Ideal.SumDevices

open Cert.Kernel20Ideal Cert.Kernel20Ideal.Gen Cert.Reference20Ideal.Read Idealize.ShloMosaic Idealize.ShloMosaic.TcCoe Idealize.SL.Sem
open Idealize.ShloMosaic.Pipeline (Dat)

theorem ref_at (A : FVec Ideal S8x2816x1024 .bf16) (R : Fin 2816) (l : Fin 1024) :
    val_main_v1 (F := Ideal) A (ix2 R l) = ∑ d : Fin 8, A (ix3 d R l) := by
  rw [← val_main_v1_eq]
  pointwise []

theorem out_at (a0 a1 a2 a3 a4 a5 a6 a7 : FVec Ideal S1x352x1024 .bf16) (r : Fin 352) (l : Fin 1024) :
    k0_pay1 (F := Ideal) a0 a1 a2 a3 a4 a5 a6 a7 (ix2 r l) = a0 (ix3 0 r l) + a1 (ix3 0 r l) + a2 (ix3 0 r l) + a3 (ix3 0 r l)
      + a4 (ix3 0 r l) + a5 (ix3 0 r l) + a6 (ix3 0 r l) + a7 (ix3 0 r l) := by
  pointwise [k0_pay1]

variable (m : (ℓ : Loc nD τ sig) → Buf (Elt Ideal) ℓ)

theorem idx : ∀ t : Fin cfg0.N, win0_0.index t = ![0, t.val, 0] ∧ win0_1.index t = ![t.val, 0] :=
  (by decide +kernel : ∀ t : Fin grid0.N, _)

/-- Row `r` of block `t`. -/
abbrev row (t : Fin cfg0.N) (r : Fin 352) : Fin 2816 := ⟨352 * t.val + r.val, by have := t.isLt; have h : cfg0.N = 8 := N_0; omega⟩

theorem block_a (c : Dev nD) (t : Fin cfg0.N) (d : Fin 8) (r : Fin 352) (k : Fin 1024) :
    (iblk m c 0 t : FVec Ideal S8x352x1024 .bf16) (ix3 d r k) = m ((c : Thread nD τ).loc main_arg0) (ix3 d (row t r) k) := by
  blk_ext! [iblk, V, idx t]

/-- A device's part of a block. -/
theorem load_at (x : FVec Ideal S8x352x1024 .bf16) (d : Fin 8) {n : ℕ} (hn : n = d.val) (inb) (r : Fin 352) (k : Fin 1024) :
    View.ld (Val := Elt Ideal) (e' := .bf16) (S := S8x352x1024) x (Rect.unit (s := S8x352x1024) ![n, 0, 0] S1x352x1024.size inb) (ix3 0 r k) = x (ix3 d r k) := by
  rw [View.ld_unit_apply_of (S := S8x352x1024) _ _ S1x352x1024.size inb (ix3 0 r k) (ix3 d r k)]
  intro a; fin_cases a <;> simp [hn, ix3]

theorem final (c : Dev nD) : (dats m 0 c).arrAt 1 (cfgs 0).N = val_main_v1 (F := Ideal) (m ((c : Thread nD τ).loc main_arg0)) := by
  refine (dats m 0 c).arrAt_eq_of_covers 1 _ (by decide +kernel) fun t hf y => ?_
  blk_simp
  rw [after0_1]; frame_out
  idx_vars y
  refine (out_at _ _ _ _ _ _ _ _ _ _).trans ?_
  refine Eq.trans ?_ ((ref_at _ (row t y0) y1).symm.trans (by blk_ext [idx t]))
  rw [Fin.sum_univ_eight]
  simp only [← block_a m c t]
  exact congrArg₂ (· + ·) (congrArg₂ (· + ·) (congrArg₂ (· + ·) (congrArg₂ (· + ·) (congrArg₂ (· + ·) (congrArg₂ (· + ·) (congrArg₂ (· + ·)
    (load_at _ 0 rfl _ _ _) (load_at _ 1 rfl _ _ _)) (load_at _ 2 rfl _ _ _)) (load_at _ 3 rfl _ _ _)) (load_at _ 4 rfl _ _ _)) (load_at _ 5 rfl _ _ _)) (load_at _ 6 rfl _ _ _)) (load_at _ 7 rfl _ _ _)

end Cert.Kernel20Ideal.SumDevices

namespace Cert.SumDevices

open Idealize.ShloMosaic Idealize.SL.Sem

theorem frame_reference : quiescent_Reference20Ideal := fun m g _ =>
  (θ_run Reference20Ideal.defs _ _).mono (fun r h => ⟨fun c => (h c).2, sem_eq_zero_of_no_sems (by decide) r.2⟩)
    (Reference20Ideal.Value.run (F := Ideal) m g)

theorem algebraic : algebraic_Kernel20Ideal_Reference20Ideal := by
  intro m g m' g' _ hagree
  refine ⟨_, Kernel20Ideal.Value.run_blocks (F := Ideal) m g, ?_⟩
  refine (θ_run Reference20Ideal.defs _ _).mono (fun _ h c => ⟨?_, (h c).2⟩) (Reference20Ideal.Value.run (F := Ideal) m' g')
  rw [(h c).1, hagree c]
  exact (Reference20Ideal.Read.val_main_v1_eq _).trans (Kernel20Ideal.SumDevices.final m c).symm

end Cert.SumDevices

end
-- ==== Proof.AdamW.lean ====
/-  One step of the optimiser (`_adamw` on w_in, four blocks of 512 rows): what the kernel leaves in its three results is what `_adamw` of the
    reference computes. -/
module

public import proofs.«01_k».proof.Defs
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pipeline.ValueKit
public import Idealize.ShloMosaic.Lib.Claim

@[expose] public section

set_option maxRecDepth 16384

noncomputable section

namespace Cert.Kernel21Ideal.AdamW

open Cert.Kernel21Ideal Cert.Kernel21Ideal.Gen Cert.Reference21Ideal.Read Idealize.ShloMosaic Idealize.ShloMosaic.TcCoe Idealize.SL.Sem
open Idealize.ShloMosaic.Pipeline (Dat)

/-- The new moments and the change of the weight, from one place's numbers. -/
def mean (g a : EReal) : EReal := Ideal.ofBits FTy.f32 0x3F666666#32 * a + Ideal.ofBits FTy.f32 0x3DCCCCCD#32 * g
def square (g a : EReal) : EReal := Ideal.ofBits FTy.f32 0x3F7FBE77#32 * a + Ideal.ofBits FTy.f32 0x3A83126F#32 * (g * g)
def change (w g a b : EReal) : EReal := Ideal.ofBits FTy.f32 0xBA83126F#32 * (Ideal.div (Ideal.div (mean g a) (Ideal.ofBits FTy.f32 0x3F26BD02#32))
  (Ideal.sqrt (Ideal.div (square g b) (Ideal.ofBits FTy.f32 0x3C231ACC#32)) + Ideal.ofBits FTy.f32 0x322BCC77#32) + Ideal.ofBits FTy.f32 0x3C23D70A#32 * w)

/-- The layer of a row of both layers' weights, and its row there. -/
abbrev hi (R : Fin 2048) : Fin 2 := ⟨R.val / 1024, by omega⟩
abbrev lo (R : Fin 2048) : Fin 1024 := ⟨R.val % 1024, by omega⟩

theorem mean_ref (g a : FVec Ideal S2x1024x896 .f32) (R : Fin 2048) (l : Fin 896) :
    val_main_v25 (F := Ideal) g a (ix2 R l) = mean (g (ix3 (hi R) (lo R) l)) (a (ix3 (hi R) (lo R) l)) := by
  rw [← val_main_v25_eq]; unfold mean; pointwise []
theorem square_ref (g b : FVec Ideal S2x1024x896 .f32) (R : Fin 2048) (l : Fin 896) :
    val_main_v26 (F := Ideal) g b (ix2 R l) = square (g (ix3 (hi R) (lo R) l)) (b (ix3 (hi R) (lo R) l)) := by
  rw [← val_main_v26_eq]; unfold square; pointwise []
theorem change_ref (w g a b : FVec Ideal S2x1024x896 .f32) (R : Fin 2048) (l : Fin 896) :
    val_main_v24 (F := Ideal) w g a b (ix2 R l) = change (w (ix3 (hi R) (lo R) l)) (g (ix3 (hi R) (lo R) l)) (a (ix3 (hi R) (lo R) l)) (b (ix3 (hi R) (lo R) l)) := by
  rw [← val_main_v24_eq]; unfold change mean square; pointwise []

theorem mean_at (g a : FVec Ideal S512x896 .f32) (r : Fin 512) (l : Fin 896) : k0_pay2 (F := Ideal) g a (ix2 r l) = mean (g (ix2 r l)) (a (ix2 r l)) := by
  unfold mean; pointwise [k0_pay2, k0_pay1]
theorem square_at (g b : FVec Ideal S512x896 .f32) (r : Fin 512) (l : Fin 896) : k0_pay3 (F := Ideal) g b (ix2 r l) = square (g (ix2 r l)) (b (ix2 r l)) := by
  unfold square; pointwise [k0_pay3, k0_pay1]
theorem change_at (g a b w : FVec Ideal S512x896 .f32) (r : Fin 512) (l : Fin 896) :
    k0_pay4 (F := Ideal) g a b w (ix2 r l) = change (w (ix2 r l)) (g (ix2 r l)) (a (ix2 r l)) (b (ix2 r l)) := by
  unfold change mean square; pointwise [k0_pay4, k0_pay3, k0_pay2, k0_pay1]

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

/-- Row `r` of block `t`. -/
abbrev row (t : Fin cfg0.N) (r : Fin 512) : Fin 2048 := ⟨512 * t.val + r.val, by have := t.isLt; have h : cfg0.N = 4 := N_0; omega⟩

theorem block_0 (c : Dev nD) (t : Fin cfg0.N) (r : Fin 512) (l : Fin 896) :
    (iblk m c 0 t : FVec Ideal S512x896 .f32) (ix2 r l) = m ((c : Thread nD τ).loc main_arg0) (ix3 (hi (row t r)) (lo (row t r)) l) := by
  blk_simp [iblk, idx t]
  entry_read
  pointwise []
  blk_ext [idx t]

theorem block_1 (c : Dev nD) (t : Fin cfg0.N) (r : Fin 512) (l : Fin 896) :
    (iblk m c 1 t : FVec Ideal S512x896 .f32) (ix2 r l) = m ((c : Thread nD τ).loc main_arg1) (ix3 (hi (row t r)) (lo (row t r)) l) := by
  blk_simp [iblk, idx t]
  entry_read
  pointwise []
  blk_ext [idx t]

theorem block_2 (c : Dev nD) (t : Fin cfg0.N) (r : Fin 512) (l : Fin 896) :
    (iblk m c 2 t : FVec Ideal S512x896 .f32) (ix2 r l) = m ((c : Thread nD τ).loc main_arg2) (ix3 (hi (row t r)) (lo (row t r)) l) := by
  blk_simp [iblk, idx t]
  entry_read
  pointwise []
  blk_ext [idx t]

theorem block_3 (c : Dev nD) (t : Fin cfg0.N) (r : Fin 512) (l : Fin 896) :
    (iblk m c 3 t : FVec Ideal S512x896 .f32) (ix2 r l) = m ((c : Thread nD τ).loc main_arg3) (ix3 (hi (row t r)) (lo (row t r)) l) := by
  blk_simp [iblk, idx t]
  entry_read
  pointwise []
  blk_ext [idx t]

theorem final_4 (c : Dev nD) : (dats m 0 c).arrAt 4 (cfgs 0).N = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]; frame_out
  idx_vars y
  refine (change_at _ _ _ _ _ _).trans ?_
  simp only [block_0, block_1, block_2, block_3]
  refine (change_ref _ _ _ _ (row t y0) y1).symm.trans ?_
  blk_ext [idx t]

theorem final_5 (c : Dev nD) : (dats m 0 c).arrAt 5 (cfgs 0).N = val_main_v25 (F := Ideal) (m ((c : Thread nD τ).loc main_arg1)) (m ((c : Thread nD τ).loc main_arg2)) := by
  refine (dats m 0 c).arrAt_eq_of_covers 5 _ (by decide +kernel) fun t hf y => ?_
  blk_simp
  rw [after0_5]; frame_out
  idx_vars y
  refine (mean_at _ _ _ _).trans ?_
  simp only [block_0, block_1, block_2, block_3]
  refine (mean_ref _ _ (row t y0) y1).symm.trans ?_
  blk_ext [idx t]

theorem final_6 (c : Dev nD) : (dats m 0 c).arrAt 6 (cfgs 0).N = val_main_v26 (F := Ideal) (m ((c : Thread nD τ).loc main_arg1)) (m ((c : Thread nD τ).loc main_arg3)) := by
  refine (dats m 0 c).arrAt_eq_of_covers 6 _ (by decide +kernel) fun t hf y => ?_
  blk_simp
  rw [after0_6]; frame_out
  idx_vars y
  refine (square_at _ _ _ _).trans ?_
  simp only [block_0, block_1, block_2, block_3]
  refine (square_ref _ _ (row t y0) y1).symm.trans ?_
  blk_ext [idx t]

end Cert.Kernel21Ideal.AdamW

namespace Cert.AdamW

open Idealize.ShloMosaic Idealize.SL.Sem

theorem frame_reference : quiescent_Reference21Ideal := fun m g _ =>
  (θ_run Reference21Ideal.defs _ _).mono (fun r h => ⟨fun c => (h c).2.2.2, sem_eq_zero_of_no_sems (by decide) r.2⟩)
    (Reference21Ideal.Value.run (F := Ideal) m g)

theorem algebraic : algebraic_Kernel21Ideal_Reference21Ideal := by
  pair_intro
  · run_from Kernel21Ideal.Value.run_blocks m g
  · run_from Reference21Ideal.Value.run m' g'
    · exact (Reference21Ideal.Read.val_main_v24_eq _ _ _ _).trans (Kernel21Ideal.AdamW.final_4 m c).symm
    · exact (Reference21Ideal.Read.val_main_v25_eq _ _).trans (Kernel21Ideal.AdamW.final_5 m c).symm
    · exact (Reference21Ideal.Read.val_main_v26_eq _ _).trans (Kernel21Ideal.AdamW.final_6 m c).symm

end Cert.AdamW

end
-- ==== Proof.Pieces.lean ====
/-  Arrays laid one after another along an axis: the rows of one of them, cut out again, are that array. -/
module

public import Idealize.ShloMosaic.Lib.Pipeline.Value

@[expose] public section

noncomputable section

namespace Cert.Pieces

open Idealize.ShloMosaic

/-- The rows of one part, cut out of the parts laid one after another along the rows, are that part. -/
theorem slice_piece {α : Type} {N n : Nat} (o : Nat) (xs : List ((s : Shape) × (s.Idx → α))) (h : Shape.Concatenates (xs.map (·.1)) (⟨3, ![8, N, 1024]⟩ : Shape) 1)
    (hs : (⟨3, ![8, N, 1024]⟩ : Shape).Slices ![0, o, 0] (⟨3, ![8, n, 1024]⟩ : Shape)) (k : Nat) (hk : k < xs.length) (x : (⟨3, ![8, n, 1024]⟩ : Shape).Idx → α)
    (hx : xs[k] = ⟨(⟨3, ![8, n, 1024]⟩ : Shape), x⟩)
    (hpre : (((xs.take k).map (·.1)).map fun s => if h : s.rank = 3 then s.size ((1 : Fin 3).cast h.symm) else 0).sum = o) :
    extractStridedSlice (⟨3, ![8, n, 1024]⟩ : Shape) ![0, o, 0] (concatenate (⟨3, ![8, N, 1024]⟩ : Shape) 1 xs h) hs = x := by
  funext j
  unfold extractStridedSlice
  refine concatenate_apply_piece 1 xs h _ k hk _ x hx rfl o hpre j (fun b hb => ?_) ?_
  · match b with
    | ⟨0, _⟩ => exact (Nat.zero_add _).symm
    | ⟨1, _⟩ => exact absurd rfl hb
    | ⟨2, _⟩ => exact (Nat.zero_add _).symm
  · rfl

end Cert.Pieces

end
-- ==== Proof.PackWeights.lean ====
/-  The packing of a layer's nine matrices (`_pack_shards`, each of the eight devices' parts one flat array of 1888 rows) and the reading
    of the whole matrices back from the eight flat arrays side by side (`_unpack_gathered`): what is read back is each matrix, in the
    storage format and, for the feed-forward's gate and up, transposed. -/
module

public import proofs.«01_k».proof.Defs
public import proofs.«01_k».proof.Proof.Gen.Kernel22.Run
public import proofs.«01_k».proof.Proof.Gen.Kernel22Ideal.Run
public import proofs.«01_k».proof.Proof.Gen.Kernel22Ideal.Read
public import proofs.«01_k».proof.Proof.Gen.Reference22Ideal.Run
public import proofs.«01_k».proof.Proof.Gen.Reference22Ideal.Read
public import proofs.«01_k».proof.Proof.Pieces
public import Idealize.ShloMosaic.Lib.Pipeline.ValueKit
public import Idealize.ShloMosaic.Lib.Claim

@[expose] public section

set_option maxRecDepth 16384

noncomputable section

namespace Cert.PackWeights

open Cert.Kernel22Ideal Cert.Kernel22Ideal.Gen Cert.Kernel22Ideal.Read Idealize.ShloMosaic Idealize.ShloMosaic.TcCoe Idealize.SL.Sem

variable (x0 : FVec Ideal S3x512x1024 .f32) (x1 x2 x3 x4 x5 : FVec Ideal S1024x1024 .f32) (x6 x7 : FVec Ideal S1024x2816 .f32) (x8 : FVec Ideal S2816x1024 .f32)

theorem part_0 : val_main_v25 (F := Ideal) x0 x1 x2 x3 x4 x5 x6 x7 x8 = val_main_v23 (F := Ideal) x0 :=
  Pieces.slice_piece 0 _ _ _ 0 (Nat.lt_of_sub_eq_succ rfl) _ rfl rfl
theorem part_1 : val_main_v29 (F := Ideal) x0 x1 x2 x3 x4 x5 x6 x7 x8 = val_main_v13 (F := Ideal) x1 :=
  Pieces.slice_piece 192 _ _ _ 1 (Nat.lt_of_sub_eq_succ rfl) _ rfl rfl
theorem part_2 : val_main_v31 (F := Ideal) x0 x1 x2 x3 x4 x5 x6 x7 x8 = val_main_v14 (F := Ideal) x2 :=
  Pieces.slice_piece 320 _ _ _ 2 (Nat.lt_of_sub_eq_succ rfl) _ rfl rfl
theorem part_3 : val_main_v33 (F := Ideal) x0 x1 x2 x3 x4 x5 x6 x7 x8 = val_main_v15 (F := Ideal) x3 :=
  Pieces.slice_piece 448 _ _ _ 3 (Nat.lt_of_sub_eq_succ rfl) _ rfl rfl
theorem part_4 : val_main_v35 (F := Ideal) x0 x1 x2 x3 x4 x5 x6 x7 x8 = val_main_v16 (F := Ideal) x4 :=
  Pieces.slice_piece 576 _ _ _ 4 (Nat.lt_of_sub_eq_succ rfl) _ rfl rfl
theorem part_5 : val_main_v37 (F := Ideal) x0 x1 x2 x3 x4 x5 x6 x7 x8 = val_main_v17 (F := Ideal) x5 :=
  Pieces.slice_piece 704 _ _ _ 5 (Nat.lt_of_sub_eq_succ rfl) _ rfl rfl
theorem part_6 : val_main_v39 (F := Ideal) x0 x1 x2 x3 x4 x5 x6 x7 x8 = val_main_v19 (F := Ideal) x6 :=
  Pieces.slice_piece 832 _ _ _ 6 (Nat.lt_of_sub_eq_succ rfl) _ rfl rfl
theorem part_7 : val_main_v41 (F := Ideal) x0 x1 x2 x3 x4 x5 x6 x7 x8 = val_main_v21 (F := Ideal) x7 :=
  Pieces.slice_piece 1184 _ _ _ 7 (Nat.lt_of_sub_eq_succ rfl) _ rfl rfl
theorem part_8 : val_main_v43 (F := Ideal) x0 x1 x2 x3 x4 x5 x6 x7 x8 = val_main_v22 (F := Ideal) x8 :=
  Pieces.slice_piece 1536 _ _ _ 8 (Nat.lt_of_sub_eq_succ rfl) _ rfl rfl

/-- The branch matrices: each part's lanes go back between the other devices' lanes. -/
theorem branch : val_main_v28 (F := Ideal) x0 x1 x2 x3 x4 x5 x6 x7 x8 = truncf .bf16 x0 Reference22Ideal.Facts₀.bitsLt_bf16_f32 := by
  unfold val_main_v28 val_main_v27 val_main_v26
  rw [part_0]
  unfold val_main_v23
  rw [shapeCast_shapeCast]
  funext i
  idx_vars i
  pointwise [val_main_v12, val_main_v1, val_main_v0]

theorem whole_1 : val_main_v30 (F := Ideal) x0 x1 x2 x3 x4 x5 x6 x7 x8 = truncf .bf16 x1 Reference22Ideal.Facts₀.bitsLt_bf16_f32 := by
  unfold val_main_v30
  rw [part_1]
  exact shapeCast_shapeCast x1 _ _
theorem whole_2 : val_main_v32 (F := Ideal) x0 x1 x2 x3 x4 x5 x6 x7 x8 = truncf .bf16 x2 Reference22Ideal.Facts₀.bitsLt_bf16_f32 := by
  unfold val_main_v32
  rw [part_2]
  exact shapeCast_shapeCast x2 _ _
theorem whole_3 : val_main_v34 (F := Ideal) x0 x1 x2 x3 x4 x5 x6 x7 x8 = truncf .bf16 x3 Reference22Ideal.Facts₀.bitsLt_bf16_f32 := by
  unfold val_main_v34
  rw [part_3]
  exact shapeCast_shapeCast x3 _ _
theorem whole_4 : val_main_v36 (F := Ideal) x0 x1 x2 x3 x4 x5 x6 x7 x8 = truncf .bf16 x4 Reference22Ideal.Facts₀.bitsLt_bf16_f32 := by
  unfold val_main_v36
  rw [part_4]
  exact shapeCast_shapeCast x4 _ _
theorem whole_5 : val_main_v38 (F := Ideal) x0 x1 x2 x3 x4 x5 x6 x7 x8 = truncf .bf16 x5 Reference22Ideal.Facts₀.bitsLt_bf16_f32 := by
  unfold val_main_v38
  rw [part_5]
  exact shapeCast_shapeCast x5 _ _
theorem whole_8 : val_main_v44 (F := Ideal) x0 x1 x2 x3 x4 x5 x6 x7 x8 = truncf .bf16 x8 Reference22Ideal.Facts₀.bitsLt_bf16_f32 := by
  unfold val_main_v44
  rw [part_8]
  exact shapeCast_shapeCast x8 _ _
theorem turned_6 : val_main_v40 (F := Ideal) x0 x1 x2 x3 x4 x5 x6 x7 x8 = truncf .bf16 (transpose S2816x1024 [1, 0] x6 Reference22Ideal.Facts₀.transposes_S1024x2816_S2816x1024_1_0) Reference22Ideal.Facts₀.bitsLt_bf16_f32 := by
  unfold val_main_v40
  rw [part_6]
  funext i
  idx_vars i
  pointwise [val_main_v19, val_main_v18, val_main_v8, val_main_v7]
theorem turned_7 : val_main_v42 (F := Ideal) x0 x1 x2 x3 x4 x5 x6 x7 x8 = truncf .bf16 (transpose S2816x1024 [1, 0] x7 Reference22Ideal.Facts₀.transposes_S1024x2816_S2816x1024_1_0) Reference22Ideal.Facts₀.bitsLt_bf16_f32 := by
  unfold val_main_v42
  rw [part_7]
  funext i
  idx_vars i
  pointwise [val_main_v21, val_main_v20, val_main_v10, val_main_v9]

theorem frame_kernel : quiescent_Kernel22 := fun m g _ =>
  (θ_run Kernel22.defs _ _).mono (fun r h => ⟨fun c => (h c).2.2.2.2.2.2.2.2.2, sem_eq_zero_of_no_sems (by decide) r.2⟩)
    (Kernel22.Value.run (F := Bits) m g)

theorem frame_ideal : quiescent_Kernel22Ideal := fun m g _ =>
  (θ_run Kernel22Ideal.defs _ _).mono (fun r h => ⟨fun c => (h c).2.2.2.2.2.2.2.2.2, sem_eq_zero_of_no_sems (by decide) r.2⟩)
    (Kernel22Ideal.Value.run (F := Ideal) m g)

theorem frame_reference : quiescent_Reference22Ideal := fun m g _ =>
  (θ_run Reference22Ideal.defs _ _).mono (fun r h => ⟨fun c => (h c).2.2.2.2.2.2.2.2.2, sem_eq_zero_of_no_sems (by decide) r.2⟩)
    (Reference22Ideal.Value.run (F := Ideal) m g)

theorem algebraic : algebraic_Kernel22Ideal_Reference22Ideal := by
  pair_intro
  · run_from Kernel22Ideal.Value.run (F := Ideal) m g
  · run_from Reference22Ideal.Value.run (F := Ideal) m' g'
    · exact ((val_main_v28_eq ..).trans (branch ..)).symm
    · exact ((val_main_v30_eq ..).trans (whole_1 ..)).symm
    · exact ((val_main_v32_eq ..).trans (whole_2 ..)).symm
    · exact ((val_main_v34_eq ..).trans (whole_3 ..)).symm
    · exact ((val_main_v36_eq ..).trans (whole_4 ..)).symm
    · exact ((val_main_v38_eq ..).trans (whole_5 ..)).symm
    · exact ((val_main_v40_eq ..).trans (turned_6 ..)).symm
    · exact ((val_main_v42_eq ..).trans (turned_7 ..)).symm
    · exact ((val_main_v44_eq ..).trans (whole_8 ..)).symm

end Cert.PackWeights

end
-- ==== Proof.PackGrads.lean ====
/-  The packing of a layer's nine gradients for the exchange (`_pack_full`: for each of the eight devices one flat array, padded with zero
    rows to a multiple of 128) and its reading back on each device (`_unpack_shard`): device d reads its eighth of each gradient, for the
    feed-forward's gate and up in the weights' own orientation. -/
module

public import proofs.«01_k».proof.Defs
public import proofs.«01_k».proof.Proof.Gen.Kernel23.Run
public import proofs.«01_k».proof.Proof.Gen.Kernel23Ideal.Run
public import proofs.«01_k».proof.Proof.Gen.Kernel23Ideal.Read
public import proofs.«01_k».proof.Proof.Gen.Reference23Ideal.Run
public import proofs.«01_k».proof.Proof.Gen.Reference23Ideal.Read
public import proofs.«01_k».proof.Proof.Pieces
public import Idealize.ShloMosaic.Lib.Pipeline.ValueKit
public import Idealize.ShloMosaic.Lib.Claim

@[expose] public section

set_option maxRecDepth 16384

noncomputable section

namespace Cert.PackGrads

open Cert.Kernel23Ideal Cert.Kernel23Ideal.Gen Cert.Kernel23Ideal.Read Idealize.ShloMosaic Idealize.ShloMosaic.TcCoe Idealize.SL.Sem

variable (x0 : FVec Ideal S3x512x1024 .bf16) (x1 x2 x3 x4 x5 : FVec Ideal S1024x1024 .bf16) (x6 x7 x8 : FVec Ideal S2816x1024 .bf16)

theorem part_0 : val_main_v13 (F := Ideal) x0 x1 x2 x3 x4 x5 x6 x7 x8 = val_main_v2 (F := Ideal) x0 :=
  Pieces.slice_piece 0 _ _ _ 0 (Nat.lt_of_sub_eq_succ rfl) _ rfl rfl
theorem part_1 : val_main_v15 (F := Ideal) x0 x1 x2 x3 x4 x5 x6 x7 x8 = Reference23Ideal.Read.val_main_v4 (F := Ideal) x1 :=
  Pieces.slice_piece 192 _ _ _ 1 (Nat.lt_of_sub_eq_succ rfl) _ rfl rfl
theorem part_2 : val_main_v16 (F := Ideal) x0 x1 x2 x3 x4 x5 x6 x7 x8 = Reference23Ideal.Read.val_main_v5 (F := Ideal) x2 :=
  Pieces.slice_piece 320 _ _ _ 2 (Nat.lt_of_sub_eq_succ rfl) _ rfl rfl
theorem part_3 : val_main_v17 (F := Ideal) x0 x1 x2 x3 x4 x5 x6 x7 x8 = Reference23Ideal.Read.val_main_v6 (F := Ideal) x3 :=
  Pieces.slice_piece 448 _ _ _ 3 (Nat.lt_of_sub_eq_succ rfl) _ rfl rfl
theorem part_4 : val_main_v18 (F := Ideal) x0 x1 x2 x3 x4 x5 x6 x7 x8 = Reference23Ideal.Read.val_main_v7 (F := Ideal) x4 :=
  Pieces.slice_piece 576 _ _ _ 4 (Nat.lt_of_sub_eq_succ rfl) _ rfl rfl
theorem part_5 : val_main_v19 (F := Ideal) x0 x1 x2 x3 x4 x5 x6 x7 x8 = Reference23Ideal.Read.val_main_v8 (F := Ideal) x5 :=
  Pieces.slice_piece 704 _ _ _ 5 (Nat.lt_of_sub_eq_succ rfl) _ rfl rfl
theorem part_6 : val_main_v20 (F := Ideal) x0 x1 x2 x3 x4 x5 x6 x7 x8 = val_main_v8 (F := Ideal) x6 :=
  Pieces.slice_piece 832 _ _ _ 6 (Nat.lt_of_sub_eq_succ rfl) _ rfl rfl
theorem part_7 : val_main_v21 (F := Ideal) x0 x1 x2 x3 x4 x5 x6 x7 x8 = val_main_v9 (F := Ideal) x7 :=
  Pieces.slice_piece 1184 _ _ _ 7 (Nat.lt_of_sub_eq_succ rfl) _ rfl rfl
theorem part_8 : val_main_v22 (F := Ideal) x0 x1 x2 x3 x4 x5 x6 x7 x8 = Reference23Ideal.Read.val_main_v13 (F := Ideal) x8 :=
  Pieces.slice_piece 1536 _ _ _ 8 (Nat.lt_of_sub_eq_succ rfl) _ rfl rfl

/-- The branch matrices' part is read back as it was cut. -/
theorem branch : val_main_v14 (F := Ideal) x0 x1 x2 x3 x4 x5 x6 x7 x8 = Reference23Ideal.Read.val_main_v3 (F := Ideal) x0 := by
  unfold val_main_v14
  rw [part_0]
  exact shapeCast_shapeCast _ _ _

theorem turned_6 : val_main_v23 (F := Ideal) x0 x1 x2 x3 x4 x5 x6 x7 x8 = Reference23Ideal.Read.val_main_v10 (F := Ideal) x6 := by
  unfold val_main_v23
  rw [part_6]
  funext i
  idx_vars i
  pointwise [val_main_v8, Reference23Ideal.Read.val_main_v10, Reference23Ideal.Read.val_main_v9, Reference23Ideal.Read.val_main_v0]
theorem turned_7 : val_main_v24 (F := Ideal) x0 x1 x2 x3 x4 x5 x6 x7 x8 = Reference23Ideal.Read.val_main_v12 (F := Ideal) x7 := by
  unfold val_main_v24
  rw [part_7]
  funext i
  idx_vars i
  pointwise [val_main_v9, Reference23Ideal.Read.val_main_v12, Reference23Ideal.Read.val_main_v11, Reference23Ideal.Read.val_main_v1]

theorem frame_kernel : quiescent_Kernel23 := fun m g _ =>
  (θ_run Kernel23.defs _ _).mono (fun r h => ⟨fun c => (h c).2.2.2.2.2.2.2.2.2, sem_eq_zero_of_no_sems (by decide) r.2⟩)
    (Kernel23.Value.run (F := Bits) m g)

theorem frame_ideal : quiescent_Kernel23Ideal := fun m g _ =>
  (θ_run Kernel23Ideal.defs _ _).mono (fun r h => ⟨fun c => (h c).2.2.2.2.2.2.2.2.2, sem_eq_zero_of_no_sems (by decide) r.2⟩)
    (Kernel23Ideal.Value.run (F := Ideal) m g)

theorem frame_reference : quiescent_Reference23Ideal := fun m g _ =>
  (θ_run Reference23Ideal.defs _ _).mono (fun r h => ⟨fun c => (h c).2.2.2.2.2.2.2.2.2, sem_eq_zero_of_no_sems (by decide) r.2⟩)
    (Reference23Ideal.Value.run (F := Ideal) m g)

theorem algebraic : algebraic_Kernel23Ideal_Reference23Ideal := by
  pair_intro
  · run_from Kernel23Ideal.Value.run (F := Ideal) m g
  · run_from Reference23Ideal.Value.run (F := Ideal) m' g'
    · exact ((val_main_v14_eq ..).trans (branch ..)).symm
    · exact ((val_main_v15_eq ..).trans (part_1 ..)).symm
    · exact ((val_main_v16_eq ..).trans (part_2 ..)).symm
    · exact ((val_main_v17_eq ..).trans (part_3 ..)).symm
    · exact ((val_main_v18_eq ..).trans (part_4 ..)).symm
    · exact ((val_main_v19_eq ..).trans (part_5 ..)).symm
    · exact ((val_main_v23_eq ..).trans (turned_6 ..)).symm
    · exact ((val_main_v24_eq ..).trans (turned_7 ..)).symm
    · exact ((val_main_v22_eq ..).trans (part_8 ..)).symm

end Cert.PackGrads

end
-- ==== Proof.PackSmall.lean ====
/-  The small gradients packed into one flat array on each device (`_pack_small`), the eight arrays added, and the sum read back
    (`_unpack_small`): what is read back is the sum of each gradient over the devices. -/
module

public import proofs.«01_k».proof.Defs
public import proofs.«01_k».proof.Proof.Gen.Kernel24.Run
public import proofs.«01_k».proof.Proof.Gen.Kernel24Ideal.Run
public import proofs.«01_k».proof.Proof.Gen.Kernel24Ideal.Read
public import proofs.«01_k».proof.Proof.Gen.Reference24Ideal.Run
public import proofs.«01_k».proof.Proof.Gen.Reference24Ideal.Read
public import Idealize.ShloMosaic.Lib.Pipeline.ValueKit
public import Idealize.ShloMosaic.Lib.Claim

@[expose] public section

set_option maxRecDepth 16384

noncomputable section

namespace Cert.PackSmall

open Cert.Kernel24Ideal Cert.Kernel24Ideal.Gen Cert.Kernel24Ideal.Read Idealize.ShloMosaic Idealize.ShloMosaic.TcCoe Idealize.SL.Sem

variable (x0 : FVec Ideal S8x2x1024 .f32) (x1 x2 : FVec Ideal S8x2x512 .f32) (x3 : FVec Ideal S8x2x4x128x128 .f32) (x4 : FVec Ideal S8x2x4x128 .f32) (x5 : FVec Ideal S8x2x3x512 .f32) (x6 x7 x8 : FVec Ideal S8x2x1024 .f32) (x9 : FVec Ideal S8x1024 .f32)

/-- The sum over the devices of the flat arrays, at an entry before the padding. -/
theorem total (j : Fin 147456) (h : j.val < 146432) : val_main_v13 (F := Ideal) x0 x1 x2 x3 x4 x5 x6 x7 x8 x9 (ix1 j) = ∑ d : Fin 8, val_main_v9 (F := Ideal) x0 x1 x2 x3 x4 x5 x6 x7 x8 x9 (ix2 d ⟨j.val, h⟩) := by
  unfold val_main_v13 val_main_v12 val_main_v11 val_main_v10
  generalize val_main_v9 (F := Ideal) x0 x1 x2 x3 x4 x5 x6 x7 x8 x9 = v
  pointwise [val_main_call0_v0, val_main_c, val_main_cst]
  exact Finset.sum_congr rfl fun d _ => dif_pos h

/-- The entries of one gradient in that sum. -/
theorem part {n : Nat} (o k : Nat) (xs : List ((s : Shape) × (s.Idx → EReal))) (h : Shape.Concatenates (xs.map (·.1)) S8x146432 1)
    (hv : val_main_v9 (F := Ideal) x0 x1 x2 x3 x4 x5 x6 x7 x8 x9 = concatenate S8x146432 1 xs h) (ho : o + n ≤ 146432) (hs : S147456.Slices ![o] (⟨1, ![n]⟩ : Shape))
    (hk : k < xs.length) (x : (⟨2, ![8, n]⟩ : Shape).Idx → EReal) (hx : xs[k] = ⟨(⟨2, ![8, n]⟩ : Shape), x⟩)
    (hpre : (((xs.take k).map (·.1)).map fun s => if h : s.rank = 2 then s.size ((1 : Fin 2).cast h.symm) else 0).sum = o) (j : Fin n) :
    extractStridedSlice (⟨1, ![n]⟩ : Shape) ![o] (val_main_v13 (F := Ideal) x0 x1 x2 x3 x4 x5 x6 x7 x8 x9) hs (ix1 j) = ∑ d : Fin 8, x (ix2 d j) := by
  have e : extractStridedSlice (⟨1, ![n]⟩ : Shape) ![o] (val_main_v13 (F := Ideal) x0 x1 x2 x3 x4 x5 x6 x7 x8 x9) hs (ix1 j) = val_main_v13 (F := Ideal) x0 x1 x2 x3 x4 x5 x6 x7 x8 x9 (ix1 ⟨o + j.val, by omega⟩) :=
    extractStridedSlice_apply _ _ hs _ _ (fun a => by fin_cases a; rfl)
  rw [e, total x0 x1 x2 x3 x4 x5 x6 x7 x8 x9 _ (by dsimp only; omega), hv]
  refine Finset.sum_congr rfl fun d _ => concatenate_apply_piece 1 xs h _ k hk _ x hx rfl o hpre (ix2 d j) (fun b hb => ?_) rfl
  match b with
  | ⟨0, _⟩ => rfl
  | ⟨1, _⟩ => exact absurd rfl hb

/-- Every gradient's sum is read back. -/
theorem whole :
    val_main_v15 (F := Ideal) x0 x1 x2 x3 x4 x5 x6 x7 x8 x9 = Reference24Ideal.Read.val_main_v0 x0
    ∧ val_main_v17 (F := Ideal) x0 x1 x2 x3 x4 x5 x6 x7 x8 x9 = Reference24Ideal.Read.val_main_v1 x1
    ∧ val_main_v19 (F := Ideal) x0 x1 x2 x3 x4 x5 x6 x7 x8 x9 = Reference24Ideal.Read.val_main_v2 x2
    ∧ val_main_v21 (F := Ideal) x0 x1 x2 x3 x4 x5 x6 x7 x8 x9 = Reference24Ideal.Read.val_main_v3 x3
    ∧ val_main_v23 (F := Ideal) x0 x1 x2 x3 x4 x5 x6 x7 x8 x9 = Reference24Ideal.Read.val_main_v4 x4
    ∧ val_main_v25 (F := Ideal) x0 x1 x2 x3 x4 x5 x6 x7 x8 x9 = Reference24Ideal.Read.val_main_v5 x5
    ∧ val_main_v27 (F := Ideal) x0 x1 x2 x3 x4 x5 x6 x7 x8 x9 = Reference24Ideal.Read.val_main_v6 x6
    ∧ val_main_v29 (F := Ideal) x0 x1 x2 x3 x4 x5 x6 x7 x8 x9 = Reference24Ideal.Read.val_main_v7 x7
    ∧ val_main_v31 (F := Ideal) x0 x1 x2 x3 x4 x5 x6 x7 x8 x9 = Reference24Ideal.Read.val_main_v8 x8
    ∧ val_main_v32 (F := Ideal) x0 x1 x2 x3 x4 x5 x6 x7 x8 x9 = Reference24Ideal.Read.val_main_v9 x9 := by
  have p := @part x0 x1 x2 x3 x4 x5 x6 x7 x8 x9
  refine ⟨?_, ?_, ?_, ?_, ?_, ?_, ?_, ?_, ?_, ?_⟩ <;> funext i <;> idx_vars i
  · pointwise [val_main_v15, val_main_v14, p 0 0 _ _ rfl (by decide) (by decide) (Nat.lt_of_sub_eq_succ rfl) _ rfl (by simp), val_main_v0, Reference24Ideal.Read.val_main_v0, Reference24Ideal.Read.val_main_cst]
  · pointwise [val_main_v17, val_main_v16, p 2048 1 _ _ rfl (by decide) (by decide) (Nat.lt_of_sub_eq_succ rfl) _ rfl (by simp), val_main_v1, Reference24Ideal.Read.val_main_v1, Reference24Ideal.Read.val_main_cst_0]
  · pointwise [val_main_v19, val_main_v18, p 3072 2 _ _ rfl (by decide) (by decide) (Nat.lt_of_sub_eq_succ rfl) _ rfl (by simp), val_main_v2, Reference24Ideal.Read.val_main_v2, Reference24Ideal.Read.val_main_cst_1]
  · pointwise [val_main_v21, val_main_v20, p 4096 3 _ _ rfl (by decide) (by decide) (Nat.lt_of_sub_eq_succ rfl) _ rfl (by simp), val_main_v3, Reference24Ideal.Read.val_main_v3, Reference24Ideal.Read.val_main_cst_2]
  · pointwise [val_main_v23, val_main_v22, p 135168 4 _ _ rfl (by decide) (by decide) (Nat.lt_of_sub_eq_succ rfl) _ rfl (by simp), val_main_v4, Reference24Ideal.Read.val_main_v4, Reference24Ideal.Read.val_main_cst_3]
  · pointwise [val_main_v25, val_main_v24, p 136192 5 _ _ rfl (by decide) (by decide) (Nat.lt_of_sub_eq_succ rfl) _ rfl (by simp), val_main_v5, Reference24Ideal.Read.val_main_v5, Reference24Ideal.Read.val_main_cst_4]
  · pointwise [val_main_v27, val_main_v26, p 139264 6 _ _ rfl (by decide) (by decide) (Nat.lt_of_sub_eq_succ rfl) _ rfl (by simp), val_main_v6, Reference24Ideal.Read.val_main_v6, Reference24Ideal.Read.val_main_cst_5]
  · pointwise [val_main_v29, val_main_v28, p 141312 7 _ _ rfl (by decide) (by decide) (Nat.lt_of_sub_eq_succ rfl) _ rfl (by simp), val_main_v7, Reference24Ideal.Read.val_main_v7, Reference24Ideal.Read.val_main_cst_6]
  · pointwise [val_main_v31, val_main_v30, p 143360 8 _ _ rfl (by decide) (by decide) (Nat.lt_of_sub_eq_succ rfl) _ rfl (by simp), val_main_v8, Reference24Ideal.Read.val_main_v8, Reference24Ideal.Read.val_main_cst_7]
  · pointwise [val_main_v32, val_main_v32, p 145408 9 _ _ rfl (by decide) (by decide) (Nat.lt_of_sub_eq_succ rfl) x9 rfl (by simp), Reference24Ideal.Read.val_main_v9, Reference24Ideal.Read.val_main_cst_8]

theorem frame_kernel : quiescent_Kernel24 := fun m g _ =>
  (θ_run Kernel24.defs _ _).mono (fun r h => ⟨fun c => (h c).2.2.2.2.2.2.2.2.2.2, sem_eq_zero_of_no_sems (by decide) r.2⟩)
    (Kernel24.Value.run (F := Bits) m g)

theorem frame_ideal : quiescent_Kernel24Ideal := fun m g _ =>
  (θ_run Kernel24Ideal.defs _ _).mono (fun r h => ⟨fun c => (h c).2.2.2.2.2.2.2.2.2.2, sem_eq_zero_of_no_sems (by decide) r.2⟩)
    (Kernel24Ideal.Value.run (F := Ideal) m g)

theorem frame_reference : quiescent_Reference24Ideal := fun m g _ =>
  (θ_run Reference24Ideal.defs _ _).mono (fun r h => ⟨fun c => (h c).2.2.2.2.2.2.2.2.2.2, sem_eq_zero_of_no_sems (by decide) r.2⟩)
    (Reference24Ideal.Value.run (F := Ideal) m g)

theorem algebraic : algebraic_Kernel24Ideal_Reference24Ideal := by
  intro m g m' g' _ hagree
  refine ⟨_, _, _, _, _, _, _, _, _, _, Kernel24Ideal.Value.run (F := Ideal) m g, (θ_run Reference24Ideal.defs _ _).mono (fun r h c => ?_) (Reference24Ideal.Value.run (F := Ideal) m' g')⟩
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2⟩
  · rw [(hagree c).1]
    exact ((val_main_v15_eq ..).trans (whole ..).1).symm
  · rw [(hagree c).2.1]
    exact ((val_main_v17_eq ..).trans (whole ..).2.1).symm
  · rw [(hagree c).2.2.1]
    exact ((val_main_v19_eq ..).trans (whole ..).2.2.1).symm
  · rw [(hagree c).2.2.2.1]
    exact ((val_main_v21_eq ..).trans (whole ..).2.2.2.1).symm
  · rw [(hagree c).2.2.2.2.1]
    exact ((val_main_v23_eq ..).trans (whole ..).2.2.2.2.1).symm
  · rw [(hagree c).2.2.2.2.2.1]
    exact ((val_main_v25_eq ..).trans (whole ..).2.2.2.2.2.1).symm
  · rw [(hagree c).2.2.2.2.2.2.1]
    exact ((val_main_v27_eq ..).trans (whole ..).2.2.2.2.2.2.1).symm
  · rw [(hagree c).2.2.2.2.2.2.2.1]
    exact ((val_main_v29_eq ..).trans (whole ..).2.2.2.2.2.2.2.1).symm
  · rw [(hagree c).2.2.2.2.2.2.2.2.1]
    exact ((val_main_v31_eq ..).trans (whole ..).2.2.2.2.2.2.2.2.1).symm
  · rw [(hagree c).2.2.2.2.2.2.2.2.2]
    exact ((val_main_v32_eq ..).trans (whole ..).2.2.2.2.2.2.2.2.2).symm

end Cert.PackSmall

end
-- ==== Proof.lean ====
/-  The proof of `Cert.Claim`: the programs' stated facts, then per pair the frames of the kernel, of its idealization and
    of the reference; then per pair that the idealization preserves the kernel, and the equation of the programs' results. -/
module

public import proofs.«01_k».proof.Defs
public import proofs.«01_k».proof.Proof.Gen.Kernel1.Frame
public import proofs.«01_k».proof.Proof.Gen.Kernel1Ideal.Value
public import proofs.«01_k».proof.Proof.Gen.Reference1Ideal.Run
public import proofs.«01_k».proof.Proof.Gen.Reference1Ideal.Read
public import proofs.«01_k».proof.Proof.RmsBwd
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Pre_finite_sb
public import proofs.«01_k».proof.Proof.SbBwd
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.FinalLoss
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.XaQ
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.FfnUp
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.InProj
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Pre_finite_ffn
public import proofs.«01_k».proof.Proof.FfnBwd
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.MergeBwd
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.ConvBwd
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Pre_finite_xa
public import proofs.«01_k».proof.Proof.XaBwd
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Pre_finite_sgu
public import proofs.«01_k».proof.Proof.SguBwd
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Pre_finite_qk
public import proofs.«01_k».proof.Proof.SbFwd
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.XaFwd
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.SguFwd
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.ConvFwd
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.MergeFwd
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.FfnIn
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.RmsFwd
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.InProjDw
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.SumDevices
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.AdamW
public import proofs.«01_k».proof.Proof.Gen.Kernel22.Run
public import proofs.«01_k».proof.Proof.Gen.Kernel22Ideal.Run
public import proofs.«01_k».proof.Proof.Gen.Kernel22Ideal.Read
public import proofs.«01_k».proof.Proof.Gen.Reference22Ideal.Run
public import proofs.«01_k».proof.Proof.Gen.Reference22Ideal.Read
public import proofs.«01_k».proof.Proof.PackWeights
public import proofs.«01_k».proof.Proof.Gen.Kernel23.Run
public import proofs.«01_k».proof.Proof.Gen.Kernel23Ideal.Run
public import proofs.«01_k».proof.Proof.Gen.Kernel23Ideal.Read
public import proofs.«01_k».proof.Proof.Gen.Reference23Ideal.Run
public import proofs.«01_k».proof.Proof.Gen.Reference23Ideal.Read
public import proofs.«01_k».proof.Proof.PackGrads
public import proofs.«01_k».proof.Proof.Gen.Kernel24.Run
public import proofs.«01_k».proof.Proof.Gen.Kernel24Ideal.Run
public import proofs.«01_k».proof.Proof.Gen.Kernel24Ideal.Read
public import proofs.«01_k».proof.Proof.Gen.Reference24Ideal.Run
public import proofs.«01_k».proof.Proof.Gen.Reference24Ideal.Read
public import proofs.«01_k».proof.Proof.PackSmall
public import Idealize.ShloMosaic.Adequacy
public import Idealize.ShloMosaic.Init

@[expose] public section

noncomputable section

namespace Cert.Proof

open Idealize.ShloMosaic Idealize.SL.Sem

theorem claim : Cert.Claim :=
  ⟨Cert.Kernel1.Gen.facts,
   Cert.Kernel1Ideal.Gen.facts,
   Cert.Reference1Ideal.Gen.facts,
   Cert.Kernel2.Gen.facts,
   Cert.Kernel2Ideal.Gen.facts,
   Cert.Reference2Ideal.Gen.facts,
   Cert.Kernel8.Gen.facts,
   Cert.Kernel8Ideal.Gen.facts,
   Cert.Reference8Ideal.Gen.facts,
   Cert.Kernel9.Gen.facts,
   Cert.Kernel9Ideal.Gen.facts,
   Cert.Reference9Ideal.Gen.facts,
   Cert.Kernel10.Gen.facts,
   Cert.Kernel10Ideal.Gen.facts,
   Cert.Reference10Ideal.Gen.facts,
   Cert.Kernel11.Gen.facts,
   Cert.Kernel11Ideal.Gen.facts,
   Cert.Reference11Ideal.Gen.facts,
   Cert.Kernel7.Gen.facts,
   Cert.Kernel7Ideal.Gen.facts,
   Cert.Reference7Ideal.Gen.facts,
   Cert.Kernel5.Gen.facts,
   Cert.Kernel5Ideal.Gen.facts,
   Cert.Reference5Ideal.Gen.facts,
   Cert.Kernel4.Gen.facts,
   Cert.Kernel4Ideal.Gen.facts,
   Cert.Reference4Ideal.Gen.facts,
   Cert.Kernel6.Gen.facts,
   Cert.Kernel6Ideal.Gen.facts,
   Cert.Reference6Ideal.Gen.facts,
   Cert.Kernel3.Gen.facts,
   Cert.Kernel3Ideal.Gen.facts,
   Cert.Reference3Ideal.Gen.facts,
   Cert.Kernel12.Gen.facts,
   Cert.Kernel12Ideal.Gen.facts,
   Cert.Reference12Ideal.Gen.facts,
   Cert.Kernel14.Gen.facts,
   Cert.Kernel14Ideal.Gen.facts,
   Cert.Reference14Ideal.Gen.facts,
   Cert.Kernel16.Gen.facts,
   Cert.Kernel16Ideal.Gen.facts,
   Cert.Reference16Ideal.Gen.facts,
   Cert.Kernel17.Gen.facts,
   Cert.Kernel17Ideal.Gen.facts,
   Cert.Reference17Ideal.Gen.facts,
   Cert.Kernel15.Gen.facts,
   Cert.Kernel15Ideal.Gen.facts,
   Cert.Reference15Ideal.Gen.facts,
   Cert.Kernel13.Gen.facts,
   Cert.Kernel13Ideal.Gen.facts,
   Cert.Reference13Ideal.Gen.facts,
   Cert.Kernel18.Gen.facts,
   Cert.Kernel18Ideal.Gen.facts,
   Cert.Reference18Ideal.Gen.facts,
   Cert.Kernel19.Gen.facts,
   Cert.Kernel19Ideal.Gen.facts,
   Cert.Reference19Ideal.Gen.facts,
   Cert.Kernel20.Gen.facts,
   Cert.Kernel20Ideal.Gen.facts,
   Cert.Reference20Ideal.Gen.facts,
   Cert.Kernel21.Gen.facts,
   Cert.Kernel21Ideal.Gen.facts,
   Cert.Reference21Ideal.Gen.facts,
   Cert.Kernel22.Gen.facts,
   Cert.Kernel22Ideal.Gen.facts,
   Cert.Reference22Ideal.Gen.facts,
   Cert.Kernel23.Gen.facts,
   Cert.Kernel23Ideal.Gen.facts,
   Cert.Reference23Ideal.Gen.facts,
   Cert.Kernel24.Gen.facts,
   Cert.Kernel24Ideal.Gen.facts,
   Cert.Reference24Ideal.Gen.facts,
   Cert.Pre_finite_sb.Gen.facts,
   Cert.Pre_finite_ffn.Gen.facts,
   Cert.Pre_finite_xa.Gen.facts,
   Cert.Pre_finite_sgu.Gen.facts,
   Cert.Pre_finite_qk.Gen.facts,
   fun m g _ => Cert.Kernel1.Gen.frame m g, fun m g _ => Cert.Kernel1Ideal.Gen.frame m g,
   Cert.RmsBwd.frame_reference,
   fun m g _ => Cert.Kernel2.Gen.frame m g, fun m g _ => Cert.Kernel2Ideal.Gen.frame m g, fun m g _ => Cert.Kernel2Ideal.Gen.frame m g,
   Cert.SbBwd.frame_reference, fun m g _ => Cert.SbBwd.frame_reference m g trivial,
   fun m g _ => Cert.Kernel8.Gen.frame m g, fun m g _ => Cert.Kernel8Ideal.Gen.frame m g,
   Cert.FinalLoss.frame_reference,
   fun m g _ => Cert.Kernel9.Gen.frame m g, fun m g _ => Cert.Kernel9Ideal.Gen.frame m g,
   Cert.XaQ.frame_reference,
   fun m g _ => Cert.Kernel10.Gen.frame m g, fun m g _ => Cert.Kernel10Ideal.Gen.frame m g,
   Cert.FfnUp.frame_reference,
   fun m g _ => Cert.Kernel11.Gen.frame m g, fun m g _ => Cert.Kernel11Ideal.Gen.frame m g,
   Cert.InProj.frame_reference,
   fun m g _ => Cert.Kernel7.Gen.frame m g, fun m g _ => Cert.Kernel7Ideal.Gen.frame m g, fun m g _ => Cert.Kernel7Ideal.Gen.frame m g,
   Cert.FfnBwd.frame_reference, fun m g _ => Cert.FfnBwd.frame_reference m g trivial,
   fun m g _ => Cert.Kernel5.Gen.frame m g, fun m g _ => Cert.Kernel5Ideal.Gen.frame m g,
   Cert.MergeBwd.frame_reference,
   fun m g _ => Cert.Kernel4.Gen.frame m g, fun m g _ => Cert.Kernel4Ideal.Gen.frame m g,
   Cert.ConvBwd.frame_reference,
   fun m g _ => Cert.Kernel6.Gen.frame m g, fun m g _ => Cert.Kernel6Ideal.Gen.frame m g, fun m g _ => Cert.Kernel6Ideal.Gen.frame m g,
   Cert.XaBwd.frame_reference, fun m g _ => Cert.XaBwd.frame_reference m g trivial,
   fun m g _ => Cert.Kernel3.Gen.frame m g, fun m g _ => Cert.Kernel3Ideal.Gen.frame m g, fun m g _ => Cert.Kernel3Ideal.Gen.frame m g,
   Cert.SguBwd.frame_reference, fun m g _ => Cert.SguBwd.frame_reference m g trivial,
   fun m g _ => Cert.Kernel12.Gen.frame m g, fun m g _ => Cert.Kernel12Ideal.Gen.frame m g, fun m g _ => Cert.Kernel12Ideal.Gen.frame m g,
   Cert.SbFwd.frame_reference, fun m g _ => Cert.SbFwd.frame_reference m g trivial,
   fun m g _ => Cert.Kernel14.Gen.frame m g, fun m g _ => Cert.Kernel14Ideal.Gen.frame m g,
   Cert.XaFwd.frame_reference,
   fun m g _ => Cert.Kernel16.Gen.frame m g, fun m g _ => Cert.Kernel16Ideal.Gen.frame m g,
   Cert.SguFwd.frame_reference,
   fun m g _ => Cert.Kernel17.Gen.frame m g, fun m g _ => Cert.Kernel17Ideal.Gen.frame m g,
   Cert.ConvFwd.frame_reference,
   fun m g _ => Cert.Kernel15.Gen.frame m g, fun m g _ => Cert.Kernel15Ideal.Gen.frame m g,
   Cert.MergeFwd.frame_reference,
   fun m g _ => Cert.Kernel13.Gen.frame m g, fun m g _ => Cert.Kernel13Ideal.Gen.frame m g,
   Cert.FfnIn.frame_reference,
   fun m g _ => Cert.Kernel18.Gen.frame m g, fun m g _ => Cert.Kernel18Ideal.Gen.frame m g,
   Cert.RmsFwd.frame_reference,
   fun m g _ => Cert.Kernel19.Gen.frame m g, fun m g _ => Cert.Kernel19Ideal.Gen.frame m g,
   Cert.InProjDw.frame_reference,
   fun m g _ => Cert.Kernel20.Gen.frame m g, fun m g _ => Cert.Kernel20Ideal.Gen.frame m g,
   Cert.SumDevices.frame_reference,
   fun m g _ => Cert.Kernel21.Gen.frame m g, fun m g _ => Cert.Kernel21Ideal.Gen.frame m g,
   Cert.AdamW.frame_reference,
   Cert.PackWeights.frame_kernel, Cert.PackWeights.frame_ideal,
   Cert.PackWeights.frame_reference,
   Cert.PackGrads.frame_kernel, Cert.PackGrads.frame_ideal,
   Cert.PackGrads.frame_reference,
   Cert.PackSmall.frame_kernel, Cert.PackSmall.frame_ideal,
   Cert.PackSmall.frame_reference,
   trivial, Cert.RmsBwd.algebraic,
   trivial, Cert.SbBwd.algebraic,
   trivial, Cert.FinalLoss.algebraic,
   trivial, Cert.XaQ.algebraic,
   trivial, Cert.FfnUp.algebraic,
   trivial, Cert.InProj.algebraic,
   trivial, Cert.FfnBwd.algebraic,
   trivial, Cert.MergeBwd.algebraic,
   trivial, Cert.ConvBwd.algebraic,
   trivial, Cert.XaBwd.algebraic,
   ⟨IdealRules.named_const.statement Cert.Kernel3Ideal.κ "inv_sqrt2" .f32 0x3F3504F3#32 (((Real.sqrt 2)⁻¹ : ℝ) : EReal) rfl,
    IdealRules.named_const.statement Cert.Kernel3Ideal.κ "inv_sqrt2pi" .f32 0x3ECC422A#32 (((9465531 / 16777216) * (Real.sqrt 2)⁻¹ : ℝ) : EReal) rfl⟩, Cert.SguBwd.algebraic,
   trivial, Cert.SbFwd.algebraic,
   trivial, Cert.XaFwd.algebraic,
   IdealRules.named_const.statement Cert.Kernel16Ideal.κ "inv_sqrt2" .f32 0x3F3504F3#32 (((Real.sqrt 2)⁻¹ : ℝ) : EReal) rfl, Cert.SguFwd.algebraic,
   trivial, Cert.ConvFwd.algebraic,
   trivial, Cert.MergeFwd.algebraic,
   trivial, Cert.FfnIn.algebraic,
   trivial, Cert.RmsFwd.algebraic,
   trivial, Cert.InProjDw.algebraic,
   trivial, Cert.SumDevices.algebraic,
   trivial, Cert.AdamW.algebraic,
   trivial, Cert.PackWeights.algebraic,
   trivial, Cert.PackGrads.algebraic,
   trivial, Cert.PackSmall.algebraic⟩

end Cert.Proof

end
